-- ==== Defs.lean ====
def Pre_Kernel [hPre_tables : Cert.Pre_tables.Facts] (m : (ℓ : Loc Cert.Kernel.nD Cert.Kernel.τ Cert.Kernel.sig) → Buf (Elt Bits) ℓ) : Prop :=
  ∀ c : Dev Cert.Kernel.nD,
    (Cert.Pre_tables.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_tables : Cert.Pre_tables.Facts] (m : (ℓ : Loc Cert.KernelIdeal.nD Cert.KernelIdeal.τ Cert.KernelIdeal.sig) → Buf (Elt Ideal) ℓ) : Prop :=
  ∀ c : Dev Cert.KernelIdeal.nD,
    (Cert.Pre_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_tables : Cert.Pre_tables.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 [hPre_slots : Cert.Pre_slots.Facts] (m : (ℓ : Loc Cert.Kernel18.nD Cert.Kernel18.τ Cert.Kernel18.sig) → Buf (Elt Bits) ℓ) : Prop :=
  ∀ c : Dev Cert.Kernel18.nD,
    (Cert.Pre_slots.fn (F := Bits) (m ((c.tc : Thread Cert.Kernel18.nD Cert.Kernel18.τ).loc Cert.Kernel18.main_arg0)) (m ((c.tc : Thread Cert.Kernel18.nD Cert.Kernel18.τ).loc Cert.Kernel18.main_arg1)) (m ((c.tc : Thread Cert.Kernel18.nD Cert.Kernel18.τ).loc Cert.Kernel18.main_arg2)) (m ((c.tc : Thread Cert.Kernel18.nD Cert.Kernel18.τ).loc Cert.Kernel18.main_arg3)) (m ((c.tc : Thread Cert.Kernel18.nD Cert.Kernel18.τ).loc Cert.Kernel18.main_arg4)) (m ((c.tc : Thread Cert.Kernel18.nD Cert.Kernel18.τ).loc Cert.Kernel18.main_arg5)) (m ((c.tc : Thread Cert.Kernel18.nD Cert.Kernel18.τ).loc Cert.Kernel18.main_arg6))) = (fun _ => 1#1)

def Pre_Kernel18Ideal [hPre_slots : Cert.Pre_slots.Facts] (m : (ℓ : Loc Cert.Kernel18Ideal.nD Cert.Kernel18Ideal.τ Cert.Kernel18Ideal.sig) → Buf (Elt Ideal) ℓ) : Prop :=
  ∀ c : Dev Cert.Kernel18Ideal.nD,
    (Cert.Pre_slots.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg4)) (m ((c.tc : Thread Cert.Kernel18Ideal.nD Cert.Kernel18Ideal.τ).loc Cert.Kernel18Ideal.main_arg5)) (m ((c.tc : Thread Cert.Kernel18Ideal.nD Cert.Kernel18Ideal.τ).loc Cert.Kernel18Ideal.main_arg6))) = (fun _ => 1#1)

def Pre_Reference18Ideal [hPre_slots : Cert.Pre_slots.Facts] (m : (ℓ : Loc Cert.Reference18Ideal.nD Cert.Reference18Ideal.τ Cert.Reference18Ideal.sig) → Buf (Elt Ideal) ℓ) : Prop :=
  ∀ c : Dev Cert.Reference18Ideal.nD,
    (Cert.Pre_slots.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3)) (m ((c.tc : Thread Cert.Reference18Ideal.nD Cert.Reference18Ideal.τ).loc Cert.Reference18Ideal.main_arg4)) (m ((c.tc : Thread Cert.Reference18Ideal.nD Cert.Reference18Ideal.τ).loc Cert.Reference18Ideal.main_arg5)) (m ((c.tc : Thread Cert.Reference18Ideal.nD Cert.Reference18Ideal.τ).loc Cert.Reference18Ideal.main_arg6))) = (fun _ => 1#1)

def quiescent_Kernel [hKernel : Cert.Kernel.Facts] [hPre_tables : Cert.Pre_tables.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_tables : Cert.Pre_tables.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] [hPre_tables : Cert.Pre_tables.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5))
      ∧ r.2.sem = fun _ => 0)

def quiescent_Kernel18 [hKernel18 : Cert.Kernel18.Facts] [hPre_slots : Cert.Pre_slots.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5)
      ∧ r.2.mem ((c.tc : Thread Cert.Kernel18.nD Cert.Kernel18.τ).loc Cert.Kernel18.main_arg6) = m ((c.tc : Thread Cert.Kernel18.nD Cert.Kernel18.τ).loc Cert.Kernel18.main_arg6))
      ∧ r.2.sem = fun _ => 0)

def quiescent_Kernel18Ideal [hKernel18Ideal : Cert.Kernel18Ideal.Facts] [hPre_slots : Cert.Pre_slots.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
      ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6))
      ∧ r.2.sem = fun _ => 0)

def quiescent_Reference18Ideal [hReference18Ideal : Cert.Reference18Ideal.Facts] [hPre_slots : Cert.Pre_slots.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5)
      ∧ r.2.mem ((c.tc : Thread Cert.Reference18Ideal.nD Cert.Reference18Ideal.τ).loc Cert.Reference18Ideal.main_arg6) = m ((c.tc : Thread Cert.Reference18Ideal.nD Cert.Reference18Ideal.τ).loc Cert.Reference18Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_tables : Cert.Pre_tables.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_v7) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v9_0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9_0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v5_0)) (v1 : (c : Dev Cert.Kernel4Ideal.nD) → Buf (Elt Ideal) ((c.tc : Thread Cert.Kernel4Ideal.nD Cert.Kernel4Ideal.τ).loc Cert.Kernel4Ideal.main_v5_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5_0) = v0 c
          ∧ r.2.mem ((c.tc : Thread Cert.Kernel4Ideal.nD Cert.Kernel4Ideal.τ).loc Cert.Kernel4Ideal.main_v5_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_v7) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v9_0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9_0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v7_1)) (v1 : (c : Dev Cert.Kernel6Ideal.nD) → Buf (Elt Ideal) ((c.tc : Thread Cert.Kernel6Ideal.nD Cert.Kernel6Ideal.τ).loc Cert.Kernel6Ideal.main_v7_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v7_1) = v0 c
          ∧ r.2.mem ((c.tc : Thread Cert.Kernel6Ideal.nD Cert.Kernel6Ideal.τ).loc Cert.Kernel6Ideal.main_v7_2) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_v4) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v5)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v5) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v5)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v5) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v7_1)) (v1 : (c : Dev Cert.Kernel11Ideal.nD) → Buf (Elt Ideal) ((c.tc : Thread Cert.Kernel11Ideal.nD Cert.Kernel11Ideal.τ).loc Cert.Kernel11Ideal.main_v7_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v7_1) = v0 c
          ∧ r.2.mem ((c.tc : Thread Cert.Kernel11Ideal.nD Cert.Kernel11Ideal.τ).loc Cert.Kernel11Ideal.main_v7_2) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_v4) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v5)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v5) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v5)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v5) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v5)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v5) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v5)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v5) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v5)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v5) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v15) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)) →
    ∃ (v0 : (c : Dev Cert.Kernel17Ideal.nD) → Buf (Elt Ideal) ((c.tc : Thread Cert.Kernel17Ideal.nD Cert.Kernel17Ideal.τ).loc Cert.Kernel17Ideal.main_v10)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v10) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v20) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5))

def preserves_Kernel18_Kernel18Ideal : Prop :=
  True

def algebraic_Kernel18Ideal_Reference18Ideal [hKernel18Ideal : Cert.Kernel18Ideal.Facts] [hReference18Ideal : Cert.Reference18Ideal.Facts] [hPre_slots : Cert.Pre_slots.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)
      ∧ m' ((c.tc : Thread Cert.Reference18Ideal.nD Cert.Reference18Ideal.τ).loc Cert.Reference18Ideal.main_arg6) = m ((c.tc : Thread Cert.Kernel18Ideal.nD Cert.Kernel18Ideal.τ).loc Cert.Kernel18Ideal.main_arg6)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
          ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v54) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5)
          ∧ r.2.mem ((c.tc : Thread Cert.Reference18Ideal.nD Cert.Reference18Ideal.τ).loc Cert.Reference18Ideal.main_arg6) = m' ((c.tc : Thread Cert.Reference18Ideal.nD Cert.Reference18Ideal.τ).loc Cert.Reference18Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hPre_tables : Cert.Pre_tables.Facts) (hPre_slots : Cert.Pre_slots.Facts),
    quiescent_Kernel (hKernel := hKernel) (hPre_tables := hPre_tables)
    ∧ quiescent_KernelIdeal (hKernelIdeal := hKernelIdeal) (hPre_tables := hPre_tables)
    ∧ quiescent_ReferenceIdeal (hReferenceIdeal := hReferenceIdeal) (hPre_tables := hPre_tables)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18) (hPre_slots := hPre_slots)
    ∧ quiescent_Kernel18Ideal (hKernel18Ideal := hKernel18Ideal) (hPre_slots := hPre_slots)
    ∧ quiescent_Reference18Ideal (hReference18Ideal := hReference18Ideal) (hPre_slots := hPre_slots)
    ∧ preserves_Kernel_KernelIdeal
    ∧ algebraic_KernelIdeal_ReferenceIdeal (hKernelIdeal := hKernelIdeal) (hReferenceIdeal := hReferenceIdeal) (hPre_tables := hPre_tables)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal) (hPre_slots := hPre_slots)
-- ==== Pre_slots.lean ====
abbrev S8320 : Shape := ⟨1, ![8320]⟩
abbrev S133120x128 : Shape := ⟨2, ![133120, 128]⟩
abbrev S8192x128 : Shape := ⟨2, ![8192, 128]⟩
abbrev S1x2048 : Shape := ⟨2, ![1, 2048]⟩
abbrev S397312x128 : Shape := ⟨2, ![397312, 128]⟩
abbrev S_ : Shape := ⟨0, ![]⟩

class Facts : Prop where
  bcast_S_S8320 : S_.BroadcastsInDim S8320 (![] : Fin 0 → Fin S8320.rank)
  reducesTo_S8320_S_d0 : S8320.ReducesTo [0] S_
  h_S_ : 0 < S_.numel

variable [Facts]

def fn {F : FTy → Type} [FloatOps F] (main_arg0 : IVec S8320 32) (main_arg1 : IVec S8320 32) (main_arg2 : FVec F S133120x128 .f32) (main_arg3 : FVec F S8192x128 .f32) (main_arg4 : FVec F S1x2048 .f32) (main_arg5 : FVec F S1x2048 .f32) (main_arg6 : FVec F S397312x128 .f32) : IVec S_ 1 :=
  let main_c : IVec S_ 32 := constantI S_ 32 0#32
  let main_v0 : IVec S8320 32 := broadcastInDim S8320 ![] bcast_S_S8320 main_c
  let main_v1 : IVec S8320 1 := cmpi .sge main_arg0 main_v0
  let main_c_0 : IVec S_ 32 := constantI S_ 32 24832#32
  let main_v2 : IVec S8320 32 := broadcastInDim S8320 ![] bcast_S_S8320 main_c_0
  let main_v3 : IVec S8320 1 := cmpi .slt main_arg0 main_v2
  let main_v4 : IVec S8320 1 := andi main_v1 main_v3
  let main_c_1 : IVec S_ 1 := constantI S_ 1 1#1
  let main_v5 : IVec S_ 1 := (fun x v => Host.reduce IntOp.andi x v reducesTo_S8320_S_d0 h_S_) main_v4 main_c_1
  let main_c_2 : IVec S_ 32 := constantI S_ 32 0#32
  let main_v6 : IVec S8320 32 := broadcastInDim S8320 ![] bcast_S_S8320 main_c_2
  let main_v7 : IVec S8320 1 := cmpi .sge main_arg1 main_v6
  let main_c_3 : IVec S_ 32 := constantI S_ 32 24832#32
  let main_v8 : IVec S8320 32 := broadcastInDim S8320 ![] bcast_S_S8320 main_c_3
  let main_v9 : IVec S8320 1 := cmpi .slt main_arg1 main_v8
  let main_v10 : IVec S8320 1 := andi main_v7 main_v9
  let main_c_4 : IVec S_ 1 := constantI S_ 1 1#1
  let main_v11 : IVec S_ 1 := (fun x v => Host.reduce IntOp.andi x v reducesTo_S8320_S_d0 h_S_) main_v10 main_c_4
  let main_v12 : IVec S_ 1 := andi main_v5 main_v11
  main_v12
-- ==== Pre_tables.lean ====
abbrev S97 : Shape := ⟨1, ![97]⟩
abbrev S24832 : Shape := ⟨1, ![24832]⟩
abbrev S133120x128 : Shape := ⟨2, ![133120, 128]⟩
abbrev S32x2048x512 : Shape := ⟨3, ![32, 2048, 512]⟩
abbrev S32x512x2048 : Shape := ⟨3, ![32, 512, 2048]⟩
abbrev S_ : Shape := ⟨0, ![]⟩
abbrev S1 : Shape := ⟨1, ![1]⟩
abbrev S96 : Shape := ⟨1, ![96]⟩

class Facts : Prop where
  bcast_S_S97 : S_.BroadcastsInDim S97 (![] : Fin 0 → Fin S97.rank)
  reducesTo_S97_S_d0 : S97.ReducesTo [0] S_
  h_S_ : 0 < S_.numel
  bcast_S_S24832 : S_.BroadcastsInDim S24832 (![] : Fin 0 → Fin S24832.rank)
  reducesTo_S24832_S_d0 : S24832.ReducesTo [0] S_
  slices_S97_S1_0 : S97.Slices ![0] S1
  shapeCasts_S1_S_ : S1.ShapeCasts S_
  slices_S97_S96_1 : S97.Slices ![1] S96
  bcast_S_S96 : S_.BroadcastsInDim S96 (![] : Fin 0 → Fin S96.rank)
  slices_S97_S96_0 : S97.Slices ![0] S96
  reducesTo_S96_S_d0 : S96.ReducesTo [0] S_

variable [Facts]

def fn_part2 {F : FTy → Type} [FloatOps F] (main_arg0 : IVec S97 32) (main_arg1 : IVec S97 32) (main_arg2 : IVec S97 32) (main_v5 : IVec S_ 1) (main_v18 : IVec S_ 1) (main_v24 : IVec S_ 1) (main_v31 : IVec S_ 1) (main_v32 : IVec S96 32) (main_c_13 : IVec S_ 32) : IVec S_ 1 :=
  let main_v33 : IVec S96 32 := broadcastInDim S96 ![] bcast_S_S96 main_c_13
  let main_v34 : IVec S96 1 := cmpi .eq main_v32 main_v33
  let main_v35 : IVec S96 32 := (extractStridedSlice S96 ![1] · slices_S97_S96_1) main_arg2
  let main_c_14 : IVec S_ 32 := constantI S_ 32 1#32
  let main_v36 : IVec S96 32 := broadcastInDim S96 ![] bcast_S_S96 main_c_14
  let main_v37 : IVec S96 1 := cmpi .eq main_v35 main_v36
  let main_v38 : IVec S96 1 := ori main_v34 main_v37
  let main_v39 : IVec S96 32 := (extractStridedSlice S96 ![1] · slices_S97_S96_1) main_arg0
  let main_v40 : IVec S96 32 := (extractStridedSlice S96 ![0] · slices_S97_S96_0) main_arg0
  let main_v41 : IVec S96 1 := cmpi .eq main_v39 main_v40
  let main_v42 : IVec S96 32 := (extractStridedSlice S96 ![0] · slices_S97_S96_0) main_arg1
  let main_c_15 : IVec S_ 32 := constantI S_ 32 1#32
  let main_v43 : IVec S96 32 := broadcastInDim S96 ![] bcast_S_S96 main_c_15
  let main_v44 : IVec S96 1 := cmpi .eq main_v42 main_v43
  let main_v45 : IVec S96 1 := andi main_v41 main_v44
  let main_v46 : IVec S96 1 := ori main_v38 main_v45
  let main_c_16 : IVec S_ 1 := constantI S_ 1 1#1
  let main_v47 : IVec S_ 1 := (fun x v => Host.reduce IntOp.andi x v reducesTo_S96_S_d0 h_S_) main_v46 main_c_16
  let main_v48 : IVec S_ 1 := andi main_v5 main_v18
  let main_v49 : IVec S_ 1 := andi main_v48 main_v24
  let main_v50 : IVec S_ 1 := andi main_v49 main_v31
  let main_v51 : IVec S_ 1 := andi main_v50 main_v47
  main_v51

def fn_part1 {F : FTy → Type} [FloatOps F] (main_arg0 : IVec S97 32) (main_arg1 : IVec S97 32) (main_arg2 : IVec S97 32) (main_arg3 : IVec S24832 32) (main_v5 : IVec S_ 1) (main_v11 : IVec S_ 1) (main_v13 : IVec S97 1) (main_v15 : IVec S97 1) : IVec S_ 1 :=
  let main_v16 : IVec S97 1 := ori main_v13 main_v15
  let main_c_7 : IVec S_ 1 := constantI S_ 1 1#1
  let main_v17 : IVec S_ 1 := (fun x v => Host.reduce IntOp.andi x v reducesTo_S97_S_d0 h_S_) main_v16 main_c_7
  let main_v18 : IVec S_ 1 := andi main_v11 main_v17
  let main_c_8 : IVec S_ 32 := constantI S_ 32 0#32
  let main_v19 : IVec S24832 32 := broadcastInDim S24832 ![] bcast_S_S24832 main_c_8
  let main_v20 : IVec S24832 1 := cmpi .sge main_arg3 main_v19
  let main_c_9 : IVec S_ 32 := constantI S_ 32 8320#32
  let main_v21 : IVec S24832 32 := broadcastInDim S24832 ![] bcast_S_S24832 main_c_9
  let main_v22 : IVec S24832 1 := cmpi .slt main_arg3 main_v21
  let main_v23 : IVec S24832 1 := andi main_v20 main_v22
  let main_c_10 : IVec S_ 1 := constantI S_ 1 1#1
  let main_v24 : IVec S_ 1 := (fun x v => Host.reduce IntOp.andi x v reducesTo_S24832_S_d0 h_S_) main_v23 main_c_10
  let main_v25 : IVec S1 32 := (extractStridedSlice S1 ![0] · slices_S97_S1_0) main_arg1
  let main_v26 : IVec S_ 32 := shapeCast S_ main_v25 shapeCasts_S1_S_
  let main_c_11 : IVec S_ 32 := constantI S_ 32 0#32
  let main_v27 : IVec S_ 1 := cmpi .eq main_v26 main_c_11
  let main_v28 : IVec S1 32 := (extractStridedSlice S1 ![0] · slices_S97_S1_0) main_arg2
  let main_v29 : IVec S_ 32 := shapeCast S_ main_v28 shapeCasts_S1_S_
  let main_c_12 : IVec S_ 32 := constantI S_ 32 1#32
  let main_v30 : IVec S_ 1 := cmpi .eq main_v29 main_c_12
  let main_v31 : IVec S_ 1 := ori main_v27 main_v30
  let main_v32 : IVec S96 32 := (extractStridedSlice S96 ![1] · slices_S97_S96_1) main_arg1
  let main_c_13 : IVec S_ 32 := constantI S_ 32 0#32
  fn_part2 (F := F) main_arg0 main_arg1 main_arg2 main_v5 main_v18 main_v24 main_v31 main_v32 main_c_13

def fn {F : FTy → Type} [FloatOps F] (main_arg0 : IVec S97 32) (main_arg1 : IVec S97 32) (main_arg2 : IVec S97 32) (main_arg3 : IVec S24832 32) (main_arg4 : FVec F S133120x128 .f32) (main_arg5 : FVec F S32x2048x512 .f32) (main_arg6 : FVec F S32x2048x512 .f32) (main_arg7 : FVec F S32x512x2048 .f32) : IVec S_ 1 :=
  let main_c : IVec S_ 32 := constantI S_ 32 0#32
  let main_v0 : IVec S97 32 := broadcastInDim S97 ![] bcast_S_S97 main_c
  let main_v1 : IVec S97 1 := cmpi .sge main_arg0 main_v0
  let main_c_0 : IVec S_ 32 := constantI S_ 32 32#32
  let main_v2 : IVec S97 32 := broadcastInDim S97 ![] bcast_S_S97 main_c_0
  let main_v3 : IVec S97 1 := cmpi .slt main_arg0 main_v2
  let main_v4 : IVec S97 1 := andi main_v1 main_v3
  let main_c_1 : IVec S_ 1 := constantI S_ 1 1#1
  let main_v5 : IVec S_ 1 := (fun x v => Host.reduce IntOp.andi x v reducesTo_S97_S_d0 h_S_) main_v4 main_c_1
  let main_c_2 : IVec S_ 32 := constantI S_ 32 0#32
  let main_v6 : IVec S97 32 := broadcastInDim S97 ![] bcast_S_S97 main_c_2
  let main_v7 : IVec S97 1 := cmpi .eq main_arg1 main_v6
  let main_c_3 : IVec S_ 32 := constantI S_ 32 1#32
  let main_v8 : IVec S97 32 := broadcastInDim S97 ![] bcast_S_S97 main_c_3
  let main_v9 : IVec S97 1 := cmpi .eq main_arg1 main_v8
  let main_v10 : IVec S97 1 := ori main_v7 main_v9
  let main_c_4 : IVec S_ 1 := constantI S_ 1 1#1
  let main_v11 : IVec S_ 1 := (fun x v => Host.reduce IntOp.andi x v reducesTo_S97_S_d0 h_S_) main_v10 main_c_4
  let main_c_5 : IVec S_ 32 := constantI S_ 32 0#32
  let main_v12 : IVec S97 32 := broadcastInDim S97 ![] bcast_S_S97 main_c_5
  let main_v13 : IVec S97 1 := cmpi .eq main_arg2 main_v12
  let main_c_6 : IVec S_ 32 := constantI S_ 32 1#32
  let main_v14 : IVec S97 32 := broadcastInDim S97 ![] bcast_S_S97 main_c_6
  let main_v15 : IVec S97 1 := cmpi .eq main_arg2 main_v14
  fn_part1 (F := F) main_arg0 main_arg1 main_arg2 main_arg3 main_v5 main_v11 main_v13 main_v15
-- ==== Kernel.lean ====
abbrev S97 : Shape := ⟨1, ![97]⟩
abbrev S24832 : Shape := ⟨1, ![24832]⟩
abbrev S133120x128 : Shape := ⟨2, ![133120, 128]⟩
abbrev S32x2048x512 : Shape := ⟨3, ![32, 2048, 512]⟩
abbrev S32x512x2048 : Shape := ⟨3, ![32, 512, 2048]⟩
abbrev S397312x128 : Shape := ⟨2, ![397312, 128]⟩
abbrev S1x2048x512 : Shape := ⟨3, ![1, 2048, 512]⟩
abbrev S1 : Shape := ⟨1, ![1]⟩
abbrev S1x512x2048 : Shape := ⟨3, ![1, 512, 2048]⟩
abbrev S4096x128 : Shape := ⟨2, ![4096, 128]⟩
abbrev S2048x512 : Shape := ⟨2, ![2048, 512]⟩
abbrev S512x2048 : Shape := ⟨2, ![512, 2048]⟩
abbrev S8192x128 : Shape := ⟨2, ![8192, 128]⟩
abbrev S2 : Shape := ⟨1, ![2]⟩
abbrev S_ : Shape := ⟨0, ![]⟩
abbrev S16x128 : Shape := ⟨2, ![16, 128]⟩
abbrev S256x128 : Shape := ⟨2, ![256, 128]⟩
abbrev S256x2048 : Shape := ⟨2, ![256, 2048]⟩
abbrev S256x512 : Shape := ⟨2, ![256, 512]⟩

abbrev nBuf : Space → Nat
  | .hbm => 5
  | .vmem => 12
  | .smem => 4
  | _ => 0

abbrev bufTy : (tb : Table) → Fin (tcTables nBuf tb) → BufTy
  | .hbm, ⟨0, _⟩ => ⟨S133120x128, .f32⟩
  | .hbm, ⟨1, _⟩ => ⟨S32x2048x512, .f32⟩
  | .hbm, ⟨2, _⟩ => ⟨S32x2048x512, .f32⟩
  | .hbm, ⟨3, _⟩ => ⟨S32x512x2048, .f32⟩
  | .hbm, ⟨4, _⟩ => ⟨S397312x128, .f32⟩
  | .local _ .vmem, ⟨0, _⟩ => ⟨S1x2048x512, .f32⟩
  | .local _ .vmem, ⟨1, _⟩ => ⟨S1x2048x512, .f32⟩
  | .local _ .vmem, ⟨2, _⟩ => ⟨S1x2048x512, .f32⟩
  | .local _ .vmem, ⟨3, _⟩ => ⟨S1x2048x512, .f32⟩
  | .local _ .vmem, ⟨4, _⟩ => ⟨S1x512x2048, .f32⟩
  | .local _ .vmem, ⟨5, _⟩ => ⟨S1x512x2048, .f32⟩
  | .local _ .vmem, ⟨6, _⟩ => ⟨S4096x128, .f32⟩
  | .local _ .vmem, ⟨7, _⟩ => ⟨S4096x128, .f32⟩
  | .local _ .vmem, ⟨8, _⟩ => ⟨S2048x512, .bf16⟩
  | .local _ .vmem, ⟨9, _⟩ => ⟨S2048x512, .bf16⟩
  | .local _ .vmem, ⟨10, _⟩ => ⟨S512x2048, .bf16⟩
  | .local _ .vmem, ⟨11, _⟩ => ⟨S8192x128, .f32⟩
  | .local _ .smem, ⟨0, _⟩ => ⟨S97, .i32⟩
  | .local _ .smem, ⟨1, _⟩ => ⟨S97, .i32⟩
  | .local _ .smem, ⟨2, _⟩ => ⟨S97, .i32⟩
  | .local _ .smem, ⟨3, _⟩ => ⟨S24832, .i32⟩
  | _, _ => ⟨S133120x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg4 : Ref sig .tc := ⟨.hbm, 0, rfl⟩
abbrev main_arg5 : Ref sig .tc := ⟨.hbm, 1, rfl⟩
abbrev main_arg6 : Ref sig .tc := ⟨.hbm, 2, rfl⟩
abbrev main_arg7 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![97], ![false]⟩

abbrev pre0 : Pipeline.Prefetch sig := ⟨4, ![main_arg0.idx, main_arg1.idx, main_arg2.idx, main_arg3.idx], fun | 0 => main_arg0.names | 1 => main_arg1.names | 2 => main_arg2.names | 3 => main_arg3.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop : Scf.Loop 32 :=
  let c0_i32_11 : BitVec 32 := 0#32
  let c256_i32 : BitVec 32 := 256#32
  let v31 : BitVec 32 := Scalar.addi c0_i32_11 c256_i32
  let c1_i32_12 : BitVec 32 := 1#32
  ⟨c0_i32_11, v31, c1_i32_12⟩
def k0_off2 (k0_t1 : Fin k0_t1_loop.trips) : Fin 1 → Nat :=
  let c0_i32_14 : BitVec 32 := 0#32
  let c0_i32_11 : BitVec 32 := 0#32
  let c1_i32_12 : BitVec 32 := 1#32
  let arg15 : BitVec 32 := Scf.iv c0_i32_11 c1_i32_12 k0_t1
  let v32 : BitVec 32 := Scalar.addi c0_i32_14 arg15
  let v33 : Index := Scalar.indexCast v32
  ![v33.toNat]
def k0_mult1 (v34 : BitVec 32) : BitVec 32 :=
  let c16_i32 : BitVec 32 := 16#32
  let v35 : BitVec 32 := Scalar.muli v34 c16_i32
  v35
def k0_cond1 (i : grid0.Coords) (v1 : BitVec 32) : BitVec 1 :=
  let arg0 : BitVec 32 := BitVec.ofNat 32 (i 0).val
  let c0_i32 : BitVec 32 := 0#32
  let v0 : BitVec 1 := Scalar.cmpi .eq arg0 c0_i32
  let c1_i32 : BitVec 32 := 1#32
  let v2 : BitVec 1 := Scalar.cmpi .eq v1 c1_i32
  let v3 : BitVec 1 := Scalar.andi v0 v2
  let v4 : BitVec 32 := Scalar.extui v3
  let c0_i32_0 : BitVec 32 := 0#32
  let v5 : BitVec 1 := Scalar.cmpi .ne v4 c0_i32_0
  v5

def k0_mult2 (k0_t1 : Fin k0_t1_loop.trips) : BitVec 32 :=
  let c0_i32_16 : BitVec 32 := 0#32
  let c0_i32_11 : BitVec 32 := 0#32
  let c1_i32_12 : BitVec 32 := 1#32
  let arg15 : BitVec 32 := Scf.iv c0_i32_11 c1_i32_12 k0_t1
  let c16_i32_15 : BitVec 32 := 16#32
  let v37 : BitVec 32 := Scalar.muli arg15 c16_i32_15
  let v38 : BitVec 32 := Scalar.addi c0_i32_16 v37
  v38
def k0_off3 (k0_t1 : Fin k0_t1_loop.trips) : Fin 2 → Nat :=
  let c0_i32_16 : BitVec 32 := 0#32
  let c0_i32_11 : BitVec 32 := 0#32
  let c1_i32_12 : BitVec 32 := 1#32
  let arg15 : BitVec 32 := Scf.iv c0_i32_11 c1_i32_12 k0_t1
  let c16_i32_15 : BitVec 32 := 16#32
  let v37 : BitVec 32 := Scalar.muli arg15 c16_i32_15
  let v38 : BitVec 32 := Scalar.addi c0_i32_16 v37
  let v39 : BitVec 32 := v38
  let c0_i32_18 : BitVec 32 := 0#32
  ![v39.toNat, 0]
def k0_off4 (v34 : BitVec 32) : Fin 2 → Nat :=
  let c16_i32 : BitVec 32 := 16#32
  let v35 : BitVec 32 := Scalar.muli v34 c16_i32
  let v36 : BitVec 32 := v35
  let c0_i32_19 : BitVec 32 := 0#32
  ![v36.toNat, 0]

def k0_chk1 (i : grid0.Coords) (v1 : BitVec 32) (v34 : BitVec 32) : Prop :=
  (∀ (k0_h1 : k0_cond1 i v1 = 1#1), 16 ∣ (k0_mult1 v34).toNat) ∧
  (∀ (k0_h1 : k0_cond1 i v1 = 1#1), ∀ a, (k0_off4 v34) a + S16x128.size a ≤ S133120x128.size a)
theorem k0_mult1_dvd : ∀ (i : grid0.Coords) (v1 : BitVec 32) (v34 : BitVec 32) (k0_hw1 : k0_chk1 i v1 v34), ∀ (k0_h1 : k0_cond1 i v1 = 1#1), 16 ∣ (k0_mult1 v34).toNat := fun i v1 v34 k0_hw1 k0_h1 => k0_hw1.1 k0_h1
theorem k0_off4_inb : ∀ (i : grid0.Coords) (v1 : BitVec 32) (v34 : BitVec 32) (k0_hw1 : k0_chk1 i v1 v34), ∀ (k0_h1 : k0_cond1 i v1 = 1#1), ∀ a, (k0_off4 v34) a + S16x128.size a ≤ S133120x128.size a := fun i v1 v34 k0_hw1 k0_h1 => k0_hw1.2 k0_h1

def k0_off5 (i : grid0.Coords) : Fin 1 → Nat :=
  let arg0 : BitVec 32 := BitVec.ofNat 32 (i 0).val
  let c1_i32_2 : BitVec 32 := 1#32
  let v8 : BitVec 32 := Scalar.addi arg0 c1_i32_2
  let c96_i32 : BitVec 32 := 96#32
  let v9 : BitVec 32 := Scalar.minsi v8 c96_i32
  let v10 : Index := Scalar.indexCast v9
  ![v10.toNat]
@[reducible] def k0_t2_loop : Scf.Loop 32 :=
  let c0_i32_12 : BitVec 32 := 0#32
  let c256_i32 : BitVec 32 := 256#32
  let v32 : BitVec 32 := Scalar.addi c0_i32_12 c256_i32
  let c1_i32_13 : BitVec 32 := 1#32
  ⟨c0_i32_12, v32, c1_i32_13⟩
def k0_off6 (i : grid0.Coords) (k0_t2 : Fin k0_t2_loop.trips) : Fin 1 → Nat :=
  let arg0 : BitVec 32 := BitVec.ofNat 32 (i 0).val
  let c1_i32_11 : BitVec 32 := 1#32
  let v31 : BitVec 32 := Scalar.addi arg0 c1_i32_11
  let c256_i32_20 : BitVec 32 := 256#32
  let v43 : BitVec 32 := Scalar.muli v31 c256_i32_20
  let c0_i32_12 : BitVec 32 := 0#32
  let c1_i32_13 : BitVec 32 := 1#32
  let arg15 : BitVec 32 := Scf.iv c0_i32_12 c1_i32_13 k0_t2
  let v44 : BitVec 32 := Scalar.addi v43 arg15
  let v45 : Index := Scalar.indexCast v44
  ![v45.toNat]
def k0_cond2 (i : grid0.Coords) (v11 : BitVec 32) : BitVec 1 :=
  let arg0 : BitVec 32 := BitVec.ofNat 32 (i 0).val
  let c1_i32_1 : BitVec 32 := 1#32
  let v6 : BitVec 32 := Scalar.addi arg0 c1_i32_1
  let c97_i32 : BitVec 32 := 97#32
  let v7 : BitVec 1 := Scalar.cmpi .slt v6 c97_i32
  let c1_i32_3 : BitVec 32 := 1#32
  let v12 : BitVec 1 := Scalar.cmpi .eq v11 c1_i32_3
  let v13 : BitVec 1 := Scalar.andi v7 v12
  let v14 : BitVec 32 := Scalar.extui v13
  let c0_i32_4 : BitVec 32 := 0#32
  let v15 : BitVec 1 := Scalar.cmpi .ne v14 c0_i32_4
  v15

def k0_chk2 (i : grid0.Coords) (v11 : BitVec 32) : Prop :=
  (∀ k0_t2 : Fin k0_t2_loop.trips, ∀ (k0_h2 : k0_cond2 i v11 = 1#1), ∀ a, (k0_off6 i k0_t2) a + S1.size a ≤ S24832.size a)
theorem k0_off6_inb : ∀ (i : grid0.Coords) (v11 : BitVec 32) (k0_hw2 : k0_chk2 i v11) (k0_t2 : Fin k0_t2_loop.trips), ∀ (k0_h2 : k0_cond2 i v11 = 1#1), ∀ a, (k0_off6 i k0_t2) a + S1.size a ≤ S24832.size a := fun i v11 k0_hw2 k0_t2 k0_h2 => k0_hw2 k0_t2 k0_h2

def k0_mult3 (v46 : BitVec 32) : BitVec 32 :=
  let c16_i32 : BitVec 32 := 16#32
  let v47 : BitVec 32 := Scalar.muli v46 c16_i32
  v47

def k0_mult4 (i : grid0.Coords) (k0_t2 : Fin k0_t2_loop.trips) : BitVec 32 :=
  let arg0 : BitVec 32 := BitVec.ofNat 32 (i 0).val
  let c1_i32_11 : BitVec 32 := 1#32
  let v31 : BitVec 32 := Scalar.addi arg0 c1_i32_11
  let c2_i32 : BitVec 32 := 2#32
  let c0_i32_15 : BitVec 32 := 0#32
  let v33 : BitVec 1 := Scalar.cmpi .eq c2_i32 c0_i32_15
  let c1_i32_16 : BitVec 32 := 1#32
  let v34 : BitVec 32 := Scalar.select v33 c1_i32_16 c2_i32
  let v35 : BitVec 32 := Scalar.remsi v31 v34
  let c0_i32_18 : BitVec 32 := 0#32
  let v37 : BitVec 1 := Scalar.cmpi .slt v35 c0_i32_18
  let c0_i32_19 : BitVec 32 := 0#32
  let v38 : BitVec 1 := Scalar.cmpi .slt v34 c0_i32_19
  let v39 : BitVec 1 := Scalar.xori v37 v38
  let c0_i32_17 : BitVec 32 := 0#32
  let v36 : BitVec 1 := Scalar.cmpi .ne v35 c0_i32_17
  let v40 : BitVec 1 := Scalar.andi v39 v36
  let v41 : BitVec 32 := Scalar.addi v35 v34
  let v42 : BitVec 32 := Scalar.select v40 v41 v35
  let c4096_i32 : BitVec 32 := 4096#32
  let v49 : BitVec 32 := Scalar.muli v42 c4096_i32
  let c0_i32_12 : BitVec 32 := 0#32
  let c1_i32_13 : BitVec 32 := 1#32
  let arg15 : BitVec 32 := Scf.iv c0_i32_12 c1_i32_13 k0_t2
  let c16_i32_21 : BitVec 32 := 16#32
  let v50 : BitVec 32 := Scalar.muli arg15 c16_i32_21
  let v51 : BitVec 32 := Scalar.addi v49 v50
  v51
def k0_off7 (i : grid0.Coords) : Fin 1 → Nat :=
  let arg0 : BitVec 32 := BitVec.ofNat 32 (i 0).val
  let c1_i32_11 : BitVec 32 := 1#32
  let v31 : BitVec 32 := Scalar.addi arg0 c1_i32_11
  let c2_i32 : BitVec 32 := 2#32
  let c0_i32_15 : BitVec 32 := 0#32
  let v33 : BitVec 1 := Scalar.cmpi .eq c2_i32 c0_i32_15
  let c1_i32_16 : BitVec 32 := 1#32
  let v34 : BitVec 32 := Scalar.select v33 c1_i32_16 c2_i32
  let v35 : BitVec 32 := Scalar.remsi v31 v34
  let c0_i32_18 : BitVec 32 := 0#32
  let v37 : BitVec 1 := Scalar.cmpi .slt v35 c0_i32_18
  let c0_i32_19 : BitVec 32 := 0#32
  let v38 : BitVec 1 := Scalar.cmpi .slt v34 c0_i32_19
  let v39 : BitVec 1 := Scalar.xori v37 v38
  let c0_i32_17 : BitVec 32 := 0#32
  let v36 : BitVec 1 := Scalar.cmpi .ne v35 c0_i32_17
  let v40 : BitVec 1 := Scalar.andi v39 v36
  let v41 : BitVec 32 := Scalar.addi v35 v34
  let v42 : BitVec 32 := Scalar.select v40 v41 v35
  ![v42.toNat]
def k0_off8 (i : grid0.Coords) (k0_t2 : Fin k0_t2_loop.trips) : Fin 2 → Nat :=
  let arg0 : BitVec 32 := BitVec.ofNat 32 (i 0).val
  let c1_i32_11 : BitVec 32 := 1#32
  let v31 : BitVec 32 := Scalar.addi arg0 c1_i32_11
  let c2_i32 : BitVec 32 := 2#32
  let c0_i32_15 : BitVec 32 := 0#32
  let v33 : BitVec 1 := Scalar.cmpi .eq c2_i32 c0_i32_15
  let c1_i32_16 : BitVec 32 := 1#32
  let v34 : BitVec 32 := Scalar.select v33 c1_i32_16 c2_i32
  let v35 : BitVec 32 := Scalar.remsi v31 v34
  let c0_i32_18 : BitVec 32 := 0#32
  let v37 : BitVec 1 := Scalar.cmpi .slt v35 c0_i32_18
  let c0_i32_19 : BitVec 32 := 0#32
  let v38 : BitVec 1 := Scalar.cmpi .slt v34 c0_i32_19
  let v39 : BitVec 1 := Scalar.xori v37 v38
  let c0_i32_17 : BitVec 32 := 0#32
  let v36 : BitVec 1 := Scalar.cmpi .ne v35 c0_i32_17
  let v40 : BitVec 1 := Scalar.andi v39 v36
  let v41 : BitVec 32 := Scalar.addi v35 v34
  let v42 : BitVec 32 := Scalar.select v40 v41 v35
  let c4096_i32 : BitVec 32 := 4096#32
  let v49 : BitVec 32 := Scalar.muli v42 c4096_i32
  let c0_i32_12 : BitVec 32 := 0#32
  let c1_i32_13 : BitVec 32 := 1#32
  let arg15 : BitVec 32 := Scf.iv c0_i32_12 c1_i32_13 k0_t2
  let c16_i32_21 : BitVec 32 := 16#32
  let v50 : BitVec 32 := Scalar.muli arg15 c16_i32_21
  let v51 : BitVec 32 := Scalar.addi v49 v50
  let v52 : BitVec 32 := v51
  let c0_i32_22 : BitVec 32 := 0#32
  ![v52.toNat, 0]
def k0_off9 (v46 : BitVec 32) : Fin 2 → Nat :=
  let c16_i32 : BitVec 32 := 16#32
  let v47 : BitVec 32 := Scalar.muli v46 c16_i32
  let v48 : BitVec 32 := v47
  let c0_i32_23 : BitVec 32 := 0#32
  ![v48.toNat, 0]

def k0_chk3 (i : grid0.Coords) (v11 : BitVec 32) (v46 : BitVec 32) : Prop :=
  (∀ (k0_h2 : k0_cond2 i v11 = 1#1), 16 ∣ (k0_mult3 v46).toNat) ∧
  (∀ (k0_h2 : k0_cond2 i v11 = 1#1), ∀ a, (k0_off9 v46) a + S16x128.size a ≤ S133120x128.size a)
theorem k0_mult3_dvd : ∀ (i : grid0.Coords) (v11 : BitVec 32) (v46 : BitVec 32) (k0_hw3 : k0_chk3 i v11 v46), ∀ (k0_h2 : k0_cond2 i v11 = 1#1), 16 ∣ (k0_mult3 v46).toNat := fun i v11 v46 k0_hw3 k0_h2 => k0_hw3.1 k0_h2
theorem k0_off9_inb : ∀ (i : grid0.Coords) (v11 : BitVec 32) (v46 : BitVec 32) (k0_hw3 : k0_chk3 i v11 v46), ∀ (k0_h2 : k0_cond2 i v11 = 1#1), ∀ a, (k0_off9 v46) a + S16x128.size a ≤ S133120x128.size a := fun i v11 v46 k0_hw3 k0_h2 => k0_hw3.2 k0_h2

def k0_off10 (i : grid0.Coords) : Fin 1 → Nat :=
  let arg0 : BitVec 32 := BitVec.ofNat 32 (i 0).val
  let v16 : Index := Scalar.indexCast arg0
  ![v16.toNat]
def k0_off11 (i : grid0.Coords) : Fin 1 → Nat :=
  let arg0 : BitVec 32 := BitVec.ofNat 32 (i 0).val
  let v21 : Index := Scalar.indexCast arg0
  ![v21.toNat]
@[reducible] def k0_t3_loop : Scf.Loop 32 :=
  let c0_i32_11 : BitVec 32 := 0#32
  let c256_i32 : BitVec 32 := 256#32
  let v31 : BitVec 32 := Scalar.addi c0_i32_11 c256_i32
  let c1_i32_12 : BitVec 32 := 1#32
  ⟨c0_i32_11, v31, c1_i32_12⟩
def k0_off12 (i : grid0.Coords) (k0_t3 : Fin k0_t3_loop.trips) : Fin 1 → Nat :=
  let arg0 : BitVec 32 := BitVec.ofNat 32 (i 0).val
  let c256_i32_69 : BitVec 32 := 256#32
  let v160 : BitVec 32 := Scalar.muli arg0 c256_i32_69
  let c0_i32_11 : BitVec 32 := 0#32
  let c1_i32_12 : BitVec 32 := 1#32
  let arg15 : BitVec 32 := Scf.iv c0_i32_11 c1_i32_12 k0_t3
  let v161 : BitVec 32 := Scalar.addi v160 arg15
  let v162 : Index := Scalar.indexCast v161
  ![v162.toNat]
def k0_mult5 (v163 : BitVec 32) : BitVec 32 :=
  let c16_i32 : BitVec 32 := 16#32
  let v164 : BitVec 32 := Scalar.muli v163 c16_i32
  v164
def k0_cond4 (v22 : BitVec 32) : BitVec 1 :=
  let c1_i32_7 : BitVec 32 := 1#32
  let v23 : BitVec 1 := Scalar.cmpi .eq v22 c1_i32_7
  let v24 : BitVec 32 := Scalar.extui v23
  let c0_i32_8 : BitVec 32 := 0#32
  let v25 : BitVec 1 := Scalar.cmpi .ne v24 c0_i32_8
  v25

def k0_mult6 (i : grid0.Coords) (k0_t3 : Fin k0_t3_loop.trips) : BitVec 32 :=
  let arg0 : BitVec 32 := BitVec.ofNat 32 (i 0).val
  let c2_i32_63 : BitVec 32 := 2#32
  let c0_i32_64 : BitVec 32 := 0#32
  let v150 : BitVec 1 := Scalar.cmpi .eq c2_i32_63 c0_i32_64
  let c1_i32_65 : BitVec 32 := 1#32
  let v151 : BitVec 32 := Scalar.select v150 c1_i32_65 c2_i32_63
  let v152 : BitVec 32 := Scalar.remsi arg0 v151
  let c0_i32_67 : BitVec 32 := 0#32
  let v154 : BitVec 1 := Scalar.cmpi .slt v152 c0_i32_67
  let c0_i32_68 : BitVec 32 := 0#32
  let v155 : BitVec 1 := Scalar.cmpi .slt v151 c0_i32_68
  let v156 : BitVec 1 := Scalar.xori v154 v155
  let c0_i32_66 : BitVec 32 := 0#32
  let v153 : BitVec 1 := Scalar.cmpi .ne v152 c0_i32_66
  let v157 : BitVec 1 := Scalar.andi v156 v153
  let v158 : BitVec 32 := Scalar.addi v152 v151
  let v159 : BitVec 32 := Scalar.select v157 v158 v152
  let c4096_i32_70 : BitVec 32 := 4096#32
  let v166 : BitVec 32 := Scalar.muli v159 c4096_i32_70
  let c0_i32_11 : BitVec 32 := 0#32
  let c1_i32_12 : BitVec 32 := 1#32
  let arg15 : BitVec 32 := Scf.iv c0_i32_11 c1_i32_12 k0_t3
  let c16_i32_71 : BitVec 32 := 16#32
  let v167 : BitVec 32 := Scalar.muli arg15 c16_i32_71
  let v168 : BitVec 32 := Scalar.addi v166 v167
  v168
def k0_off13 (i : grid0.Coords) : Fin 1 → Nat :=
  let arg0 : BitVec 32 := BitVec.ofNat 32 (i 0).val
  let c2_i32_63 : BitVec 32 := 2#32
  let c0_i32_64 : BitVec 32 := 0#32
  let v150 : BitVec 1 := Scalar.cmpi .eq c2_i32_63 c0_i32_64
  let c1_i32_65 : BitVec 32 := 1#32
  let v151 : BitVec 32 := Scalar.select v150 c1_i32_65 c2_i32_63
  let v152 : BitVec 32 := Scalar.remsi arg0 v151
  let c0_i32_67 : BitVec 32 := 0#32
  let v154 : BitVec 1 := Scalar.cmpi .slt v152 c0_i32_67
  let c0_i32_68 : BitVec 32 := 0#32
  let v155 : BitVec 1 := Scalar.cmpi .slt v151 c0_i32_68
  let v156 : BitVec 1 := Scalar.xori v154 v155
  let c0_i32_66 : BitVec 32 := 0#32
  let v153 : BitVec 1 := Scalar.cmpi .ne v152 c0_i32_66
  let v157 : BitVec 1 := Scalar.andi v156 v153
  let v158 : BitVec 32 := Scalar.addi v152 v151
  let v159 : BitVec 32 := Scalar.select v157 v158 v152
  ![v159.toNat]
def k0_off14 (i : grid0.Coords) (k0_t3 : Fin k0_t3_loop.trips) : Fin 2 → Nat :=
  let arg0 : BitVec 32 := BitVec.ofNat 32 (i 0).val
  let c2_i32_63 : BitVec 32 := 2#32
  let c0_i32_64 : BitVec 32 := 0#32
  let v150 : BitVec 1 := Scalar.cmpi .eq c2_i32_63 c0_i32_64
  let c1_i32_65 : BitVec 32 := 1#32
  let v151 : BitVec 32 := Scalar.select v150 c1_i32_65 c2_i32_63
  let v152 : BitVec 32 := Scalar.remsi arg0 v151
  let c0_i32_67 : BitVec 32 := 0#32
  let v154 : BitVec 1 := Scalar.cmpi .slt v152 c0_i32_67
  let c0_i32_68 : BitVec 32 := 0#32
  let v155 : BitVec 1 := Scalar.cmpi .slt v151 c0_i32_68
  let v156 : BitVec 1 := Scalar.xori v154 v155
  let c0_i32_66 : BitVec 32 := 0#32
  let v153 : BitVec 1 := Scalar.cmpi .ne v152 c0_i32_66
  let v157 : BitVec 1 := Scalar.andi v156 v153
  let v158 : BitVec 32 := Scalar.addi v152 v151
  let v159 : BitVec 32 := Scalar.select v157 v158 v152
  let c4096_i32_70 : BitVec 32 := 4096#32
  let v166 : BitVec 32 := Scalar.muli v159 c4096_i32_70
  let c0_i32_11 : BitVec 32 := 0#32
  let c1_i32_12 : BitVec 32 := 1#32
  let arg15 : BitVec 32 := Scf.iv c0_i32_11 c1_i32_12 k0_t3
  let c16_i32_71 : BitVec 32 := 16#32
  let v167 : BitVec 32 := Scalar.muli arg15 c16_i32_71
  let v168 : BitVec 32 := Scalar.addi v166 v167
  let v169 : BitVec 32 := v168
  let c0_i32_72 : BitVec 32 := 0#32
  ![v169.toNat, 0]
def k0_off15 (v163 : BitVec 32) : Fin 2 → Nat :=
  let c16_i32 : BitVec 32 := 16#32
  let v164 : BitVec 32 := Scalar.muli v163 c16_i32
  let v165 : BitVec 32 := v164
  let c0_i32_73 : BitVec 32 := 0#32
  ![v165.toNat, 0]

def k0_chk4 (v22 : BitVec 32) (v163 : BitVec 32) : Prop :=
  (∀ (k0_h4 : k0_cond4 v22 = 1#1), 16 ∣ (k0_mult5 v163).toNat) ∧
  (∀ (k0_h4 : k0_cond4 v22 = 1#1), ∀ a, (k0_off15 v163) a + S16x128.size a ≤ S133120x128.size a)
theorem k0_mult5_dvd : ∀ (v22 : BitVec 32) (v163 : BitVec 32) (k0_hw4 : k0_chk4 v22 v163), ∀ (k0_h4 : k0_cond4 v22 = 1#1), 16 ∣ (k0_mult5 v163).toNat := fun v22 v163 k0_hw4 k0_h4 => k0_hw4.1 k0_h4
theorem k0_off15_inb : ∀ (v22 : BitVec 32) (v163 : BitVec 32) (k0_hw4 : k0_chk4 v22 v163), ∀ (k0_h4 : k0_cond4 v22 = 1#1), ∀ a, (k0_off15 v163) a + S16x128.size a ≤ S133120x128.size a := fun v22 v163 k0_hw4 k0_h4 => k0_hw4.2 k0_h4

def k0_off16 (i : grid0.Coords) (c0_i32_19 : BitVec 32) : Fin 2 → Nat :=
  let arg0 : BitVec 32 := BitVec.ofNat 32 (i 0).val
  let c2_i32 : BitVec 32 := 2#32
  let c0_i32_14 : BitVec 32 := 0#32
  let v32 : BitVec 1 := Scalar.cmpi .eq c2_i32 c0_i32_14
  let c1_i32_15 : BitVec 32 := 1#32
  let v33 : BitVec 32 := Scalar.select v32 c1_i32_15 c2_i32
  let v34 : BitVec 32 := Scalar.remsi arg0 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c4096_i32 : BitVec 32 := 4096#32
  let v42 : BitVec 32 := Scalar.muli v41 c4096_i32
  let v43 : BitVec 32 := Scalar.addi v42 c0_i32_19
  let v44 : Index := Scalar.indexCast v43
  let c0_20 : Index := 0#32
  ![v44.toNat, 0]
def k0_off17 (i : grid0.Coords) : Fin 1 → Nat :=
  let arg0 : BitVec 32 := BitVec.ofNat 32 (i 0).val
  let v26 : Index := Scalar.indexCast arg0
  ![v26.toNat]
def k0_cond5 (v27 : BitVec 32) : BitVec 1 :=
  let c0_i32_9 : BitVec 32 := 0#32
  let v28 : BitVec 1 := Scalar.cmpi .eq v27 c0_i32_9
  let v29 : BitVec 32 := Scalar.extui v28
  let c0_i32_10 : BitVec 32 := 0#32
  let v30 : BitVec 1 := Scalar.cmpi .ne v29 c0_i32_10
  v30

def cc0_transform_1 (k0_off1_inb : ∀ i : grid0.Coords, ∀ a, (k0_off1 i) a + S1.size a ≤ S97.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S97) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S97.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S97) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S97.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S97) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S97 : Shape := ⟨1, ![97]⟩
abbrev S24832 : Shape := ⟨1, ![24832]⟩
abbrev S133120x128 : Shape := ⟨2, ![133120, 128]⟩
abbrev S32x2048x512 : Shape := ⟨3, ![32, 2048, 512]⟩
abbrev S32x512x2048 : Shape := ⟨3, ![32, 512, 2048]⟩
abbrev S8320x2048 : Shape := ⟨2, ![8320, 2048]⟩
abbrev S8320x32x512 : Shape := ⟨3, ![8320, 32, 512]⟩
abbrev S_ : Shape := ⟨0, ![]⟩
abbrev S32x2048x8320 : Shape := ⟨3, ![32, 2048, 8320]⟩
abbrev S8320x32x2048 : Shape := ⟨3, ![8320, 32, 2048]⟩
abbrev S97x256 : Shape := ⟨2, ![97, 256]⟩
abbrev S24832x1 : Shape := ⟨2, ![24832, 1]⟩
abbrev S24832x2 : Shape := ⟨2, ![24832, 2]⟩
abbrev S24832x2048 : Shape := ⟨2, ![24832, 2048]⟩
abbrev S397312x128 : Shape := ⟨2, ![397312, 128]⟩

abbrev nBuf : Space → Nat
  | .hbm => 55
  | .vmem => 0
  | .smem => 0
  | _ => 0

abbrev bufTy : (tb : Table) → Fin (tcTables nBuf tb) → BufTy
  | .hbm, ⟨0, _⟩ => ⟨S97, .i32⟩
  | .hbm, ⟨1, _⟩ => ⟨S97, .i32⟩
  | .hbm, ⟨2, _⟩ => ⟨S97, .i32⟩
  | .hbm, ⟨3, _⟩ => ⟨S24832, .i32⟩
  | .hbm, ⟨4, _⟩ => ⟨S133120x128, .f32⟩
  | .hbm, ⟨5, _⟩ => ⟨S32x2048x512, .f32⟩
  | .hbm, ⟨6, _⟩ => ⟨S32x2048x512, .f32⟩
  | .hbm, ⟨7, _⟩ => ⟨S32x512x2048, .f32⟩
  | .hbm, ⟨8, _⟩ => ⟨S8320x2048, .f32⟩
  | .hbm, ⟨9, _⟩ => ⟨S8320x32x512, .f32⟩
  | .hbm, ⟨10, _⟩ => ⟨S8320x32x512, .f32⟩
  | .hbm, ⟨11, _⟩ => ⟨S8320x32x512, .f32⟩
  | .hbm, ⟨12, _⟩ => ⟨S_, .f32⟩
  | .hbm, ⟨13, _⟩ => ⟨S8320x32x512, .f32⟩
  | .hbm, ⟨14, _⟩ => ⟨S8320x32x512, .f32⟩
  | .hbm, ⟨15, _⟩ => ⟨S_, .f32⟩
  | .hbm, ⟨16, _⟩ => ⟨S8320x32x512, .f32⟩
  | .hbm, ⟨17, _⟩ => ⟨S8320x32x512, .f32⟩
  | .hbm, ⟨18, _⟩ => ⟨S8320x32x512, .f32⟩
  | .hbm, ⟨19, _⟩ => ⟨S8320x32x512, .f32⟩
  | .hbm, ⟨20, _⟩ => ⟨S8320x32x512, .f32⟩
  | .hbm, ⟨21, _⟩ => ⟨S32x2048x8320, .f32⟩
  | .hbm, ⟨22, _⟩ => ⟨S8320x32x2048, .f32⟩
  | .hbm, ⟨23, _⟩ => ⟨S97x256, .i32⟩
  | .hbm, ⟨24, _⟩ => ⟨S24832, .i32⟩
  | .hbm, ⟨25, _⟩ => ⟨S97x256, .i32⟩
  | .hbm, ⟨26, _⟩ => ⟨S24832, .i32⟩
  | .hbm, ⟨27, _⟩ => ⟨S_, .i32⟩
  | .hbm, ⟨28, _⟩ => ⟨S24832, .i32⟩
  | .hbm, ⟨29, _⟩ => ⟨S24832, .i1⟩
  | .hbm, ⟨30, _⟩ => ⟨S24832x1, .i1⟩
  | .hbm, ⟨31, _⟩ => ⟨S_, .i32⟩
  | .hbm, ⟨32, _⟩ => ⟨S24832, .i32⟩
  | .hbm, ⟨33, _⟩ => ⟨S24832, .i1⟩
  | .hbm, ⟨34, _⟩ => ⟨S_, .i32⟩
  | .hbm, ⟨35, _⟩ => ⟨S24832, .i32⟩
  | .hbm, ⟨36, _⟩ => ⟨S24832, .i32⟩
  | .hbm, ⟨37, _⟩ => ⟨S24832, .i32⟩
  | .hbm, ⟨38, _⟩ => ⟨S_, .i32⟩
  | .hbm, ⟨39, _⟩ => ⟨S24832, .i32⟩
  | .hbm, ⟨40, _⟩ => ⟨S24832, .i1⟩
  | .hbm, ⟨41, _⟩ => ⟨S_, .i32⟩
  | .hbm, ⟨42, _⟩ => ⟨S24832, .i32⟩
  | .hbm, ⟨43, _⟩ => ⟨S24832, .i32⟩
  | .hbm, ⟨44, _⟩ => ⟨S24832, .i32⟩
  | .hbm, ⟨45, _⟩ => ⟨S24832x1, .i32⟩
  | .hbm, ⟨46, _⟩ => ⟨S24832x1, .i32⟩
  | .hbm, ⟨47, _⟩ => ⟨S24832x2, .i32⟩
  | .hbm, ⟨48, _⟩ => ⟨S24832x2048, .f32⟩
  | .hbm, ⟨49, _⟩ => ⟨S_, .f32⟩
  | .hbm, ⟨50, _⟩ => ⟨S_, .f32⟩
  | .hbm, ⟨51, _⟩ => ⟨S24832x2048, .i1⟩
  | .hbm, ⟨52, _⟩ => ⟨S24832x2048, .f32⟩
  | .hbm, ⟨53, _⟩ => ⟨S24832x2048, .f32⟩
  | .hbm, ⟨54, _⟩ => ⟨S397312x128, .f32⟩
  | _, _ => ⟨S97, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c_0 : Ref sig .tc := ⟨.hbm, 31, rfl⟩
abbrev main_v14 : Ref sig .tc := ⟨.hbm, 32, rfl⟩
abbrev main_v15 : Ref sig .tc := ⟨.hbm, 33, rfl⟩
abbrev main_c_1 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_2 : Ref sig .tc := ⟨.hbm, 38, rfl⟩
abbrev main_v19 : Ref sig .tc := ⟨.hbm, 39, rfl⟩
abbrev main_v20 : Ref sig .tc := ⟨.hbm, 40, rfl⟩
abbrev main_c_3 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v28 : Ref sig .tc := ⟨.hbm, 53, rfl⟩
abbrev main_v29 : Ref sig .tc := ⟨.hbm, 54, rfl⟩

abbrev nD : Nat := 1
abbrev τ : Topo := Topo.v7x

variable {F : FTy → Type} [FloatOps F]
-- ==== Kernel2.lean ====
abbrev S1x8192x2048 : Shape := ⟨3, ![1, 8192, 2048]⟩
abbrev S1x2048x11344 : Shape := ⟨3, ![1, 2048, 11344]⟩
abbrev S8192x2048 : Shape := ⟨2, ![8192, 2048]⟩
abbrev S2048x11344 : Shape := ⟨2, ![2048, 11344]⟩
abbrev S2048x1024 : Shape := ⟨2, ![2048, 1024]⟩
abbrev S8192x1024 : Shape := ⟨2, ![8192, 1024]⟩
abbrev S8x8192x128 : Shape := ⟨3, ![8, 8192, 128]⟩
abbrev S512x2048 : Shape := ⟨2, ![512, 2048]⟩
abbrev S512x1024 : Shape := ⟨2, ![512, 1024]⟩
abbrev S8x512x128 : Shape := ⟨3, ![8, 512, 128]⟩
abbrev S512x128 : Shape := ⟨2, ![512, 128]⟩
abbrev S1x512x128 : Shape := ⟨3, ![1, 512, 128]⟩

abbrev nBuf : Space → Nat
  | .hbm => 9
  | .vmem => 7
  | .smem => 0
  | _ => 0

abbrev bufTy : (tb : Table) → Fin (tcTables nBuf tb) → BufTy
  | .hbm, ⟨0, _⟩ => ⟨S1x8192x2048, .f32⟩
  | .hbm, ⟨1, _⟩ => ⟨S1x2048x11344, .f32⟩
  | .hbm, ⟨2, _⟩ => ⟨S8192x2048, .f32⟩
  | .hbm, ⟨3, _⟩ => ⟨S8192x2048, .bf16⟩
  | .hbm, ⟨4, _⟩ => ⟨S2048x11344, .f32⟩
  | .hbm, ⟨5, _⟩ => ⟨S2048x11344, .bf16⟩
  | .hbm, ⟨6, _⟩ => ⟨S2048x1024, .bf16⟩
  | .hbm, ⟨7, _⟩ => ⟨S8192x1024, .f32⟩
  | .hbm, ⟨8, _⟩ => ⟨S8x8192x128, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | .local _ .vmem, ⟨5, _⟩ => ⟨S8x512x128, .bf16⟩
  | .local _ .vmem, ⟨6, _⟩ => ⟨S8x512x128, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5_0 : Ref sig .tc := ⟨.hbm, 7, rfl⟩
abbrev main_v5_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S1x8192x2048 : Shape := ⟨3, ![1, 8192, 2048]⟩
abbrev S1x2048x11344 : Shape := ⟨3, ![1, 2048, 11344]⟩
abbrev S2048x11344 : Shape := ⟨2, ![2048, 11344]⟩
abbrev S1x8192x11344 : Shape := ⟨3, ![1, 8192, 11344]⟩
abbrev S1x8192x1024 : Shape := ⟨3, ![1, 8192, 1024]⟩
abbrev S1x8192x8x128 : Shape := ⟨4, ![1, 8192, 8, 128]⟩
abbrev S8192x1024 : Shape := ⟨2, ![8192, 1024]⟩
abbrev S8192x8x128 : Shape := ⟨3, ![8192, 8, 128]⟩
abbrev S8x8192x128 : Shape := ⟨3, ![8, 8192, 128]⟩

abbrev nBuf : Space → Nat
  | .hbm => 10
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S1x2048x11344, .f32⟩
  | .hbm, ⟨2, _⟩ => ⟨S2048x11344, .f32⟩
  | .hbm, ⟨3, _⟩ => ⟨S1x8192x11344, .f32⟩
  | .hbm, ⟨4, _⟩ => ⟨S1x8192x1024, .f32⟩
  | .hbm, ⟨5, _⟩ => ⟨S1x8192x8x128, .f32⟩
  | .hbm, ⟨6, _⟩ => ⟨S8192x1024, .f32⟩
  | .hbm, ⟨7, _⟩ => ⟨S8192x8x128, .f32⟩
  | .hbm, ⟨8, _⟩ => ⟨S8x8192x128, .f32⟩
  | .hbm, ⟨9, _⟩ => ⟨S8x8192x128, .bf16⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Kernel3.lean ====
abbrev S1x8192x2048 : Shape := ⟨3, ![1, 8192, 2048]⟩
abbrev S1x2048x11344 : Shape := ⟨3, ![1, 2048, 11344]⟩
abbrev S8192x2048 : Shape := ⟨2, ![8192, 2048]⟩
abbrev S2048x11344 : Shape := ⟨2, ![2048, 11344]⟩
abbrev S2048x1024 : Shape := ⟨2, ![2048, 1024]⟩
abbrev S1024x2048 : Shape := ⟨2, ![1024, 2048]⟩
abbrev S8192x1024 : Shape := ⟨2, ![8192, 1024]⟩
abbrev S8x144x8192 : Shape := ⟨3, ![8, 144, 8192]⟩
abbrev S512x2048 : Shape := ⟨2, ![512, 2048]⟩
abbrev S512x1024 : Shape := ⟨2, ![512, 1024]⟩
abbrev S8x144x512 : Shape := ⟨3, ![8, 144, 512]⟩
abbrev S1024x512 : Shape := ⟨2, ![1024, 512]⟩
abbrev S128x512 : Shape := ⟨2, ![128, 512]⟩
abbrev S1x128x512 : Shape := ⟨3, ![1, 128, 512]⟩
abbrev S16x512 : Shape := ⟨2, ![16, 512]⟩
abbrev S1x16x512 : Shape := ⟨3, ![1, 16, 512]⟩

abbrev nBuf : Space → Nat
  | .hbm => 13
  | .vmem => 8
  | .smem => 0
  | _ => 0

abbrev bufTy : (tb : Table) → Fin (tcTables nBuf tb) → BufTy
  | .hbm, ⟨0, _⟩ => ⟨S1x8192x2048, .f32⟩
  | .hbm, ⟨1, _⟩ => ⟨S1x2048x11344, .f32⟩
  | .hbm, ⟨2, _⟩ => ⟨S8192x2048, .f32⟩
  | .hbm, ⟨3, _⟩ => ⟨S8192x2048, .bf16⟩
  | .hbm, ⟨4, _⟩ => ⟨S2048x11344, .f32⟩
  | .hbm, ⟨5, _⟩ => ⟨S2048x11344, .bf16⟩
  | .hbm, ⟨6, _⟩ => ⟨S2048x1024, .bf16⟩
  | .hbm, ⟨7, _⟩ => ⟨S2048x11344, .f32⟩
  | .hbm, ⟨8, _⟩ => ⟨S2048x11344, .bf16⟩
  | .hbm, ⟨9, _⟩ => ⟨S2048x1024, .bf16⟩
  | .hbm, ⟨10, _⟩ => ⟨S1024x2048, .bf16⟩
  | .hbm, ⟨11, _⟩ => ⟨S8192x1024, .f32⟩
  | .hbm, ⟨12, _⟩ => ⟨S8x144x8192, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S1024x2048, .bf16⟩
  | .local _ .vmem, ⟨4, _⟩ => ⟨S512x1024, .f32⟩
  | .local _ .vmem, ⟨5, _⟩ => ⟨S512x1024, .f32⟩
  | .local _ .vmem, ⟨6, _⟩ => ⟨S8x144x512, .bf16⟩
  | .local _ .vmem, ⟨7, _⟩ => ⟨S8x144x512, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9_0 : Ref sig .tc := ⟨.hbm, 11, rfl⟩
abbrev main_v9_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x144x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S1x8192x2048 : Shape := ⟨3, ![1, 8192, 2048]⟩
abbrev S1x2048x11344 : Shape := ⟨3, ![1, 2048, 11344]⟩
abbrev S2048x11344 : Shape := ⟨2, ![2048, 11344]⟩
abbrev S1x8192x11344 : Shape := ⟨3, ![1, 8192, 11344]⟩
abbrev S1x8192x1024 : Shape := ⟨3, ![1, 8192, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S1x2048x11344, .f32⟩
  | .hbm, ⟨2, _⟩ => ⟨S2048x11344, .f32⟩
  | .hbm, ⟨3, _⟩ => ⟨S1x8192x11344, .f32⟩
  | .hbm, ⟨4, _⟩ => ⟨S1x8192x1024, .f32⟩
  | .hbm, ⟨5, _⟩ => ⟨S8192x1024, .f32⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel4.lean ====
abbrev S1x8192x2048 : Shape := ⟨3, ![1, 8192, 2048]⟩
abbrev S1x2048x11344 : Shape := ⟨3, ![1, 2048, 11344]⟩
abbrev S8192x2048 : Shape := ⟨2, ![8192, 2048]⟩
abbrev S2048x11344 : Shape := ⟨2, ![2048, 11344]⟩
abbrev S2048x1024 : Shape := ⟨2, ![2048, 1024]⟩
abbrev S8192x1024 : Shape := ⟨2, ![8192, 1024]⟩
abbrev S8x8192x128 : Shape := ⟨3, ![8, 8192, 128]⟩
abbrev S512x2048 : Shape := ⟨2, ![512, 2048]⟩
abbrev S512x1024 : Shape := ⟨2, ![512, 1024]⟩
abbrev S8x512x128 : Shape := ⟨3, ![8, 512, 128]⟩
abbrev S512x128 : Shape := ⟨2, ![512, 128]⟩
abbrev S1x512x128 : Shape := ⟨3, ![1, 512, 128]⟩

abbrev nBuf : Space → Nat
  | .hbm => 9
  | .vmem => 7
  | .smem => 0
  | _ => 0

abbrev bufTy : (tb : Table) → Fin (tcTables nBuf tb) → BufTy
  | .hbm, ⟨0, _⟩ => ⟨S1x8192x2048, .f32⟩
  | .hbm, ⟨1, _⟩ => ⟨S1x2048x11344, .f32⟩
  | .hbm, ⟨2, _⟩ => ⟨S8192x2048, .f32⟩
  | .hbm, ⟨3, _⟩ => ⟨S8192x2048, .bf16⟩
  | .hbm, ⟨4, _⟩ => ⟨S2048x11344, .f32⟩
  | .hbm, ⟨5, _⟩ => ⟨S2048x11344, .bf16⟩
  | .hbm, ⟨6, _⟩ => ⟨S2048x1024, .bf16⟩
  | .hbm, ⟨7, _⟩ => ⟨S8192x1024, .f32⟩
  | .hbm, ⟨8, _⟩ => ⟨S8x8192x128, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | .local _ .vmem, ⟨5, _⟩ => ⟨S8x512x128, .bf16⟩
  | .local _ .vmem, ⟨6, _⟩ => ⟨S8x512x128, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5_0 : Ref sig .tc := ⟨.hbm, 7, rfl⟩
abbrev main_v5_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S1x8192x2048 : Shape := ⟨3, ![1, 8192, 2048]⟩
abbrev S1x2048x11344 : Shape := ⟨3, ![1, 2048, 11344]⟩
abbrev S2048x11344 : Shape := ⟨2, ![2048, 11344]⟩
abbrev S1x8192x11344 : Shape := ⟨3, ![1, 8192, 11344]⟩
abbrev S1x8192x1024 : Shape := ⟨3, ![1, 8192, 1024]⟩
abbrev S1x8192x8x128 : Shape := ⟨4, ![1, 8192, 8, 128]⟩
abbrev S8192x1024 : Shape := ⟨2, ![8192, 1024]⟩
abbrev S8192x8x128 : Shape := ⟨3, ![8192, 8, 128]⟩
abbrev S8x8192x128 : Shape := ⟨3, ![8, 8192, 128]⟩

abbrev nBuf : Space → Nat
  | .hbm => 10
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S1x2048x11344, .f32⟩
  | .hbm, ⟨2, _⟩ => ⟨S2048x11344, .f32⟩
  | .hbm, ⟨3, _⟩ => ⟨S1x8192x11344, .f32⟩
  | .hbm, ⟨4, _⟩ => ⟨S1x8192x1024, .f32⟩
  | .hbm, ⟨5, _⟩ => ⟨S1x8192x8x128, .f32⟩
  | .hbm, ⟨6, _⟩ => ⟨S8192x1024, .f32⟩
  | .hbm, ⟨7, _⟩ => ⟨S8192x8x128, .f32⟩
  | .hbm, ⟨8, _⟩ => ⟨S8x8192x128, .f32⟩
  | .hbm, ⟨9, _⟩ => ⟨S8x8192x128, .bf16⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Kernel5.lean ====
abbrev S1x8192x2048 : Shape := ⟨3, ![1, 8192, 2048]⟩
abbrev S1x2048x11344 : Shape := ⟨3, ![1, 2048, 11344]⟩
abbrev S8192x2048 : Shape := ⟨2, ![8192, 2048]⟩
abbrev S2048x11344 : Shape := ⟨2, ![2048, 11344]⟩
abbrev S2048x1024 : Shape := ⟨2, ![2048, 1024]⟩
abbrev S1024x2048 : Shape := ⟨2, ![1024, 2048]⟩
abbrev S8192x1024 : Shape := ⟨2, ![8192, 1024]⟩
abbrev S8x144x8192 : Shape := ⟨3, ![8, 144, 8192]⟩
abbrev S512x2048 : Shape := ⟨2, ![512, 2048]⟩
abbrev S512x1024 : Shape := ⟨2, ![512, 1024]⟩
abbrev S8x144x512 : Shape := ⟨3, ![8, 144, 512]⟩
abbrev S1024x512 : Shape := ⟨2, ![1024, 512]⟩
abbrev S128x512 : Shape := ⟨2, ![128, 512]⟩
abbrev S1x128x512 : Shape := ⟨3, ![1, 128, 512]⟩
abbrev S16x512 : Shape := ⟨2, ![16, 512]⟩
abbrev S1x16x512 : Shape := ⟨3, ![1, 16, 512]⟩

abbrev nBuf : Space → Nat
  | .hbm => 13
  | .vmem => 8
  | .smem => 0
  | _ => 0

abbrev bufTy : (tb : Table) → Fin (tcTables nBuf tb) → BufTy
  | .hbm, ⟨0, _⟩ => ⟨S1x8192x2048, .f32⟩
  | .hbm, ⟨1, _⟩ => ⟨S1x2048x11344, .f32⟩
  | .hbm, ⟨2, _⟩ => ⟨S8192x2048, .f32⟩
  | .hbm, ⟨3, _⟩ => ⟨S8192x2048, .bf16⟩
  | .hbm, ⟨4, _⟩ => ⟨S2048x11344, .f32⟩
  | .hbm, ⟨5, _⟩ => ⟨S2048x11344, .bf16⟩
  | .hbm, ⟨6, _⟩ => ⟨S2048x1024, .bf16⟩
  | .hbm, ⟨7, _⟩ => ⟨S2048x11344, .f32⟩
  | .hbm, ⟨8, _⟩ => ⟨S2048x11344, .bf16⟩
  | .hbm, ⟨9, _⟩ => ⟨S2048x1024, .bf16⟩
  | .hbm, ⟨10, _⟩ => ⟨S1024x2048, .bf16⟩
  | .hbm, ⟨11, _⟩ => ⟨S8192x1024, .f32⟩
  | .hbm, ⟨12, _⟩ => ⟨S8x144x8192, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S1024x2048, .bf16⟩
  | .local _ .vmem, ⟨4, _⟩ => ⟨S512x1024, .f32⟩
  | .local _ .vmem, ⟨5, _⟩ => ⟨S512x1024, .f32⟩
  | .local _ .vmem, ⟨6, _⟩ => ⟨S8x144x512, .bf16⟩
  | .local _ .vmem, ⟨7, _⟩ => ⟨S8x144x512, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9_0 : Ref sig .tc := ⟨.hbm, 11, rfl⟩
abbrev main_v9_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x144x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S1x8192x2048 : Shape := ⟨3, ![1, 8192, 2048]⟩
abbrev S1x2048x11344 : Shape := ⟨3, ![1, 2048, 11344]⟩
abbrev S2048x11344 : Shape := ⟨2, ![2048, 11344]⟩
abbrev S1x8192x11344 : Shape := ⟨3, ![1, 8192, 11344]⟩
abbrev S1x8192x1024 : Shape := ⟨3, ![1, 8192, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S1x2048x11344, .f32⟩
  | .hbm, ⟨2, _⟩ => ⟨S2048x11344, .f32⟩
  | .hbm, ⟨3, _⟩ => ⟨S1x8192x11344, .f32⟩
  | .hbm, ⟨4, _⟩ => ⟨S1x8192x1024, .f32⟩
  | .hbm, ⟨5, _⟩ => ⟨S8192x1024, .f32⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel6.lean ====
abbrev S1x8192x2048 : Shape := ⟨3, ![1, 8192, 2048]⟩
abbrev S1x2048x11344 : Shape := ⟨3, ![1, 2048, 11344]⟩
abbrev S8192x2048 : Shape := ⟨2, ![8192, 2048]⟩
abbrev S2048x11344 : Shape := ⟨2, ![2048, 11344]⟩
abbrev S2048x80 : Shape := ⟨2, ![2048, 80]⟩
abbrev S_ : Shape := ⟨0, ![]⟩
abbrev S2048x48 : Shape := ⟨2, ![2048, 48]⟩
abbrev S2048x128 : Shape := ⟨2, ![2048, 128]⟩
abbrev S8192x128 : Shape := ⟨2, ![8192, 128]⟩
abbrev S8192x64 : Shape := ⟨2, ![8192, 64]⟩
abbrev S512x2048 : Shape := ⟨2, ![512, 2048]⟩
abbrev S512x128 : Shape := ⟨2, ![512, 128]⟩
abbrev S512x64 : Shape := ⟨2, ![512, 64]⟩

abbrev nBuf : Space → Nat
  | .hbm => 13
  | .vmem => 9
  | .smem => 0
  | _ => 0

abbrev bufTy : (tb : Table) → Fin (tcTables nBuf tb) → BufTy
  | .hbm, ⟨0, _⟩ => ⟨S1x8192x2048, .f32⟩
  | .hbm, ⟨1, _⟩ => ⟨S1x2048x11344, .f32⟩
  | .hbm, ⟨2, _⟩ => ⟨S8192x2048, .f32⟩
  | .hbm, ⟨3, _⟩ => ⟨S8192x2048, .bf16⟩
  | .hbm, ⟨4, _⟩ => ⟨S2048x11344, .f32⟩
  | .hbm, ⟨5, _⟩ => ⟨S2048x80, .f32⟩
  | .hbm, ⟨6, _⟩ => ⟨S_, .f32⟩
  | .hbm, ⟨7, _⟩ => ⟨S2048x48, .f32⟩
  | .hbm, ⟨8, _⟩ => ⟨S2048x128, .f32⟩
  | .hbm, ⟨9, _⟩ => ⟨S2048x128, .bf16⟩
  | .hbm, ⟨10, _⟩ => ⟨S8192x128, .f32⟩
  | .hbm, ⟨11, _⟩ => ⟨S8192x64, .f32⟩
  | .hbm, ⟨12, _⟩ => ⟨S8192x64, .bf16⟩
  | .local _ .vmem, ⟨0, _⟩ => ⟨S512x2048, .bf16⟩
  | .local _ .vmem, ⟨1, _⟩ => ⟨S512x2048, .bf16⟩
  | .local _ .vmem, ⟨2, _⟩ => ⟨S2048x128, .bf16⟩
  | .local _ .vmem, ⟨3, _⟩ => ⟨S512x128, .f32⟩
  | .local _ .vmem, ⟨4, _⟩ => ⟨S512x128, .f32⟩
  | .local _ .vmem, ⟨5, _⟩ => ⟨S512x64, .f32⟩
  | .local _ .vmem, ⟨6, _⟩ => ⟨S512x64, .f32⟩
  | .local _ .vmem, ⟨7, _⟩ => ⟨S512x64, .bf16⟩
  | .local _ .vmem, ⟨8, _⟩ => ⟨S512x64, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev main_v7_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S1x8192x2048 : Shape := ⟨3, ![1, 8192, 2048]⟩
abbrev S1x2048x11344 : Shape := ⟨3, ![1, 2048, 11344]⟩
abbrev S2048x11344 : Shape := ⟨2, ![2048, 11344]⟩
abbrev S1x8192x11344 : Shape := ⟨3, ![1, 8192, 11344]⟩
abbrev S1x8192x64 : Shape := ⟨3, ![1, 8192, 64]⟩
abbrev S8192x64 : Shape := ⟨2, ![8192, 64]⟩

abbrev nBuf : Space → Nat
  | .hbm => 7
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S1x2048x11344, .f32⟩
  | .hbm, ⟨2, _⟩ => ⟨S2048x11344, .f32⟩
  | .hbm, ⟨3, _⟩ => ⟨S1x8192x11344, .f32⟩
  | .hbm, ⟨4, _⟩ => ⟨S1x8192x64, .f32⟩
  | .hbm, ⟨5, _⟩ => ⟨S8192x64, .f32⟩
  | .hbm, ⟨6, _⟩ => ⟨S8192x64, .bf16⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel7.lean ====
abbrev S32x4x2048 : Shape := ⟨3, ![32, 4, 2048]⟩
abbrev S1x2048x11344 : Shape := ⟨3, ![1, 2048, 11344]⟩
abbrev S128x2048 : Shape := ⟨2, ![128, 2048]⟩
abbrev S2048x11344 : Shape := ⟨2, ![2048, 11344]⟩
abbrev S2048x1024 : Shape := ⟨2, ![2048, 1024]⟩
abbrev S128x1024 : Shape := ⟨2, ![128, 1024]⟩

abbrev nBuf : Space → Nat
  | .hbm => 8
  | .vmem => 3
  | .smem => 0
  | _ => 0

abbrev bufTy : (tb : Table) → Fin (tcTables nBuf tb) → BufTy
  | .hbm, ⟨0, _⟩ => ⟨S32x4x2048, .f32⟩
  | .hbm, ⟨1, _⟩ => ⟨S1x2048x11344, .f32⟩
  | .hbm, ⟨2, _⟩ => ⟨S128x2048, .f32⟩
  | .hbm, ⟨3, _⟩ => ⟨S128x2048, .bf16⟩
  | .hbm, ⟨4, _⟩ => ⟨S2048x11344, .f32⟩
  | .hbm, ⟨5, _⟩ => ⟨S2048x11344, .bf16⟩
  | .hbm, ⟨6, _⟩ => ⟨S2048x1024, .bf16⟩
  | .hbm, ⟨7, _⟩ => ⟨S128x1024, .f32⟩
  | .local _ .vmem, ⟨0, _⟩ => ⟨S128x2048, .bf16⟩
  | .local _ .vmem, ⟨1, _⟩ => ⟨S2048x1024, .bf16⟩
  | .local _ .vmem, ⟨2, _⟩ => ⟨S128x1024, .f32⟩
  | _, _ => ⟨S32x4x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference7Ideal.lean ====
abbrev S32x4x2048 : Shape := ⟨3, ![32, 4, 2048]⟩
abbrev S1x2048x11344 : Shape := ⟨3, ![1, 2048, 11344]⟩
abbrev S2048x11344 : Shape := ⟨2, ![2048, 11344]⟩
abbrev S32x4x11344 : Shape := ⟨3, ![32, 4, 11344]⟩
abbrev S32x4x1024 : Shape := ⟨3, ![32, 4, 1024]⟩
abbrev S128x1024 : Shape := ⟨2, ![128, 1024]⟩

abbrev nBuf : Space → Nat
  | .hbm => 6
  | .vmem => 0
  | .smem => 0
  | _ => 0

abbrev bufTy : (tb : Table) → Fin (tcTables nBuf tb) → BufTy
  | .hbm, ⟨0, _⟩ => ⟨S32x4x2048, .f32⟩
  | .hbm, ⟨1, _⟩ => ⟨S1x2048x11344, .f32⟩
  | .hbm, ⟨2, _⟩ => ⟨S2048x11344, .f32⟩
  | .hbm, ⟨3, _⟩ => ⟨S32x4x11344, .f32⟩
  | .hbm, ⟨4, _⟩ => ⟨S32x4x1024, .f32⟩
  | .hbm, ⟨5, _⟩ => ⟨S128x1024, .f32⟩
  | _, _ => ⟨S32x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel8.lean ====
abbrev S32x4x2048 : Shape := ⟨3, ![32, 4, 2048]⟩
abbrev S1x2048x11344 : Shape := ⟨3, ![1, 2048, 11344]⟩
abbrev S128x2048 : Shape := ⟨2, ![128, 2048]⟩
abbrev S2048x11344 : Shape := ⟨2, ![2048, 11344]⟩
abbrev S2048x1024 : Shape := ⟨2, ![2048, 1024]⟩
abbrev S128x1024 : Shape := ⟨2, ![128, 1024]⟩

abbrev nBuf : Space → Nat
  | .hbm => 8
  | .vmem => 3
  | .smem => 0
  | _ => 0

abbrev bufTy : (tb : Table) → Fin (tcTables nBuf tb) → BufTy
  | .hbm, ⟨0, _⟩ => ⟨S32x4x2048, .f32⟩
  | .hbm, ⟨1, _⟩ => ⟨S1x2048x11344, .f32⟩
  | .hbm, ⟨2, _⟩ => ⟨S128x2048, .f32⟩
  | .hbm, ⟨3, _⟩ => ⟨S128x2048, .bf16⟩
  | .hbm, ⟨4, _⟩ => ⟨S2048x11344, .f32⟩
  | .hbm, ⟨5, _⟩ => ⟨S2048x11344, .bf16⟩
  | .hbm, ⟨6, _⟩ => ⟨S2048x1024, .bf16⟩
  | .hbm, ⟨7, _⟩ => ⟨S128x1024, .f32⟩
  | .local _ .vmem, ⟨0, _⟩ => ⟨S128x2048, .bf16⟩
  | .local _ .vmem, ⟨1, _⟩ => ⟨S2048x1024, .bf16⟩
  | .local _ .vmem, ⟨2, _⟩ => ⟨S128x1024, .f32⟩
  | _, _ => ⟨S32x4x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference8Ideal.lean ====
abbrev S32x4x2048 : Shape := ⟨3, ![32, 4, 2048]⟩
abbrev S1x2048x11344 : Shape := ⟨3, ![1, 2048, 11344]⟩
abbrev S2048x11344 : Shape := ⟨2, ![2048, 11344]⟩
abbrev S32x4x11344 : Shape := ⟨3, ![32, 4, 11344]⟩
abbrev S32x4x1024 : Shape := ⟨3, ![32, 4, 1024]⟩
abbrev S128x1024 : Shape := ⟨2, ![128, 1024]⟩

abbrev nBuf : Space → Nat
  | .hbm => 6
  | .vmem => 0
  | .smem => 0
  | _ => 0

abbrev bufTy : (tb : Table) → Fin (tcTables nBuf tb) → BufTy
  | .hbm, ⟨0, _⟩ => ⟨S32x4x2048, .f32⟩
  | .hbm, ⟨1, _⟩ => ⟨S1x2048x11344, .f32⟩
  | .hbm, ⟨2, _⟩ => ⟨S2048x11344, .f32⟩
  | .hbm, ⟨3, _⟩ => ⟨S32x4x11344, .f32⟩
  | .hbm, ⟨4, _⟩ => ⟨S32x4x1024, .f32⟩
  | .hbm, ⟨5, _⟩ => ⟨S128x1024, .f32⟩
  | _, _ => ⟨S32x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel9.lean ====
abbrev S32x4x2048 : Shape := ⟨3, ![32, 4, 2048]⟩
abbrev S1x2048x11344 : Shape := ⟨3, ![1, 2048, 11344]⟩
abbrev S128x2048 : Shape := ⟨2, ![128, 2048]⟩
abbrev S2048x11344 : Shape := ⟨2, ![2048, 11344]⟩
abbrev S2048x1024 : Shape := ⟨2, ![2048, 1024]⟩
abbrev S128x1024 : Shape := ⟨2, ![128, 1024]⟩

abbrev nBuf : Space → Nat
  | .hbm => 8
  | .vmem => 3
  | .smem => 0
  | _ => 0

abbrev bufTy : (tb : Table) → Fin (tcTables nBuf tb) → BufTy
  | .hbm, ⟨0, _⟩ => ⟨S32x4x2048, .f32⟩
  | .hbm, ⟨1, _⟩ => ⟨S1x2048x11344, .f32⟩
  | .hbm, ⟨2, _⟩ => ⟨S128x2048, .f32⟩
  | .hbm, ⟨3, _⟩ => ⟨S128x2048, .bf16⟩
  | .hbm, ⟨4, _⟩ => ⟨S2048x11344, .f32⟩
  | .hbm, ⟨5, _⟩ => ⟨S2048x11344, .bf16⟩
  | .hbm, ⟨6, _⟩ => ⟨S2048x1024, .bf16⟩
  | .hbm, ⟨7, _⟩ => ⟨S128x1024, .f32⟩
  | .local _ .vmem, ⟨0, _⟩ => ⟨S128x2048, .bf16⟩
  | .local _ .vmem, ⟨1, _⟩ => ⟨S2048x1024, .bf16⟩
  | .local _ .vmem, ⟨2, _⟩ => ⟨S128x1024, .f32⟩
  | _, _ => ⟨S32x4x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference9Ideal.lean ====
abbrev S32x4x2048 : Shape := ⟨3, ![32, 4, 2048]⟩
abbrev S1x2048x11344 : Shape := ⟨3, ![1, 2048, 11344]⟩
abbrev S2048x11344 : Shape := ⟨2, ![2048, 11344]⟩
abbrev S32x4x11344 : Shape := ⟨3, ![32, 4, 11344]⟩
abbrev S32x4x1024 : Shape := ⟨3, ![32, 4, 1024]⟩
abbrev S128x1024 : Shape := ⟨2, ![128, 1024]⟩

abbrev nBuf : Space → Nat
  | .hbm => 6
  | .vmem => 0
  | .smem => 0
  | _ => 0

abbrev bufTy : (tb : Table) → Fin (tcTables nBuf tb) → BufTy
  | .hbm, ⟨0, _⟩ => ⟨S32x4x2048, .f32⟩
  | .hbm, ⟨1, _⟩ => ⟨S1x2048x11344, .f32⟩
  | .hbm, ⟨2, _⟩ => ⟨S2048x11344, .f32⟩
  | .hbm, ⟨3, _⟩ => ⟨S32x4x11344, .f32⟩
  | .hbm, ⟨4, _⟩ => ⟨S32x4x1024, .f32⟩
  | .hbm, ⟨5, _⟩ => ⟨S128x1024, .f32⟩
  | _, _ => ⟨S32x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel10.lean ====
abbrev S32x4x2048 : Shape := ⟨3, ![32, 4, 2048]⟩
abbrev S1x2048x11344 : Shape := ⟨3, ![1, 2048, 11344]⟩
abbrev S128x2048 : Shape := ⟨2, ![128, 2048]⟩
abbrev S2048x11344 : Shape := ⟨2, ![2048, 11344]⟩
abbrev S2048x1024 : Shape := ⟨2, ![2048, 1024]⟩
abbrev S128x1024 : Shape := ⟨2, ![128, 1024]⟩

abbrev nBuf : Space → Nat
  | .hbm => 8
  | .vmem => 3
  | .smem => 0
  | _ => 0

abbrev bufTy : (tb : Table) → Fin (tcTables nBuf tb) → BufTy
  | .hbm, ⟨0, _⟩ => ⟨S32x4x2048, .f32⟩
  | .hbm, ⟨1, _⟩ => ⟨S1x2048x11344, .f32⟩
  | .hbm, ⟨2, _⟩ => ⟨S128x2048, .f32⟩
  | .hbm, ⟨3, _⟩ => ⟨S128x2048, .bf16⟩
  | .hbm, ⟨4, _⟩ => ⟨S2048x11344, .f32⟩
  | .hbm, ⟨5, _⟩ => ⟨S2048x11344, .bf16⟩
  | .hbm, ⟨6, _⟩ => ⟨S2048x1024, .bf16⟩
  | .hbm, ⟨7, _⟩ => ⟨S128x1024, .f32⟩
  | .local _ .vmem, ⟨0, _⟩ => ⟨S128x2048, .bf16⟩
  | .local _ .vmem, ⟨1, _⟩ => ⟨S2048x1024, .bf16⟩
  | .local _ .vmem, ⟨2, _⟩ => ⟨S128x1024, .f32⟩
  | _, _ => ⟨S32x4x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference10Ideal.lean ====
abbrev S32x4x2048 : Shape := ⟨3, ![32, 4, 2048]⟩
abbrev S1x2048x11344 : Shape := ⟨3, ![1, 2048, 11344]⟩
abbrev S2048x11344 : Shape := ⟨2, ![2048, 11344]⟩
abbrev S32x4x11344 : Shape := ⟨3, ![32, 4, 11344]⟩
abbrev S32x4x1024 : Shape := ⟨3, ![32, 4, 1024]⟩
abbrev S128x1024 : Shape := ⟨2, ![128, 1024]⟩

abbrev nBuf : Space → Nat
  | .hbm => 6
  | .vmem => 0
  | .smem => 0
  | _ => 0

abbrev bufTy : (tb : Table) → Fin (tcTables nBuf tb) → BufTy
  | .hbm, ⟨0, _⟩ => ⟨S32x4x2048, .f32⟩
  | .hbm, ⟨1, _⟩ => ⟨S1x2048x11344, .f32⟩
  | .hbm, ⟨2, _⟩ => ⟨S2048x11344, .f32⟩
  | .hbm, ⟨3, _⟩ => ⟨S32x4x11344, .f32⟩
  | .hbm, ⟨4, _⟩ => ⟨S32x4x1024, .f32⟩
  | .hbm, ⟨5, _⟩ => ⟨S128x1024, .f32⟩
  | _, _ => ⟨S32x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel11.lean ====
abbrev S32x4x2048 : Shape := ⟨3, ![32, 4, 2048]⟩
abbrev S1x2048x11344 : Shape := ⟨3, ![1, 2048, 11344]⟩
abbrev S128x2048 : Shape := ⟨2, ![128, 2048]⟩
abbrev S2048x11344 : Shape := ⟨2, ![2048, 11344]⟩
abbrev S2048x80 : Shape := ⟨2, ![2048, 80]⟩
abbrev S_ : Shape := ⟨0, ![]⟩
abbrev S2048x48 : Shape := ⟨2, ![2048, 48]⟩
abbrev S2048x128 : Shape := ⟨2, ![2048, 128]⟩
abbrev S128x128 : Shape := ⟨2, ![128, 128]⟩
abbrev S128x64 : Shape := ⟨2, ![128, 64]⟩

abbrev nBuf : Space → Nat
  | .hbm => 13
  | .vmem => 5
  | .smem => 0
  | _ => 0

abbrev bufTy : (tb : Table) → Fin (tcTables nBuf tb) → BufTy
  | .hbm, ⟨0, _⟩ => ⟨S32x4x2048, .f32⟩
  | .hbm, ⟨1, _⟩ => ⟨S1x2048x11344, .f32⟩
  | .hbm, ⟨2, _⟩ => ⟨S128x2048, .f32⟩
  | .hbm, ⟨3, _⟩ => ⟨S128x2048, .bf16⟩
  | .hbm, ⟨4, _⟩ => ⟨S2048x11344, .f32⟩
  | .hbm, ⟨5, _⟩ => ⟨S2048x80, .f32⟩
  | .hbm, ⟨6, _⟩ => ⟨S_, .f32⟩
  | .hbm, ⟨7, _⟩ => ⟨S2048x48, .f32⟩
  | .hbm, ⟨8, _⟩ => ⟨S2048x128, .f32⟩
  | .hbm, ⟨9, _⟩ => ⟨S2048x128, .bf16⟩
  | .hbm, ⟨10, _⟩ => ⟨S128x128, .f32⟩
  | .hbm, ⟨11, _⟩ => ⟨S128x64, .f32⟩
  | .hbm, ⟨12, _⟩ => ⟨S128x64, .bf16⟩
  | .local _ .vmem, ⟨0, _⟩ => ⟨S128x2048, .bf16⟩
  | .local _ .vmem, ⟨1, _⟩ => ⟨S2048x128, .bf16⟩
  | .local _ .vmem, ⟨2, _⟩ => ⟨S128x128, .f32⟩
  | .local _ .vmem, ⟨3, _⟩ => ⟨S128x64, .f32⟩
  | .local _ .vmem, ⟨4, _⟩ => ⟨S128x64, .bf16⟩
  | _, _ => ⟨S32x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev main_v7_2 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== Reference11Ideal.lean ====
abbrev S32x4x2048 : Shape := ⟨3, ![32, 4, 2048]⟩
abbrev S1x2048x11344 : Shape := ⟨3, ![1, 2048, 11344]⟩
abbrev S2048x11344 : Shape := ⟨2, ![2048, 11344]⟩
abbrev S32x4x11344 : Shape := ⟨3, ![32, 4, 11344]⟩
abbrev S32x4x64 : Shape := ⟨3, ![32, 4, 64]⟩
abbrev S128x64 : Shape := ⟨2, ![128, 64]⟩

abbrev nBuf : Space → Nat
  | .hbm => 7
  | .vmem => 0
  | .smem => 0
  | _ => 0

abbrev bufTy : (tb : Table) → Fin (tcTables nBuf tb) → BufTy
  | .hbm, ⟨0, _⟩ => ⟨S32x4x2048, .f32⟩
  | .hbm, ⟨1, _⟩ => ⟨S1x2048x11344, .f32⟩
  | .hbm, ⟨2, _⟩ => ⟨S2048x11344, .f32⟩
  | .hbm, ⟨3, _⟩ => ⟨S32x4x11344, .f32⟩
  | .hbm, ⟨4, _⟩ => ⟨S32x4x64, .f32⟩
  | .hbm, ⟨5, _⟩ => ⟨S128x64, .f32⟩
  | .hbm, ⟨6, _⟩ => ⟨S128x64, .bf16⟩
  | _, _ => ⟨S32x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel12.lean ====
abbrev S1x8192x2048 : Shape := ⟨3, ![1, 8192, 2048]⟩
abbrev S1x2048x11344 : Shape := ⟨3, ![1, 2048, 11344]⟩
abbrev S8192x2048 : Shape := ⟨2, ![8192, 2048]⟩
abbrev S2048x11344 : Shape := ⟨2, ![2048, 11344]⟩
abbrev S2048x1024 : Shape := ⟨2, ![2048, 1024]⟩
abbrev S8x8192x128 : Shape := ⟨3, ![8, 8192, 128]⟩
abbrev S512x2048 : Shape := ⟨2, ![512, 2048]⟩
abbrev S8x512x128 : Shape := ⟨3, ![8, 512, 128]⟩
abbrev S512x1024 : Shape := ⟨2, ![512, 1024]⟩
abbrev S512x128 : Shape := ⟨2, ![512, 128]⟩
abbrev S1x512x128 : Shape := ⟨3, ![1, 512, 128]⟩

abbrev nBuf : Space → Nat
  | .hbm => 8
  | .vmem => 5
  | .smem => 0
  | _ => 0

abbrev bufTy : (tb : Table) → Fin (tcTables nBuf tb) → BufTy
  | .hbm, ⟨0, _⟩ => ⟨S1x8192x2048, .f32⟩
  | .hbm, ⟨1, _⟩ => ⟨S1x2048x11344, .f32⟩
  | .hbm, ⟨2, _⟩ => ⟨S8192x2048, .f32⟩
  | .hbm, ⟨3, _⟩ => ⟨S8192x2048, .bf16⟩
  | .hbm, ⟨4, _⟩ => ⟨S2048x11344, .f32⟩
  | .hbm, ⟨5, _⟩ => ⟨S2048x11344, .bf16⟩
  | .hbm, ⟨6, _⟩ => ⟨S2048x1024, .bf16⟩
  | .hbm, ⟨7, _⟩ => ⟨S8x8192x128, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S8x512x128, .bf16⟩
  | .local _ .vmem, ⟨4, _⟩ => ⟨S8x512x128, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference12Ideal.lean ====
abbrev S1x8192x2048 : Shape := ⟨3, ![1, 8192, 2048]⟩
abbrev S1x2048x11344 : Shape := ⟨3, ![1, 2048, 11344]⟩
abbrev S2048x11344 : Shape := ⟨2, ![2048, 11344]⟩
abbrev S1x8192x11344 : Shape := ⟨3, ![1, 8192, 11344]⟩
abbrev S1x8192x1024 : Shape := ⟨3, ![1, 8192, 1024]⟩
abbrev S1x8192x8x128 : Shape := ⟨4, ![1, 8192, 8, 128]⟩
abbrev S8192x8x128 : Shape := ⟨3, ![8192, 8, 128]⟩
abbrev S8x8192x128 : Shape := ⟨3, ![8, 8192, 128]⟩

abbrev nBuf : Space → Nat
  | .hbm => 9
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S1x2048x11344, .f32⟩
  | .hbm, ⟨2, _⟩ => ⟨S2048x11344, .f32⟩
  | .hbm, ⟨3, _⟩ => ⟨S1x8192x11344, .f32⟩
  | .hbm, ⟨4, _⟩ => ⟨S1x8192x1024, .f32⟩
  | .hbm, ⟨5, _⟩ => ⟨S1x8192x8x128, .f32⟩
  | .hbm, ⟨6, _⟩ => ⟨S8192x8x128, .f32⟩
  | .hbm, ⟨7, _⟩ => ⟨S8x8192x128, .f32⟩
  | .hbm, ⟨8, _⟩ => ⟨S8x8192x128, .bf16⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel13.lean ====
abbrev S1x8192x2048 : Shape := ⟨3, ![1, 8192, 2048]⟩
abbrev S1x2048x11344 : Shape := ⟨3, ![1, 2048, 11344]⟩
abbrev S8192x2048 : Shape := ⟨2, ![8192, 2048]⟩
abbrev S2048x11344 : Shape := ⟨2, ![2048, 11344]⟩
abbrev S2048x1024 : Shape := ⟨2, ![2048, 1024]⟩
abbrev S8192x1024 : Shape := ⟨2, ![8192, 1024]⟩
abbrev S512x2048 : Shape := ⟨2, ![512, 2048]⟩
abbrev S512x1024 : Shape := ⟨2, ![512, 1024]⟩

abbrev nBuf : Space → Nat
  | .hbm => 8
  | .vmem => 5
  | .smem => 0
  | _ => 0

abbrev bufTy : (tb : Table) → Fin (tcTables nBuf tb) → BufTy
  | .hbm, ⟨0, _⟩ => ⟨S1x8192x2048, .f32⟩
  | .hbm, ⟨1, _⟩ => ⟨S1x2048x11344, .f32⟩
  | .hbm, ⟨2, _⟩ => ⟨S8192x2048, .f32⟩
  | .hbm, ⟨3, _⟩ => ⟨S8192x2048, .bf16⟩
  | .hbm, ⟨4, _⟩ => ⟨S2048x11344, .f32⟩
  | .hbm, ⟨5, _⟩ => ⟨S2048x11344, .bf16⟩
  | .hbm, ⟨6, _⟩ => ⟨S2048x1024, .bf16⟩
  | .hbm, ⟨7, _⟩ => ⟨S8192x1024, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .bf16⟩
  | .local _ .vmem, ⟨4, _⟩ => ⟨S512x1024, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference13Ideal.lean ====
abbrev S1x8192x2048 : Shape := ⟨3, ![1, 8192, 2048]⟩
abbrev S1x2048x11344 : Shape := ⟨3, ![1, 2048, 11344]⟩
abbrev S2048x11344 : Shape := ⟨2, ![2048, 11344]⟩
abbrev S1x8192x11344 : Shape := ⟨3, ![1, 8192, 11344]⟩
abbrev S1x8192x1024 : Shape := ⟨3, ![1, 8192, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S1x2048x11344, .f32⟩
  | .hbm, ⟨2, _⟩ => ⟨S2048x11344, .f32⟩
  | .hbm, ⟨3, _⟩ => ⟨S1x8192x11344, .f32⟩
  | .hbm, ⟨4, _⟩ => ⟨S1x8192x1024, .f32⟩
  | .hbm, ⟨5, _⟩ => ⟨S8192x1024, .f32⟩
  | .hbm, ⟨6, _⟩ => ⟨S8192x1024, .bf16⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel14.lean ====
abbrev S1x8192x2048 : Shape := ⟨3, ![1, 8192, 2048]⟩
abbrev S1x2048x11344 : Shape := ⟨3, ![1, 2048, 11344]⟩
abbrev S8192x2048 : Shape := ⟨2, ![8192, 2048]⟩
abbrev S2048x11344 : Shape := ⟨2, ![2048, 11344]⟩
abbrev S2048x2048 : Shape := ⟨2, ![2048, 2048]⟩
abbrev S512x2048 : Shape := ⟨2, ![512, 2048]⟩

abbrev nBuf : Space → Nat
  | .hbm => 8
  | .vmem => 5
  | .smem => 0
  | _ => 0

abbrev bufTy : (tb : Table) → Fin (tcTables nBuf tb) → BufTy
  | .hbm, ⟨0, _⟩ => ⟨S1x8192x2048, .f32⟩
  | .hbm, ⟨1, _⟩ => ⟨S1x2048x11344, .f32⟩
  | .hbm, ⟨2, _⟩ => ⟨S8192x2048, .f32⟩
  | .hbm, ⟨3, _⟩ => ⟨S8192x2048, .bf16⟩
  | .hbm, ⟨4, _⟩ => ⟨S2048x11344, .f32⟩
  | .hbm, ⟨5, _⟩ => ⟨S2048x11344, .bf16⟩
  | .hbm, ⟨6, _⟩ => ⟨S2048x2048, .bf16⟩
  | .hbm, ⟨7, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference14Ideal.lean ====
abbrev S1x8192x2048 : Shape := ⟨3, ![1, 8192, 2048]⟩
abbrev S1x2048x11344 : Shape := ⟨3, ![1, 2048, 11344]⟩
abbrev S2048x11344 : Shape := ⟨2, ![2048, 11344]⟩
abbrev S1x8192x11344 : Shape := ⟨3, ![1, 8192, 11344]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S1x2048x11344, .f32⟩
  | .hbm, ⟨2, _⟩ => ⟨S2048x11344, .f32⟩
  | .hbm, ⟨3, _⟩ => ⟨S1x8192x11344, .f32⟩
  | .hbm, ⟨4, _⟩ => ⟨S1x8192x2048, .f32⟩
  | .hbm, ⟨5, _⟩ => ⟨S8192x2048, .f32⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel15.lean ====
abbrev S1x8192x2048 : Shape := ⟨3, ![1, 8192, 2048]⟩
abbrev S1x2048x11344 : Shape := ⟨3, ![1, 2048, 11344]⟩
abbrev S8192x2048 : Shape := ⟨2, ![8192, 2048]⟩
abbrev S2048x11344 : Shape := ⟨2, ![2048, 11344]⟩
abbrev S2048x2048 : Shape := ⟨2, ![2048, 2048]⟩
abbrev S512x2048 : Shape := ⟨2, ![512, 2048]⟩

abbrev nBuf : Space → Nat
  | .hbm => 8
  | .vmem => 5
  | .smem => 0
  | _ => 0

abbrev bufTy : (tb : Table) → Fin (tcTables nBuf tb) → BufTy
  | .hbm, ⟨0, _⟩ => ⟨S1x8192x2048, .f32⟩
  | .hbm, ⟨1, _⟩ => ⟨S1x2048x11344, .f32⟩
  | .hbm, ⟨2, _⟩ => ⟨S8192x2048, .f32⟩
  | .hbm, ⟨3, _⟩ => ⟨S8192x2048, .bf16⟩
  | .hbm, ⟨4, _⟩ => ⟨S2048x11344, .f32⟩
  | .hbm, ⟨5, _⟩ => ⟨S2048x11344, .bf16⟩
  | .hbm, ⟨6, _⟩ => ⟨S2048x2048, .bf16⟩
  | .hbm, ⟨7, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference15Ideal.lean ====
abbrev S1x8192x2048 : Shape := ⟨3, ![1, 8192, 2048]⟩
abbrev S1x2048x11344 : Shape := ⟨3, ![1, 2048, 11344]⟩
abbrev S2048x11344 : Shape := ⟨2, ![2048, 11344]⟩
abbrev S1x8192x11344 : Shape := ⟨3, ![1, 8192, 11344]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S1x2048x11344, .f32⟩
  | .hbm, ⟨2, _⟩ => ⟨S2048x11344, .f32⟩
  | .hbm, ⟨3, _⟩ => ⟨S1x8192x11344, .f32⟩
  | .hbm, ⟨4, _⟩ => ⟨S1x8192x2048, .f32⟩
  | .hbm, ⟨5, _⟩ => ⟨S8192x2048, .f32⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel16.lean ====
abbrev S1x8192x2048 : Shape := ⟨3, ![1, 8192, 2048]⟩
abbrev S1x2048x11344 : Shape := ⟨3, ![1, 2048, 11344]⟩
abbrev S8192x2048 : Shape := ⟨2, ![8192, 2048]⟩
abbrev S2048x11344 : Shape := ⟨2, ![2048, 11344]⟩
abbrev S2048x1024 : Shape := ⟨2, ![2048, 1024]⟩
abbrev S8x2x8192x128 : Shape := ⟨4, ![8, 2, 8192, 128]⟩
abbrev S512x2048 : Shape := ⟨2, ![512, 2048]⟩
abbrev S8x2x512x128 : Shape := ⟨4, ![8, 2, 512, 128]⟩
abbrev S512x1024 : Shape := ⟨2, ![512, 1024]⟩
abbrev S512x128 : Shape := ⟨2, ![512, 128]⟩
abbrev S1x1x512x128 : Shape := ⟨4, ![1, 1, 512, 128]⟩

abbrev nBuf : Space → Nat
  | .hbm => 8
  | .vmem => 5
  | .smem => 0
  | _ => 0

abbrev bufTy : (tb : Table) → Fin (tcTables nBuf tb) → BufTy
  | .hbm, ⟨0, _⟩ => ⟨S1x8192x2048, .f32⟩
  | .hbm, ⟨1, _⟩ => ⟨S1x2048x11344, .f32⟩
  | .hbm, ⟨2, _⟩ => ⟨S8192x2048, .f32⟩
  | .hbm, ⟨3, _⟩ => ⟨S8192x2048, .bf16⟩
  | .hbm, ⟨4, _⟩ => ⟨S2048x11344, .f32⟩
  | .hbm, ⟨5, _⟩ => ⟨S2048x11344, .bf16⟩
  | .hbm, ⟨6, _⟩ => ⟨S2048x1024, .bf16⟩
  | .hbm, ⟨7, _⟩ => ⟨S8x2x8192x128, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S8x2x512x128, .bf16⟩
  | .local _ .vmem, ⟨4, _⟩ => ⟨S8x2x512x128, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x2x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference16Ideal.lean ====
abbrev S1x8192x2048 : Shape := ⟨3, ![1, 8192, 2048]⟩
abbrev S1x2048x11344 : Shape := ⟨3, ![1, 2048, 11344]⟩
abbrev S2048x11344 : Shape := ⟨2, ![2048, 11344]⟩
abbrev S1x8192x11344 : Shape := ⟨3, ![1, 8192, 11344]⟩
abbrev S1x8192x1024 : Shape := ⟨3, ![1, 8192, 1024]⟩
abbrev S8192x8x128 : Shape := ⟨3, ![8192, 8, 128]⟩
abbrev S_ : Shape := ⟨0, ![]⟩
abbrev S8192x8x64 : Shape := ⟨3, ![8192, 8, 64]⟩
abbrev S1x8192x8x128 : Shape := ⟨4, ![1, 8192, 8, 128]⟩
abbrev S2x8192x8x128 : Shape := ⟨4, ![2, 8192, 8, 128]⟩
abbrev S8x2x8192x128 : Shape := ⟨4, ![8, 2, 8192, 128]⟩

abbrev nBuf : Space → Nat
  | .hbm => 20
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S1x2048x11344, .f32⟩
  | .hbm, ⟨2, _⟩ => ⟨S2048x11344, .f32⟩
  | .hbm, ⟨3, _⟩ => ⟨S1x8192x11344, .f32⟩
  | .hbm, ⟨4, _⟩ => ⟨S1x8192x1024, .f32⟩
  | .hbm, ⟨5, _⟩ => ⟨S8192x8x128, .f32⟩
  | .hbm, ⟨6, _⟩ => ⟨S_, .f32⟩
  | .hbm, ⟨7, _⟩ => ⟨S8192x8x128, .f32⟩
  | .hbm, ⟨8, _⟩ => ⟨S8192x8x128, .f32⟩
  | .hbm, ⟨9, _⟩ => ⟨S_, .f32⟩
  | .hbm, ⟨10, _⟩ => ⟨S8192x8x64, .f32⟩
  | .hbm, ⟨11, _⟩ => ⟨S8192x8x64, .f32⟩
  | .hbm, ⟨12, _⟩ => ⟨S8192x8x128, .f32⟩
  | .hbm, ⟨13, _⟩ => ⟨S8192x8x64, .f32⟩
  | .hbm, ⟨14, _⟩ => ⟨S8192x8x128, .f32⟩
  | .hbm, ⟨15, _⟩ => ⟨S1x8192x8x128, .f32⟩
  | .hbm, ⟨16, _⟩ => ⟨S1x8192x8x128, .f32⟩
  | .hbm, ⟨17, _⟩ => ⟨S2x8192x8x128, .f32⟩
  | .hbm, ⟨18, _⟩ => ⟨S8x2x8192x128, .f32⟩
  | .hbm, ⟨19, _⟩ => ⟨S8x2x8192x128, .bf16⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== Kernel17.lean ====
abbrev S1x8192x1024 : Shape := ⟨3, ![1, 8192, 1024]⟩
abbrev S1x8192x2048 : Shape := ⟨3, ![1, 8192, 2048]⟩
abbrev S1x1024x2048 : Shape := ⟨3, ![1, 1024, 2048]⟩
abbrev S8192x1024 : Shape := ⟨2, ![8192, 1024]⟩
abbrev S8192x2048 : Shape := ⟨2, ![8192, 2048]⟩
abbrev S1024x2048 : Shape := ⟨2, ![1024, 2048]⟩
abbrev S256x1024 : Shape := ⟨2, ![256, 1024]⟩
abbrev S256x2048 : Shape := ⟨2, ![256, 2048]⟩

abbrev nBuf : Space → Nat
  | .hbm => 17
  | .vmem => 12
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S1x8192x2048, .f32⟩
  | .hbm, ⟨3, _⟩ => ⟨S1x8192x2048, .f32⟩
  | .hbm, ⟨4, _⟩ => ⟨S1x1024x2048, .f32⟩
  | .hbm, ⟨5, _⟩ => ⟨S1x1024x2048, .f32⟩
  | .hbm, ⟨6, _⟩ => ⟨S8192x1024, .f32⟩
  | .hbm, ⟨7, _⟩ => ⟨S8192x1024, .bf16⟩
  | .hbm, ⟨8, _⟩ => ⟨S8192x1024, .f32⟩
  | .hbm, ⟨9, _⟩ => ⟨S8192x1024, .bf16⟩
  | .hbm, ⟨10, _⟩ => ⟨S8192x2048, .f32⟩
  | .hbm, ⟨11, _⟩ => ⟨S8192x2048, .f32⟩
  | .hbm, ⟨12, _⟩ => ⟨S1024x2048, .f32⟩
  | .hbm, ⟨13, _⟩ => ⟨S1024x2048, .bf16⟩
  | .hbm, ⟨14, _⟩ => ⟨S1024x2048, .f32⟩
  | .hbm, ⟨15, _⟩ => ⟨S1024x2048, .bf16⟩
  | .hbm, ⟨16, _⟩ => ⟨S8192x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S1024x2048, .bf16⟩
  | .local _ .vmem, ⟨9, _⟩ => ⟨S1024x2048, .bf16⟩
  | .local _ .vmem, ⟨10, _⟩ => ⟨S256x2048, .bf16⟩
  | .local _ .vmem, ⟨11, _⟩ => ⟨S256x2048, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference17Ideal.lean ====
abbrev S1x8192x1024 : Shape := ⟨3, ![1, 8192, 1024]⟩
abbrev S1x8192x2048 : Shape := ⟨3, ![1, 8192, 2048]⟩
abbrev S1x1024x2048 : Shape := ⟨3, ![1, 1024, 2048]⟩
abbrev S_ : Shape := ⟨0, ![]⟩
abbrev S1024x2048 : Shape := ⟨2, ![1024, 2048]⟩
abbrev S8192x2048 : Shape := ⟨2, ![8192, 2048]⟩

abbrev nBuf : Space → Nat
  | .hbm => 31
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S1x8192x2048, .f32⟩
  | .hbm, ⟨3, _⟩ => ⟨S1x8192x2048, .f32⟩
  | .hbm, ⟨4, _⟩ => ⟨S1x1024x2048, .f32⟩
  | .hbm, ⟨5, _⟩ => ⟨S1x1024x2048, .f32⟩
  | .hbm, ⟨6, _⟩ => ⟨S1x8192x2048, .f32⟩
  | .hbm, ⟨7, _⟩ => ⟨S1x8192x2048, .f32⟩
  | .hbm, ⟨8, _⟩ => ⟨S_, .f32⟩
  | .hbm, ⟨9, _⟩ => ⟨S1x8192x2048, .f32⟩
  | .hbm, ⟨10, _⟩ => ⟨S1x8192x2048, .f32⟩
  | .hbm, ⟨11, _⟩ => ⟨S_, .f32⟩
  | .hbm, ⟨12, _⟩ => ⟨S1x8192x2048, .f32⟩
  | .hbm, ⟨13, _⟩ => ⟨S1x8192x2048, .f32⟩
  | .hbm, ⟨14, _⟩ => ⟨S1024x2048, .f32⟩
  | .hbm, ⟨15, _⟩ => ⟨S1x8192x2048, .f32⟩
  | .hbm, ⟨16, _⟩ => ⟨S1x8192x2048, .f32⟩
  | .hbm, ⟨17, _⟩ => ⟨S1x8192x2048, .f32⟩
  | .hbm, ⟨18, _⟩ => ⟨S1x8192x2048, .f32⟩
  | .hbm, ⟨19, _⟩ => ⟨S_, .f32⟩
  | .hbm, ⟨20, _⟩ => ⟨S1x8192x2048, .f32⟩
  | .hbm, ⟨21, _⟩ => ⟨S1x8192x2048, .f32⟩
  | .hbm, ⟨22, _⟩ => ⟨S_, .f32⟩
  | .hbm, ⟨23, _⟩ => ⟨S1x8192x2048, .f32⟩
  | .hbm, ⟨24, _⟩ => ⟨S1x8192x2048, .f32⟩
  | .hbm, ⟨25, _⟩ => ⟨S1024x2048, .f32⟩
  | .hbm, ⟨26, _⟩ => ⟨S1x8192x2048, .f32⟩
  | .hbm, ⟨27, _⟩ => ⟨S1x8192x2048, .f32⟩
  | .hbm, ⟨28, _⟩ => ⟨S1x8192x2048, .f32⟩
  | .hbm, ⟨29, _⟩ => ⟨S8192x2048, .f32⟩
  | .hbm, ⟨30, _⟩ => ⟨S8192x2048, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== Kernel18.lean ====
abbrev S8320 : Shape := ⟨1, ![8320]⟩
abbrev S133120x128 : Shape := ⟨2, ![133120, 128]⟩
abbrev S8192x128 : Shape := ⟨2, ![8192, 128]⟩
abbrev S1x2048 : Shape := ⟨2, ![1, 2048]⟩
abbrev S397312x128 : Shape := ⟨2, ![397312, 128]⟩
abbrev S8192x2048 : Shape := ⟨2, ![8192, 2048]⟩
abbrev S4096x128 : Shape := ⟨2, ![4096, 128]⟩
abbrev S256x128 : Shape := ⟨2, ![256, 128]⟩
abbrev S256x2048 : Shape := ⟨2, ![256, 2048]⟩
abbrev S2 : Shape := ⟨1, ![2]⟩
abbrev S1 : Shape := ⟨1, ![1]⟩
abbrev S_ : Shape := ⟨0, ![]⟩
abbrev S16x128 : Shape := ⟨2, ![16, 128]⟩
abbrev S256x1 : Shape := ⟨2, ![256, 1]⟩
abbrev S256 : Shape := ⟨1, ![256]⟩

abbrev nBuf : Space → Nat
  | .hbm => 6
  | .vmem => 10
  | .smem => 2
  | _ => 0

abbrev bufTy : (tb : Table) → Fin (tcTables nBuf tb) → BufTy
  | .hbm, ⟨0, _⟩ => ⟨S133120x128, .f32⟩
  | .hbm, ⟨1, _⟩ => ⟨S8192x128, .f32⟩
  | .hbm, ⟨2, _⟩ => ⟨S1x2048, .f32⟩
  | .hbm, ⟨3, _⟩ => ⟨S1x2048, .f32⟩
  | .hbm, ⟨4, _⟩ => ⟨S397312x128, .f32⟩
  | .hbm, ⟨5, _⟩ => ⟨S8192x2048, .f32⟩
  | .local _ .vmem, ⟨0, _⟩ => ⟨S4096x128, .f32⟩
  | .local _ .vmem, ⟨1, _⟩ => ⟨S4096x128, .f32⟩
  | .local _ .vmem, ⟨2, _⟩ => ⟨S256x128, .f32⟩
  | .local _ .vmem, ⟨3, _⟩ => ⟨S256x128, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S4096x128, .f32⟩
  | .local _ .vmem, ⟨9, _⟩ => ⟨S4096x128, .f32⟩
  | .local _ .smem, ⟨0, _⟩ => ⟨S8320, .i32⟩
  | .local _ .smem, ⟨1, _⟩ => ⟨S8320, .i32⟩
  | _, _ => ⟨S133120x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

@[reducible] def k0_t1_loop : Scf.Loop 32 :=
  let c0_i32_0 : BitVec 32 := 0#32
  let c256_i32_1 : BitVec 32 := 256#32
  let v2 : BitVec 32 := Scalar.addi c0_i32_0 c256_i32_1
  let c1_i32 : BitVec 32 := 1#32
  ⟨c0_i32_0, v2, c1_i32⟩
def k0_off1 (i : grid0.Coords) (k0_t1 : Fin k0_t1_loop.trips) : Fin 1 → Nat :=
  let c0_i32 : BitVec 32 := 0#32
  let arg0 : BitVec 32 := BitVec.ofNat 32 (i 0).val
  let c256_i32 : BitVec 32 := 256#32
  let v0 : BitVec 32 := Scalar.muli arg0 c256_i32
  let v1 : BitVec 32 := Scalar.addi c0_i32 v0
  let c0_i32_0 : BitVec 32 := 0#32
  let c1_i32 : BitVec 32 := 1#32
  let arg12 : BitVec 32 := Scf.iv c0_i32_0 c1_i32 k0_t1
  let v88 : BitVec 32 := Scalar.addi v1 arg12
  let v89 : Index := Scalar.indexCast v88
  ![v89.toNat]
def k0_mult1 (v90 : BitVec 32) : BitVec 32 :=
  let c16_i32 : BitVec 32 := 16#32
  let v91 : BitVec 32 := Scalar.muli v90 c16_i32
  v91

def k0_mult2 (k0_t1 : Fin k0_t1_loop.trips) : BitVec 32 :=
  let c0_i32_0 : BitVec 32 := 0#32
  let c1_i32 : BitVec 32 := 1#32
  let arg12 : BitVec 32 := Scf.iv c0_i32_0 c1_i32 k0_t1
  let c16_i32_102 : BitVec 32 := 16#32
  let v93 : BitVec 32 := Scalar.muli arg12 c16_i32_102
  v93
def k0_off2 (k0_t1 : Fin k0_t1_loop.trips) : Fin 2 → Nat :=
  let c0_i32_0 : BitVec 32 := 0#32
  let c1_i32 : BitVec 32 := 1#32
  let arg12 : BitVec 32 := Scf.iv c0_i32_0 c1_i32 k0_t1
  let c16_i32_102 : BitVec 32 := 16#32
  let v93 : BitVec 32 := Scalar.muli arg12 c16_i32_102
  let v94 : BitVec 32 := v93
  let c0_i32_104 : BitVec 32 := 0#32
  ![v94.toNat, 0]
def k0_off3 (v90 : BitVec 32) : Fin 2 → Nat :=
  let c16_i32 : BitVec 32 := 16#32
  let v91 : BitVec 32 := Scalar.muli v90 c16_i32
  let v92 : BitVec 32 := v91
  let c0_i32_105 : BitVec 32 := 0#32
  ![v92.toNat, 0]

def k0_chk1 (v90 : BitVec 32) : Prop :=
  (16 ∣ (k0_mult1 v90).toNat) ∧
  (∀ a, (k0_off3 v90) a + S16x128.size a ≤ S397312x128.size a)
theorem k0_mult1_dvd : ∀ (v90 : BitVec 32) (k0_hw1 : k0_chk1 v90), 16 ∣ (k0_mult1 v90).toNat := fun v90 k0_hw1 => k0_hw1.1
theorem k0_off3_inb : ∀ (v90 : BitVec 32) (k0_hw1 : k0_chk1 v90), ∀ a, (k0_off3 v90) a + S16x128.size a ≤ S397312x128.size a := fun v90 k0_hw1 => k0_hw1.2

def k0_off4 (i : grid0.Coords) (k0_t1 : Fin k0_t1_loop.trips) : Fin 1 → Nat :=
  let c0_i32 : BitVec 32 := 0#32
  let arg0 : BitVec 32 := BitVec.ofNat 32 (i 0).val
  let c256_i32 : BitVec 32 := 256#32
  let v0 : BitVec 32 := Scalar.muli arg0 c256_i32
  let v1 : BitVec 32 := Scalar.addi c0_i32 v0
  let c0_i32_0 : BitVec 32 := 0#32
  let c1_i32 : BitVec 32 := 1#32
  let arg12 : BitVec 32 := Scf.iv c0_i32_0 c1_i32 k0_t1
  let v99 : BitVec 32 := Scalar.addi v1 arg12
  let v100 : Index := Scalar.indexCast v99
  ![v100.toNat]
def k0_mult3 (v101 : BitVec 32) : BitVec 32 :=
  let c16_i32_106 : BitVec 32 := 16#32
  let v102 : BitVec 32 := Scalar.muli v101 c16_i32_106
  v102

def k0_mult4 (k0_t1 : Fin k0_t1_loop.trips) : BitVec 32 :=
  let c0_i32_0 : BitVec 32 := 0#32
  let c1_i32 : BitVec 32 := 1#32
  let arg12 : BitVec 32 := Scf.iv c0_i32_0 c1_i32 k0_t1
  let c16_i32_107 : BitVec 32 := 16#32
  let v104 : BitVec 32 := Scalar.muli arg12 c16_i32_107
  v104
def k0_off5 (k0_t1 : Fin k0_t1_loop.trips) : Fin 2 → Nat :=
  let c0_i32_0 : BitVec 32 := 0#32
  let c1_i32 : BitVec 32 := 1#32
  let arg12 : BitVec 32 := Scf.iv c0_i32_0 c1_i32 k0_t1
  let c16_i32_107 : BitVec 32 := 16#32
  let v104 : BitVec 32 := Scalar.muli arg12 c16_i32_107
  let v105 : BitVec 32 := v104
  let c0_i32_109 : BitVec 32 := 0#32
  ![v105.toNat, 0]
def k0_off6 (v101 : BitVec 32) : Fin 2 → Nat :=
  let c16_i32_106 : BitVec 32 := 16#32
  let v102 : BitVec 32 := Scalar.muli v101 c16_i32_106
  let v103 : BitVec 32 := v102
  let c0_i32_110 : BitVec 32 := 0#32
  ![v103.toNat, 0]

def k0_chk2 (v101 : BitVec 32) : Prop :=
  (16 ∣ (k0_mult3 v101).toNat) ∧
  (∀ a, (k0_off6 v101) a + S16x128.size a ≤ S397312x128.size a)
theorem k0_mult3_dvd : ∀ (v101 : BitVec 32) (k0_hw2 : k0_chk2 v101), 16 ∣ (k0_mult3 v101).toNat := fun v101 k0_hw2 => k0_hw2.1
theorem k0_off6_inb : ∀ (v101 : BitVec 32) (k0_hw2 : k0_chk2 v101), ∀ a, (k0_off6 v101) a + S16x128.size a ≤ S397312x128.size a := fun v101 k0_hw2 => k0_hw2.2

@[reducible] def k0_t2_loop : Scf.Loop 32 :=
  let c0_i32_3 : BitVec 32 := 0#32
  let c256_i32_4 : BitVec 32 := 256#32
  let v3 : BitVec 32 := Scalar.addi c0_i32_3 c256_i32_4
  let c1_i32_5 : BitVec 32 := 1#32
  ⟨c0_i32_3, v3, c1_i32_5⟩
def k0_off7 (i : grid0.Coords) (k0_t2 : Fin k0_t2_loop.trips) : Fin 1 → Nat :=
  let c0_i32 : BitVec 32 := 0#32
  let arg0 : BitVec 32 := BitVec.ofNat 32 (i 0).val
  let c256_i32 : BitVec 32 := 256#32
  let v0 : BitVec 32 := Scalar.muli arg0 c256_i32
  let v1 : BitVec 32 := Scalar.addi c0_i32 v0
  let c0_i32_3 : BitVec 32 := 0#32
  let c1_i32_5 : BitVec 32 := 1#32
  let arg12 : BitVec 32 := Scf.iv c0_i32_3 c1_i32_5 k0_t2
  let v88 : BitVec 32 := Scalar.addi v1 arg12
  let v89 : Index := Scalar.indexCast v88
  ![v89.toNat]
def k0_mult5 (v90 : BitVec 32) : BitVec 32 :=
  let c16_i32 : BitVec 32 := 16#32
  let v91 : BitVec 32 := Scalar.muli v90 c16_i32
  v91

def k0_mult6 (k0_t2 : Fin k0_t2_loop.trips) : BitVec 32 :=
  let c0_i32_3 : BitVec 32 := 0#32
  let c1_i32_5 : BitVec 32 := 1#32
  let arg12 : BitVec 32 := Scf.iv c0_i32_3 c1_i32_5 k0_t2
  let c16_i32_102 : BitVec 32 := 16#32
  let v93 : BitVec 32 := Scalar.muli arg12 c16_i32_102
  v93
def k0_off8 (k0_t2 : Fin k0_t2_loop.trips) : Fin 2 → Nat :=
  let c0_i32_3 : BitVec 32 := 0#32
  let c1_i32_5 : BitVec 32 := 1#32
  let arg12 : BitVec 32 := Scf.iv c0_i32_3 c1_i32_5 k0_t2
  let c16_i32_102 : BitVec 32 := 16#32
  let v93 : BitVec 32 := Scalar.muli arg12 c16_i32_102
  let v94 : BitVec 32 := v93
  let c0_i32_104 : BitVec 32 := 0#32
  ![v94.toNat, 0]
def k0_off9 (v90 : BitVec 32) : Fin 2 → Nat :=
  let c16_i32 : BitVec 32 := 16#32
  let v91 : BitVec 32 := Scalar.muli v90 c16_i32
  let v92 : BitVec 32 := v91
  let c0_i32_105 : BitVec 32 := 0#32
  ![v92.toNat, 0]

def k0_chk3 (v90 : BitVec 32) : Prop :=
  (16 ∣ (k0_mult5 v90).toNat) ∧
  (∀ a, (k0_off9 v90) a + S16x128.size a ≤ S397312x128.size a)
theorem k0_mult5_dvd : ∀ (v90 : BitVec 32) (k0_hw3 : k0_chk3 v90), 16 ∣ (k0_mult5 v90).toNat := fun v90 k0_hw3 => k0_hw3.1
theorem k0_off9_inb : ∀ (v90 : BitVec 32) (k0_hw3 : k0_chk3 v90), ∀ a, (k0_off9 v90) a + S16x128.size a ≤ S397312x128.size a := fun v90 k0_hw3 => k0_hw3.2

def k0_off10 (i : grid0.Coords) (k0_t2 : Fin k0_t2_loop.trips) : Fin 1 → Nat :=
  let c0_i32 : BitVec 32 := 0#32
  let arg0 : BitVec 32 := BitVec.ofNat 32 (i 0).val
  let c256_i32 : BitVec 32 := 256#32
  let v0 : BitVec 32 := Scalar.muli arg0 c256_i32
  let v1 : BitVec 32 := Scalar.addi c0_i32 v0
  let c0_i32_3 : BitVec 32 := 0#32
  let c1_i32_5 : BitVec 32 := 1#32
  let arg12 : BitVec 32 := Scf.iv c0_i32_3 c1_i32_5 k0_t2
  let v99 : BitVec 32 := Scalar.addi v1 arg12
  let v100 : Index := Scalar.indexCast v99
  ![v100.toNat]
def k0_mult7 (v101 : BitVec 32) : BitVec 32 :=
  let c16_i32_106 : BitVec 32 := 16#32
  let v102 : BitVec 32 := Scalar.muli v101 c16_i32_106
  v102

def k0_mult8 (k0_t2 : Fin k0_t2_loop.trips) : BitVec 32 :=
  let c0_i32_3 : BitVec 32 := 0#32
  let c1_i32_5 : BitVec 32 := 1#32
  let arg12 : BitVec 32 := Scf.iv c0_i32_3 c1_i32_5 k0_t2
  let c16_i32_107 : BitVec 32 := 16#32
  let v104 : BitVec 32 := Scalar.muli arg12 c16_i32_107
  v104
def k0_off11 (k0_t2 : Fin k0_t2_loop.trips) : Fin 2 → Nat :=
  let c0_i32_3 : BitVec 32 := 0#32
  let c1_i32_5 : BitVec 32 := 1#32
  let arg12 : BitVec 32 := Scf.iv c0_i32_3 c1_i32_5 k0_t2
  let c16_i32_107 : BitVec 32 := 16#32
  let v104 : BitVec 32 := Scalar.muli arg12 c16_i32_107
  let v105 : BitVec 32 := v104
  let c0_i32_109 : BitVec 32 := 0#32
  ![v105.toNat, 0]
def k0_off12 (v101 : BitVec 32) : Fin 2 → Nat :=
  let c16_i32_106 : BitVec 32 := 16#32
  let v102 : BitVec 32 := Scalar.muli v101 c16_i32_106
  let v103 : BitVec 32 := v102
  let c0_i32_110 : BitVec 32 := 0#32
  ![v103.toNat, 0]

def k0_chk4 (v101 : BitVec 32) : Prop :=
  (16 ∣ (k0_mult7 v101).toNat) ∧
  (∀ a, (k0_off12 v101) a + S16x128.size a ≤ S397312x128.size a)
theorem k0_mult7_dvd : ∀ (v101 : BitVec 32) (k0_hw4 : k0_chk4 v101), 16 ∣ (k0_mult7 v101).toNat := fun v101 k0_hw4 => k0_hw4.1
theorem k0_off12_inb : ∀ (v101 : BitVec 32) (k0_hw4 : k0_chk4 v101), ∀ a, (k0_off12 v101) a + S16x128.size a ≤ S397312x128.size a := fun v101 k0_hw4 => k0_hw4.2

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference18Ideal.lean ====
abbrev S8320 : Shape := ⟨1, ![8320]⟩
abbrev S133120x128 : Shape := ⟨2, ![133120, 128]⟩
abbrev S8192x128 : Shape := ⟨2, ![8192, 128]⟩
abbrev S1x2048 : Shape := ⟨2, ![1, 2048]⟩
abbrev S397312x128 : Shape := ⟨2, ![397312, 128]⟩
abbrev S8320x2048 : Shape := ⟨2, ![8320, 2048]⟩
abbrev S8192x2048 : Shape := ⟨2, ![8192, 2048]⟩
abbrev S24832x2048 : Shape := ⟨2, ![24832, 2048]⟩
abbrev S8192x1 : Shape := ⟨2, ![8192, 1]⟩
abbrev S8192 : Shape := ⟨1, ![8192]⟩
abbrev S_ : Shape := ⟨0, ![]⟩
abbrev S2048 : Shape := ⟨1, ![2048]⟩

abbrev nBuf : Space → Nat
  | .hbm => 72
  | .vmem => 0
  | .smem => 0
  | _ => 0

abbrev bufTy : (tb : Table) → Fin (tcTables nBuf tb) → BufTy
  | .hbm, ⟨0, _⟩ => ⟨S8320, .i32⟩
  | .hbm, ⟨1, _⟩ => ⟨S8320, .i32⟩
  | .hbm, ⟨2, _⟩ => ⟨S133120x128, .f32⟩
  | .hbm, ⟨3, _⟩ => ⟨S8192x128, .f32⟩
  | .hbm, ⟨4, _⟩ => ⟨S1x2048, .f32⟩
  | .hbm, ⟨5, _⟩ => ⟨S1x2048, .f32⟩
  | .hbm, ⟨6, _⟩ => ⟨S397312x128, .f32⟩
  | .hbm, ⟨7, _⟩ => ⟨S8320x2048, .f32⟩
  | .hbm, ⟨8, _⟩ => ⟨S8192x2048, .f32⟩
  | .hbm, ⟨9, _⟩ => ⟨S24832x2048, .f32⟩
  | .hbm, ⟨10, _⟩ => ⟨S8192x1, .f32⟩
  | .hbm, ⟨11, _⟩ => ⟨S8192, .i32⟩
  | .hbm, ⟨12, _⟩ => ⟨S_, .i32⟩
  | .hbm, ⟨13, _⟩ => ⟨S8192, .i32⟩
  | .hbm, ⟨14, _⟩ => ⟨S8192, .i1⟩
  | .hbm, ⟨15, _⟩ => ⟨S_, .i32⟩
  | .hbm, ⟨16, _⟩ => ⟨S8192, .i32⟩
  | .hbm, ⟨17, _⟩ => ⟨S8192, .i32⟩
  | .hbm, ⟨18, _⟩ => ⟨S8192, .i32⟩
  | .hbm, ⟨19, _⟩ => ⟨S8192x1, .i32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x1, .f32⟩
  | .hbm, ⟨24, _⟩ => ⟨S8192, .i32⟩
  | .hbm, ⟨25, _⟩ => ⟨S_, .i32⟩
  | .hbm, ⟨26, _⟩ => ⟨S8192, .i32⟩
  | .hbm, ⟨27, _⟩ => ⟨S8192, .i1⟩
  | .hbm, ⟨28, _⟩ => ⟨S_, .i32⟩
  | .hbm, ⟨29, _⟩ => ⟨S8192, .i32⟩
  | .hbm, ⟨30, _⟩ => ⟨S8192, .i32⟩
  | .hbm, ⟨31, _⟩ => ⟨S8192, .i32⟩
  | .hbm, ⟨32, _⟩ => ⟨S8192x1, .i32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S_, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S2048, .f32⟩
  | .hbm, ⟨42, _⟩ => ⟨S2048, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S8192x2048, .f32⟩
  | .hbm, ⟨59, _⟩ => ⟨S8192x2048, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S8192x1, .f32⟩
  | .hbm, ⟨64, _⟩ => ⟨S8192x2048, .f32⟩
  | .hbm, ⟨65, _⟩ => ⟨S8192x2048, .f32⟩
  | .hbm, ⟨66, _⟩ => ⟨S1x2048, .f32⟩
  | .hbm, ⟨67, _⟩ => ⟨S8192x2048, .f32⟩
  | .hbm, ⟨68, _⟩ => ⟨S8192x2048, .f32⟩
  | .hbm, ⟨69, _⟩ => ⟨S1x2048, .f32⟩
  | .hbm, ⟨70, _⟩ => ⟨S8192x2048, .f32⟩
  | .hbm, ⟨71, _⟩ => ⟨S8192x2048, .f32⟩
  | _, _ => ⟨S8320, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_7 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩

abbrev nD : Nat := 1
abbrev τ : Topo := Topo.v7x

variable {F : FTy → Type} [FloatOps F]
-- ==== Proof.MoeWords.lean ====
/- The integer chains of the expert kernel, read as plain numbers: where each copy starts, which slot a tile
   uses, and what the guards say of the words they read. -/
module

public import proofs.«01_k».proof.Proof.Gen.KernelIdeal
public import Idealize.ShloMosaic.Lib.WordCmp

@[expose] public section

namespace Cert.Proof.Moe

open Idealize.ShloMosaic Cert.KernelIdeal Cert.KernelIdeal.Gen

/-- The slot of the next tile, `(t + 1) mod 2`, as the kernel's floor remainder computes it. -/
theorem off7_eq : ∀ i : grid0.Coords, k0_off7 i = ![((i 0).val + 1) % 2] := by decide +kernel

/-- The slot of the current tile, `t mod 2`. -/
theorem off13_eq : ∀ i : grid0.Coords, k0_off13 i = ![(i 0).val % 2] := by decide +kernel

/-- A token's 16 rows start at row `16 v` of the token-major array. -/
theorem off4_eq (v : BitVec 32) (h : v.toNat < 8320) : k0_off4 v = ![16 * v.toNat, 0] := by
  have e : (Scalar.muli v 16#32).toNat = 16 * v.toNat := by
    rw [show Scalar.muli v 16#32 = v * 16#32 from rfl, BitVec.toNat_mul]
    simp only [BitVec.toNat_ofNat]; omega
  unfold k0_off4; dsimp only; rw [e]

theorem off9_eq (v : BitVec 32) (h : v.toNat < 8320) : k0_off9 v = ![16 * v.toNat, 0] := off4_eq v h

theorem off15_eq (v : BitVec 32) (h : v.toNat < 8320) : k0_off15 v = ![16 * v.toNat, 0] := off4_eq v h

theorem trips1 : k0_t1_loop.trips = 256 := by decide +kernel
theorem trips2 : k0_t2_loop.trips = 256 := by decide +kernel
theorem trips3 : k0_t3_loop.trips = 256 := by decide +kernel

/-- The entry of the row table that copy `k` of the next tile reads. -/
theorem off6_eq (i : grid0.Coords) (h : (i 0).val < 96) (k : Fin k0_t2_loop.trips) :
    k0_off6 i k = ![256 * ((i 0).val + 1) + k.val] := by
  have hk : k.val < 256 := trips2 ▸ k.isLt
  have hi : Affine.IsInt (BitVec.ofNat 32 (i 0).val) ((i 0).val : Int) := Affine.ofNat _ (by omega)
  have hs := Affine.addi (e := ((i 0).val : Int) + 1) hi (Affine.ofNat 1 ⟨rfl, by omega⟩ : Affine.IsInt 1#32 1) (by omega)
  have hm := Affine.muli (e := 256 * (((i 0).val : Int) + 1)) hs (Affine.ofNat 256 ⟨rfl, by omega⟩ : Affine.IsInt 256#32 256) (by omega)
  have hv : Affine.IsInt _ (k.val : Int) := Affine.iv (Affine.ofNat 0 ⟨rfl, by omega⟩ : Affine.IsInt 0#32 0)
    (Affine.ofNat 1 ⟨rfl, by omega⟩ : Affine.IsInt 1#32 1) k.val (by omega)
  have ha := Affine.addi (e := 256 * (((i 0).val : Int) + 1) + k.val) hm hv (by omega)
  exact Affine.vec_cons (Affine.indexCast ha) (by omega) Affine.vec_nil

/-- The row of the slot buffer at which copy `k` of the next tile lands: row `16 k` of that tile's half. -/
theorem off8_eq (i : grid0.Coords) (k : Fin k0_t2_loop.trips) :
    k0_off8 i k = ![4096 * (((i 0).val + 1) % 2) + 16 * k.val, 0] := by
  have hk : k.val < 256 := trips2 ▸ k.isLt
  have r : (i 0).val < 97 := (i 0).isLt
  have two : Affine.IsInt 2#32 2 := Affine.ofNat 2 ⟨rfl, by omega⟩
  have zero : Affine.IsInt 0#32 0 := Affine.ofNat 0 ⟨rfl, by omega⟩
  have one : Affine.IsInt 1#32 1 := Affine.ofNat 1 ⟨rfl, by omega⟩
  have hi : Affine.IsInt (BitVec.ofNat 32 (i 0).val) ((i 0).val : Int) := Affine.ofNat _ (by omega)
  have hs := Affine.addi (e := ((i 0).val : Int) + 1) hi one (by omega)
  have hd : Affine.IsInt _ 2 := Affine.select_fails (Affine.eq_fails two zero (by omega)) one two (by omega)
  have hr : Affine.IsInt _ ((((i 0).val : Int) + 1) % 2) := Affine.remsi hs hd (by omega)
  have hx := Affine.xori_ff (Affine.slt_fails hr zero (by omega)) (Affine.slt_fails hd zero (by omega))
  have hn := Affine.andi_fails_left hx (Affine.cmpi_term .ne hr zero)
  have hq := Affine.addi (e := (((i 0).val : Int) + 1) % 2 + 2) hr hd (by omega)
  have hw : Affine.IsInt _ ((((i 0).val : Int) + 1) % 2) := Affine.select_fails hn hq hr (by omega)
  have hm := Affine.muli (e := 4096 * ((((i 0).val : Int) + 1) % 2)) hw (Affine.ofNat 4096 ⟨rfl, by omega⟩ : Affine.IsInt 4096#32 4096) (by omega)
  have hv : Affine.IsInt _ (k.val : Int) := Affine.iv zero one k.val (by omega)
  have hv' := Affine.muli (e := 16 * (k.val : Int)) hv (Affine.ofNat 16 ⟨rfl, by omega⟩ : Affine.IsInt 16#32 16) (by omega)
  have ha := Affine.addi (e := 4096 * ((((i 0).val : Int) + 1) % 2) + 16 * (k.val : Int)) hm hv' (by omega)
  exact Affine.vec_cons ha (by omega) <| Affine.vec_cons zero (by omega) Affine.vec_nil

/-- The same rows, named by the wait for copy `k` of the current tile. -/
theorem off14_eq (i : grid0.Coords) (k : Fin k0_t3_loop.trips) :
    k0_off14 i k = ![4096 * ((i 0).val % 2) + 16 * k.val, 0] := by
  have hk : k.val < 256 := trips3 ▸ k.isLt
  have r : (i 0).val < 97 := (i 0).isLt
  have two : Affine.IsInt 2#32 2 := Affine.ofNat 2 ⟨rfl, by omega⟩
  have zero : Affine.IsInt 0#32 0 := Affine.ofNat 0 ⟨rfl, by omega⟩
  have one : Affine.IsInt 1#32 1 := Affine.ofNat 1 ⟨rfl, by omega⟩
  have hi : Affine.IsInt (BitVec.ofNat 32 (i 0).val) ((i 0).val : Int) := Affine.ofNat _ (by omega)
  have hd : Affine.IsInt _ 2 := Affine.select_fails (Affine.eq_fails two zero (by omega)) one two (by omega)
  have hr : Affine.IsInt _ (((i 0).val : Int) % 2) := Affine.remsi hi hd (by omega)
  have hx := Affine.xori_ff (Affine.slt_fails hr zero (by omega)) (Affine.slt_fails hd zero (by omega))
  have hn := Affine.andi_fails_left hx (Affine.cmpi_term .ne hr zero)
  have hq := Affine.addi (e := ((i 0).val : Int) % 2 + 2) hr hd (by omega)
  have hw : Affine.IsInt _ (((i 0).val : Int) % 2) := Affine.select_fails hn hq hr (by omega)
  have hm := Affine.muli (e := 4096 * (((i 0).val : Int) % 2)) hw (Affine.ofNat 4096 ⟨rfl, by omega⟩ : Affine.IsInt 4096#32 4096) (by omega)
  have hv : Affine.IsInt _ (k.val : Int) := Affine.iv zero one k.val (by omega)
  have hv' := Affine.muli (e := 16 * (k.val : Int)) hv (Affine.ofNat 16 ⟨rfl, by omega⟩ : Affine.IsInt 16#32 16) (by omega)
  have ha := Affine.addi (e := 4096 * (((i 0).val : Int) % 2) + 16 * (k.val : Int)) hm hv' (by omega)
  exact Affine.vec_cons ha (by omega) <| Affine.vec_cons zero (by omega) Affine.vec_nil

/-- The first row of column block `r`'s strided read: row `r` of every token of the current tile's half. -/
theorem off16_eq (i : grid0.Coords) (r : Nat) (hr16 : r < 16) :
    k0_off16 i (BitVec.ofNat 32 r) = ![4096 * ((i 0).val % 2) + r, 0] := by
  have r97 : (i 0).val < 97 := (i 0).isLt
  have two : Affine.IsInt 2#32 2 := Affine.ofNat 2 ⟨rfl, by omega⟩
  have zero : Affine.IsInt 0#32 0 := Affine.ofNat 0 ⟨rfl, by omega⟩
  have one : Affine.IsInt 1#32 1 := Affine.ofNat 1 ⟨rfl, by omega⟩
  have hi : Affine.IsInt (BitVec.ofNat 32 (i 0).val) ((i 0).val : Int) := Affine.ofNat _ (by omega)
  have hd : Affine.IsInt _ 2 := Affine.select_fails (Affine.eq_fails two zero (by omega)) one two (by omega)
  have hr : Affine.IsInt _ (((i 0).val : Int) % 2) := Affine.remsi hi hd (by omega)
  have hx := Affine.xori_ff (Affine.slt_fails hr zero (by omega)) (Affine.slt_fails hd zero (by omega))
  have hn := Affine.andi_fails_left hx (Affine.cmpi_term .ne hr zero)
  have hq := Affine.addi (e := ((i 0).val : Int) % 2 + 2) hr hd (by omega)
  have hw : Affine.IsInt _ (((i 0).val : Int) % 2) := Affine.select_fails hn hq hr (by omega)
  have hm := Affine.muli (e := 4096 * (((i 0).val : Int) % 2)) hw (Affine.ofNat 4096 ⟨rfl, by omega⟩ : Affine.IsInt 4096#32 4096) (by omega)
  have ha := Affine.addi (e := 4096 * (((i 0).val : Int) % 2) + (r : Int)) hm (Affine.ofNat r ⟨rfl, by omega⟩) (by omega)
  exact Affine.vec_cons (Affine.indexCast ha) (by omega) <| Affine.vec_cons zero (by omega) Affine.vec_nil

/-- A guard computed from two tests holds when both do. -/
theorem guard_two : ∀ a b : Bool, Scalar.cmpi .ne (Scalar.extui (Scalar.andi (BitVec.ofBool a) (BitVec.ofBool b)) : BitVec 32) 0#32 = 1#1
    ↔ a = true ∧ b = true := by decide

/-- A guard computed from one test holds when it does. -/
theorem guard_one : ∀ a : Bool, Scalar.cmpi .ne (Scalar.extui (BitVec.ofBool a) : BitVec 32) 0#32 = 1#1 ↔ a = true := by decide

theorem test_eq (x y : BitVec 32) : Scalar.cmpi .eq x y = BitVec.ofBool (decide (x = y)) := WordCmp.cmpi_eq_eq x y

/-- The first guard holds at the first tile exactly when that tile is in use. -/
theorem cond1_iff (i : grid0.Coords) (v : BitVec 32) : k0_cond1 i v = 1#1 ↔ (i 0).val = 0 ∧ v = 1#32 := by
  have r : (i 0).val < 97 := (i 0).isLt
  have h0 : (BitVec.ofNat 32 (i 0).val = 0#32) ↔ (i 0).val = 0 := by
    rw [← BitVec.toNat_inj]; simp only [BitVec.toNat_ofNat]; omega
  unfold k0_cond1; dsimp only
  rw [test_eq, test_eq, guard_two, decide_eq_true_iff, decide_eq_true_iff, h0]

/-- The second guard holds exactly when there is a next tile and it is in use. -/
theorem cond2_iff (i : grid0.Coords) (v : BitVec 32) : k0_cond2 i v = 1#1 ↔ (i 0).val < 96 ∧ v = 1#32 := by
  have hlt : ∀ i : grid0.Coords, Scalar.cmpi .slt (Scalar.addi (BitVec.ofNat 32 (i 0).val) 1#32) 97#32
      = BitVec.ofBool (decide ((i 0).val < 96)) := by decide +kernel
  unfold k0_cond2; dsimp only
  rw [hlt i, test_eq, guard_two, decide_eq_true_iff, decide_eq_true_iff]

theorem cond4_iff (v : BitVec 32) : k0_cond4 v = 1#1 ↔ v = 1#32 := by
  unfold k0_cond4; dsimp only
  rw [test_eq, guard_one, decide_eq_true_iff]

theorem cond5_iff (v : BitVec 32) : k0_cond5 v = 1#1 ↔ v = 0#32 := by
  unfold k0_cond5; dsimp only
  rw [test_eq, guard_one, decide_eq_true_iff]

/-- The guard of the weight loads. -/
theorem cond3_iff (v : BitVec 32) : Scalar.cmpi .ne (Scalar.extui (Scalar.cmpi .eq v 1#32) : BitVec 32) 0#32 = 1#1 ↔ v = 1#32 := by
  rw [test_eq, guard_one, decide_eq_true_iff]

/-- Sixteen rows from row `16 v` lie inside the token-major array when `v` is a token. -/
theorem rows_in (v : BitVec 32) (h : v.toNat < 8320) :
    ∀ a, (![16 * v.toNat, 0] : Fin 2 → Nat) a + S16x128.size a ≤ S133120x128.size a := by
  intro a; fin_cases a
  · show 16 * v.toNat + 16 ≤ 133120; omega
  · show 0 + 128 ≤ 128; omega

theorem dvd_rows (v : BitVec 32) (h : v.toNat < 8320) : 16 ∣ (Scalar.muli v 16#32).toNat := by
  rw [show Scalar.muli v 16#32 = v * 16#32 from rfl, BitVec.toNat_mul]
  simp only [BitVec.toNat_ofNat]; omega

theorem chk1_of (i : grid0.Coords) (u v : BitVec 32) (h : v.toNat < 8320) : k0_chk1 i u v :=
  ⟨fun _ => dvd_rows v h, fun _ => by rw [off4_eq v h]; exact rows_in v h⟩

theorem chk3_of (i : grid0.Coords) (u v : BitVec 32) (h : v.toNat < 8320) : k0_chk3 i u v :=
  ⟨fun _ => dvd_rows v h, fun _ => by rw [off9_eq v h]; exact rows_in v h⟩

theorem chk4_of (u v : BitVec 32) (h : v.toNat < 8320) : k0_chk4 u v :=
  ⟨fun _ => dvd_rows v h, fun _ => by rw [off15_eq v h]; exact rows_in v h⟩

theorem chk2_of (i : grid0.Coords) (u : BitVec 32) : k0_chk2 i u := by
  intro k hc a
  have hi := ((cond2_iff i u).1 hc).1
  have hk : k.val < 256 := trips2 ▸ k.isLt
  rw [off6_eq i hi k]; fin_cases a
  show 256 * ((i 0).val + 1) + k.val + 1 ≤ 24832; omega

end Cert.Proof.Moe
-- ==== Proof.MoeSlots.lean ====
/- The copies of the expert kernel: each tile's 256 token rows are gathered by 256 row copies into one half of the
   slot buffer, all on that half's semaphore, and drained together one tile later. -/
module

public import proofs.«01_k».proof.Proof.MoeWords
public import proofs.«01_k».proof.Proof.Gen.KernelIdeal.Launch
public import proofs.«01_k».proof.Proof.Gen.KernelIdeal.Skeleton
public import Idealize.ShloMosaic.Lib.Pipeline.FrameBody
public import Idealize.ShloMosaic.Lib.Batch
public import Idealize.ShloMosaic.Lib.Pointwise
public import Idealize.ShloMosaic.Lib.Tactic

@[expose] public section

noncomputable section

namespace Cert.Proof.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's algebra: the pipeline's beside the counters of the copies. -/
local notation "𝕄" => MT nD τ sig Unit (Elt F) ℕ (Pipeline.UD sig nD τ) ℕ

abbrev xM : Memref sig .tc .hbm S133120x128 .f32 := Memref.whole main_arg4
abbrev bM : Memref sig .tc .vmem S8192x128 .f32 := Memref.whole cc0_scratch3
abbrev iM : Memref sig .tc .smem S24832 .i32 := Memref.whole main_arg3

/-- The 16 rows of the slot buffer that hold token `r` of half `p`. -/
def blk (p r : ℕ) : Finset S8192x128.Idx := Finset.univ.filter fun y => (y 0).val / 16 = 256 * p + r

/-- The rows of half `p` from its token `j` on. -/
def slabFrom (p j : ℕ) : Finset S8192x128.Idx :=
  Finset.univ.filter fun y => 256 * p + j ≤ (y 0).val / 16 ∧ (y 0).val / 16 < 256 * p + 256

/-- The 16 rows of the token-major array that hold token `v`. -/
def tokRows (v : ℕ) : Finset S133120x128.Idx := Finset.univ.filter fun y => (y 0).val / 16 = v

/-- Entry `n` of the row table, as a number. -/
def tok (inv : S24832.Idx → BitVec 32) (n : ℕ) : ℕ := (inv (ix1 ⟨n % 24832, Nat.mod_lt _ (by omega)⟩)).toNat

/-- What half `p` of the slot buffer holds once tile `t` has landed in it: row `16 r + c` of the half is row `c` of
    the token the table names at `256 t + r`. -/
def landed (inv : S24832.Idx → BitVec 32) (X : S133120x128.Idx → Elt F .f32) (p t : ℕ) : S8192x128.Idx → Elt F .f32 :=
  fun y => X (ix2 ⟨(16 * tok inv (256 * t + ((y 0).val / 16 - 256 * p)) + (y 0).val % 16) % 133120, Nat.mod_lt _ (by omega)⟩ (y 1))

theorem slabFrom_step (p j : ℕ) (hj : j < 256) : slabFrom p j = blk p j ∪ slabFrom p (j + 1) := by
  ext y; simp only [slabFrom, blk, Finset.mem_filter, Finset.mem_univ, true_and, Finset.mem_union]; omega

theorem slab_disj (p j : ℕ) : Disjoint (blk p j) (slabFrom p (j + 1)) := by
  rw [Finset.disjoint_left]; intro y
  simp only [slabFrom, blk, Finset.mem_filter, Finset.mem_univ, true_and]; omega

theorem slab_end (p : ℕ) : slabFrom p 256 = ∅ := by
  ext y; simp only [slabFrom, Finset.mem_filter, Finset.mem_univ, true_and, Finset.notMem_empty, iff_false]; omega

theorem dst_set (p j : ℕ) (h : ∀ a, (![4096 * p + 16 * j, 0] : Fin 2 → ℕ) a + S16x128.size a ≤ S8192x128.size a) :
    (bM.slice (Rect.unit (s := S8192x128) ![4096 * p + 16 * j, 0] S16x128.size h) (fun _ => rfl)).view.set = blk p j := by
  refine (View.set_slice_whole cc0_scratch3 (Rect.unit (s := S8192x128) ![4096 * p + 16 * j, 0] S16x128.size h)).trans ?_
  ext y
  rw [Rect.mem_set_unit]
  simp only [blk, Finset.mem_filter, Finset.mem_univ, true_and]
  have h1 : (y 1).val < 128 := (y 1).isLt
  constructor
  · intro ha
    have a' : 4096 * p + 16 * j ≤ (y 0).val := (ha 0).1
    have b' : (y 0).val < 4096 * p + 16 * j + 16 := (ha 0).2
    omega
  · intro e a
    match a with
    | ⟨0, _⟩ => exact ⟨show 4096 * p + 16 * j ≤ (y 0).val by omega, show (y 0).val < 4096 * p + 16 * j + 16 by omega⟩
    | ⟨1, _⟩ => exact ⟨Nat.zero_le _, show (y 1).val < 0 + 128 by omega⟩

theorem src_set (v : ℕ) (h : ∀ a, (![16 * v, 0] : Fin 2 → ℕ) a + S16x128.size a ≤ S133120x128.size a) :
    (xM.slice (Rect.unit (s := S133120x128) ![16 * v, 0] S16x128.size h) (fun _ => rfl)).view.set = tokRows v := by
  refine (View.set_slice_whole main_arg4 (Rect.unit (s := S133120x128) ![16 * v, 0] S16x128.size h)).trans ?_
  ext y
  rw [Rect.mem_set_unit]
  simp only [tokRows, Finset.mem_filter, Finset.mem_univ, true_and]
  have h1 : (y 1).val < 128 := (y 1).isLt
  constructor
  · intro ha
    have a' : 16 * v ≤ (y 0).val := (ha 0).1
    have b' : (y 0).val < 16 * v + 16 := (ha 0).2
    omega
  · intro e a
    match a with
    | ⟨0, _⟩ => exact ⟨show 16 * v ≤ (y 0).val by omega, show (y 0).val < 16 * v + 16 by omega⟩
    | ⟨1, _⟩ => exact ⟨Nat.zero_le _, show (y 1).val < 0 + 128 by omega⟩

/-- What one row copy leaves on its 16 rows of the slot buffer is the token's rows. -/
theorem land_apply (inv : S24832.Idx → BitVec 32) (X : S133120x128.Idx → Elt F .f32) (p t j : ℕ) (hj : j < 256)
    (hv : tok inv (256 * t + j) < 8320)
    (h : ∀ a, (![4096 * p + 16 * j, 0] : Fin 2 → ℕ) a + S16x128.size a ≤ S8192x128.size a)
    (h' : ∀ a, (![16 * tok inv (256 * t + j), 0] : Fin 2 → ℕ) a + S16x128.size a ≤ S133120x128.size a)
    (f : S8192x128.Idx → Elt F .f32) (y : S8192x128.Idx) (hy : y ∈ blk p j) :
    (bM.slice (Rect.unit (s := S8192x128) ![4096 * p + 16 * j, 0] S16x128.size h) (fun _ => rfl)).view.write (Elt F) f
      ((xM.slice (Rect.unit (s := S133120x128) ![16 * tok inv (256 * t + j), 0] S16x128.size h') (fun _ => rfl)).view.read (Elt F) X)
      Finset.univ y = landed inv X p t y := by
  have e : (y 0).val / 16 = 256 * p + j := by simpa [blk] using hy
  have hy1 : (y 1).val < 128 := (y 1).isLt
  have hy0 : (y 0).val < 8192 := (y 0).isLt
  obtain ⟨x, hx⟩ : ∃ x : S16x128.Idx, (bM.slice (Rect.unit (s := S8192x128) ![4096 * p + 16 * j, 0] S16x128.size h) (fun _ => rfl)).view.emb x = y := by
    refine ⟨ix2 ⟨(y 0).val % 16, by omega⟩ (y 1), ?_⟩
    funext a; apply Fin.ext; fin_cases a
    · show 4096 * p + 16 * j + 1 * ((y 0).val % 16) = (y 0).val; omega
    · show 0 + 1 * (y 1).val = (y 1).val; omega
  rw [← hx, View.write_emb_of_mem _ _ (Finset.mem_univ _)]
  have e0 : 4096 * p + 16 * j + 1 * (x 0).val = (y 0).val := by rw [← hx]; rfl
  have e1 : 0 + 1 * (x 1).val = (y 1).val := by rw [← hx]; rfl
  have hx0 : (x 0).val < 16 := (x 0).isLt
  show X _ = X _
  rw [hx]
  congr 1
  funext a; apply Fin.ext; fin_cases a
  · show 16 * tok inv (256 * t + j) + 1 * (x 0).val = (16 * tok inv (256 * t + ((y 0).val / 16 - 256 * p)) + (y 0).val % 16) % 133120
    rw [show (y 0).val / 16 - 256 * p = j by omega, Nat.mod_eq_of_lt (by omega)]; omega
  · exact e1

/-! ## The cells, the deliveries and the batch -/

/-- The semaphore of half `p`. -/
def cell (p : ℕ) : DmaSem sig := if p = 0 then 8 else 9

theorem cell_eq (p : ℕ) (hp : p < 2) (h : ∀ a, (![p] : Fin 1 → ℕ) a + S1.size a ≤ S2.size a) (hs : S1.Squeezes S_) :
    ((cc0_scratch4.slice (Rect.unit (s := S2) ![p] S1.size h)).squeeze S_ hs).sem = cell p := by
  interval_cases p <;> decide +kernel +revert

/-- The units one row copy credits. -/
def unit16 : ℕ := (cc0_scratch3 : Ref sig .tc).dmaCredit S16x128 .f32

theorem unit16_pos : 0 < unit16 := by decide

variable (c : Dev nD) (inv : S24832.Idx → BitVec 32) (X : S133120x128.Idx → Elt F .f32)

/-- The share of the token-major array that copy `n` reads under. -/
def tk (n : ℕ) : PosShare TreeShare := Transfers.shareTokN fullShare n

/-- What copy `r` of tile `t` into half `p` hands back: the token's rows landed, and the rows it read. -/
def deliv (p t : ℕ) (r : Fin 256) : sProp 𝕄 :=
  iprop((((c : Thread nD τ).loc cc0_scratch3) ↦[blk p r.val]{fullShare} landed inv X p t)
    ∗ (((c : Thread nD τ).loc main_arg4) ↦[tokRows (tok inv (256 * t + r.val))]{tk (256 * p + r.val)} X))

instance deliv_storable (p t : ℕ) (r : Fin 256) : Storable (upEmb : UEmb _ 𝕄) (deliv c inv X p t r) := by
  unfold deliv; infer_instance

/-- The rows copy `r` of tile `t` does not read, kept while it flies. -/
def kept (p t : ℕ) (r : Fin 256) : sProp 𝕄 :=
  iprop(((c : Thread nD τ).loc main_arg4) ↦[Finset.univ \ tokRows (tok inv (256 * t + r.val))]{tk (256 * p + r.val)} X)

/-- The share copy `r` into half `p` will read under. -/
def share (p : ℕ) (r : Fin 256) : sProp 𝕄 := iprop(((c : Thread nD τ).loc main_arg4) ↦{tk (256 * p + r.val)} X)

/-- Tile `t`'s copies into half `p`: `j` of 256 started, `u` units waited for. -/
def batch (p t j u : ℕ) : sProp 𝕄 :=
  Transfers.Batch (countersEmb (U := Pipeline.UD sig nD τ)) (c : Thread nD τ) (.dma (cell p)) () unit16 (deliv c inv X p t) j u

/-- Starting one copy: its token's share and 16 rows of the half go into the batch. -/
theorem issue (p t j : ℕ) (hp : p < 2) (hj : j < 256) (hv : tok inv (256 * t + j) < 8320)
    {od : Fin 2 → ℕ} {os : Fin 2 → ℕ} (hod : od = ![4096 * p + 16 * j, 0]) (hos : os = ![16 * tok inv (256 * t + j), 0])
    {hd : ∀ a, od a + S16x128.size a ≤ S8192x128.size a} {hs : ∀ a, os a + S16x128.size a ≤ S133120x128.size a}
    {sm : DmaSem sig} (hsm : sm = cell p)
    {w1 : (xM.slice (Rect.unit (s := S133120x128) os S16x128.size hs) (fun _ => rfl)).view.WordExact}
    {w2 : (bM.slice (Rect.unit (s := S8192x128) od S16x128.size hd) (fun _ => rfl)).view.WordExact}
    {w3 : DmaTarget.Typed (nD := nD) (τ := τ) (p := .tc) .hbm (.dma sm) (.here (bM.slice (Rect.unit (s := S8192x128) od S16x128.size hd) (fun _ => rfl)))}
    {α : Type} {k : PUnit → Prog (TpuEff nD τ sig (Elt F) Λ₀ .tc) α} {Q : α → sProp 𝕄} (f : S8192x128.Idx → Elt F .f32) :
    iprop(batch c inv X p t j 0 ∗ share c X p ⟨j, hj⟩ ∗ (((c : Thread nD τ).loc cc0_scratch3) ↦[slabFrom p j]{fullShare} f))
      ⊢ iprop((iprop(batch c inv X p t (j + 1) 0 ∗ kept c inv X p t ⟨j, hj⟩
            ∗ (((c : Thread nD τ).loc cc0_scratch3) ↦[slabFrom p (j + 1)]{fullShare} f))
          -∗ wp frame (wpE (defs₀ (F := F)) Variants.none (c : Thread nD τ) none) Set.univ (k ⟨⟩) Q)
        -∗ wp frame (wpE (defs₀ (F := F)) Variants.none (c : Thread nD τ) none) Set.univ
          (.op (.enqueueDma (xM.slice (Rect.unit (s := S133120x128) os S16x128.size hs) (fun _ => rfl))
            (.here (bM.slice (Rect.unit (s := S8192x128) od S16x128.size hd) (fun _ => rfl))) (.dma sm) w1 w2 w3) k) Q) := by
  subst hod hos hsm
  unfold batch
  iintro ⟨HB, Hs, Hf⟩ Hk
  ihave Hs' := (show share c X p ⟨j, hj⟩ ⊢ iprop(
      (((c : Thread nD τ).loc main_arg4) ↦[tokRows (tok inv (256 * t + j))]{tk (256 * p + j)} X) ∗ kept c inv X p t ⟨j, hj⟩) from by
    unfold share kept
    exact (pointsTo_split_subset (Finset.subset_univ _)).1) $$ Hs
  icases Hs' with ⟨Hs, Hkeep⟩
  ihave Hf' := (show (((c : Thread nD τ).loc cc0_scratch3) ↦[slabFrom p j]{fullShare} f : sProp 𝕄) ⊢ iprop(
      (((c : Thread nD τ).loc cc0_scratch3) ↦[blk p j]{fullShare} f) ∗ ((c : Thread nD τ).loc cc0_scratch3) ↦[slabFrom p (j + 1)]{fullShare} f) from by
    rw [slabFrom_step p j hj]; exact (pointsTo_union (slab_disj p j)).1) $$ Hf
  icases Hf' with ⟨Hb, Hf⟩
  iapply (Transfers.wp_dmaBatch (countersEmb (U := Pipeline.UD sig nD τ)) Variants.none (c : Thread nD τ) none
    (src := xM.slice (Rect.unit (s := S133120x128) ![16 * tok inv (256 * t + j), 0] S16x128.size hs) (fun _ => rfl))
    (dst := bM.slice (Rect.unit (s := S8192x128) ![4096 * p + 16 * j, 0] S16x128.size hd) (fun _ => rfl))
    (via := .same) (sm := .dma (cell p)) (q := tk (256 * p + j)) (fs := X) (fd := f) (D := deliv c inv X p t) (Sd := blk p j)
    (u := 0) () unit16 rfl (dst_set p j hd).le hj (Nat.zero_le _) ?_) $$ [HB Hs Hb]
  · unfold deliv
    rw [src_set]
    refine sep_mono_left (Entails.of_eq (pointsTo_congr fun y hy => ?_))
    exact land_apply inv X p t j hj hv hd hs f y hy
  · isplitl [Hs]; · rw [src_set]; iexact Hs
    isplitl [Hb]; · iexact Hb
    iexact HB
  iintro HB
  iapply Hk
  isplitl [HB]; · iexact HB
  isplitl [Hkeep]; · iexact Hkeep
  iexact Hf

end Cert.Proof.Moe
end
-- ==== Proof.MoeLoops.lean ====
module

public import proofs.«01_k».proof.Proof.MoeSlots

@[expose] public section

noncomputable section

namespace Cert.Proof.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's algebra: the pipeline's beside the counters of the copies. -/
local notation "𝕄" => MT nD τ sig Unit (Elt F) ℕ (Pipeline.UD sig nD τ) ℕ

/-! # The three counted loops of the expert call

Two loops start the 256 row copies of a tile into one half of the buffer; the third waits for them. -/

variable (c : Dev nD) (inv : S24832.Idx → BitVec 32) (X : S133120x128.Idx → Elt F .f32)

/-- A word of the slot table, read at its place. -/
theorem word_at {o : Fin 1 → ℕ} (n : ℕ) (ho : o = ![n]) (hn : n < 24832)
    (h : ∀ a, o a + S1.size a ≤ S24832.size a) (x : (Rect.unit (s := S24832) o S1.size h).shape.Idx) :
    (iM.access (Rect.unit (s := S24832) o S1.size h)).read (Elt F) inv x = inv (ix1 ⟨n, hn⟩) := by
  subst ho
  refine congrArg inv ?_
  have hx : (x 0).val < 1 := (x 0).isLt
  funext a; apply Fin.ext; fin_cases a
  show n + 1 * (x 0).val = n
  omega

/-- The semaphore a copy signals, from the half its offset names. -/
theorem cell_of {o : Fin 1 → ℕ} (p : ℕ) (hp : p < 2) (ho : o = ![p]) (h : ∀ a, o a + S1.size a ≤ S2.size a) (hs : S1.Squeezes S_) :
    ((cc0_scratch4.slice (Rect.unit (s := S2) o S1.size h)).squeeze S_ hs).sem = cell p := by
  subst ho; exact cell_eq p hp h hs

/-- Half `p` at rest: its semaphore at zero, its rows held at anything, its 256 shares of the token-major array. -/
def Idle (p : ℕ) : sProp 𝕄 :=
  iprop(semVal ((c : Thread nD τ), .dma (cell p)) 0
    ∗ (∃ f : S8192x128.Idx → Elt F .f32, ((c : Thread nD τ).loc cc0_scratch3) ↦[slabFrom p 0]{fullShare} f)
    ∗ bigSep Finset.univ (share c X p))

/-- Half `p` with tile `t`'s 256 copies in flight. -/
def Busy (p t : ℕ) : sProp 𝕄 :=
  iprop(batch c inv X p t 256 0 ∗ bigSep Finset.univ (kept c inv X p t))

/-- The slot table's half share. -/
def table : sProp 𝕄 := iprop(((c : Thread nD τ).loc main_arg3) ↦{fullShare.right} inv)

/-- Reading a word of the slot table. -/
theorem wp_word {o : Fin 1 → ℕ} (n : ℕ) (ho : o = ![n]) (hn : n < 24832) {h : ∀ a, o a + S1.size a ≤ S24832.size a}
    {hw : (iM.access (Rect.unit (s := S24832) o S1.size h)).Loads} {x : (Rect.unit (s := S24832) o S1.size h).shape.Idx}
    {α : Type} {k : Elt F .i32 → Prog (TpuEff nD τ sig (Elt F) Λ₀ .tc) α} {Q : α → sProp 𝕄} :
    table (F := F) c inv
      ⊢ iprop((table (F := F) c inv -∗ wp frame (wpE (defs₀ (F := F)) Variants.none (c : Thread nD τ) none) Set.univ (k (inv (ix1 ⟨n, hn⟩))) Q)
        -∗ wp frame (wpE (defs₀ (F := F)) Variants.none (c : Thread nD τ) none) Set.univ
          (smemLoadElt iM (Rect.unit (s := S24832) o S1.size h) hw x k) Q) := by
  unfold table
  iintro Ht Hk
  iapply (wp_smemLoadElt Variants.none (c : Thread nD τ) none Set.univ (m := iM) (r := Rect.unit (s := S24832) o S1.size h)
    (x := x) (S := Finset.univ) (q := fullShare.right) (f := inv) (Finset.subset_univ _)) $$ Ht
  iintro Ht
  rw [← word_at (F := F) inv n ho hn h x]
  iapply Hk
  iexact Ht

/-- While `j` of a tile's copies have been started. -/
def starting (p t j : ℕ) : sProp 𝕄 :=
  iprop(batch c inv X p t j 0 ∗ bigSep (Transfers.pending j) (share c X p) ∗ bigSep (Transfers.issued j) (kept c inv X p t)
    ∗ (∃ f : S8192x128.Idx → Elt F .f32, ((c : Thread nD τ).loc cc0_scratch3) ↦[slabFrom p j]{fullShare} f)
    ∗ table (F := F) c inv)

/-- While `k` of a tile's copies have been waited for. -/
def draining (p t k : ℕ) : sProp 𝕄 :=
  iprop(batch c inv X p t 256 (k * unit16) ∗ table (F := F) c inv ∗ ∃ W, owes (c : Thread nD τ) 0 W)

/-- A half at rest, about to start a tile's copies. -/
theorem starting_zero (p t : ℕ) :
    iprop(Idle c X p ∗ table (F := F) c inv) ⊢ (|={Set.univ}=> starting c inv X p t 0 : sProp 𝕄) := by
  unfold Idle starting batch
  iintro ⟨⟨Hc, ⟨%f, Hf⟩, Hs⟩, Ht⟩
  imod (Transfers.batch_alloc' (Lvl := ℕ) (countersEmb (U := Pipeline.UD sig nD τ)) (c : Thread nD τ) () unit16
    (deliv c inv X p t) (sm := .dma (cell p)) (E := Set.univ)) $$ Hc with HB
  imodintro
  isplitl [HB]; · iexact HB
  isplitl [Hs]; · rw [← Transfers.bigSep_pending_zero]; iexact Hs
  isplitr; · rw [Transfers.issued_zero, bigSep_empty]; iempintro
  isplitl [Hf]; · iexists f; iexact Hf
  iexact Ht

/-- A half whose 256 copies have all been started. -/
theorem starting_done (p t : ℕ) : starting c inv X p t 256 ⊢ (iprop(Busy c inv X p t ∗ table (F := F) c inv) : sProp 𝕄) := by
  unfold Busy starting
  iintro ⟨HB, -, Hk, -, Ht⟩
  isplitr [Ht]
  · isplitl [HB]; · iexact HB
    rw [Transfers.issued_all rfl]; iexact Hk
  iexact Ht

/-- The copies started up to and with the `j`-th. -/
theorem issued_step (D : Fin 256 → sProp 𝕄) (j : ℕ) (hj : j < 256) :
    bigSep (Transfers.issued (j + 1)) D = iprop(D ⟨j, hj⟩ ∗ bigSep (Transfers.issued j) D) := by
  rw [Transfers.issued_succ hj, bigSep_insert (Transfers.not_mem_issued hj)]; rfl

/-- One copy started: the half's bookkeeping goes one further. -/
theorem start_one (p t j : ℕ) (hp : p < 2) (hj : j < 256) (hv : tok inv (256 * t + j) < 8320)
    {od : Fin 2 → ℕ} {os : Fin 2 → ℕ} (hod : od = ![4096 * p + 16 * j, 0]) (hos : os = ![16 * tok inv (256 * t + j), 0])
    {hd : ∀ a, od a + S16x128.size a ≤ S8192x128.size a} {hs : ∀ a, os a + S16x128.size a ≤ S133120x128.size a}
    {sm : DmaSem sig} (hsm : sm = cell p)
    {w1 : (xM.slice (Rect.unit (s := S133120x128) os S16x128.size hs) (fun _ => rfl)).view.WordExact}
    {w2 : (bM.slice (Rect.unit (s := S8192x128) od S16x128.size hd) (fun _ => rfl)).view.WordExact}
    {w3 : DmaTarget.Typed (nD := nD) (τ := τ) (p := .tc) .hbm (.dma sm) (.here (bM.slice (Rect.unit (s := S8192x128) od S16x128.size hd) (fun _ => rfl)))} :
    starting c inv X p t j
      ⊢ wp frame (wpE (defs₀ (F := F)) Variants.none (c : Thread nD τ) none) Set.univ
          (.op (.enqueueDma (xM.slice (Rect.unit (s := S133120x128) os S16x128.size hs) (fun _ => rfl))
            (.here (bM.slice (Rect.unit (s := S8192x128) od S16x128.size hd) (fun _ => rfl))) (.dma sm) w1 w2 w3)
              fun _ => .ret PUnit.unit) (fun _ => starting c inv X p t (j + 1)) := by
  unfold starting
  rw [Transfers.bigSep_pending_step _ j hj, issued_step _ j hj]
  iintro ⟨HB, ⟨Hs, Hp⟩, Hk, ⟨%f, Hf⟩, Ht⟩
  iapply (issue c inv X p t j hp hj hv hod hos hsm (w1 := w1) (w2 := w2) (w3 := w3) f) $$ [HB Hs Hf]
  · isplitl [HB]; · iexact HB
    isplitl [Hs]; · iexact Hs
    iexact Hf
  iintro ⟨HB, Hkeep, Hf⟩
  rw [wp_ret]
  imodintro
  isplitl [HB]; · iexact HB
  isplitl [Hp]; · iexact Hp
  isplitl [Hkeep Hk]
  · isplitl [Hkeep]; · iexact Hkeep
    iexact Hk
  isplitl [Hf]; · iexists f; iexact Hf
  iexact Ht

variable (hinv : ∀ n : S24832.Idx, (inv n).toNat < 8320)

include hinv

/-- Every word of the slot table names a token. -/
theorem tok_lt (n : ℕ) : tok inv n < 8320 := hinv _

/-- A word the loops read names the token of its slot. -/
theorem word_tok (n : ℕ) (hn : n < 24832) : (inv (ix1 ⟨n, hn⟩)).toNat = tok inv n := by
  unfold tok; congr 3; exact Fin.ext (Nat.mod_eq_of_lt hn).symm

variable (i : grid0.Coords) (a1 : Memref sig .tc .smem S97 .i32) (h1 : a1.IsWhole)
    (a2 : Memref sig .tc .smem S97 .i32) (h2 : a2.IsWhole)
    (a3 : Memref sig .tc .smem S97 .i32) (h3 : a3.IsWhole)
    (a6 : Memref sig .tc .vmem S1x2048x512 .f32) (h6 : a6.IsWhole)
    (a7 : Memref sig .tc .vmem S1x2048x512 .f32) (h7 : a7.IsWhole)
    (a8 : Memref sig .tc .vmem S1x512x2048 .f32) (h8 : a8.IsWhole)
    (a9 : Memref sig .tc .vmem S4096x128 .f32) (h9 : a9.IsWhole)
    (a10 : Memref sig .tc .vmem S2048x512 .bf16) (h10 : a10.IsWhole)
    (a11 : Memref sig .tc .vmem S2048x512 .bf16) (h11 : a11.IsWhole)
    (a12 : Memref sig .tc .vmem S512x2048 .bf16) (h12 : a12.IsWhole)
    (h4 : iM.IsWhole) (h5 : xM.IsWhole) (h13 : bM.IsWhole)

omit [FloatOps F] in
theorem grid_lt : (i 0).val < 97 := (i 0).isLt

/-- A trip of the loop that starts the first tile. -/
theorem trip1 (v1 : Elt F .i32) (g : k0_cond1 i v1 = 1#1) (k : Fin k0_t1_loop.trips) (u : Unit) :
    starting c inv X 0 0 k.val
      ⊢ wp frame (wpE (defs₀ (F := F)) Variants.none (c : Thread nD τ) none) Set.univ
          (k0_t1_body i a1 h1 a2 h2 a3 h3 iM h4 xM h5 a6 h6 a7 h7 a8 h8 a9 h9 a10 h10 a11 h11 a12 h12 bM h13 cc0_scratch4 v1 g k u) (fun _ => starting c inv X 0 0 (k.val + 1)) := by
  have hk : k.val < 256 := lt_of_lt_of_eq k.isLt trips1
  unfold k0_t1_body
  simp only [smemLoad, smemLoadElt_bind]
  iintro Hst
  unfold starting
  icases Hst with ⟨HB, Hp, Hk, Hf, Ht⟩
  iapply (wp_word c inv k.val (k0_off2_eq k) (by omega)) $$ Ht
  iintro Ht
  obtain ⟨w, hw⟩ : ∃ w, w = inv (ix1 ⟨k.val, by omega⟩) := ⟨_, rfl⟩
  rw [← hw]
  have hwt : w.toNat = tok inv (256 * 0 + k.val) := by rw [hw, word_tok inv hinv]; congr 1; omega
  have hlt : w.toNat < 8320 := by rw [hwt]; exact tok_lt inv hinv _
  iapply (wp_assume Variants.none (c : Thread nD τ) none Set.univ (chk1_of i v1 w hlt))
  iapply (start_one c inv X 0 0 k.val (by omega) hk (hwt ▸ hlt) (by rw [k0_off3_eq]; congr 1; omega) (by rw [off4_eq w hlt, hwt])
    (cell_eq 0 (by omega) _ _))
  unfold starting
  isplitl [HB]; · iexact HB
  isplitl [Hp]; · iexact Hp
  isplitl [Hk]; · iexact Hk
  isplitl [Hf]; · iexact Hf
  iexact Ht

/-- A trip of the loop that starts the next tile. -/
theorem trip2 (v11 : Elt F .i32) (g0 : k0_chk2 i v11) (g : k0_cond2 i v11 = 1#1) (hi : (i 0).val < 96) (k : Fin k0_t2_loop.trips) (u : Unit) :
    starting c inv X (((i 0).val + 1) % 2) ((i 0).val + 1) k.val
      ⊢ wp frame (wpE (defs₀ (F := F)) Variants.none (c : Thread nD τ) none) Set.univ
          (k0_t2_body i a1 h1 a2 h2 a3 h3 iM h4 xM h5 a6 h6 a7 h7 a8 h8 a9 h9 a10 h10 a11 h11 a12 h12 bM h13 cc0_scratch4 v11 g0 g k u) (fun _ => starting c inv X (((i 0).val + 1) % 2) ((i 0).val + 1) (k.val + 1)) := by
  have hk : k.val < 256 := lt_of_lt_of_eq k.isLt trips2
  unfold k0_t2_body
  simp only [smemLoad, smemLoadElt_bind]
  iintro Hst
  unfold starting
  icases Hst with ⟨HB, Hp, Hk, Hf, Ht⟩
  iapply (wp_word c inv (256 * ((i 0).val + 1) + k.val) (off6_eq i hi k) (by omega)) $$ Ht
  iintro Ht
  obtain ⟨w, hw⟩ : ∃ w, w = inv (ix1 ⟨256 * ((i 0).val + 1) + k.val, by omega⟩) := ⟨_, rfl⟩
  rw [← hw]
  have hwt : w.toNat = tok inv (256 * ((i 0).val + 1) + k.val) := by rw [hw, word_tok inv hinv]
  have hlt : w.toNat < 8320 := by rw [hwt]; exact tok_lt inv hinv _
  iapply (wp_assume Variants.none (c : Thread nD τ) none Set.univ (chk3_of i v11 w hlt))
  iapply (start_one c inv X (((i 0).val + 1) % 2) ((i 0).val + 1) k.val (by omega) hk (hwt ▸ hlt) (off8_eq i k)
    (by rw [off9_eq w hlt, hwt]) (cell_of (((i 0).val + 1) % 2) (by omega) (off7_eq i) _ _))
  unfold starting
  isplitl [HB]; · iexact HB
  isplitl [Hp]; · iexact Hp
  isplitl [Hk]; · iexact Hk
  isplitl [Hf]; · iexact Hf
  iexact Ht

/-- A trip of the loop that waits for the tile. -/
theorem trip3 (z : BitVec 32) (v22 : Elt F .i32) (g : k0_cond4 v22 = 1#1) (k : Fin k0_t3_loop.trips) (u : Unit) :
    draining c inv X ((i 0).val % 2) (i 0).val k.val
      ⊢ wp frame (wpE (defs₀ (F := F)) Variants.none (c : Thread nD τ) none) Set.univ
          (k0_t3_body i a1 h1 a2 h2 a3 h3 iM h4 xM h5 a6 h6 a7 h7 a8 h8 a9 h9 a10 h10 a11 h11 a12 h12 bM h13 cc0_scratch4 z v22 g k u) (fun _ => draining c inv X ((i 0).val % 2) (i 0).val (k.val + 1)) := by
  have hk : k.val < 256 := lt_of_lt_of_eq k.isLt trips3
  have hi : (i 0).val < 97 := (i 0).isLt
  unfold k0_t3_body
  simp only [smemLoad, smemLoadElt_bind]
  iintro Hst
  unfold draining
  icases Hst with ⟨HB, Ht, ⟨%W, HO⟩⟩
  iapply (wp_word c inv (256 * (i 0).val + k.val) (k0_off12_eq i k) (by omega)) $$ Ht
  iintro Ht
  obtain ⟨w, hw⟩ : ∃ w, w = inv (ix1 ⟨256 * (i 0).val + k.val, by omega⟩) := ⟨_, rfl⟩
  rw [← hw]
  have hwt : w.toNat = tok inv (256 * (i 0).val + k.val) := by rw [hw, word_tok inv hinv]
  have hlt : w.toNat < 8320 := by rw [hwt]; exact tok_lt inv hinv _
  iapply (wp_assume Variants.none (c : Thread nD τ) none Set.univ (chk4_of v22 w hlt))
  unfold batch
  have hc := cell_of ((i 0).val % 2) (by omega) (off13_eq i) (k0_off13_inb i) squeezes_S1_S_
  rw [← hc]
  iapply (Transfers.wp_waitBatchMul (countersEmb (U := Pipeline.UD sig nD τ)) Variants.none (c : Thread nD τ) none () (N := unit16) 1
    (show _ = 1 * unit16 by rw [Nat.one_mul]; rfl) (D := deliv c inv X ((i 0).val % 2) (i 0).val) (j := 256) (u := k.val * unit16)
    (by rw [← Nat.add_mul, Nat.mul_comm]; exact Nat.mul_le_mul_left _ (by omega))) $$ [HB HO]
  · isplitl [HB]; · iexact HB
    iexact HO
  iintro ⟨HB, HO⟩
  iapply (Entails.of_eq (wp_pure frame (wpE (defs₀ (F := F)) Variants.none (c : Thread nD τ) none) Set.univ PUnit.unit _).symm)
  imodintro
  isplitl [HB]
  · rw [Nat.add_mul]; iexact HB
  isplitl [Ht]; · iexact Ht
  iexists _; iexact HO

end Cert.Proof.Moe
end
-- ==== Proof.MoeSteps.lean ====
/- One tile of the expert kernel: its drained half read column by column, the three products, and the block stored
   column by column. -/
module

public import proofs.«01_k».proof.Proof.MoeLoops

@[expose] public section

noncomputable section

namespace Cert.Proof.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's algebra: the pipeline's beside the counters of the copies. -/
local notation "𝕄" => MT nD τ sig Unit (Elt F) ℕ (Pipeline.UD sig nD τ) ℕ

/-! ## Memrefs held at their contents -/

/-- A load from a memref held at `V` reads `V` at the rectangle's places. -/
theorem load_held (c : Dev nD) {α : Type} {Q : α → sProp 𝕄} {sh : Shape} {e : EltTy} {m : Memref sig .tc .vmem sh e} {r : LoadRect sh} {hl : m.view.LoadsAt r}
    {k : (r.shape.Idx → Elt F e) → Prog (TpuEff nD τ sig (Elt F) Λ₀ .tc) α} {q : PosShare TreeShare} {V : sh.Idx → Elt F e} :
    owns (c : Thread nD τ) m q V
      ⊢ iprop((owns (c : Thread nD τ) m q V -∗
          wp frame (wpE (defs₀ (F := F)) Variants.none (c : Thread nD τ) none) Set.univ (k fun x => V (r.idx x)) Q)
        -∗ wp frame (wpE (defs₀ (F := F)) Variants.none (c : Thread nD τ) none) Set.univ (.op (.load m r hl) k) Q) := by
  unfold owns
  iintro ⟨%f, %hf, H⟩ Hk
  iapply (wp_load Variants.none (c : Thread nD τ) none Set.univ (m := m) (r := r) (S := m.view.set) (q := q) (f := f)
    (View.setOn_subset_set _ _)) $$ H
  iintro H
  rw [show (m.view.readAt (Elt F) r f) = fun x => V (r.idx x) from by subst hf; rfl]
  iapply Hk
  iexists f
  isplitr; · ipureintro; exact hf
  iexact H

/-- A store through a rectangle of a memref held at `V` leaves it at `V'`: the payload on the rectangle, `V` off it. -/
theorem store_held (c : Dev nD) {α : Type} {Q : α → sProp 𝕄} {sh : Shape} {e : EltTy} {m : Memref sig .tc .vmem sh e} {r : Rect sh} {w : r.shape.Idx → Elt F e}
    {hx : (m.access r).Stores Finset.univ} {hm : (Finset.univ : Finset r.shape.Idx) = Finset.univ ∨ ∀ a, r.stride a = 1}
    {k : PUnit → Prog (TpuEff nD τ sig (Elt F) Λ₀ .tc) α} {V V' : sh.Idx → Elt F e}
    (h1 : ∀ x, V' (r.emb x) = w x) (h2 : ∀ y, y ∉ r.set → V' y = V y) :
    owns (c : Thread nD τ) m fullShare V
      ⊢ iprop((owns (c : Thread nD τ) m fullShare V' -∗
          wp frame (wpE (defs₀ (F := F)) Variants.none (c : Thread nD τ) none) Set.univ (k ⟨⟩) Q)
        -∗ wp frame (wpE (defs₀ (F := F)) Variants.none (c : Thread nD τ) none) Set.univ (.op (.store m r w Finset.univ hx hm) k) Q) := by
  unfold owns
  iintro ⟨%f, %hf, H⟩ Hk
  iapply (wp_store Variants.none (c : Thread nD τ) none Set.univ (m := m) (r := r) (w := w) (Mk := Finset.univ) (S := m.view.set) (f := f)
    (by
      intro y hy
      obtain ⟨x, -, rfl⟩ := Finset.mem_map.mp hy
      exact View.emb_mem_set m.view (r.emb x))) $$ H
  iintro H
  iapply Hk
  iexists _
  isplitr
  · ipureintro
    funext y
    by_cases hy : y ∈ r.set
    · obtain ⟨x, rfl⟩ := r.toLoadRect.exists_idx_of_mem hy
      refine Eq.trans ?_ (h1 x).symm
      exact congrFun (View.read_write_univ (v := m.access r) (Val := Elt F) f w) x
    · rw [h2 y hy, ← hf, View.read_apply, View.read_apply]
      congr 1
      refine View.write_of_not_mem _ _ _ fun hmem => hy ?_
      obtain ⟨x, -, hxy⟩ := Finset.mem_map.mp hmem
      have : r.emb x = y := m.view.emb.injective hxy
      rw [← this]; exact r.toLoadRect.idx_mem x
  · iexact H

/-- A load of the whole. -/
theorem load_all (c : Dev nD) {α : Type} {Q : α → sProp 𝕄} {sh : Shape} {e : EltTy} {m : Memref sig .tc .vmem sh e} {off : Fin sh.rank → ℕ} (ho : ∀ a, off a = 0)
    {inb : ∀ a, off a + sh.size a ≤ sh.size a} {hl : m.view.LoadsAt (Rect.unit (s := sh) off sh.size inb).toLoadRect}
    {k : (sh.Idx → Elt F e) → Prog (TpuEff nD τ sig (Elt F) Λ₀ .tc) α} {q : PosShare TreeShare} {V : sh.Idx → Elt F e} :
    owns (c : Thread nD τ) m q V
      ⊢ iprop((owns (c : Thread nD τ) m q V -∗
          wp frame (wpE (defs₀ (F := F)) Variants.none (c : Thread nD τ) none) Set.univ (k V) Q)
        -∗ wp frame (wpE (defs₀ (F := F)) Variants.none (c : Thread nD τ) none) Set.univ
          (.op (.load m (Rect.unit (s := sh) off sh.size inb).toLoadRect hl) k) Q) := by
  have e : (fun x : sh.Idx => V ((Rect.unit (s := sh) off sh.size inb).toLoadRect.idx x)) = V :=
    funext fun x => congrArg V (funext fun a => Fin.ext (by
      show off a + 1 * (x a).val = (x a).val
      rw [ho a]; omega))
  have h := load_held (c := c) (Q := Q) (m := m) (r := (Rect.unit (s := sh) off sh.size inb).toLoadRect) (hl := hl) (k := k) (q := q) (V := V)
  refine h.trans (wand_mono_left (wand_mono_right (Entails.of_eq ?_)))
  exact congrArg (fun z => wp frame (wpE (defs₀ (F := F)) Variants.none (c : Thread nD τ) none) Set.univ (k z) Q) e.symm

/-- A store over the whole. -/
theorem store_all (c : Dev nD) {α : Type} {Q : α → sProp 𝕄} {sh : Shape} {e : EltTy} {m : Memref sig .tc .vmem sh e} {off : Fin sh.rank → ℕ} (ho : ∀ a, off a = 0)
    {inb : ∀ a, off a + sh.size a ≤ sh.size a} {w : sh.Idx → Elt F e}
    {hx : (m.access (Rect.unit (s := sh) off sh.size inb)).Stores Finset.univ}
    {hm : (Finset.univ : Finset (Rect.unit (s := sh) off sh.size inb).shape.Idx) = Finset.univ ∨ ∀ a, (Rect.unit (s := sh) off sh.size inb).stride a = 1}
    {k : PUnit → Prog (TpuEff nD τ sig (Elt F) Λ₀ .tc) α} {V : sh.Idx → Elt F e} :
    owns (c : Thread nD τ) m fullShare V
      ⊢ iprop((owns (c : Thread nD τ) m fullShare w -∗
          wp frame (wpE (defs₀ (F := F)) Variants.none (c : Thread nD τ) none) Set.univ (k ⟨⟩) Q)
        -∗ wp frame (wpE (defs₀ (F := F)) Variants.none (c : Thread nD τ) none) Set.univ
          (.op (.store m (Rect.unit (s := sh) off sh.size inb) w Finset.univ hx hm) k) Q) := by
  have e (x : sh.Idx) : (Rect.unit (s := sh) off sh.size inb).emb x = x :=
    funext fun a => Fin.ext (by
      show off a + 1 * (x a).val = (x a).val
      rw [ho a]; omega)
  refine store_held c (fun x => congrArg w (e x)) (fun y hy => absurd ?_ hy)
  have := (Rect.unit (s := sh) off sh.size inb).toLoadRect.idx_mem y
  rwa [show (Rect.unit (s := sh) off sh.size inb).toLoadRect.idx y = y from e y] at this

/-! ## The block stored by columns -/

/-- A block whose first `q` column groups hold `V` and whose others hold `d`: row `16 r + g` is row `r` of group `g`. -/
def upTo (d : S4096x128.Idx → Elt F .f32) (V : ℕ → S256x128.Idx → Elt F .f32) (q : ℕ) : S4096x128.Idx → Elt F .f32 :=
  fun y => if (y 0).val % 16 < q then V ((y 0).val % 16) (ix2 ⟨(y 0).val / 16, by have : (y 0).val < 4096 := (y 0).isLt; show _ < 256; omega⟩ (y 1)) else d y

theorem upTo_zero (d : S4096x128.Idx → Elt F .f32) (V : ℕ → S256x128.Idx → Elt F .f32) : upTo d V 0 = d := by
  funext y; unfold upTo; rw [if_neg (by omega)]

theorem upTo_all (d d' : S4096x128.Idx → Elt F .f32) (V : ℕ → S256x128.Idx → Elt F .f32) : upTo d V 16 = upTo d' V 16 := by
  funext y; unfold upTo; rw [if_pos (Nat.mod_lt _ (by omega)), if_pos (Nat.mod_lt _ (by omega))]

/-- One column group stored (the load before it reads what is then overwritten). -/
theorem column (c : Dev nD) {α : Type} {Q : α → sProp 𝕄} (q : ℕ) (hq : q < 16) {m : Memref sig .tc .vmem S4096x128 .f32}
    {inb : ∀ a, S256x128.size a = 0 ∨ (![q, 0] : Fin 2 → ℕ) a + (![16, 1] : Fin 2 → ℕ) a * (S256x128.size a - 1) < S4096x128.size a}
    {sp : ∀ a, 0 < (![16, 1] : Fin 2 → ℕ) a}
    {hl : m.view.LoadsAt (⟨![q, 0], S256x128.size, ![16, 1], inb⟩ : LoadRect S4096x128)}
    {w : S256x128.Idx → Elt F .f32}
    {hx : (m.access (⟨(⟨![q, 0], S256x128.size, ![16, 1], inb⟩ : LoadRect S4096x128), sp⟩ : Rect S4096x128)).Stores Finset.univ}
    {hm : (Finset.univ : Finset (⟨(⟨![q, 0], S256x128.size, ![16, 1], inb⟩ : LoadRect S4096x128), sp⟩ : Rect S4096x128).shape.Idx) = Finset.univ
      ∨ ∀ a, (⟨(⟨![q, 0], S256x128.size, ![16, 1], inb⟩ : LoadRect S4096x128), sp⟩ : Rect S4096x128).stride a = 1}
    {k : PUnit → Prog (TpuEff nD τ sig (Elt F) Λ₀ .tc) α}
    {d : S4096x128.Idx → Elt F .f32} {V : ℕ → S256x128.Idx → Elt F .f32} (hw : w = V q) :
    owns (c : Thread nD τ) m fullShare (upTo d V q)
      ⊢ iprop((owns (c : Thread nD τ) m fullShare (upTo d V (q + 1)) -∗
          wp frame (wpE (defs₀ (F := F)) Variants.none (c : Thread nD τ) none) Set.univ (k ⟨⟩) Q)
        -∗ wp frame (wpE (defs₀ (F := F)) Variants.none (c : Thread nD τ) none) Set.univ
          (.op (.load m (⟨![q, 0], S256x128.size, ![16, 1], inb⟩ : LoadRect S4096x128) hl) fun _ =>
            .op (.store m (⟨(⟨![q, 0], S256x128.size, ![16, 1], inb⟩ : LoadRect S4096x128), sp⟩ : Rect S4096x128) w Finset.univ hx hm) k) Q) := by
  iintro H Hk
  iapply (load_held c) $$ H
  iintro H
  iapply (store_held c (V' := upTo d V (q + 1)) ?_ ?_) $$ H
  · intro x
    have hx0 : (x 0).val < 256 := (x 0).isLt
    have e0 : ((⟨(⟨![q, 0], S256x128.size, ![16, 1], inb⟩ : LoadRect S4096x128), sp⟩ : Rect S4096x128).emb x 0).val = q + 16 * (x 0).val := rfl
    have e1 : ((⟨(⟨![q, 0], S256x128.size, ![16, 1], inb⟩ : LoadRect S4096x128), sp⟩ : Rect S4096x128).emb x 1).val = 0 + 1 * (x 1).val := rfl
    unfold upTo
    rw [if_pos (by omega), hw, show ((⟨(⟨![q, 0], S256x128.size, ![16, 1], inb⟩ : LoadRect S4096x128), sp⟩ : Rect S4096x128).emb x 0).val % 16 = q by omega]
    congr 1
    funext a; apply Fin.ext; fin_cases a
    · show _ / 16 = (x 0).val; omega
    · show ((⟨(⟨![q, 0], S256x128.size, ![16, 1], inb⟩ : LoadRect S4096x128), sp⟩ : Rect S4096x128).emb x 1).val = (x 1).val; omega
  · intro y hy
    have hy0 : (y 0).val < 4096 := (y 0).isLt
    have hy1 : (y 1).val < 128 := (y 1).isLt
    have hne : (y 0).val % 16 ≠ q := fun h => hy <| (LoadRect.mem_set _).mpr fun a => by
      match a with
      | ⟨0, _⟩ => exact ⟨(y 0).val / 16, show _ < 256 by omega, show (y 0).val = q + 16 * ((y 0).val / 16) by omega⟩
      | ⟨1, _⟩ => exact ⟨(y 1).val, show _ < 128 by omega, show (y 1).val = 0 + 1 * (y 1).val by omega⟩
    unfold upTo
    by_cases h : (y 0).val % 16 < q
    · rw [if_pos h, if_pos (by omega)]
    · rw [if_neg h, if_neg (by omega)]
  · iexact Hk

/-! ## A tile's rows, gathered -/

variable (c : Dev nD) (inv : S24832.Idx → BitVec 32) (X : S133120x128.Idx → Elt F .f32)

/-- Column group `g` of tile `t`'s rows: row `r` is the token the table names at `256 t + r`. -/
def gath (t g : ℕ) : S256x128.Idx → Elt F .f32 :=
  fun x => X (ix2 ⟨(16 * tok inv (256 * t + (x 0).val) + g) % 133120, Nat.mod_lt _ (by omega)⟩ (x 1))

/-- A landed half at a row of a column group. -/
theorem landed_at (p t g : ℕ) (hg : g < 16) (y : S8192x128.Idx) (x : S256x128.Idx)
    (h0 : (y 0).val = 4096 * p + g + 16 * (x 0).val) (h1 : (y 1).val = (x 1).val) : landed inv X p t y = gath inv X t g x := by
  unfold landed gath
  have e : (y 0).val / 16 - 256 * p = (x 0).val := by omega
  have e' : (y 0).val % 16 = g := by omega
  refine congrArg X (congrArg₂ ix2 (Fin.ext ?_) (Fin.ext h1))
  show (16 * tok inv (256 * t + ((y 0).val / 16 - 256 * p)) + (y 0).val % 16) % 133120 = (16 * tok inv (256 * t + (x 0).val) + g) % 133120
  rw [e, e']

/-- Half `p` landed. -/
def Landed (p t : ℕ) : sProp 𝕄 := iprop(((c : Thread nD τ).loc cc0_scratch3) ↦[slabFrom p 0]{fullShare} landed inv X p t)

/-- A strided load from a landed half reads a column group of the tile. -/
theorem load_group {α : Type} {Q : α → sProp 𝕄} (p t g : ℕ) (hp : p < 2) (hg : g < 16) {o : Fin 2 → ℕ} (ho : o = ![4096 * p + g, 0])
    {inb : ∀ a, S256x128.size a = 0 ∨ o a + (![16, 1] : Fin 2 → ℕ) a * (S256x128.size a - 1) < S8192x128.size a}
    {hl : bM.view.LoadsAt (⟨o, S256x128.size, ![16, 1], inb⟩ : LoadRect S8192x128)}
    {k : (S256x128.Idx → Elt F .f32) → Prog (TpuEff nD τ sig (Elt F) Λ₀ .tc) α} :
    Landed c inv X p t
      ⊢ iprop((Landed c inv X p t -∗
          wp frame (wpE (defs₀ (F := F)) Variants.none (c : Thread nD τ) none) Set.univ (k (gath inv X t g)) Q)
        -∗ wp frame (wpE (defs₀ (F := F)) Variants.none (c : Thread nD τ) none) Set.univ
          (.op (.load bM (⟨o, S256x128.size, ![16, 1], inb⟩ : LoadRect S8192x128) hl) k) Q) := by
  subst ho
  unfold Landed
  iintro H Hk
  iapply (wp_load Variants.none (c : Thread nD τ) none Set.univ (m := bM)
    (r := (⟨![4096 * p + g, 0], S256x128.size, ![16, 1], inb⟩ : LoadRect S8192x128)) (S := slabFrom p 0) (q := fullShare) (f := landed inv X p t) ?_) $$ H
  · intro y hy
    obtain ⟨z, hz, rfl⟩ := Finset.mem_map.mp hy
    obtain ⟨j, hj, e⟩ := (LoadRect.mem_set _).mp hz 0
    have hj' : j < 256 := hj
    have e' : (z 0).val = 4096 * p + g + 16 * j := e
    simp only [slabFrom, Finset.mem_filter, Finset.mem_univ, _root_.true_and]
    show 256 * p + 0 ≤ (z 0).val / 16 ∧ (z 0).val / 16 < 256 * p + 256
    omega
  · iintro H
    rw [show (bM.view.readAt (Elt F) (⟨![4096 * p + g, 0], S256x128.size, ![16, 1], inb⟩ : LoadRect S8192x128) (landed inv X p t)) = gath inv X t g from
      funext fun x => landed_at inv X p t g hg ((⟨![4096 * p + g, 0], S256x128.size, ![16, 1], inb⟩ : LoadRect S8192x128).idx x) x rfl
        (by show 0 + 1 * (x 1).val = (x 1).val; omega)]
    iapply Hk
    iexact H

/-- A half is its 256 tokens' rows. -/
theorem blk_union (p : ℕ) : (Finset.univ.biUnion fun r : Fin 256 => blk p r.val) = slabFrom p 0 := by
  ext y
  simp only [Finset.mem_biUnion, Finset.mem_univ, _root_.true_and, blk, slabFrom, Finset.mem_filter]
  constructor
  · rintro ⟨r, hr⟩; have := r.isLt; omega
  · intro h; exact ⟨⟨(y 0).val / 16 - 256 * p, by omega⟩, by show _ = 256 * p + ((y 0).val / 16 - 256 * p); omega⟩

/-- All of a tile's copies waited for: the half has landed, its semaphore is at zero again and the shares are whole. -/
theorem drained (p t : ℕ) :
    iprop(draining c inv X p t 256 ∗ bigSep Finset.univ (kept c inv X p t))
      ⊢ (|={Set.univ}=> iprop(semVal ((c : Thread nD τ), .dma (cell p)) 0 ∗ Landed c inv X p t ∗ bigSep Finset.univ (share c X p)
          ∗ table (F := F) c inv ∗ ∃ W, owes (c : Thread nD τ) 0 W) : sProp 𝕄) := by
  unfold draining batch
  rw [Nat.mul_comm]
  iintro ⟨⟨HB, Ht, HO⟩, Hk⟩
  imod (Transfers.batch_collect' (countersEmb (U := Pipeline.UD sig nD τ)) (c : Thread nD τ) (sm := .dma (cell p)) (ι := ()) unit16_pos
    (D := deliv c inv X p t)) $$ HB with ⟨HD, Hs⟩
  imodintro
  isplitl [Hs]; · iexact Hs
  ihave HD' := (show bigSep Finset.univ (deliv c inv X p t) ⊢ iprop(Landed c inv X p t
      ∗ bigSep Finset.univ fun r : Fin 256 => (((c : Thread nD τ).loc main_arg4) ↦[tokRows (tok inv (256 * t + r.val))]{tk (256 * p + r.val)} X : sProp 𝕄)) from by
    unfold deliv
    rw [bigSep_sep']
    refine sep_mono_left (Entails.of_eq ?_)
    rw [← pointsTo_biUnion]
    · unfold Landed
      rw [blk_union]
    · intro r _ r' _ hne
      rw [Finset.disjoint_left]; intro y
      simp only [blk, Finset.mem_filter, Finset.mem_univ, _root_.true_and]
      intro h1 h2; exact hne (Fin.ext (by omega))) $$ HD
  icases HD' with ⟨HL, HT⟩
  isplitl [HL]; · iexact HL
  isplitl [HT Hk]
  · ihave H := (show iprop((bigSep Finset.univ fun r : Fin 256 => (((c : Thread nD τ).loc main_arg4) ↦[tokRows (tok inv (256 * t + r.val))]{tk (256 * p + r.val)} X : sProp 𝕄))
        ∗ bigSep Finset.univ (kept c inv X p t)) ⊢ bigSep Finset.univ (share c X p) from by
      rw [← bigSep_sep']
      refine bigSep_mono fun r _ => ?_
      unfold kept share
      exact (pointsTo_split_subset (Finset.subset_univ _)).2) $$ [HT Hk]
    · isplitl [HT]; · iexact HT
      iexact Hk
    iexact H
  isplitl [Ht]; · iexact Ht
  iexact HO

end Cert.Proof.Moe
end
-- ==== Proof.MoeTile.lean ====
/- The three pieces of a tile's work: its rows waited for and read by column groups, its three products, and half of the
   block stored. -/
module

public import proofs.«01_k».proof.Proof.MoeSteps

@[expose] public section

noncomputable section

namespace Cert.Proof.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's algebra: the pipeline's beside the counters of the copies. -/
local notation "𝕄" => MT nD τ sig Unit (Elt F) ℕ (Pipeline.UD sig nD τ) ℕ

variable (c : Dev nD) (inv : S24832.Idx → BitVec 32) (X : S133120x128.Idx → Elt F .f32)

/-- The tile's product: rows of tile `t` against an expert's three weights. -/
def mlp (t : ℕ) (G : S2048x512.Idx → Elt F .bf16) (U : S2048x512.Idx → Elt F .bf16) (D : S512x2048.Idx → Elt F .bf16) : S256x2048.Idx → Elt F .f32 :=
  k0_pay29 (k0_pay13 (gath inv X t 0)) (k0_pay14 (gath inv X t 1)) (k0_pay15 (gath inv X t 2)) (k0_pay16 (gath inv X t 3)) (k0_pay17 (gath inv X t 4)) (k0_pay18 (gath inv X t 5)) (k0_pay19 (gath inv X t 6)) (k0_pay20 (gath inv X t 7)) (k0_pay21 (gath inv X t 8)) (k0_pay22 (gath inv X t 9)) (k0_pay23 (gath inv X t 10)) (k0_pay24 (gath inv X t 11)) (k0_pay25 (gath inv X t 12)) (k0_pay26 (gath inv X t 13)) (k0_pay27 (gath inv X t 14)) (k0_pay28 (gath inv X t 15)) G U D

/-- The column groups of the tile's product. -/
def outcol (t : ℕ) (G : S2048x512.Idx → Elt F .bf16) (U : S2048x512.Idx → Elt F .bf16) (D : S512x2048.Idx → Elt F .bf16) : ℕ → S256x128.Idx → Elt F .f32
  | 0 => k0_pay30 (k0_pay13 (gath inv X t 0)) (k0_pay14 (gath inv X t 1)) (k0_pay15 (gath inv X t 2)) (k0_pay16 (gath inv X t 3)) (k0_pay17 (gath inv X t 4)) (k0_pay18 (gath inv X t 5)) (k0_pay19 (gath inv X t 6)) (k0_pay20 (gath inv X t 7)) (k0_pay21 (gath inv X t 8)) (k0_pay22 (gath inv X t 9)) (k0_pay23 (gath inv X t 10)) (k0_pay24 (gath inv X t 11)) (k0_pay25 (gath inv X t 12)) (k0_pay26 (gath inv X t 13)) (k0_pay27 (gath inv X t 14)) (k0_pay28 (gath inv X t 15)) G U D
  | 1 => k0_pay31 (k0_pay13 (gath inv X t 0)) (k0_pay14 (gath inv X t 1)) (k0_pay15 (gath inv X t 2)) (k0_pay16 (gath inv X t 3)) (k0_pay17 (gath inv X t 4)) (k0_pay18 (gath inv X t 5)) (k0_pay19 (gath inv X t 6)) (k0_pay20 (gath inv X t 7)) (k0_pay21 (gath inv X t 8)) (k0_pay22 (gath inv X t 9)) (k0_pay23 (gath inv X t 10)) (k0_pay24 (gath inv X t 11)) (k0_pay25 (gath inv X t 12)) (k0_pay26 (gath inv X t 13)) (k0_pay27 (gath inv X t 14)) (k0_pay28 (gath inv X t 15)) G U D
  | 2 => k0_pay32 (k0_pay13 (gath inv X t 0)) (k0_pay14 (gath inv X t 1)) (k0_pay15 (gath inv X t 2)) (k0_pay16 (gath inv X t 3)) (k0_pay17 (gath inv X t 4)) (k0_pay18 (gath inv X t 5)) (k0_pay19 (gath inv X t 6)) (k0_pay20 (gath inv X t 7)) (k0_pay21 (gath inv X t 8)) (k0_pay22 (gath inv X t 9)) (k0_pay23 (gath inv X t 10)) (k0_pay24 (gath inv X t 11)) (k0_pay25 (gath inv X t 12)) (k0_pay26 (gath inv X t 13)) (k0_pay27 (gath inv X t 14)) (k0_pay28 (gath inv X t 15)) G U D
  | 3 => k0_pay33 (k0_pay13 (gath inv X t 0)) (k0_pay14 (gath inv X t 1)) (k0_pay15 (gath inv X t 2)) (k0_pay16 (gath inv X t 3)) (k0_pay17 (gath inv X t 4)) (k0_pay18 (gath inv X t 5)) (k0_pay19 (gath inv X t 6)) (k0_pay20 (gath inv X t 7)) (k0_pay21 (gath inv X t 8)) (k0_pay22 (gath inv X t 9)) (k0_pay23 (gath inv X t 10)) (k0_pay24 (gath inv X t 11)) (k0_pay25 (gath inv X t 12)) (k0_pay26 (gath inv X t 13)) (k0_pay27 (gath inv X t 14)) (k0_pay28 (gath inv X t 15)) G U D
  | 4 => k0_pay34 (k0_pay13 (gath inv X t 0)) (k0_pay14 (gath inv X t 1)) (k0_pay15 (gath inv X t 2)) (k0_pay16 (gath inv X t 3)) (k0_pay17 (gath inv X t 4)) (k0_pay18 (gath inv X t 5)) (k0_pay19 (gath inv X t 6)) (k0_pay20 (gath inv X t 7)) (k0_pay21 (gath inv X t 8)) (k0_pay22 (gath inv X t 9)) (k0_pay23 (gath inv X t 10)) (k0_pay24 (gath inv X t 11)) (k0_pay25 (gath inv X t 12)) (k0_pay26 (gath inv X t 13)) (k0_pay27 (gath inv X t 14)) (k0_pay28 (gath inv X t 15)) G U D
  | 5 => k0_pay35 (k0_pay13 (gath inv X t 0)) (k0_pay14 (gath inv X t 1)) (k0_pay15 (gath inv X t 2)) (k0_pay16 (gath inv X t 3)) (k0_pay17 (gath inv X t 4)) (k0_pay18 (gath inv X t 5)) (k0_pay19 (gath inv X t 6)) (k0_pay20 (gath inv X t 7)) (k0_pay21 (gath inv X t 8)) (k0_pay22 (gath inv X t 9)) (k0_pay23 (gath inv X t 10)) (k0_pay24 (gath inv X t 11)) (k0_pay25 (gath inv X t 12)) (k0_pay26 (gath inv X t 13)) (k0_pay27 (gath inv X t 14)) (k0_pay28 (gath inv X t 15)) G U D
  | 6 => k0_pay36 (k0_pay13 (gath inv X t 0)) (k0_pay14 (gath inv X t 1)) (k0_pay15 (gath inv X t 2)) (k0_pay16 (gath inv X t 3)) (k0_pay17 (gath inv X t 4)) (k0_pay18 (gath inv X t 5)) (k0_pay19 (gath inv X t 6)) (k0_pay20 (gath inv X t 7)) (k0_pay21 (gath inv X t 8)) (k0_pay22 (gath inv X t 9)) (k0_pay23 (gath inv X t 10)) (k0_pay24 (gath inv X t 11)) (k0_pay25 (gath inv X t 12)) (k0_pay26 (gath inv X t 13)) (k0_pay27 (gath inv X t 14)) (k0_pay28 (gath inv X t 15)) G U D
  | 7 => k0_pay37 (k0_pay13 (gath inv X t 0)) (k0_pay14 (gath inv X t 1)) (k0_pay15 (gath inv X t 2)) (k0_pay16 (gath inv X t 3)) (k0_pay17 (gath inv X t 4)) (k0_pay18 (gath inv X t 5)) (k0_pay19 (gath inv X t 6)) (k0_pay20 (gath inv X t 7)) (k0_pay21 (gath inv X t 8)) (k0_pay22 (gath inv X t 9)) (k0_pay23 (gath inv X t 10)) (k0_pay24 (gath inv X t 11)) (k0_pay25 (gath inv X t 12)) (k0_pay26 (gath inv X t 13)) (k0_pay27 (gath inv X t 14)) (k0_pay28 (gath inv X t 15)) G U D
  | 8 => k0_pay4 (mlp inv X t G U D)
  | 9 => k0_pay5 (mlp inv X t G U D)
  | 10 => k0_pay6 (mlp inv X t G U D)
  | 11 => k0_pay7 (mlp inv X t G U D)
  | 12 => k0_pay8 (mlp inv X t G U D)
  | 13 => k0_pay9 (mlp inv X t G U D)
  | 14 => k0_pay10 (mlp inv X t G U D)
  | _ => k0_pay11 (mlp inv X t G U D)

variable (hinv : ∀ n : S24832.Idx, (inv n).toNat < 8320)

variable (i : grid0.Coords) (a1 : Memref sig .tc .smem S97 .i32) (h1 : a1.IsWhole)
    (a2 : Memref sig .tc .smem S97 .i32) (h2 : a2.IsWhole)
    (a3 : Memref sig .tc .smem S97 .i32) (h3 : a3.IsWhole)
    (a6 : Memref sig .tc .vmem S1x2048x512 .f32) (h6 : a6.IsWhole)
    (a7 : Memref sig .tc .vmem S1x2048x512 .f32) (h7 : a7.IsWhole)
    (a8 : Memref sig .tc .vmem S1x512x2048 .f32) (h8 : a8.IsWhole)
    (a9 : Memref sig .tc .vmem S4096x128 .f32) (h9 : a9.IsWhole)
    (a10 : Memref sig .tc .vmem S2048x512 .bf16) (h10 : a10.IsWhole)
    (a11 : Memref sig .tc .vmem S2048x512 .bf16) (h11 : a11.IsWhole)
    (a12 : Memref sig .tc .vmem S512x2048 .bf16) (h12 : a12.IsWhole)
    (h4 : iM.IsWhole) (h5 : xM.IsWhole) (h13 : bM.IsWhole)

include hinv

/-- The tile's copies waited for, and its first six column groups read. -/
theorem part1 (z : BitVec 32) (v22 : Elt F .i32) (g : k0_cond4 v22 = 1#1) {Q : _ → sProp 𝕄} :
    iprop(draining c inv X ((i 0).val % 2) (i 0).val 0 ∗ bigSep Finset.univ (kept c inv X ((i 0).val % 2) (i 0).val))
      ⊢ iprop((∀ v42, (semVal ((c : Thread nD τ), .dma (cell ((i 0).val % 2))) 0 ∗ Landed c inv X ((i 0).val % 2) (i 0).val
            ∗ bigSep Finset.univ (share c X ((i 0).val % 2)) ∗ table (F := F) c inv ∗ ∃ W, owes (c : Thread nD τ) 0 W)
          -∗ Q ⟨v42, k0_pay13 (gath inv X (i 0).val 0), k0_pay14 (gath inv X (i 0).val 1), k0_pay15 (gath inv X (i 0).val 2), k0_pay16 (gath inv X (i 0).val 3), k0_pay17 (gath inv X (i 0).val 4), k0_pay18 (gath inv X (i 0).val 5)⟩)
        -∗ wp frame (wpE (defs₀ (F := F)) Variants.none (c : Thread nD τ) none) Set.univ (k0_part1 i a1 h1 a2 h2 a3 h3 iM h4 xM h5 a6 h6 a7 h7 a8 h8 a9 h9 a10 h10 a11 h11 a12 h12 bM h13 cc0_scratch4 z v22 g) Q) := by
  simp only [k0_part1_eq_skeleton]
  unfold k0_part1_skel
  iintro ⟨Hd, Hk⟩ HQ
  iapply (Scf.wp_for_bind frame (wpE (defs₀ (F := F)) Variants.none (c : Thread nD τ) none) Set.univ _ _ _ _ _ _
    (fun k _ => draining c inv X ((i 0).val % 2) (i 0).val k)
    (fun k u => trip3 c inv X hinv i a1 h1 a2 h2 a3 h3 a6 h6 a7 h7 a8 h8 a9 h9 a10 h10 a11 h11 a12 h12 h4 h5 h13 z v22 g k u)) $$ Hd
  iintro %u Hd
  rw [show Scf.trips k0_t3_loop.lb k0_t3_loop.ub k0_t3_loop.st = 256 from trips3]
  imod (drained c inv X ((i 0).val % 2) (i 0).val) $$ [Hd Hk] with ⟨Hs, HL, Hsh, Ht, HO⟩
  · isplitl [Hd]; · iexact Hd
    iexact Hk
  iapply (load_group c inv X ((i 0).val % 2) (i 0).val 0 (by omega) (by omega) (off16_eq i 0 (by omega))) $$ HL
  iintro HL
  iapply (load_group c inv X ((i 0).val % 2) (i 0).val 1 (by omega) (by omega) (off16_eq i 1 (by omega))) $$ HL
  iintro HL
  iapply (load_group c inv X ((i 0).val % 2) (i 0).val 2 (by omega) (by omega) (off16_eq i 2 (by omega))) $$ HL
  iintro HL
  iapply (load_group c inv X ((i 0).val % 2) (i 0).val 3 (by omega) (by omega) (off16_eq i 3 (by omega))) $$ HL
  iintro HL
  iapply (load_group c inv X ((i 0).val % 2) (i 0).val 4 (by omega) (by omega) (off16_eq i 4 (by omega))) $$ HL
  iintro HL
  iapply (load_group c inv X ((i 0).val % 2) (i 0).val 5 (by omega) (by omega) (off16_eq i 5 (by omega))) $$ HL
  iintro HL
  iapply (Entails.of_eq (wp_pure frame (wpE (defs₀ (F := F)) Variants.none (c : Thread nD τ) none) Set.univ _ _).symm)
  imodintro
  iapply HQ
  isplitl [Hs]; · iexact Hs
  isplitl [HL]; · iexact HL
  isplitl [Hsh]; · iexact Hsh
  isplitl [Ht]; · iexact Ht
  iexact HO

omit hinv in
/-- The tile's other ten column groups read. -/
theorem part2 (v42 : BitVec 32) {Q : _ → sProp 𝕄} :
    Landed c inv X ((i 0).val % 2) (i 0).val
      ⊢ iprop((Landed c inv X ((i 0).val % 2) (i 0).val
          -∗ Q ⟨k0_pay19 (gath inv X (i 0).val 6), k0_pay20 (gath inv X (i 0).val 7), k0_pay21 (gath inv X (i 0).val 8), k0_pay22 (gath inv X (i 0).val 9), k0_pay23 (gath inv X (i 0).val 10), k0_pay24 (gath inv X (i 0).val 11), k0_pay25 (gath inv X (i 0).val 12), k0_pay26 (gath inv X (i 0).val 13), k0_pay27 (gath inv X (i 0).val 14), k0_pay28 (gath inv X (i 0).val 15)⟩)
        -∗ wp frame (wpE (defs₀ (F := F)) Variants.none (c : Thread nD τ) none) Set.univ (k0_part2 i a1 h1 a2 h2 a3 h3 iM h4 xM h5 a6 h6 a7 h7 a8 h8 a9 h9 a10 h10 a11 h11 a12 h12 bM h13 cc0_scratch4 v42) Q) := by
  simp only [k0_part2_eq_skeleton]
  unfold k0_part2_skel
  iintro HL HQ
  iapply (load_group c inv X ((i 0).val % 2) (i 0).val 6 (by omega) (by omega) (off16_eq i 6 (by omega))) $$ HL
  iintro HL
  iapply (load_group c inv X ((i 0).val % 2) (i 0).val 7 (by omega) (by omega) (off16_eq i 7 (by omega))) $$ HL
  iintro HL
  iapply (load_group c inv X ((i 0).val % 2) (i 0).val 8 (by omega) (by omega) (off16_eq i 8 (by omega))) $$ HL
  iintro HL
  iapply (load_group c inv X ((i 0).val % 2) (i 0).val 9 (by omega) (by omega) (off16_eq i 9 (by omega))) $$ HL
  iintro HL
  iapply (load_group c inv X ((i 0).val % 2) (i 0).val 10 (by omega) (by omega) (off16_eq i 10 (by omega))) $$ HL
  iintro HL
  iapply (load_group c inv X ((i 0).val % 2) (i 0).val 11 (by omega) (by omega) (off16_eq i 11 (by omega))) $$ HL
  iintro HL
  iapply (load_group c inv X ((i 0).val % 2) (i 0).val 12 (by omega) (by omega) (off16_eq i 12 (by omega))) $$ HL
  iintro HL
  iapply (load_group c inv X ((i 0).val % 2) (i 0).val 13 (by omega) (by omega) (off16_eq i 13 (by omega))) $$ HL
  iintro HL
  iapply (load_group c inv X ((i 0).val % 2) (i 0).val 14 (by omega) (by omega) (off16_eq i 14 (by omega))) $$ HL
  iintro HL
  iapply (load_group c inv X ((i 0).val % 2) (i 0).val 15 (by omega) (by omega) (off16_eq i 15 (by omega))) $$ HL
  iintro HL
  iapply (Entails.of_eq (wp_pure frame (wpE (defs₀ (F := F)) Variants.none (c : Thread nD τ) none) Set.univ _ _).symm)
  imodintro
  iapply HQ
  iexact HL

omit hinv in
/-- The tile's product, and its first eight column groups stored. -/
theorem part3 (d : S4096x128.Idx → Elt F .f32) (G : S2048x512.Idx → Elt F .bf16) (U : S2048x512.Idx → Elt F .bf16) (D : S512x2048.Idx → Elt F .bf16)
    {Q : _ → sProp 𝕄} :
    iprop(owns (c : Thread nD τ) a9 fullShare d ∗ owns (c : Thread nD τ) a10 fullShare G ∗ owns (c : Thread nD τ) a11 fullShare U ∗ owns (c : Thread nD τ) a12 fullShare D)
      ⊢ iprop(((owns (c : Thread nD τ) a9 fullShare (upTo d (outcol inv X (i 0).val G U D) 8) ∗ owns (c : Thread nD τ) a10 fullShare G
            ∗ owns (c : Thread nD τ) a11 fullShare U ∗ owns (c : Thread nD τ) a12 fullShare D)
          -∗ Q (mlp inv X (i 0).val G U D))
        -∗ wp frame (wpE (defs₀ (F := F)) Variants.none (c : Thread nD τ) none) Set.univ (k0_part3 i a1 h1 a2 h2 a3 h3 iM h4 xM h5 a6 h6 a7 h7 a8 h8 a9 h9 a10 h10 a11 h11 a12 h12 bM h13 cc0_scratch4 (k0_pay13 (gath inv X (i 0).val 0)) (k0_pay14 (gath inv X (i 0).val 1)) (k0_pay15 (gath inv X (i 0).val 2)) (k0_pay16 (gath inv X (i 0).val 3)) (k0_pay17 (gath inv X (i 0).val 4)) (k0_pay18 (gath inv X (i 0).val 5)) (k0_pay19 (gath inv X (i 0).val 6)) (k0_pay20 (gath inv X (i 0).val 7)) (k0_pay21 (gath inv X (i 0).val 8)) (k0_pay22 (gath inv X (i 0).val 9)) (k0_pay23 (gath inv X (i 0).val 10)) (k0_pay24 (gath inv X (i 0).val 11)) (k0_pay25 (gath inv X (i 0).val 12)) (k0_pay26 (gath inv X (i 0).val 13)) (k0_pay27 (gath inv X (i 0).val 14)) (k0_pay28 (gath inv X (i 0).val 15))) Q) := by
  simp only [k0_part3_eq_skeleton]
  unfold k0_part3_skel mlp
  iintro ⟨H9, H10, H11, H12⟩ HQ
  iapply (load_all c (fun a => by fin_cases a <;> rfl)) $$ H10
  iintro H10
  iapply (load_all c (fun a => by fin_cases a <;> rfl)) $$ H11
  iintro H11
  iapply (load_all c (fun a => by fin_cases a <;> rfl)) $$ H12
  iintro H12
  rw [← upTo_zero d (outcol inv X (i 0).val G U D)]
  iapply (column c 0 (by omega) (V := outcol inv X (i 0).val G U D) rfl) $$ H9
  iintro H9
  iapply (column c 1 (by omega) (V := outcol inv X (i 0).val G U D) rfl) $$ H9
  iintro H9
  iapply (column c 2 (by omega) (V := outcol inv X (i 0).val G U D) rfl) $$ H9
  iintro H9
  iapply (column c 3 (by omega) (V := outcol inv X (i 0).val G U D) rfl) $$ H9
  iintro H9
  iapply (column c 4 (by omega) (V := outcol inv X (i 0).val G U D) rfl) $$ H9
  iintro H9
  iapply (column c 5 (by omega) (V := outcol inv X (i 0).val G U D) rfl) $$ H9
  iintro H9
  iapply (column c 6 (by omega) (V := outcol inv X (i 0).val G U D) rfl) $$ H9
  iintro H9
  iapply (column c 7 (by omega) (V := outcol inv X (i 0).val G U D) rfl) $$ H9
  iintro H9
  rw [upTo_zero d (outcol inv X (i 0).val G U D)]
  iapply (Entails.of_eq (wp_pure frame (wpE (defs₀ (F := F)) Variants.none (c : Thread nD τ) none) Set.univ _ _).symm)
  imodintro
  iapply HQ
  isplitl [H9]; · iexact H9
  isplitl [H10]; · iexact H10
  isplitl [H11]; · iexact H11
  iexact H12

end Cert.Proof.Moe
end
-- ==== Proof.MoeBody.lean ====
/- A grid step of the expert call: the step's copies, weights, products and stores, one guarded piece after the other. -/
module

public import proofs.«01_k».proof.Proof.MoeTile

@[expose] public section

noncomputable section

namespace Cert.Proof.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's algebra: the pipeline's beside the counters of the copies. -/
local notation "𝕄" => MT nD τ sig Unit (Elt F) ℕ (Pipeline.UD sig nD τ) ℕ

/-- A word of a 97-entry table. -/
def at97 (f : S97.Idx → BitVec 32) (n : ℕ) : BitVec 32 := f (ix1 ⟨n % 97, Nat.mod_lt _ (by omega)⟩)

/-- The valid-tile table's memref. -/
abbrev vM : Memref sig .tc .smem S97 .i32 := Memref.whole main_arg1
/-- The first-tile table's memref. -/
abbrev fM : Memref sig .tc .smem S97 .i32 := Memref.whole main_arg2

/-- A word read is handed on. -/
theorem ret_then {E : Type → Type*} {α β : Type} (a : α) (k : α → Prog E β) : (Prog.ret a >>= k) = k a := rfl

variable (c : Dev nD) (inv : S24832.Idx → BitVec 32) (X : S133120x128.Idx → Elt F .f32)

/-- The valid-tile table's half share. -/
def validTable (f : S97.Idx → BitVec 32) : sProp 𝕄 := iprop(((c : Thread nD τ).loc main_arg1) ↦{fullShare.right} f)

/-- Reading a word of the valid-tile table. -/
theorem wp_valid (f : S97.Idx → BitVec 32) {o : Fin 1 → ℕ} (n : ℕ) (ho : o = ![n]) (hn : n < 97) {h : ∀ a, o a + S1.size a ≤ S97.size a}
    {hw : ((Memref.whole main_arg1).access (Rect.unit (s := S97) o S1.size h)).Loads} {x : (Rect.unit (s := S97) o S1.size h).shape.Idx}
    {α : Type} {k : Elt F .i32 → Prog (TpuEff nD τ sig (Elt F) Λ₀ .tc) α} {Q : α → sProp 𝕄} :
    validTable (F := F) c f
      ⊢ iprop((validTable (F := F) c f -∗ wp frame (wpE (defs₀ (F := F)) Variants.none (c : Thread nD τ) none) Set.univ (k (at97 f n)) Q)
        -∗ wp frame (wpE (defs₀ (F := F)) Variants.none (c : Thread nD τ) none) Set.univ (smemLoadElt (Memref.whole main_arg1) (Rect.unit (s := S97) o S1.size h) hw x k) Q) := by
  unfold validTable
  iintro Ht Hk
  iapply (wp_smemLoadElt Variants.none (c : Thread nD τ) none Set.univ (m := Memref.whole main_arg1) (r := Rect.unit (s := S97) o S1.size h)
    (x := x) (S := Finset.univ) (q := fullShare.right) (f := f) (Finset.subset_univ _)) $$ Ht
  iintro Ht
  rw [show ((Memref.whole main_arg1).access (Rect.unit (s := S97) o S1.size h)).read (Elt F) f x = at97 f n from by
    subst ho
    refine congrArg f ?_
    have hx : (x 0).val < 1 := (x 0).isLt
    funext a; apply Fin.ext; fin_cases a
    show n + 1 * (x 0).val = n % 97
    omega]
  iapply Hk
  iexact Ht

/-- The first-tile table's half share. -/
def firstTable (f : S97.Idx → BitVec 32) : sProp 𝕄 := iprop(((c : Thread nD τ).loc main_arg2) ↦{fullShare.right} f)

/-- Reading a word of the first-tile table. -/
theorem wp_first (f : S97.Idx → BitVec 32) {o : Fin 1 → ℕ} (n : ℕ) (ho : o = ![n]) (hn : n < 97) {h : ∀ a, o a + S1.size a ≤ S97.size a}
    {hw : ((Memref.whole main_arg2).access (Rect.unit (s := S97) o S1.size h)).Loads} {x : (Rect.unit (s := S97) o S1.size h).shape.Idx}
    {α : Type} {k : Elt F .i32 → Prog (TpuEff nD τ sig (Elt F) Λ₀ .tc) α} {Q : α → sProp 𝕄} :
    firstTable (F := F) c f
      ⊢ iprop((firstTable (F := F) c f -∗ wp frame (wpE (defs₀ (F := F)) Variants.none (c : Thread nD τ) none) Set.univ (k (at97 f n)) Q)
        -∗ wp frame (wpE (defs₀ (F := F)) Variants.none (c : Thread nD τ) none) Set.univ (smemLoadElt (Memref.whole main_arg2) (Rect.unit (s := S97) o S1.size h) hw x k) Q) := by
  unfold firstTable
  iintro Ht Hk
  iapply (wp_smemLoadElt Variants.none (c : Thread nD τ) none Set.univ (m := Memref.whole main_arg2) (r := Rect.unit (s := S97) o S1.size h)
    (x := x) (S := Finset.univ) (q := fullShare.right) (f := f) (Finset.subset_univ _)) $$ Ht
  iintro Ht
  rw [show ((Memref.whole main_arg2).access (Rect.unit (s := S97) o S1.size h)).read (Elt F) f x = at97 f n from by
    subst ho
    refine congrArg f ?_
    have hx : (x 0).val < 1 := (x 0).isLt
    funext a; apply Fin.ext; fin_cases a
    show n + 1 * (x 0).val = n % 97
    omega]
  iapply Hk
  iexact Ht

/-- Half `p` with tile `t` in flight if `b`, at rest otherwise. -/
def Half (b : Prop) [Decidable b] (p t : ℕ) : sProp 𝕄 := if b then Busy c inv X p t else Idle c X p

variable (tv tf : S97.Idx → BitVec 32) (hinv : ∀ n : S24832.Idx, (inv n).toNat < 8320)

/-! ## The step in five pieces -/

/-- The first tile's copies. -/
def seg1 (i : grid0.Coords) (a1 : Memref sig .tc .smem S97 .i32) (h1 : a1.IsWhole)
    (a6 : Memref sig .tc .vmem S1x2048x512 .f32) (h6 : a6.IsWhole)
    (a7 : Memref sig .tc .vmem S1x2048x512 .f32) (h7 : a7.IsWhole)
    (a8 : Memref sig .tc .vmem S1x512x2048 .f32) (h8 : a8.IsWhole)
    (a9 : Memref sig .tc .vmem S4096x128 .f32) (h9 : a9.IsWhole)
    (a10 : Memref sig .tc .vmem S2048x512 .bf16) (h10 : a10.IsWhole)
    (a11 : Memref sig .tc .vmem S2048x512 .bf16) (h11 : a11.IsWhole)
    (a12 : Memref sig .tc .vmem S512x2048 .bf16) (h12 : a12.IsWhole)
    (h4 : iM.IsWhole) (h5 : xM.IsWhole) (h13 : bM.IsWhole)
    (h2 : (Memref.whole main_arg1).IsWhole) (h3 : (Memref.whole main_arg2).IsWhole) (K : Prog (TpuEff nD τ sig (Elt F) Λ₀ .tc) PUnit) : Prog (TpuEff nD τ sig (Elt F) Λ₀ .tc) PUnit := do
  let v1 : Elt F .i32 ← smemLoad vM (Rect.unit (s := S97) ![0] S1.size inb_S97_S1_0) numel1_S1 rfl
  if k0_h1 : k0_cond1 i v1 = 1#1 then do
    Scf.Loop.for k0_t1_loop k0_t1_ok ⟨⟩ (k0_t1_body i a1 h1 vM h2 fM h3 iM h4 xM h5 a6 h6 a7 h7 a8 h8 a9 h9 a10 h10 a11 h11 a12 h12 bM h13 cc0_scratch4 v1 k0_h1)
    K
  else K

/-- The next tile's copies. -/
def seg2 (i : grid0.Coords) (a1 : Memref sig .tc .smem S97 .i32) (h1 : a1.IsWhole)
    (a6 : Memref sig .tc .vmem S1x2048x512 .f32) (h6 : a6.IsWhole)
    (a7 : Memref sig .tc .vmem S1x2048x512 .f32) (h7 : a7.IsWhole)
    (a8 : Memref sig .tc .vmem S1x512x2048 .f32) (h8 : a8.IsWhole)
    (a9 : Memref sig .tc .vmem S4096x128 .f32) (h9 : a9.IsWhole)
    (a10 : Memref sig .tc .vmem S2048x512 .bf16) (h10 : a10.IsWhole)
    (a11 : Memref sig .tc .vmem S2048x512 .bf16) (h11 : a11.IsWhole)
    (a12 : Memref sig .tc .vmem S512x2048 .bf16) (h12 : a12.IsWhole)
    (h4 : iM.IsWhole) (h5 : xM.IsWhole) (h13 : bM.IsWhole)
    (h2 : (Memref.whole main_arg1).IsWhole) (h3 : (Memref.whole main_arg2).IsWhole) (K : Prog (TpuEff nD τ sig (Elt F) Λ₀ .tc) PUnit) : Prog (TpuEff nD τ sig (Elt F) Λ₀ .tc) PUnit := do
  let v11 : Elt F .i32 ← smemLoad vM (Rect.unit (s := S97) (k0_off5 i) S1.size (k0_off5_inb i)) numel1_S1 rfl
  have k0_hw2 : k0_chk2 i v11 := (← Prog.lift (TpuEff.assume (k0_chk2 i v11) (k0_chk2.dec i v11))).down
  if k0_h2 : k0_cond2 i v11 = 1#1 then do
    Scf.Loop.for k0_t2_loop k0_t2_ok ⟨⟩ (k0_t2_body i a1 h1 vM h2 fM h3 iM h4 xM h5 a6 h6 a7 h7 a8 h8 a9 h9 a10 h10 a11 h11 a12 h12 bM h13 cc0_scratch4 v11 k0_hw2 k0_h2)
    K
  else K

/-- The expert's weights. -/
def seg3 (i : grid0.Coords) (a1 : Memref sig .tc .smem S97 .i32) (h1 : a1.IsWhole)
    (a6 : Memref sig .tc .vmem S1x2048x512 .f32) (h6 : a6.IsWhole)
    (a7 : Memref sig .tc .vmem S1x2048x512 .f32) (h7 : a7.IsWhole)
    (a8 : Memref sig .tc .vmem S1x512x2048 .f32) (h8 : a8.IsWhole)
    (a9 : Memref sig .tc .vmem S4096x128 .f32) (h9 : a9.IsWhole)
    (a10 : Memref sig .tc .vmem S2048x512 .bf16) (h10 : a10.IsWhole)
    (a11 : Memref sig .tc .vmem S2048x512 .bf16) (h11 : a11.IsWhole)
    (a12 : Memref sig .tc .vmem S512x2048 .bf16) (h12 : a12.IsWhole)
    (h4 : iM.IsWhole) (h5 : xM.IsWhole) (h13 : bM.IsWhole)
    (h2 : (Memref.whole main_arg1).IsWhole) (h3 : (Memref.whole main_arg2).IsWhole) (K : Prog (TpuEff nD τ sig (Elt F) Λ₀ .tc) PUnit) : Prog (TpuEff nD τ sig (Elt F) Λ₀ .tc) PUnit := do
  let v17 : Elt F .i32 ← smemLoad fM (Rect.unit (s := S97) (k0_off10 i) S1.size (k0_off10_inb i)) numel1_S1 rfl
  if Scalar.cmpi .ne (Scalar.extui (Scalar.cmpi .eq v17 1#32) : BitVec 32) 0#32 = 1#1 then do
    let v31 : Vec F S1x2048x512 .f32 ← Prog.lift (.load a6 (Rect.unit (s := S1x2048x512) ![0, 0, 0] S1x2048x512.size inb_S1x2048x512_S1x2048x512_0_0_0).toLoadRect (View.loadsAt_vmem h_S1x2048x512))
    let v34 : Vec F S2048x512 .bf16 ← Prog.lift (.load a10 (Rect.unit (s := S2048x512) ![0, 0] S2048x512.size inb_S2048x512_S2048x512_0_0).toLoadRect (View.loadsAt_vmem h_S2048x512))
    Prog.lift (.store a10 (Rect.unit (s := S2048x512) ![0, 0] S2048x512.size inb_S2048x512_S2048x512_0_0) (k0_pay1 v31) Finset.univ (View.stores_vmem h_S2048x512 (h10.storeExact_slice rfl _ packedbf16_S2048x512_S2048x512_0_0) (fun _ => rfl)) (.inl rfl))
    let v37 : Vec F S1x2048x512 .f32 ← Prog.lift (.load a7 (Rect.unit (s := S1x2048x512) ![0, 0, 0] S1x2048x512.size inb_S1x2048x512_S1x2048x512_0_0_0).toLoadRect (View.loadsAt_vmem h_S1x2048x512))
    let v40 : Vec F S2048x512 .bf16 ← Prog.lift (.load a11 (Rect.unit (s := S2048x512) ![0, 0] S2048x512.size inb_S2048x512_S2048x512_0_0).toLoadRect (View.loadsAt_vmem h_S2048x512))
    Prog.lift (.store a11 (Rect.unit (s := S2048x512) ![0, 0] S2048x512.size inb_S2048x512_S2048x512_0_0) (k0_pay2 v37) Finset.univ (View.stores_vmem h_S2048x512 (h11.storeExact_slice rfl _ packedbf16_S2048x512_S2048x512_0_0) (fun _ => rfl)) (.inl rfl))
    let v43 : Vec F S1x512x2048 .f32 ← Prog.lift (.load a8 (Rect.unit (s := S1x512x2048) ![0, 0, 0] S1x512x2048.size inb_S1x512x2048_S1x512x2048_0_0_0).toLoadRect (View.loadsAt_vmem h_S1x512x2048))
    let v46 : Vec F S512x2048 .bf16 ← Prog.lift (.load a12 (Rect.unit (s := S512x2048) ![0, 0] S512x2048.size inb_S512x2048_S512x2048_0_0).toLoadRect (View.loadsAt_vmem h_S512x2048))
    Prog.lift (.store a12 (Rect.unit (s := S512x2048) ![0, 0] S512x2048.size inb_S512x2048_S512x2048_0_0) (k0_pay3 v43) Finset.univ (View.stores_vmem h_S512x2048 (h12.storeExact_slice rfl _ packedbf16_S512x2048_S512x2048_0_0) (fun _ => rfl)) (.inl rfl))
    K
  else K

/-- The tile's products and its block. -/
def seg4 (i : grid0.Coords) (a1 : Memref sig .tc .smem S97 .i32) (h1 : a1.IsWhole)
    (a6 : Memref sig .tc .vmem S1x2048x512 .f32) (h6 : a6.IsWhole)
    (a7 : Memref sig .tc .vmem S1x2048x512 .f32) (h7 : a7.IsWhole)
    (a8 : Memref sig .tc .vmem S1x512x2048 .f32) (h8 : a8.IsWhole)
    (a9 : Memref sig .tc .vmem S4096x128 .f32) (h9 : a9.IsWhole)
    (a10 : Memref sig .tc .vmem S2048x512 .bf16) (h10 : a10.IsWhole)
    (a11 : Memref sig .tc .vmem S2048x512 .bf16) (h11 : a11.IsWhole)
    (a12 : Memref sig .tc .vmem S512x2048 .bf16) (h12 : a12.IsWhole)
    (h4 : iM.IsWhole) (h5 : xM.IsWhole) (h13 : bM.IsWhole)
    (h2 : (Memref.whole main_arg1).IsWhole) (h3 : (Memref.whole main_arg2).IsWhole) (K : Prog (TpuEff nD τ sig (Elt F) Λ₀ .tc) PUnit) : Prog (TpuEff nD τ sig (Elt F) Λ₀ .tc) PUnit := do
  let v22 : Elt F .i32 ← smemLoad vM (Rect.unit (s := S97) (k0_off11 i) S1.size (k0_off11_inb i)) numel1_S1 rfl
  if k0_h4 : k0_cond4 v22 = 1#1 then do
    let ⟨v42, v46, v50, v54, v58, v62, v66⟩ : Σ' (v42 : BitVec 32) (v46 : FVec F S256x128 .bf16) (v50 : FVec F S256x128 .bf16) (v54 : FVec F S256x128 .bf16) (v58 : FVec F S256x128 .bf16) (v62 : FVec F S256x128 .bf16), FVec F S256x128 .bf16 ← k0_part1 i a1 h1 vM h2 fM h3 iM h4 xM h5 a6 h6 a7 h7 a8 h8 a9 h9 a10 h10 a11 h11 a12 h12 bM h13 cc0_scratch4 (BitVec.ofNat 32 (i 0).val) v22 k0_h4
    let ⟨v70, v74, v78, v82, v86, v90, v94, v98, v102, v106⟩ : Σ' (v70 : FVec F S256x128 .bf16) (v74 : FVec F S256x128 .bf16) (v78 : FVec F S256x128 .bf16) (v82 : FVec F S256x128 .bf16) (v86 : FVec F S256x128 .bf16) (v90 : FVec F S256x128 .bf16) (v94 : FVec F S256x128 .bf16) (v98 : FVec F S256x128 .bf16) (v102 : FVec F S256x128 .bf16), FVec F S256x128 .bf16 ← k0_part2 i a1 h1 vM h2 fM h3 iM h4 xM h5 a6 h6 a7 h7 a8 h8 a9 h9 a10 h10 a11 h11 a12 h12 bM h13 cc0_scratch4 v42
    let v117 : FVec F S256x2048 .f32 ← k0_part3 i a1 h1 vM h2 fM h3 iM h4 xM h5 a6 h6 a7 h7 a8 h8 a9 h9 a10 h10 a11 h11 a12 h12 bM h13 cc0_scratch4 v46 v50 v54 v58 v62 v66 v70 v74 v78 v82 v86 v90 v94 v98 v102 v106
    let v135 : Vec F S256x128 .f32 ← Prog.lift (.load a9 (⟨![8, 0], S256x128.size, ![16, 1], inb_S4096x128_S256x128_8_0_s_16_1⟩ : LoadRect S4096x128) (View.loadsAt_vmem h_S256x128))
    Prog.lift (.store a9 ⟨(⟨![8, 0], S256x128.size, ![16, 1], inb_S4096x128_S256x128_8_0_s_16_1⟩ : LoadRect S4096x128), spos_16_1⟩ (k0_pay4 v117) Finset.univ (View.stores_vmem_bits_univ h_S256x128 rfl) (.inl rfl))
    let v137 : Vec F S256x128 .f32 ← Prog.lift (.load a9 (⟨![9, 0], S256x128.size, ![16, 1], inb_S4096x128_S256x128_9_0_s_16_1⟩ : LoadRect S4096x128) (View.loadsAt_vmem h_S256x128))
    Prog.lift (.store a9 ⟨(⟨![9, 0], S256x128.size, ![16, 1], inb_S4096x128_S256x128_9_0_s_16_1⟩ : LoadRect S4096x128), spos_16_1⟩ (k0_pay5 v117) Finset.univ (View.stores_vmem_bits_univ h_S256x128 rfl) (.inl rfl))
    let v139 : Vec F S256x128 .f32 ← Prog.lift (.load a9 (⟨![10, 0], S256x128.size, ![16, 1], inb_S4096x128_S256x128_10_0_s_16_1⟩ : LoadRect S4096x128) (View.loadsAt_vmem h_S256x128))
    Prog.lift (.store a9 ⟨(⟨![10, 0], S256x128.size, ![16, 1], inb_S4096x128_S256x128_10_0_s_16_1⟩ : LoadRect S4096x128), spos_16_1⟩ (k0_pay6 v117) Finset.univ (View.stores_vmem_bits_univ h_S256x128 rfl) (.inl rfl))
    let v141 : Vec F S256x128 .f32 ← Prog.lift (.load a9 (⟨![11, 0], S256x128.size, ![16, 1], inb_S4096x128_S256x128_11_0_s_16_1⟩ : LoadRect S4096x128) (View.loadsAt_vmem h_S256x128))
    Prog.lift (.store a9 ⟨(⟨![11, 0], S256x128.size, ![16, 1], inb_S4096x128_S256x128_11_0_s_16_1⟩ : LoadRect S4096x128), spos_16_1⟩ (k0_pay7 v117) Finset.univ (View.stores_vmem_bits_univ h_S256x128 rfl) (.inl rfl))
    let v143 : Vec F S256x128 .f32 ← Prog.lift (.load a9 (⟨![12, 0], S256x128.size, ![16, 1], inb_S4096x128_S256x128_12_0_s_16_1⟩ : LoadRect S4096x128) (View.loadsAt_vmem h_S256x128))
    Prog.lift (.store a9 ⟨(⟨![12, 0], S256x128.size, ![16, 1], inb_S4096x128_S256x128_12_0_s_16_1⟩ : LoadRect S4096x128), spos_16_1⟩ (k0_pay8 v117) Finset.univ (View.stores_vmem_bits_univ h_S256x128 rfl) (.inl rfl))
    let v145 : Vec F S256x128 .f32 ← Prog.lift (.load a9 (⟨![13, 0], S256x128.size, ![16, 1], inb_S4096x128_S256x128_13_0_s_16_1⟩ : LoadRect S4096x128) (View.loadsAt_vmem h_S256x128))
    Prog.lift (.store a9 ⟨(⟨![13, 0], S256x128.size, ![16, 1], inb_S4096x128_S256x128_13_0_s_16_1⟩ : LoadRect S4096x128), spos_16_1⟩ (k0_pay9 v117) Finset.univ (View.stores_vmem_bits_univ h_S256x128 rfl) (.inl rfl))
    let v147 : Vec F S256x128 .f32 ← Prog.lift (.load a9 (⟨![14, 0], S256x128.size, ![16, 1], inb_S4096x128_S256x128_14_0_s_16_1⟩ : LoadRect S4096x128) (View.loadsAt_vmem h_S256x128))
    Prog.lift (.store a9 ⟨(⟨![14, 0], S256x128.size, ![16, 1], inb_S4096x128_S256x128_14_0_s_16_1⟩ : LoadRect S4096x128), spos_16_1⟩ (k0_pay10 v117) Finset.univ (View.stores_vmem_bits_univ h_S256x128 rfl) (.inl rfl))
    let v149 : Vec F S256x128 .f32 ← Prog.lift (.load a9 (⟨![15, 0], S256x128.size, ![16, 1], inb_S4096x128_S256x128_15_0_s_16_1⟩ : LoadRect S4096x128) (View.loadsAt_vmem h_S256x128))
    Prog.lift (.store a9 ⟨(⟨![15, 0], S256x128.size, ![16, 1], inb_S4096x128_S256x128_15_0_s_16_1⟩ : LoadRect S4096x128), spos_16_1⟩ (k0_pay11 v117) Finset.univ (View.stores_vmem_bits_univ h_S256x128 rfl) (.inl rfl))
    K
  else K

/-- The block of a tile that is not valid. -/
def seg5 (i : grid0.Coords) (a1 : Memref sig .tc .smem S97 .i32) (h1 : a1.IsWhole)
    (a6 : Memref sig .tc .vmem S1x2048x512 .f32) (h6 : a6.IsWhole)
    (a7 : Memref sig .tc .vmem S1x2048x512 .f32) (h7 : a7.IsWhole)
    (a8 : Memref sig .tc .vmem S1x512x2048 .f32) (h8 : a8.IsWhole)
    (a9 : Memref sig .tc .vmem S4096x128 .f32) (h9 : a9.IsWhole)
    (a10 : Memref sig .tc .vmem S2048x512 .bf16) (h10 : a10.IsWhole)
    (a11 : Memref sig .tc .vmem S2048x512 .bf16) (h11 : a11.IsWhole)
    (a12 : Memref sig .tc .vmem S512x2048 .bf16) (h12 : a12.IsWhole)
    (h4 : iM.IsWhole) (h5 : xM.IsWhole) (h13 : bM.IsWhole)
    (h2 : (Memref.whole main_arg1).IsWhole) (h3 : (Memref.whole main_arg2).IsWhole) : Prog (TpuEff nD τ sig (Elt F) Λ₀ .tc) PUnit := do
  let v27 : Elt F .i32 ← smemLoad vM (Rect.unit (s := S97) (k0_off17 i) S1.size (k0_off17_inb i)) numel1_S1 rfl
  if k0_h5 : k0_cond5 v27 = 1#1 then do
    let v32 : Vec F S4096x128 .f32 ← Prog.lift (.load a9 (Rect.unit (s := S4096x128) ![0, 0] S4096x128.size inb_S4096x128_S4096x128_0_0).toLoadRect (View.loadsAt_vmem h_S4096x128))
    Prog.lift (.store a9 (Rect.unit (s := S4096x128) ![0, 0] S4096x128.size inb_S4096x128_S4096x128_0_0) (k0_pay12 (F := F)) Finset.univ (View.stores_vmem_bits_univ h_S4096x128 rfl) (.inl rfl))
    pure ⟨⟩
  else pure ⟨⟩

variable (i : grid0.Coords) (a1 : Memref sig .tc .smem S97 .i32) (h1 : a1.IsWhole)
    (a6 : Memref sig .tc .vmem S1x2048x512 .f32) (h6 : a6.IsWhole)
    (a7 : Memref sig .tc .vmem S1x2048x512 .f32) (h7 : a7.IsWhole)
    (a8 : Memref sig .tc .vmem S1x512x2048 .f32) (h8 : a8.IsWhole)
    (a9 : Memref sig .tc .vmem S4096x128 .f32) (h9 : a9.IsWhole)
    (a10 : Memref sig .tc .vmem S2048x512 .bf16) (h10 : a10.IsWhole)
    (a11 : Memref sig .tc .vmem S2048x512 .bf16) (h11 : a11.IsWhole)
    (a12 : Memref sig .tc .vmem S512x2048 .bf16) (h12 : a12.IsWhole)
    (h4 : iM.IsWhole) (h5 : xM.IsWhole) (h13 : bM.IsWhole)
    (h2 : (Memref.whole main_arg1).IsWhole) (h3 : (Memref.whole main_arg2).IsWhole)

set_option maxRecDepth 65536 in
/-- The step is its five pieces. -/
theorem step_eq : cc0_expert_mlp (F := F) i a1 h1 vM h2 fM h3 iM h4 xM h5 a6 h6 a7 h7 a8 h8 a9 h9 a10 h10 a11 h11 a12 h12 bM h13 cc0_scratch4
    = seg1 i a1 h1 a6 h6 a7 h7 a8 h8 a9 h9 a10 h10 a11 h11 a12 h12 h4 h5 h13 h2 h3 (seg2 i a1 h1 a6 h6 a7 h7 a8 h8 a9 h9 a10 h10 a11 h11 a12 h12 h4 h5 h13 h2 h3 (seg3 i a1 h1 a6 h6 a7 h7 a8 h8 a9 h9 a10 h10 a11 h11 a12 h12 h4 h5 h13 h2 h3 (seg4 i a1 h1 a6 h6 a7 h7 a8 h8 a9 h9 a10 h10 a11 h11 a12 h12 h4 h5 h13 h2 h3 (seg5 i a1 h1 a6 h6 a7 h7 a8 h8 a9 h9 a10 h10 a11 h11 a12 h12 h4 h5 h13 h2 h3)))) := by
  rw [cc0_expert_mlp_eq_skeleton]
  rfl

/-! ## The pieces, one by one -/

include hinv

/-- The first tile's copies: at the first step they are started if the tile is valid. -/
theorem seg1_spec (K : Prog (TpuEff nD τ sig (Elt F) Λ₀ .tc) PUnit) {Q : PUnit → sProp 𝕄} :
    iprop(validTable (F := F) c tv ∗ table (F := F) c inv ∗ Half c inv X (0 < (i 0).val ∧ at97 tv (i 0).val = 1#32) ((i 0).val % 2) (i 0).val)
      ⊢ iprop(((validTable (F := F) c tv ∗ table (F := F) c inv ∗ Half c inv X (at97 tv (i 0).val = 1#32) ((i 0).val % 2) (i 0).val)
          -∗ wp frame (wpE (defs₀ (F := F)) Variants.none (c : Thread nD τ) none) Set.univ K Q)
        -∗ wp frame (wpE (defs₀ (F := F)) Variants.none (c : Thread nD τ) none) Set.univ (seg1 i a1 h1 a6 h6 a7 h7 a8 h8 a9 h9 a10 h10 a11 h11 a12 h12 h4 h5 h13 h2 h3 K) Q) := by
  unfold seg1
  simp only [smemLoad, smemLoadElt_bind]
  iintro ⟨Hv, Ht, HH⟩ HK
  iapply (wp_valid c tv 0 rfl (by omega)) $$ Hv
  iintro Hv
  by_cases h : k0_cond1 i (at97 tv 0) = 1#1
  · obtain ⟨h0, hv⟩ := (cond1_iff i _).1 h
    have hh : at97 tv (i 0).val = 1#32 := by rw [h0]; exact hv
    have eI : Half c inv X (0 < (i 0).val ∧ at97 tv (i 0).val = 1#32) ((i 0).val % 2) (i 0).val = Idle c X 0 := by
      unfold Half
      rw [if_neg (show ¬ (0 < (i 0).val ∧ at97 tv (i 0).val = 1#32) from fun h => by omega), h0]
    have eB : Half c inv X (at97 tv (i 0).val = 1#32) ((i 0).val % 2) (i 0).val = Busy c inv X 0 0 := by
      unfold Half
      rw [if_pos hh, h0]
    simp only [ret_then, dif_pos h, eB]
    ihave HH := (Entails.of_eq eI) $$ HH
    imod (starting_zero c inv X 0 0) $$ [HH Ht] with Hst
    · isplitl [HH]; · iexact HH
      iexact Ht
    iapply (Scf.wp_for_bind frame (wpE (defs₀ (F := F)) Variants.none (c : Thread nD τ) none) Set.univ _ _ _ _ _ _
      (fun k _ => starting c inv X 0 0 k)
      (fun k u => trip1 c inv X hinv i a1 h1 vM h2 fM h3 a6 h6 a7 h7 a8 h8 a9 h9 a10 h10 a11 h11 a12 h12 h4 h5 h13 _ h k u)) $$ Hst
    iintro %u Hst
    rw [show Scf.trips k0_t1_loop.lb k0_t1_loop.ub k0_t1_loop.st = 256 from trips1]
    ihave Hb := (starting_done c inv X 0 0) $$ Hst
    icases Hb with ⟨Hb, Ht⟩
    iapply HK
    isplitl [Hv]; · iexact Hv
    isplitl [Ht]; · iexact Ht
    iexact Hb
  · have hne : (at97 tv (i 0).val = 1#32) ↔ (0 < (i 0).val ∧ at97 tv (i 0).val = 1#32) := by
      refine ⟨fun hv => ⟨?_, hv⟩, fun h => h.2⟩
      by_contra h0
      have h0' : (i 0).val = 0 := by omega
      exact h ((cond1_iff i _).2 ⟨h0', by rw [← h0']; exact hv⟩)
    rw [show Half c inv X (at97 tv (i 0).val = 1#32) ((i 0).val % 2) (i 0).val
      = Half c inv X (0 < (i 0).val ∧ at97 tv (i 0).val = 1#32) ((i 0).val % 2) (i 0).val from if_congr hne rfl rfl]
    simp only [ret_then, dif_neg h]
    iapply HK
    isplitl [Hv]; · iexact Hv
    isplitl [Ht]; · iexact Ht
    iexact HH

/-- The next tile's copies: started, before the last step, if the tile is valid. -/
theorem seg2_spec (K : Prog (TpuEff nD τ sig (Elt F) Λ₀ .tc) PUnit) {Q : PUnit → sProp 𝕄} :
    iprop(validTable (F := F) c tv ∗ table (F := F) c inv ∗ Idle c X (((i 0).val + 1) % 2))
      ⊢ iprop(((validTable (F := F) c tv ∗ table (F := F) c inv
            ∗ Half c inv X ((i 0).val + 1 < 97 ∧ at97 tv ((i 0).val + 1) = 1#32) (((i 0).val + 1) % 2) ((i 0).val + 1))
          -∗ wp frame (wpE (defs₀ (F := F)) Variants.none (c : Thread nD τ) none) Set.univ K Q)
        -∗ wp frame (wpE (defs₀ (F := F)) Variants.none (c : Thread nD τ) none) Set.univ (seg2 i a1 h1 a6 h6 a7 h7 a8 h8 a9 h9 a10 h10 a11 h11 a12 h12 h4 h5 h13 h2 h3 K) Q) := by
  unfold seg2
  simp only [smemLoad, smemLoadElt_bind]
  iintro ⟨Hv, Ht, HH⟩ HK
  iapply (wp_valid c tv (min ((i 0).val + 1) 96) (k0_off5_eq i) (by omega)) $$ Hv
  iintro Hv
  iapply (wp_assume Variants.none (c : Thread nD τ) none Set.univ (chk2_of i _))
  by_cases h : k0_cond2 i (at97 tv (min ((i 0).val + 1) 96)) = 1#1
  · obtain ⟨h0, hv⟩ := (cond2_iff i _).1 h
    rw [show min ((i 0).val + 1) 96 = (i 0).val + 1 from by omega] at h hv ⊢
    unfold Half
    rw [if_pos (show ((i 0).val + 1 < 97 ∧ at97 tv ((i 0).val + 1) = 1#32) from ⟨by omega, hv⟩)]
    simp only [ret_then, dif_pos h]
    imod (starting_zero c inv X (((i 0).val + 1) % 2) ((i 0).val + 1)) $$ [HH Ht] with Hst
    · isplitl [HH]; · iexact HH
      iexact Ht
    iapply (Scf.wp_for_bind frame (wpE (defs₀ (F := F)) Variants.none (c : Thread nD τ) none) Set.univ _ _ _ _ _ _
      (fun k _ => starting c inv X (((i 0).val + 1) % 2) ((i 0).val + 1) k)
      (fun k u => trip2 c inv X hinv i a1 h1 vM h2 fM h3 a6 h6 a7 h7 a8 h8 a9 h9 a10 h10 a11 h11 a12 h12 h4 h5 h13 _ (chk2_of i _) h h0 k u)) $$ Hst
    iintro %u Hst
    rw [show Scf.trips k0_t2_loop.lb k0_t2_loop.ub k0_t2_loop.st = 256 from trips2]
    ihave Hb := (starting_done c inv X (((i 0).val + 1) % 2) ((i 0).val + 1)) $$ Hst
    icases Hb with ⟨Hb, Ht⟩
    iapply HK
    isplitl [Hv]; · iexact Hv
    isplitl [Ht]; · iexact Ht
    iexact Hb
  · have hne : ¬ ((i 0).val + 1 < 97 ∧ at97 tv ((i 0).val + 1) = 1#32) := fun hc =>
      h ((cond2_iff i _).2 ⟨by omega, by rw [show min ((i 0).val + 1) 96 = (i 0).val + 1 from by omega]; exact hc.2⟩)
    unfold Half
    simp only [ret_then, dif_neg h]
    rw [if_neg hne]
    iapply HK
    isplitl [Hv]; · iexact Hv
    isplitl [Ht]; · iexact Ht
    iexact HH

omit hinv

/-- The expert's weights: at an expert's first tile they are taken over from the window. -/
theorem seg3_spec (K : Prog (TpuEff nD τ sig (Elt F) Λ₀ .tc) PUnit) {Q : PUnit → sProp 𝕄}
    (g6 : S1x2048x512.Idx → Elt F .f32) (g7 : S1x2048x512.Idx → Elt F .f32) (g8 : S1x512x2048.Idx → Elt F .f32)
    (G : S2048x512.Idx → Elt F .bf16) (U : S2048x512.Idx → Elt F .bf16) (D : S512x2048.Idx → Elt F .bf16) {q6 q7 q8 : PosShare TreeShare} :
    iprop(firstTable (F := F) c tf ∗ owns (c : Thread nD τ) a6 q6 g6 ∗ owns (c : Thread nD τ) a7 q7 g7 ∗ owns (c : Thread nD τ) a8 q8 g8
        ∗ owns (c : Thread nD τ) a10 fullShare G ∗ owns (c : Thread nD τ) a11 fullShare U ∗ owns (c : Thread nD τ) a12 fullShare D)
      ⊢ iprop(((firstTable (F := F) c tf ∗ owns (c : Thread nD τ) a6 q6 g6 ∗ owns (c : Thread nD τ) a7 q7 g7 ∗ owns (c : Thread nD τ) a8 q8 g8
        ∗ owns (c : Thread nD τ) a10 fullShare (if at97 tf (i 0).val = 1#32 then k0_pay1 g6 else G)
        ∗ owns (c : Thread nD τ) a11 fullShare (if at97 tf (i 0).val = 1#32 then k0_pay2 g7 else U)
        ∗ owns (c : Thread nD τ) a12 fullShare (if at97 tf (i 0).val = 1#32 then k0_pay3 g8 else D))
          -∗ wp frame (wpE (defs₀ (F := F)) Variants.none (c : Thread nD τ) none) Set.univ K Q)
        -∗ wp frame (wpE (defs₀ (F := F)) Variants.none (c : Thread nD τ) none) Set.univ (seg3 i a1 h1 a6 h6 a7 h7 a8 h8 a9 h9 a10 h10 a11 h11 a12 h12 h4 h5 h13 h2 h3 K) Q) := by
  have hi : (i 0).val < 97 := (i 0).isLt
  unfold seg3
  simp only [smemLoad, smemLoadElt_bind]
  iintro ⟨Hf, H6, H7, H8, H10, H11, H12⟩ HK
  iapply (wp_first c tf (i 0).val (k0_off10_eq i) hi) $$ Hf
  iintro Hf
  by_cases h : at97 tf (i 0).val = 1#32
  · simp only [ret_then, if_pos ((cond3_iff _).2 h), if_pos h]
    iapply (load_all c (fun a => by fin_cases a <;> rfl)) $$ H6
    iintro H6
    iapply (load_all c (fun a => by fin_cases a <;> rfl)) $$ H10
    iintro H10
    iapply (store_all c (fun a => by fin_cases a <;> rfl)) $$ H10
    iintro H10
    iapply (load_all c (fun a => by fin_cases a <;> rfl)) $$ H7
    iintro H7
    iapply (load_all c (fun a => by fin_cases a <;> rfl)) $$ H11
    iintro H11
    iapply (store_all c (fun a => by fin_cases a <;> rfl)) $$ H11
    iintro H11
    iapply (load_all c (fun a => by fin_cases a <;> rfl)) $$ H8
    iintro H8
    iapply (load_all c (fun a => by fin_cases a <;> rfl)) $$ H12
    iintro H12
    iapply (store_all c (fun a => by fin_cases a <;> rfl)) $$ H12
    iintro H12
    iapply HK
    isplitl [Hf]; · iexact Hf
    isplitl [H6]; · iexact H6
    isplitl [H7]; · iexact H7
    isplitl [H8]; · iexact H8
    isplitl [H10]; · iexact H10
    isplitl [H11]; · iexact H11
    iexact H12
  · simp only [ret_then, if_neg (fun hc => h ((cond3_iff _).1 hc)), if_neg h]
    iapply HK
    isplitl [Hf]; · iexact Hf
    isplitl [H6]; · iexact H6
    isplitl [H7]; · iexact H7
    isplitl [H8]; · iexact H8
    isplitl [H10]; · iexact H10
    isplitl [H11]; · iexact H11
    iexact H12

include hinv

/-- The tile's products: if the tile is valid its copies are waited for and its block stored. -/
theorem seg4_spec (K : Prog (TpuEff nD τ sig (Elt F) Λ₀ .tc) PUnit) {Q : PUnit → sProp 𝕄} (d : S4096x128.Idx → Elt F .f32)
    (G : S2048x512.Idx → Elt F .bf16) (U : S2048x512.Idx → Elt F .bf16) (D : S512x2048.Idx → Elt F .bf16) :
    iprop(validTable (F := F) c tv ∗ table (F := F) c inv ∗ Half c inv X (at97 tv (i 0).val = 1#32) ((i 0).val % 2) (i 0).val
        ∗ owns (c : Thread nD τ) a9 fullShare d
        ∗ owns (c : Thread nD τ) a10 fullShare G ∗ owns (c : Thread nD τ) a11 fullShare U ∗ owns (c : Thread nD τ) a12 fullShare D
        ∗ ∃ W, owes (c : Thread nD τ) 0 W)
      ⊢ iprop(((validTable (F := F) c tv ∗ table (F := F) c inv ∗ Idle c X ((i 0).val % 2)
        ∗ owns (c : Thread nD τ) a9 fullShare (if at97 tv (i 0).val = 1#32 then upTo d (outcol inv X (i 0).val G U D) 16 else d)
        ∗ owns (c : Thread nD τ) a10 fullShare G ∗ owns (c : Thread nD τ) a11 fullShare U ∗ owns (c : Thread nD τ) a12 fullShare D
        ∗ ∃ W, owes (c : Thread nD τ) 0 W)
          -∗ wp frame (wpE (defs₀ (F := F)) Variants.none (c : Thread nD τ) none) Set.univ K Q)
        -∗ wp frame (wpE (defs₀ (F := F)) Variants.none (c : Thread nD τ) none) Set.univ (seg4 i a1 h1 a6 h6 a7 h7 a8 h8 a9 h9 a10 h10 a11 h11 a12 h12 h4 h5 h13 h2 h3 K) Q) := by
  have hi : (i 0).val < 97 := (i 0).isLt
  unfold seg4
  simp only [smemLoad, smemLoadElt_bind]
  iintro ⟨Hv, Ht, HH, H9, H10, H11, H12, HO⟩ HK
  iapply (wp_valid c tv (i 0).val (k0_off11_eq i) hi) $$ Hv
  iintro Hv
  unfold Half
  by_cases h : at97 tv (i 0).val = 1#32
  · simp only [ret_then, dif_pos ((cond4_iff _).2 h), if_pos h]
    unfold Busy
    icases HH with ⟨HB, Hk⟩
    rw [wp_bind]
    iapply (part1 c inv X hinv i a1 h1 vM h2 fM h3 a6 h6 a7 h7 a8 h8 a9 h9 a10 h10 a11 h11 a12 h12 h4 h5 h13 _ _ ((cond4_iff _).2 h)) $$ [HB Ht HO Hk]
    · unfold draining
      isplitr [Hk]
      · isplitl [HB]; · rw [Nat.zero_mul]; iexact HB
        isplitl [Ht]; · iexact Ht
        iexact HO
      iexact Hk
    iintro %v42 ⟨Hs, HL, Hsh, Ht, HO⟩
    rw [wp_bind]
    iapply (part2 c inv X i a1 h1 vM h2 fM h3 a6 h6 a7 h7 a8 h8 a9 h9 a10 h10 a11 h11 a12 h12 h4 h5 h13 v42) $$ HL
    iintro HL
    rw [wp_bind]
    iapply (part3 c inv X i a1 h1 vM h2 fM h3 a6 h6 a7 h7 a8 h8 a9 h9 a10 h10 a11 h11 a12 h12 h4 h5 h13 d G U D) $$ [H9 H10 H11 H12]
    · isplitl [H9]; · iexact H9
      isplitl [H10]; · iexact H10
      isplitl [H11]; · iexact H11
      iexact H12
    iintro ⟨H9, H10, H11, H12⟩
    iapply (column c 8 (by omega) (V := outcol inv X (i 0).val G U D) rfl) $$ H9
    iintro H9
    iapply (column c 9 (by omega) (V := outcol inv X (i 0).val G U D) rfl) $$ H9
    iintro H9
    iapply (column c 10 (by omega) (V := outcol inv X (i 0).val G U D) rfl) $$ H9
    iintro H9
    iapply (column c 11 (by omega) (V := outcol inv X (i 0).val G U D) rfl) $$ H9
    iintro H9
    iapply (column c 12 (by omega) (V := outcol inv X (i 0).val G U D) rfl) $$ H9
    iintro H9
    iapply (column c 13 (by omega) (V := outcol inv X (i 0).val G U D) rfl) $$ H9
    iintro H9
    iapply (column c 14 (by omega) (V := outcol inv X (i 0).val G U D) rfl) $$ H9
    iintro H9
    iapply (column c 15 (by omega) (V := outcol inv X (i 0).val G U D) rfl) $$ H9
    iintro H9
    iapply HK
    isplitl [Hv]; · iexact Hv
    isplitl [Ht]; · iexact Ht
    isplitl [Hs HL Hsh]
    · unfold Idle
      isplitl [Hs]; · iexact Hs
      isplitl [HL]
      · iexists _
        unfold Landed
        iexact HL
      iexact Hsh
    isplitl [H9]; · iexact H9
    isplitl [H10]; · iexact H10
    isplitl [H11]; · iexact H11
    isplitl [H12]; · iexact H12
    iexact HO
  · simp only [ret_then, dif_neg (fun hc => h ((cond4_iff _).1 hc)), if_neg h]
    iapply HK
    isplitl [Hv]; · iexact Hv
    isplitl [Ht]; · iexact Ht
    isplitl [HH]; · iexact HH
    isplitl [H9]; · iexact H9
    isplitl [H10]; · iexact H10
    isplitl [H11]; · iexact H11
    isplitl [H12]; · iexact H12
    iexact HO

omit hinv

/-- The block of a tile that is not valid is zero. -/
theorem seg5_spec {Q : PUnit → sProp 𝕄} (d : S4096x128.Idx → Elt F .f32) :
    iprop(validTable (F := F) c tv ∗ owns (c : Thread nD τ) a9 fullShare d)
      ⊢ iprop(((validTable (F := F) c tv ∗ owns (c : Thread nD τ) a9 fullShare (if at97 tv (i 0).val = 0#32 then k0_pay12 (F := F) else d)) -∗ Q ⟨⟩)
        -∗ wp frame (wpE (defs₀ (F := F)) Variants.none (c : Thread nD τ) none) Set.univ (seg5 i a1 h1 a6 h6 a7 h7 a8 h8 a9 h9 a10 h10 a11 h11 a12 h12 h4 h5 h13 h2 h3) Q) := by
  have hi : (i 0).val < 97 := (i 0).isLt
  unfold seg5
  simp only [smemLoad, smemLoadElt_bind]
  iintro ⟨Hv, H9⟩ HK
  iapply (wp_valid c tv (i 0).val (k0_off17_eq i) hi) $$ Hv
  iintro Hv
  by_cases h : at97 tv (i 0).val = 0#32
  · simp only [ret_then, dif_pos ((cond5_iff _).2 h), if_pos h]
    iapply (load_all c (fun a => by fin_cases a <;> rfl)) $$ H9
    iintro H9
    iapply (store_all c (fun a => by fin_cases a <;> rfl)) $$ H9
    iintro H9
    iapply (Entails.of_eq (wp_pure frame (wpE (defs₀ (F := F)) Variants.none (c : Thread nD τ) none) Set.univ _ _).symm)
    imodintro
    iapply HK
    isplitl [Hv]; · iexact Hv
    iexact H9
  · simp only [ret_then, dif_neg (fun hc => h ((cond5_iff _).1 hc)), if_neg h]
    iapply (Entails.of_eq (wp_pure frame (wpE (defs₀ (F := F)) Variants.none (c : Thread nD τ) none) Set.univ _ _).symm)
    imodintro
    iapply HK
    isplitl [Hv]; · iexact Hv
    iexact H9

include hinv

/-- What the step leaves in the block: the tile's product by column groups if the tile is valid, zero otherwise. -/
def stepOut (tv : S97.Idx → BitVec 32) (t : ℕ) (G : S2048x512.Idx → Elt F .bf16) (U : S2048x512.Idx → Elt F .bf16) (D : S512x2048.Idx → Elt F .bf16) :
    S4096x128.Idx → Elt F .f32 :=
  if at97 tv t = 1#32 then upTo (k0_pay12 (F := F)) (outcol inv X t G U D) 16 else k0_pay12 (F := F)

/-- A grid step: the tile's copies are waited for, the next tile's are started, the weights are those of the tile's expert,
    the block is the tile's. -/
theorem step_spec (hvv : at97 tv (i 0).val = 0#32 ∨ at97 tv (i 0).val = 1#32)
    (g6 : S1x2048x512.Idx → Elt F .f32) (g7 : S1x2048x512.Idx → Elt F .f32) (g8 : S1x512x2048.Idx → Elt F .f32) (d : S4096x128.Idx → Elt F .f32)
    (G : S2048x512.Idx → Elt F .bf16) (U : S2048x512.Idx → Elt F .bf16) (D : S512x2048.Idx → Elt F .bf16) {q6 q7 q8 : PosShare TreeShare} {Q : PUnit → sProp 𝕄} :
    iprop(validTable (F := F) c tv ∗ firstTable (F := F) c tf ∗ table (F := F) c inv
        ∗ Half c inv X (0 < (i 0).val ∧ at97 tv (i 0).val = 1#32) ((i 0).val % 2) (i 0).val
        ∗ Idle c X (((i 0).val + 1) % 2)
        ∗ owns (c : Thread nD τ) a6 q6 g6 ∗ owns (c : Thread nD τ) a7 q7 g7 ∗ owns (c : Thread nD τ) a8 q8 g8
        ∗ owns (c : Thread nD τ) a9 fullShare d
        ∗ owns (c : Thread nD τ) a10 fullShare G ∗ owns (c : Thread nD τ) a11 fullShare U ∗ owns (c : Thread nD τ) a12 fullShare D
        ∗ ∃ W, owes (c : Thread nD τ) 0 W)
      ⊢ iprop(((validTable (F := F) c tv ∗ firstTable (F := F) c tf ∗ table (F := F) c inv
        ∗ Idle c X ((i 0).val % 2)
        ∗ Half c inv X ((i 0).val + 1 < 97 ∧ at97 tv ((i 0).val + 1) = 1#32) (((i 0).val + 1) % 2) ((i 0).val + 1)
        ∗ owns (c : Thread nD τ) a6 q6 g6 ∗ owns (c : Thread nD τ) a7 q7 g7 ∗ owns (c : Thread nD τ) a8 q8 g8
        ∗ owns (c : Thread nD τ) a9 fullShare (stepOut inv X tv (i 0).val (if at97 tf (i 0).val = 1#32 then k0_pay1 g6 else G)
            (if at97 tf (i 0).val = 1#32 then k0_pay2 g7 else U) (if at97 tf (i 0).val = 1#32 then k0_pay3 g8 else D))
        ∗ owns (c : Thread nD τ) a10 fullShare (if at97 tf (i 0).val = 1#32 then k0_pay1 g6 else G)
        ∗ owns (c : Thread nD τ) a11 fullShare (if at97 tf (i 0).val = 1#32 then k0_pay2 g7 else U)
        ∗ owns (c : Thread nD τ) a12 fullShare (if at97 tf (i 0).val = 1#32 then k0_pay3 g8 else D)
        ∗ ∃ W, owes (c : Thread nD τ) 0 W) -∗ Q ⟨⟩)
        -∗ wp frame (wpE (defs₀ (F := F)) Variants.none (c : Thread nD τ) none) Set.univ (cc0_expert_mlp (F := F) i a1 h1 vM h2 fM h3 iM h4 xM h5 a6 h6 a7 h7 a8 h8 a9 h9 a10 h10 a11 h11 a12 h12 bM h13 cc0_scratch4) Q) := by
  rw [step_eq]
  iintro ⟨Hv, Hf, Ht, HH, HI, H6, H7, H8, H9, H10, H11, H12, HO⟩ HQ
  iapply (seg1_spec c inv X tv hinv i a1 h1 a6 h6 a7 h7 a8 h8 a9 h9 a10 h10 a11 h11 a12 h12 h4 h5 h13 h2 h3 _) $$ [Hv Ht HH]
  · isplitl [Hv]; · iexact Hv
    isplitl [Ht]; · iexact Ht
    iexact HH
  iintro ⟨Hv, Ht, HH⟩
  iapply (seg2_spec c inv X tv hinv i a1 h1 a6 h6 a7 h7 a8 h8 a9 h9 a10 h10 a11 h11 a12 h12 h4 h5 h13 h2 h3 _) $$ [Hv Ht HI]
  · isplitl [Hv]; · iexact Hv
    isplitl [Ht]; · iexact Ht
    iexact HI
  iintro ⟨Hv, Ht, HI⟩
  iapply (seg3_spec c tf i a1 h1 a6 h6 a7 h7 a8 h8 a9 h9 a10 h10 a11 h11 a12 h12 h4 h5 h13 h2 h3 _ g6 g7 g8 G U D) $$ [Hf H6 H7 H8 H10 H11 H12]
  · isplitl [Hf]; · iexact Hf
    isplitl [H6]; · iexact H6
    isplitl [H7]; · iexact H7
    isplitl [H8]; · iexact H8
    isplitl [H10]; · iexact H10
    isplitl [H11]; · iexact H11
    iexact H12
  iintro ⟨Hf, H6, H7, H8, H10, H11, H12⟩
  iapply (seg4_spec c inv X tv hinv i a1 h1 a6 h6 a7 h7 a8 h8 a9 h9 a10 h10 a11 h11 a12 h12 h4 h5 h13 h2 h3 _ d _ _ _) $$ [Hv Ht HH H9 H10 H11 H12 HO]
  · isplitl [Hv]; · iexact Hv
    isplitl [Ht]; · iexact Ht
    isplitl [HH]; · iexact HH
    isplitl [H9]; · iexact H9
    isplitl [H10]; · iexact H10
    isplitl [H11]; · iexact H11
    isplitl [H12]; · iexact H12
    iexact HO
  iintro ⟨Hv, Ht, HH, H9, H10, H11, H12, HO⟩
  iapply (seg5_spec c tv i a1 h1 a6 h6 a7 h7 a8 h8 a9 h9 a10 h10 a11 h11 a12 h12 h4 h5 h13 h2 h3 _) $$ [Hv H9]
  · isplitl [Hv]; · iexact Hv
    iexact H9
  iintro ⟨Hv, H9⟩
  iapply HQ
  isplitl [Hv]; · iexact Hv
  isplitl [Hf]; · iexact Hf
  isplitl [Ht]; · iexact Ht
  isplitl [HH]; · iexact HH
  isplitl [HI]; · iexact HI
  isplitl [H6]; · iexact H6
  isplitl [H7]; · iexact H7
  isplitl [H8]; · iexact H8
  isplitl [H9]
  · unfold stepOut
    rcases hvv with h | h
    · rw [if_pos h, if_neg (by rw [h]; decide)]
      iexact H9
    · rw [if_neg (by rw [h]; decide), if_pos h, if_pos h, upTo_all (k0_pay12 (F := F)) d]
      iexact H9
  isplitl [H10]; · iexact H10
  isplitl [H11]; · iexact H11
  isplitl [H12]; · iexact H12
  iexact HO

end Cert.Proof.Moe
end
-- ==== Proof.MoeTables.lean ====
/-
  What the precondition says of the four tables, read off the printed predicate element by element.
-/
module

public import proofs.«01_k».proof.Defs
public import proofs.«01_k».proof.Proof.MoeBody
public import proofs.«01_k».proof.Proof.Gen.Pre_tables
public import Idealize.ShloMosaic.Lib.ReduceAll
public import Idealize.ShloMosaic.Lib.StableHlo.Predicate

@[expose] public section

noncomputable section

namespace Cert.Proof.Moe

open Cert.KernelIdeal Cert.KernelIdeal.Gen
open Idealize.ShloMosaic

/-- The tables of a run: experts and slots in range, a tile valid or not, and the rule by which a tile may reuse the
    weights held: a valid tile either starts an expert or follows a valid tile of its own expert. -/
structure Tables (te tv tf : S97.Idx → BitVec 32) (inv : S24832.Idx → BitVec 32) : Prop where
  expert : ∀ i, (te i).toNat < 32
  valid : ∀ i, tv i = 0#32 ∨ tv i = 1#32
  slot : ∀ n, (inv n).toNat < 8320
  start : at97 tv 0 = 0#32 ∨ at97 tf 0 = 1#32
  chain : ∀ t, t + 1 < 97 → at97 tv (t + 1) = 0#32 ∨ at97 tf (t + 1) = 1#32 ∨ (at97 te (t + 1) = at97 te t ∧ at97 tv t = 1#32)

/-- A word that is, signed, at least 0 and below a small bound is below it unsigned. -/
theorem toNat_lt_of_signed {x : BitVec 32} {b : ℕ} (hb : b < 2 ^ 31) (h0 : IntOp.cmpi .sge x 0#32 = 1#1)
    (h1 : IntOp.cmpi .slt x (BitVec.ofNat 32 b) = 1#1) : x.toNat < b := by
  rw [IntOp.cmpi_sge, BitVec.toInt_zero] at h0
  have h0 : x.toNat < 2 ^ 31 := by
    have hx := x.isLt
    rw [BitVec.toInt_eq_toNat_cond] at h0
    split at h0 <;> omega
  have hbn : (BitVec.ofNat 32 b).toNat = b := by rw [BitVec.toNat_ofNat]; omega
  rw [StableHlo.Predicate.slt_iff_toNat h0 (by rw [hbn]; exact hb), hbn] at h1
  exact h1

instance : Subsingleton Cert.Pre_tables.S_.Idx := ⟨fun a b => funext fun x => x.elim0⟩

/-- The printed predicate is 1 only of such tables. -/
theorem tables_of_fn {F : FTy → Type} [FloatOps F] (te tv tf : S97.Idx → BitVec 32) (inv : S24832.Idx → BitVec 32) (x4 x5 x6 x7)
    (h : Cert.Pre_tables.fn (F := F) te tv tf inv x4 x5 x6 x7 = fun _ => 1#1) : Tables te tv tf inv := by
  have h := congrFun h (fun x => x.elim0)
  unfold Cert.Pre_tables.fn Cert.Pre_tables.fn_part1 Cert.Pre_tables.fn_part2 at h
  obtain ⟨h, hchain⟩ := IntOp.andi_eq_one.1 h
  obtain ⟨h, hstart⟩ := IntOp.andi_eq_one.1 h
  obtain ⟨h, hslot⟩ := IntOp.andi_eq_one.1 h
  obtain ⟨hexp, h⟩ := IntOp.andi_eq_one.1 h
  obtain ⟨hval, -⟩ := IntOp.andi_eq_one.1 h
  refine ⟨fun i => ?_, fun i => ?_, fun n => ?_, ?_, fun t ht => ?_⟩
  · obtain ⟨a, b⟩ := IntOp.andi_eq_one.1 (Host.reduce_andi_all _ _ _ _ _ hexp i)
    exact toNat_lt_of_signed (by norm_num) a b
  · rcases IntOp.ori_eq_one.1 (Host.reduce_andi_all _ _ _ _ _ hval i) with a | a
    · exact Or.inl (IntOp.cmpi_eq.1 a)
    · exact Or.inr (IntOp.cmpi_eq.1 a)
  · obtain ⟨a, b⟩ := IntOp.andi_eq_one.1 (Host.reduce_andi_all _ _ _ _ _ hslot n)
    exact toNat_lt_of_signed (by norm_num) a b
  · have e : ∀ f : S97.Idx → BitVec 32, shapeCast Cert.Pre_tables.S_ (extractStridedSlice Cert.Pre_tables.S1 ![0] f Cert.Pre_tables.Facts.slices_S97_S1_0)
        Cert.Pre_tables.Facts.shapeCasts_S1_S_ (fun x => x.elim0) = at97 f 0 := fun f => by
      unfold at97
      refine congrArg f (funext fun a => Fin.ext ?_)
      fin_cases a
      rfl
    rcases IntOp.ori_eq_one.1 hstart with a | a
    · exact Or.inl ((e tv).symm.trans (IntOp.cmpi_eq.1 a))
    · exact Or.inr ((e tf).symm.trans (IntOp.cmpi_eq.1 a))
  · have e1 : ∀ f : S97.Idx → BitVec 32, extractStridedSlice Cert.Pre_tables.S96 ![1] f Cert.Pre_tables.Facts.slices_S97_S96_1
        (ix1 ⟨t, by omega⟩) = at97 f (t + 1) := fun f => by
      unfold at97
      refine congrArg f (funext fun a => Fin.ext ?_)
      fin_cases a
      show 1 + t = (t + 1) % 97
      omega
    have e0 : ∀ f : S97.Idx → BitVec 32, extractStridedSlice Cert.Pre_tables.S96 ![0] f Cert.Pre_tables.Facts.slices_S97_S96_0
        (ix1 ⟨t, by omega⟩) = at97 f t := fun f => by
      unfold at97
      refine congrArg f (funext fun a => Fin.ext ?_)
      fin_cases a
      show 0 + t = t % 97
      omega
    rcases IntOp.ori_eq_one.1 (Host.reduce_andi_all _ _ _ _ _ hchain (ix1 ⟨t, by omega⟩)) with a | a
    · rcases IntOp.ori_eq_one.1 a with a | a
      · exact Or.inl ((e1 tv).symm.trans (IntOp.cmpi_eq.1 a))
      · exact Or.inr (Or.inl ((e1 tf).symm.trans (IntOp.cmpi_eq.1 a)))
    · obtain ⟨a, b⟩ := IntOp.andi_eq_one.1 a
      exact Or.inr (Or.inr ⟨(e1 te).symm.trans ((IntOp.cmpi_eq.1 a).trans (e0 te)), (e0 tv).symm.trans (IntOp.cmpi_eq.1 b)⟩)

end Cert.Proof.Moe

end
-- ==== Proof.MoeShares.lean ====
/- What the launch hands the expert call, split among its two halves at the start and put together again at the end. -/
module

public import proofs.«01_k».proof.Proof.MoeBody
public import proofs.«01_k».proof.Proof.Gen.KernelIdeal.Launch

@[expose] public section

noncomputable section

namespace Cert.Proof.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's algebra: the pipeline's beside the counters of the copies. -/
local notation "𝕄" => MT nD τ sig Unit (Elt F) ℕ (Pipeline.UD sig nD τ) ℕ

variable (c : Dev nD) (inv : S24832.Idx → BitVec 32) (X : S133120x128.Idx → Elt F .f32)

/-! ## The token-major array's shares -/

/-- Copy `r` of half `p`, by number. -/
def numbered (p : ℕ) : Fin 256 ↪ ℕ := ⟨fun r => 256 * p + r.val, fun a b h => Fin.ext (by simpa using h)⟩

theorem range_halves : Finset.range 512 = Finset.univ.map (numbered 0) ∪ Finset.univ.map (numbered 1) := by
  ext n
  simp only [Finset.mem_range, Finset.mem_union, Finset.mem_map, Finset.mem_univ, _root_.true_and, numbered, Function.Embedding.coeFn_mk]
  constructor
  · intro h
    by_cases h' : n < 256
    · exact Or.inl ⟨⟨n, h'⟩, by simp⟩
    · exact Or.inr ⟨⟨n - 256, by omega⟩, by show 256 * 1 + (n - 256) = n; omega⟩
  · rintro (⟨r, h⟩ | ⟨r, h⟩)
    · have := r.isLt; change 256 * 0 + r.val = n at h; omega
    · have := r.isLt; change 256 * 1 + r.val = n at h; omega

theorem halves_disj : Disjoint (Finset.univ.map (numbered 0)) (Finset.univ.map (numbered 1)) := by
  rw [Finset.disjoint_left]
  intro n
  simp only [Finset.mem_map, Finset.mem_univ, _root_.true_and, numbered, Function.Embedding.coeFn_mk]
  rintro ⟨r, h⟩ ⟨r', h'⟩
  change 256 * 0 + r.val = n at h
  change 256 * 1 + r'.val = n at h'
  have := r.isLt; have := r'.isLt; omega

/-- The token-major array's share that no copy reads under. -/
def spare : sProp 𝕄 := iprop(((c : Thread nD τ).loc main_arg4) ↦{Transfers.shareDrop fullShare 512} X)

/-- The array whole is the spare share and one share for every copy of either half. -/
theorem shares_eq : (((c : Thread nD τ).loc main_arg4) ↦{fullShare} X : sProp 𝕄)
    ⊣⊢ iprop(spare c X ∗ bigSep Finset.univ (share c X 0) ∗ bigSep Finset.univ (share c X 1)) := by
  have e : (bigSep (Finset.range 512) (fun i => (((c : Thread nD τ).loc main_arg4) ↦{Transfers.shareTokN fullShare i} X : sProp 𝕄)))
      = iprop(bigSep Finset.univ (share c X 0) ∗ bigSep Finset.univ (share c X 1)) := by
    rw [range_halves, BI.bigSep_union halves_disj, bigSep_map, bigSep_map]
    rfl
  have h := Transfers.pointsTo_toks_range (Ix := Unit) (Val := Elt F) (Name := ℕ) (U := Pipeline.UD sig nD τ) (Lvl := ℕ)
    (ℓ := (c : Thread nD τ).loc main_arg4) (S := Finset.univ) (f := X) fullShare 512
  rw [e] at h
  exact h

/-! ## The two halves of the slot buffer -/

theorem slabs_univ : slabFrom 0 0 ∪ slabFrom 1 0 = Finset.univ := by
  ext y
  have hy : (y 0).val < 8192 := (y 0).isLt
  simp only [slabFrom, Finset.mem_union, Finset.mem_filter, Finset.mem_univ, _root_.true_and, iff_true]
  omega

theorem slabs_disj : Disjoint (slabFrom 0 0) (slabFrom 1 0) := by
  rw [Finset.disjoint_left]; intro y
  simp only [slabFrom, Finset.mem_filter, Finset.mem_univ, _root_.true_and]; omega

theorem slabs_split (f : S8192x128.Idx → Elt F .f32) : (((c : Thread nD τ).loc cc0_scratch3) ↦{fullShare} f : sProp 𝕄)
    ⊢ iprop((((c : Thread nD τ).loc cc0_scratch3) ↦[slabFrom 0 0]{fullShare} f) ∗ (((c : Thread nD τ).loc cc0_scratch3) ↦[slabFrom 1 0]{fullShare} f)) := by
  have h := (pointsTo_union (Ix := Unit) (Val := Elt F) (Name := ℕ) (U := Pipeline.UD sig nD τ) (Lvl := ℕ)
    (ℓ := (c : Thread nD τ).loc cc0_scratch3) (q := fullShare) (f := f) slabs_disj).1
  rw [slabs_univ] at h
  exact h

theorem slabs_join (f g : S8192x128.Idx → Elt F .f32) :
    iprop((((c : Thread nD τ).loc cc0_scratch3) ↦[slabFrom 0 0]{fullShare} f) ∗ (((c : Thread nD τ).loc cc0_scratch3) ↦[slabFrom 1 0]{fullShare} g))
      ⊢ (iprop(∃ h : S8192x128.Idx → Elt F .f32, ((c : Thread nD τ).loc cc0_scratch3) ↦{fullShare} h) : sProp 𝕄) := by
  have h := pointsTo_join (Ix := Unit) (Val := Elt F) (Name := ℕ) (U := Pipeline.UD sig nD τ) (Lvl := ℕ)
    (ℓ := (c : Thread nD τ).loc cc0_scratch3) (q := fullShare) (f := f) (g := g) slabs_disj
  rw [slabs_univ] at h
  refine h.trans ?_
  iintro H
  iexists _
  iexact H

/-! ## Both halves at rest -/

/-- The slot buffer, the token-major array and the two cells, whole, are the two halves at rest and the spare share. -/
theorem rest_split (f : S8192x128.Idx → Elt F .f32) :
    iprop((((c : Thread nD τ).loc cc0_scratch3) ↦{fullShare} f) ∗ (((c : Thread nD τ).loc main_arg4) ↦{fullShare} X)
        ∗ semVal ((c : Thread nD τ), SemLoc.dma 8) 0 ∗ semVal ((c : Thread nD τ), SemLoc.dma 9) 0)
      ⊢ (iprop(Idle c X 0 ∗ Idle c X 1 ∗ spare c X) : sProp 𝕄) := by
  iintro ⟨Hb, HX, H0, H1⟩
  ihave Hb := slabs_split c f $$ Hb
  icases Hb with ⟨Hb0, Hb1⟩
  ihave HX := (shares_eq c X).1 $$ HX
  icases HX with ⟨HS, HX0, HX1⟩
  unfold Idle
  isplitl [H0 Hb0 HX0]
  · isplitl [H0]; · iexact H0
    isplitl [Hb0]; · iexists f; iexact Hb0
    iexact HX0
  isplitl [H1 Hb1 HX1]
  · isplitl [H1]; · iexact H1
    isplitl [Hb1]; · iexists f; iexact Hb1
    iexact HX1
  iexact HS

/-- And back. -/
theorem rest_join :
    iprop(Idle c X 0 ∗ Idle c X 1 ∗ spare c X)
      ⊢ (iprop((∃ f : S8192x128.Idx → Elt F .f32, ((c : Thread nD τ).loc cc0_scratch3) ↦{fullShare} f) ∗ (((c : Thread nD τ).loc main_arg4) ↦{fullShare} X)
        ∗ semVal ((c : Thread nD τ), SemLoc.dma 8) 0 ∗ semVal ((c : Thread nD τ), SemLoc.dma 9) 0) : sProp 𝕄) := by
  unfold Idle
  iintro ⟨⟨H0, ⟨%f, Hb0⟩, HX0⟩, ⟨H1, ⟨%g, Hb1⟩, HX1⟩, HS⟩
  isplitl [Hb0 Hb1]
  · iapply (slabs_join c f g)
    isplitl [Hb0]; · iexact Hb0
    iexact Hb1
  isplitl [HS HX0 HX1]
  · iapply (shares_eq c X).2
    isplitl [HS]; · iexact HS
    isplitl [HX0]; · iexact HX0
    iexact HX1
  isplitl [H0]; · iexact H0
  iexact H1

end Cert.Proof.Moe

end
-- ==== Proof.MoeConfig.lean ====
/- The expert call as a pipeline: its tables' contents, its windows' blocks, and what its grid point is. -/
module

public import proofs.«01_k».proof.Proof.MoeTables
public import proofs.«01_k».proof.Proof.MoeShares

@[expose] public section

noncomputable section

namespace Cert.Proof.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's algebra: the pipeline's beside the counters of the copies. -/
local notation "𝕄" => MT nD τ sig Unit (Elt F) ℕ (Pipeline.UD sig nD τ) ℕ

/-! ## The arguments and the tables -/

variable (m : (ℓ : Loc nD τ sig) → Buf (Elt F) ℓ)

/-- Device `c`'s buffers as the call finds them. -/
abbrev V (c : Dev nD) (b : Ref sig .tc) : Buf (Elt F) ((c : Thread nD τ).loc b) := m ((c : Thread nD τ).loc b)

/-- The expert of each tile, -/
def teOf (c : Dev nD) : S97.Idx → BitVec 32 := V m c main_arg0
/-- whether the tile is valid, -/
def tvOf (c : Dev nD) : S97.Idx → BitVec 32 := V m c main_arg1
/-- whether it is its expert's first, -/
def tfOf (c : Dev nD) : S97.Idx → BitVec 32 := V m c main_arg2
/-- the token of each row, -/
def invOf (c : Dev nD) : S24832.Idx → BitVec 32 := V m c main_arg3
/-- and the tokens' features, token-major. -/
def xOf (c : Dev nD) : S133120x128.Idx → Elt F .f32 := V m c main_arg4

/-- The arguments' tables are as the precondition asks. -/
def Ok : Prop := ∀ c, Tables (teOf m c) (tvOf m c) (tfOf m c) (invOf m c)

/-- The tables' contents. -/
def pf : pre0.Contents (Elt F) := fun k => V m 0 (pre0.ref k)

theorem dev_zero (c : Dev nD) : c = 0 := by
  apply Fin.ext
  have := c.isLt
  show c.val = 0
  have h : nD = 1 := rfl
  omega

/-- The element of a 97-element table that a unit access at `n` names. -/
theorem table_at (f : S97.Idx → BitVec 32) {o : Fin 1 → ℕ} (n : ℕ) (ho : o = ![n]) (hn : n < 97) {h : ∀ a, o a + S1.size a ≤ S97.size a}
    (x : (Rect.unit (s := S97) o S1.size h).shape.Idx) : f ((Rect.unit (s := S97) o S1.size h).emb x) = at97 f n := by
  subst ho
  refine congrArg f ?_
  have hx : (x 0).val < 1 := (x 0).isLt
  funext a; apply Fin.ext; fin_cases a
  show n + 1 * (x 0).val = n % 97
  omega

theorem off1_eq : ∀ i : grid0.Coords, k0_off1 i = ![(i 0).val] := by decide +kernel

/-- A weight window's block is the tile's expert's. -/
theorem ix1_eq (i : grid0.Coords) : cc0_transform_1 k0_off1_inb numel1_S1 (pf m) i = ![(at97 (teOf m 0) (i 0).val).toNat, 0, 0] := by
  have e := table_at (teOf m 0) (i 0).val (off1_eq i) (i 0).isLt (h := k0_off1_inb i) (Shape.Idx.first (numel1_S1.symm ▸ Nat.one_pos))
  rw [← e]
  rfl

theorem ix2_eq (i : grid0.Coords) : cc0_transform_2 k0_off1_inb numel1_S1 (pf m) i = ![(at97 (teOf m 0) (i 0).val).toNat, 0, 0] := ix1_eq m i

theorem ix3_eq (i : grid0.Coords) : cc0_transform_3 k0_off1_inb numel1_S1 (pf m) i = ![(at97 (teOf m 0) (i 0).val).toNat, 0, 0] := ix1_eq m i

variable (hT : Ok m)

include hT in
theorem at_lt (c : Dev nD) (n : ℕ) : (at97 (teOf m c) n).toNat < 32 := (hT c).expert _

theorem slab_fits (e : ℕ) (h : e < 32) (a : Fin 3) : ((![e, 0, 0] : Fin 3 → ℕ) a + 1) * S1x2048x512.size a ≤ S32x2048x512.size a :=
  match a with
  | 0 => (by omega : (e + 1) * 1 ≤ 32)
  | 1 => (by omega : (0 + 1) * 2048 ≤ 2048)
  | 2 => (by omega : (0 + 1) * 512 ≤ 512)

theorem dslab_fits (e : ℕ) (h : e < 32) (a : Fin 3) : ((![e, 0, 0] : Fin 3 → ℕ) a + 1) * S1x512x2048.size a ≤ S32x512x2048.size a :=
  match a with
  | 0 => (by omega : (e + 1) * 1 ≤ 32)
  | 1 => (by omega : (0 + 1) * 512 ≤ 512)
  | 2 => (by omega : (0 + 1) * 2048 ≤ 2048)

include hT in
/-- The tables are such that every block fetched lies inside its array. -/
theorem pf_ok : ok0 (pf m) :=
  ⟨fun i => ⟨fun a => (congrFun (ix1_eq m i) a).symm ▸ slab_fits _ (at_lt m hT 0 (i 0).val) a, Or.inl rfl⟩,
   fun i => ⟨fun a => (congrFun (ix2_eq m i) a).symm ▸ slab_fits _ (at_lt m hT 0 (i 0).val) a, Or.inl rfl⟩,
   fun i => ⟨fun a => (congrFun (ix3_eq m i) a).symm ▸ dslab_fits _ (at_lt m hT 0 (i 0).val) a, Or.inl rfl⟩⟩

/-- The tables, admissible. -/
def adm : (p : Fin 1) → (pcfgs (F := F) p).Adm := fun _ => ⟨pf m, pf_ok m hT⟩

/-- The pipeline at the tables. -/
abbrev cfgm : Pipeline.Cfg sig Λ₀ := cfg0 (adm m hT 0)

theorem coords_val : ∀ t : Fin grid0.N, (grid0.coords t 0).val = t.val := by decide +kernel

/-! ## The windows' blocks -/

/-- Expert `e`'s slab of a gate or up array. -/
def wblk (A : S32x2048x512.Idx → Elt F .f32) (e : ℕ) : S1x2048x512.Idx → Elt F .f32 :=
  fun y => A (ix3 ⟨e % 32, Nat.mod_lt _ (by omega)⟩ (y 1) (y 2))

/-- Expert `e`'s slab of the down array. -/
def dblk (A : S32x512x2048.Idx → Elt F .f32) (e : ℕ) : S1x512x2048.Idx → Elt F .f32 :=
  fun y => A (ix3 ⟨e % 32, Nat.mod_lt _ (by omega)⟩ (y 1) (y 2))

/-- Tile `t`'s expert. -/
def ex (c : Dev nD) (t : ℕ) : ℕ := (at97 (teOf m c) t).toNat

theorem read0 (t : Fin grid0.N) (A : S32x2048x512.Idx → Elt F .f32) :
    (((cfgm m hT).win 0).blk t).view.read (Elt F) A = wblk A (ex m 0 t.val) := by
  refine funext fun (y : S1x2048x512.Idx) => ?_
  refine congrArg A ?_
  have h := at_lt m hT 0 t.val
  have e := ix1_eq m (grid0.coords t)
  rw [coords_val] at e
  have hy : (y 0).val < 1 := (y 0).isLt
  funext a; apply Fin.ext
  fin_cases a
  · show cc0_transform_1 k0_off1_inb numel1_S1 (pf m) (grid0.coords t) 0 * 1 + 1 * (y 0).val = ex m 0 t.val % 32
    rw [e]
    show (at97 (teOf m 0) t.val).toNat * 1 + 1 * (y 0).val = (at97 (teOf m 0) t.val).toNat % 32
    omega
  · show cc0_transform_1 k0_off1_inb numel1_S1 (pf m) (grid0.coords t) 1 * 2048 + 1 * (y 1).val = (y 1).val
    rw [e]
    show 0 * 2048 + 1 * (y 1).val = (y 1).val
    omega
  · show cc0_transform_1 k0_off1_inb numel1_S1 (pf m) (grid0.coords t) 2 * 512 + 1 * (y 2).val = (y 2).val
    rw [e]
    show 0 * 512 + 1 * (y 2).val = (y 2).val
    omega

theorem read1 (t : Fin grid0.N) (A : S32x2048x512.Idx → Elt F .f32) :
    (((cfgm m hT).win 1).blk t).view.read (Elt F) A = wblk A (ex m 0 t.val) := by
  refine funext fun (y : S1x2048x512.Idx) => ?_
  refine congrArg A ?_
  have h := at_lt m hT 0 t.val
  have e := ix2_eq m (grid0.coords t)
  rw [coords_val] at e
  have hy : (y 0).val < 1 := (y 0).isLt
  funext a; apply Fin.ext
  fin_cases a
  · show cc0_transform_2 k0_off1_inb numel1_S1 (pf m) (grid0.coords t) 0 * 1 + 1 * (y 0).val = ex m 0 t.val % 32
    rw [e]
    show (at97 (teOf m 0) t.val).toNat * 1 + 1 * (y 0).val = (at97 (teOf m 0) t.val).toNat % 32
    omega
  · show cc0_transform_2 k0_off1_inb numel1_S1 (pf m) (grid0.coords t) 1 * 2048 + 1 * (y 1).val = (y 1).val
    rw [e]
    show 0 * 2048 + 1 * (y 1).val = (y 1).val
    omega
  · show cc0_transform_2 k0_off1_inb numel1_S1 (pf m) (grid0.coords t) 2 * 512 + 1 * (y 2).val = (y 2).val
    rw [e]
    show 0 * 512 + 1 * (y 2).val = (y 2).val
    omega

theorem read2 (t : Fin grid0.N) (A : S32x512x2048.Idx → Elt F .f32) :
    (((cfgm m hT).win 2).blk t).view.read (Elt F) A = dblk A (ex m 0 t.val) := by
  refine funext fun (y : S1x512x2048.Idx) => ?_
  refine congrArg A ?_
  have h := at_lt m hT 0 t.val
  have e := ix3_eq m (grid0.coords t)
  rw [coords_val] at e
  have hy : (y 0).val < 1 := (y 0).isLt
  funext a; apply Fin.ext
  fin_cases a
  · show cc0_transform_3 k0_off1_inb numel1_S1 (pf m) (grid0.coords t) 0 * 1 + 1 * (y 0).val = ex m 0 t.val % 32
    rw [e]
    show (at97 (teOf m 0) t.val).toNat * 1 + 1 * (y 0).val = (at97 (teOf m 0) t.val).toNat % 32
    omega
  · show cc0_transform_3 k0_off1_inb numel1_S1 (pf m) (grid0.coords t) 1 * 512 + 1 * (y 1).val = (y 1).val
    rw [e]
    show 0 * 512 + 1 * (y 1).val = (y 1).val
    omega
  · show cc0_transform_3 k0_off1_inb numel1_S1 (pf m) (grid0.coords t) 2 * 2048 + 1 * (y 2).val = (y 2).val
    rw [e]
    show 0 * 2048 + 1 * (y 2).val = (y 2).val
    omega

/-- The word of the validity table at `n`. -/
theorem valid_atD {o : Fin 1 → ℕ} (n : ℕ) (ho : o = ![n]) (hn : n < 97) : (pf m).atD 1 o = at97 (tvOf m 0) n := by
  subst ho
  unfold Pipeline.Prefetch.Contents.atD
  rw [dif_pos (fun a => by fin_cases a; show n + 1 ≤ 97; omega)]
  refine congrArg (tvOf m 0) ?_
  funext a; apply Fin.ext; fin_cases a
  show n = n % 97
  omega

theorem off17_eq : ∀ i : grid0.Coords, k0_off17 i = ![(i 0).val] := by decide +kernel

include hT in
/-- The result's block is stored at every grid point. -/
theorem stored (t : Fin grid0.N) : idle0 (pf m) 3 (grid0.coords t) = false := by
  show (!(k0_cond4 ((pf m).atD 1 (k0_off11 (grid0.coords t))) == 1#1) && !(k0_cond5 ((pf m).atD 1 (k0_off17 (grid0.coords t))) == 1#1)) = false
  rw [valid_atD m _ (k0_off11_eq _) (grid0.coords t 0).isLt, valid_atD m _ (off17_eq _) (grid0.coords t 0).isLt]
  rcases (hT 0).valid (ix1 ⟨(grid0.coords t 0).val % 97, Nat.mod_lt _ (by omega)⟩) with h | h
  · have h' : at97 (tvOf m 0) (grid0.coords t 0).val = 0#32 := h
    rw [h', (cond5_iff _).2 rfl]; simp
  · have h' : at97 (tvOf m 0) (grid0.coords t 0).val = 1#32 := h
    rw [h', (cond4_iff _).2 rfl]; simp

end Cert.Proof.Moe

end
-- ==== Proof.MoeFrame.lean ====
/- The expert call's run: the pipeline's invariant, its grid step, and the run of the whole call. -/
module

public import proofs.«01_k».proof.Proof.MoeConfig
public import Idealize.ShloMosaic.Lib.Pipeline.FrameBody

@[expose] public section

noncomputable section

namespace Cert.Proof.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's algebra: the pipeline's beside the counters of the copies. -/
local notation "𝕄" => MT nD τ sig Unit (Elt F) ℕ (Pipeline.UD sig nD τ) ℕ

open Idealize.ShloMosaic.Pipeline (Dat Cfg Window BodyObligation cellOf)

variable (m : (ℓ : Loc nD τ sig) → Buf (Elt F) ℓ) (ρ : Dev nD → PrngReg)

/-! ## The invariant -/

/-- The gate weights of the expert numbered `e`, as the scratch holds them; -/
def Wg (c : Dev nD) (e : BitVec 32) : S2048x512.Idx → Elt F .bf16 := k0_pay1 (wblk (V m c main_arg5) e.toNat)
/-- the up weights; -/
def Wu (c : Dev nD) (e : BitVec 32) : S2048x512.Idx → Elt F .bf16 := k0_pay2 (wblk (V m c main_arg6) e.toNat)
/-- the down weights. -/
def Wd (c : Dev nD) (e : BitVec 32) : S512x2048.Idx → Elt F .bf16 := k0_pay3 (dblk (V m c main_arg7) e.toNat)

/-- Tile `t`'s block of the result. -/
def outOf (c : Dev nD) (t : ℕ) : S4096x128.Idx → Elt F .f32 :=
  stepOut (invOf m c) (xOf m c) (tvOf m c) t (Wg m c (at97 (teOf m c) t)) (Wu m c (at97 (teOf m c) t)) (Wd m c (at97 (teOf m c) t))

/-- Before tile `n` the scratch holds the weights of the expert of tile `n - 1`, if that was valid. -/
def held (c : Dev nD) (n : ℕ) : sProp 𝕄 :=
  iprop(∃ (G : S2048x512.Idx → Elt F .bf16) (U : S2048x512.Idx → Elt F .bf16) (D : S512x2048.Idx → Elt F .bf16),
    ⌜(0 < n → at97 (tvOf m c) (n - 1) = 1#32 → G = Wg m c (at97 (teOf m c) (n - 1)))
      ∧ (0 < n → at97 (tvOf m c) (n - 1) = 1#32 → U = Wu m c (at97 (teOf m c) (n - 1)))
      ∧ (0 < n → at97 (tvOf m c) (n - 1) = 1#32 → D = Wd m c (at97 (teOf m c) (n - 1)))⌝
    ∗ owns (c : Thread nD τ) (Memref.whole cc0_scratch0) fullShare G
    ∗ owns (c : Thread nD τ) (Memref.whole cc0_scratch1) fullShare U
    ∗ owns (c : Thread nD τ) (Memref.whole cc0_scratch2) fullShare D)

/-- The four tables' half shares. -/
def tabs (c : Dev nD) : sProp 𝕄 :=
  iprop((((c : Thread nD τ).loc main_arg0) ↦{fullShare.right} teOf m c) ∗ validTable (F := F) c (tvOf m c)
    ∗ firstTable (F := F) c (tfOf m c) ∗ table (F := F) c (invOf m c))

/-- The invariant before tile `n`: its copies are in flight if it is a valid tile after the first, the other half is free. -/
def PhiS (c : Dev nD) (n : ℕ) : sProp 𝕄 :=
  iprop(Half c (invOf m c) (xOf m c) (0 < n ∧ n < 97 ∧ at97 (tvOf m c) n = 1#32) (n % 2) n
    ∗ Idle c (xOf m c) ((n + 1) % 2) ∗ held m c n ∗ spare c (xOf m c) ∗ tabs m c ∗ ∃ r, prngReg c r)

/-- A valid tile computes with its own expert's weights. -/
theorem weights_own {te tv tf : S97.Idx → BitVec 32} {inv : S24832.Idx → BitVec 32} (hT : Tables te tv tf inv) {α : Type} (W : BitVec 32 → α)
    (G : α) (n : ℕ) (hn : n < 97) (hG : 0 < n → at97 tv (n - 1) = 1#32 → G = W (at97 te (n - 1))) (hv : at97 tv n = 1#32) :
    (if at97 tf n = 1#32 then W (at97 te n) else G) = W (at97 te n) := by
  have h01 : ¬ (1#32 = 0#32) := by decide
  by_cases hf : at97 tf n = 1#32
  · rw [if_pos hf]
  · rw [if_neg hf]
    cases n with
    | zero =>
      rcases hT.start with h | h
      · exact absurd (hv.symm.trans h) h01
      · exact absurd h hf
    | succ k =>
      rcases hT.chain k hn with h | h | h
      · exact absurd (hv.symm.trans h) h01
      · exact absurd h hf
      · rw [hG (Nat.succ_pos k) h.2]
        exact congrArg W h.1.symm

theorem stepOut_congr (inv : S24832.Idx → BitVec 32) (X : S133120x128.Idx → Elt F .f32) (tv : S97.Idx → BitVec 32) (t : ℕ)
    {G G' U U' : S2048x512.Idx → Elt F .bf16} {D D' : S512x2048.Idx → Elt F .bf16}
    (hG : at97 tv t = 1#32 → G = G') (hU : at97 tv t = 1#32 → U = U') (hD : at97 tv t = 1#32 → D = D') :
    stepOut inv X tv t G U D = stepOut inv X tv t G' U' D' := by
  unfold stepOut
  by_cases h : at97 tv t = 1#32
  · rw [if_pos h, if_pos h, hG h, hU h, hD h]
  · rw [if_neg h, if_neg h]

theorem half_congr (c : Dev nD) (inv : S24832.Idx → BitVec 32) (X : S133120x128.Idx → Elt F .f32) {P Q : Prop} [Decidable P] [Decidable Q]
    (h : P ↔ Q) (p t : ℕ) : (Half c inv X P p t : sProp 𝕄) = Half c inv X Q p t := by
  unfold Half
  exact if_congr h rfl rfl

/-! ## A grid step -/

section Step

variable (c : Dev nD) (i : grid0.Coords) (hT : Tables (teOf m c) (tvOf m c) (tfOf m c) (invOf m c))
variable (a1 : Memref sig .tc .smem S97 .i32) (h1 : a1.IsWhole)
  (a6 : Memref sig .tc .vmem S1x2048x512 .f32) (h6 : a6.IsWhole) (a7 : Memref sig .tc .vmem S1x2048x512 .f32) (h7 : a7.IsWhole)
  (a8 : Memref sig .tc .vmem S1x512x2048 .f32) (h8 : a8.IsWhole) (a9 : Memref sig .tc .vmem S4096x128 .f32) (h9 : a9.IsWhole)

include hT in
/-- A grid step from the invariant to the next: the weight blocks stay, the result's block becomes the tile's. -/
theorem step_inv (h2 : vM.IsWhole) (h3 : fM.IsWhole) (h4 : iM.IsWhole) (h5 : xM.IsWhole) (h10 : (Memref.whole cc0_scratch0).IsWhole)
    (h11 : (Memref.whole cc0_scratch1).IsWhole) (h12 : (Memref.whole cc0_scratch2).IsWhole) (h13 : bM.IsWhole)
    (d : S4096x128.Idx → Elt F .f32) :
    iprop(PhiS m c (i 0).val ∗ (∃ W, owes (c : Thread nD τ) 0 W)
        ∗ owns (c : Thread nD τ) a6 fullShare (wblk (V m c main_arg5) (ex m c (i 0).val))
        ∗ owns (c : Thread nD τ) a7 fullShare (wblk (V m c main_arg6) (ex m c (i 0).val))
        ∗ owns (c : Thread nD τ) a8 fullShare (dblk (V m c main_arg7) (ex m c (i 0).val))
        ∗ owns (c : Thread nD τ) a9 fullShare d)
      ⊢ wp frame (wpE (defs₀ (F := F)) Variants.none (c : Thread nD τ) none) Set.univ
          (cc0_expert_mlp (F := F) i a1 h1 vM h2 fM h3 iM h4 xM h5 a6 h6 a7 h7 a8 h8 a9 h9 (Memref.whole cc0_scratch0) h10 (Memref.whole cc0_scratch1) h11 (Memref.whole cc0_scratch2) h12 bM h13 cc0_scratch4)
          (fun _ => iprop(PhiS m c ((i 0).val + 1) ∗ (∃ W, owes (c : Thread nD τ) 0 W)
        ∗ owns (c : Thread nD τ) a6 fullShare (wblk (V m c main_arg5) (ex m c (i 0).val))
        ∗ owns (c : Thread nD τ) a7 fullShare (wblk (V m c main_arg6) (ex m c (i 0).val))
        ∗ owns (c : Thread nD τ) a8 fullShare (dblk (V m c main_arg7) (ex m c (i 0).val))
        ∗ owns (c : Thread nD τ) a9 fullShare (outOf m c (i 0).val))) := by
  have hi : (i 0).val < 97 := (i 0).isLt
  have eh := half_congr (F := F) c (invOf m c) (xOf m c) (P := 0 < (i 0).val ∧ (i 0).val < 97 ∧ at97 (tvOf m c) (i 0).val = 1#32)
    (Q := 0 < (i 0).val ∧ at97 (tvOf m c) (i 0).val = 1#32) ⟨fun h => ⟨h.1, h.2.2⟩, fun h => ⟨h.1, hi, h.2⟩⟩ ((i 0).val % 2) (i 0).val
  have eh' := half_congr (F := F) c (invOf m c) (xOf m c) (P := (i 0).val + 1 < 97 ∧ at97 (tvOf m c) ((i 0).val + 1) = 1#32)
    (Q := 0 < (i 0).val + 1 ∧ (i 0).val + 1 < 97 ∧ at97 (tvOf m c) ((i 0).val + 1) = 1#32) ⟨fun h => ⟨Nat.succ_pos _, h⟩, fun h => h.2⟩
    (((i 0).val + 1) % 2) ((i 0).val + 1)
  have ei : (Idle c (xOf m c) ((i 0).val % 2) : sProp 𝕄) = Idle c (xOf m c) (((i 0).val + 1 + 1) % 2) := by
    rw [show ((i 0).val + 1 + 1) % 2 = (i 0).val % 2 by omega]
  unfold PhiS held tabs
  rw [eh]
  iintro ⟨⟨HH, HI, ⟨%G, %U, %D, %hw, H10, H11, H12⟩, Hs, ⟨Ht0, Hv, Hf, Ht⟩, Hr⟩, HO, H6, H7, H8, H9⟩
  obtain ⟨hG, hU, hD⟩ := hw
  have kG := weights_own hT (Wg m c) G (i 0).val hi hG
  have kU := weights_own hT (Wu m c) U (i 0).val hi hU
  have kD := weights_own hT (Wd m c) D (i 0).val hi hD
  have e9 : (owns (c : Thread nD τ) a9 fullShare (stepOut (invOf m c) (xOf m c) (tvOf m c) (i 0).val
        (if at97 (tfOf m c) (i 0).val = 1#32 then k0_pay1 (wblk (V m c main_arg5) (ex m c (i 0).val)) else G)
        (if at97 (tfOf m c) (i 0).val = 1#32 then k0_pay2 (wblk (V m c main_arg6) (ex m c (i 0).val)) else U)
        (if at97 (tfOf m c) (i 0).val = 1#32 then k0_pay3 (dblk (V m c main_arg7) (ex m c (i 0).val)) else D)) : sProp 𝕄)
      = owns (c : Thread nD τ) a9 fullShare (outOf m c (i 0).val) :=
    congrArg _ (stepOut_congr (invOf m c) (xOf m c) (tvOf m c) (i 0).val kG kU kD)
  iapply (step_spec c (invOf m c) (xOf m c) (tvOf m c) (tfOf m c) hT.slot i a1 h1 a6 h6 a7 h7 a8 h8 a9 h9 _ h10 _ h11 _ h12 h4 h5 h13 h2 h3
    (hT.valid _) _ _ _ d G U D) $$ [HH HI H10 H11 H12 Hv Hf Ht HO H6 H7 H8 H9]
  · isplitl [Hv]; · iexact Hv
    isplitl [Hf]; · iexact Hf
    isplitl [Ht]; · iexact Ht
    isplitl [HH]; · iexact HH
    isplitl [HI]; · iexact HI
    isplitl [H6]; · iexact H6
    isplitl [H7]; · iexact H7
    isplitl [H8]; · iexact H8
    isplitl [H9]; · iexact H9
    isplitl [H10]; · iexact H10
    isplitl [H11]; · iexact H11
    isplitl [H12]; · iexact H12
    iexact HO
  iintro ⟨Hv, Hf, Ht, HI, HH, H6, H7, H8, H9, H10, H11, H12, HO⟩
  ihave HI := (Entails.of_eq ei) $$ HI
  ihave HH := (Entails.of_eq eh') $$ HH
  isplitl [HH HI H10 H11 H12 Hs Ht0 Hv Hf Ht Hr]
  · isplitl [HH]; · iexact HH
    isplitl [HI]; · iexact HI
    isplitl [H10 H11 H12]
    · iexists _; iexists _; iexists _
      isplitr
      swap
      · isplitl [H10]; · iexact H10
        isplitl [H11]; · iexact H11
        iexact H12
      ipureintro
      exact ⟨fun _ h => kG h, fun _ h => kU h, fun _ h => kD h⟩
    isplitl [Hs]; · iexact Hs
    isplitr [Hr]
    · isplitl [Ht0]; · iexact Ht0
      isplitl [Hv]; · iexact Hv
      isplitl [Hf]; · iexact Hf
      iexact Ht
    iexact Hr
  isplitl [HO]; · iexact HO
  isplitl [H6]; · iexact H6
  isplitl [H7]; · iexact H7
  isplitl [H8]; · iexact H8
  ihave H9 := (Entails.of_eq e9) $$ H9
  iexact H9

end Step

/-! ## The proof data -/

variable (hT : Ok m)

/-- The pipeline's proof data on device `c`: the arrays as the call finds them, each weight window's block left in place, the result's
    block the tile's. -/
def dats (_ : Fin 1) (c : Dev nD) : Dat τ (Elt F) Unit ℕ (Pipeline.UD sig nD τ) ℕ (cfgm m hT) c where
  A w := V m c (Pipeline.arrRef spec0 w)
  after w t := match w with
    | ⟨0, _⟩ => wblk (V m c main_arg5) (ex m c t.val)
    | ⟨1, _⟩ => wblk (V m c main_arg6) (ex m c t.val)
    | ⟨2, _⟩ => dblk (V m c main_arg7) (ex m c t.val)
    | ⟨3, _⟩ => outOf m c t.val
  Φ t := PhiS m c t.val
  q _ := fullShare
  owed _ := 0

theorem A_eq (c : Dev nD) (w : Fin (cfgm m hT).W) : (dats m hT 0 c).A w = V m c (Pipeline.arrRef spec0 w) := by dsimp only [dats]
theorem after_0 (c : Dev nD) (t : Fin (cfgm m hT).N) : (dats m hT 0 c).after 0 t = wblk (V m c main_arg5) (ex m c t.val) := rfl
theorem after_1 (c : Dev nD) (t : Fin (cfgm m hT).N) : (dats m hT 0 c).after 1 t = wblk (V m c main_arg6) (ex m c t.val) := rfl
theorem after_2 (c : Dev nD) (t : Fin (cfgm m hT).N) : (dats m hT 0 c).after 2 t = dblk (V m c main_arg7) (ex m c t.val) := rfl
theorem after_3 (c : Dev nD) (t : Fin (cfgm m hT).N) : (dats m hT 0 c).after 3 t = outOf m c t.val := rfl

theorem blockOf_0 (c : Dev nD) (t : Fin (cfgm m hT).N) : (dats m hT 0 c).blockOf 0 t = wblk (V m c main_arg5) (ex m c t.val) := by
  obtain rfl := dev_zero c
  exact read0 m hT t (V m 0 main_arg5)
theorem blockOf_1 (c : Dev nD) (t : Fin (cfgm m hT).N) : (dats m hT 0 c).blockOf 1 t = wblk (V m c main_arg6) (ex m c t.val) := by
  obtain rfl := dev_zero c
  exact read1 m hT t (V m 0 main_arg6)
theorem blockOf_2 (c : Dev nD) (t : Fin (cfgm m hT).N) : (dats m hT 0 c).blockOf 2 t = dblk (V m c main_arg7) (ex m c t.val) := by
  obtain rfl := dev_zero c
  exact read2 m hT t (V m 0 main_arg7)

theorem before_0 (c : Dev nD) (t : Fin (cfgm m hT).N) (d) : (dats m hT 0 c).before 0 t d = wblk (V m c main_arg5) (ex m c t.val) :=
  ((dats m hT 0 c).before_in_eq_fetched 0 rfl (fun _ => rfl) (fun _ _ _ => rfl) (fun t => (blockOf_0 m hT c t).symm) t d).trans (blockOf_0 m hT c t)
theorem before_1 (c : Dev nD) (t : Fin (cfgm m hT).N) (d) : (dats m hT 0 c).before 1 t d = wblk (V m c main_arg6) (ex m c t.val) :=
  ((dats m hT 0 c).before_in_eq_fetched 1 rfl (fun _ => rfl) (fun _ _ _ => rfl) (fun t => (blockOf_1 m hT c t).symm) t d).trans (blockOf_1 m hT c t)
theorem before_2 (c : Dev nD) (t : Fin (cfgm m hT).N) (d) : (dats m hT 0 c).before 2 t d = dblk (V m c main_arg7) (ex m c t.val) :=
  ((dats m hT 0 c).before_in_eq_fetched 2 rfl (fun _ => rfl) (fun _ _ _ => rfl) (fun t => (blockOf_2 m hT c t).symm) t d).trans (blockOf_2 m hT c t)

/-! ## The body obligation -/

/-- The body at point `t`. -/
abbrev bodyAt (t : Fin (cfgm m hT).N) : Prog (TpuEff nD τ sig (Elt F) Λ₀ .tc) PUnit :=
  cc0_expert_mlp (F := F) (grid0.coords t) (Memref.whole main_arg0) (Memref.isWhole_whole _) vM (Memref.isWhole_whole _) fM (Memref.isWhole_whole _)
    iM (Memref.isWhole_whole _) xM (Memref.isWhole_whole _)
    (spec0_0.stage ((cfgm m hT).slots t 0)) (hstage0_0 (((cfgm m hT).slots t 0).cast nbuf0_0))
    (spec0_1.stage ((cfgm m hT).slots t 1)) (hstage0_1 (((cfgm m hT).slots t 1).cast nbuf0_1))
    (spec0_2.stage ((cfgm m hT).slots t 2)) (hstage0_2 (((cfgm m hT).slots t 2).cast nbuf0_2))
    (spec0_3.stage ((cfgm m hT).slots t 3)) (hstage0_3 (((cfgm m hT).slots t 3).cast nbuf0_3))
    (Memref.whole cc0_scratch0) (Memref.isWhole_whole _) (Memref.whole cc0_scratch1) (Memref.isWhole_whole _) (Memref.whole cc0_scratch2) (Memref.isWhole_whole _)
    bM (Memref.isWhole_whole _) cc0_scratch4

theorem defs₀_row (t : Fin (cfgm m hT).N) :
    defs₀ (F := F) .tc (cfgm m hT).body ((cfgm m hT).bodyArgs t ((cfgm m hT).slots t)) = bodyAt m hT t := by
  unfold defs₀; rw [Defs.onTc_tc]

def bodyPre (c : Dev nD) (t : Fin (cfgm m hT).N) : sProp 𝕄 :=
  iprop((dats m hT 0 c).Φ t.castSucc ∗ (dats m hT 0 c).owesAt () t.castSucc
    ∗ (∃ d, owns (c : Thread nD τ) (spec0_0.stage ((cfgm m hT).slots t 0)) fullShare ((dats m hT 0 c).before 0 t d))
    ∗ (∃ d, owns (c : Thread nD τ) (spec0_1.stage ((cfgm m hT).slots t 1)) fullShare ((dats m hT 0 c).before 1 t d))
    ∗ (∃ d, owns (c : Thread nD τ) (spec0_2.stage ((cfgm m hT).slots t 2)) fullShare ((dats m hT 0 c).before 2 t d))
    ∗ (∃ d, owns (c : Thread nD τ) (spec0_3.stage ((cfgm m hT).slots t 3)) fullShare ((dats m hT 0 c).before 3 t d)))
def bodyPost (c : Dev nD) (t : Fin (cfgm m hT).N) : sProp 𝕄 :=
  iprop((dats m hT 0 c).Φ t.succ ∗ (dats m hT 0 c).owesAt () t.succ
    ∗ owns (c : Thread nD τ) (spec0_0.stage ((cfgm m hT).slots t 0)) fullShare ((dats m hT 0 c).after 0 t)
    ∗ owns (c : Thread nD τ) (spec0_1.stage ((cfgm m hT).slots t 1)) fullShare ((dats m hT 0 c).after 1 t)
    ∗ owns (c : Thread nD τ) (spec0_2.stage ((cfgm m hT).slots t 2)) fullShare ((dats m hT 0 c).after 2 t)
    ∗ owns (c : Thread nD τ) (spec0_3.stage ((cfgm m hT).slots t 3)) fullShare ((dats m hT 0 c).after 3 t))

theorem sound_body (c : Dev nD) (t : Fin (cfgm m hT).N) :
    bodyPre m hT c t ⊢ wp frame (wpE (defs₀ (F := F)) Variants.none c none) Set.univ (bodyAt m hT t) (fun _ => bodyPost m hT c t) := by
  unfold bodyPre bodyPost
  rw [after_0, after_1, after_2, after_3]
  rw [show (dats m hT 0 c).Φ t.castSucc = PhiS m c t.val from rfl, show (dats m hT 0 c).Φ t.succ = PhiS m c (t.val + 1) from rfl]
  unfold Dat.owesAt Pipeline.owesWithin
  rw [show (dats m hT 0 c).owed t.castSucc = 0 from rfl, show (dats m hT 0 c).owed t.succ = 0 from rfl]
  iintro ⟨HΦ, ⟨%W, -, HW⟩, ⟨%d0, H0⟩, ⟨%d1, H1⟩, ⟨%d2, H2⟩, ⟨%d3, H3⟩⟩
  rw [before_0, before_1, before_2]
  have hs := step_inv m c (grid0.coords t) (hT c) (Memref.whole main_arg0) (Memref.isWhole_whole _)
    (spec0_0.stage ((cfgm m hT).slots t 0)) (hstage0_0 (((cfgm m hT).slots t 0).cast nbuf0_0))
    (spec0_1.stage ((cfgm m hT).slots t 1)) (hstage0_1 (((cfgm m hT).slots t 1).cast nbuf0_1))
    (spec0_2.stage ((cfgm m hT).slots t 2)) (hstage0_2 (((cfgm m hT).slots t 2).cast nbuf0_2))
    (spec0_3.stage ((cfgm m hT).slots t 3)) (hstage0_3 (((cfgm m hT).slots t 3).cast nbuf0_3))
    (Memref.isWhole_whole _) (Memref.isWhole_whole _) (Memref.isWhole_whole _) (Memref.isWhole_whole _) (Memref.isWhole_whole _)
    (Memref.isWhole_whole _) (Memref.isWhole_whole _) (Memref.isWhole_whole _) ((dats m hT 0 c).before 3 t d3)
  rw [coords_val] at hs
  iapply wp_mono _ _ _ ?_
  swap
  · iapply hs
    isplitl [HΦ]; · iexact HΦ
    isplitl [HW]; · iexists W; iexact HW
    isplitl [H0]; · iexact H0
    isplitl [H1]; · iexact H1
    isplitl [H2]; · iexact H2
    iexact H3
  intro _
  iintro ⟨HΦ, ⟨%W', HW'⟩, H0, H1, H2, H3⟩
  isplitl [HΦ]; · iexact HΦ
  isplitl [HW']
  · iexists W'; isplitr; · ipureintro; exact fun _ _ => Or.inl trivial
    iexact HW'
  isplitl [H0]; · iexact H0
  isplitl [H1]; · iexact H1
  isplitl [H2]; · iexact H2
  iexact H3

theorem body_obligation (c : Dev nD) : BodyObligation (dats m hT 0 c) (defs₀ (F := F)) Variants.none () Set.univ := fun t => by
  rw [bigSep_W0, bigSep_W0, defs₀_row]
  refine triple_restated (sound_body m hT c t) rfl .rfl fun _ => ?_
  refine sep_mono .rfl (sep_mono .rfl (sep_mono .rfl (sep_mono .rfl (sep_mono .rfl (Entails.of_eq ?_)))))
  have h : idle0 (adm m hT 0).1 3 ((pcfg0.gridAt (adm m hT 0).1).coords t) = false := stored m hT t
  dsimp only
  rw [h]

/-! ## The run -/

/-- The two halves' copy semaphores. -/
abbrev osem0 : Fin 2 → SemLoc sig := fun j => (![SemLoc.dma 8, SemLoc.dma 9] : Fin 2 → SemLoc sig) j
theorem ownSemFacts0 : Pipeline.OwnSemFacts spec0 osem0 := by decide
/-- The one array the body's copies read. -/
def H0 : Finset (Ref sig .tc) := {main_arg4}
theorem H0_sub : H0 ⊆ Pipeline.restRefsP sig pre0 spec0 := by decide

theorem ownSems_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 8) 0 ∗ semVal ((c : Thread nD τ), SemLoc.dma 9) 0) := by
  rw [Pipeline.ownSems0_eq_of_list c osem0 [0, 1] (by decide) (by decide)]; rfl

theorem read_eq (c : Dev nD) :
    (bigSep H0 (fun b => ((c : Thread nD τ).loc b) ↦{fullShare} V m c b) : sProp 𝕄)
      = iprop(((c : Thread nD τ).loc main_arg4) ↦{fullShare} xOf m c) := by
  rw [BI.bigSep_eq_bigSepL_of_eq [main_arg4] (by decide) (by decide)]; rfl

/-- The invariant's tables are the launch's. -/
theorem tabs_eq (c : Dev nD) : (Pipeline.ΦT pre0 (pf m) c : sProp 𝕄) = tabs m c := by
  obtain rfl := dev_zero c
  unfold Pipeline.ΦT Pipeline.prefHeld
  exact bigSep_W0 _

theorem hin (c : Dev nD) : iprop(Pipeline.ΦD osem0 spec0 H0 (V m) c ∗ Pipeline.ΦT pre0 (pf m) c) ⊢ (PhiS m c 0 : sProp 𝕄) := by
  rw [tabs_eq, Pipeline.ΦD_eq, scopedRest0_eq, ownSems_eq, read_eq]
  have eh := half_congr (F := F) c (invOf m c) (xOf m c) (P := False) (Q := 0 < 0 ∧ 0 < 97 ∧ at97 (tvOf m c) 0 = 1#32)
    ⟨fun h => h.elim, fun h => absurd h.1 (Nat.lt_irrefl 0)⟩ (0 % 2) 0
  unfold PhiS
  rw [← eh]
  unfold held Half
  rw [if_neg id]
  iintro ⟨⟨⟨⟨%f0, S0⟩, ⟨%f1, S1⟩, ⟨%f2, S2⟩, ⟨%f3, S3⟩⟩, Hr, ⟨Q0, Q1⟩, HX⟩, HT⟩
  ihave HS := (rest_split c (xOf m c) f3) $$ [S3 HX Q0 Q1]
  · isplitl [S3]; · iexact S3
    isplitl [HX]; · iexact HX
    isplitl [Q0]; · iexact Q0
    iexact Q1
  icases HS with ⟨I0, I1, Hs⟩
  isplitl [I0]; · iexact I0
  isplitl [I1]; · iexact I1
  isplitl [S0 S1 S2]
  · iexists f0; iexists f1; iexists f2
    isplitr
    · ipureintro
      exact ⟨fun h => absurd h (Nat.lt_irrefl 0), fun h => absurd h (Nat.lt_irrefl 0), fun h => absurd h (Nat.lt_irrefl 0)⟩
    rw [owns_whole, owns_whole, owns_whole]
    isplitl [S0]; · iexact S0
    isplitl [S1]; · iexact S1
    iexact S2
  isplitl [Hs]; · iexact Hs
  isplitl [HT]; · iexact HT
  iexact Hr

theorem hout (c : Dev nD) : (PhiS m c 97 : sProp 𝕄) ⊢ Pipeline.ΦD osem0 spec0 H0 (V m) c := by
  rw [Pipeline.ΦD_eq, scopedRest0_eq, ownSems_eq, read_eq]
  have eh := half_congr (F := F) c (invOf m c) (xOf m c) (P := False) (Q := 0 < 97 ∧ 97 < 97 ∧ at97 (tvOf m c) 97 = 1#32)
    ⟨fun h => h.elim, fun h => absurd h.2.1 (Nat.lt_irrefl 97)⟩ (97 % 2) 97
  unfold PhiS
  rw [← eh]
  unfold held Half
  rw [if_neg id]
  simp only [owns_whole]
  iintro ⟨I1, I0, ⟨%G, %U, %D, -, S0, S1, S2⟩, Hs, -, Hr⟩
  ihave HS := (rest_join c (xOf m c)) $$ [I0 I1 Hs]
  · isplitl [I0]; · iexact I0
    isplitl [I1]; · iexact I1
    iexact Hs
  icases HS with ⟨S3, HX, Q0, Q1⟩
  isplitl [S0 S1 S2 S3]
  · isplitl [S0]; · iexists G; iexact S0
    isplitl [S1]; · iexists U; iexact S1
    isplitl [S2]; · iexists D; iexact S2
    iexact S3
  isplitl [Hr]; · iexact Hr
  isplitl [Q0 Q1]
  · isplitl [Q0]; · iexact Q0
    iexact Q1
  iexact HX

theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_region pcfgs 0 defs₀ 𝒱₀ m main fun c => (main_chain c).trans rfl

theorem tables_held (c : Dev nD) (k : Fin pre0.K) : V m c (pre0.ref k) = pf m k := by
  obtain rfl := dev_zero c
  rfl

set_option backward.isDefEq.respectTransparency.types false in
/-- The whole call's run: every window's array is what the proof data say, all else is unchanged, and no semaphore is held. -/
theorem run_main : θ_run defs (onTc (τ := τ) (main (F := F))) (s₀ m ρ)
    (fun r => Pipeline.FramePost (Pipeline.pin (pcfgs (F := F)) (adm m hT)) (dats m hT) 0 (V m) r ∧ r.2.sem = fun _ => 0) :=
  Pipeline.θ_run_frameP_dma (Q' := _) pcfgs (adm m hT) (dats m hT) (0 : Fin 1) launch0 osem0 defs₀ Variants.none ownSemFacts0 H0 H0_sub m ρ main
    (hbody := fun c => (body_obligation m hT c).loose) (hshare := fun c => (dats m hT 0 c).share_full fun _ => rfl)
    (howed := fun _ _ => rfl) (V := V m) (hmain := hmain m Variants.none) (hA := A_eq m hT)
    (hpf := fun c k => tables_held m c k) (hin := fun c => hin m c) (hout := fun c => hout m c)

theorem unstaged (b : Ref sig .tc) (h : b ∈ Pipeline.restRefs sig spec0) : b ∈ Pipeline.restRefs sig (Pipeline.pin (pcfgs (F := F)) (adm m hT) 0).spec := h

/-- The call's frame, with its result: the arguments are as before, no semaphore is held, and the result is what the proof data say. -/
theorem run_result : θ_run defs (onTc (τ := τ) (main (F := F))) ⟨m, fun _ => 0, ρ⟩ (fun r => (∀ c : Dev nD,
      r.2.mem ((c.tc : Thread nD τ).loc main_v0) = (dats m hT 0 c).arrAt 3 (cfgm m hT).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨(h.1 c).1 3,
      (h.1 c).2 main_arg0 (unstaged m hT main_arg0 (by decide)),
      (h.1 c).2 main_arg1 (unstaged m hT main_arg1 (by decide)),
      (h.1 c).2 main_arg2 (unstaged m hT main_arg2 (by decide)),
      (h.1 c).2 main_arg3 (unstaged m hT main_arg3 (by decide)),
      (h.1 c).2 main_arg4 (unstaged m hT main_arg4 (by decide)),
      ((h.1 c).1 0).trans ((dats m hT 0 c).arrAt_in 0 rfl _),
      ((h.1 c).1 1).trans ((dats m hT 0 c).arrAt_in 1 rfl _),
      ((h.1 c).1 2).trans ((dats m hT 0 c).arrAt_in 2 rfl _)⟩, h.2⟩) (run_main m ρ hT)

end Cert.Proof.Moe

end
-- ==== Proof.MoeBits.lean ====
/- The expert call's program at the bit instance is its program at the ideal instance's text, read over the bits: one run serves both frames. -/
module
public import proofs.«01_k».proof.Defs
public import proofs.«01_k».proof.Proof.MoeFrame
public import proofs.«01_k».proof.Proof.Gen.Kernel
@[expose] public section
noncomputable section
namespace Cert.Proof
open Idealize.ShloMosaic Idealize.ShloMosaic.TcCoe Idealize.SL.Sem

/-- The programs agree part by part: the two gather halves, -/
theorem bits_part2 : @Cert.Kernel.k0_part2 Bits _ _ = @Cert.KernelIdeal.k0_part2 Bits _ _ := rfl
/-- the product part, -/
theorem bits_part3 : @Cert.Kernel.k0_part3 Bits _ _ = @Cert.KernelIdeal.k0_part3 Bits _ _ := rfl
/-- the first gather half, -/
theorem bits_part1 : @Cert.Kernel.k0_part1 Bits _ _ = @Cert.KernelIdeal.k0_part1 Bits _ _ := rfl
/-- the whole body, -/
theorem bits_body : @Cert.Kernel.cc0_expert_mlp Bits _ _ = @Cert.KernelIdeal.cc0_expert_mlp Bits _ _ := by
  unfold Cert.Kernel.cc0_expert_mlp Cert.KernelIdeal.cc0_expert_mlp
  rw [bits_part1, bits_part2, bits_part3]
  rfl
/-- the host program, -/
theorem bits_main : @Cert.Kernel.main Bits _ _ = @Cert.KernelIdeal.main Bits _ _ := rfl
/-- the body table, -/
theorem bits_table : @Cert.Kernel.defs₀ Bits _ _ = @Cert.KernelIdeal.defs₀ Bits _ _ := by
  unfold Cert.Kernel.defs₀ Cert.KernelIdeal.defs₀
  rw [bits_body]
  refine congrArg Defs.onTc (funext fun x => funext fun y => ?_)
  match x, y with
  | ⟨0, _⟩, (t, s) => rfl
  | ⟨n + 1, h⟩, _ => exact absurd h (Nat.not_lt.2 (Nat.le_add_left _ _))
/-- and the whole table with the pipeline. -/
theorem bits_defs : @Cert.Kernel.defs Bits _ _ = @Cert.KernelIdeal.defs Bits _ _ := by
  unfold Cert.Kernel.defs Cert.KernelIdeal.defs
  rw [bits_table]
  rfl
/-- The two runs are one. -/
theorem bits_run (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩
      = θ_run (Cert.KernelIdeal.defs (F := Bits)) (onTc (τ := Cert.Kernel.τ) (Cert.KernelIdeal.main (F := Bits))) ⟨m, fun _ => 0, g⟩ := by
  rw [bits_defs, bits_main]
  rfl
end Cert.Proof
end
-- ==== Proof.MoeMath.lean ====
/-
  The mathematics of an expert: a token's row against the gate and up weights, the gated products against the down weights.
-/
module

public import proofs.«01_k».proof.Defs
public import Idealize.ShloMosaic.Lib.Pointwise

@[expose] public section

noncomputable section

namespace Cert.Proof.Moe

open Cert.KernelIdeal
open Idealize.ShloMosaic

/-- Feature `d` of token `v`, of the tokens laid out sixteen rows of 128 a token. -/
def feature (X : S133120x128.Idx → EReal) (v : ℕ) (d : Fin 2048) : EReal :=
  X (ix2 ⟨(16 * v + d.val / 128) % 133120, Nat.mod_lt _ (by omega)⟩ ⟨d.val % 128, Nat.mod_lt _ (by omega)⟩)

/-- The sigmoid of the extended reals. -/
def sigm (g : EReal) : EReal := Ideal.div 1 (1 + Ideal.exp (-g))

/-- Hidden unit `f`: the gate's product through the gated unit, times the up product. -/
def hidden (x : Fin 2048 → EReal) (G U : Fin 2048 → Fin 512 → EReal) (f : Fin 512) : EReal :=
  ((∑ d : Fin 2048, x d * G d f) * sigm (∑ d : Fin 2048, x d * G d f)) * (∑ d : Fin 2048, x d * U d f)

/-- Output `o` of the expert with weights `G`, `U`, `D` on a row `x`. -/
def mlpRow (x : Fin 2048 → EReal) (G U : Fin 2048 → Fin 512 → EReal) (D : Fin 512 → Fin 2048 → EReal) (o : Fin 2048) : EReal :=
  ∑ f : Fin 512, hidden x G U f * D f o

/-- The expert `e`'s output `o` for token `v`. -/
def expertOut (X : S133120x128.Idx → EReal) (wg wu : S32x2048x512.Idx → EReal) (wd : S32x512x2048.Idx → EReal) (e : Fin 32) (v : ℕ) (o : Fin 2048) : EReal :=
  mlpRow (feature X v) (fun d f => wg (ix3 e d f)) (fun d f => wu (ix3 e d f)) (fun f o => wd (ix3 e f o)) o

/-- Entry `(p, j)` of the result: row `p` holds sixteenth `p % 16` of slot `p / 16`, whose tile is `p / 16 / 256`; the slot's token goes through
    the tile's expert if the tile is valid, and the slot is zero if not. -/
def slotOut (te tv : S97.Idx → BitVec 32) (inv : S24832.Idx → BitVec 32) (X : S133120x128.Idx → EReal) (wg wu : S32x2048x512.Idx → EReal)
    (wd : S32x512x2048.Idx → EReal) (p : Fin 397312) (j : Fin 128) : EReal :=
  if tv (ix1 ⟨p.val / 16 / 256, by omega⟩) = 1#32 then
    expertOut X wg wu wd ⟨(te (ix1 ⟨p.val / 16 / 256, by omega⟩)).toNat % 32, Nat.mod_lt _ (by omega)⟩
      (inv (ix1 ⟨p.val / 16, by omega⟩)).toNat ⟨p.val % 16 * 128 + j.val, by omega⟩
  else 0

end Cert.Proof.Moe

end
-- ==== Proof.MoeValue.lean ====
/-
  What the kernel computes, read index by index: a tile's sixteen groups of rows side by side are its tokens' rows, its product is
  its expert's output for each of them, and the blocks of all tiles make up the result.
-/
module

public import proofs.«01_k».proof.Defs
public import proofs.«01_k».proof.Proof.MoeFrame
public import proofs.«01_k».proof.Proof.MoeMath
public import Idealize.ShloMosaic.Lib.Pipeline.Value
public import Idealize.ShloMosaic.Lib.Pointwise

@[expose] public section

set_option maxRecDepth 16384

noncomputable section

namespace Cert.Proof.Moe

open Cert.KernelIdeal Cert.KernelIdeal.Gen
open Idealize.ShloMosaic Idealize.ShloMosaic.TcCoe

/-- Sixteen groups of 128 columns side by side. -/
def side (P : Fin 16 → FVec Ideal S256x128 .bf16) : FVec Ideal S256x2048 .bf16 :=
  concatenate S256x2048 1 [⟨S256x128, P 0⟩, ⟨S256x128, P 1⟩, ⟨S256x128, P 2⟩, ⟨S256x128, P 3⟩, ⟨S256x128, P 4⟩, ⟨S256x128, P 5⟩, ⟨S256x128, P 6⟩, ⟨S256x128, P 7⟩, ⟨S256x128, P 8⟩, ⟨S256x128, P 9⟩, ⟨S256x128, P 10⟩, ⟨S256x128, P 11⟩, ⟨S256x128, P 12⟩, ⟨S256x128, P 13⟩, ⟨S256x128, P 14⟩, ⟨S256x128, P 15⟩] concatenates_S256x128_S256x128_S256x128_S256x128_S256x128_S256x128_S256x128_S256x128_S256x128_S256x128_S256x128_S256x128_S256x128_S256x128_S256x128_S256x128_S256x2048_d1

theorem side_apply (P : Fin 16 → FVec Ideal S256x128 .bf16) (r : Fin 256) (d : Fin 2048) :
    side P (ix2 r d) = P ⟨d.val / 128, by omega⟩ (ix2 r ⟨d.val % 128, Nat.mod_lt _ (by omega)⟩) :=
  concatenate_ofFn_apply (1 : Fin S256x2048.rank) P concatenates_S256x128_S256x128_S256x128_S256x128_S256x128_S256x128_S256x128_S256x128_S256x128_S256x128_S256x128_S256x128_S256x128_S256x128_S256x128_S256x128_S256x2048_d1 rfl 128 rfl (ix2 r d)
    ⟨d.val / 128, by omega⟩ rfl (ix2 r ⟨d.val % 128, Nat.mod_lt _ (by omega)⟩) rfl fun b hb => by
      match b with
      | ⟨0, _⟩ => rfl
      | ⟨1, _⟩ => exact absurd rfl hb

/-- The three products on a row of features. -/
def dense (x : FVec Ideal S256x2048 .bf16) (G U : FVec Ideal S2048x512 .bf16) (D : FVec Ideal S512x2048 .bf16) : FVec Ideal S256x2048 .f32 :=
  matmul dot_S256x512_S512x2048_S256x2048_1_0_0_1_n_n none (truncf .bf16 (mulf (mulf (matmul dot_S256x2048_S2048x512_S256x512_1_0_0_1_n_n none x G (constant S256x512 .f32 0x00000000#32))
    (logistic (matmul dot_S256x2048_S2048x512_S256x512_1_0_0_1_n_n none x G (constant S256x512 .f32 0x00000000#32))))
    (matmul dot_S256x2048_S2048x512_S256x512_1_0_0_1_n_n none x U (constant S256x512 .f32 0x00000000#32))) bitsLt_bf16_f32) D (constant S256x2048 .f32 0x00000000#32)

theorem dense_apply (x G U D) (r : Fin 256) (o : Fin 2048) :
    dense x G U D (ix2 r o) = mlpRow (fun d => x (ix2 r d)) (fun d f => G (ix2 d f)) (fun d f => U (ix2 d f)) (fun f o => D (ix2 f o)) o := by
  have h : ∀ g : EReal, Ideal.logistic g = sigm g := fun _ => rfl
  unfold mlpRow hidden
  pointwise [dense]
  simp only [h]

theorem pay29_eq (P : Fin 16 → FVec Ideal S256x128 .bf16) (G U D) :
    k0_pay29 (P 0) (P 1) (P 2) (P 3) (P 4) (P 5) (P 6) (P 7) (P 8) (P 9) (P 10) (P 11) (P 12) (P 13) (P 14) (P 15) G U D = dense (side P) G U D := rfl

variable (inv : S24832.Idx → BitVec 32) (X : S133120x128.Idx → EReal)

/-- The tile's product: each of its rows is the expert's output for the row's token. -/
theorem mlp_apply (t : ℕ) (G U : FVec Ideal S2048x512 .bf16) (D : FVec Ideal S512x2048 .bf16) (r : Fin 256) (o : Fin 2048) :
    mlp (F := Ideal) inv X t G U D (ix2 r o)
      = mlpRow (feature X (tok inv (256 * t + r.val))) (fun d f => G (ix2 d f)) (fun d f => U (ix2 d f)) (fun f o => D (ix2 f o)) o := by
  have h : mlp (F := Ideal) inv X t G U D = dense (side fun g => (gath (F := Ideal) inv X t g.val : FVec Ideal S256x128 .bf16)) G U D := rfl
  rw [h, dense_apply]
  congr 1
  funext d
  rw [side_apply]
  rfl

/-- A slice of 128 columns. -/
theorem slice_at (M : FVec Ideal S256x2048 .f32) (o : ℕ) (ho : o + 128 ≤ 2048) (h) (r : Fin 256) (j : Fin 128) :
    extractStridedSlice S256x128 ![0, o] M h (ix2 r j) = M (ix2 r ⟨o + j.val, by omega⟩) := by
  refine congrArg M (funext fun a => Fin.ext ?_)
  match a with
  | ⟨0, _⟩ => show 0 + r.val = r.val; omega
  | ⟨1, _⟩ => rfl

/-! The column groups of the tile's product are its slices. -/

theorem outcol_0 (t : ℕ) (G U : FVec Ideal S2048x512 .bf16) (D : FVec Ideal S512x2048 .bf16) :
    outcol (F := Ideal) inv X t G U D 0 = extractStridedSlice S256x128 ![0, 0] (mlp (F := Ideal) inv X t G U D) slices_S256x2048_o0_0_S256x128 := by
  unfold outcol mlp; rfl
theorem outcol_1 (t : ℕ) (G U : FVec Ideal S2048x512 .bf16) (D : FVec Ideal S512x2048 .bf16) :
    outcol (F := Ideal) inv X t G U D 1 = extractStridedSlice S256x128 ![0, 128] (mlp (F := Ideal) inv X t G U D) slices_S256x2048_o0_128_S256x128 := by
  unfold outcol mlp; rfl
theorem outcol_2 (t : ℕ) (G U : FVec Ideal S2048x512 .bf16) (D : FVec Ideal S512x2048 .bf16) :
    outcol (F := Ideal) inv X t G U D 2 = extractStridedSlice S256x128 ![0, 256] (mlp (F := Ideal) inv X t G U D) slices_S256x2048_o0_256_S256x128 := by
  unfold outcol mlp; rfl
theorem outcol_3 (t : ℕ) (G U : FVec Ideal S2048x512 .bf16) (D : FVec Ideal S512x2048 .bf16) :
    outcol (F := Ideal) inv X t G U D 3 = extractStridedSlice S256x128 ![0, 384] (mlp (F := Ideal) inv X t G U D) slices_S256x2048_o0_384_S256x128 := by
  unfold outcol mlp; rfl
theorem outcol_4 (t : ℕ) (G U : FVec Ideal S2048x512 .bf16) (D : FVec Ideal S512x2048 .bf16) :
    outcol (F := Ideal) inv X t G U D 4 = extractStridedSlice S256x128 ![0, 512] (mlp (F := Ideal) inv X t G U D) slices_S256x2048_o0_512_S256x128 := by
  unfold outcol mlp; rfl
theorem outcol_5 (t : ℕ) (G U : FVec Ideal S2048x512 .bf16) (D : FVec Ideal S512x2048 .bf16) :
    outcol (F := Ideal) inv X t G U D 5 = extractStridedSlice S256x128 ![0, 640] (mlp (F := Ideal) inv X t G U D) slices_S256x2048_o0_640_S256x128 := by
  unfold outcol mlp; rfl
theorem outcol_6 (t : ℕ) (G U : FVec Ideal S2048x512 .bf16) (D : FVec Ideal S512x2048 .bf16) :
    outcol (F := Ideal) inv X t G U D 6 = extractStridedSlice S256x128 ![0, 768] (mlp (F := Ideal) inv X t G U D) slices_S256x2048_o0_768_S256x128 := by
  unfold outcol mlp; rfl
theorem outcol_7 (t : ℕ) (G U : FVec Ideal S2048x512 .bf16) (D : FVec Ideal S512x2048 .bf16) :
    outcol (F := Ideal) inv X t G U D 7 = extractStridedSlice S256x128 ![0, 896] (mlp (F := Ideal) inv X t G U D) slices_S256x2048_o0_896_S256x128 := by
  unfold outcol mlp; rfl
theorem outcol_8 (t : ℕ) (G U : FVec Ideal S2048x512 .bf16) (D : FVec Ideal S512x2048 .bf16) :
    outcol (F := Ideal) inv X t G U D 8 = extractStridedSlice S256x128 ![0, 1024] (mlp (F := Ideal) inv X t G U D) slices_S256x2048_o0_1024_S256x128 := by
  unfold outcol mlp; rfl
theorem outcol_9 (t : ℕ) (G U : FVec Ideal S2048x512 .bf16) (D : FVec Ideal S512x2048 .bf16) :
    outcol (F := Ideal) inv X t G U D 9 = extractStridedSlice S256x128 ![0, 1152] (mlp (F := Ideal) inv X t G U D) slices_S256x2048_o0_1152_S256x128 := by
  unfold outcol mlp; rfl
theorem outcol_10 (t : ℕ) (G U : FVec Ideal S2048x512 .bf16) (D : FVec Ideal S512x2048 .bf16) :
    outcol (F := Ideal) inv X t G U D 10 = extractStridedSlice S256x128 ![0, 1280] (mlp (F := Ideal) inv X t G U D) slices_S256x2048_o0_1280_S256x128 := by
  unfold outcol mlp; rfl
theorem outcol_11 (t : ℕ) (G U : FVec Ideal S2048x512 .bf16) (D : FVec Ideal S512x2048 .bf16) :
    outcol (F := Ideal) inv X t G U D 11 = extractStridedSlice S256x128 ![0, 1408] (mlp (F := Ideal) inv X t G U D) slices_S256x2048_o0_1408_S256x128 := by
  unfold outcol mlp; rfl
theorem outcol_12 (t : ℕ) (G U : FVec Ideal S2048x512 .bf16) (D : FVec Ideal S512x2048 .bf16) :
    outcol (F := Ideal) inv X t G U D 12 = extractStridedSlice S256x128 ![0, 1536] (mlp (F := Ideal) inv X t G U D) slices_S256x2048_o0_1536_S256x128 := by
  unfold outcol mlp; rfl
theorem outcol_13 (t : ℕ) (G U : FVec Ideal S2048x512 .bf16) (D : FVec Ideal S512x2048 .bf16) :
    outcol (F := Ideal) inv X t G U D 13 = extractStridedSlice S256x128 ![0, 1664] (mlp (F := Ideal) inv X t G U D) slices_S256x2048_o0_1664_S256x128 := by
  unfold outcol mlp; rfl
theorem outcol_14 (t : ℕ) (G U : FVec Ideal S2048x512 .bf16) (D : FVec Ideal S512x2048 .bf16) :
    outcol (F := Ideal) inv X t G U D 14 = extractStridedSlice S256x128 ![0, 1792] (mlp (F := Ideal) inv X t G U D) slices_S256x2048_o0_1792_S256x128 := by
  unfold outcol mlp; rfl
theorem outcol_15 (t : ℕ) (G U : FVec Ideal S2048x512 .bf16) (D : FVec Ideal S512x2048 .bf16) :
    outcol (F := Ideal) inv X t G U D 15 = extractStridedSlice S256x128 ![0, 1920] (mlp (F := Ideal) inv X t G U D) slices_S256x2048_o0_1920_S256x128 := by
  unfold outcol mlp; rfl

/-- Column group `k` of the tile's product. -/
theorem outcol_apply (t : ℕ) (G U : FVec Ideal S2048x512 .bf16) (D : FVec Ideal S512x2048 .bf16) (r : Fin 256) (j : Fin 128) (k : Fin 16) :
    outcol (F := Ideal) inv X t G U D k.val (ix2 r j) = mlp (F := Ideal) inv X t G U D (ix2 r ⟨k.val * 128 + j.val, by omega⟩) := by
  obtain ⟨k, hk⟩ := k
  generalize hM : mlp (F := Ideal) inv X t G U D = M
  have e : ∀ (o : ℕ) (ho : o + 128 ≤ 2048) (h), o = k * 128 → extractStridedSlice S256x128 ![0, o] M h (ix2 r j) = M (ix2 r ⟨k * 128 + j.val, by omega⟩) := by
    intro o ho h hok
    subst hok
    exact slice_at M _ ho h r j
  dsimp only
  interval_cases k
  · rw [outcol_0, hM]; exact e 0 (by omega) _ (by omega)
  · rw [outcol_1, hM]; exact e 128 (by omega) _ (by omega)
  · rw [outcol_2, hM]; exact e 256 (by omega) _ (by omega)
  · rw [outcol_3, hM]; exact e 384 (by omega) _ (by omega)
  · rw [outcol_4, hM]; exact e 512 (by omega) _ (by omega)
  · rw [outcol_5, hM]; exact e 640 (by omega) _ (by omega)
  · rw [outcol_6, hM]; exact e 768 (by omega) _ (by omega)
  · rw [outcol_7, hM]; exact e 896 (by omega) _ (by omega)
  · rw [outcol_8, hM]; exact e 1024 (by omega) _ (by omega)
  · rw [outcol_9, hM]; exact e 1152 (by omega) _ (by omega)
  · rw [outcol_10, hM]; exact e 1280 (by omega) _ (by omega)
  · rw [outcol_11, hM]; exact e 1408 (by omega) _ (by omega)
  · rw [outcol_12, hM]; exact e 1536 (by omega) _ (by omega)
  · rw [outcol_13, hM]; exact e 1664 (by omega) _ (by omega)
  · rw [outcol_14, hM]; exact e 1792 (by omega) _ (by omega)
  · rw [outcol_15, hM]; exact e 1920 (by omega) _ (by omega)

variable (m : (ℓ : Loc nD τ sig) → Buf (Elt Ideal) ℓ)

theorem Wg_apply (c : Dev nD) (e : BitVec 32) (d : Fin 2048) (f : Fin 512) :
    Wg (F := Ideal) m c e (ix2 d f) = V m c main_arg5 (ix3 ⟨e.toNat % 32, Nat.mod_lt _ (by omega)⟩ d f) := by
  have h : ∀ A : S1x2048x512.Idx → EReal, k0_pay1 (F := Ideal) A (ix2 d f) = A (ix3 0 d f) := fun A => by pointwise [k0_pay1]
  exact h _
theorem Wu_apply (c : Dev nD) (e : BitVec 32) (d : Fin 2048) (f : Fin 512) :
    Wu (F := Ideal) m c e (ix2 d f) = V m c main_arg6 (ix3 ⟨e.toNat % 32, Nat.mod_lt _ (by omega)⟩ d f) := by
  have h : ∀ A : S1x2048x512.Idx → EReal, k0_pay2 (F := Ideal) A (ix2 d f) = A (ix3 0 d f) := fun A => by pointwise [k0_pay2]
  exact h _
theorem Wd_apply (c : Dev nD) (e : BitVec 32) (f : Fin 512) (o : Fin 2048) :
    Wd (F := Ideal) m c e (ix2 f o) = V m c main_arg7 (ix3 ⟨e.toNat % 32, Nat.mod_lt _ (by omega)⟩ f o) := by
  have h : ∀ A : S1x512x2048.Idx → EReal, k0_pay3 (F := Ideal) A (ix2 f o) = A (ix3 0 f o) := fun A => by pointwise [k0_pay3]
  exact h _

/-- The result of the whole call. -/
def result (c : Dev nD) : S397312x128.Idx → EReal := fun y =>
  slotOut (teOf m c) (tvOf m c) (invOf m c) (xOf m c) (V m c main_arg5) (V m c main_arg6) (V m c main_arg7) (y 0) (y 1)

/-- Tile `t`'s block is rows `4096 t …` of the result. -/
theorem outOf_apply (c : Dev nD) (t : ℕ) (ht : t < 97) (p : Fin 4096) (j : Fin 128) :
    outOf (F := Ideal) m c t (ix2 p j) = result m c (ix2 ⟨4096 * t + p.val, by omega⟩ j) := by
  have e1 : (4096 * t + p.val) / 16 / 256 = t % 97 := by omega
  have e2 : (4096 * t + p.val) / 16 = (256 * t + p.val / 16) % 24832 := by omega
  have e3 : (4096 * t + p.val) % 16 = p.val % 16 := by omega
  have hz : k0_pay12 (F := Ideal) (ix2 p j) = 0 := by pointwise [k0_pay12]
  have hR : result m c (ix2 ⟨4096 * t + p.val, by omega⟩ j)
      = slotOut (teOf m c) (tvOf m c) (invOf m c) (xOf m c) (V m c main_arg5) (V m c main_arg6) (V m c main_arg7) ⟨4096 * t + p.val, by omega⟩ j := rfl
  rw [hR]
  unfold outOf stepOut slotOut
  dsimp only
  have hx : ∀ f : S97.Idx → BitVec 32, f (ix1 ⟨(4096 * t + p.val) / 16 / 256, by omega⟩) = at97 f t := fun f => congrArg (fun n => f (ix1 n)) (Fin.ext e1)
  simp only [hx (tvOf m c), hx (teOf m c)]
  by_cases hv : at97 (tvOf m c) t = 1#32
  · rw [if_pos hv, if_pos hv]
    unfold upTo
    show (if p.val % 16 < 16 then outcol _ _ _ _ _ _ (p.val % 16) (ix2 ⟨p.val / 16, _⟩ j) else _) = _
    rw [if_pos (Nat.mod_lt _ (by omega))]
    refine (outcol_apply (invOf m c) (xOf m c) t _ _ _ ⟨p.val / 16, by omega⟩ j ⟨p.val % 16, by omega⟩).trans ?_
    rw [mlp_apply]
    unfold expertOut
    simp only [Wg_apply, Wu_apply, Wd_apply]
    have hi : tok (invOf m c) (256 * t + p.val / 16) = (invOf m c (ix1 ⟨(4096 * t + p.val) / 16, by omega⟩)).toNat :=
      congrArg (fun n => (invOf m c (ix1 n)).toNat) (Fin.ext e2.symm)
    rw [hi]
    congr 1
    exact Fin.ext (congrArg (fun n => n * 128 + j.val) e3.symm)
  · rw [if_neg hv, if_neg hv]
    exact hz

variable (hT : Ok m)

theorem idx3_val : ∀ i : grid0.Coords, cc0_transform_4 i = ![(i 0).val, 0] := by decide +kernel

theorem flush3 : ∀ t : Fin (cfgm m hT).N, ((cfgm m hT).win 3).flush t = true :=
  (fun t => (Pipeline.Window.flush_reads ((cfgm m hT).win 3) rfl (0 : Fin grid0.rank) (by decide : 1 < grid0.bound 0) (by decide : grid0.fixedAfter reads0_3 0 = true) (Pipeline.Window.sep_of_coord cc0_transform_4 0 0 (fun _ => rfl) (by decide)) (P := 1) (m := 0) (by decide : grid0.stride 0 = 1) rfl t).mpr (Nat.mod_one _) : ∀ t : Fin grid0.N, ((cfgm m hT).win 3).flush t = true)

theorem emb3 (t : Fin (cfgm m hT).N) (p : Fin 4096) (j : Fin 128) :
    (((cfgm m hT).win 3).blk t).view.emb (ix2 p j) = (ix2 ⟨4096 * t.val + p.val, by have : t.val < 97 := lt_of_lt_of_eq t.isLt N_0; omega⟩ j : S397312x128.Idx) := by
  have e := idx3_val (grid0.coords t)
  rw [coords_val] at e
  funext a; apply Fin.ext
  match a with
  | ⟨0, _⟩ => show cc0_transform_4 (grid0.coords t) 0 * 4096 + 1 * p.val = 4096 * t.val + p.val; rw [e]; show t.val * 4096 + 1 * p.val = _; omega
  | ⟨1, _⟩ => show cc0_transform_4 (grid0.coords t) 1 * 128 + 1 * j.val = j.val; rw [e]; show 0 * 128 + 1 * j.val = _; omega

theorem flushed3_eq (c : Dev nD) (t : Fin (cfgm m hT).N) (hf : ((cfgm m hT).win 3).flush t = true) :
    (dats m hT 0 c).flushed 3 t = (((cfgm m hT).win 3).blk t).view.read (Elt Ideal) (result m c) := by
  refine funext fun (y : S4096x128.Idx) => ?_
  obtain ⟨p, j, rfl⟩ : ∃ (p : Fin 4096) (j : Fin 128), y = ix2 p j := ⟨y 0, y 1, eq_ix2 y⟩
  show outOf m c t.val (ix2 p j) = result m c ((((cfgm m hT).win 3).blk t).view.emb (ix2 p j))
  rw [emb3, outOf_apply m c t.val (lt_of_lt_of_eq t.isLt N_0)]

/-- The result buffer at the end. -/
theorem result_eq (c : Dev nD) : (dats m hT 0 c).arrAt 3 (cfgm m hT).N = result m c :=
  (dats m hT 0 c).arrAt_eq_of_cover 3 (result m c) (flushed3_eq m hT c) fun (i : S397312x128.Idx) => by
    have h0 : (i 0).val < 397312 := (i 0).isLt
    let t : Fin (cfgm m hT).N := ⟨(i 0).val / 4096, lt_of_lt_of_eq (show _ < 97 by omega) N_0.symm⟩
    refine ⟨t, flush3 m hT t, ?_⟩
    have e : i = (((cfgm m hT).win 3).blk t).view.emb (ix2 ⟨(i 0).val % 4096, Nat.mod_lt _ (by omega)⟩ (i 1)) := by
      refine Eq.trans ?_ (emb3 m hT t ⟨(i 0).val % 4096, Nat.mod_lt _ (by omega)⟩ (i 1)).symm
      refine (eq_ix2 i).trans ?_
      congr 1
      exact Fin.ext (Nat.div_add_mod _ _).symm
    rw [e]
    exact View.emb_mem_set _ _

end Cert.Proof.Moe

end
-- ==== Proof.MoeRef.lean ====
/-
  What the reference computes, read index by index: every expert's output for every token, the slots' rows gathered, the slots of
  invalid tiles zeroed.
-/
module

public import proofs.«01_k».proof.Defs
public import proofs.«01_k».proof.Proof.MoeMath
public import proofs.«01_k».proof.Proof.Gen.ReferenceIdeal
public import Idealize.ShloMosaic.Lib.Pointwise

@[expose] public section

set_option maxRecDepth 16384

noncomputable section

namespace Cert.Proof.Moe

open Cert.ReferenceIdeal Cert.ReferenceIdeal.Gen
open Idealize.ShloMosaic

/-- The rows of experts' outputs gathered: at slot `n`, the row of the token and the expert its two start indices name. -/
theorem gather_apply (x : FVec Ideal S8320x32x2048 .f32) (idx : IVec S24832x2 32) (n : Fin 24832) (o : Fin 2048) (h0 : (idx (ix2 n 0)).toNat < 8320) (h1 : (idx (ix2 n 1)).toNat < 32) :
    Host.gather gather_S8320x32x2048_S24832x2_S24832x2048_1_01_n_n_01_1_112048 x idx (ix2 n o) = x (ix3 ⟨(idx (ix2 n 0)).toNat, h0⟩ ⟨(idx (ix2 n 1)).toNat, h1⟩ o) := by
  have key : ∀ (w : BitVec 32) (b : ℕ), w.toNat < b → b ≤ 8320 → min w.toInt.toNat (b - 1) = w.toNat := by
    intro w b h hb
    have : w.toInt = (w.toNat : ℤ) := by rw [BitVec.toInt_eq_toNat_cond]; split <;> omega
    rw [this]; omega
  unfold Host.gather
  refine congrArg x (funext fun a => Fin.ext ?_)
  show GatherDims.start gather_S8320x32x2048_S24832x2_S24832x2048_1_01_n_n_01_1_112048 (ix2 n o) idx a + GatherDims.batchCoord gather_S8320x32x2048_S24832x2_S24832x2048_1_01_n_n_01_1_112048 (ix2 n o) a + GatherDims.offCoord gather_S8320x32x2048_S24832x2_S24832x2048_1_01_n_n_01_1_112048 (ix2 n o) a = _
  rw [GatherDims.batchCoord_eq_zero gather_S8320x32x2048_S24832x2_S24832x2048_1_01_n_n_01_1_112048 _ a List.not_mem_nil]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (fun h => ((GatherDims.mem_sKept _ _).mp h).1 (by decide))]
    unfold GatherDims.start
    rw [dif_pos (by decide)]
    refine Eq.trans ?_ (key (idx (ix2 n 0)) 8320 h0 (by omega))
    have e : GatherDims.siIdx gather_S8320x32x2048_S24832x2_S24832x2048_1_01_n_n_01_1_112048 (ix2 n o) ⟨0, by decide⟩ = ix2 n 0 := by
      funext b; match b with
      | ⟨0, _⟩ => rfl
      | ⟨1, _⟩ => rfl
    exact congrArg (fun q => min (idx q).toInt.toNat (8320 - 1)) e
  · rw [GatherDims.offCoord_eq_zero _ _ _ (fun h => ((GatherDims.mem_sKept _ _).mp h).1 (by decide))]
    unfold GatherDims.start
    rw [dif_pos (by decide)]
    refine Eq.trans ?_ (key (idx (ix2 n 1)) 32 h1 (by omega))
    have e : GatherDims.siIdx gather_S8320x32x2048_S24832x2_S24832x2048_1_01_n_n_01_1_112048 (ix2 n o) ⟨1, by decide⟩ = ix2 n 1 := by
      funext b; match b with
      | ⟨0, _⟩ => rfl
      | ⟨1, _⟩ => rfl
    exact congrArg (fun q => min (idx q).toInt.toNat (32 - 1)) e
  · unfold GatherDims.start
    rw [dif_neg (by decide)]
    unfold GatherDims.offCoord
    rw [dif_pos (by decide)]
    simp only [Nat.zero_add]
    rfl

/-- A token's product with every expert's gate (or up) weights. -/
def refG (X : FVec Ideal S133120x128 .f32) (W : FVec Ideal S32x2048x512 .f32) : FVec Ideal S8320x32x512 .f32 :=
  Host.dotGeneral dot_S8320x2048_S32x2048x512_S8320x32x512_1_1_0_02_n_n none (shapeCast S8320x2048 X shapeCasts_S133120x128_S8320x2048) W

/-- The hidden units. -/
def refH (G U : FVec Ideal S8320x32x512 .f32) : FVec Ideal S8320x32x512 .f32 :=
  mulf (mulf G (Host.divf (broadcastInDim S8320x32x512 ![] bcast_S_S8320x32x512 (constant S_ .f32 0x3F800000#32)) (addf (broadcastInDim S8320x32x512 ![] bcast_S_S8320x32x512 (constant S_ .f32 0x3F800000#32)) (Host.exp (Host.negf G))))) U

/-- The experts' outputs. -/
def refY (D : FVec Ideal S32x512x2048 .f32) (H : FVec Ideal S8320x32x512 .f32) : FVec Ideal S8320x32x2048 .f32 :=
  transpose S8320x32x2048 [2, 0, 1] (Host.dotGeneral dot_S32x512x2048_S8320x32x512_S32x2048x8320_1_2_2_0_0_1 none D H) transposes_S32x2048x8320_S8320x32x2048_2_0_1

theorem refG_apply (X W) (v : Fin 8320) (e : Fin 32) (f : Fin 512) :
    refG X W (ix3 v e f) = ∑ d : Fin 2048, feature X v.val d * W (ix3 e d f) := by
  pointwise [refG]
  refine Finset.sum_congr rfl fun d _ => ?_
  unfold feature
  congr 3
  apply Fin.ext
  show v.val * 16 + d.val / 128 = (16 * v.val + d.val / 128) % 133120
  omega

theorem refH_apply (G U) (v : Fin 8320) (e : Fin 32) (f : Fin 512) :
    refH G U (ix3 v e f) = G (ix3 v e f) * sigm (G (ix3 v e f)) * U (ix3 v e f) := by
  pointwise [refH, sigm]

theorem refY_apply (D H) (v : Fin 8320) (e : Fin 32) (o : Fin 2048) :
    refY D H (ix3 v e o) = ∑ f : Fin 512, H (ix3 v e f) * D (ix3 e f o) := by
  have h : refY D H (ix3 v e o) = ∑ f : Fin 512, D (ix3 e f o) * H (ix3 v e f) := by
    pointwise [refY]
  rw [h]
  exact Finset.sum_congr rfl fun f _ => mul_comm _ _

/-- Every expert's output for every token. -/
theorem refExpert (X wg wu wd) (v : Fin 8320) (e : Fin 32) (o : Fin 2048) :
    refY wd (refH (refG X wg) (refG X wu)) (ix3 v e o) = expertOut X wg wu wd e v.val o := by
  rw [refY_apply]
  unfold expertOut mlpRow hidden
  refine Finset.sum_congr rfl fun f _ => ?_
  rw [refH_apply, refG_apply, refG_apply]

/-- The start indices: a slot's token and its tile's expert, each with a wrapped reading of negative numbers. -/
def refIdx (te : IVec S97 32) (inv : IVec S24832 32) : IVec S24832x2 32 :=
  concatenate S24832x2 1 [⟨S24832x1, broadcastInDim S24832x1 ![0] bcast_S24832_S24832x1_0 (select (cmpi .slt inv (broadcastInDim S24832 ![] bcast_S_S24832 (constantI S_ 32 0#32))) (addi inv (broadcastInDim S24832 ![] bcast_S_S24832 (constantI S_ 32 8320#32))) inv)⟩,
    ⟨S24832x1, broadcastInDim S24832x1 ![0] bcast_S24832_S24832x1_0 (select (cmpi .slt (shapeCast S24832 (broadcastInDim S97x256 ![0] bcast_S97_S97x256_0 te) shapeCasts_S97x256_S24832) (broadcastInDim S24832 ![] bcast_S_S24832 (constantI S_ 32 0#32))) (addi (shapeCast S24832 (broadcastInDim S97x256 ![0] bcast_S97_S97x256_0 te) shapeCasts_S97x256_S24832) (broadcastInDim S24832 ![] bcast_S_S24832 (constantI S_ 32 32#32))) (shapeCast S24832 (broadcastInDim S97x256 ![0] bcast_S97_S97x256_0 te) shapeCasts_S97x256_S24832))⟩] concatenates_S24832x1_S24832x1_S24832x2_d1

/-- A nonnegative number is not wrapped. -/
theorem unwrapped (x y : BitVec 32) (h : x.toNat < 2 ^ 31) : Scalar.select (IntOp.cmpi CmpIPredicate.slt x 0#32) y x = x := by
  have hn : IntOp.cmpi CmpIPredicate.slt x 0#32 = 0#1 := by
    show BitVec.ofBool (decide (x.toInt < (0#32).toInt)) = 0#1
    rw [decide_eq_false]
    · rfl
    · rw [BitVec.toInt_zero, BitVec.toInt_eq_toNat_cond, if_pos (by omega)]
      omega
  rw [hn]
  rfl

theorem refIdx0 (te inv) (n : Fin 24832) (h : (inv (ix1 n)).toNat < 8320) : refIdx te inv (ix2 n 0) = inv (ix1 n) := by
  have e : refIdx te inv (ix2 n 0) = Scalar.select (IntOp.cmpi CmpIPredicate.slt (inv (ix1 n)) 0#32) (IntOp.addi (inv (ix1 n)) 8320#32) (inv (ix1 n)) := by
    pointwise [refIdx]
  rw [e]
  exact unwrapped _ _ (by omega)

theorem refIdx1 (te inv) (n : Fin 24832) (h : (te (ix1 ⟨n.val / 256, by omega⟩)).toNat < 32) : refIdx te inv (ix2 n 1) = te (ix1 ⟨n.val / 256, by omega⟩) := by
  have e : refIdx te inv (ix2 n 1) = Scalar.select (IntOp.cmpi CmpIPredicate.slt (te (ix1 ⟨n.val / 256, by omega⟩)) 0#32)
      (IntOp.addi (te (ix1 ⟨n.val / 256, by omega⟩)) 32#32) (te (ix1 ⟨n.val / 256, by omega⟩)) := by
    pointwise [refIdx]
  rw [e]
  exact unwrapped _ _ (by omega)

/-- The slots' rows, those of invalid tiles zeroed, laid out sixteen rows a slot. -/
def refOut (tv : IVec S97 32) (Z : FVec Ideal S24832x2048 .f32) : FVec Ideal S397312x128 .f32 :=
  shapeCast S397312x128 (select (broadcastInDim S24832x2048 ![0, 1] bcast_S24832x1_S24832x2048_0_1 (broadcastInDim S24832x1 ![0] bcast_S24832_S24832x1_0 (cmpi .eq (shapeCast S24832 (broadcastInDim S97x256 ![0] bcast_S97_S97x256_0 tv) shapeCasts_S97x256_S24832) (broadcastInDim S24832 ![] bcast_S_S24832 (constantI S_ 32 1#32))))) Z
    (broadcastInDim S24832x2048 ![] bcast_S_S24832x2048 (constant S_ .f32 0x00000000#32))) shapeCasts_S24832x2048_S397312x128

theorem refOut_apply (tv Z) (p : Fin 397312) (j : Fin 128) :
    refOut tv Z (ix2 p j) = if tv (ix1 ⟨p.val / 16 / 256, by omega⟩) = 1#32 then Z (ix2 ⟨p.val / 16, by omega⟩ ⟨p.val % 16 * 128 + j.val, by omega⟩) else 0 := by
  have e : refOut tv Z (ix2 p j) = Scalar.select (IntOp.cmpi CmpIPredicate.eq (tv (ix1 ⟨p.val / 16 / 256, by omega⟩)) 1#32)
      (Z (ix2 ⟨p.val / 16, by omega⟩ ⟨p.val % 16 * 128 + j.val, by omega⟩)) (constant (F := Ideal) S_ .f32 0x00000000#32 ix0) := by
    pointwise [refOut]
  have hz : constant (F := Ideal) S_ .f32 0x00000000#32 ix0 = 0 := by pointwise
  rw [e, hz]
  by_cases h : tv (ix1 ⟨p.val / 16 / 256, by omega⟩) = 1#32
  · rw [if_pos h, h]; rfl
  · rw [if_neg h]
    have hn : IntOp.cmpi CmpIPredicate.eq (tv (ix1 ⟨p.val / 16 / 256, by omega⟩)) 1#32 = 0#1 := by
      simp only [IntOp.cmpi]
      rw [beq_eq_false_iff_ne.2 h]
      rfl
    rw [hn]
    rfl

/-- The reference's result. -/
theorem reference_apply (te tv : IVec S97 32) (inv : IVec S24832 32) (X wg wu wd) (ht : ∀ i, (te i).toNat < 32) (hi : ∀ n, (inv n).toNat < 8320)
    (p : Fin 397312) (j : Fin 128) :
    refOut tv (Host.gather gather_S8320x32x2048_S24832x2_S24832x2048_1_01_n_n_01_1_112048 (refY wd (refH (refG X wg) (refG X wu))) (refIdx te inv)) (ix2 p j)
      = slotOut te tv inv X wg wu wd p j := by
  rw [refOut_apply]
  unfold slotOut
  refine if_congr Iff.rfl ?_ rfl
  have e0 := refIdx0 te inv ⟨p.val / 16, by omega⟩ (hi _)
  have e1 := refIdx1 te inv ⟨p.val / 16, by omega⟩ (ht _)
  rw [gather_apply _ _ _ _ (by rw [e0]; exact hi _) (by rw [e1]; exact ht _), refExpert]
  have hm := Nat.mod_eq_of_lt (ht (ix1 ⟨p.val / 16 / 256, by omega⟩))
  congr 1
  · apply Fin.ext
    show _ = _ % 32
    rw [hm]
    exact congrArg BitVec.toNat e1
  · exact congrArg BitVec.toNat e0

end Cert.Proof.Moe

end
-- ==== Proof.Keys.lean ====
/-
  Hand-written: what the projection of the prompt's keys computes. Grid point `t` multiplies 512 rows of the tokens by
  the 1024 columns of the weights that make the keys; the first result takes the product whole, the second takes its
  columns 128 by 128, one plane a head. Over the extended reals both are the reference's one product of the tokens by
  all the columns, cut and laid out.
-/
module

public import proofs.«01_k».proof.Defs
public import proofs.«01_k».proof.Proof.Gen.Kernel2Ideal.Value
public import proofs.«01_k».proof.Proof.Gen.Reference2Ideal.Run
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Kernel2Ideal.Keys

open Cert.Kernel2Ideal Cert.Kernel2Ideal.Gen

variable (m : (ℓ : Loc nD τ sig) → Buf (Elt Ideal) ℓ)

/-- The tokens and the weights at launch. -/
abbrev X (c : Dev nD) : Vec Ideal S1x8192x2048 .f32 := m ((c : Thread nD τ).loc main_arg0)
abbrev W (c : Dev nD) : Vec Ideal S1x2048x11344 .f32 := m ((c : Thread nD τ).loc main_arg1)

/-- Key coordinate `e` of token `r`: the token's row against column `1024 + e` of the weights. -/
def key (c : Dev nD) (r : Fin 8192) (e : Fin 1024) : EReal :=
  ∑ k : Fin 2048, X m c (ix3 0 r k) * W m c (ix3 0 k ⟨1024 + e.val, by omega⟩)

/-- The two results the run ends at: the keys as rows of tokens, and the same one plane a head. -/
def flat (c : Dev nD) : Vec Ideal S8192x1024 .f32 := fun i => key m c (i 0) (i 1)
def heads (c : Dev nD) : Vec Ideal S8x8192x128 .bf16 := fun i =>
  key m c (i 1) ⟨(i 0).val * 128 + (i 2).val, by
    have h0 : (i 0).val < 8 := (i 0).isLt
    have h2 : (i 2).val < 128 := (i 2).isLt
    omega⟩

/-- The tokens as the region finds them: flattened to rows. -/
theorem V_tokens (c : Dev nD) : V m c main_v1 = truncf (F := Ideal) .bf16 (shapeCast _ (X m c) shapeCasts_S1x8192x2048_S8192x2048) bitsLt_bf16_f32 := by
  show StableHlo.after hostOps0 (fun b => m (c, b)) (Proc.devRef .tc main_v1) = _
  after_results
  rfl

/-- The weights as the region finds them: the keys' columns. -/
theorem V_weights (c : Dev nD) : V m c main_v4 = extractStridedSlice S2048x1024 ![0, 1024]
    (truncf (F := Ideal) .bf16 (shapeCast _ (W m c) shapeCasts_S1x2048x11344_S2048x11344) bitsLt_bf16_f32) slices_S2048x11344_S2048x1024_0_1024 := by
  show StableHlo.after hostOps0 (fun b => m (c, b)) (Proc.devRef .tc main_v4) = _
  after_results
  rfl

/-- Where each window's block sits at point `t`. -/
theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = t.val ∧ win0_2.index t (1 : Fin 2) = 0 := (by decide +kernel : ∀ t : Fin grid0.N, _)
theorem idx3 : ∀ t : Fin cfg0.N, win0_3.index t (0 : Fin 3) = 0 ∧ win0_3.index t (1 : Fin 3) = t.val ∧ win0_3.index t (2 : Fin 3) = 0 := (by decide +kernel : ∀ t : Fin grid0.N, _)

theorem point_lt (t : Fin cfg0.N) : t.val < 16 := lt_of_lt_of_eq t.isLt N_0

/-- The token block of point `t`, read at row `r`, column `k`. -/
theorem tokens_apply (c : Dev nD) (t : Fin cfg0.N) (r : Fin 512) (k : Fin 2048) :
    (iblk m c 0 t : Vec Ideal S512x2048 .bf16) (ix2 r k) = X m c (ix3 0 ⟨512 * t.val + r.val, by have := point_lt t; omega⟩ k) := by
  show V m c main_v1 (((cfg0.win 0).blk t).view.emb (ix2 r k)) = _
  have e : ((cfg0.win 0).blk t).view.emb (ix2 r k) = (ix2 ⟨512 * t.val + r.val, by have := point_lt t; omega⟩ k : S8192x2048.Idx) := by
    funext a; apply Fin.ext
    match a with
    | ⟨0, _⟩ => show win0_0.index t (0 : Fin 2) * 512 + 1 * r.val = 512 * t.val + r.val; have := (idx0 t).1; omega
    | ⟨1, _⟩ => show win0_0.index t (1 : Fin 2) * 2048 + 1 * k.val = k.val; have := (idx0 t).2; omega
  rw [e, V_tokens]
  pointwise

/-- The weight block, the same at every point, read at row `k`, column `e`. -/
theorem weights_apply (c : Dev nD) (t : Fin cfg0.N) (k : Fin 2048) (e : Fin 1024) :
    (iblk m c 1 t : Vec Ideal S2048x1024 .bf16) (ix2 k e) = W m c (ix3 0 k ⟨1024 + e.val, by omega⟩) := by
  show V m c main_v4 (((cfg0.win 1).blk t).view.emb (ix2 k e)) = _
  have he : ((cfg0.win 1).blk t).view.emb (ix2 k e) = (ix2 k e : S2048x1024.Idx) := by
    funext a; apply Fin.ext
    match a with
    | ⟨0, _⟩ => show win0_1.index t (0 : Fin 2) * 2048 + 1 * k.val = k.val; have := (idx1 t).1; omega
    | ⟨1, _⟩ => show win0_1.index t (1 : Fin 2) * 1024 + 1 * e.val = e.val; have := (idx1 t).2; omega
  rw [he, V_weights]
  pointwise

/-- The product of two loaded blocks at an index. -/
theorem product_apply (P0 : Vec Ideal S512x2048 .bf16) (P1 : Vec Ideal S2048x1024 .bf16) (r : Fin 512) (e : Fin 1024) :
    k0_pay4 P0 P1 (ix2 r e) = ∑ k : Fin 2048, P0 (ix2 r k) * P1 (ix2 k e) := by
  pointwise [k0_pay4]

theorem hz : (![0, 0] : Fin 2 → Nat) = fun _ => 0 := funext fun a => by fin_cases a <;> rfl

/-- The body's product at point `t`: rows `512 t …` of the keys. -/
theorem point_product (c : Dev nD) (t : Fin cfg0.N) (r : Fin 512) (e : Fin 1024) :
    k0_pay4 (View.ld (iblk m c 0 t) r0_0) (View.ld (iblk m c 1 t) r0_1) (ix2 r e)
      = key m c ⟨512 * t.val + r.val, by have := point_lt t; omega⟩ e := by
  rw [View.ld_unit_zero (S := S512x2048) hz, View.ld_unit_zero (S := S2048x1024) hz, product_apply]
  exact Finset.sum_congr rfl fun k _ => by rw [tokens_apply, weights_apply]

/-- Point `t` writes back its rows of the keys. -/
theorem flushed2_eq (c : Dev nD) (t : Fin cfg0.N) (hf : (cfg0.win 2).flush t = true) :
    (dats m 0 c).flushed 2 t = ((cfg0.win 2).blk t).view.read (Elt Ideal) (flat m c) := by
  rw [Value.flushed2]
  refine funext fun (j : S512x1024.Idx) => ?_
  obtain ⟨r, e, rfl⟩ : ∃ (r : Fin 512) (e : Fin 1024), j = ix2 r e := ⟨j 0, j 1, eq_ix2 j⟩
  show out0_2 (iblk m c 0 t) (iblk m c 1 t) (ix2 r e) = flat m c (((cfg0.win 2).blk t).view.emb (ix2 r e))
  have he : ((cfg0.win 2).blk t).view.emb (ix2 r e) = (ix2 ⟨512 * t.val + r.val, by have := point_lt t; omega⟩ e : S8192x1024.Idx) := by
    funext a; apply Fin.ext
    match a with
    | ⟨0, _⟩ => show win0_2.index t (0 : Fin 2) * 512 + 1 * r.val = 512 * t.val + r.val; have := (idx2 t).1; omega
    | ⟨1, _⟩ => show win0_2.index t (1 : Fin 2) * 1024 + 1 * e.val = e.val; have := (idx2 t).2; omega
  rw [he]
  unfold out0_2
  rw [View.canon_unit_zero hz]
  exact point_product m c t r e

/-- Point `t` writes back its rows of every head's plane. -/
theorem flushed3_eq (c : Dev nD) (t : Fin cfg0.N) (hf : (cfg0.win 3).flush t = true) :
    (dats m 0 c).flushed 3 t = ((cfg0.win 3).blk t).view.read (Elt Ideal) (heads m c) := by
  rw [Value.flushed3]
  refine funext fun (j : S8x512x128.Idx) => ?_
  obtain ⟨h, r, e, rfl⟩ : ∃ (h : Fin 8) (r : Fin 512) (e : Fin 128), j = ix3 h r e := ⟨j 0, j 1, j 2, eq_ix3 j⟩
  show out0_3 (iblk m c 0 t) (iblk m c 1 t) (ix3 h r e) = heads m c (((cfg0.win 3).blk t).view.emb (ix3 h r e))
  have he : ((cfg0.win 3).blk t).view.emb (ix3 h r e) = (ix3 h ⟨512 * t.val + r.val, by have := point_lt t; omega⟩ e : S8x8192x128.Idx) := by
    funext a; apply Fin.ext
    match a with
    | ⟨0, _⟩ => show win0_3.index t (0 : Fin 3) * 8 + 1 * h.val = h.val; have := (idx3 t).1; omega
    | ⟨1, _⟩ => show win0_3.index t (1 : Fin 3) * 512 + 1 * r.val = 512 * t.val + r.val; have := (idx3 t).2.1; omega
    | ⟨2, _⟩ => show win0_3.index t (2 : Fin 3) * 128 + 1 * e.val = e.val; have := (idx3 t).2.2; omega
  rw [he]
  unfold_out out0_3
  refine (Value.canon3_eq _ _ _).trans ?_
  show k0_pay4 _ _ (Value.ix3_0 (ix3 h r e)) = _
  have hi : Value.ix3_0 (ix3 h r e) = (ix2 r ⟨h.val * 128 + e.val, by omega⟩ : S512x1024.Idx) := by
    funext a
    match a with
    | ⟨0, _⟩ => rfl
    | ⟨1, _⟩ => rfl
  rw [hi]
  exact point_product m c t r _

/-- Every row of the keys lies in some point's block. -/
theorem flat_eq (c : Dev nD) : (dats m 0 c).arrAt 2 cfg0.N = flat m c :=
  (dats m 0 c).arrAt_eq_of_cover 2 (flat m c) (flushed2_eq m c) fun i => by
    have h0 : (i 0 : Nat) < 8192 := (i 0).isLt
    have h1 : (i 1 : Nat) < 1024 := (i 1).isLt
    have hN : cfg0.N = 16 := N_0
    obtain ⟨t, ht⟩ : ∃ t : Fin cfg0.N, t.val = (i 0 : Nat) / 512 := ⟨⟨(i 0 : Nat) / 512, by rw [hN]; omega⟩, rfl⟩
    refine ⟨t, flush0_2 t, ?_⟩
    have h2 := idx2 t
    show i ∈ ((View.whole main_v5_0).slice (win0_2.rect t)).set
    rw [View.set_slice_whole, Rect.mem_set_unit]
    intro a
    match a with
    | ⟨0, _⟩ => show win0_2.index t (0 : Fin 2) * 512 ≤ (i 0 : Nat) ∧ (i 0 : Nat) < win0_2.index t (0 : Fin 2) * 512 + 512
                rw [h2.1]; omega
    | ⟨1, _⟩ => show win0_2.index t (1 : Fin 2) * 1024 ≤ (i 1 : Nat) ∧ (i 1 : Nat) < win0_2.index t (1 : Fin 2) * 1024 + 1024
                rw [h2.2]; omega

/-- Every row of every head's plane lies in some point's block. -/
theorem heads_eq (c : Dev nD) : (dats m 0 c).arrAt 3 cfg0.N = heads m c :=
  (dats m 0 c).arrAt_eq_of_cover 3 (heads m c) (flushed3_eq m c) fun i => by
    have h0 : (i 0 : Nat) < 8 := (i 0).isLt
    have h1 : (i 1 : Nat) < 8192 := (i 1).isLt
    have h2 : (i 2 : Nat) < 128 := (i 2).isLt
    have hN : cfg0.N = 16 := N_0
    obtain ⟨t, ht⟩ : ∃ t : Fin cfg0.N, t.val = (i 1 : Nat) / 512 := ⟨⟨(i 1 : Nat) / 512, by rw [hN]; omega⟩, rfl⟩
    refine ⟨t, flush0_3 t, ?_⟩
    have h3 := idx3 t
    show i ∈ ((View.whole main_v5_1).slice (win0_3.rect t)).set
    rw [View.set_slice_whole, Rect.mem_set_unit]
    intro a
    match a with
    | ⟨0, _⟩ => show win0_3.index t (0 : Fin 3) * 8 ≤ (i 0 : Nat) ∧ (i 0 : Nat) < win0_3.index t (0 : Fin 3) * 8 + 8
                rw [h3.1]; omega
    | ⟨1, _⟩ => show win0_3.index t (1 : Fin 3) * 512 ≤ (i 1 : Nat) ∧ (i 1 : Nat) < win0_3.index t (1 : Fin 3) * 512 + 512
                rw [h3.2.1]; omega
    | ⟨2, _⟩ => show win0_3.index t (2 : Fin 3) * 128 ≤ (i 2 : Nat) ∧ (i 2 : Nat) < win0_3.index t (2 : Fin 3) * 128 + 128
                rw [h3.2.2]; omega

end Cert.Kernel2Ideal.Keys

namespace Cert.Reference2Ideal.Keys

open Cert.Reference2Ideal Cert.Reference2Ideal.Gen

/-- The reference's product of the tokens by every column, cut to the keys' columns, at an index. -/
theorem cut_apply (x : Vec Ideal S1x8192x2048 .f32) (w : Vec Ideal S1x2048x11344 .f32) (r : Fin 8192) (e : Fin 1024) :
    extractStridedSlice S1x8192x1024 ![0, 0, 1024] (Host.dotGeneral (F := Ideal) (φ₁ := .f32) (φ₂ := .f32) dot_S1x8192x2048_S2048x11344_S1x8192x11344_2_0_01_1_n_n none x (shapeCast _ w shapeCasts_S1x2048x11344_S2048x11344)) slices_S1x8192x11344_S1x8192x1024_0_0_1024 (ix3 0 r e)
      = ∑ k : Fin 2048, x (ix3 0 r k) * w (ix3 0 k ⟨1024 + e.val, by omega⟩) := by
  pointwise

/-- The keys as rows of tokens: the cut product, its axis of one row dropped. -/
theorem flat_apply (v : Vec Ideal S1x8192x1024 .f32) (r : Fin 8192) (e : Fin 1024) :
    shapeCast S8192x1024 (shapeCast S1x8192x8x128 v shapeCasts_S1x8192x1024_S1x8192x8x128) shapeCasts_S1x8192x8x128_S8192x1024 (ix2 r e) = v (ix3 0 r e) := by
  pointwise

/-- The keys one plane a head. -/
theorem heads_apply (v : Vec Ideal S1x8192x1024 .f32) (h : Fin 8) (r : Fin 8192) (e : Fin 128) :
    truncf (F := Ideal) .bf16 (transpose S8x8192x128 [1, 0, 2] (shapeCast S8192x8x128 (shapeCast S1x8192x8x128 v shapeCasts_S1x8192x1024_S1x8192x8x128) shapeCasts_S1x8192x8x128_S8192x8x128) transposes_S8192x8x128_S8x8192x128_1_0_2) bitsLt_bf16_f32 (ix3 h r e)
      = v (ix3 0 r ⟨h.val * 128 + e.val, by omega⟩) := by
  pointwise

end Cert.Reference2Ideal.Keys

namespace Cert.Proof

/-- The projection's claim: the kernel's two results are the reference's. -/
theorem algebraic_keys : Cert.algebraic_Kernel2Ideal_Reference2Ideal (hKernel2Ideal := Cert.Kernel2Ideal.Gen.facts) (hReference2Ideal := Cert.Reference2Ideal.Gen.facts) := by
  intro m g m' g' _ hargs
  refine ⟨Cert.Kernel2Ideal.Keys.flat m, Cert.Kernel2Ideal.Keys.heads m, ?_, ?_⟩
  · refine (θ_run _ _ _).mono (fun r h c => ?_) (Cert.Kernel2Ideal.Value.run_blocks m g)
    obtain ⟨h0, h1, h2, h3⟩ := h c
    exact ⟨h0.trans (Cert.Kernel2Ideal.Keys.flat_eq m c), h1.trans (Cert.Kernel2Ideal.Keys.heads_eq m c), h2, h3⟩
  · refine (θ_run _ _ _).mono (fun r h c => ?_) (Cert.Reference2Ideal.Value.run m' g')
    obtain ⟨h0, h1, h2, h3⟩ := h c
    obtain ⟨ha, hb⟩ := hargs c
    refine ⟨h0.trans ?_, h1.trans ?_, h2, h3⟩
    · refine funext fun (i : Cert.Kernel2Ideal.S8192x1024.Idx) => ?_
      obtain ⟨r, e, rfl⟩ : ∃ (r : Fin 8192) (e : Fin 1024), i = ix2 r e := ⟨i 0, i 1, eq_ix2 i⟩
      refine (Cert.Reference2Ideal.Keys.flat_apply _ r e).trans ((Cert.Reference2Ideal.Keys.cut_apply _ _ r e).trans ?_)
      exact Finset.sum_congr rfl fun k _ => congrArg₂ (fun a b : EReal => a * b) (congrFun ha _) (congrFun hb _)
    · refine funext fun (i : Cert.Kernel2Ideal.S8x8192x128.Idx) => ?_
      obtain ⟨h, r, e, rfl⟩ : ∃ (h : Fin 8) (r : Fin 8192) (e : Fin 128), i = ix3 h r e := ⟨i 0, i 1, i 2, eq_ix3 i⟩
      refine (Cert.Reference2Ideal.Keys.heads_apply _ h r e).trans ((Cert.Reference2Ideal.Keys.cut_apply _ _ r _).trans ?_)
      exact Finset.sum_congr rfl fun k _ => congrArg₂ (fun a b : EReal => a * b) (congrFun ha _) (congrFun hb _)

end Cert.Proof

end
-- ==== Proof.Proj3.lean ====
/-
  The projection of the prompt's values of mixer A: grid point `t` multiplies 512 rows of the tokens by the 1024 columns of the weights
  from 2048 on; a second, transposed product goes to a buffer that is not returned. Over the extended reals the result is the reference's one product of the tokens by all the columns, cut
  and laid out.
-/
module

public import proofs.«01_k».proof.Defs
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import Idealize.ShloMosaic.Lib.Pipeline.Value
public import Idealize.ShloMosaic.Lib.Pointwise
public import Idealize.ShloMosaic.Lib.Quiescent
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Kernel3Ideal.Proj

open Cert.Kernel3Ideal Cert.Kernel3Ideal.Gen

variable (m : (ℓ : Loc nD τ sig) → Buf (Elt Ideal) ℓ)

/-- The tokens and the weights at launch. -/
abbrev X (c : Dev nD) : Vec Ideal S1x8192x2048 .f32 := m ((c : Thread nD τ).loc main_arg0)
abbrev W (c : Dev nD) : Vec Ideal S1x2048x11344 .f32 := m ((c : Thread nD τ).loc main_arg1)

/-- Coordinate `e` of token `r`: the token's row against column `2048 + e` of the weights. -/
def coord (c : Dev nD) (r : Fin 8192) (e : Fin 1024) : EReal :=
  ∑ k : Fin 2048, X m c (ix3 0 r k) * W m c (ix3 0 k ⟨2048 + e.val, by omega⟩)

/-- The result laid out as rows of tokens. -/
def rows (c : Dev nD) : Vec Ideal S8192x1024 .f32 := fun i => coord m c (i 0) (i 1)

/-- The tokens as the region finds them: flattened to rows. -/
theorem V_tokens (c : Dev nD) : V m c main_v1 = truncf (F := Ideal) .bf16 (shapeCast _ (X m c) shapeCasts_S1x8192x2048_S8192x2048) bitsLt_bf16_f32 := by
  show StableHlo.after hostOps0 (fun b => m (c, b)) (Proc.devRef .tc main_v1) = _
  after_results
  rfl

/-- The weights as the region finds them: the cut columns. -/
theorem V_weights (c : Dev nD) : V m c main_v4 = extractStridedSlice S2048x1024 ![0, 2048]
    (truncf (F := Ideal) .bf16 (shapeCast _ (W m c) shapeCasts_S1x2048x11344_S2048x11344) bitsLt_bf16_f32) slices_S2048x11344_S2048x1024_0_2048 := by
  show StableHlo.after hostOps0 (fun b => m (c, b)) (Proc.devRef .tc main_v4) = _
  after_results
  rfl

/-- Where each window's block sits at point `t`. -/
theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx3 : ∀ t : Fin cfg0.N, win0_3.index t (0 : Fin 2) = t.val ∧ win0_3.index t (1 : Fin 2) = 0 := (by decide +kernel : ∀ t : Fin grid0.N, _)

theorem point_lt (t : Fin cfg0.N) : t.val < 16 := lt_of_lt_of_eq t.isLt N_0

/-- The token block of point `t`, read at row `r`, column `k`. -/
theorem tokens_apply (c : Dev nD) (t : Fin cfg0.N) (r : Fin 512) (k : Fin 2048) :
    (iblk m c 0 t : Vec Ideal S512x2048 .bf16) (ix2 r k) = X m c (ix3 0 ⟨512 * t.val + r.val, by have := point_lt t; omega⟩ k) := by
  show V m c main_v1 (((cfg0.win 0).blk t).view.emb (ix2 r k)) = _
  have e : ((cfg0.win 0).blk t).view.emb (ix2 r k) = (ix2 ⟨512 * t.val + r.val, by have := point_lt t; omega⟩ k : S8192x2048.Idx) := by
    funext a; apply Fin.ext
    match a with
    | ⟨0, _⟩ => show win0_0.index t (0 : Fin 2) * 512 + 1 * r.val = 512 * t.val + r.val; have := (idx0 t).1; omega
    | ⟨1, _⟩ => show win0_0.index t (1 : Fin 2) * 2048 + 1 * k.val = k.val; have := (idx0 t).2; omega
  rw [e, V_tokens]
  pointwise

/-- The weight block, the same at every point, read at row `k`, column `e`. -/
theorem weights_apply (c : Dev nD) (t : Fin cfg0.N) (k : Fin 2048) (e : Fin 1024) :
    (iblk m c 1 t : Vec Ideal S2048x1024 .bf16) (ix2 k e) = W m c (ix3 0 k ⟨2048 + e.val, by omega⟩) := by
  show V m c main_v4 (((cfg0.win 1).blk t).view.emb (ix2 k e)) = _
  have he : ((cfg0.win 1).blk t).view.emb (ix2 k e) = (ix2 k e : S2048x1024.Idx) := by
    funext a; apply Fin.ext
    match a with
    | ⟨0, _⟩ => show win0_1.index t (0 : Fin 2) * 2048 + 1 * k.val = k.val; have := (idx1 t).1; omega
    | ⟨1, _⟩ => show win0_1.index t (1 : Fin 2) * 1024 + 1 * e.val = e.val; have := (idx1 t).2; omega
  rw [he, V_weights]
  pointwise

theorem hz : (![0, 0] : Fin 2 → Nat) = fun _ => 0 := funext fun a => by fin_cases a <;> rfl

/-- The stored value `k0_pay7` of two loaded blocks at an index: their product. -/
theorem k0_pay7_apply (P0 : Vec Ideal S512x2048 .bf16) (P1 : Vec Ideal S2048x1024 .bf16) (r : Fin 512) (e : Fin 1024) :
    k0_pay7 P0 P1 (ix2 r e) = ∑ k : Fin 2048, P0 (ix2 r k) * P1 (ix2 k e) := by
  pointwise [k0_pay7]

/-- At point `t` it is rows `512 t …` of the projection. -/
theorem k0_pay7_point (c : Dev nD) (t : Fin cfg0.N) (r : Fin 512) (e : Fin 1024) :
    k0_pay7 (iblk m c 0 t) (iblk m c 1 t) (ix2 r e)
      = coord m c ⟨512 * t.val + r.val, by have := point_lt t; omega⟩ e := by
  rw [k0_pay7_apply]
  exact Finset.sum_congr rfl fun k _ => by rw [tokens_apply, weights_apply]

/-- What the body leaves for the rows: its one store of the whole block, whose loads read the whole blocks. -/
theorem out_eq (c : Dev nD) (i : grid0.Coords) (arg1 : Memref sig .tc .vmem S512x2048 .bf16) (h1 : arg1.IsWhole) (arg2 : Memref sig .tc .vmem S2048x1024 .bf16) (h2 : arg2.IsWhole)
    (arg3 : Memref sig .tc .vmem S1024x2048 .bf16) (h3 : arg3.IsWhole) (arg4 : Memref sig .tc .vmem S512x1024 .f32) (h4 : arg4.IsWhole) (arg5 : Memref sig .tc .vmem S8x144x512 .bf16) (h5 : arg5.IsWhole)
    (x0 : Vec Ideal S512x2048 .bf16) (x1 : Vec Ideal S2048x1024 .bf16) (x2 : Vec Ideal S1024x2048 .bf16) :
    out0_A_3 c i arg1 h1 arg2 h2 arg3 h3 arg4 h4 arg5 h5 x0 x1 x2 = k0_pay7 x0 x1 := by
  unfold out0_A_3
  rw [View.read_writes_junk_eq_canon]
  show View.canon ([⟨Rect.unit ![0, 0] S512x1024.size inb_S512x1024_S512x1024_0_0,
      k0_pay7
        (View.readAt (Elt Ideal) arg1.view (Rect.unit ![0, 0] S512x2048.size inb_S512x2048_S512x2048_0_0).toLoadRect (h1.unread x0))
        (View.readAt (Elt Ideal) arg2.view (Rect.unit ![0, 0] S2048x1024.size inb_S2048x1024_S2048x1024_0_0).toLoadRect (h2.unread x1))⟩] :
      List (View.Piece (Elt Ideal) S512x1024 .f32)) = _
  rw [View.canon_unit_zero hz, View.readAt_eq_ld, View.readAt_eq_ld, h1.read_unread, h2.read_unread, View.ld_unit_zero hz, View.ld_unit_zero hz]

/-- Point `t` writes back its rows. -/
theorem flushed3_eq (c : Dev nD) (t : Fin cfg0.N) (hf : (cfg0.win 3).flush t = true) :
    (dats m 0 c).flushed 3 t = ((cfg0.win 3).blk t).view.read (Elt Ideal) (rows m c) := by
  rw [Value.flushed3_A]
  refine funext fun (j : S512x1024.Idx) => ?_
  obtain ⟨r, e, rfl⟩ : ∃ (r : Fin 512) (e : Fin 1024), j = ix2 r e := ⟨j 0, j 1, eq_ix2 j⟩
  show out0_A_3 _ _ _ _ _ _ _ _ _ _ _ _ (iblk m c 0 t) (iblk m c 1 t) (iblk m c 2 t) (ix2 r e) = rows m c (((cfg0.win 3).blk t).view.emb (ix2 r e))
  have he : ((cfg0.win 3).blk t).view.emb (ix2 r e) = (ix2 ⟨512 * t.val + r.val, by have := point_lt t; omega⟩ e : S8192x1024.Idx) := by
    funext a; apply Fin.ext
    match a with
    | ⟨0, _⟩ => show win0_3.index t (0 : Fin 2) * 512 + 1 * r.val = 512 * t.val + r.val; have := (idx3 t).1; omega
    | ⟨1, _⟩ => show win0_3.index t (1 : Fin 2) * 1024 + 1 * e.val = e.val; have := (idx3 t).2; omega
  rw [he]
  rw [out_eq]
  exact k0_pay7_point m c t r e

/-- Every row lies in some point's block. -/
theorem rows_eq (c : Dev nD) : (dats m 0 c).arrAt 3 cfg0.N = rows m c :=
  (dats m 0 c).arrAt_eq_of_cover 3 (rows m c) (flushed3_eq m c) fun i => by
    have h0 : (i 0 : Nat) < 8192 := (i 0).isLt
    have h1 : (i 1 : Nat) < 1024 := (i 1).isLt
    have hN : cfg0.N = 16 := N_0
    obtain ⟨t, ht⟩ : ∃ t : Fin cfg0.N, t.val = (i 0 : Nat) / 512 := ⟨⟨(i 0 : Nat) / 512, by rw [hN]; omega⟩, rfl⟩
    refine ⟨t, flush0_3 t, ?_⟩
    have h2 := idx3 t
    show i ∈ ((View.whole main_v9_0).slice (win0_3.rect t)).set
    rw [View.set_slice_whole, Rect.mem_set_unit]
    intro a
    match a with
    | ⟨0, _⟩ => show win0_3.index t (0 : Fin 2) * 512 ≤ (i 0 : Nat) ∧ (i 0 : Nat) < win0_3.index t (0 : Fin 2) * 512 + 512
                rw [h2.1]; omega
    | ⟨1, _⟩ => show win0_3.index t (1 : Fin 2) * 1024 ≤ (i 1 : Nat) ∧ (i 1 : Nat) < win0_3.index t (1 : Fin 2) * 1024 + 1024
                rw [h2.2]; omega

end Cert.Kernel3Ideal.Proj

namespace Cert.Reference3Ideal.Proj

open Cert.Reference3Ideal Cert.Reference3Ideal.Gen

/-- The reference's product of the tokens by every column, cut to these columns, at an index. -/
theorem cut_apply (x : Vec Ideal S1x8192x2048 .f32) (w : Vec Ideal S1x2048x11344 .f32) (r : Fin 8192) (e : Fin 1024) :
    extractStridedSlice S1x8192x1024 ![0, 0, 2048] (Host.dotGeneral (F := Ideal) (φ₁ := .f32) (φ₂ := .f32) dot_S1x8192x2048_S2048x11344_S1x8192x11344_2_0_01_1_n_n none x (shapeCast _ w shapeCasts_S1x2048x11344_S2048x11344)) slices_S1x8192x11344_S1x8192x1024_0_0_2048 (ix3 0 r e)
      = ∑ k : Fin 2048, x (ix3 0 r k) * w (ix3 0 k ⟨2048 + e.val, by omega⟩) := by
  pointwise

/-- The cut product laid out as rows of tokens. -/
theorem lay0 (v : Vec Ideal S1x8192x1024 .f32) (r : Fin 8192) (e : Fin 1024) :
    shapeCast S8192x1024 v shapeCasts_S1x8192x1024_S8192x1024 (ix2 r e) = v (ix3 0 r e) := by
  pointwise

end Cert.Reference3Ideal.Proj

namespace Cert.Proof

/-- The reference runs and leaves its arguments. -/
theorem frame_reference3 : Cert.quiescent_Reference3Ideal (hReference3Ideal := Cert.Reference3Ideal.Gen.facts) :=
  fun m ρ _ => (θ_run _ _ _).mono (fun r h => ⟨fun c => (h c).2, sem_eq_zero_of_no_sems rfl r.2⟩) (Cert.Reference3Ideal.Value.run m ρ)

/-- The projection's claim: what the kernel's call ends with is the reference's. -/
theorem algebraic3 : Cert.algebraic_Kernel3Ideal_Reference3Ideal (hKernel3Ideal := Cert.Kernel3Ideal.Gen.facts) (hReference3Ideal := Cert.Reference3Ideal.Gen.facts) := by
  intro m g m' g' _ hargs
  refine ⟨Cert.Kernel3Ideal.Proj.rows m, ?_, ?_⟩
  · refine (θ_run _ _ _).mono (fun r h c => ?_) (Cert.Kernel3Ideal.Value.run_blocks m g)
    obtain ⟨h3, h4, ha, hb⟩ := h c
    exact ⟨h3.trans (Cert.Kernel3Ideal.Proj.rows_eq m c), ha, hb⟩
  · refine (θ_run _ _ _).mono (fun r h c => ?_) (Cert.Reference3Ideal.Value.run m' g')
    obtain ⟨h0, hx, hw⟩ := h c
    obtain ⟨ha, hb⟩ := hargs c
    refine ⟨h0.trans ?_, hx, hw⟩
    · refine funext fun (i : Cert.Kernel3Ideal.S8192x1024.Idx) => ?_
      obtain ⟨r, e, rfl⟩ : ∃ (r : Fin 8192) (e : Fin 1024), i = ix2 r e := ⟨i 0, i 1, eq_ix2 i⟩
      refine (Cert.Reference3Ideal.Proj.lay0 _ r e).trans ((Cert.Reference3Ideal.Proj.cut_apply _ _ _ e).trans ?_)
      exact Finset.sum_congr rfl fun k _ => congrArg₂ (fun a b : EReal => a * b) (congrFun ha _) (congrFun hb _)

end Cert.Proof

end
-- ==== Proof.Proj4.lean ====
/-
  The projection of the prompt's keys of mixer B: grid point `t` multiplies 512 rows of the tokens by the 1024 columns of the weights
  from 4096 on, stored as rows and one plane a head. Over the extended reals the result is the reference's one product of the tokens by all the columns, cut
  and laid out.
-/
module

public import proofs.«01_k».proof.Defs
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import Idealize.ShloMosaic.Lib.Pipeline.Value
public import Idealize.ShloMosaic.Lib.Pointwise
public import Idealize.ShloMosaic.Lib.Quiescent
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Kernel4Ideal.Proj

open Cert.Kernel4Ideal Cert.Kernel4Ideal.Gen

variable (m : (ℓ : Loc nD τ sig) → Buf (Elt Ideal) ℓ)

/-- The tokens and the weights at launch. -/
abbrev X (c : Dev nD) : Vec Ideal S1x8192x2048 .f32 := m ((c : Thread nD τ).loc main_arg0)
abbrev W (c : Dev nD) : Vec Ideal S1x2048x11344 .f32 := m ((c : Thread nD τ).loc main_arg1)

/-- Coordinate `e` of token `r`: the token's row against column `4096 + e` of the weights. -/
def coord (c : Dev nD) (r : Fin 8192) (e : Fin 1024) : EReal :=
  ∑ k : Fin 2048, X m c (ix3 0 r k) * W m c (ix3 0 k ⟨4096 + e.val, by omega⟩)

/-- The result laid out as rows of tokens. -/
def rows (c : Dev nD) : Vec Ideal S8192x1024 .f32 := fun i => coord m c (i 0) (i 1)

/-- The result laid out one plane a head. -/
def heads (c : Dev nD) : Vec Ideal S8x8192x128 .bf16 := fun i =>
  coord m c (i 1) ⟨(i 0).val * 128 + (i 2).val, by
    have h0 : (i 0).val < 8 := (i 0).isLt
    have h2 : (i 2).val < 128 := (i 2).isLt
    omega⟩

/-- The tokens as the region finds them: flattened to rows. -/
theorem V_tokens (c : Dev nD) : V m c main_v1 = truncf (F := Ideal) .bf16 (shapeCast _ (X m c) shapeCasts_S1x8192x2048_S8192x2048) bitsLt_bf16_f32 := by
  show StableHlo.after hostOps0 (fun b => m (c, b)) (Proc.devRef .tc main_v1) = _
  after_results
  rfl

/-- The weights as the region finds them: the cut columns. -/
theorem V_weights (c : Dev nD) : V m c main_v4 = extractStridedSlice S2048x1024 ![0, 4096]
    (truncf (F := Ideal) .bf16 (shapeCast _ (W m c) shapeCasts_S1x2048x11344_S2048x11344) bitsLt_bf16_f32) slices_S2048x11344_S2048x1024_0_4096 := by
  show StableHlo.after hostOps0 (fun b => m (c, b)) (Proc.devRef .tc main_v4) = _
  after_results
  rfl

/-- Where each window's block sits at point `t`. -/
theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = t.val ∧ win0_2.index t (1 : Fin 2) = 0 := (by decide +kernel : ∀ t : Fin grid0.N, _)
theorem idx3 : ∀ t : Fin cfg0.N, win0_3.index t (0 : Fin 3) = 0 ∧ win0_3.index t (1 : Fin 3) = t.val ∧ win0_3.index t (2 : Fin 3) = 0 := (by decide +kernel : ∀ t : Fin grid0.N, _)

theorem point_lt (t : Fin cfg0.N) : t.val < 16 := lt_of_lt_of_eq t.isLt N_0

/-- The token block of point `t`, read at row `r`, column `k`. -/
theorem tokens_apply (c : Dev nD) (t : Fin cfg0.N) (r : Fin 512) (k : Fin 2048) :
    (iblk m c 0 t : Vec Ideal S512x2048 .bf16) (ix2 r k) = X m c (ix3 0 ⟨512 * t.val + r.val, by have := point_lt t; omega⟩ k) := by
  show V m c main_v1 (((cfg0.win 0).blk t).view.emb (ix2 r k)) = _
  have e : ((cfg0.win 0).blk t).view.emb (ix2 r k) = (ix2 ⟨512 * t.val + r.val, by have := point_lt t; omega⟩ k : S8192x2048.Idx) := by
    funext a; apply Fin.ext
    match a with
    | ⟨0, _⟩ => show win0_0.index t (0 : Fin 2) * 512 + 1 * r.val = 512 * t.val + r.val; have := (idx0 t).1; omega
    | ⟨1, _⟩ => show win0_0.index t (1 : Fin 2) * 2048 + 1 * k.val = k.val; have := (idx0 t).2; omega
  rw [e, V_tokens]
  pointwise

/-- The weight block, the same at every point, read at row `k`, column `e`. -/
theorem weights_apply (c : Dev nD) (t : Fin cfg0.N) (k : Fin 2048) (e : Fin 1024) :
    (iblk m c 1 t : Vec Ideal S2048x1024 .bf16) (ix2 k e) = W m c (ix3 0 k ⟨4096 + e.val, by omega⟩) := by
  show V m c main_v4 (((cfg0.win 1).blk t).view.emb (ix2 k e)) = _
  have he : ((cfg0.win 1).blk t).view.emb (ix2 k e) = (ix2 k e : S2048x1024.Idx) := by
    funext a; apply Fin.ext
    match a with
    | ⟨0, _⟩ => show win0_1.index t (0 : Fin 2) * 2048 + 1 * k.val = k.val; have := (idx1 t).1; omega
    | ⟨1, _⟩ => show win0_1.index t (1 : Fin 2) * 1024 + 1 * e.val = e.val; have := (idx1 t).2; omega
  rw [he, V_weights]
  pointwise

theorem hz : (![0, 0] : Fin 2 → Nat) = fun _ => 0 := funext fun a => by fin_cases a <;> rfl

/-- The stored value `k0_pay4` of two loaded blocks at an index: their product. -/
theorem k0_pay4_apply (P0 : Vec Ideal S512x2048 .bf16) (P1 : Vec Ideal S2048x1024 .bf16) (r : Fin 512) (e : Fin 1024) :
    k0_pay4 P0 P1 (ix2 r e) = ∑ k : Fin 2048, P0 (ix2 r k) * P1 (ix2 k e) := by
  pointwise [k0_pay4]

/-- At point `t` it is rows `512 t …` of the projection. -/
theorem k0_pay4_point (c : Dev nD) (t : Fin cfg0.N) (r : Fin 512) (e : Fin 1024) :
    k0_pay4 (View.ld (iblk m c 0 t) r0_0) (View.ld (iblk m c 1 t) r0_1) (ix2 r e)
      = coord m c ⟨512 * t.val + r.val, by have := point_lt t; omega⟩ e := by
  rw [View.ld_unit_zero (S := S512x2048) hz, View.ld_unit_zero (S := S2048x1024) hz, k0_pay4_apply]
  exact Finset.sum_congr rfl fun k _ => by rw [tokens_apply, weights_apply]

/-- Point `t` writes back its rows. -/
theorem flushed2_eq (c : Dev nD) (t : Fin cfg0.N) (hf : (cfg0.win 2).flush t = true) :
    (dats m 0 c).flushed 2 t = ((cfg0.win 2).blk t).view.read (Elt Ideal) (rows m c) := by
  rw [Value.flushed2]
  refine funext fun (j : S512x1024.Idx) => ?_
  obtain ⟨r, e, rfl⟩ : ∃ (r : Fin 512) (e : Fin 1024), j = ix2 r e := ⟨j 0, j 1, eq_ix2 j⟩
  show out0_2 (iblk m c 0 t) (iblk m c 1 t) (ix2 r e) = rows m c (((cfg0.win 2).blk t).view.emb (ix2 r e))
  have he : ((cfg0.win 2).blk t).view.emb (ix2 r e) = (ix2 ⟨512 * t.val + r.val, by have := point_lt t; omega⟩ e : S8192x1024.Idx) := by
    funext a; apply Fin.ext
    match a with
    | ⟨0, _⟩ => show win0_2.index t (0 : Fin 2) * 512 + 1 * r.val = 512 * t.val + r.val; have := (idx2 t).1; omega
    | ⟨1, _⟩ => show win0_2.index t (1 : Fin 2) * 1024 + 1 * e.val = e.val; have := (idx2 t).2; omega
  rw [he]
  unfold out0_2
  rw [View.canon_unit_zero hz]
  exact k0_pay4_point m c t r e

/-- Every row lies in some point's block. -/
theorem rows_eq (c : Dev nD) : (dats m 0 c).arrAt 2 cfg0.N = rows m c :=
  (dats m 0 c).arrAt_eq_of_cover 2 (rows m c) (flushed2_eq m c) fun i => by
    have h0 : (i 0 : Nat) < 8192 := (i 0).isLt
    have h1 : (i 1 : Nat) < 1024 := (i 1).isLt
    have hN : cfg0.N = 16 := N_0
    obtain ⟨t, ht⟩ : ∃ t : Fin cfg0.N, t.val = (i 0 : Nat) / 512 := ⟨⟨(i 0 : Nat) / 512, by rw [hN]; omega⟩, rfl⟩
    refine ⟨t, flush0_2 t, ?_⟩
    have h2 := idx2 t
    show i ∈ ((View.whole main_v5_0).slice (win0_2.rect t)).set
    rw [View.set_slice_whole, Rect.mem_set_unit]
    intro a
    match a with
    | ⟨0, _⟩ => show win0_2.index t (0 : Fin 2) * 512 ≤ (i 0 : Nat) ∧ (i 0 : Nat) < win0_2.index t (0 : Fin 2) * 512 + 512
                rw [h2.1]; omega
    | ⟨1, _⟩ => show win0_2.index t (1 : Fin 2) * 1024 ≤ (i 1 : Nat) ∧ (i 1 : Nat) < win0_2.index t (1 : Fin 2) * 1024 + 1024
                rw [h2.2]; omega

/-- Point `t` writes back its rows of every head's plane. -/
theorem flushed3_eq (c : Dev nD) (t : Fin cfg0.N) (hf : (cfg0.win 3).flush t = true) :
    (dats m 0 c).flushed 3 t = ((cfg0.win 3).blk t).view.read (Elt Ideal) (heads m c) := by
  rw [Value.flushed3]
  refine funext fun (j : S8x512x128.Idx) => ?_
  obtain ⟨h, r, e, rfl⟩ : ∃ (h : Fin 8) (r : Fin 512) (e : Fin 128), j = ix3 h r e := ⟨j 0, j 1, j 2, eq_ix3 j⟩
  show out0_3 (iblk m c 0 t) (iblk m c 1 t) (ix3 h r e) = heads m c (((cfg0.win 3).blk t).view.emb (ix3 h r e))
  have he : ((cfg0.win 3).blk t).view.emb (ix3 h r e) = (ix3 h ⟨512 * t.val + r.val, by have := point_lt t; omega⟩ e : S8x8192x128.Idx) := by
    funext a; apply Fin.ext
    match a with
    | ⟨0, _⟩ => show win0_3.index t (0 : Fin 3) * 8 + 1 * h.val = h.val; have := (idx3 t).1; omega
    | ⟨1, _⟩ => show win0_3.index t (1 : Fin 3) * 512 + 1 * r.val = 512 * t.val + r.val; have := (idx3 t).2.1; omega
    | ⟨2, _⟩ => show win0_3.index t (2 : Fin 3) * 128 + 1 * e.val = e.val; have := (idx3 t).2.2; omega
  rw [he]
  unfold_out out0_3
  refine (Value.canon3_eq _ _ _).trans ?_
  show k0_pay4 _ _ (Value.ix3_0 (ix3 h r e)) = _
  have hi : Value.ix3_0 (ix3 h r e) = (ix2 r ⟨h.val * 128 + e.val, by omega⟩ : S512x1024.Idx) := by
    funext a
    match a with
    | ⟨0, _⟩ => rfl
    | ⟨1, _⟩ => rfl
  rw [hi]
  exact k0_pay4_point m c t r _

/-- Every row of every head's plane lies in some point's block. -/
theorem heads_eq (c : Dev nD) : (dats m 0 c).arrAt 3 cfg0.N = heads m c :=
  (dats m 0 c).arrAt_eq_of_cover 3 (heads m c) (flushed3_eq m c) fun i => by
    have h0 : (i 0 : Nat) < 8 := (i 0).isLt
    have h1 : (i 1 : Nat) < 8192 := (i 1).isLt
    have h2 : (i 2 : Nat) < 128 := (i 2).isLt
    have hN : cfg0.N = 16 := N_0
    obtain ⟨t, ht⟩ : ∃ t : Fin cfg0.N, t.val = (i 1 : Nat) / 512 := ⟨⟨(i 1 : Nat) / 512, by rw [hN]; omega⟩, rfl⟩
    refine ⟨t, flush0_3 t, ?_⟩
    have h3 := idx3 t
    show i ∈ ((View.whole main_v5_1).slice (win0_3.rect t)).set
    rw [View.set_slice_whole, Rect.mem_set_unit]
    intro a
    match a with
    | ⟨0, _⟩ => show win0_3.index t (0 : Fin 3) * 8 ≤ (i 0 : Nat) ∧ (i 0 : Nat) < win0_3.index t (0 : Fin 3) * 8 + 8
                rw [h3.1]; omega
    | ⟨1, _⟩ => show win0_3.index t (1 : Fin 3) * 512 ≤ (i 1 : Nat) ∧ (i 1 : Nat) < win0_3.index t (1 : Fin 3) * 512 + 512
                rw [h3.2.1]; omega
    | ⟨2, _⟩ => show win0_3.index t (2 : Fin 3) * 128 ≤ (i 2 : Nat) ∧ (i 2 : Nat) < win0_3.index t (2 : Fin 3) * 128 + 128
                rw [h3.2.2]; omega

end Cert.Kernel4Ideal.Proj

namespace Cert.Reference4Ideal.Proj

open Cert.Reference4Ideal Cert.Reference4Ideal.Gen

/-- The reference's product of the tokens by every column, cut to these columns, at an index. -/
theorem cut_apply (x : Vec Ideal S1x8192x2048 .f32) (w : Vec Ideal S1x2048x11344 .f32) (r : Fin 8192) (e : Fin 1024) :
    extractStridedSlice S1x8192x1024 ![0, 0, 4096] (Host.dotGeneral (F := Ideal) (φ₁ := .f32) (φ₂ := .f32) dot_S1x8192x2048_S2048x11344_S1x8192x11344_2_0_01_1_n_n none x (shapeCast _ w shapeCasts_S1x2048x11344_S2048x11344)) slices_S1x8192x11344_S1x8192x1024_0_0_4096 (ix3 0 r e)
      = ∑ k : Fin 2048, x (ix3 0 r k) * w (ix3 0 k ⟨4096 + e.val, by omega⟩) := by
  pointwise

/-- The cut product laid out as rows of tokens. -/
theorem lay0 (v : Vec Ideal S1x8192x1024 .f32) (r : Fin 8192) (e : Fin 1024) :
    shapeCast S8192x1024 (shapeCast S1x8192x8x128 v shapeCasts_S1x8192x1024_S1x8192x8x128) shapeCasts_S1x8192x8x128_S8192x1024 (ix2 r e) = v (ix3 0 r e) := by
  pointwise

/-- The cut product laid out one plane a head. -/
theorem lay1 (v : Vec Ideal S1x8192x1024 .f32) (h : Fin 8) (r : Fin 8192) (e : Fin 128) :
    truncf (F := Ideal) .bf16 (transpose S8x8192x128 [1, 0, 2] (shapeCast S8192x8x128 (shapeCast S1x8192x8x128 v shapeCasts_S1x8192x1024_S1x8192x8x128) shapeCasts_S1x8192x8x128_S8192x8x128) transposes_S8192x8x128_S8x8192x128_1_0_2) bitsLt_bf16_f32 (ix3 h r e) = v (ix3 0 r ⟨h.val * 128 + e.val, by omega⟩) := by
  pointwise

end Cert.Reference4Ideal.Proj

namespace Cert.Proof

/-- The reference runs and leaves its arguments. -/
theorem frame_reference4 : Cert.quiescent_Reference4Ideal (hReference4Ideal := Cert.Reference4Ideal.Gen.facts) :=
  fun m ρ _ => (θ_run _ _ _).mono (fun r h => ⟨fun c => (h c).2.2, sem_eq_zero_of_no_sems rfl r.2⟩) (Cert.Reference4Ideal.Value.run m ρ)

/-- The projection's claim: what the kernel's call ends with is the reference's. -/
theorem algebraic4 : Cert.algebraic_Kernel4Ideal_Reference4Ideal (hKernel4Ideal := Cert.Kernel4Ideal.Gen.facts) (hReference4Ideal := Cert.Reference4Ideal.Gen.facts) := by
  intro m g m' g' _ hargs
  refine ⟨Cert.Kernel4Ideal.Proj.rows m, Cert.Kernel4Ideal.Proj.heads m, ?_, ?_⟩
  · refine (θ_run _ _ _).mono (fun r h c => ?_) (Cert.Kernel4Ideal.Value.run_blocks m g)
    obtain ⟨h2, h3, ha, hb⟩ := h c
    exact ⟨h2.trans (Cert.Kernel4Ideal.Proj.rows_eq m c), h3.trans (Cert.Kernel4Ideal.Proj.heads_eq m c), ha, hb⟩
  · refine (θ_run _ _ _).mono (fun r h c => ?_) (Cert.Reference4Ideal.Value.run m' g')
    obtain ⟨h0, h1, hx, hw⟩ := h c
    obtain ⟨ha, hb⟩ := hargs c
    refine ⟨h0.trans ?_, h1.trans ?_, hx, hw⟩
    · refine funext fun (i : Cert.Kernel4Ideal.S8192x1024.Idx) => ?_
      obtain ⟨r, e, rfl⟩ : ∃ (r : Fin 8192) (e : Fin 1024), i = ix2 r e := ⟨i 0, i 1, eq_ix2 i⟩
      refine (Cert.Reference4Ideal.Proj.lay0 _ r e).trans ((Cert.Reference4Ideal.Proj.cut_apply _ _ _ e).trans ?_)
      exact Finset.sum_congr rfl fun k _ => congrArg₂ (fun a b : EReal => a * b) (congrFun ha _) (congrFun hb _)
    · refine funext fun (i : Cert.Kernel4Ideal.S8x8192x128.Idx) => ?_
      obtain ⟨h, r, e, rfl⟩ : ∃ (h : Fin 8) (r : Fin 8192) (e : Fin 128), i = ix3 h r e := ⟨i 0, i 1, i 2, eq_ix3 i⟩
      refine (Cert.Reference4Ideal.Proj.lay1 _ h r e).trans ((Cert.Reference4Ideal.Proj.cut_apply _ _ _ _).trans ?_)
      exact Finset.sum_congr rfl fun k _ => congrArg₂ (fun a b : EReal => a * b) (congrFun ha _) (congrFun hb _)

end Cert.Proof

end
-- ==== Proof.Proj5.lean ====
/-
  The projection of the prompt's values of mixer B: grid point `t` multiplies 512 rows of the tokens by the 1024 columns of the weights
  from 5120 on; a second, transposed product goes to a buffer that is not returned. Over the extended reals the result is the reference's one product of the tokens by all the columns, cut
  and laid out.
-/
module

public import proofs.«01_k».proof.Defs
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import Idealize.ShloMosaic.Lib.Pipeline.Value
public import Idealize.ShloMosaic.Lib.Pointwise
public import Idealize.ShloMosaic.Lib.Quiescent
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Kernel5Ideal.Proj

open Cert.Kernel5Ideal Cert.Kernel5Ideal.Gen

variable (m : (ℓ : Loc nD τ sig) → Buf (Elt Ideal) ℓ)

/-- The tokens and the weights at launch. -/
abbrev X (c : Dev nD) : Vec Ideal S1x8192x2048 .f32 := m ((c : Thread nD τ).loc main_arg0)
abbrev W (c : Dev nD) : Vec Ideal S1x2048x11344 .f32 := m ((c : Thread nD τ).loc main_arg1)

/-- Coordinate `e` of token `r`: the token's row against column `5120 + e` of the weights. -/
def coord (c : Dev nD) (r : Fin 8192) (e : Fin 1024) : EReal :=
  ∑ k : Fin 2048, X m c (ix3 0 r k) * W m c (ix3 0 k ⟨5120 + e.val, by omega⟩)

/-- The result laid out as rows of tokens. -/
def rows (c : Dev nD) : Vec Ideal S8192x1024 .f32 := fun i => coord m c (i 0) (i 1)

/-- The tokens as the region finds them: flattened to rows. -/
theorem V_tokens (c : Dev nD) : V m c main_v1 = truncf (F := Ideal) .bf16 (shapeCast _ (X m c) shapeCasts_S1x8192x2048_S8192x2048) bitsLt_bf16_f32 := by
  show StableHlo.after hostOps0 (fun b => m (c, b)) (Proc.devRef .tc main_v1) = _
  after_results
  rfl

/-- The weights as the region finds them: the cut columns. -/
theorem V_weights (c : Dev nD) : V m c main_v4 = extractStridedSlice S2048x1024 ![0, 5120]
    (truncf (F := Ideal) .bf16 (shapeCast _ (W m c) shapeCasts_S1x2048x11344_S2048x11344) bitsLt_bf16_f32) slices_S2048x11344_S2048x1024_0_5120 := by
  show StableHlo.after hostOps0 (fun b => m (c, b)) (Proc.devRef .tc main_v4) = _
  after_results
  rfl

/-- Where each window's block sits at point `t`. -/
theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx3 : ∀ t : Fin cfg0.N, win0_3.index t (0 : Fin 2) = t.val ∧ win0_3.index t (1 : Fin 2) = 0 := (by decide +kernel : ∀ t : Fin grid0.N, _)

theorem point_lt (t : Fin cfg0.N) : t.val < 16 := lt_of_lt_of_eq t.isLt N_0

/-- The token block of point `t`, read at row `r`, column `k`. -/
theorem tokens_apply (c : Dev nD) (t : Fin cfg0.N) (r : Fin 512) (k : Fin 2048) :
    (iblk m c 0 t : Vec Ideal S512x2048 .bf16) (ix2 r k) = X m c (ix3 0 ⟨512 * t.val + r.val, by have := point_lt t; omega⟩ k) := by
  show V m c main_v1 (((cfg0.win 0).blk t).view.emb (ix2 r k)) = _
  have e : ((cfg0.win 0).blk t).view.emb (ix2 r k) = (ix2 ⟨512 * t.val + r.val, by have := point_lt t; omega⟩ k : S8192x2048.Idx) := by
    funext a; apply Fin.ext
    match a with
    | ⟨0, _⟩ => show win0_0.index t (0 : Fin 2) * 512 + 1 * r.val = 512 * t.val + r.val; have := (idx0 t).1; omega
    | ⟨1, _⟩ => show win0_0.index t (1 : Fin 2) * 2048 + 1 * k.val = k.val; have := (idx0 t).2; omega
  rw [e, V_tokens]
  pointwise

/-- The weight block, the same at every point, read at row `k`, column `e`. -/
theorem weights_apply (c : Dev nD) (t : Fin cfg0.N) (k : Fin 2048) (e : Fin 1024) :
    (iblk m c 1 t : Vec Ideal S2048x1024 .bf16) (ix2 k e) = W m c (ix3 0 k ⟨5120 + e.val, by omega⟩) := by
  show V m c main_v4 (((cfg0.win 1).blk t).view.emb (ix2 k e)) = _
  have he : ((cfg0.win 1).blk t).view.emb (ix2 k e) = (ix2 k e : S2048x1024.Idx) := by
    funext a; apply Fin.ext
    match a with
    | ⟨0, _⟩ => show win0_1.index t (0 : Fin 2) * 2048 + 1 * k.val = k.val; have := (idx1 t).1; omega
    | ⟨1, _⟩ => show win0_1.index t (1 : Fin 2) * 1024 + 1 * e.val = e.val; have := (idx1 t).2; omega
  rw [he, V_weights]
  pointwise

theorem hz : (![0, 0] : Fin 2 → Nat) = fun _ => 0 := funext fun a => by fin_cases a <;> rfl

/-- The stored value `k0_pay7` of two loaded blocks at an index: their product. -/
theorem k0_pay7_apply (P0 : Vec Ideal S512x2048 .bf16) (P1 : Vec Ideal S2048x1024 .bf16) (r : Fin 512) (e : Fin 1024) :
    k0_pay7 P0 P1 (ix2 r e) = ∑ k : Fin 2048, P0 (ix2 r k) * P1 (ix2 k e) := by
  pointwise [k0_pay7]

/-- At point `t` it is rows `512 t …` of the projection. -/
theorem k0_pay7_point (c : Dev nD) (t : Fin cfg0.N) (r : Fin 512) (e : Fin 1024) :
    k0_pay7 (iblk m c 0 t) (iblk m c 1 t) (ix2 r e)
      = coord m c ⟨512 * t.val + r.val, by have := point_lt t; omega⟩ e := by
  rw [k0_pay7_apply]
  exact Finset.sum_congr rfl fun k _ => by rw [tokens_apply, weights_apply]

/-- What the body leaves for the rows: its one store of the whole block, whose loads read the whole blocks. -/
theorem out_eq (c : Dev nD) (i : grid0.Coords) (arg1 : Memref sig .tc .vmem S512x2048 .bf16) (h1 : arg1.IsWhole) (arg2 : Memref sig .tc .vmem S2048x1024 .bf16) (h2 : arg2.IsWhole)
    (arg3 : Memref sig .tc .vmem S1024x2048 .bf16) (h3 : arg3.IsWhole) (arg4 : Memref sig .tc .vmem S512x1024 .f32) (h4 : arg4.IsWhole) (arg5 : Memref sig .tc .vmem S8x144x512 .bf16) (h5 : arg5.IsWhole)
    (x0 : Vec Ideal S512x2048 .bf16) (x1 : Vec Ideal S2048x1024 .bf16) (x2 : Vec Ideal S1024x2048 .bf16) :
    out0_A_3 c i arg1 h1 arg2 h2 arg3 h3 arg4 h4 arg5 h5 x0 x1 x2 = k0_pay7 x0 x1 := by
  unfold out0_A_3
  rw [View.read_writes_junk_eq_canon]
  show View.canon ([⟨Rect.unit ![0, 0] S512x1024.size inb_S512x1024_S512x1024_0_0,
      k0_pay7
        (View.readAt (Elt Ideal) arg1.view (Rect.unit ![0, 0] S512x2048.size inb_S512x2048_S512x2048_0_0).toLoadRect (h1.unread x0))
        (View.readAt (Elt Ideal) arg2.view (Rect.unit ![0, 0] S2048x1024.size inb_S2048x1024_S2048x1024_0_0).toLoadRect (h2.unread x1))⟩] :
      List (View.Piece (Elt Ideal) S512x1024 .f32)) = _
  rw [View.canon_unit_zero hz, View.readAt_eq_ld, View.readAt_eq_ld, h1.read_unread, h2.read_unread, View.ld_unit_zero hz, View.ld_unit_zero hz]

/-- Point `t` writes back its rows. -/
theorem flushed3_eq (c : Dev nD) (t : Fin cfg0.N) (hf : (cfg0.win 3).flush t = true) :
    (dats m 0 c).flushed 3 t = ((cfg0.win 3).blk t).view.read (Elt Ideal) (rows m c) := by
  rw [Value.flushed3_A]
  refine funext fun (j : S512x1024.Idx) => ?_
  obtain ⟨r, e, rfl⟩ : ∃ (r : Fin 512) (e : Fin 1024), j = ix2 r e := ⟨j 0, j 1, eq_ix2 j⟩
  show out0_A_3 _ _ _ _ _ _ _ _ _ _ _ _ (iblk m c 0 t) (iblk m c 1 t) (iblk m c 2 t) (ix2 r e) = rows m c (((cfg0.win 3).blk t).view.emb (ix2 r e))
  have he : ((cfg0.win 3).blk t).view.emb (ix2 r e) = (ix2 ⟨512 * t.val + r.val, by have := point_lt t; omega⟩ e : S8192x1024.Idx) := by
    funext a; apply Fin.ext
    match a with
    | ⟨0, _⟩ => show win0_3.index t (0 : Fin 2) * 512 + 1 * r.val = 512 * t.val + r.val; have := (idx3 t).1; omega
    | ⟨1, _⟩ => show win0_3.index t (1 : Fin 2) * 1024 + 1 * e.val = e.val; have := (idx3 t).2; omega
  rw [he]
  rw [out_eq]
  exact k0_pay7_point m c t r e

/-- Every row lies in some point's block. -/
theorem rows_eq (c : Dev nD) : (dats m 0 c).arrAt 3 cfg0.N = rows m c :=
  (dats m 0 c).arrAt_eq_of_cover 3 (rows m c) (flushed3_eq m c) fun i => by
    have h0 : (i 0 : Nat) < 8192 := (i 0).isLt
    have h1 : (i 1 : Nat) < 1024 := (i 1).isLt
    have hN : cfg0.N = 16 := N_0
    obtain ⟨t, ht⟩ : ∃ t : Fin cfg0.N, t.val = (i 0 : Nat) / 512 := ⟨⟨(i 0 : Nat) / 512, by rw [hN]; omega⟩, rfl⟩
    refine ⟨t, flush0_3 t, ?_⟩
    have h2 := idx3 t
    show i ∈ ((View.whole main_v9_0).slice (win0_3.rect t)).set
    rw [View.set_slice_whole, Rect.mem_set_unit]
    intro a
    match a with
    | ⟨0, _⟩ => show win0_3.index t (0 : Fin 2) * 512 ≤ (i 0 : Nat) ∧ (i 0 : Nat) < win0_3.index t (0 : Fin 2) * 512 + 512
                rw [h2.1]; omega
    | ⟨1, _⟩ => show win0_3.index t (1 : Fin 2) * 1024 ≤ (i 1 : Nat) ∧ (i 1 : Nat) < win0_3.index t (1 : Fin 2) * 1024 + 1024
                rw [h2.2]; omega

end Cert.Kernel5Ideal.Proj

namespace Cert.Reference5Ideal.Proj

open Cert.Reference5Ideal Cert.Reference5Ideal.Gen

/-- The reference's product of the tokens by every column, cut to these columns, at an index. -/
theorem cut_apply (x : Vec Ideal S1x8192x2048 .f32) (w : Vec Ideal S1x2048x11344 .f32) (r : Fin 8192) (e : Fin 1024) :
    extractStridedSlice S1x8192x1024 ![0, 0, 5120] (Host.dotGeneral (F := Ideal) (φ₁ := .f32) (φ₂ := .f32) dot_S1x8192x2048_S2048x11344_S1x8192x11344_2_0_01_1_n_n none x (shapeCast _ w shapeCasts_S1x2048x11344_S2048x11344)) slices_S1x8192x11344_S1x8192x1024_0_0_5120 (ix3 0 r e)
      = ∑ k : Fin 2048, x (ix3 0 r k) * w (ix3 0 k ⟨5120 + e.val, by omega⟩) := by
  pointwise

/-- The cut product laid out as rows of tokens. -/
theorem lay0 (v : Vec Ideal S1x8192x1024 .f32) (r : Fin 8192) (e : Fin 1024) :
    shapeCast S8192x1024 v shapeCasts_S1x8192x1024_S8192x1024 (ix2 r e) = v (ix3 0 r e) := by
  pointwise

end Cert.Reference5Ideal.Proj

namespace Cert.Proof

/-- The reference runs and leaves its arguments. -/
theorem frame_reference5 : Cert.quiescent_Reference5Ideal (hReference5Ideal := Cert.Reference5Ideal.Gen.facts) :=
  fun m ρ _ => (θ_run _ _ _).mono (fun r h => ⟨fun c => (h c).2, sem_eq_zero_of_no_sems rfl r.2⟩) (Cert.Reference5Ideal.Value.run m ρ)

/-- The projection's claim: what the kernel's call ends with is the reference's. -/
theorem algebraic5 : Cert.algebraic_Kernel5Ideal_Reference5Ideal (hKernel5Ideal := Cert.Kernel5Ideal.Gen.facts) (hReference5Ideal := Cert.Reference5Ideal.Gen.facts) := by
  intro m g m' g' _ hargs
  refine ⟨Cert.Kernel5Ideal.Proj.rows m, ?_, ?_⟩
  · refine (θ_run _ _ _).mono (fun r h c => ?_) (Cert.Kernel5Ideal.Value.run_blocks m g)
    obtain ⟨h3, h4, ha, hb⟩ := h c
    exact ⟨h3.trans (Cert.Kernel5Ideal.Proj.rows_eq m c), ha, hb⟩
  · refine (θ_run _ _ _).mono (fun r h c => ?_) (Cert.Reference5Ideal.Value.run m' g')
    obtain ⟨h0, hx, hw⟩ := h c
    obtain ⟨ha, hb⟩ := hargs c
    refine ⟨h0.trans ?_, hx, hw⟩
    · refine funext fun (i : Cert.Kernel5Ideal.S8192x1024.Idx) => ?_
      obtain ⟨r, e, rfl⟩ : ∃ (r : Fin 8192) (e : Fin 1024), i = ix2 r e := ⟨i 0, i 1, eq_ix2 i⟩
      refine (Cert.Reference5Ideal.Proj.lay0 _ r e).trans ((Cert.Reference5Ideal.Proj.cut_apply _ _ _ e).trans ?_)
      exact Finset.sum_congr rfl fun k _ => congrArg₂ (fun a b : EReal => a * b) (congrFun ha _) (congrFun hb _)

end Cert.Proof

end
-- ==== Proof.Proj6.lean ====
/-
  The projection of the prompt's indexer keys: grid point `t` multiplies 512 rows of the tokens by the 64 columns of the weights
  from 7168 on (with 16 more columns and 48 of zeros). Over the extended reals the result is the reference's one product of the tokens by all the columns, cut
  and laid out.
-/
module

public import proofs.«01_k».proof.Defs
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import Idealize.ShloMosaic.Lib.Pipeline.Value
public import Idealize.ShloMosaic.Lib.Pointwise
public import Idealize.ShloMosaic.Lib.Quiescent
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Kernel6Ideal.Proj

open Cert.Kernel6Ideal Cert.Kernel6Ideal.Gen

variable (m : (ℓ : Loc nD τ sig) → Buf (Elt Ideal) ℓ)

/-- The tokens and the weights at launch. -/
abbrev X (c : Dev nD) : Vec Ideal S1x8192x2048 .f32 := m ((c : Thread nD τ).loc main_arg0)
abbrev W (c : Dev nD) : Vec Ideal S1x2048x11344 .f32 := m ((c : Thread nD τ).loc main_arg1)

/-- Coordinate `e` of token `r`: the token's row against column `7168 + e` of the weights. -/
def coord (c : Dev nD) (r : Fin 8192) (e : Fin 64) : EReal :=
  ∑ k : Fin 2048, X m c (ix3 0 r k) * W m c (ix3 0 k ⟨7168 + e.val, by omega⟩)

/-- The result laid out as rows of tokens. -/
def rows (c : Dev nD) : Vec Ideal S8192x64 .f32 := fun i => coord m c (i 0) (i 1)

/-- The result laid out as rows of tokens. -/
def rowsb (c : Dev nD) : Vec Ideal S8192x64 .bf16 := fun i => coord m c (i 0) (i 1)

/-- The tokens as the region finds them: flattened to rows. -/
theorem V_tokens (c : Dev nD) : V m c main_v1 = truncf (F := Ideal) .bf16 (shapeCast _ (X m c) shapeCasts_S1x8192x2048_S8192x2048) bitsLt_bf16_f32 := by
  show StableHlo.after hostOps0 (fun b => m (c, b)) (Proc.devRef .tc main_v1) = _
  after_results
  rfl

/-- The weights as the region finds them: the cut columns, filled up with zeros. -/
theorem V_weights (c : Dev nD) : V m c main_v6 = truncf (F := Ideal) .bf16 (concatenate S2048x128 1
    [⟨S2048x80, extractStridedSlice S2048x80 ![0, 7168] (shapeCast _ (W m c) shapeCasts_S1x2048x11344_S2048x11344) slices_S2048x11344_S2048x80_0_7168⟩,
      ⟨S2048x48, broadcastInDim S2048x48 ![] bcast_S_S2048x48 (constant (F := Ideal) S_ .f32 0x00000000#32)⟩] concatenates_S2048x80_S2048x48_S2048x128_d1) bitsLt_bf16_f32 := by
  show StableHlo.after hostOps0 (fun b => m (c, b)) (Proc.devRef .tc main_v6) = _
  after_results
  rfl

/-- Where each window's block sits at point `t`. -/
theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx3 : ∀ t : Fin cfg0.N, win0_3.index t (0 : Fin 2) = t.val ∧ win0_3.index t (1 : Fin 2) = 0 := (by decide +kernel : ∀ t : Fin grid0.N, _)
theorem idx4 : ∀ t : Fin cfg0.N, win0_4.index t (0 : Fin 2) = t.val ∧ win0_4.index t (1 : Fin 2) = 0 := (by decide +kernel : ∀ t : Fin grid0.N, _)

theorem point_lt (t : Fin cfg0.N) : t.val < 16 := lt_of_lt_of_eq t.isLt N_0

/-- The token block of point `t`, read at row `r`, column `k`. -/
theorem tokens_apply (c : Dev nD) (t : Fin cfg0.N) (r : Fin 512) (k : Fin 2048) :
    (iblk m c 0 t : Vec Ideal S512x2048 .bf16) (ix2 r k) = X m c (ix3 0 ⟨512 * t.val + r.val, by have := point_lt t; omega⟩ k) := by
  show V m c main_v1 (((cfg0.win 0).blk t).view.emb (ix2 r k)) = _
  have e : ((cfg0.win 0).blk t).view.emb (ix2 r k) = (ix2 ⟨512 * t.val + r.val, by have := point_lt t; omega⟩ k : S8192x2048.Idx) := by
    funext a; apply Fin.ext
    match a with
    | ⟨0, _⟩ => show win0_0.index t (0 : Fin 2) * 512 + 1 * r.val = 512 * t.val + r.val; have := (idx0 t).1; omega
    | ⟨1, _⟩ => show win0_0.index t (1 : Fin 2) * 2048 + 1 * k.val = k.val; have := (idx0 t).2; omega
  rw [e, V_tokens]
  pointwise

/-- The weight block, the same at every point, read at row `k`, column `e`. -/
theorem weights_apply (c : Dev nD) (t : Fin cfg0.N) (k : Fin 2048) (e : Fin 64) :
    (iblk m c 1 t : Vec Ideal S2048x128 .bf16) (ix2 k ⟨e.val, by omega⟩) = W m c (ix3 0 k ⟨7168 + e.val, by omega⟩) := by
  show V m c main_v6 (((cfg0.win 1).blk t).view.emb (ix2 k ⟨e.val, by omega⟩)) = _
  have he : ((cfg0.win 1).blk t).view.emb (ix2 k ⟨e.val, by omega⟩) = (ix2 k ⟨e.val, by omega⟩ : S2048x128.Idx) := by
    funext a; apply Fin.ext
    match a with
    | ⟨0, _⟩ => show win0_1.index t (0 : Fin 2) * 2048 + 1 * k.val = k.val; have := (idx1 t).1; omega
    | ⟨1, _⟩ => show win0_1.index t (1 : Fin 2) * 128 + 1 * e.val = e.val; have := (idx1 t).2; omega
  rw [he, V_weights]
  have h80 : e.val < 80 := by omega
  pointwise
  exact dif_pos h80

theorem hz : (![0, 0] : Fin 2 → Nat) = fun _ => 0 := funext fun a => by fin_cases a <;> rfl

/-- The stored value `k0_pay2` of two loaded blocks at an index: their product. -/
theorem k0_pay2_apply (P0 : Vec Ideal S512x2048 .bf16) (P1 : Vec Ideal S2048x128 .bf16) (r : Fin 512) (e : Fin 64) :
    k0_pay2 P0 P1 (ix2 r e) = ∑ k : Fin 2048, P0 (ix2 r k) * P1 (ix2 k ⟨e.val, by omega⟩) := by
  pointwise [k0_pay2, k0_pay1]

/-- At point `t` it is rows `512 t …` of the projection. -/
theorem k0_pay2_point (c : Dev nD) (t : Fin cfg0.N) (r : Fin 512) (e : Fin 64) :
    k0_pay2 (View.ld (iblk m c 0 t) r0_0) (View.ld (iblk m c 1 t) r0_1) (ix2 r e)
      = coord m c ⟨512 * t.val + r.val, by have := point_lt t; omega⟩ e := by
  rw [View.ld_unit_zero (S := S512x2048) hz, View.ld_unit_zero (S := S2048x128) hz, k0_pay2_apply]
  exact Finset.sum_congr rfl fun k _ => by rw [tokens_apply, weights_apply]

/-- The stored value `k0_pay3` of two loaded blocks at an index: their product. -/
theorem k0_pay3_apply (P0 : Vec Ideal S512x2048 .bf16) (P1 : Vec Ideal S2048x128 .bf16) (r : Fin 512) (e : Fin 64) :
    k0_pay3 P0 P1 (ix2 r e) = ∑ k : Fin 2048, P0 (ix2 r k) * P1 (ix2 k ⟨e.val, by omega⟩) := by
  pointwise [k0_pay3, k0_pay1]

/-- At point `t` it is rows `512 t …` of the projection. -/
theorem k0_pay3_point (c : Dev nD) (t : Fin cfg0.N) (r : Fin 512) (e : Fin 64) :
    k0_pay3 (View.ld (iblk m c 0 t) r0_0) (View.ld (iblk m c 1 t) r0_1) (ix2 r e)
      = coord m c ⟨512 * t.val + r.val, by have := point_lt t; omega⟩ e := by
  rw [View.ld_unit_zero (S := S512x2048) hz, View.ld_unit_zero (S := S2048x128) hz, k0_pay3_apply]
  exact Finset.sum_congr rfl fun k _ => by rw [tokens_apply, weights_apply]

/-- Point `t` writes back its rows. -/
theorem flushed3_eq (c : Dev nD) (t : Fin cfg0.N) (hf : (cfg0.win 3).flush t = true) :
    (dats m 0 c).flushed 3 t = ((cfg0.win 3).blk t).view.read (Elt Ideal) (rows m c) := by
  rw [Value.flushed3]
  refine funext fun (j : S512x64.Idx) => ?_
  obtain ⟨r, e, rfl⟩ : ∃ (r : Fin 512) (e : Fin 64), j = ix2 r e := ⟨j 0, j 1, eq_ix2 j⟩
  show out0_3 (iblk m c 0 t) (iblk m c 1 t) (ix2 r e) = rows m c (((cfg0.win 3).blk t).view.emb (ix2 r e))
  have he : ((cfg0.win 3).blk t).view.emb (ix2 r e) = (ix2 ⟨512 * t.val + r.val, by have := point_lt t; omega⟩ e : S8192x64.Idx) := by
    funext a; apply Fin.ext
    match a with
    | ⟨0, _⟩ => show win0_3.index t (0 : Fin 2) * 512 + 1 * r.val = 512 * t.val + r.val; have := (idx3 t).1; omega
    | ⟨1, _⟩ => show win0_3.index t (1 : Fin 2) * 64 + 1 * e.val = e.val; have := (idx3 t).2; omega
  rw [he]
  unfold out0_3
  rw [View.canon_unit_zero hz]
  exact k0_pay2_point m c t r e

/-- Every row lies in some point's block. -/
theorem rows_eq (c : Dev nD) : (dats m 0 c).arrAt 3 cfg0.N = rows m c :=
  (dats m 0 c).arrAt_eq_of_cover 3 (rows m c) (flushed3_eq m c) fun i => by
    have h0 : (i 0 : Nat) < 8192 := (i 0).isLt
    have h1 : (i 1 : Nat) < 64 := (i 1).isLt
    have hN : cfg0.N = 16 := N_0
    obtain ⟨t, ht⟩ : ∃ t : Fin cfg0.N, t.val = (i 0 : Nat) / 512 := ⟨⟨(i 0 : Nat) / 512, by rw [hN]; omega⟩, rfl⟩
    refine ⟨t, flush0_3 t, ?_⟩
    have h2 := idx3 t
    show i ∈ ((View.whole main_v7_1).slice (win0_3.rect t)).set
    rw [View.set_slice_whole, Rect.mem_set_unit]
    intro a
    match a with
    | ⟨0, _⟩ => show win0_3.index t (0 : Fin 2) * 512 ≤ (i 0 : Nat) ∧ (i 0 : Nat) < win0_3.index t (0 : Fin 2) * 512 + 512
                rw [h2.1]; omega
    | ⟨1, _⟩ => show win0_3.index t (1 : Fin 2) * 64 ≤ (i 1 : Nat) ∧ (i 1 : Nat) < win0_3.index t (1 : Fin 2) * 64 + 64
                rw [h2.2]; omega

/-- Point `t` writes back its rows. -/
theorem flushed4_eq (c : Dev nD) (t : Fin cfg0.N) (hf : (cfg0.win 4).flush t = true) :
    (dats m 0 c).flushed 4 t = ((cfg0.win 4).blk t).view.read (Elt Ideal) (rowsb m c) := by
  rw [Value.flushed4]
  refine funext fun (j : S512x64.Idx) => ?_
  obtain ⟨r, e, rfl⟩ : ∃ (r : Fin 512) (e : Fin 64), j = ix2 r e := ⟨j 0, j 1, eq_ix2 j⟩
  show out0_4 (iblk m c 0 t) (iblk m c 1 t) (ix2 r e) = rowsb m c (((cfg0.win 4).blk t).view.emb (ix2 r e))
  have he : ((cfg0.win 4).blk t).view.emb (ix2 r e) = (ix2 ⟨512 * t.val + r.val, by have := point_lt t; omega⟩ e : S8192x64.Idx) := by
    funext a; apply Fin.ext
    match a with
    | ⟨0, _⟩ => show win0_4.index t (0 : Fin 2) * 512 + 1 * r.val = 512 * t.val + r.val; have := (idx4 t).1; omega
    | ⟨1, _⟩ => show win0_4.index t (1 : Fin 2) * 64 + 1 * e.val = e.val; have := (idx4 t).2; omega
  rw [he]
  unfold out0_4
  rw [View.canon_unit_zero hz]
  exact k0_pay3_point m c t r e

/-- Every row lies in some point's block. -/
theorem rowsb_eq (c : Dev nD) : (dats m 0 c).arrAt 4 cfg0.N = rowsb m c :=
  (dats m 0 c).arrAt_eq_of_cover 4 (rowsb m c) (flushed4_eq m c) fun i => by
    have h0 : (i 0 : Nat) < 8192 := (i 0).isLt
    have h1 : (i 1 : Nat) < 64 := (i 1).isLt
    have hN : cfg0.N = 16 := N_0
    obtain ⟨t, ht⟩ : ∃ t : Fin cfg0.N, t.val = (i 0 : Nat) / 512 := ⟨⟨(i 0 : Nat) / 512, by rw [hN]; omega⟩, rfl⟩
    refine ⟨t, flush0_4 t, ?_⟩
    have h2 := idx4 t
    show i ∈ ((View.whole main_v7_2).slice (win0_4.rect t)).set
    rw [View.set_slice_whole, Rect.mem_set_unit]
    intro a
    match a with
    | ⟨0, _⟩ => show win0_4.index t (0 : Fin 2) * 512 ≤ (i 0 : Nat) ∧ (i 0 : Nat) < win0_4.index t (0 : Fin 2) * 512 + 512
                rw [h2.1]; omega
    | ⟨1, _⟩ => show win0_4.index t (1 : Fin 2) * 64 ≤ (i 1 : Nat) ∧ (i 1 : Nat) < win0_4.index t (1 : Fin 2) * 64 + 64
                rw [h2.2]; omega

end Cert.Kernel6Ideal.Proj

namespace Cert.Reference6Ideal.Proj

open Cert.Reference6Ideal Cert.Reference6Ideal.Gen

/-- The reference's product of the tokens by every column, cut to these columns, at an index. -/
theorem cut_apply (x : Vec Ideal S1x8192x2048 .f32) (w : Vec Ideal S1x2048x11344 .f32) (r : Fin 8192) (e : Fin 64) :
    extractStridedSlice S1x8192x64 ![0, 0, 7168] (Host.dotGeneral (F := Ideal) (φ₁ := .f32) (φ₂ := .f32) dot_S1x8192x2048_S2048x11344_S1x8192x11344_2_0_01_1_n_n none x (shapeCast _ w shapeCasts_S1x2048x11344_S2048x11344)) slices_S1x8192x11344_S1x8192x64_0_0_7168 (ix3 0 r e)
      = ∑ k : Fin 2048, x (ix3 0 r k) * w (ix3 0 k ⟨7168 + e.val, by omega⟩) := by
  pointwise

/-- The cut product laid out as rows of tokens. -/
theorem lay0 (v : Vec Ideal S1x8192x64 .f32) (r : Fin 8192) (e : Fin 64) :
    shapeCast S8192x64 v shapeCasts_S1x8192x64_S8192x64 (ix2 r e) = v (ix3 0 r e) := by
  pointwise

/-- The cut product laid out as rows of tokens. -/
theorem lay1 (v : Vec Ideal S1x8192x64 .f32) (r : Fin 8192) (e : Fin 64) :
    truncf (F := Ideal) .bf16 (shapeCast S8192x64 v shapeCasts_S1x8192x64_S8192x64) bitsLt_bf16_f32 (ix2 r e) = v (ix3 0 r e) := by
  pointwise

end Cert.Reference6Ideal.Proj

namespace Cert.Proof

/-- The reference runs and leaves its arguments. -/
theorem frame_reference6 : Cert.quiescent_Reference6Ideal (hReference6Ideal := Cert.Reference6Ideal.Gen.facts) :=
  fun m ρ _ => (θ_run _ _ _).mono (fun r h => ⟨fun c => (h c).2.2, sem_eq_zero_of_no_sems rfl r.2⟩) (Cert.Reference6Ideal.Value.run m ρ)

/-- The projection's claim: what the kernel's call ends with is the reference's. -/
theorem algebraic6 : Cert.algebraic_Kernel6Ideal_Reference6Ideal (hKernel6Ideal := Cert.Kernel6Ideal.Gen.facts) (hReference6Ideal := Cert.Reference6Ideal.Gen.facts) := by
  intro m g m' g' _ hargs
  refine ⟨Cert.Kernel6Ideal.Proj.rows m, Cert.Kernel6Ideal.Proj.rowsb m, ?_, ?_⟩
  · refine (θ_run _ _ _).mono (fun r h c => ?_) (Cert.Kernel6Ideal.Value.run_blocks m g)
    obtain ⟨h2, h3, h4, ha, hb⟩ := h c
    exact ⟨h3.trans (Cert.Kernel6Ideal.Proj.rows_eq m c), h4.trans (Cert.Kernel6Ideal.Proj.rowsb_eq m c), ha, hb⟩
  · refine (θ_run _ _ _).mono (fun r h c => ?_) (Cert.Reference6Ideal.Value.run m' g')
    obtain ⟨h0, h1, hx, hw⟩ := h c
    obtain ⟨ha, hb⟩ := hargs c
    refine ⟨h0.trans ?_, h1.trans ?_, hx, hw⟩
    · refine funext fun (i : Cert.Kernel6Ideal.S8192x64.Idx) => ?_
      obtain ⟨r, e, rfl⟩ : ∃ (r : Fin 8192) (e : Fin 64), i = ix2 r e := ⟨i 0, i 1, eq_ix2 i⟩
      refine (Cert.Reference6Ideal.Proj.lay0 _ r e).trans ((Cert.Reference6Ideal.Proj.cut_apply _ _ _ e).trans ?_)
      exact Finset.sum_congr rfl fun k _ => congrArg₂ (fun a b : EReal => a * b) (congrFun ha _) (congrFun hb _)
    · refine funext fun (i : Cert.Kernel6Ideal.S8192x64.Idx) => ?_
      obtain ⟨r, e, rfl⟩ : ∃ (r : Fin 8192) (e : Fin 64), i = ix2 r e := ⟨i 0, i 1, eq_ix2 i⟩
      refine (Cert.Reference6Ideal.Proj.lay1 _ r e).trans ((Cert.Reference6Ideal.Proj.cut_apply _ _ _ e).trans ?_)
      exact Finset.sum_congr rfl fun k _ => congrArg₂ (fun a b : EReal => a * b) (congrFun ha _) (congrFun hb _)

end Cert.Proof

end
-- ==== Proof.Proj7.lean ====
/-
  The projection of the sample's keys of mixer A: the one grid point multiplies the 128 tokens by the 1024 columns of the weights
  from 1024 on. Over the extended reals the result is the reference's one product of the tokens by all the columns, cut
  and laid out.
-/
module

public import proofs.«01_k».proof.Defs
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import Idealize.ShloMosaic.Lib.Pipeline.Value
public import Idealize.ShloMosaic.Lib.Pointwise
public import Idealize.ShloMosaic.Lib.Quiescent
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Kernel7Ideal.Proj

open Cert.Kernel7Ideal Cert.Kernel7Ideal.Gen

variable (m : (ℓ : Loc nD τ sig) → Buf (Elt Ideal) ℓ)

/-- The tokens and the weights at launch. -/
abbrev X (c : Dev nD) : Vec Ideal S32x4x2048 .f32 := m ((c : Thread nD τ).loc main_arg0)
abbrev W (c : Dev nD) : Vec Ideal S1x2048x11344 .f32 := m ((c : Thread nD τ).loc main_arg1)

/-- Coordinate `e` of token `r`: the token's row against column `1024 + e` of the weights. -/
def coord (c : Dev nD) (r : Fin 128) (e : Fin 1024) : EReal :=
  ∑ k : Fin 2048, X m c (ix3 ⟨r.val / 4, by omega⟩ ⟨r.val % 4, by omega⟩ k) * W m c (ix3 0 k ⟨1024 + e.val, by omega⟩)

/-- The result laid out as rows of tokens. -/
def rows (c : Dev nD) : Vec Ideal S128x1024 .f32 := fun i => coord m c (i 0) (i 1)

/-- The tokens as the region finds them: flattened to rows. -/
theorem V_tokens (c : Dev nD) : V m c main_v1 = truncf (F := Ideal) .bf16 (shapeCast _ (X m c) shapeCasts_S32x4x2048_S128x2048) bitsLt_bf16_f32 := by
  show StableHlo.after hostOps0 (fun b => m (c, b)) (Proc.devRef .tc main_v1) = _
  after_results
  rfl

/-- The weights as the region finds them: the cut columns. -/
theorem V_weights (c : Dev nD) : V m c main_v4 = extractStridedSlice S2048x1024 ![0, 1024]
    (truncf (F := Ideal) .bf16 (shapeCast _ (W m c) shapeCasts_S1x2048x11344_S2048x11344) bitsLt_bf16_f32) slices_S2048x11344_S2048x1024_0_1024 := by
  show StableHlo.after hostOps0 (fun b => m (c, b)) (Proc.devRef .tc main_v4) = _
  after_results
  rfl

/-- Where each window's block sits at point `t`. -/
theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = t.val ∧ win0_2.index t (1 : Fin 2) = 0 := (by decide +kernel : ∀ t : Fin grid0.N, _)

theorem point_lt (t : Fin cfg0.N) : t.val < 1 := lt_of_lt_of_eq t.isLt N_0

/-- The token block of point `t`, read at row `r`, column `k`. -/
theorem tokens_apply (c : Dev nD) (t : Fin cfg0.N) (r : Fin 128) (k : Fin 2048) :
    (iblk m c 0 t : Vec Ideal S128x2048 .bf16) (ix2 r k) = X m c (ix3 ⟨(128 * t.val + r.val) / 4, by have := point_lt t; omega⟩ ⟨(128 * t.val + r.val) % 4, by omega⟩ k) := by
  show V m c main_v1 (((cfg0.win 0).blk t).view.emb (ix2 r k)) = _
  have e : ((cfg0.win 0).blk t).view.emb (ix2 r k) = (ix2 ⟨128 * t.val + r.val, by have := point_lt t; omega⟩ k : S128x2048.Idx) := by
    funext a; apply Fin.ext
    match a with
    | ⟨0, _⟩ => show win0_0.index t (0 : Fin 2) * 128 + 1 * r.val = 128 * t.val + r.val; have := (idx0 t).1; omega
    | ⟨1, _⟩ => show win0_0.index t (1 : Fin 2) * 2048 + 1 * k.val = k.val; have := (idx0 t).2; omega
  rw [e, V_tokens]
  pointwise

/-- The weight block, the same at every point, read at row `k`, column `e`. -/
theorem weights_apply (c : Dev nD) (t : Fin cfg0.N) (k : Fin 2048) (e : Fin 1024) :
    (iblk m c 1 t : Vec Ideal S2048x1024 .bf16) (ix2 k e) = W m c (ix3 0 k ⟨1024 + e.val, by omega⟩) := by
  show V m c main_v4 (((cfg0.win 1).blk t).view.emb (ix2 k e)) = _
  have he : ((cfg0.win 1).blk t).view.emb (ix2 k e) = (ix2 k e : S2048x1024.Idx) := by
    funext a; apply Fin.ext
    match a with
    | ⟨0, _⟩ => show win0_1.index t (0 : Fin 2) * 2048 + 1 * k.val = k.val; have := (idx1 t).1; omega
    | ⟨1, _⟩ => show win0_1.index t (1 : Fin 2) * 1024 + 1 * e.val = e.val; have := (idx1 t).2; omega
  rw [he, V_weights]
  pointwise

theorem hz : (![0, 0] : Fin 2 → Nat) = fun _ => 0 := funext fun a => by fin_cases a <;> rfl

/-- The stored value `k0_pay1` of two loaded blocks at an index: their product. -/
theorem k0_pay1_apply (P0 : Vec Ideal S128x2048 .bf16) (P1 : Vec Ideal S2048x1024 .bf16) (r : Fin 128) (e : Fin 1024) :
    k0_pay1 P0 P1 (ix2 r e) = ∑ k : Fin 2048, P0 (ix2 r k) * P1 (ix2 k e) := by
  pointwise [k0_pay1]

/-- At point `t` it is rows `128 t …` of the projection. -/
theorem k0_pay1_point (c : Dev nD) (t : Fin cfg0.N) (r : Fin 128) (e : Fin 1024) :
    k0_pay1 (View.ld (iblk m c 0 t) r0_0) (View.ld (iblk m c 1 t) r0_1) (ix2 r e)
      = coord m c ⟨128 * t.val + r.val, by have := point_lt t; omega⟩ e := by
  rw [View.ld_unit_zero (S := S128x2048) hz, View.ld_unit_zero (S := S2048x1024) hz, k0_pay1_apply]
  exact Finset.sum_congr rfl fun k _ => by rw [tokens_apply, weights_apply]

/-- Point `t` writes back its rows. -/
theorem flushed2_eq (c : Dev nD) (t : Fin cfg0.N) (hf : (cfg0.win 2).flush t = true) :
    (dats m 0 c).flushed 2 t = ((cfg0.win 2).blk t).view.read (Elt Ideal) (rows m c) := by
  rw [Value.flushed2]
  refine funext fun (j : S128x1024.Idx) => ?_
  obtain ⟨r, e, rfl⟩ : ∃ (r : Fin 128) (e : Fin 1024), j = ix2 r e := ⟨j 0, j 1, eq_ix2 j⟩
  show out0_2 (iblk m c 0 t) (iblk m c 1 t) (ix2 r e) = rows m c (((cfg0.win 2).blk t).view.emb (ix2 r e))
  have he : ((cfg0.win 2).blk t).view.emb (ix2 r e) = (ix2 ⟨128 * t.val + r.val, by have := point_lt t; omega⟩ e : S128x1024.Idx) := by
    funext a; apply Fin.ext
    match a with
    | ⟨0, _⟩ => show win0_2.index t (0 : Fin 2) * 128 + 1 * r.val = 128 * t.val + r.val; have := (idx2 t).1; omega
    | ⟨1, _⟩ => show win0_2.index t (1 : Fin 2) * 1024 + 1 * e.val = e.val; have := (idx2 t).2; omega
  rw [he]
  unfold out0_2
  rw [View.canon_unit_zero hz]
  exact k0_pay1_point m c t r e

/-- Every row lies in some point's block. -/
theorem rows_eq (c : Dev nD) : (dats m 0 c).arrAt 2 cfg0.N = rows m c :=
  (dats m 0 c).arrAt_eq_of_cover 2 (rows m c) (flushed2_eq m c) fun i => by
    have h0 : (i 0 : Nat) < 128 := (i 0).isLt
    have h1 : (i 1 : Nat) < 1024 := (i 1).isLt
    have hN : cfg0.N = 1 := N_0
    obtain ⟨t, ht⟩ : ∃ t : Fin cfg0.N, t.val = (i 0 : Nat) / 128 := ⟨⟨(i 0 : Nat) / 128, by rw [hN]; omega⟩, rfl⟩
    refine ⟨t, flush0_2 t, ?_⟩
    have h2 := idx2 t
    show i ∈ ((View.whole main_v5).slice (win0_2.rect t)).set
    rw [View.set_slice_whole, Rect.mem_set_unit]
    intro a
    match a with
    | ⟨0, _⟩ => show win0_2.index t (0 : Fin 2) * 128 ≤ (i 0 : Nat) ∧ (i 0 : Nat) < win0_2.index t (0 : Fin 2) * 128 + 128
                rw [h2.1]; omega
    | ⟨1, _⟩ => show win0_2.index t (1 : Fin 2) * 1024 ≤ (i 1 : Nat) ∧ (i 1 : Nat) < win0_2.index t (1 : Fin 2) * 1024 + 1024
                rw [h2.2]; omega

end Cert.Kernel7Ideal.Proj

namespace Cert.Reference7Ideal.Proj

open Cert.Reference7Ideal Cert.Reference7Ideal.Gen

/-- The reference's product of the tokens by every column, cut to these columns, at an index. -/
theorem cut_apply (x : Vec Ideal S32x4x2048 .f32) (w : Vec Ideal S1x2048x11344 .f32) (b : Fin 32) (r : Fin 4) (e : Fin 1024) :
    extractStridedSlice S32x4x1024 ![0, 0, 1024] (Host.dotGeneral (F := Ideal) (φ₁ := .f32) (φ₂ := .f32) dot_S32x4x2048_S2048x11344_S32x4x11344_2_0_01_1_n_n none x (shapeCast _ w shapeCasts_S1x2048x11344_S2048x11344)) slices_S32x4x11344_S32x4x1024_0_0_1024 (ix3 b r e)
      = ∑ k : Fin 2048, x (ix3 b r k) * w (ix3 0 k ⟨1024 + e.val, by omega⟩) := by
  pointwise

/-- The cut product laid out as rows of tokens. -/
theorem lay0 (v : Vec Ideal S32x4x1024 .f32) (r : Fin 128) (e : Fin 1024) :
    shapeCast S128x1024 v shapeCasts_S32x4x1024_S128x1024 (ix2 r e) = v (ix3 ⟨r.val / 4, by omega⟩ ⟨r.val % 4, by omega⟩ e) := by
  pointwise

end Cert.Reference7Ideal.Proj

namespace Cert.Proof

/-- The reference runs and leaves its arguments. -/
theorem frame_reference7 : Cert.quiescent_Reference7Ideal (hReference7Ideal := Cert.Reference7Ideal.Gen.facts) :=
  fun m ρ _ => (θ_run _ _ _).mono (fun r h => ⟨fun c => (h c).2, sem_eq_zero_of_no_sems rfl r.2⟩) (Cert.Reference7Ideal.Value.run m ρ)

/-- The projection's claim: what the kernel's call ends with is the reference's. -/
theorem algebraic7 : Cert.algebraic_Kernel7Ideal_Reference7Ideal (hKernel7Ideal := Cert.Kernel7Ideal.Gen.facts) (hReference7Ideal := Cert.Reference7Ideal.Gen.facts) := by
  intro m g m' g' _ hargs
  refine ⟨Cert.Kernel7Ideal.Proj.rows m, ?_, ?_⟩
  · refine (θ_run _ _ _).mono (fun r h c => ?_) (Cert.Kernel7Ideal.Value.run_blocks m g)
    obtain ⟨h2, ha, hb⟩ := h c
    exact ⟨h2.trans (Cert.Kernel7Ideal.Proj.rows_eq m c), ha, hb⟩
  · refine (θ_run _ _ _).mono (fun r h c => ?_) (Cert.Reference7Ideal.Value.run m' g')
    obtain ⟨h0, hx, hw⟩ := h c
    obtain ⟨ha, hb⟩ := hargs c
    refine ⟨h0.trans ?_, hx, hw⟩
    · refine funext fun (i : Cert.Kernel7Ideal.S128x1024.Idx) => ?_
      obtain ⟨r, e, rfl⟩ : ∃ (r : Fin 128) (e : Fin 1024), i = ix2 r e := ⟨i 0, i 1, eq_ix2 i⟩
      refine (Cert.Reference7Ideal.Proj.lay0 _ r e).trans ((Cert.Reference7Ideal.Proj.cut_apply _ _ _ _ e).trans ?_)
      exact Finset.sum_congr rfl fun k _ => congrArg₂ (fun a b : EReal => a * b) (congrFun ha _) (congrFun hb _)

end Cert.Proof

end
-- ==== Proof.Proj8.lean ====
/-
  The projection of the sample's values of mixer A: the one grid point multiplies the 128 tokens by the 1024 columns of the weights
  from 2048 on. Over the extended reals the result is the reference's one product of the tokens by all the columns, cut
  and laid out.
-/
module

public import proofs.«01_k».proof.Defs
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import Idealize.ShloMosaic.Lib.Pipeline.Value
public import Idealize.ShloMosaic.Lib.Pointwise
public import Idealize.ShloMosaic.Lib.Quiescent
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Kernel8Ideal.Proj

open Cert.Kernel8Ideal Cert.Kernel8Ideal.Gen

variable (m : (ℓ : Loc nD τ sig) → Buf (Elt Ideal) ℓ)

/-- The tokens and the weights at launch. -/
abbrev X (c : Dev nD) : Vec Ideal S32x4x2048 .f32 := m ((c : Thread nD τ).loc main_arg0)
abbrev W (c : Dev nD) : Vec Ideal S1x2048x11344 .f32 := m ((c : Thread nD τ).loc main_arg1)

/-- Coordinate `e` of token `r`: the token's row against column `2048 + e` of the weights. -/
def coord (c : Dev nD) (r : Fin 128) (e : Fin 1024) : EReal :=
  ∑ k : Fin 2048, X m c (ix3 ⟨r.val / 4, by omega⟩ ⟨r.val % 4, by omega⟩ k) * W m c (ix3 0 k ⟨2048 + e.val, by omega⟩)

/-- The result laid out as rows of tokens. -/
def rows (c : Dev nD) : Vec Ideal S128x1024 .f32 := fun i => coord m c (i 0) (i 1)

/-- The tokens as the region finds them: flattened to rows. -/
theorem V_tokens (c : Dev nD) : V m c main_v1 = truncf (F := Ideal) .bf16 (shapeCast _ (X m c) shapeCasts_S32x4x2048_S128x2048) bitsLt_bf16_f32 := by
  show StableHlo.after hostOps0 (fun b => m (c, b)) (Proc.devRef .tc main_v1) = _
  after_results
  rfl

/-- The weights as the region finds them: the cut columns. -/
theorem V_weights (c : Dev nD) : V m c main_v4 = extractStridedSlice S2048x1024 ![0, 2048]
    (truncf (F := Ideal) .bf16 (shapeCast _ (W m c) shapeCasts_S1x2048x11344_S2048x11344) bitsLt_bf16_f32) slices_S2048x11344_S2048x1024_0_2048 := by
  show StableHlo.after hostOps0 (fun b => m (c, b)) (Proc.devRef .tc main_v4) = _
  after_results
  rfl

/-- Where each window's block sits at point `t`. -/
theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = t.val ∧ win0_2.index t (1 : Fin 2) = 0 := (by decide +kernel : ∀ t : Fin grid0.N, _)

theorem point_lt (t : Fin cfg0.N) : t.val < 1 := lt_of_lt_of_eq t.isLt N_0

/-- The token block of point `t`, read at row `r`, column `k`. -/
theorem tokens_apply (c : Dev nD) (t : Fin cfg0.N) (r : Fin 128) (k : Fin 2048) :
    (iblk m c 0 t : Vec Ideal S128x2048 .bf16) (ix2 r k) = X m c (ix3 ⟨(128 * t.val + r.val) / 4, by have := point_lt t; omega⟩ ⟨(128 * t.val + r.val) % 4, by omega⟩ k) := by
  show V m c main_v1 (((cfg0.win 0).blk t).view.emb (ix2 r k)) = _
  have e : ((cfg0.win 0).blk t).view.emb (ix2 r k) = (ix2 ⟨128 * t.val + r.val, by have := point_lt t; omega⟩ k : S128x2048.Idx) := by
    funext a; apply Fin.ext
    match a with
    | ⟨0, _⟩ => show win0_0.index t (0 : Fin 2) * 128 + 1 * r.val = 128 * t.val + r.val; have := (idx0 t).1; omega
    | ⟨1, _⟩ => show win0_0.index t (1 : Fin 2) * 2048 + 1 * k.val = k.val; have := (idx0 t).2; omega
  rw [e, V_tokens]
  pointwise

/-- The weight block, the same at every point, read at row `k`, column `e`. -/
theorem weights_apply (c : Dev nD) (t : Fin cfg0.N) (k : Fin 2048) (e : Fin 1024) :
    (iblk m c 1 t : Vec Ideal S2048x1024 .bf16) (ix2 k e) = W m c (ix3 0 k ⟨2048 + e.val, by omega⟩) := by
  show V m c main_v4 (((cfg0.win 1).blk t).view.emb (ix2 k e)) = _
  have he : ((cfg0.win 1).blk t).view.emb (ix2 k e) = (ix2 k e : S2048x1024.Idx) := by
    funext a; apply Fin.ext
    match a with
    | ⟨0, _⟩ => show win0_1.index t (0 : Fin 2) * 2048 + 1 * k.val = k.val; have := (idx1 t).1; omega
    | ⟨1, _⟩ => show win0_1.index t (1 : Fin 2) * 1024 + 1 * e.val = e.val; have := (idx1 t).2; omega
  rw [he, V_weights]
  pointwise

theorem hz : (![0, 0] : Fin 2 → Nat) = fun _ => 0 := funext fun a => by fin_cases a <;> rfl

/-- The stored value `k0_pay1` of two loaded blocks at an index: their product. -/
theorem k0_pay1_apply (P0 : Vec Ideal S128x2048 .bf16) (P1 : Vec Ideal S2048x1024 .bf16) (r : Fin 128) (e : Fin 1024) :
    k0_pay1 P0 P1 (ix2 r e) = ∑ k : Fin 2048, P0 (ix2 r k) * P1 (ix2 k e) := by
  pointwise [k0_pay1]

/-- At point `t` it is rows `128 t …` of the projection. -/
theorem k0_pay1_point (c : Dev nD) (t : Fin cfg0.N) (r : Fin 128) (e : Fin 1024) :
    k0_pay1 (View.ld (iblk m c 0 t) r0_0) (View.ld (iblk m c 1 t) r0_1) (ix2 r e)
      = coord m c ⟨128 * t.val + r.val, by have := point_lt t; omega⟩ e := by
  rw [View.ld_unit_zero (S := S128x2048) hz, View.ld_unit_zero (S := S2048x1024) hz, k0_pay1_apply]
  exact Finset.sum_congr rfl fun k _ => by rw [tokens_apply, weights_apply]

/-- Point `t` writes back its rows. -/
theorem flushed2_eq (c : Dev nD) (t : Fin cfg0.N) (hf : (cfg0.win 2).flush t = true) :
    (dats m 0 c).flushed 2 t = ((cfg0.win 2).blk t).view.read (Elt Ideal) (rows m c) := by
  rw [Value.flushed2]
  refine funext fun (j : S128x1024.Idx) => ?_
  obtain ⟨r, e, rfl⟩ : ∃ (r : Fin 128) (e : Fin 1024), j = ix2 r e := ⟨j 0, j 1, eq_ix2 j⟩
  show out0_2 (iblk m c 0 t) (iblk m c 1 t) (ix2 r e) = rows m c (((cfg0.win 2).blk t).view.emb (ix2 r e))
  have he : ((cfg0.win 2).blk t).view.emb (ix2 r e) = (ix2 ⟨128 * t.val + r.val, by have := point_lt t; omega⟩ e : S128x1024.Idx) := by
    funext a; apply Fin.ext
    match a with
    | ⟨0, _⟩ => show win0_2.index t (0 : Fin 2) * 128 + 1 * r.val = 128 * t.val + r.val; have := (idx2 t).1; omega
    | ⟨1, _⟩ => show win0_2.index t (1 : Fin 2) * 1024 + 1 * e.val = e.val; have := (idx2 t).2; omega
  rw [he]
  unfold out0_2
  rw [View.canon_unit_zero hz]
  exact k0_pay1_point m c t r e

/-- Every row lies in some point's block. -/
theorem rows_eq (c : Dev nD) : (dats m 0 c).arrAt 2 cfg0.N = rows m c :=
  (dats m 0 c).arrAt_eq_of_cover 2 (rows m c) (flushed2_eq m c) fun i => by
    have h0 : (i 0 : Nat) < 128 := (i 0).isLt
    have h1 : (i 1 : Nat) < 1024 := (i 1).isLt
    have hN : cfg0.N = 1 := N_0
    obtain ⟨t, ht⟩ : ∃ t : Fin cfg0.N, t.val = (i 0 : Nat) / 128 := ⟨⟨(i 0 : Nat) / 128, by rw [hN]; omega⟩, rfl⟩
    refine ⟨t, flush0_2 t, ?_⟩
    have h2 := idx2 t
    show i ∈ ((View.whole main_v5).slice (win0_2.rect t)).set
    rw [View.set_slice_whole, Rect.mem_set_unit]
    intro a
    match a with
    | ⟨0, _⟩ => show win0_2.index t (0 : Fin 2) * 128 ≤ (i 0 : Nat) ∧ (i 0 : Nat) < win0_2.index t (0 : Fin 2) * 128 + 128
                rw [h2.1]; omega
    | ⟨1, _⟩ => show win0_2.index t (1 : Fin 2) * 1024 ≤ (i 1 : Nat) ∧ (i 1 : Nat) < win0_2.index t (1 : Fin 2) * 1024 + 1024
                rw [h2.2]; omega

end Cert.Kernel8Ideal.Proj

namespace Cert.Reference8Ideal.Proj

open Cert.Reference8Ideal Cert.Reference8Ideal.Gen

/-- The reference's product of the tokens by every column, cut to these columns, at an index. -/
theorem cut_apply (x : Vec Ideal S32x4x2048 .f32) (w : Vec Ideal S1x2048x11344 .f32) (b : Fin 32) (r : Fin 4) (e : Fin 1024) :
    extractStridedSlice S32x4x1024 ![0, 0, 2048] (Host.dotGeneral (F := Ideal) (φ₁ := .f32) (φ₂ := .f32) dot_S32x4x2048_S2048x11344_S32x4x11344_2_0_01_1_n_n none x (shapeCast _ w shapeCasts_S1x2048x11344_S2048x11344)) slices_S32x4x11344_S32x4x1024_0_0_2048 (ix3 b r e)
      = ∑ k : Fin 2048, x (ix3 b r k) * w (ix3 0 k ⟨2048 + e.val, by omega⟩) := by
  pointwise

/-- The cut product laid out as rows of tokens. -/
theorem lay0 (v : Vec Ideal S32x4x1024 .f32) (r : Fin 128) (e : Fin 1024) :
    shapeCast S128x1024 v shapeCasts_S32x4x1024_S128x1024 (ix2 r e) = v (ix3 ⟨r.val / 4, by omega⟩ ⟨r.val % 4, by omega⟩ e) := by
  pointwise

end Cert.Reference8Ideal.Proj

namespace Cert.Proof

/-- The reference runs and leaves its arguments. -/
theorem frame_reference8 : Cert.quiescent_Reference8Ideal (hReference8Ideal := Cert.Reference8Ideal.Gen.facts) :=
  fun m ρ _ => (θ_run _ _ _).mono (fun r h => ⟨fun c => (h c).2, sem_eq_zero_of_no_sems rfl r.2⟩) (Cert.Reference8Ideal.Value.run m ρ)

/-- The projection's claim: what the kernel's call ends with is the reference's. -/
theorem algebraic8 : Cert.algebraic_Kernel8Ideal_Reference8Ideal (hKernel8Ideal := Cert.Kernel8Ideal.Gen.facts) (hReference8Ideal := Cert.Reference8Ideal.Gen.facts) := by
  intro m g m' g' _ hargs
  refine ⟨Cert.Kernel8Ideal.Proj.rows m, ?_, ?_⟩
  · refine (θ_run _ _ _).mono (fun r h c => ?_) (Cert.Kernel8Ideal.Value.run_blocks m g)
    obtain ⟨h2, ha, hb⟩ := h c
    exact ⟨h2.trans (Cert.Kernel8Ideal.Proj.rows_eq m c), ha, hb⟩
  · refine (θ_run _ _ _).mono (fun r h c => ?_) (Cert.Reference8Ideal.Value.run m' g')
    obtain ⟨h0, hx, hw⟩ := h c
    obtain ⟨ha, hb⟩ := hargs c
    refine ⟨h0.trans ?_, hx, hw⟩
    · refine funext fun (i : Cert.Kernel8Ideal.S128x1024.Idx) => ?_
      obtain ⟨r, e, rfl⟩ : ∃ (r : Fin 128) (e : Fin 1024), i = ix2 r e := ⟨i 0, i 1, eq_ix2 i⟩
      refine (Cert.Reference8Ideal.Proj.lay0 _ r e).trans ((Cert.Reference8Ideal.Proj.cut_apply _ _ _ _ e).trans ?_)
      exact Finset.sum_congr rfl fun k _ => congrArg₂ (fun a b : EReal => a * b) (congrFun ha _) (congrFun hb _)

end Cert.Proof

end
-- ==== Proof.Proj9.lean ====
/-
  The projection of the sample's keys of mixer B: the one grid point multiplies the 128 tokens by the 1024 columns of the weights
  from 4096 on. Over the extended reals the result is the reference's one product of the tokens by all the columns, cut
  and laid out.
-/
module

public import proofs.«01_k».proof.Defs
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import Idealize.ShloMosaic.Lib.Pipeline.Value
public import Idealize.ShloMosaic.Lib.Pointwise
public import Idealize.ShloMosaic.Lib.Quiescent
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Kernel9Ideal.Proj

open Cert.Kernel9Ideal Cert.Kernel9Ideal.Gen

variable (m : (ℓ : Loc nD τ sig) → Buf (Elt Ideal) ℓ)

/-- The tokens and the weights at launch. -/
abbrev X (c : Dev nD) : Vec Ideal S32x4x2048 .f32 := m ((c : Thread nD τ).loc main_arg0)
abbrev W (c : Dev nD) : Vec Ideal S1x2048x11344 .f32 := m ((c : Thread nD τ).loc main_arg1)

/-- Coordinate `e` of token `r`: the token's row against column `4096 + e` of the weights. -/
def coord (c : Dev nD) (r : Fin 128) (e : Fin 1024) : EReal :=
  ∑ k : Fin 2048, X m c (ix3 ⟨r.val / 4, by omega⟩ ⟨r.val % 4, by omega⟩ k) * W m c (ix3 0 k ⟨4096 + e.val, by omega⟩)

/-- The result laid out as rows of tokens. -/
def rows (c : Dev nD) : Vec Ideal S128x1024 .f32 := fun i => coord m c (i 0) (i 1)

/-- The tokens as the region finds them: flattened to rows. -/
theorem V_tokens (c : Dev nD) : V m c main_v1 = truncf (F := Ideal) .bf16 (shapeCast _ (X m c) shapeCasts_S32x4x2048_S128x2048) bitsLt_bf16_f32 := by
  show StableHlo.after hostOps0 (fun b => m (c, b)) (Proc.devRef .tc main_v1) = _
  after_results
  rfl

/-- The weights as the region finds them: the cut columns. -/
theorem V_weights (c : Dev nD) : V m c main_v4 = extractStridedSlice S2048x1024 ![0, 4096]
    (truncf (F := Ideal) .bf16 (shapeCast _ (W m c) shapeCasts_S1x2048x11344_S2048x11344) bitsLt_bf16_f32) slices_S2048x11344_S2048x1024_0_4096 := by
  show StableHlo.after hostOps0 (fun b => m (c, b)) (Proc.devRef .tc main_v4) = _
  after_results
  rfl

/-- Where each window's block sits at point `t`. -/
theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = t.val ∧ win0_2.index t (1 : Fin 2) = 0 := (by decide +kernel : ∀ t : Fin grid0.N, _)

theorem point_lt (t : Fin cfg0.N) : t.val < 1 := lt_of_lt_of_eq t.isLt N_0

/-- The token block of point `t`, read at row `r`, column `k`. -/
theorem tokens_apply (c : Dev nD) (t : Fin cfg0.N) (r : Fin 128) (k : Fin 2048) :
    (iblk m c 0 t : Vec Ideal S128x2048 .bf16) (ix2 r k) = X m c (ix3 ⟨(128 * t.val + r.val) / 4, by have := point_lt t; omega⟩ ⟨(128 * t.val + r.val) % 4, by omega⟩ k) := by
  show V m c main_v1 (((cfg0.win 0).blk t).view.emb (ix2 r k)) = _
  have e : ((cfg0.win 0).blk t).view.emb (ix2 r k) = (ix2 ⟨128 * t.val + r.val, by have := point_lt t; omega⟩ k : S128x2048.Idx) := by
    funext a; apply Fin.ext
    match a with
    | ⟨0, _⟩ => show win0_0.index t (0 : Fin 2) * 128 + 1 * r.val = 128 * t.val + r.val; have := (idx0 t).1; omega
    | ⟨1, _⟩ => show win0_0.index t (1 : Fin 2) * 2048 + 1 * k.val = k.val; have := (idx0 t).2; omega
  rw [e, V_tokens]
  pointwise

/-- The weight block, the same at every point, read at row `k`, column `e`. -/
theorem weights_apply (c : Dev nD) (t : Fin cfg0.N) (k : Fin 2048) (e : Fin 1024) :
    (iblk m c 1 t : Vec Ideal S2048x1024 .bf16) (ix2 k e) = W m c (ix3 0 k ⟨4096 + e.val, by omega⟩) := by
  show V m c main_v4 (((cfg0.win 1).blk t).view.emb (ix2 k e)) = _
  have he : ((cfg0.win 1).blk t).view.emb (ix2 k e) = (ix2 k e : S2048x1024.Idx) := by
    funext a; apply Fin.ext
    match a with
    | ⟨0, _⟩ => show win0_1.index t (0 : Fin 2) * 2048 + 1 * k.val = k.val; have := (idx1 t).1; omega
    | ⟨1, _⟩ => show win0_1.index t (1 : Fin 2) * 1024 + 1 * e.val = e.val; have := (idx1 t).2; omega
  rw [he, V_weights]
  pointwise

theorem hz : (![0, 0] : Fin 2 → Nat) = fun _ => 0 := funext fun a => by fin_cases a <;> rfl

/-- The stored value `k0_pay1` of two loaded blocks at an index: their product. -/
theorem k0_pay1_apply (P0 : Vec Ideal S128x2048 .bf16) (P1 : Vec Ideal S2048x1024 .bf16) (r : Fin 128) (e : Fin 1024) :
    k0_pay1 P0 P1 (ix2 r e) = ∑ k : Fin 2048, P0 (ix2 r k) * P1 (ix2 k e) := by
  pointwise [k0_pay1]

/-- At point `t` it is rows `128 t …` of the projection. -/
theorem k0_pay1_point (c : Dev nD) (t : Fin cfg0.N) (r : Fin 128) (e : Fin 1024) :
    k0_pay1 (View.ld (iblk m c 0 t) r0_0) (View.ld (iblk m c 1 t) r0_1) (ix2 r e)
      = coord m c ⟨128 * t.val + r.val, by have := point_lt t; omega⟩ e := by
  rw [View.ld_unit_zero (S := S128x2048) hz, View.ld_unit_zero (S := S2048x1024) hz, k0_pay1_apply]
  exact Finset.sum_congr rfl fun k _ => by rw [tokens_apply, weights_apply]

/-- Point `t` writes back its rows. -/
theorem flushed2_eq (c : Dev nD) (t : Fin cfg0.N) (hf : (cfg0.win 2).flush t = true) :
    (dats m 0 c).flushed 2 t = ((cfg0.win 2).blk t).view.read (Elt Ideal) (rows m c) := by
  rw [Value.flushed2]
  refine funext fun (j : S128x1024.Idx) => ?_
  obtain ⟨r, e, rfl⟩ : ∃ (r : Fin 128) (e : Fin 1024), j = ix2 r e := ⟨j 0, j 1, eq_ix2 j⟩
  show out0_2 (iblk m c 0 t) (iblk m c 1 t) (ix2 r e) = rows m c (((cfg0.win 2).blk t).view.emb (ix2 r e))
  have he : ((cfg0.win 2).blk t).view.emb (ix2 r e) = (ix2 ⟨128 * t.val + r.val, by have := point_lt t; omega⟩ e : S128x1024.Idx) := by
    funext a; apply Fin.ext
    match a with
    | ⟨0, _⟩ => show win0_2.index t (0 : Fin 2) * 128 + 1 * r.val = 128 * t.val + r.val; have := (idx2 t).1; omega
    | ⟨1, _⟩ => show win0_2.index t (1 : Fin 2) * 1024 + 1 * e.val = e.val; have := (idx2 t).2; omega
  rw [he]
  unfold out0_2
  rw [View.canon_unit_zero hz]
  exact k0_pay1_point m c t r e

/-- Every row lies in some point's block. -/
theorem rows_eq (c : Dev nD) : (dats m 0 c).arrAt 2 cfg0.N = rows m c :=
  (dats m 0 c).arrAt_eq_of_cover 2 (rows m c) (flushed2_eq m c) fun i => by
    have h0 : (i 0 : Nat) < 128 := (i 0).isLt
    have h1 : (i 1 : Nat) < 1024 := (i 1).isLt
    have hN : cfg0.N = 1 := N_0
    obtain ⟨t, ht⟩ : ∃ t : Fin cfg0.N, t.val = (i 0 : Nat) / 128 := ⟨⟨(i 0 : Nat) / 128, by rw [hN]; omega⟩, rfl⟩
    refine ⟨t, flush0_2 t, ?_⟩
    have h2 := idx2 t
    show i ∈ ((View.whole main_v5).slice (win0_2.rect t)).set
    rw [View.set_slice_whole, Rect.mem_set_unit]
    intro a
    match a with
    | ⟨0, _⟩ => show win0_2.index t (0 : Fin 2) * 128 ≤ (i 0 : Nat) ∧ (i 0 : Nat) < win0_2.index t (0 : Fin 2) * 128 + 128
                rw [h2.1]; omega
    | ⟨1, _⟩ => show win0_2.index t (1 : Fin 2) * 1024 ≤ (i 1 : Nat) ∧ (i 1 : Nat) < win0_2.index t (1 : Fin 2) * 1024 + 1024
                rw [h2.2]; omega

end Cert.Kernel9Ideal.Proj

namespace Cert.Reference9Ideal.Proj

open Cert.Reference9Ideal Cert.Reference9Ideal.Gen

/-- The reference's product of the tokens by every column, cut to these columns, at an index. -/
theorem cut_apply (x : Vec Ideal S32x4x2048 .f32) (w : Vec Ideal S1x2048x11344 .f32) (b : Fin 32) (r : Fin 4) (e : Fin 1024) :
    extractStridedSlice S32x4x1024 ![0, 0, 4096] (Host.dotGeneral (F := Ideal) (φ₁ := .f32) (φ₂ := .f32) dot_S32x4x2048_S2048x11344_S32x4x11344_2_0_01_1_n_n none x (shapeCast _ w shapeCasts_S1x2048x11344_S2048x11344)) slices_S32x4x11344_S32x4x1024_0_0_4096 (ix3 b r e)
      = ∑ k : Fin 2048, x (ix3 b r k) * w (ix3 0 k ⟨4096 + e.val, by omega⟩) := by
  pointwise

/-- The cut product laid out as rows of tokens. -/
theorem lay0 (v : Vec Ideal S32x4x1024 .f32) (r : Fin 128) (e : Fin 1024) :
    shapeCast S128x1024 v shapeCasts_S32x4x1024_S128x1024 (ix2 r e) = v (ix3 ⟨r.val / 4, by omega⟩ ⟨r.val % 4, by omega⟩ e) := by
  pointwise

end Cert.Reference9Ideal.Proj

namespace Cert.Proof

/-- The reference runs and leaves its arguments. -/
theorem frame_reference9 : Cert.quiescent_Reference9Ideal (hReference9Ideal := Cert.Reference9Ideal.Gen.facts) :=
  fun m ρ _ => (θ_run _ _ _).mono (fun r h => ⟨fun c => (h c).2, sem_eq_zero_of_no_sems rfl r.2⟩) (Cert.Reference9Ideal.Value.run m ρ)

/-- The projection's claim: what the kernel's call ends with is the reference's. -/
theorem algebraic9 : Cert.algebraic_Kernel9Ideal_Reference9Ideal (hKernel9Ideal := Cert.Kernel9Ideal.Gen.facts) (hReference9Ideal := Cert.Reference9Ideal.Gen.facts) := by
  intro m g m' g' _ hargs
  refine ⟨Cert.Kernel9Ideal.Proj.rows m, ?_, ?_⟩
  · refine (θ_run _ _ _).mono (fun r h c => ?_) (Cert.Kernel9Ideal.Value.run_blocks m g)
    obtain ⟨h2, ha, hb⟩ := h c
    exact ⟨h2.trans (Cert.Kernel9Ideal.Proj.rows_eq m c), ha, hb⟩
  · refine (θ_run _ _ _).mono (fun r h c => ?_) (Cert.Reference9Ideal.Value.run m' g')
    obtain ⟨h0, hx, hw⟩ := h c
    obtain ⟨ha, hb⟩ := hargs c
    refine ⟨h0.trans ?_, hx, hw⟩
    · refine funext fun (i : Cert.Kernel9Ideal.S128x1024.Idx) => ?_
      obtain ⟨r, e, rfl⟩ : ∃ (r : Fin 128) (e : Fin 1024), i = ix2 r e := ⟨i 0, i 1, eq_ix2 i⟩
      refine (Cert.Reference9Ideal.Proj.lay0 _ r e).trans ((Cert.Reference9Ideal.Proj.cut_apply _ _ _ _ e).trans ?_)
      exact Finset.sum_congr rfl fun k _ => congrArg₂ (fun a b : EReal => a * b) (congrFun ha _) (congrFun hb _)

end Cert.Proof

end
-- ==== Proof.Proj10.lean ====
/-
  The projection of the sample's values of mixer B: the one grid point multiplies the 128 tokens by the 1024 columns of the weights
  from 5120 on. Over the extended reals the result is the reference's one product of the tokens by all the columns, cut
  and laid out.
-/
module

public import proofs.«01_k».proof.Defs
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import Idealize.ShloMosaic.Lib.Pipeline.Value
public import Idealize.ShloMosaic.Lib.Pointwise
public import Idealize.ShloMosaic.Lib.Quiescent
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Kernel10Ideal.Proj

open Cert.Kernel10Ideal Cert.Kernel10Ideal.Gen

variable (m : (ℓ : Loc nD τ sig) → Buf (Elt Ideal) ℓ)

/-- The tokens and the weights at launch. -/
abbrev X (c : Dev nD) : Vec Ideal S32x4x2048 .f32 := m ((c : Thread nD τ).loc main_arg0)
abbrev W (c : Dev nD) : Vec Ideal S1x2048x11344 .f32 := m ((c : Thread nD τ).loc main_arg1)

/-- Coordinate `e` of token `r`: the token's row against column `5120 + e` of the weights. -/
def coord (c : Dev nD) (r : Fin 128) (e : Fin 1024) : EReal :=
  ∑ k : Fin 2048, X m c (ix3 ⟨r.val / 4, by omega⟩ ⟨r.val % 4, by omega⟩ k) * W m c (ix3 0 k ⟨5120 + e.val, by omega⟩)

/-- The result laid out as rows of tokens. -/
def rows (c : Dev nD) : Vec Ideal S128x1024 .f32 := fun i => coord m c (i 0) (i 1)

/-- The tokens as the region finds them: flattened to rows. -/
theorem V_tokens (c : Dev nD) : V m c main_v1 = truncf (F := Ideal) .bf16 (shapeCast _ (X m c) shapeCasts_S32x4x2048_S128x2048) bitsLt_bf16_f32 := by
  show StableHlo.after hostOps0 (fun b => m (c, b)) (Proc.devRef .tc main_v1) = _
  after_results
  rfl

/-- The weights as the region finds them: the cut columns. -/
theorem V_weights (c : Dev nD) : V m c main_v4 = extractStridedSlice S2048x1024 ![0, 5120]
    (truncf (F := Ideal) .bf16 (shapeCast _ (W m c) shapeCasts_S1x2048x11344_S2048x11344) bitsLt_bf16_f32) slices_S2048x11344_S2048x1024_0_5120 := by
  show StableHlo.after hostOps0 (fun b => m (c, b)) (Proc.devRef .tc main_v4) = _
  after_results
  rfl

/-- Where each window's block sits at point `t`. -/
theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = t.val ∧ win0_2.index t (1 : Fin 2) = 0 := (by decide +kernel : ∀ t : Fin grid0.N, _)

theorem point_lt (t : Fin cfg0.N) : t.val < 1 := lt_of_lt_of_eq t.isLt N_0

/-- The token block of point `t`, read at row `r`, column `k`. -/
theorem tokens_apply (c : Dev nD) (t : Fin cfg0.N) (r : Fin 128) (k : Fin 2048) :
    (iblk m c 0 t : Vec Ideal S128x2048 .bf16) (ix2 r k) = X m c (ix3 ⟨(128 * t.val + r.val) / 4, by have := point_lt t; omega⟩ ⟨(128 * t.val + r.val) % 4, by omega⟩ k) := by
  show V m c main_v1 (((cfg0.win 0).blk t).view.emb (ix2 r k)) = _
  have e : ((cfg0.win 0).blk t).view.emb (ix2 r k) = (ix2 ⟨128 * t.val + r.val, by have := point_lt t; omega⟩ k : S128x2048.Idx) := by
    funext a; apply Fin.ext
    match a with
    | ⟨0, _⟩ => show win0_0.index t (0 : Fin 2) * 128 + 1 * r.val = 128 * t.val + r.val; have := (idx0 t).1; omega
    | ⟨1, _⟩ => show win0_0.index t (1 : Fin 2) * 2048 + 1 * k.val = k.val; have := (idx0 t).2; omega
  rw [e, V_tokens]
  pointwise

/-- The weight block, the same at every point, read at row `k`, column `e`. -/
theorem weights_apply (c : Dev nD) (t : Fin cfg0.N) (k : Fin 2048) (e : Fin 1024) :
    (iblk m c 1 t : Vec Ideal S2048x1024 .bf16) (ix2 k e) = W m c (ix3 0 k ⟨5120 + e.val, by omega⟩) := by
  show V m c main_v4 (((cfg0.win 1).blk t).view.emb (ix2 k e)) = _
  have he : ((cfg0.win 1).blk t).view.emb (ix2 k e) = (ix2 k e : S2048x1024.Idx) := by
    funext a; apply Fin.ext
    match a with
    | ⟨0, _⟩ => show win0_1.index t (0 : Fin 2) * 2048 + 1 * k.val = k.val; have := (idx1 t).1; omega
    | ⟨1, _⟩ => show win0_1.index t (1 : Fin 2) * 1024 + 1 * e.val = e.val; have := (idx1 t).2; omega
  rw [he, V_weights]
  pointwise

theorem hz : (![0, 0] : Fin 2 → Nat) = fun _ => 0 := funext fun a => by fin_cases a <;> rfl

/-- The stored value `k0_pay1` of two loaded blocks at an index: their product. -/
theorem k0_pay1_apply (P0 : Vec Ideal S128x2048 .bf16) (P1 : Vec Ideal S2048x1024 .bf16) (r : Fin 128) (e : Fin 1024) :
    k0_pay1 P0 P1 (ix2 r e) = ∑ k : Fin 2048, P0 (ix2 r k) * P1 (ix2 k e) := by
  pointwise [k0_pay1]

/-- At point `t` it is rows `128 t …` of the projection. -/
theorem k0_pay1_point (c : Dev nD) (t : Fin cfg0.N) (r : Fin 128) (e : Fin 1024) :
    k0_pay1 (View.ld (iblk m c 0 t) r0_0) (View.ld (iblk m c 1 t) r0_1) (ix2 r e)
      = coord m c ⟨128 * t.val + r.val, by have := point_lt t; omega⟩ e := by
  rw [View.ld_unit_zero (S := S128x2048) hz, View.ld_unit_zero (S := S2048x1024) hz, k0_pay1_apply]
  exact Finset.sum_congr rfl fun k _ => by rw [tokens_apply, weights_apply]

/-- Point `t` writes back its rows. -/
theorem flushed2_eq (c : Dev nD) (t : Fin cfg0.N) (hf : (cfg0.win 2).flush t = true) :
    (dats m 0 c).flushed 2 t = ((cfg0.win 2).blk t).view.read (Elt Ideal) (rows m c) := by
  rw [Value.flushed2]
  refine funext fun (j : S128x1024.Idx) => ?_
  obtain ⟨r, e, rfl⟩ : ∃ (r : Fin 128) (e : Fin 1024), j = ix2 r e := ⟨j 0, j 1, eq_ix2 j⟩
  show out0_2 (iblk m c 0 t) (iblk m c 1 t) (ix2 r e) = rows m c (((cfg0.win 2).blk t).view.emb (ix2 r e))
  have he : ((cfg0.win 2).blk t).view.emb (ix2 r e) = (ix2 ⟨128 * t.val + r.val, by have := point_lt t; omega⟩ e : S128x1024.Idx) := by
    funext a; apply Fin.ext
    match a with
    | ⟨0, _⟩ => show win0_2.index t (0 : Fin 2) * 128 + 1 * r.val = 128 * t.val + r.val; have := (idx2 t).1; omega
    | ⟨1, _⟩ => show win0_2.index t (1 : Fin 2) * 1024 + 1 * e.val = e.val; have := (idx2 t).2; omega
  rw [he]
  unfold out0_2
  rw [View.canon_unit_zero hz]
  exact k0_pay1_point m c t r e

/-- Every row lies in some point's block. -/
theorem rows_eq (c : Dev nD) : (dats m 0 c).arrAt 2 cfg0.N = rows m c :=
  (dats m 0 c).arrAt_eq_of_cover 2 (rows m c) (flushed2_eq m c) fun i => by
    have h0 : (i 0 : Nat) < 128 := (i 0).isLt
    have h1 : (i 1 : Nat) < 1024 := (i 1).isLt
    have hN : cfg0.N = 1 := N_0
    obtain ⟨t, ht⟩ : ∃ t : Fin cfg0.N, t.val = (i 0 : Nat) / 128 := ⟨⟨(i 0 : Nat) / 128, by rw [hN]; omega⟩, rfl⟩
    refine ⟨t, flush0_2 t, ?_⟩
    have h2 := idx2 t
    show i ∈ ((View.whole main_v5).slice (win0_2.rect t)).set
    rw [View.set_slice_whole, Rect.mem_set_unit]
    intro a
    match a with
    | ⟨0, _⟩ => show win0_2.index t (0 : Fin 2) * 128 ≤ (i 0 : Nat) ∧ (i 0 : Nat) < win0_2.index t (0 : Fin 2) * 128 + 128
                rw [h2.1]; omega
    | ⟨1, _⟩ => show win0_2.index t (1 : Fin 2) * 1024 ≤ (i 1 : Nat) ∧ (i 1 : Nat) < win0_2.index t (1 : Fin 2) * 1024 + 1024
                rw [h2.2]; omega

end Cert.Kernel10Ideal.Proj

namespace Cert.Reference10Ideal.Proj

open Cert.Reference10Ideal Cert.Reference10Ideal.Gen

/-- The reference's product of the tokens by every column, cut to these columns, at an index. -/
theorem cut_apply (x : Vec Ideal S32x4x2048 .f32) (w : Vec Ideal S1x2048x11344 .f32) (b : Fin 32) (r : Fin 4) (e : Fin 1024) :
    extractStridedSlice S32x4x1024 ![0, 0, 5120] (Host.dotGeneral (F := Ideal) (φ₁ := .f32) (φ₂ := .f32) dot_S32x4x2048_S2048x11344_S32x4x11344_2_0_01_1_n_n none x (shapeCast _ w shapeCasts_S1x2048x11344_S2048x11344)) slices_S32x4x11344_S32x4x1024_0_0_5120 (ix3 b r e)
      = ∑ k : Fin 2048, x (ix3 b r k) * w (ix3 0 k ⟨5120 + e.val, by omega⟩) := by
  pointwise

/-- The cut product laid out as rows of tokens. -/
theorem lay0 (v : Vec Ideal S32x4x1024 .f32) (r : Fin 128) (e : Fin 1024) :
    shapeCast S128x1024 v shapeCasts_S32x4x1024_S128x1024 (ix2 r e) = v (ix3 ⟨r.val / 4, by omega⟩ ⟨r.val % 4, by omega⟩ e) := by
  pointwise

end Cert.Reference10Ideal.Proj

namespace Cert.Proof

/-- The reference runs and leaves its arguments. -/
theorem frame_reference10 : Cert.quiescent_Reference10Ideal (hReference10Ideal := Cert.Reference10Ideal.Gen.facts) :=
  fun m ρ _ => (θ_run _ _ _).mono (fun r h => ⟨fun c => (h c).2, sem_eq_zero_of_no_sems rfl r.2⟩) (Cert.Reference10Ideal.Value.run m ρ)

/-- The projection's claim: what the kernel's call ends with is the reference's. -/
theorem algebraic10 : Cert.algebraic_Kernel10Ideal_Reference10Ideal (hKernel10Ideal := Cert.Kernel10Ideal.Gen.facts) (hReference10Ideal := Cert.Reference10Ideal.Gen.facts) := by
  intro m g m' g' _ hargs
  refine ⟨Cert.Kernel10Ideal.Proj.rows m, ?_, ?_⟩
  · refine (θ_run _ _ _).mono (fun r h c => ?_) (Cert.Kernel10Ideal.Value.run_blocks m g)
    obtain ⟨h2, ha, hb⟩ := h c
    exact ⟨h2.trans (Cert.Kernel10Ideal.Proj.rows_eq m c), ha, hb⟩
  · refine (θ_run _ _ _).mono (fun r h c => ?_) (Cert.Reference10Ideal.Value.run m' g')
    obtain ⟨h0, hx, hw⟩ := h c
    obtain ⟨ha, hb⟩ := hargs c
    refine ⟨h0.trans ?_, hx, hw⟩
    · refine funext fun (i : Cert.Kernel10Ideal.S128x1024.Idx) => ?_
      obtain ⟨r, e, rfl⟩ : ∃ (r : Fin 128) (e : Fin 1024), i = ix2 r e := ⟨i 0, i 1, eq_ix2 i⟩
      refine (Cert.Reference10Ideal.Proj.lay0 _ r e).trans ((Cert.Reference10Ideal.Proj.cut_apply _ _ _ _ e).trans ?_)
      exact Finset.sum_congr rfl fun k _ => congrArg₂ (fun a b : EReal => a * b) (congrFun ha _) (congrFun hb _)

end Cert.Proof

end
-- ==== Proof.Proj11.lean ====
/-
  The projection of the sample's indexer keys: the one grid point multiplies the 128 tokens by the 64 columns of the weights
  from 7168 on (with 16 more columns and 48 of zeros). Over the extended reals the result is the reference's one product of the tokens by all the columns, cut
  and laid out.
-/
module

public import proofs.«01_k».proof.Defs
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import Idealize.ShloMosaic.Lib.Pipeline.Value
public import Idealize.ShloMosaic.Lib.Pointwise
public import Idealize.ShloMosaic.Lib.Quiescent
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Kernel11Ideal.Proj

open Cert.Kernel11Ideal Cert.Kernel11Ideal.Gen

variable (m : (ℓ : Loc nD τ sig) → Buf (Elt Ideal) ℓ)

/-- The tokens and the weights at launch. -/
abbrev X (c : Dev nD) : Vec Ideal S32x4x2048 .f32 := m ((c : Thread nD τ).loc main_arg0)
abbrev W (c : Dev nD) : Vec Ideal S1x2048x11344 .f32 := m ((c : Thread nD τ).loc main_arg1)

/-- Coordinate `e` of token `r`: the token's row against column `7168 + e` of the weights. -/
def coord (c : Dev nD) (r : Fin 128) (e : Fin 64) : EReal :=
  ∑ k : Fin 2048, X m c (ix3 ⟨r.val / 4, by omega⟩ ⟨r.val % 4, by omega⟩ k) * W m c (ix3 0 k ⟨7168 + e.val, by omega⟩)

/-- The result laid out as rows of tokens. -/
def rows (c : Dev nD) : Vec Ideal S128x64 .f32 := fun i => coord m c (i 0) (i 1)

/-- The result laid out as rows of tokens. -/
def rowsb (c : Dev nD) : Vec Ideal S128x64 .bf16 := fun i => coord m c (i 0) (i 1)

/-- The tokens as the region finds them: flattened to rows. -/
theorem V_tokens (c : Dev nD) : V m c main_v1 = truncf (F := Ideal) .bf16 (shapeCast _ (X m c) shapeCasts_S32x4x2048_S128x2048) bitsLt_bf16_f32 := by
  show StableHlo.after hostOps0 (fun b => m (c, b)) (Proc.devRef .tc main_v1) = _
  after_results
  rfl

/-- The weights as the region finds them: the cut columns, filled up with zeros. -/
theorem V_weights (c : Dev nD) : V m c main_v6 = truncf (F := Ideal) .bf16 (concatenate S2048x128 1
    [⟨S2048x80, extractStridedSlice S2048x80 ![0, 7168] (shapeCast _ (W m c) shapeCasts_S1x2048x11344_S2048x11344) slices_S2048x11344_S2048x80_0_7168⟩,
      ⟨S2048x48, broadcastInDim S2048x48 ![] bcast_S_S2048x48 (constant (F := Ideal) S_ .f32 0x00000000#32)⟩] concatenates_S2048x80_S2048x48_S2048x128_d1) bitsLt_bf16_f32 := by
  show StableHlo.after hostOps0 (fun b => m (c, b)) (Proc.devRef .tc main_v6) = _
  after_results
  rfl

/-- Where each window's block sits at point `t`. -/
theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx3 : ∀ t : Fin cfg0.N, win0_3.index t (0 : Fin 2) = t.val ∧ win0_3.index t (1 : Fin 2) = 0 := (by decide +kernel : ∀ t : Fin grid0.N, _)
theorem idx4 : ∀ t : Fin cfg0.N, win0_4.index t (0 : Fin 2) = t.val ∧ win0_4.index t (1 : Fin 2) = 0 := (by decide +kernel : ∀ t : Fin grid0.N, _)

theorem point_lt (t : Fin cfg0.N) : t.val < 1 := lt_of_lt_of_eq t.isLt N_0

/-- The token block of point `t`, read at row `r`, column `k`. -/
theorem tokens_apply (c : Dev nD) (t : Fin cfg0.N) (r : Fin 128) (k : Fin 2048) :
    (iblk m c 0 t : Vec Ideal S128x2048 .bf16) (ix2 r k) = X m c (ix3 ⟨(128 * t.val + r.val) / 4, by have := point_lt t; omega⟩ ⟨(128 * t.val + r.val) % 4, by omega⟩ k) := by
  show V m c main_v1 (((cfg0.win 0).blk t).view.emb (ix2 r k)) = _
  have e : ((cfg0.win 0).blk t).view.emb (ix2 r k) = (ix2 ⟨128 * t.val + r.val, by have := point_lt t; omega⟩ k : S128x2048.Idx) := by
    funext a; apply Fin.ext
    match a with
    | ⟨0, _⟩ => show win0_0.index t (0 : Fin 2) * 128 + 1 * r.val = 128 * t.val + r.val; have := (idx0 t).1; omega
    | ⟨1, _⟩ => show win0_0.index t (1 : Fin 2) * 2048 + 1 * k.val = k.val; have := (idx0 t).2; omega
  rw [e, V_tokens]
  pointwise

/-- The weight block, the same at every point, read at row `k`, column `e`. -/
theorem weights_apply (c : Dev nD) (t : Fin cfg0.N) (k : Fin 2048) (e : Fin 64) :
    (iblk m c 1 t : Vec Ideal S2048x128 .bf16) (ix2 k ⟨e.val, by omega⟩) = W m c (ix3 0 k ⟨7168 + e.val, by omega⟩) := by
  show V m c main_v6 (((cfg0.win 1).blk t).view.emb (ix2 k ⟨e.val, by omega⟩)) = _
  have he : ((cfg0.win 1).blk t).view.emb (ix2 k ⟨e.val, by omega⟩) = (ix2 k ⟨e.val, by omega⟩ : S2048x128.Idx) := by
    funext a; apply Fin.ext
    match a with
    | ⟨0, _⟩ => show win0_1.index t (0 : Fin 2) * 2048 + 1 * k.val = k.val; have := (idx1 t).1; omega
    | ⟨1, _⟩ => show win0_1.index t (1 : Fin 2) * 128 + 1 * e.val = e.val; have := (idx1 t).2; omega
  rw [he, V_weights]
  have h80 : e.val < 80 := by omega
  pointwise
  exact dif_pos h80

theorem hz : (![0, 0] : Fin 2 → Nat) = fun _ => 0 := funext fun a => by fin_cases a <;> rfl

/-- The stored value `k0_pay2` of two loaded blocks at an index: their product. -/
theorem k0_pay2_apply (P0 : Vec Ideal S128x2048 .bf16) (P1 : Vec Ideal S2048x128 .bf16) (r : Fin 128) (e : Fin 64) :
    k0_pay2 P0 P1 (ix2 r e) = ∑ k : Fin 2048, P0 (ix2 r k) * P1 (ix2 k ⟨e.val, by omega⟩) := by
  pointwise [k0_pay2, k0_pay1]

/-- At point `t` it is rows `128 t …` of the projection. -/
theorem k0_pay2_point (c : Dev nD) (t : Fin cfg0.N) (r : Fin 128) (e : Fin 64) :
    k0_pay2 (View.ld (iblk m c 0 t) r0_0) (View.ld (iblk m c 1 t) r0_1) (ix2 r e)
      = coord m c ⟨128 * t.val + r.val, by have := point_lt t; omega⟩ e := by
  rw [View.ld_unit_zero (S := S128x2048) hz, View.ld_unit_zero (S := S2048x128) hz, k0_pay2_apply]
  exact Finset.sum_congr rfl fun k _ => by rw [tokens_apply, weights_apply]

/-- The stored value `k0_pay3` of two loaded blocks at an index: their product. -/
theorem k0_pay3_apply (P0 : Vec Ideal S128x2048 .bf16) (P1 : Vec Ideal S2048x128 .bf16) (r : Fin 128) (e : Fin 64) :
    k0_pay3 P0 P1 (ix2 r e) = ∑ k : Fin 2048, P0 (ix2 r k) * P1 (ix2 k ⟨e.val, by omega⟩) := by
  pointwise [k0_pay3, k0_pay1]

/-- At point `t` it is rows `128 t …` of the projection. -/
theorem k0_pay3_point (c : Dev nD) (t : Fin cfg0.N) (r : Fin 128) (e : Fin 64) :
    k0_pay3 (View.ld (iblk m c 0 t) r0_0) (View.ld (iblk m c 1 t) r0_1) (ix2 r e)
      = coord m c ⟨128 * t.val + r.val, by have := point_lt t; omega⟩ e := by
  rw [View.ld_unit_zero (S := S128x2048) hz, View.ld_unit_zero (S := S2048x128) hz, k0_pay3_apply]
  exact Finset.sum_congr rfl fun k _ => by rw [tokens_apply, weights_apply]

/-- Point `t` writes back its rows. -/
theorem flushed3_eq (c : Dev nD) (t : Fin cfg0.N) (hf : (cfg0.win 3).flush t = true) :
    (dats m 0 c).flushed 3 t = ((cfg0.win 3).blk t).view.read (Elt Ideal) (rows m c) := by
  rw [Value.flushed3]
  refine funext fun (j : S128x64.Idx) => ?_
  obtain ⟨r, e, rfl⟩ : ∃ (r : Fin 128) (e : Fin 64), j = ix2 r e := ⟨j 0, j 1, eq_ix2 j⟩
  show out0_3 (iblk m c 0 t) (iblk m c 1 t) (ix2 r e) = rows m c (((cfg0.win 3).blk t).view.emb (ix2 r e))
  have he : ((cfg0.win 3).blk t).view.emb (ix2 r e) = (ix2 ⟨128 * t.val + r.val, by have := point_lt t; omega⟩ e : S128x64.Idx) := by
    funext a; apply Fin.ext
    match a with
    | ⟨0, _⟩ => show win0_3.index t (0 : Fin 2) * 128 + 1 * r.val = 128 * t.val + r.val; have := (idx3 t).1; omega
    | ⟨1, _⟩ => show win0_3.index t (1 : Fin 2) * 64 + 1 * e.val = e.val; have := (idx3 t).2; omega
  rw [he]
  unfold out0_3
  rw [View.canon_unit_zero hz]
  exact k0_pay2_point m c t r e

/-- Every row lies in some point's block. -/
theorem rows_eq (c : Dev nD) : (dats m 0 c).arrAt 3 cfg0.N = rows m c :=
  (dats m 0 c).arrAt_eq_of_cover 3 (rows m c) (flushed3_eq m c) fun i => by
    have h0 : (i 0 : Nat) < 128 := (i 0).isLt
    have h1 : (i 1 : Nat) < 64 := (i 1).isLt
    have hN : cfg0.N = 1 := N_0
    obtain ⟨t, ht⟩ : ∃ t : Fin cfg0.N, t.val = (i 0 : Nat) / 128 := ⟨⟨(i 0 : Nat) / 128, by rw [hN]; omega⟩, rfl⟩
    refine ⟨t, flush0_3 t, ?_⟩
    have h2 := idx3 t
    show i ∈ ((View.whole main_v7_1).slice (win0_3.rect t)).set
    rw [View.set_slice_whole, Rect.mem_set_unit]
    intro a
    match a with
    | ⟨0, _⟩ => show win0_3.index t (0 : Fin 2) * 128 ≤ (i 0 : Nat) ∧ (i 0 : Nat) < win0_3.index t (0 : Fin 2) * 128 + 128
                rw [h2.1]; omega
    | ⟨1, _⟩ => show win0_3.index t (1 : Fin 2) * 64 ≤ (i 1 : Nat) ∧ (i 1 : Nat) < win0_3.index t (1 : Fin 2) * 64 + 64
                rw [h2.2]; omega

/-- Point `t` writes back its rows. -/
theorem flushed4_eq (c : Dev nD) (t : Fin cfg0.N) (hf : (cfg0.win 4).flush t = true) :
    (dats m 0 c).flushed 4 t = ((cfg0.win 4).blk t).view.read (Elt Ideal) (rowsb m c) := by
  rw [Value.flushed4]
  refine funext fun (j : S128x64.Idx) => ?_
  obtain ⟨r, e, rfl⟩ : ∃ (r : Fin 128) (e : Fin 64), j = ix2 r e := ⟨j 0, j 1, eq_ix2 j⟩
  show out0_4 (iblk m c 0 t) (iblk m c 1 t) (ix2 r e) = rowsb m c (((cfg0.win 4).blk t).view.emb (ix2 r e))
  have he : ((cfg0.win 4).blk t).view.emb (ix2 r e) = (ix2 ⟨128 * t.val + r.val, by have := point_lt t; omega⟩ e : S128x64.Idx) := by
    funext a; apply Fin.ext
    match a with
    | ⟨0, _⟩ => show win0_4.index t (0 : Fin 2) * 128 + 1 * r.val = 128 * t.val + r.val; have := (idx4 t).1; omega
    | ⟨1, _⟩ => show win0_4.index t (1 : Fin 2) * 64 + 1 * e.val = e.val; have := (idx4 t).2; omega
  rw [he]
  unfold out0_4
  rw [View.canon_unit_zero hz]
  exact k0_pay3_point m c t r e

/-- Every row lies in some point's block. -/
theorem rowsb_eq (c : Dev nD) : (dats m 0 c).arrAt 4 cfg0.N = rowsb m c :=
  (dats m 0 c).arrAt_eq_of_cover 4 (rowsb m c) (flushed4_eq m c) fun i => by
    have h0 : (i 0 : Nat) < 128 := (i 0).isLt
    have h1 : (i 1 : Nat) < 64 := (i 1).isLt
    have hN : cfg0.N = 1 := N_0
    obtain ⟨t, ht⟩ : ∃ t : Fin cfg0.N, t.val = (i 0 : Nat) / 128 := ⟨⟨(i 0 : Nat) / 128, by rw [hN]; omega⟩, rfl⟩
    refine ⟨t, flush0_4 t, ?_⟩
    have h2 := idx4 t
    show i ∈ ((View.whole main_v7_2).slice (win0_4.rect t)).set
    rw [View.set_slice_whole, Rect.mem_set_unit]
    intro a
    match a with
    | ⟨0, _⟩ => show win0_4.index t (0 : Fin 2) * 128 ≤ (i 0 : Nat) ∧ (i 0 : Nat) < win0_4.index t (0 : Fin 2) * 128 + 128
                rw [h2.1]; omega
    | ⟨1, _⟩ => show win0_4.index t (1 : Fin 2) * 64 ≤ (i 1 : Nat) ∧ (i 1 : Nat) < win0_4.index t (1 : Fin 2) * 64 + 64
                rw [h2.2]; omega

end Cert.Kernel11Ideal.Proj

namespace Cert.Reference11Ideal.Proj

open Cert.Reference11Ideal Cert.Reference11Ideal.Gen

/-- The reference's product of the tokens by every column, cut to these columns, at an index. -/
theorem cut_apply (x : Vec Ideal S32x4x2048 .f32) (w : Vec Ideal S1x2048x11344 .f32) (b : Fin 32) (r : Fin 4) (e : Fin 64) :
    extractStridedSlice S32x4x64 ![0, 0, 7168] (Host.dotGeneral (F := Ideal) (φ₁ := .f32) (φ₂ := .f32) dot_S32x4x2048_S2048x11344_S32x4x11344_2_0_01_1_n_n none x (shapeCast _ w shapeCasts_S1x2048x11344_S2048x11344)) slices_S32x4x11344_S32x4x64_0_0_7168 (ix3 b r e)
      = ∑ k : Fin 2048, x (ix3 b r k) * w (ix3 0 k ⟨7168 + e.val, by omega⟩) := by
  pointwise

/-- The cut product laid out as rows of tokens. -/
theorem lay0 (v : Vec Ideal S32x4x64 .f32) (r : Fin 128) (e : Fin 64) :
    shapeCast S128x64 v shapeCasts_S32x4x64_S128x64 (ix2 r e) = v (ix3 ⟨r.val / 4, by omega⟩ ⟨r.val % 4, by omega⟩ e) := by
  pointwise

/-- The cut product laid out as rows of tokens. -/
theorem lay1 (v : Vec Ideal S32x4x64 .f32) (r : Fin 128) (e : Fin 64) :
    truncf (F := Ideal) .bf16 (shapeCast S128x64 v shapeCasts_S32x4x64_S128x64) bitsLt_bf16_f32 (ix2 r e) = v (ix3 ⟨r.val / 4, by omega⟩ ⟨r.val % 4, by omega⟩ e) := by
  pointwise

end Cert.Reference11Ideal.Proj

namespace Cert.Proof

/-- The reference runs and leaves its arguments. -/
theorem frame_reference11 : Cert.quiescent_Reference11Ideal (hReference11Ideal := Cert.Reference11Ideal.Gen.facts) :=
  fun m ρ _ => (θ_run _ _ _).mono (fun r h => ⟨fun c => (h c).2.2, sem_eq_zero_of_no_sems rfl r.2⟩) (Cert.Reference11Ideal.Value.run m ρ)

/-- The projection's claim: what the kernel's call ends with is the reference's. -/
theorem algebraic11 : Cert.algebraic_Kernel11Ideal_Reference11Ideal (hKernel11Ideal := Cert.Kernel11Ideal.Gen.facts) (hReference11Ideal := Cert.Reference11Ideal.Gen.facts) := by
  intro m g m' g' _ hargs
  refine ⟨Cert.Kernel11Ideal.Proj.rows m, Cert.Kernel11Ideal.Proj.rowsb m, ?_, ?_⟩
  · refine (θ_run _ _ _).mono (fun r h c => ?_) (Cert.Kernel11Ideal.Value.run_blocks m g)
    obtain ⟨h2, h3, h4, ha, hb⟩ := h c
    exact ⟨h3.trans (Cert.Kernel11Ideal.Proj.rows_eq m c), h4.trans (Cert.Kernel11Ideal.Proj.rowsb_eq m c), ha, hb⟩
  · refine (θ_run _ _ _).mono (fun r h c => ?_) (Cert.Reference11Ideal.Value.run m' g')
    obtain ⟨h0, h1, hx, hw⟩ := h c
    obtain ⟨ha, hb⟩ := hargs c
    refine ⟨h0.trans ?_, h1.trans ?_, hx, hw⟩
    · refine funext fun (i : Cert.Kernel11Ideal.S128x64.Idx) => ?_
      obtain ⟨r, e, rfl⟩ : ∃ (r : Fin 128) (e : Fin 64), i = ix2 r e := ⟨i 0, i 1, eq_ix2 i⟩
      refine (Cert.Reference11Ideal.Proj.lay0 _ r e).trans ((Cert.Reference11Ideal.Proj.cut_apply _ _ _ _ e).trans ?_)
      exact Finset.sum_congr rfl fun k _ => congrArg₂ (fun a b : EReal => a * b) (congrFun ha _) (congrFun hb _)
    · refine funext fun (i : Cert.Kernel11Ideal.S128x64.Idx) => ?_
      obtain ⟨r, e, rfl⟩ : ∃ (r : Fin 128) (e : Fin 64), i = ix2 r e := ⟨i 0, i 1, eq_ix2 i⟩
      refine (Cert.Reference11Ideal.Proj.lay1 _ r e).trans ((Cert.Reference11Ideal.Proj.cut_apply _ _ _ _ e).trans ?_)
      exact Finset.sum_congr rfl fun k _ => congrArg₂ (fun a b : EReal => a * b) (congrFun ha _) (congrFun hb _)

end Cert.Proof

end
-- ==== Proof.Proj12.lean ====
/-
  The projection of the prompt's queries of mixer B: grid point `t` multiplies 512 rows of the tokens by the 1024 columns of the weights
  from 3072 on, stored one plane a head. Over the extended reals the result is the reference's one product of the tokens by all the columns, cut
  and laid out.
-/
module

public import proofs.«01_k».proof.Defs
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import Idealize.ShloMosaic.Lib.Pipeline.Value
public import Idealize.ShloMosaic.Lib.Pointwise
public import Idealize.ShloMosaic.Lib.Quiescent
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Kernel12Ideal.Proj

open Cert.Kernel12Ideal Cert.Kernel12Ideal.Gen

variable (m : (ℓ : Loc nD τ sig) → Buf (Elt Ideal) ℓ)

/-- The tokens and the weights at launch. -/
abbrev X (c : Dev nD) : Vec Ideal S1x8192x2048 .f32 := m ((c : Thread nD τ).loc main_arg0)
abbrev W (c : Dev nD) : Vec Ideal S1x2048x11344 .f32 := m ((c : Thread nD τ).loc main_arg1)

/-- Coordinate `e` of token `r`: the token's row against column `3072 + e` of the weights. -/
def coord (c : Dev nD) (r : Fin 8192) (e : Fin 1024) : EReal :=
  ∑ k : Fin 2048, X m c (ix3 0 r k) * W m c (ix3 0 k ⟨3072 + e.val, by omega⟩)

/-- The result laid out one plane a head. -/
def heads (c : Dev nD) : Vec Ideal S8x8192x128 .bf16 := fun i =>
  coord m c (i 1) ⟨(i 0).val * 128 + (i 2).val, by
    have h0 : (i 0).val < 8 := (i 0).isLt
    have h2 : (i 2).val < 128 := (i 2).isLt
    omega⟩

/-- The tokens as the region finds them: flattened to rows. -/
theorem V_tokens (c : Dev nD) : V m c main_v1 = truncf (F := Ideal) .bf16 (shapeCast _ (X m c) shapeCasts_S1x8192x2048_S8192x2048) bitsLt_bf16_f32 := by
  show StableHlo.after hostOps0 (fun b => m (c, b)) (Proc.devRef .tc main_v1) = _
  after_results
  rfl

/-- The weights as the region finds them: the cut columns. -/
theorem V_weights (c : Dev nD) : V m c main_v4 = extractStridedSlice S2048x1024 ![0, 3072]
    (truncf (F := Ideal) .bf16 (shapeCast _ (W m c) shapeCasts_S1x2048x11344_S2048x11344) bitsLt_bf16_f32) slices_S2048x11344_S2048x1024_0_3072 := by
  show StableHlo.after hostOps0 (fun b => m (c, b)) (Proc.devRef .tc main_v4) = _
  after_results
  rfl

/-- Where each window's block sits at point `t`. -/
theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 3) = 0 ∧ win0_2.index t (1 : Fin 3) = t.val ∧ win0_2.index t (2 : Fin 3) = 0 := (by decide +kernel : ∀ t : Fin grid0.N, _)

theorem point_lt (t : Fin cfg0.N) : t.val < 16 := lt_of_lt_of_eq t.isLt N_0

/-- The token block of point `t`, read at row `r`, column `k`. -/
theorem tokens_apply (c : Dev nD) (t : Fin cfg0.N) (r : Fin 512) (k : Fin 2048) :
    (iblk m c 0 t : Vec Ideal S512x2048 .bf16) (ix2 r k) = X m c (ix3 0 ⟨512 * t.val + r.val, by have := point_lt t; omega⟩ k) := by
  show V m c main_v1 (((cfg0.win 0).blk t).view.emb (ix2 r k)) = _
  have e : ((cfg0.win 0).blk t).view.emb (ix2 r k) = (ix2 ⟨512 * t.val + r.val, by have := point_lt t; omega⟩ k : S8192x2048.Idx) := by
    funext a; apply Fin.ext
    match a with
    | ⟨0, _⟩ => show win0_0.index t (0 : Fin 2) * 512 + 1 * r.val = 512 * t.val + r.val; have := (idx0 t).1; omega
    | ⟨1, _⟩ => show win0_0.index t (1 : Fin 2) * 2048 + 1 * k.val = k.val; have := (idx0 t).2; omega
  rw [e, V_tokens]
  pointwise

/-- The weight block, the same at every point, read at row `k`, column `e`. -/
theorem weights_apply (c : Dev nD) (t : Fin cfg0.N) (k : Fin 2048) (e : Fin 1024) :
    (iblk m c 1 t : Vec Ideal S2048x1024 .bf16) (ix2 k e) = W m c (ix3 0 k ⟨3072 + e.val, by omega⟩) := by
  show V m c main_v4 (((cfg0.win 1).blk t).view.emb (ix2 k e)) = _
  have he : ((cfg0.win 1).blk t).view.emb (ix2 k e) = (ix2 k e : S2048x1024.Idx) := by
    funext a; apply Fin.ext
    match a with
    | ⟨0, _⟩ => show win0_1.index t (0 : Fin 2) * 2048 + 1 * k.val = k.val; have := (idx1 t).1; omega
    | ⟨1, _⟩ => show win0_1.index t (1 : Fin 2) * 1024 + 1 * e.val = e.val; have := (idx1 t).2; omega
  rw [he, V_weights]
  pointwise

theorem hz : (![0, 0] : Fin 2 → Nat) = fun _ => 0 := funext fun a => by fin_cases a <;> rfl

/-- The stored value `k0_pay4` of two loaded blocks at an index: their product. -/
theorem k0_pay4_apply (P0 : Vec Ideal S512x2048 .bf16) (P1 : Vec Ideal S2048x1024 .bf16) (r : Fin 512) (e : Fin 1024) :
    k0_pay4 P0 P1 (ix2 r e) = ∑ k : Fin 2048, P0 (ix2 r k) * P1 (ix2 k e) := by
  pointwise [k0_pay4]

/-- At point `t` it is rows `512 t …` of the projection. -/
theorem k0_pay4_point (c : Dev nD) (t : Fin cfg0.N) (r : Fin 512) (e : Fin 1024) :
    k0_pay4 (View.ld (iblk m c 0 t) r0_0) (View.ld (iblk m c 1 t) r0_1) (ix2 r e)
      = coord m c ⟨512 * t.val + r.val, by have := point_lt t; omega⟩ e := by
  rw [View.ld_unit_zero (S := S512x2048) hz, View.ld_unit_zero (S := S2048x1024) hz, k0_pay4_apply]
  exact Finset.sum_congr rfl fun k _ => by rw [tokens_apply, weights_apply]

/-- Point `t` writes back its rows of every head's plane. -/
theorem flushed2_eq (c : Dev nD) (t : Fin cfg0.N) (hf : (cfg0.win 2).flush t = true) :
    (dats m 0 c).flushed 2 t = ((cfg0.win 2).blk t).view.read (Elt Ideal) (heads m c) := by
  rw [Value.flushed2]
  refine funext fun (j : S8x512x128.Idx) => ?_
  obtain ⟨h, r, e, rfl⟩ : ∃ (h : Fin 8) (r : Fin 512) (e : Fin 128), j = ix3 h r e := ⟨j 0, j 1, j 2, eq_ix3 j⟩
  show out0_2 (iblk m c 0 t) (iblk m c 1 t) (ix3 h r e) = heads m c (((cfg0.win 2).blk t).view.emb (ix3 h r e))
  have he : ((cfg0.win 2).blk t).view.emb (ix3 h r e) = (ix3 h ⟨512 * t.val + r.val, by have := point_lt t; omega⟩ e : S8x8192x128.Idx) := by
    funext a; apply Fin.ext
    match a with
    | ⟨0, _⟩ => show win0_2.index t (0 : Fin 3) * 8 + 1 * h.val = h.val; have := (idx2 t).1; omega
    | ⟨1, _⟩ => show win0_2.index t (1 : Fin 3) * 512 + 1 * r.val = 512 * t.val + r.val; have := (idx2 t).2.1; omega
    | ⟨2, _⟩ => show win0_2.index t (2 : Fin 3) * 128 + 1 * e.val = e.val; have := (idx2 t).2.2; omega
  rw [he]
  unfold_out out0_2
  refine (Value.canon2_eq _ _ _).trans ?_
  show k0_pay4 _ _ (Value.ix2_0 (ix3 h r e)) = _
  have hi : Value.ix2_0 (ix3 h r e) = (ix2 r ⟨h.val * 128 + e.val, by omega⟩ : S512x1024.Idx) := by
    funext a
    match a with
    | ⟨0, _⟩ => rfl
    | ⟨1, _⟩ => rfl
  rw [hi]
  exact k0_pay4_point m c t r _

/-- Every row of every head's plane lies in some point's block. -/
theorem heads_eq (c : Dev nD) : (dats m 0 c).arrAt 2 cfg0.N = heads m c :=
  (dats m 0 c).arrAt_eq_of_cover 2 (heads m c) (flushed2_eq m c) fun i => by
    have h0 : (i 0 : Nat) < 8 := (i 0).isLt
    have h1 : (i 1 : Nat) < 8192 := (i 1).isLt
    have h2 : (i 2 : Nat) < 128 := (i 2).isLt
    have hN : cfg0.N = 16 := N_0
    obtain ⟨t, ht⟩ : ∃ t : Fin cfg0.N, t.val = (i 1 : Nat) / 512 := ⟨⟨(i 1 : Nat) / 512, by rw [hN]; omega⟩, rfl⟩
    refine ⟨t, flush0_2 t, ?_⟩
    have h3 := idx2 t
    show i ∈ ((View.whole main_v5).slice (win0_2.rect t)).set
    rw [View.set_slice_whole, Rect.mem_set_unit]
    intro a
    match a with
    | ⟨0, _⟩ => show win0_2.index t (0 : Fin 3) * 8 ≤ (i 0 : Nat) ∧ (i 0 : Nat) < win0_2.index t (0 : Fin 3) * 8 + 8
                rw [h3.1]; omega
    | ⟨1, _⟩ => show win0_2.index t (1 : Fin 3) * 512 ≤ (i 1 : Nat) ∧ (i 1 : Nat) < win0_2.index t (1 : Fin 3) * 512 + 512
                rw [h3.2.1]; omega
    | ⟨2, _⟩ => show win0_2.index t (2 : Fin 3) * 128 ≤ (i 2 : Nat) ∧ (i 2 : Nat) < win0_2.index t (2 : Fin 3) * 128 + 128
                rw [h3.2.2]; omega

end Cert.Kernel12Ideal.Proj

namespace Cert.Reference12Ideal.Proj

open Cert.Reference12Ideal Cert.Reference12Ideal.Gen

/-- The reference's product of the tokens by every column, cut to these columns, at an index. -/
theorem cut_apply (x : Vec Ideal S1x8192x2048 .f32) (w : Vec Ideal S1x2048x11344 .f32) (r : Fin 8192) (e : Fin 1024) :
    extractStridedSlice S1x8192x1024 ![0, 0, 3072] (Host.dotGeneral (F := Ideal) (φ₁ := .f32) (φ₂ := .f32) dot_S1x8192x2048_S2048x11344_S1x8192x11344_2_0_01_1_n_n none x (shapeCast _ w shapeCasts_S1x2048x11344_S2048x11344)) slices_S1x8192x11344_S1x8192x1024_0_0_3072 (ix3 0 r e)
      = ∑ k : Fin 2048, x (ix3 0 r k) * w (ix3 0 k ⟨3072 + e.val, by omega⟩) := by
  pointwise

/-- The cut product laid out one plane a head. -/
theorem lay0 (v : Vec Ideal S1x8192x1024 .f32) (h : Fin 8) (r : Fin 8192) (e : Fin 128) :
    truncf (F := Ideal) .bf16 (transpose S8x8192x128 [1, 0, 2] (shapeCast S8192x8x128 (shapeCast S1x8192x8x128 v shapeCasts_S1x8192x1024_S1x8192x8x128) shapeCasts_S1x8192x8x128_S8192x8x128) transposes_S8192x8x128_S8x8192x128_1_0_2) bitsLt_bf16_f32 (ix3 h r e) = v (ix3 0 r ⟨h.val * 128 + e.val, by omega⟩) := by
  pointwise

end Cert.Reference12Ideal.Proj

namespace Cert.Proof

/-- The reference runs and leaves its arguments. -/
theorem frame_reference12 : Cert.quiescent_Reference12Ideal (hReference12Ideal := Cert.Reference12Ideal.Gen.facts) :=
  fun m ρ _ => (θ_run _ _ _).mono (fun r h => ⟨fun c => (h c).2, sem_eq_zero_of_no_sems rfl r.2⟩) (Cert.Reference12Ideal.Value.run m ρ)

/-- The projection's claim: what the kernel's call ends with is the reference's. -/
theorem algebraic12 : Cert.algebraic_Kernel12Ideal_Reference12Ideal (hKernel12Ideal := Cert.Kernel12Ideal.Gen.facts) (hReference12Ideal := Cert.Reference12Ideal.Gen.facts) := by
  intro m g m' g' _ hargs
  refine ⟨Cert.Kernel12Ideal.Proj.heads m, ?_, ?_⟩
  · refine (θ_run _ _ _).mono (fun r h c => ?_) (Cert.Kernel12Ideal.Value.run_blocks m g)
    obtain ⟨h2, ha, hb⟩ := h c
    exact ⟨h2.trans (Cert.Kernel12Ideal.Proj.heads_eq m c), ha, hb⟩
  · refine (θ_run _ _ _).mono (fun r h c => ?_) (Cert.Reference12Ideal.Value.run m' g')
    obtain ⟨h0, hx, hw⟩ := h c
    obtain ⟨ha, hb⟩ := hargs c
    refine ⟨h0.trans ?_, hx, hw⟩
    · refine funext fun (i : Cert.Kernel12Ideal.S8x8192x128.Idx) => ?_
      obtain ⟨h, r, e, rfl⟩ : ∃ (h : Fin 8) (r : Fin 8192) (e : Fin 128), i = ix3 h r e := ⟨i 0, i 1, i 2, eq_ix3 i⟩
      refine (Cert.Reference12Ideal.Proj.lay0 _ h r e).trans ((Cert.Reference12Ideal.Proj.cut_apply _ _ _ _).trans ?_)
      exact Finset.sum_congr rfl fun k _ => congrArg₂ (fun a b : EReal => a * b) (congrFun ha _) (congrFun hb _)

end Cert.Proof

end
-- ==== Proof.Proj13.lean ====
/-
  The projection of the prompt's indexer queries: grid point `t` multiplies 512 rows of the tokens by the 1024 columns of the weights
  from 6144 on. Over the extended reals the result is the reference's one product of the tokens by all the columns, cut
  and laid out.
-/
module

public import proofs.«01_k».proof.Defs
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import Idealize.ShloMosaic.Lib.Pipeline.Value
public import Idealize.ShloMosaic.Lib.Pointwise
public import Idealize.ShloMosaic.Lib.Quiescent
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Kernel13Ideal.Proj

open Cert.Kernel13Ideal Cert.Kernel13Ideal.Gen

variable (m : (ℓ : Loc nD τ sig) → Buf (Elt Ideal) ℓ)

/-- The tokens and the weights at launch. -/
abbrev X (c : Dev nD) : Vec Ideal S1x8192x2048 .f32 := m ((c : Thread nD τ).loc main_arg0)
abbrev W (c : Dev nD) : Vec Ideal S1x2048x11344 .f32 := m ((c : Thread nD τ).loc main_arg1)

/-- Coordinate `e` of token `r`: the token's row against column `6144 + e` of the weights. -/
def coord (c : Dev nD) (r : Fin 8192) (e : Fin 1024) : EReal :=
  ∑ k : Fin 2048, X m c (ix3 0 r k) * W m c (ix3 0 k ⟨6144 + e.val, by omega⟩)

/-- The result laid out as rows of tokens. -/
def rows (c : Dev nD) : Vec Ideal S8192x1024 .bf16 := fun i => coord m c (i 0) (i 1)

/-- The tokens as the region finds them: flattened to rows. -/
theorem V_tokens (c : Dev nD) : V m c main_v1 = truncf (F := Ideal) .bf16 (shapeCast _ (X m c) shapeCasts_S1x8192x2048_S8192x2048) bitsLt_bf16_f32 := by
  show StableHlo.after hostOps0 (fun b => m (c, b)) (Proc.devRef .tc main_v1) = _
  after_results
  rfl

/-- The weights as the region finds them: the cut columns. -/
theorem V_weights (c : Dev nD) : V m c main_v4 = extractStridedSlice S2048x1024 ![0, 6144]
    (truncf (F := Ideal) .bf16 (shapeCast _ (W m c) shapeCasts_S1x2048x11344_S2048x11344) bitsLt_bf16_f32) slices_S2048x11344_S2048x1024_0_6144 := by
  show StableHlo.after hostOps0 (fun b => m (c, b)) (Proc.devRef .tc main_v4) = _
  after_results
  rfl

/-- Where each window's block sits at point `t`. -/
theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = t.val ∧ win0_2.index t (1 : Fin 2) = 0 := (by decide +kernel : ∀ t : Fin grid0.N, _)

theorem point_lt (t : Fin cfg0.N) : t.val < 16 := lt_of_lt_of_eq t.isLt N_0

/-- The token block of point `t`, read at row `r`, column `k`. -/
theorem tokens_apply (c : Dev nD) (t : Fin cfg0.N) (r : Fin 512) (k : Fin 2048) :
    (iblk m c 0 t : Vec Ideal S512x2048 .bf16) (ix2 r k) = X m c (ix3 0 ⟨512 * t.val + r.val, by have := point_lt t; omega⟩ k) := by
  show V m c main_v1 (((cfg0.win 0).blk t).view.emb (ix2 r k)) = _
  have e : ((cfg0.win 0).blk t).view.emb (ix2 r k) = (ix2 ⟨512 * t.val + r.val, by have := point_lt t; omega⟩ k : S8192x2048.Idx) := by
    funext a; apply Fin.ext
    match a with
    | ⟨0, _⟩ => show win0_0.index t (0 : Fin 2) * 512 + 1 * r.val = 512 * t.val + r.val; have := (idx0 t).1; omega
    | ⟨1, _⟩ => show win0_0.index t (1 : Fin 2) * 2048 + 1 * k.val = k.val; have := (idx0 t).2; omega
  rw [e, V_tokens]
  pointwise

/-- The weight block, the same at every point, read at row `k`, column `e`. -/
theorem weights_apply (c : Dev nD) (t : Fin cfg0.N) (k : Fin 2048) (e : Fin 1024) :
    (iblk m c 1 t : Vec Ideal S2048x1024 .bf16) (ix2 k e) = W m c (ix3 0 k ⟨6144 + e.val, by omega⟩) := by
  show V m c main_v4 (((cfg0.win 1).blk t).view.emb (ix2 k e)) = _
  have he : ((cfg0.win 1).blk t).view.emb (ix2 k e) = (ix2 k e : S2048x1024.Idx) := by
    funext a; apply Fin.ext
    match a with
    | ⟨0, _⟩ => show win0_1.index t (0 : Fin 2) * 2048 + 1 * k.val = k.val; have := (idx1 t).1; omega
    | ⟨1, _⟩ => show win0_1.index t (1 : Fin 2) * 1024 + 1 * e.val = e.val; have := (idx1 t).2; omega
  rw [he, V_weights]
  pointwise

theorem hz : (![0, 0] : Fin 2 → Nat) = fun _ => 0 := funext fun a => by fin_cases a <;> rfl

/-- The stored value `k0_pay1` of two loaded blocks at an index: their product. -/
theorem k0_pay1_apply (P0 : Vec Ideal S512x2048 .bf16) (P1 : Vec Ideal S2048x1024 .bf16) (r : Fin 512) (e : Fin 1024) :
    k0_pay1 P0 P1 (ix2 r e) = ∑ k : Fin 2048, P0 (ix2 r k) * P1 (ix2 k e) := by
  pointwise [k0_pay1]

/-- At point `t` it is rows `512 t …` of the projection. -/
theorem k0_pay1_point (c : Dev nD) (t : Fin cfg0.N) (r : Fin 512) (e : Fin 1024) :
    k0_pay1 (View.ld (iblk m c 0 t) r0_0) (View.ld (iblk m c 1 t) r0_1) (ix2 r e)
      = coord m c ⟨512 * t.val + r.val, by have := point_lt t; omega⟩ e := by
  rw [View.ld_unit_zero (S := S512x2048) hz, View.ld_unit_zero (S := S2048x1024) hz, k0_pay1_apply]
  exact Finset.sum_congr rfl fun k _ => by rw [tokens_apply, weights_apply]

/-- Point `t` writes back its rows. -/
theorem flushed2_eq (c : Dev nD) (t : Fin cfg0.N) (hf : (cfg0.win 2).flush t = true) :
    (dats m 0 c).flushed 2 t = ((cfg0.win 2).blk t).view.read (Elt Ideal) (rows m c) := by
  rw [Value.flushed2]
  refine funext fun (j : S512x1024.Idx) => ?_
  obtain ⟨r, e, rfl⟩ : ∃ (r : Fin 512) (e : Fin 1024), j = ix2 r e := ⟨j 0, j 1, eq_ix2 j⟩
  show out0_2 (iblk m c 0 t) (iblk m c 1 t) (ix2 r e) = rows m c (((cfg0.win 2).blk t).view.emb (ix2 r e))
  have he : ((cfg0.win 2).blk t).view.emb (ix2 r e) = (ix2 ⟨512 * t.val + r.val, by have := point_lt t; omega⟩ e : S8192x1024.Idx) := by
    funext a; apply Fin.ext
    match a with
    | ⟨0, _⟩ => show win0_2.index t (0 : Fin 2) * 512 + 1 * r.val = 512 * t.val + r.val; have := (idx2 t).1; omega
    | ⟨1, _⟩ => show win0_2.index t (1 : Fin 2) * 1024 + 1 * e.val = e.val; have := (idx2 t).2; omega
  rw [he]
  unfold out0_2
  rw [View.canon_unit_zero hz]
  exact k0_pay1_point m c t r e

/-- Every row lies in some point's block. -/
theorem rows_eq (c : Dev nD) : (dats m 0 c).arrAt 2 cfg0.N = rows m c :=
  (dats m 0 c).arrAt_eq_of_cover 2 (rows m c) (flushed2_eq m c) fun i => by
    have h0 : (i 0 : Nat) < 8192 := (i 0).isLt
    have h1 : (i 1 : Nat) < 1024 := (i 1).isLt
    have hN : cfg0.N = 16 := N_0
    obtain ⟨t, ht⟩ : ∃ t : Fin cfg0.N, t.val = (i 0 : Nat) / 512 := ⟨⟨(i 0 : Nat) / 512, by rw [hN]; omega⟩, rfl⟩
    refine ⟨t, flush0_2 t, ?_⟩
    have h2 := idx2 t
    show i ∈ ((View.whole main_v5).slice (win0_2.rect t)).set
    rw [View.set_slice_whole, Rect.mem_set_unit]
    intro a
    match a with
    | ⟨0, _⟩ => show win0_2.index t (0 : Fin 2) * 512 ≤ (i 0 : Nat) ∧ (i 0 : Nat) < win0_2.index t (0 : Fin 2) * 512 + 512
                rw [h2.1]; omega
    | ⟨1, _⟩ => show win0_2.index t (1 : Fin 2) * 1024 ≤ (i 1 : Nat) ∧ (i 1 : Nat) < win0_2.index t (1 : Fin 2) * 1024 + 1024
                rw [h2.2]; omega

end Cert.Kernel13Ideal.Proj

namespace Cert.Reference13Ideal.Proj

open Cert.Reference13Ideal Cert.Reference13Ideal.Gen

/-- The reference's product of the tokens by every column, cut to these columns, at an index. -/
theorem cut_apply (x : Vec Ideal S1x8192x2048 .f32) (w : Vec Ideal S1x2048x11344 .f32) (r : Fin 8192) (e : Fin 1024) :
    extractStridedSlice S1x8192x1024 ![0, 0, 6144] (Host.dotGeneral (F := Ideal) (φ₁ := .f32) (φ₂ := .f32) dot_S1x8192x2048_S2048x11344_S1x8192x11344_2_0_01_1_n_n none x (shapeCast _ w shapeCasts_S1x2048x11344_S2048x11344)) slices_S1x8192x11344_S1x8192x1024_0_0_6144 (ix3 0 r e)
      = ∑ k : Fin 2048, x (ix3 0 r k) * w (ix3 0 k ⟨6144 + e.val, by omega⟩) := by
  pointwise

/-- The cut product laid out as rows of tokens. -/
theorem lay0 (v : Vec Ideal S1x8192x1024 .f32) (r : Fin 8192) (e : Fin 1024) :
    truncf (F := Ideal) .bf16 (shapeCast S8192x1024 v shapeCasts_S1x8192x1024_S8192x1024) bitsLt_bf16_f32 (ix2 r e) = v (ix3 0 r e) := by
  pointwise

end Cert.Reference13Ideal.Proj

namespace Cert.Proof

/-- The reference runs and leaves its arguments. -/
theorem frame_reference13 : Cert.quiescent_Reference13Ideal (hReference13Ideal := Cert.Reference13Ideal.Gen.facts) :=
  fun m ρ _ => (θ_run _ _ _).mono (fun r h => ⟨fun c => (h c).2, sem_eq_zero_of_no_sems rfl r.2⟩) (Cert.Reference13Ideal.Value.run m ρ)

/-- The projection's claim: what the kernel's call ends with is the reference's. -/
theorem algebraic13 : Cert.algebraic_Kernel13Ideal_Reference13Ideal (hKernel13Ideal := Cert.Kernel13Ideal.Gen.facts) (hReference13Ideal := Cert.Reference13Ideal.Gen.facts) := by
  intro m g m' g' _ hargs
  refine ⟨Cert.Kernel13Ideal.Proj.rows m, ?_, ?_⟩
  · refine (θ_run _ _ _).mono (fun r h c => ?_) (Cert.Kernel13Ideal.Value.run_blocks m g)
    obtain ⟨h2, ha, hb⟩ := h c
    exact ⟨h2.trans (Cert.Kernel13Ideal.Proj.rows_eq m c), ha, hb⟩
  · refine (θ_run _ _ _).mono (fun r h c => ?_) (Cert.Reference13Ideal.Value.run m' g')
    obtain ⟨h0, hx, hw⟩ := h c
    obtain ⟨ha, hb⟩ := hargs c
    refine ⟨h0.trans ?_, hx, hw⟩
    · refine funext fun (i : Cert.Kernel13Ideal.S8192x1024.Idx) => ?_
      obtain ⟨r, e, rfl⟩ : ∃ (r : Fin 8192) (e : Fin 1024), i = ix2 r e := ⟨i 0, i 1, eq_ix2 i⟩
      refine (Cert.Reference13Ideal.Proj.lay0 _ r e).trans ((Cert.Reference13Ideal.Proj.cut_apply _ _ _ e).trans ?_)
      exact Finset.sum_congr rfl fun k _ => congrArg₂ (fun a b : EReal => a * b) (congrFun ha _) (congrFun hb _)

end Cert.Proof

end
-- ==== Proof.Proj14.lean ====
/-
  The projection of the prompt's gates of mixer A: grid point `t` multiplies 512 rows of the tokens by the 2048 columns of the weights
  from 7248 on. Over the extended reals the result is the reference's one product of the tokens by all the columns, cut
  and laid out.
-/
module

public import proofs.«01_k».proof.Defs
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Run
public import Idealize.ShloMosaic.Lib.Pipeline.Value
public import Idealize.ShloMosaic.Lib.Pointwise
public import Idealize.ShloMosaic.Lib.Quiescent
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Kernel14Ideal.Proj

open Cert.Kernel14Ideal Cert.Kernel14Ideal.Gen

variable (m : (ℓ : Loc nD τ sig) → Buf (Elt Ideal) ℓ)

/-- The tokens and the weights at launch. -/
abbrev X (c : Dev nD) : Vec Ideal S1x8192x2048 .f32 := m ((c : Thread nD τ).loc main_arg0)
abbrev W (c : Dev nD) : Vec Ideal S1x2048x11344 .f32 := m ((c : Thread nD τ).loc main_arg1)

/-- Coordinate `e` of token `r`: the token's row against column `7248 + e` of the weights. -/
def coord (c : Dev nD) (r : Fin 8192) (e : Fin 2048) : EReal :=
  ∑ k : Fin 2048, X m c (ix3 0 r k) * W m c (ix3 0 k ⟨7248 + e.val, by omega⟩)

/-- The result laid out as rows of tokens. -/
def rows (c : Dev nD) : Vec Ideal S8192x2048 .f32 := fun i => coord m c (i 0) (i 1)

/-- The tokens as the region finds them: flattened to rows. -/
theorem V_tokens (c : Dev nD) : V m c main_v1 = truncf (F := Ideal) .bf16 (shapeCast _ (X m c) shapeCasts_S1x8192x2048_S8192x2048) bitsLt_bf16_f32 := by
  show StableHlo.after hostOps0 (fun b => m (c, b)) (Proc.devRef .tc main_v1) = _
  after_results
  rfl

/-- The weights as the region finds them: the cut columns. -/
theorem V_weights (c : Dev nD) : V m c main_v4 = extractStridedSlice S2048x2048 ![0, 7248]
    (truncf (F := Ideal) .bf16 (shapeCast _ (W m c) shapeCasts_S1x2048x11344_S2048x11344) bitsLt_bf16_f32) slices_S2048x11344_S2048x2048_0_7248 := by
  show StableHlo.after hostOps0 (fun b => m (c, b)) (Proc.devRef .tc main_v4) = _
  after_results
  rfl

/-- Where each window's block sits at point `t`. -/
theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = t.val ∧ win0_2.index t (1 : Fin 2) = 0 := (by decide +kernel : ∀ t : Fin grid0.N, _)

theorem point_lt (t : Fin cfg0.N) : t.val < 16 := lt_of_lt_of_eq t.isLt N_0

/-- The token block of point `t`, read at row `r`, column `k`. -/
theorem tokens_apply (c : Dev nD) (t : Fin cfg0.N) (r : Fin 512) (k : Fin 2048) :
    (iblk m c 0 t : Vec Ideal S512x2048 .bf16) (ix2 r k) = X m c (ix3 0 ⟨512 * t.val + r.val, by have := point_lt t; omega⟩ k) := by
  show V m c main_v1 (((cfg0.win 0).blk t).view.emb (ix2 r k)) = _
  have e : ((cfg0.win 0).blk t).view.emb (ix2 r k) = (ix2 ⟨512 * t.val + r.val, by have := point_lt t; omega⟩ k : S8192x2048.Idx) := by
    funext a; apply Fin.ext
    match a with
    | ⟨0, _⟩ => show win0_0.index t (0 : Fin 2) * 512 + 1 * r.val = 512 * t.val + r.val; have := (idx0 t).1; omega
    | ⟨1, _⟩ => show win0_0.index t (1 : Fin 2) * 2048 + 1 * k.val = k.val; have := (idx0 t).2; omega
  rw [e, V_tokens]
  pointwise

/-- The weight block, the same at every point, read at row `k`, column `e`. -/
theorem weights_apply (c : Dev nD) (t : Fin cfg0.N) (k : Fin 2048) (e : Fin 2048) :
    (iblk m c 1 t : Vec Ideal S2048x2048 .bf16) (ix2 k e) = W m c (ix3 0 k ⟨7248 + e.val, by omega⟩) := by
  show V m c main_v4 (((cfg0.win 1).blk t).view.emb (ix2 k e)) = _
  have he : ((cfg0.win 1).blk t).view.emb (ix2 k e) = (ix2 k e : S2048x2048.Idx) := by
    funext a; apply Fin.ext
    match a with
    | ⟨0, _⟩ => show win0_1.index t (0 : Fin 2) * 2048 + 1 * k.val = k.val; have := (idx1 t).1; omega
    | ⟨1, _⟩ => show win0_1.index t (1 : Fin 2) * 2048 + 1 * e.val = e.val; have := (idx1 t).2; omega
  rw [he, V_weights]
  pointwise

theorem hz : (![0, 0] : Fin 2 → Nat) = fun _ => 0 := funext fun a => by fin_cases a <;> rfl

/-- The stored value `k0_pay1` of two loaded blocks at an index: their product. -/
theorem k0_pay1_apply (P0 : Vec Ideal S512x2048 .bf16) (P1 : Vec Ideal S2048x2048 .bf16) (r : Fin 512) (e : Fin 2048) :
    k0_pay1 P0 P1 (ix2 r e) = ∑ k : Fin 2048, P0 (ix2 r k) * P1 (ix2 k e) := by
  pointwise [k0_pay1]

/-- At point `t` it is rows `512 t …` of the projection. -/
theorem k0_pay1_point (c : Dev nD) (t : Fin cfg0.N) (r : Fin 512) (e : Fin 2048) :
    k0_pay1 (View.ld (iblk m c 0 t) r0_0) (View.ld (iblk m c 1 t) r0_1) (ix2 r e)
      = coord m c ⟨512 * t.val + r.val, by have := point_lt t; omega⟩ e := by
  rw [View.ld_unit_zero (S := S512x2048) hz, View.ld_unit_zero (S := S2048x2048) hz, k0_pay1_apply]
  exact Finset.sum_congr rfl fun k _ => by rw [tokens_apply, weights_apply]

/-- Point `t` writes back its rows. -/
theorem flushed2_eq (c : Dev nD) (t : Fin cfg0.N) (hf : (cfg0.win 2).flush t = true) :
    (dats m 0 c).flushed 2 t = ((cfg0.win 2).blk t).view.read (Elt Ideal) (rows m c) := by
  rw [Value.flushed2]
  refine funext fun (j : S512x2048.Idx) => ?_
  obtain ⟨r, e, rfl⟩ : ∃ (r : Fin 512) (e : Fin 2048), j = ix2 r e := ⟨j 0, j 1, eq_ix2 j⟩
  show out0_2 (iblk m c 0 t) (iblk m c 1 t) (ix2 r e) = rows m c (((cfg0.win 2).blk t).view.emb (ix2 r e))
  have he : ((cfg0.win 2).blk t).view.emb (ix2 r e) = (ix2 ⟨512 * t.val + r.val, by have := point_lt t; omega⟩ e : S8192x2048.Idx) := by
    funext a; apply Fin.ext
    match a with
    | ⟨0, _⟩ => show win0_2.index t (0 : Fin 2) * 512 + 1 * r.val = 512 * t.val + r.val; have := (idx2 t).1; omega
    | ⟨1, _⟩ => show win0_2.index t (1 : Fin 2) * 2048 + 1 * e.val = e.val; have := (idx2 t).2; omega
  rw [he]
  unfold out0_2
  rw [View.canon_unit_zero hz]
  exact k0_pay1_point m c t r e

/-- Every row lies in some point's block. -/
theorem rows_eq (c : Dev nD) : (dats m 0 c).arrAt 2 cfg0.N = rows m c :=
  (dats m 0 c).arrAt_eq_of_cover 2 (rows m c) (flushed2_eq m c) fun i => by
    have h0 : (i 0 : Nat) < 8192 := (i 0).isLt
    have h1 : (i 1 : Nat) < 2048 := (i 1).isLt
    have hN : cfg0.N = 16 := N_0
    obtain ⟨t, ht⟩ : ∃ t : Fin cfg0.N, t.val = (i 0 : Nat) / 512 := ⟨⟨(i 0 : Nat) / 512, by rw [hN]; omega⟩, rfl⟩
    refine ⟨t, flush0_2 t, ?_⟩
    have h2 := idx2 t
    show i ∈ ((View.whole main_v5).slice (win0_2.rect t)).set
    rw [View.set_slice_whole, Rect.mem_set_unit]
    intro a
    match a with
    | ⟨0, _⟩ => show win0_2.index t (0 : Fin 2) * 512 ≤ (i 0 : Nat) ∧ (i 0 : Nat) < win0_2.index t (0 : Fin 2) * 512 + 512
                rw [h2.1]; omega
    | ⟨1, _⟩ => show win0_2.index t (1 : Fin 2) * 2048 ≤ (i 1 : Nat) ∧ (i 1 : Nat) < win0_2.index t (1 : Fin 2) * 2048 + 2048
                rw [h2.2]; omega

end Cert.Kernel14Ideal.Proj

namespace Cert.Reference14Ideal.Proj

open Cert.Reference14Ideal Cert.Reference14Ideal.Gen

/-- The reference's product of the tokens by every column, cut to these columns, at an index. -/
theorem cut_apply (x : Vec Ideal S1x8192x2048 .f32) (w : Vec Ideal S1x2048x11344 .f32) (r : Fin 8192) (e : Fin 2048) :
    extractStridedSlice S1x8192x2048 ![0, 0, 7248] (Host.dotGeneral (F := Ideal) (φ₁ := .f32) (φ₂ := .f32) dot_S1x8192x2048_S2048x11344_S1x8192x11344_2_0_01_1_n_n none x (shapeCast _ w shapeCasts_S1x2048x11344_S2048x11344)) slices_S1x8192x11344_S1x8192x2048_0_0_7248 (ix3 0 r e)
      = ∑ k : Fin 2048, x (ix3 0 r k) * w (ix3 0 k ⟨7248 + e.val, by omega⟩) := by
  pointwise

/-- The cut product laid out as rows of tokens. -/
theorem lay0 (v : Vec Ideal S1x8192x2048 .f32) (r : Fin 8192) (e : Fin 2048) :
    shapeCast S8192x2048 v shapeCasts_S1x8192x2048_S8192x2048 (ix2 r e) = v (ix3 0 r e) := by
  pointwise

end Cert.Reference14Ideal.Proj

namespace Cert.Proof

/-- The reference runs and leaves its arguments. -/
theorem frame_reference14 : Cert.quiescent_Reference14Ideal (hReference14Ideal := Cert.Reference14Ideal.Gen.facts) :=
  fun m ρ _ => (θ_run _ _ _).mono (fun r h => ⟨fun c => (h c).2, sem_eq_zero_of_no_sems rfl r.2⟩) (Cert.Reference14Ideal.Value.run m ρ)

/-- The projection's claim: what the kernel's call ends with is the reference's. -/
theorem algebraic14 : Cert.algebraic_Kernel14Ideal_Reference14Ideal (hKernel14Ideal := Cert.Kernel14Ideal.Gen.facts) (hReference14Ideal := Cert.Reference14Ideal.Gen.facts) := by
  intro m g m' g' _ hargs
  refine ⟨Cert.Kernel14Ideal.Proj.rows m, ?_, ?_⟩
  · refine (θ_run _ _ _).mono (fun r h c => ?_) (Cert.Kernel14Ideal.Value.run_blocks m g)
    obtain ⟨h2, ha, hb⟩ := h c
    exact ⟨h2.trans (Cert.Kernel14Ideal.Proj.rows_eq m c), ha, hb⟩
  · refine (θ_run _ _ _).mono (fun r h c => ?_) (Cert.Reference14Ideal.Value.run m' g')
    obtain ⟨h0, hx, hw⟩ := h c
    obtain ⟨ha, hb⟩ := hargs c
    refine ⟨h0.trans ?_, hx, hw⟩
    · refine funext fun (i : Cert.Kernel14Ideal.S8192x2048.Idx) => ?_
      obtain ⟨r, e, rfl⟩ : ∃ (r : Fin 8192) (e : Fin 2048), i = ix2 r e := ⟨i 0, i 1, eq_ix2 i⟩
      refine (Cert.Reference14Ideal.Proj.lay0 _ r e).trans ((Cert.Reference14Ideal.Proj.cut_apply _ _ _ e).trans ?_)
      exact Finset.sum_congr rfl fun k _ => congrArg₂ (fun a b : EReal => a * b) (congrFun ha _) (congrFun hb _)

end Cert.Proof

end
-- ==== Proof.Proj15.lean ====
/-
  The projection of the prompt's gates of mixer B: grid point `t` multiplies 512 rows of the tokens by the 2048 columns of the weights
  from 9296 on. Over the extended reals the result is the reference's one product of the tokens by all the columns, cut
  and laid out.
-/
module

public import proofs.«01_k».proof.Defs
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal.Run
public import Idealize.ShloMosaic.Lib.Pipeline.Value
public import Idealize.ShloMosaic.Lib.Pointwise
public import Idealize.ShloMosaic.Lib.Quiescent
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Kernel15Ideal.Proj

open Cert.Kernel15Ideal Cert.Kernel15Ideal.Gen

variable (m : (ℓ : Loc nD τ sig) → Buf (Elt Ideal) ℓ)

/-- The tokens and the weights at launch. -/
abbrev X (c : Dev nD) : Vec Ideal S1x8192x2048 .f32 := m ((c : Thread nD τ).loc main_arg0)
abbrev W (c : Dev nD) : Vec Ideal S1x2048x11344 .f32 := m ((c : Thread nD τ).loc main_arg1)

/-- Coordinate `e` of token `r`: the token's row against column `9296 + e` of the weights. -/
def coord (c : Dev nD) (r : Fin 8192) (e : Fin 2048) : EReal :=
  ∑ k : Fin 2048, X m c (ix3 0 r k) * W m c (ix3 0 k ⟨9296 + e.val, by omega⟩)

/-- The result laid out as rows of tokens. -/
def rows (c : Dev nD) : Vec Ideal S8192x2048 .f32 := fun i => coord m c (i 0) (i 1)

/-- The tokens as the region finds them: flattened to rows. -/
theorem V_tokens (c : Dev nD) : V m c main_v1 = truncf (F := Ideal) .bf16 (shapeCast _ (X m c) shapeCasts_S1x8192x2048_S8192x2048) bitsLt_bf16_f32 := by
  show StableHlo.after hostOps0 (fun b => m (c, b)) (Proc.devRef .tc main_v1) = _
  after_results
  rfl

/-- The weights as the region finds them: the cut columns. -/
theorem V_weights (c : Dev nD) : V m c main_v4 = extractStridedSlice S2048x2048 ![0, 9296]
    (truncf (F := Ideal) .bf16 (shapeCast _ (W m c) shapeCasts_S1x2048x11344_S2048x11344) bitsLt_bf16_f32) slices_S2048x11344_S2048x2048_0_9296 := by
  show StableHlo.after hostOps0 (fun b => m (c, b)) (Proc.devRef .tc main_v4) = _
  after_results
  rfl

/-- Where each window's block sits at point `t`. -/
theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = t.val ∧ win0_2.index t (1 : Fin 2) = 0 := (by decide +kernel : ∀ t : Fin grid0.N, _)

theorem point_lt (t : Fin cfg0.N) : t.val < 16 := lt_of_lt_of_eq t.isLt N_0

/-- The token block of point `t`, read at row `r`, column `k`. -/
theorem tokens_apply (c : Dev nD) (t : Fin cfg0.N) (r : Fin 512) (k : Fin 2048) :
    (iblk m c 0 t : Vec Ideal S512x2048 .bf16) (ix2 r k) = X m c (ix3 0 ⟨512 * t.val + r.val, by have := point_lt t; omega⟩ k) := by
  show V m c main_v1 (((cfg0.win 0).blk t).view.emb (ix2 r k)) = _
  have e : ((cfg0.win 0).blk t).view.emb (ix2 r k) = (ix2 ⟨512 * t.val + r.val, by have := point_lt t; omega⟩ k : S8192x2048.Idx) := by
    funext a; apply Fin.ext
    match a with
    | ⟨0, _⟩ => show win0_0.index t (0 : Fin 2) * 512 + 1 * r.val = 512 * t.val + r.val; have := (idx0 t).1; omega
    | ⟨1, _⟩ => show win0_0.index t (1 : Fin 2) * 2048 + 1 * k.val = k.val; have := (idx0 t).2; omega
  rw [e, V_tokens]
  pointwise

/-- The weight block, the same at every point, read at row `k`, column `e`. -/
theorem weights_apply (c : Dev nD) (t : Fin cfg0.N) (k : Fin 2048) (e : Fin 2048) :
    (iblk m c 1 t : Vec Ideal S2048x2048 .bf16) (ix2 k e) = W m c (ix3 0 k ⟨9296 + e.val, by omega⟩) := by
  show V m c main_v4 (((cfg0.win 1).blk t).view.emb (ix2 k e)) = _
  have he : ((cfg0.win 1).blk t).view.emb (ix2 k e) = (ix2 k e : S2048x2048.Idx) := by
    funext a; apply Fin.ext
    match a with
    | ⟨0, _⟩ => show win0_1.index t (0 : Fin 2) * 2048 + 1 * k.val = k.val; have := (idx1 t).1; omega
    | ⟨1, _⟩ => show win0_1.index t (1 : Fin 2) * 2048 + 1 * e.val = e.val; have := (idx1 t).2; omega
  rw [he, V_weights]
  pointwise

theorem hz : (![0, 0] : Fin 2 → Nat) = fun _ => 0 := funext fun a => by fin_cases a <;> rfl

/-- The stored value `k0_pay1` of two loaded blocks at an index: their product. -/
theorem k0_pay1_apply (P0 : Vec Ideal S512x2048 .bf16) (P1 : Vec Ideal S2048x2048 .bf16) (r : Fin 512) (e : Fin 2048) :
    k0_pay1 P0 P1 (ix2 r e) = ∑ k : Fin 2048, P0 (ix2 r k) * P1 (ix2 k e) := by
  pointwise [k0_pay1]

/-- At point `t` it is rows `512 t …` of the projection. -/
theorem k0_pay1_point (c : Dev nD) (t : Fin cfg0.N) (r : Fin 512) (e : Fin 2048) :
    k0_pay1 (View.ld (iblk m c 0 t) r0_0) (View.ld (iblk m c 1 t) r0_1) (ix2 r e)
      = coord m c ⟨512 * t.val + r.val, by have := point_lt t; omega⟩ e := by
  rw [View.ld_unit_zero (S := S512x2048) hz, View.ld_unit_zero (S := S2048x2048) hz, k0_pay1_apply]
  exact Finset.sum_congr rfl fun k _ => by rw [tokens_apply, weights_apply]

/-- Point `t` writes back its rows. -/
theorem flushed2_eq (c : Dev nD) (t : Fin cfg0.N) (hf : (cfg0.win 2).flush t = true) :
    (dats m 0 c).flushed 2 t = ((cfg0.win 2).blk t).view.read (Elt Ideal) (rows m c) := by
  rw [Value.flushed2]
  refine funext fun (j : S512x2048.Idx) => ?_
  obtain ⟨r, e, rfl⟩ : ∃ (r : Fin 512) (e : Fin 2048), j = ix2 r e := ⟨j 0, j 1, eq_ix2 j⟩
  show out0_2 (iblk m c 0 t) (iblk m c 1 t) (ix2 r e) = rows m c (((cfg0.win 2).blk t).view.emb (ix2 r e))
  have he : ((cfg0.win 2).blk t).view.emb (ix2 r e) = (ix2 ⟨512 * t.val + r.val, by have := point_lt t; omega⟩ e : S8192x2048.Idx) := by
    funext a; apply Fin.ext
    match a with
    | ⟨0, _⟩ => show win0_2.index t (0 : Fin 2) * 512 + 1 * r.val = 512 * t.val + r.val; have := (idx2 t).1; omega
    | ⟨1, _⟩ => show win0_2.index t (1 : Fin 2) * 2048 + 1 * e.val = e.val; have := (idx2 t).2; omega
  rw [he]
  unfold out0_2
  rw [View.canon_unit_zero hz]
  exact k0_pay1_point m c t r e

/-- Every row lies in some point's block. -/
theorem rows_eq (c : Dev nD) : (dats m 0 c).arrAt 2 cfg0.N = rows m c :=
  (dats m 0 c).arrAt_eq_of_cover 2 (rows m c) (flushed2_eq m c) fun i => by
    have h0 : (i 0 : Nat) < 8192 := (i 0).isLt
    have h1 : (i 1 : Nat) < 2048 := (i 1).isLt
    have hN : cfg0.N = 16 := N_0
    obtain ⟨t, ht⟩ : ∃ t : Fin cfg0.N, t.val = (i 0 : Nat) / 512 := ⟨⟨(i 0 : Nat) / 512, by rw [hN]; omega⟩, rfl⟩
    refine ⟨t, flush0_2 t, ?_⟩
    have h2 := idx2 t
    show i ∈ ((View.whole main_v5).slice (win0_2.rect t)).set
    rw [View.set_slice_whole, Rect.mem_set_unit]
    intro a
    match a with
    | ⟨0, _⟩ => show win0_2.index t (0 : Fin 2) * 512 ≤ (i 0 : Nat) ∧ (i 0 : Nat) < win0_2.index t (0 : Fin 2) * 512 + 512
                rw [h2.1]; omega
    | ⟨1, _⟩ => show win0_2.index t (1 : Fin 2) * 2048 ≤ (i 1 : Nat) ∧ (i 1 : Nat) < win0_2.index t (1 : Fin 2) * 2048 + 2048
                rw [h2.2]; omega

end Cert.Kernel15Ideal.Proj

namespace Cert.Reference15Ideal.Proj

open Cert.Reference15Ideal Cert.Reference15Ideal.Gen

/-- The reference's product of the tokens by every column, cut to these columns, at an index. -/
theorem cut_apply (x : Vec Ideal S1x8192x2048 .f32) (w : Vec Ideal S1x2048x11344 .f32) (r : Fin 8192) (e : Fin 2048) :
    extractStridedSlice S1x8192x2048 ![0, 0, 9296] (Host.dotGeneral (F := Ideal) (φ₁ := .f32) (φ₂ := .f32) dot_S1x8192x2048_S2048x11344_S1x8192x11344_2_0_01_1_n_n none x (shapeCast _ w shapeCasts_S1x2048x11344_S2048x11344)) slices_S1x8192x11344_S1x8192x2048_0_0_9296 (ix3 0 r e)
      = ∑ k : Fin 2048, x (ix3 0 r k) * w (ix3 0 k ⟨9296 + e.val, by omega⟩) := by
  pointwise

/-- The cut product laid out as rows of tokens. -/
theorem lay0 (v : Vec Ideal S1x8192x2048 .f32) (r : Fin 8192) (e : Fin 2048) :
    shapeCast S8192x2048 v shapeCasts_S1x8192x2048_S8192x2048 (ix2 r e) = v (ix3 0 r e) := by
  pointwise

end Cert.Reference15Ideal.Proj

namespace Cert.Proof

/-- The reference runs and leaves its arguments. -/
theorem frame_reference15 : Cert.quiescent_Reference15Ideal (hReference15Ideal := Cert.Reference15Ideal.Gen.facts) :=
  fun m ρ _ => (θ_run _ _ _).mono (fun r h => ⟨fun c => (h c).2, sem_eq_zero_of_no_sems rfl r.2⟩) (Cert.Reference15Ideal.Value.run m ρ)

/-- The projection's claim: what the kernel's call ends with is the reference's. -/
theorem algebraic15 : Cert.algebraic_Kernel15Ideal_Reference15Ideal (hKernel15Ideal := Cert.Kernel15Ideal.Gen.facts) (hReference15Ideal := Cert.Reference15Ideal.Gen.facts) := by
  intro m g m' g' _ hargs
  refine ⟨Cert.Kernel15Ideal.Proj.rows m, ?_, ?_⟩
  · refine (θ_run _ _ _).mono (fun r h c => ?_) (Cert.Kernel15Ideal.Value.run_blocks m g)
    obtain ⟨h2, ha, hb⟩ := h c
    exact ⟨h2.trans (Cert.Kernel15Ideal.Proj.rows_eq m c), ha, hb⟩
  · refine (θ_run _ _ _).mono (fun r h c => ?_) (Cert.Reference15Ideal.Value.run m' g')
    obtain ⟨h0, hx, hw⟩ := h c
    obtain ⟨ha, hb⟩ := hargs c
    refine ⟨h0.trans ?_, hx, hw⟩
    · refine funext fun (i : Cert.Kernel15Ideal.S8192x2048.Idx) => ?_
      obtain ⟨r, e, rfl⟩ : ∃ (r : Fin 8192) (e : Fin 2048), i = ix2 r e := ⟨i 0, i 1, eq_ix2 i⟩
      refine (Cert.Reference15Ideal.Proj.lay0 _ r e).trans ((Cert.Reference15Ideal.Proj.cut_apply _ _ _ e).trans ?_)
      exact Finset.sum_congr rfl fun k _ => congrArg₂ (fun a b : EReal => a * b) (congrFun ha _) (congrFun hb _)

end Cert.Proof

end
-- ==== Proof.Proj16.lean ====
/-
  The projection of the prompt's queries of mixer A: grid point `t` multiplies 512 rows of the tokens by the first 1024 columns of
  the weights, scales, and stores of each head's 128 columns two planes, one a map, with the other map's half zero. Over the
  extended reals the result is the reference's.
-/
module

public import proofs.«01_k».proof.Defs
public import proofs.«01_k».proof.Proof.Gen.Kernel16.Frame
public import proofs.«01_k».proof.Proof.Gen.Kernel16Ideal.Frame
public import proofs.«01_k».proof.Proof.Gen.Kernel16Ideal.Value
public import proofs.«01_k».proof.Proof.Gen.Reference16Ideal.Run
public import Idealize.ShloMosaic.Lib.Pipeline.Value
public import Idealize.ShloMosaic.Lib.Pointwise
public import Idealize.ShloMosaic.Lib.Quiescent
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Kernel16Ideal.Proj

open Cert.Kernel16Ideal Cert.Kernel16Ideal.Gen

variable (m : (ℓ : Loc nD τ sig) → Buf (Elt Ideal) ℓ)

/-- The tokens and the weights at launch. -/
abbrev X (c : Dev nD) : Vec Ideal S1x8192x2048 .f32 := m ((c : Thread nD τ).loc main_arg0)
abbrev W (c : Dev nD) : Vec Ideal S1x2048x11344 .f32 := m ((c : Thread nD τ).loc main_arg1)

/-- Coordinate `e` of token `r`: the token's row against column `0 + e` of the weights. -/
def coord (c : Dev nD) (r : Fin 8192) (e : Fin 1024) : EReal :=
  ∑ k : Fin 2048, X m c (ix3 0 r k) * W m c (ix3 0 k ⟨0 + e.val, by omega⟩)

/-- What map `b` of a query keeps at lane `e` of a head: the scaled coordinate on its own half, zero on the other. -/
def half (b : Fin 2) (e : Fin 128) (v : EReal) : EReal :=
  if (e.val < 64) = (b.val = 0) then v * Ideal.ofBits .f32 0x3E000000#32 else 0

/-- The result: a plane a head and map. -/
def planes (c : Dev nD) : Vec Ideal S8x2x8192x128 .bf16 := fun i =>
  half (i 1) (i 3) (coord m c (i 2) ⟨(i 0).val * 128 + (i 3).val, by have h0 : (i 0).val < 8 := (i 0).isLt; have h3 : (i 3).val < 128 := (i 3).isLt; omega⟩)

/-- The tokens as the region finds them: flattened to rows. -/
theorem V_tokens (c : Dev nD) : V m c main_v1 = truncf (F := Ideal) .bf16 (shapeCast _ (X m c) shapeCasts_S1x8192x2048_S8192x2048) bitsLt_bf16_f32 := by
  show StableHlo.after hostOps0 (fun b => m (c, b)) (Proc.devRef .tc main_v1) = _
  after_results
  rfl

/-- The weights as the region finds them: the cut columns. -/
theorem V_weights (c : Dev nD) : V m c main_v4 = extractStridedSlice S2048x1024 ![0, 0]
    (truncf (F := Ideal) .bf16 (shapeCast _ (W m c) shapeCasts_S1x2048x11344_S2048x11344) bitsLt_bf16_f32) slices_S2048x11344_S2048x1024_0_0 := by
  show StableHlo.after hostOps0 (fun b => m (c, b)) (Proc.devRef .tc main_v4) = _
  after_results
  rfl

/-- Where each window's block sits at point `t`. -/
theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 4) = 0 ∧ win0_2.index t (1 : Fin 4) = 0 ∧ win0_2.index t (2 : Fin 4) = t.val ∧ win0_2.index t (3 : Fin 4) = 0 := (by decide +kernel : ∀ t : Fin grid0.N, _)

theorem point_lt (t : Fin cfg0.N) : t.val < 16 := lt_of_lt_of_eq t.isLt N_0

/-- The token block of point `t`, read at row `r`, column `k`. -/
theorem tokens_apply (c : Dev nD) (t : Fin cfg0.N) (r : Fin 512) (k : Fin 2048) :
    (iblk m c 0 t : Vec Ideal S512x2048 .bf16) (ix2 r k) = X m c (ix3 0 ⟨512 * t.val + r.val, by have := point_lt t; omega⟩ k) := by
  show V m c main_v1 (((cfg0.win 0).blk t).view.emb (ix2 r k)) = _
  have e : ((cfg0.win 0).blk t).view.emb (ix2 r k) = (ix2 ⟨512 * t.val + r.val, by have := point_lt t; omega⟩ k : S8192x2048.Idx) := by
    funext a; apply Fin.ext
    match a with
    | ⟨0, _⟩ => show win0_0.index t (0 : Fin 2) * 512 + 1 * r.val = 512 * t.val + r.val; have := (idx0 t).1; omega
    | ⟨1, _⟩ => show win0_0.index t (1 : Fin 2) * 2048 + 1 * k.val = k.val; have := (idx0 t).2; omega
  rw [e, V_tokens]
  pointwise

/-- The weight block, the same at every point, read at row `k`, column `e`. -/
theorem weights_apply (c : Dev nD) (t : Fin cfg0.N) (k : Fin 2048) (e : Fin 1024) :
    (iblk m c 1 t : Vec Ideal S2048x1024 .bf16) (ix2 k e) = W m c (ix3 0 k ⟨0 + e.val, by omega⟩) := by
  show V m c main_v4 (((cfg0.win 1).blk t).view.emb (ix2 k e)) = _
  have he : ((cfg0.win 1).blk t).view.emb (ix2 k e) = (ix2 k e : S2048x1024.Idx) := by
    funext a; apply Fin.ext
    match a with
    | ⟨0, _⟩ => show win0_1.index t (0 : Fin 2) * 2048 + 1 * k.val = k.val; have := (idx1 t).1; omega
    | ⟨1, _⟩ => show win0_1.index t (1 : Fin 2) * 1024 + 1 * e.val = e.val; have := (idx1 t).2; omega
  rw [he, V_weights]
  pointwise

theorem hz : (![0, 0] : Fin 2 → Nat) = fun _ => 0 := funext fun a => by fin_cases a <;> rfl

/-- The product of the loaded blocks at an index. -/
theorem k0_pay5_apply (P0 : Vec Ideal S512x2048 .bf16) (P1 : Vec Ideal S2048x1024 .bf16) (r : Fin 512) (e : Fin 1024) :
    k0_pay5 P0 P1 (ix2 r e) = ∑ k : Fin 2048, P0 (ix2 r k) * P1 (ix2 k e) := by
  pointwise [k0_pay5]

/-- At point `t` it is rows `512 t …` of the projection. -/
theorem k0_pay5_point (c : Dev nD) (t : Fin cfg0.N) (r : Fin 512) (e : Fin 1024) :
    k0_pay5 (View.ld (iblk m c 0 t) r0_0) (View.ld (iblk m c 1 t) r0_1) (ix2 r e)
      = coord m c ⟨512 * t.val + r.val, by have := point_lt t; omega⟩ e := by
  rw [View.ld_unit_zero (S := S512x2048) hz, View.ld_unit_zero (S := S2048x1024) hz, k0_pay5_apply]
  exact Finset.sum_congr rfl fun k _ => by rw [tokens_apply, weights_apply]

/-- A head's scaled columns of the product. -/
def cut (o : ℕ) (h : S512x1024.Slices ![0, o] S512x128) (P : FVec Ideal S512x1024 .f32) : FVec Ideal S512x128 .f32 :=
  mulf (extractStridedSlice S512x128 ![0, o] P h) (broadcast S512x128 (Scalar.ofBits (F := Ideal) .f32 0x3E000000#32))

theorem cut_apply (o : ℕ) (h) (P) (ho : o + 128 ≤ 1024) (r : Fin 512) (e : Fin 128) :
    cut o h P (ix2 r e) = P (ix2 r ⟨o + e.val, by omega⟩) * Ideal.ofBits .f32 0x3E000000#32 := by
  pointwise [cut]

/-- The plane of the first map: the lanes below 64 kept. -/
def lo (v : FVec Ideal S512x128 .f32) : FVec Ideal S1x1x512x128 .bf16 :=
  shapeCast S1x1x512x128 (truncf .bf16 (select (cmpi .slt (iota .tc S512x128 32 [1] iota_S512x128_d1_w32) (broadcast S512x128 64#32)) v (broadcast S512x128 (Scalar.ofBits (F := Ideal) .f32 0x00000000#32))) bitsLt_bf16_f32) shapeCasts_S512x128_S1x1x512x128

/-- The plane of the second map: the lanes from 64 on kept. -/
def hi (v : FVec Ideal S512x128 .f32) : FVec Ideal S1x1x512x128 .bf16 :=
  shapeCast S1x1x512x128 (truncf .bf16 (select (cmpi .sge (iota .tc S512x128 32 [1] iota_S512x128_d1_w32) (broadcast S512x128 64#32)) v (broadcast S512x128 (Scalar.ofBits (F := Ideal) .f32 0x00000000#32))) bitsLt_bf16_f32) shapeCasts_S512x128_S1x1x512x128

theorem slt64 : ∀ e : Fin 128, IntOp.cmpi .slt (BitVec.ofNat 32 e.val) 64#32 = if e.val < 64 then 1#1 else 0#1 := by decide
theorem sge64 : ∀ e : Fin 128, IntOp.cmpi .sge (BitVec.ofNat 32 e.val) 64#32 = if e.val < 64 then 0#1 else 1#1 := by decide

theorem lo_apply (v) (r : Fin 512) (e : Fin 128) : lo v (ix4 0 0 r e) = if e.val < 64 then v (ix2 r e) else 0 := by
  pointwise [lo]
  rw [slt64]
  by_cases h : e.val < 64
  · rw [if_pos h, if_pos h]; rfl
  · rw [if_neg h, if_neg h]; rfl

theorem hi_apply (v) (r : Fin 512) (e : Fin 128) : hi v (ix4 0 0 r e) = if e.val < 64 then 0 else v (ix2 r e) := by
  pointwise [hi]
  rw [sge64]
  by_cases h : e.val < 64
  · rw [if_pos h, if_pos h]; rfl
  · rw [if_neg h, if_neg h]; rfl

/-- A block of all heads and maps, from a product. -/
def block (P : FVec Ideal S512x1024 .f32) : S8x2x512x128.Idx → EReal := fun y =>
  half (y 1) (y 3) (P (ix2 (y 2) ⟨(y 0).val * 128 + (y 3).val, by have h0 : (y 0).val < 8 := (y 0).isLt; have h3 : (y 3).val < 128 := (y 3).isLt; omega⟩))

/-- A plane of the first map is the block's, read through its rectangle. -/
theorem lo_piece (P : FVec Ideal S512x1024 .f32) (h : Fin 8) (hs : S512x1024.Slices ![0, h.val * 128] S512x128) (hin)
    (x : S1x1x512x128.Idx) :
    lo (cut (h.val * 128) hs P) x = block P ((Rect.unit (s := S8x2x512x128) ![h.val, 0, 0, 0] S1x1x512x128.size hin).emb x) := by
  obtain ⟨a, b, r, e, rfl⟩ : ∃ (a b : Fin 1) (r : Fin 512) (e : Fin 128), x = ix4 a b r e := ⟨x 0, x 1, x 2, x 3, eq_ix4 x⟩
  obtain rfl : a = 0 := Subsingleton.elim _ _
  obtain rfl : b = 0 := Subsingleton.elim _ _
  have he : (Rect.unit (s := S8x2x512x128) ![h.val, 0, 0, 0] S1x1x512x128.size hin).emb (ix4 0 0 r e) = (ix4 h 0 r e : S8x2x512x128.Idx) := by
    funext a; apply Fin.ext
    match a with
    | ⟨0, _⟩ => show h.val + 1 * 0 = h.val; omega
    | ⟨1, _⟩ => rfl
    | ⟨2, _⟩ => show 0 + 1 * r.val = r.val; omega
    | ⟨3, _⟩ => show 0 + 1 * e.val = e.val; omega
  rw [he, lo_apply, cut_apply _ _ _ (by omega)]
  show _ = half 0 e (P (ix2 r ⟨h.val * 128 + e.val, by omega⟩))
  unfold half
  by_cases h64 : e.val < 64
  · rw [if_pos h64, if_pos (by simp [h64])]
  · rw [if_neg h64, if_neg (by simp [h64])]

/-- A plane of the second map is the block's, read through its rectangle. -/
theorem hi_piece (P : FVec Ideal S512x1024 .f32) (h : Fin 8) (hs : S512x1024.Slices ![0, h.val * 128] S512x128) (hin)
    (x : S1x1x512x128.Idx) :
    hi (cut (h.val * 128) hs P) x = block P ((Rect.unit (s := S8x2x512x128) ![h.val, 1, 0, 0] S1x1x512x128.size hin).emb x) := by
  obtain ⟨a, b, r, e, rfl⟩ : ∃ (a b : Fin 1) (r : Fin 512) (e : Fin 128), x = ix4 a b r e := ⟨x 0, x 1, x 2, x 3, eq_ix4 x⟩
  obtain rfl : a = 0 := Subsingleton.elim _ _
  obtain rfl : b = 0 := Subsingleton.elim _ _
  have he : (Rect.unit (s := S8x2x512x128) ![h.val, 1, 0, 0] S1x1x512x128.size hin).emb (ix4 0 0 r e) = (ix4 h 1 r e : S8x2x512x128.Idx) := by
    funext a; apply Fin.ext
    match a with
    | ⟨0, _⟩ => show h.val + 1 * 0 = h.val; omega
    | ⟨1, _⟩ => rfl
    | ⟨2, _⟩ => show 0 + 1 * r.val = r.val; omega
    | ⟨3, _⟩ => show 0 + 1 * e.val = e.val; omega
  rw [he, hi_apply, cut_apply _ _ _ (by omega)]
  show _ = half 1 e (P (ix2 r ⟨h.val * 128 + e.val, by omega⟩))
  unfold half
  by_cases h64 : e.val < 64
  · rw [if_pos h64, if_neg (by simp [h64])]
  · rw [if_neg h64, if_pos (by simp [h64])]

/-- What the body leaves is the block of the product. -/
theorem out_eq (x0 : Vec Ideal S512x2048 .bf16) (x1 : Vec Ideal S2048x1024 .bf16) (y : S8x2x512x128.Idx) :
    out0_2 x0 x1 y = block (k0_pay5 (View.ld x0 r0_0) (View.ld x1 r0_1)) y := by
  unfold out0_2
  refine View.canon_apply_of_pieces _ _ ?_ y (cover0_2 _ _ _ _ _ _ _ _ _ _ _ _ _ _ _ _ y)
  intro pc hpc
  rcases List.mem_cons.mp hpc with rfl | hpc
  · exact fun x => hi_piece (k0_pay5 (View.ld x0 r0_0) (View.ld x1 r0_1)) 7 slices_S512x1024_o0_896_S512x128 inb_S8x2x512x128_S1x1x512x128_7_1_0_0 x
  rcases List.mem_cons.mp hpc with rfl | hpc
  · exact fun x => lo_piece (k0_pay5 (View.ld x0 r0_0) (View.ld x1 r0_1)) 7 slices_S512x1024_o0_896_S512x128 inb_S8x2x512x128_S1x1x512x128_7_0_0_0 x
  rcases List.mem_cons.mp hpc with rfl | hpc
  · exact fun x => hi_piece (k0_pay5 (View.ld x0 r0_0) (View.ld x1 r0_1)) 6 slices_S512x1024_o0_768_S512x128 inb_S8x2x512x128_S1x1x512x128_6_1_0_0 x
  rcases List.mem_cons.mp hpc with rfl | hpc
  · exact fun x => lo_piece (k0_pay5 (View.ld x0 r0_0) (View.ld x1 r0_1)) 6 slices_S512x1024_o0_768_S512x128 inb_S8x2x512x128_S1x1x512x128_6_0_0_0 x
  rcases List.mem_cons.mp hpc with rfl | hpc
  · exact fun x => hi_piece (k0_pay5 (View.ld x0 r0_0) (View.ld x1 r0_1)) 5 slices_S512x1024_o0_640_S512x128 inb_S8x2x512x128_S1x1x512x128_5_1_0_0 x
  rcases List.mem_cons.mp hpc with rfl | hpc
  · exact fun x => lo_piece (k0_pay5 (View.ld x0 r0_0) (View.ld x1 r0_1)) 5 slices_S512x1024_o0_640_S512x128 inb_S8x2x512x128_S1x1x512x128_5_0_0_0 x
  rcases List.mem_cons.mp hpc with rfl | hpc
  · exact fun x => hi_piece (k0_pay5 (View.ld x0 r0_0) (View.ld x1 r0_1)) 4 slices_S512x1024_o0_512_S512x128 inb_S8x2x512x128_S1x1x512x128_4_1_0_0 x
  rcases List.mem_cons.mp hpc with rfl | hpc
  · exact fun x => lo_piece (k0_pay5 (View.ld x0 r0_0) (View.ld x1 r0_1)) 4 slices_S512x1024_o0_512_S512x128 inb_S8x2x512x128_S1x1x512x128_4_0_0_0 x
  rcases List.mem_cons.mp hpc with rfl | hpc
  · exact fun x => hi_piece (k0_pay5 (View.ld x0 r0_0) (View.ld x1 r0_1)) 3 slices_S512x1024_o0_384_S512x128 inb_S8x2x512x128_S1x1x512x128_3_1_0_0 x
  rcases List.mem_cons.mp hpc with rfl | hpc
  · exact fun x => lo_piece (k0_pay5 (View.ld x0 r0_0) (View.ld x1 r0_1)) 3 slices_S512x1024_o0_384_S512x128 inb_S8x2x512x128_S1x1x512x128_3_0_0_0 x
  rcases List.mem_cons.mp hpc with rfl | hpc
  · exact fun x => hi_piece (k0_pay5 (View.ld x0 r0_0) (View.ld x1 r0_1)) 2 slices_S512x1024_o0_256_S512x128 inb_S8x2x512x128_S1x1x512x128_2_1_0_0 x
  rcases List.mem_cons.mp hpc with rfl | hpc
  · exact fun x => lo_piece (k0_pay5 (View.ld x0 r0_0) (View.ld x1 r0_1)) 2 slices_S512x1024_o0_256_S512x128 inb_S8x2x512x128_S1x1x512x128_2_0_0_0 x
  rcases List.mem_cons.mp hpc with rfl | hpc
  · exact fun x => hi_piece (k0_pay5 (View.ld x0 r0_0) (View.ld x1 r0_1)) 1 slices_S512x1024_o0_128_S512x128 inb_S8x2x512x128_S1x1x512x128_1_1_0_0 x
  rcases List.mem_cons.mp hpc with rfl | hpc
  · exact fun x => lo_piece (k0_pay5 (View.ld x0 r0_0) (View.ld x1 r0_1)) 1 slices_S512x1024_o0_128_S512x128 inb_S8x2x512x128_S1x1x512x128_1_0_0_0 x
  rcases List.mem_cons.mp hpc with rfl | hpc
  · exact fun x => hi_piece (k0_pay5 (View.ld x0 r0_0) (View.ld x1 r0_1)) 0 slices_S512x1024_o0_0_S512x128 inb_S8x2x512x128_S1x1x512x128_0_1_0_0 x
  rcases List.mem_cons.mp hpc with rfl | hpc
  · exact fun x => lo_piece (k0_pay5 (View.ld x0 r0_0) (View.ld x1 r0_1)) 0 slices_S512x1024_o0_0_S512x128 inb_S8x2x512x128_S1x1x512x128_0_0_0_0 x
  nomatch hpc

/-- Point `t` writes back its rows of every plane. -/
theorem flushed2_eq (c : Dev nD) (t : Fin cfg0.N) (hf : (cfg0.win 2).flush t = true) :
    (dats m 0 c).flushed 2 t = ((cfg0.win 2).blk t).view.read (Elt Ideal) (planes m c) := by
  rw [Value.flushed2]
  refine funext fun (j : S8x2x512x128.Idx) => ?_
  obtain ⟨h, b, r, e, rfl⟩ : ∃ (h : Fin 8) (b : Fin 2) (r : Fin 512) (e : Fin 128), j = ix4 h b r e := ⟨j 0, j 1, j 2, j 3, eq_ix4 j⟩
  show out0_2 (iblk m c 0 t) (iblk m c 1 t) (ix4 h b r e) = planes m c (((cfg0.win 2).blk t).view.emb (ix4 h b r e))
  have he : ((cfg0.win 2).blk t).view.emb (ix4 h b r e) = (ix4 h b ⟨512 * t.val + r.val, by have := point_lt t; omega⟩ e : S8x2x8192x128.Idx) := by
    funext a; apply Fin.ext
    match a with
    | ⟨0, _⟩ => show win0_2.index t (0 : Fin 4) * 8 + 1 * h.val = h.val; have := (idx2 t).1; omega
    | ⟨1, _⟩ => show win0_2.index t (1 : Fin 4) * 2 + 1 * b.val = b.val; have := (idx2 t).2.1; omega
    | ⟨2, _⟩ => show win0_2.index t (2 : Fin 4) * 512 + 1 * r.val = 512 * t.val + r.val; have := (idx2 t).2.2.1; omega
    | ⟨3, _⟩ => show win0_2.index t (3 : Fin 4) * 128 + 1 * e.val = e.val; have := (idx2 t).2.2.2; omega
  rw [he, out_eq]
  exact congrArg (half b e) (k0_pay5_point m c t r _)

/-- Every row of every plane lies in some point's block. -/
theorem planes_eq (c : Dev nD) : (dats m 0 c).arrAt 2 cfg0.N = planes m c :=
  (dats m 0 c).arrAt_eq_of_cover 2 (planes m c) (flushed2_eq m c) fun i => by
    have h0 : (i 0 : Nat) < 8 := (i 0).isLt
    have h1 : (i 1 : Nat) < 2 := (i 1).isLt
    have h2 : (i 2 : Nat) < 8192 := (i 2).isLt
    have h3 : (i 3 : Nat) < 128 := (i 3).isLt
    have hN : cfg0.N = 16 := N_0
    obtain ⟨t, ht⟩ : ∃ t : Fin cfg0.N, t.val = (i 2 : Nat) / 512 := ⟨⟨(i 2 : Nat) / 512, by rw [hN]; omega⟩, rfl⟩
    refine ⟨t, flush0_2 t, ?_⟩
    have h4 := idx2 t
    show i ∈ ((View.whole main_v5).slice (win0_2.rect t)).set
    rw [View.set_slice_whole, Rect.mem_set_unit]
    intro a
    match a with
    | ⟨0, _⟩ => show win0_2.index t (0 : Fin 4) * 8 ≤ (i 0 : Nat) ∧ (i 0 : Nat) < win0_2.index t (0 : Fin 4) * 8 + 8
                rw [h4.1]; omega
    | ⟨1, _⟩ => show win0_2.index t (1 : Fin 4) * 2 ≤ (i 1 : Nat) ∧ (i 1 : Nat) < win0_2.index t (1 : Fin 4) * 2 + 2
                rw [h4.2.1]; omega
    | ⟨2, _⟩ => show win0_2.index t (2 : Fin 4) * 512 ≤ (i 2 : Nat) ∧ (i 2 : Nat) < win0_2.index t (2 : Fin 4) * 512 + 512
                rw [h4.2.2.1]; omega
    | ⟨3, _⟩ => show win0_2.index t (3 : Fin 4) * 128 ≤ (i 3 : Nat) ∧ (i 3 : Nat) < win0_2.index t (3 : Fin 4) * 128 + 128
                rw [h4.2.2.2]; omega

end Cert.Kernel16Ideal.Proj

namespace Cert.Reference16Ideal.Proj

open Cert.Reference16Ideal Cert.Reference16Ideal.Gen

/-- The reference's scaled queries, one row of 128 a head. -/
def scaled (x : FVec Ideal S1x8192x2048 .f32) (w : FVec Ideal S1x2048x11344 .f32) : FVec Ideal S8192x8x128 .f32 :=
  mulf (shapeCast S8192x8x128 (extractStridedSlice S1x8192x1024 ![0, 0, 0] (Host.dotGeneral (F := Ideal) (φ₁ := .f32) (φ₂ := .f32) dot_S1x8192x2048_S2048x11344_S1x8192x11344_2_0_01_1_n_n none x (shapeCast _ w shapeCasts_S1x2048x11344_S2048x11344)) slices_S1x8192x11344_S1x8192x1024_0_0_0) shapeCasts_S1x8192x1024_S8192x8x128) (broadcastInDim S8192x8x128 ![] bcast_S_S8192x8x128 (constant S_ .f32 0x3E000000#32))

theorem scaled_apply (x w) (r : Fin 8192) (h : Fin 8) (e : Fin 128) :
    scaled x w (ix3 r h e) = (∑ k : Fin 2048, x (ix3 0 r k) * w (ix3 0 k ⟨0 + (h.val * 128 + e.val), by omega⟩)) * Ideal.ofBits .f32 0x3E000000#32 := by
  pointwise [scaled]

/-- The zero half. -/
def zeros : FVec Ideal S8192x8x64 .f32 := broadcastInDim S8192x8x64 ![] bcast_S_S8192x8x64 (constant S_ .f32 0x00000000#32)

/-- The first map's queries, with the second half zero. -/
def map1 (q : FVec Ideal S8192x8x128 .f32) : FVec Ideal S8192x8x128 .f32 :=
  concatenate S8192x8x128 2 [⟨S8192x8x64, extractStridedSlice S8192x8x64 ![0, 0, 0] q slices_S8192x8x128_S8192x8x64_0_0_0⟩, ⟨S8192x8x64, zeros⟩] concatenates_S8192x8x64_S8192x8x64_S8192x8x128_d2

/-- The second map's queries, with the first half zero. -/
def map2 (q : FVec Ideal S8192x8x128 .f32) : FVec Ideal S8192x8x128 .f32 :=
  concatenate S8192x8x128 2 [⟨S8192x8x64, zeros⟩, ⟨S8192x8x64, extractStridedSlice S8192x8x64 ![0, 0, 64] q slices_S8192x8x128_S8192x8x64_0_0_64⟩] concatenates_S8192x8x64_S8192x8x64_S8192x8x128_d2

theorem map1_apply (q) (r : Fin 8192) (h : Fin 8) (e : Fin 128) : map1 q (ix3 r h e) = if e.val < 64 then q (ix3 r h e) else 0 := by
  pointwise [map1, zeros]
  by_cases h64 : e.val < 64
  · rw [dif_pos h64, if_pos h64]
  · rw [dif_neg h64, if_neg h64]

theorem map2_apply (q) (r : Fin 8192) (h : Fin 8) (e : Fin 128) : map2 q (ix3 r h e) = if e.val < 64 then 0 else q (ix3 r h e) := by
  pointwise [map2, zeros]
  by_cases h64 : e.val < 64
  · rw [dif_pos h64, if_pos h64]
  · rw [dif_neg h64, if_neg h64]
    refine congrArg (fun k : Fin 128 => q (ix3 r h k)) (Fin.ext ?_)
    show 64 + (e.val - 64) = e.val
    omega

/-- The two maps stacked, a plane a head and map. -/
def stacked (p q : FVec Ideal S8192x8x128 .f32) : FVec Ideal S8x2x8192x128 .bf16 :=
  truncf .bf16 (transpose S8x2x8192x128 [2, 0, 1, 3] (concatenate S2x8192x8x128 0 [⟨S1x8192x8x128, broadcastInDim S1x8192x8x128 ![1, 2, 3] bcast_S8192x8x128_S1x8192x8x128_1_2_3 p⟩, ⟨S1x8192x8x128, broadcastInDim S1x8192x8x128 ![1, 2, 3] bcast_S8192x8x128_S1x8192x8x128_1_2_3 q⟩] concatenates_S1x8192x8x128_S1x8192x8x128_S2x8192x8x128_d0) transposes_S2x8192x8x128_S8x2x8192x128_2_0_1_3) bitsLt_bf16_f32

theorem stacked_first (p q) (h : Fin 8) (r : Fin 8192) (e : Fin 128) : stacked p q (ix4 h 0 r e) = p (ix3 r h e) := by
  pointwise [stacked]

theorem stacked_second (p q) (h : Fin 8) (r : Fin 8192) (e : Fin 128) : stacked p q (ix4 h 1 r e) = q (ix3 r h e) := by
  pointwise [stacked]

end Cert.Reference16Ideal.Proj

namespace Cert.Proof

/-- The reference runs and leaves its arguments. -/
theorem frame_reference16 : Cert.quiescent_Reference16Ideal (hReference16Ideal := Cert.Reference16Ideal.Gen.facts) :=
  fun m ρ _ => (θ_run _ _ _).mono (fun r h => ⟨fun c => (h c).2, sem_eq_zero_of_no_sems rfl r.2⟩) (Cert.Reference16Ideal.Value.run m ρ)

open Cert.Reference16Ideal.Proj in
/-- The projection's claim: what the kernel's call ends with is the reference's. -/
theorem algebraic16 : Cert.algebraic_Kernel16Ideal_Reference16Ideal (hKernel16Ideal := Cert.Kernel16Ideal.Gen.facts) (hReference16Ideal := Cert.Reference16Ideal.Gen.facts) := by
  intro m g m' g' _ hargs
  refine ⟨Cert.Kernel16Ideal.Proj.planes m, ?_, ?_⟩
  · refine (θ_run _ _ _).mono (fun r h c => ?_) (Cert.Kernel16Ideal.Value.run_blocks m g)
    exact ⟨(h c).1.trans (Cert.Kernel16Ideal.Proj.planes_eq m c), (h c).2⟩
  · refine (θ_run _ _ _).mono (fun r h c => ?_) (Cert.Reference16Ideal.Value.run m' g')
    obtain ⟨ha, hb⟩ := hargs c
    refine ⟨(h c).1.trans ?_, (h c).2⟩
    refine funext fun (i : Cert.Kernel16Ideal.S8x2x8192x128.Idx) => ?_
    obtain ⟨h, b, r, e, rfl⟩ : ∃ (h : Fin 8) (b : Fin 2) (r : Fin 8192) (e : Fin 128), i = ix4 h b r e := ⟨i 0, i 1, i 2, i 3, eq_ix4 i⟩
    show stacked (map1 (scaled _ _)) (map2 (scaled _ _)) (ix4 h b r e) = Cert.Kernel16Ideal.Proj.half b e (Cert.Kernel16Ideal.Proj.coord m c r ⟨h.val * 128 + e.val, by omega⟩)
    unfold Cert.Kernel16Ideal.Proj.half
    have hq : scaled (m' ((c.tc : Thread Cert.Reference16Ideal.nD Cert.Reference16Ideal.τ).loc Cert.Reference16Ideal.main_arg0)) (m' ((c.tc : Thread Cert.Reference16Ideal.nD Cert.Reference16Ideal.τ).loc Cert.Reference16Ideal.main_arg1)) (ix3 r h e)
        = Cert.Kernel16Ideal.Proj.coord m c r ⟨h.val * 128 + e.val, by omega⟩ * Ideal.ofBits .f32 0x3E000000#32 := by
      rw [scaled_apply]
      refine congrArg (fun a : EReal => a * _) ?_
      exact Finset.sum_congr rfl fun k _ => congrArg₂ (fun a b : EReal => a * b) (congrFun ha _) (congrFun hb _)
    match b with
    | ⟨0, _⟩ =>
      refine (stacked_first _ _ h r e).trans ((map1_apply _ r h e).trans ?_)
      by_cases h64 : e.val < 64
      · rw [if_pos h64, if_pos (by simp [h64])]; exact hq
      · rw [if_neg h64, if_neg (by simp [h64])]
    | ⟨1, _⟩ =>
      refine (stacked_second _ _ h r e).trans ((map2_apply _ r h e).trans ?_)
      by_cases h64 : e.val < 64
      · rw [if_pos h64, if_neg (by simp [h64])]
      · rw [if_neg h64, if_pos (by simp [h64])]; exact hq

end Cert.Proof

end
-- ==== Proof.Merge.lean ====
/-
  The gated merge of the prompt's two mixers: grid point `t` multiplies 256 rows of each mixer's output by its weights, passes the
  gates through the sigmoid, and adds the two gated products. Over the extended reals the result is the reference's.
-/
module

public import proofs.«01_k».proof.Defs
public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal.Run
public import Idealize.ShloMosaic.Lib.Pipeline.Value
public import Idealize.ShloMosaic.Lib.Pointwise
public import Idealize.ShloMosaic.Lib.Quiescent
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Proof.Merge

/-- The sigmoid of the extended reals. -/
def sigm (g : EReal) : EReal := Ideal.div 1 (1 + Ideal.exp (-g))

/-- One entry of the merge, from a row of each mixer, its column of the weights and its gate. -/
def entry (x y : Fin 1024 → EReal) (g h : EReal) (v w : Fin 1024 → EReal) : EReal :=
  sigm g * (∑ k : Fin 1024, x k * v k) + sigm h * (∑ k : Fin 1024, y k * w k)

end Cert.Proof.Merge

namespace Cert.Kernel17Ideal.Merge

open Cert.Kernel17Ideal Cert.Kernel17Ideal.Gen Cert.Proof.Merge

variable (m : (ℓ : Loc nD τ sig) → Buf (Elt Ideal) ℓ)

/-- The mixers' outputs, their gates and their weights at launch. -/
abbrev A (c : Dev nD) : Vec Ideal S1x8192x1024 .f32 := m ((c : Thread nD τ).loc main_arg0)
abbrev B (c : Dev nD) : Vec Ideal S1x8192x1024 .f32 := m ((c : Thread nD τ).loc main_arg1)
abbrev GA (c : Dev nD) : Vec Ideal S1x8192x2048 .f32 := m ((c : Thread nD τ).loc main_arg2)
abbrev GB (c : Dev nD) : Vec Ideal S1x8192x2048 .f32 := m ((c : Thread nD τ).loc main_arg3)
abbrev WA (c : Dev nD) : Vec Ideal S1x1024x2048 .f32 := m ((c : Thread nD τ).loc main_arg4)
abbrev WB (c : Dev nD) : Vec Ideal S1x1024x2048 .f32 := m ((c : Thread nD τ).loc main_arg5)

/-- Coordinate `e` of token `r`. -/
def coord (c : Dev nD) (r : Fin 8192) (e : Fin 2048) : EReal :=
  entry (fun k => A m c (ix3 0 r k)) (fun k => B m c (ix3 0 r k)) (GA m c (ix3 0 r e)) (GB m c (ix3 0 r e))
    (fun k => WA m c (ix3 0 k e)) (fun k => WB m c (ix3 0 k e))

/-- The result: rows of tokens. -/
def rows (c : Dev nD) : Vec Ideal S8192x2048 .bf16 := fun i => coord m c (i 0) (i 1)

/-- The staged arrays as the region finds them: flattened, the mixers' outputs and the weights with their change of format. -/
theorem V_A (c : Dev nD) : V m c main_v1 = truncf (F := Ideal) .bf16 (shapeCast _ (A m c) shapeCasts_S1x8192x1024_S8192x1024) bitsLt_bf16_f32 := by
  show StableHlo.after hostOps0 (fun b => m (c, b)) (Proc.devRef .tc main_v1) = _
  after_results
  rfl
theorem V_B (c : Dev nD) : V m c main_v3 = truncf (F := Ideal) .bf16 (shapeCast _ (B m c) shapeCasts_S1x8192x1024_S8192x1024) bitsLt_bf16_f32 := by
  show StableHlo.after hostOps0 (fun b => m (c, b)) (Proc.devRef .tc main_v3) = _
  after_results
  rfl
theorem V_GA (c : Dev nD) : V m c main_v4 = shapeCast _ (GA m c) shapeCasts_S1x8192x2048_S8192x2048 := by
  show StableHlo.after hostOps0 (fun b => m (c, b)) (Proc.devRef .tc main_v4) = _
  after_results
  rfl
theorem V_GB (c : Dev nD) : V m c main_v5 = shapeCast _ (GB m c) shapeCasts_S1x8192x2048_S8192x2048 := by
  show StableHlo.after hostOps0 (fun b => m (c, b)) (Proc.devRef .tc main_v5) = _
  after_results
  rfl
theorem V_WA (c : Dev nD) : V m c main_v7 = truncf (F := Ideal) .bf16 (shapeCast _ (WA m c) shapeCasts_S1x1024x2048_S1024x2048) bitsLt_bf16_f32 := by
  show StableHlo.after hostOps0 (fun b => m (c, b)) (Proc.devRef .tc main_v7) = _
  after_results
  rfl
theorem V_WB (c : Dev nD) : V m c main_v9 = truncf (F := Ideal) .bf16 (shapeCast _ (WB m c) shapeCasts_S1x1024x2048_S1024x2048) bitsLt_bf16_f32 := by
  show StableHlo.after hostOps0 (fun b => m (c, b)) (Proc.devRef .tc main_v9) = _
  after_results
  rfl

/-- Where each window's block sits at point `t`. -/
theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = t.val ∧ win0_1.index t (1 : Fin 2) = 0 := (by decide +kernel : ∀ t : Fin grid0.N, _)
theorem idx2 : ∀ t : Fin cfg0.N, win0_2.index t (0 : Fin 2) = t.val ∧ win0_2.index t (1 : Fin 2) = 0 := (by decide +kernel : ∀ t : Fin grid0.N, _)
theorem idx3 : ∀ t : Fin cfg0.N, win0_3.index t (0 : Fin 2) = t.val ∧ win0_3.index t (1 : Fin 2) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 2) = 0 ∧ win0_5.index t (1 : Fin 2) = 0 := (by decide +kernel : ∀ t : Fin grid0.N, _)
theorem idx6 : ∀ t : Fin cfg0.N, win0_6.index t (0 : Fin 2) = t.val ∧ win0_6.index t (1 : Fin 2) = 0 := (by decide +kernel : ∀ t : Fin grid0.N, _)

theorem point_lt (t : Fin cfg0.N) : t.val < 32 := lt_of_lt_of_eq t.isLt N_0

/-- The block of `A` at point `t`, at an index. -/
theorem A_apply (c : Dev nD) (t : Fin cfg0.N) (r : Fin 256) (k : Fin 1024) :
    (iblk m c 0 t : Vec Ideal S256x1024 .bf16) (ix2 r k) = A m c (ix3 0 ⟨256 * t.val + r.val, by have := point_lt t; omega⟩ k) := by
  show V m c main_v1 (((cfg0.win 0).blk t).view.emb (ix2 r k)) = _
  have e : ((cfg0.win 0).blk t).view.emb (ix2 r k) = (ix2 ⟨256 * t.val + r.val, by have := point_lt t; omega⟩ k : S8192x1024.Idx) := by
    funext a; apply Fin.ext
    match a with
    | ⟨0, _⟩ => show win0_0.index t (0 : Fin 2) * 256 + 1 * r.val = 256 * t.val + r.val; have := (idx0 t).1; omega
    | ⟨1, _⟩ => show win0_0.index t (1 : Fin 2) * 1024 + 1 * k.val = k.val; have := (idx0 t).2; omega
  rw [e, V_A]
  pointwise

/-- The block of `B` at point `t`, at an index. -/
theorem B_apply (c : Dev nD) (t : Fin cfg0.N) (r : Fin 256) (k : Fin 1024) :
    (iblk m c 1 t : Vec Ideal S256x1024 .bf16) (ix2 r k) = B m c (ix3 0 ⟨256 * t.val + r.val, by have := point_lt t; omega⟩ k) := by
  show V m c main_v3 (((cfg0.win 1).blk t).view.emb (ix2 r k)) = _
  have e : ((cfg0.win 1).blk t).view.emb (ix2 r k) = (ix2 ⟨256 * t.val + r.val, by have := point_lt t; omega⟩ k : S8192x1024.Idx) := by
    funext a; apply Fin.ext
    match a with
    | ⟨0, _⟩ => show win0_1.index t (0 : Fin 2) * 256 + 1 * r.val = 256 * t.val + r.val; have := (idx1 t).1; omega
    | ⟨1, _⟩ => show win0_1.index t (1 : Fin 2) * 1024 + 1 * k.val = k.val; have := (idx1 t).2; omega
  rw [e, V_B]
  pointwise

/-- The block of `GA` at point `t`, at an index. -/
theorem GA_apply (c : Dev nD) (t : Fin cfg0.N) (r : Fin 256) (k : Fin 2048) :
    (iblk m c 2 t : Vec Ideal S256x2048 .f32) (ix2 r k) = GA m c (ix3 0 ⟨256 * t.val + r.val, by have := point_lt t; omega⟩ k) := by
  show V m c main_v4 (((cfg0.win 2).blk t).view.emb (ix2 r k)) = _
  have e : ((cfg0.win 2).blk t).view.emb (ix2 r k) = (ix2 ⟨256 * t.val + r.val, by have := point_lt t; omega⟩ k : S8192x2048.Idx) := by
    funext a; apply Fin.ext
    match a with
    | ⟨0, _⟩ => show win0_2.index t (0 : Fin 2) * 256 + 1 * r.val = 256 * t.val + r.val; have := (idx2 t).1; omega
    | ⟨1, _⟩ => show win0_2.index t (1 : Fin 2) * 2048 + 1 * k.val = k.val; have := (idx2 t).2; omega
  rw [e, V_GA]
  pointwise

/-- The block of `GB` at point `t`, at an index. -/
theorem GB_apply (c : Dev nD) (t : Fin cfg0.N) (r : Fin 256) (k : Fin 2048) :
    (iblk m c 3 t : Vec Ideal S256x2048 .f32) (ix2 r k) = GB m c (ix3 0 ⟨256 * t.val + r.val, by have := point_lt t; omega⟩ k) := by
  show V m c main_v5 (((cfg0.win 3).blk t).view.emb (ix2 r k)) = _
  have e : ((cfg0.win 3).blk t).view.emb (ix2 r k) = (ix2 ⟨256 * t.val + r.val, by have := point_lt t; omega⟩ k : S8192x2048.Idx) := by
    funext a; apply Fin.ext
    match a with
    | ⟨0, _⟩ => show win0_3.index t (0 : Fin 2) * 256 + 1 * r.val = 256 * t.val + r.val; have := (idx3 t).1; omega
    | ⟨1, _⟩ => show win0_3.index t (1 : Fin 2) * 2048 + 1 * k.val = k.val; have := (idx3 t).2; omega
  rw [e, V_GB]
  pointwise

/-- The block of `WA` at point `t`, at an index. -/
theorem WA_apply (c : Dev nD) (t : Fin cfg0.N) (r : Fin 1024) (k : Fin 2048) :
    (iblk m c 4 t : Vec Ideal S1024x2048 .bf16) (ix2 r k) = WA m c (ix3 0 r k) := by
  show V m c main_v7 (((cfg0.win 4).blk t).view.emb (ix2 r k)) = _
  have e : ((cfg0.win 4).blk t).view.emb (ix2 r k) = (ix2 r k : S1024x2048.Idx) := by
    funext a; apply Fin.ext
    match a with
    | ⟨0, _⟩ => show win0_4.index t (0 : Fin 2) * 1024 + 1 * r.val = r.val; have := (idx4 t).1; omega
    | ⟨1, _⟩ => show win0_4.index t (1 : Fin 2) * 2048 + 1 * k.val = k.val; have := (idx4 t).2; omega
  rw [e, V_WA]
  pointwise

/-- The block of `WB` at point `t`, at an index. -/
theorem WB_apply (c : Dev nD) (t : Fin cfg0.N) (r : Fin 1024) (k : Fin 2048) :
    (iblk m c 5 t : Vec Ideal S1024x2048 .bf16) (ix2 r k) = WB m c (ix3 0 r k) := by
  show V m c main_v9 (((cfg0.win 5).blk t).view.emb (ix2 r k)) = _
  have e : ((cfg0.win 5).blk t).view.emb (ix2 r k) = (ix2 r k : S1024x2048.Idx) := by
    funext a; apply Fin.ext
    match a with
    | ⟨0, _⟩ => show win0_5.index t (0 : Fin 2) * 1024 + 1 * r.val = r.val; have := (idx5 t).1; omega
    | ⟨1, _⟩ => show win0_5.index t (1 : Fin 2) * 2048 + 1 * k.val = k.val; have := (idx5 t).2; omega
  rw [e, V_WB]
  pointwise

theorem hz : (![0, 0] : Fin 2 → Nat) = fun _ => 0 := funext fun a => by fin_cases a <;> rfl

/-- The stored value of the loaded blocks at an index. -/
theorem k0_pay1_apply (x : Vec Ideal S256x1024 .bf16) (v : Vec Ideal S1024x2048 .bf16) (y : Vec Ideal S256x1024 .bf16) (w : Vec Ideal S1024x2048 .bf16)
    (g h : Vec Ideal S256x2048 .f32) (r : Fin 256) (e : Fin 2048) :
    k0_pay1 x v y w g h (ix2 r e) = entry (fun k => x (ix2 r k)) (fun k => y (ix2 r k)) (g (ix2 r e)) (h (ix2 r e)) (fun k => v (ix2 k e)) (fun k => w (ix2 k e)) := by
  have hs : ∀ g : EReal, Ideal.logistic g = sigm g := fun _ => rfl
  unfold entry
  pointwise [k0_pay1]
  simp only [hs]

/-- At point `t` it is rows `256 t …` of the merge. -/
theorem k0_pay1_point (c : Dev nD) (t : Fin cfg0.N) (r : Fin 256) (e : Fin 2048) :
    k0_pay1 (View.ld (iblk m c 0 t) r0_0) (View.ld (iblk m c 4 t) r0_1) (View.ld (iblk m c 1 t) r0_0) (View.ld (iblk m c 5 t) r0_1)
        (View.ld (iblk m c 2 t) r0_2) (View.ld (iblk m c 3 t) r0_2) (ix2 r e)
      = coord m c ⟨256 * t.val + r.val, by have := point_lt t; omega⟩ e := by
  rw [View.ld_unit_zero (S := S256x1024) hz, View.ld_unit_zero (S := S256x1024) hz, View.ld_unit_zero (S := S1024x2048) hz, View.ld_unit_zero (S := S1024x2048) hz,
    View.ld_unit_zero (S := S256x2048) hz, View.ld_unit_zero (S := S256x2048) hz, k0_pay1_apply]
  unfold coord
  simp only [A_apply, B_apply, GA_apply, GB_apply, WA_apply, WB_apply]

/-- Point `t` writes back its rows. -/
theorem flushed6_eq (c : Dev nD) (t : Fin cfg0.N) (hf : (cfg0.win 6).flush t = true) :
    (dats m 0 c).flushed 6 t = ((cfg0.win 6).blk t).view.read (Elt Ideal) (rows m c) := by
  rw [Value.flushed6]
  refine funext fun (j : S256x2048.Idx) => ?_
  obtain ⟨r, e, rfl⟩ : ∃ (r : Fin 256) (e : Fin 2048), j = ix2 r e := ⟨j 0, j 1, eq_ix2 j⟩
  show out0_6 (iblk m c 0 t) (iblk m c 1 t) (iblk m c 2 t) (iblk m c 3 t) (iblk m c 4 t) (iblk m c 5 t) (ix2 r e) = rows m c (((cfg0.win 6).blk t).view.emb (ix2 r e))
  have he : ((cfg0.win 6).blk t).view.emb (ix2 r e) = (ix2 ⟨256 * t.val + r.val, by have := point_lt t; omega⟩ e : S8192x2048.Idx) := by
    funext a; apply Fin.ext
    match a with
    | ⟨0, _⟩ => show win0_6.index t (0 : Fin 2) * 256 + 1 * r.val = 256 * t.val + r.val; have := (idx6 t).1; omega
    | ⟨1, _⟩ => show win0_6.index t (1 : Fin 2) * 2048 + 1 * e.val = e.val; have := (idx6 t).2; omega
  rw [he]
  unfold out0_6
  rw [View.canon_unit_zero hz]
  exact k0_pay1_point m c t r e

/-- Every row lies in some point's block. -/
theorem rows_eq (c : Dev nD) : (dats m 0 c).arrAt 6 cfg0.N = rows m c :=
  (dats m 0 c).arrAt_eq_of_cover 6 (rows m c) (flushed6_eq m c) fun i => by
    have h0 : (i 0 : Nat) < 8192 := (i 0).isLt
    have h1 : (i 1 : Nat) < 2048 := (i 1).isLt
    have hN : cfg0.N = 32 := N_0
    obtain ⟨t, ht⟩ : ∃ t : Fin cfg0.N, t.val = (i 0 : Nat) / 256 := ⟨⟨(i 0 : Nat) / 256, by rw [hN]; omega⟩, rfl⟩
    refine ⟨t, flush0_6 t, ?_⟩
    have h2 := idx6 t
    show i ∈ ((View.whole main_v10).slice (win0_6.rect t)).set
    rw [View.set_slice_whole, Rect.mem_set_unit]
    intro a
    match a with
    | ⟨0, _⟩ => show win0_6.index t (0 : Fin 2) * 256 ≤ (i 0 : Nat) ∧ (i 0 : Nat) < win0_6.index t (0 : Fin 2) * 256 + 256
                rw [h2.1]; omega
    | ⟨1, _⟩ => show win0_6.index t (1 : Fin 2) * 2048 ≤ (i 1 : Nat) ∧ (i 1 : Nat) < win0_6.index t (1 : Fin 2) * 2048 + 2048
                rw [h2.2]; omega

end Cert.Kernel17Ideal.Merge

namespace Cert.Reference17Ideal.Merge

open Cert.Reference17Ideal Cert.Reference17Ideal.Gen Cert.Proof.Merge

/-- The reference's sigmoid of the gates. -/
def gate (g : FVec Ideal S1x8192x2048 .f32) : FVec Ideal S1x8192x2048 .f32 :=
  Host.divf (broadcastInDim S1x8192x2048 ![] bcast_S_S1x8192x2048 (constant S_ .f32 0x3F800000#32)) (addf (broadcastInDim S1x8192x2048 ![] bcast_S_S1x8192x2048 (constant S_ .f32 0x3F800000#32)) (Host.exp (Host.negf g)))

/-- The reference's product of a mixer's output by its weights. -/
def branch (x : FVec Ideal S1x8192x1024 .f32) (w : FVec Ideal S1x1024x2048 .f32) : FVec Ideal S1x8192x2048 .f32 :=
  Host.dotGeneral (F := Ideal) (φ₁ := .f32) (φ₂ := .f32) dot_S1x8192x1024_S1024x2048_S1x8192x2048_2_0_01_1_n_n none x (shapeCast _ w shapeCasts_S1x1024x2048_S1024x2048)

theorem gate_apply (g) (r : Fin 8192) (e : Fin 2048) : gate g (ix3 0 r e) = sigm (g (ix3 0 r e)) := by
  pointwise [gate, sigm]

theorem branch_apply (x w) (r : Fin 8192) (e : Fin 2048) : branch x w (ix3 0 r e) = ∑ k : Fin 1024, x (ix3 0 r k) * w (ix3 0 k e) := by
  pointwise [branch]

/-- The merged rows, at an index. -/
theorem merged_apply (p q u v : FVec Ideal S1x8192x2048 .f32) (r : Fin 8192) (e : Fin 2048) :
    truncf (F := Ideal) .bf16 (shapeCast S8192x2048 (addf (mulf p u) (mulf q v)) shapeCasts_S1x8192x2048_S8192x2048) bitsLt_bf16_f32 (ix2 r e)
      = p (ix3 0 r e) * u (ix3 0 r e) + q (ix3 0 r e) * v (ix3 0 r e) := by
  pointwise

end Cert.Reference17Ideal.Merge

namespace Cert.Proof

/-- The reference runs and leaves its arguments. -/
theorem frame_reference17 : Cert.quiescent_Reference17Ideal (hReference17Ideal := Cert.Reference17Ideal.Gen.facts) :=
  fun m ρ _ => (θ_run _ _ _).mono (fun r h => ⟨fun c => (h c).2, sem_eq_zero_of_no_sems rfl r.2⟩) (Cert.Reference17Ideal.Value.run m ρ)

/-- The merge's claim: what the kernel's call ends with is the reference's. -/
theorem algebraic17 : Cert.algebraic_Kernel17Ideal_Reference17Ideal (hKernel17Ideal := Cert.Kernel17Ideal.Gen.facts) (hReference17Ideal := Cert.Reference17Ideal.Gen.facts) := by
  intro m g m' g' _ hargs
  refine ⟨Cert.Kernel17Ideal.Merge.rows m, ?_, ?_⟩
  · refine (θ_run _ _ _).mono (fun r h c => ?_) (Cert.Kernel17Ideal.Value.run_blocks m g)
    exact ⟨(h c).1.trans (Cert.Kernel17Ideal.Merge.rows_eq m c), (h c).2⟩
  · refine (θ_run _ _ _).mono (fun r h c => ?_) (Cert.Reference17Ideal.Value.run m' g')
    obtain ⟨ha, hb, hga, hgb, hwa, hwb⟩ := hargs c
    refine ⟨(h c).1.trans ?_, (h c).2⟩
    refine funext fun (i : Cert.Kernel17Ideal.S8192x2048.Idx) => ?_
    obtain ⟨r, e, rfl⟩ : ∃ (r : Fin 8192) (e : Fin 2048), i = ix2 r e := ⟨i 0, i 1, eq_ix2 i⟩
    refine (Cert.Reference17Ideal.Merge.merged_apply (Cert.Reference17Ideal.Merge.gate _) (Cert.Reference17Ideal.Merge.gate _)
      (Cert.Reference17Ideal.Merge.branch _ _) (Cert.Reference17Ideal.Merge.branch _ _) r e).trans ?_
    rw [Cert.Reference17Ideal.Merge.gate_apply, Cert.Reference17Ideal.Merge.gate_apply, Cert.Reference17Ideal.Merge.branch_apply, Cert.Reference17Ideal.Merge.branch_apply]
    rw [ha, hb, hga, hgb, hwa, hwb]
    rfl

end Cert.Proof

end
-- ==== Proof.CombWords.lean ====
/- The integer chains of the combine kernel, read as plain numbers: where each copy starts. -/
module

public import proofs.«01_k».proof.Proof.Gen.Kernel18Ideal
public import Idealize.ShloMosaic.Lib.WordCmp

@[expose] public section

namespace Cert.Proof.Comb

open Idealize.ShloMosaic Cert.Kernel18Ideal Cert.Kernel18Ideal.Gen

theorem trips1 : k0_t1_loop.trips = 256 := by decide +kernel
theorem trips2 : k0_t2_loop.trips = 256 := by decide +kernel

theorem word16 (v : BitVec 32) (h : v.toNat < 24832) : (Scalar.muli v 16#32).toNat = 16 * v.toNat := by
  rw [show Scalar.muli v 16#32 = v * 16#32 from rfl, BitVec.toNat_mul]
  simp only [BitVec.toNat_ofNat]; omega

/-- A slot's 16 rows start at row `16 v` of the experts' outputs. -/
theorem off3_eq (v : BitVec 32) (h : v.toNat < 24832) : k0_off3 v = ![16 * v.toNat, 0] := by
  unfold k0_off3; dsimp only; rw [word16 v h]
theorem off6_eq (v : BitVec 32) (h : v.toNat < 24832) : k0_off6 v = ![16 * v.toNat, 0] := off3_eq v h
theorem off9_eq (v : BitVec 32) (h : v.toNat < 24832) : k0_off9 v = ![16 * v.toNat, 0] := off3_eq v h
theorem off12_eq (v : BitVec 32) (h : v.toNat < 24832) : k0_off12 v = ![16 * v.toNat, 0] := off3_eq v h

theorem rows_fit (v : ℕ) (h : v < 24832) (a : Fin 2) : (![16 * v, 0] : Fin 2 → ℕ) a + S16x128.size a ≤ S397312x128.size a :=
  match a with
  | 0 => (by omega : 16 * v + 16 ≤ 397312)
  | 1 => (by omega : 0 + 128 ≤ 128)

/-- What the kernel assumes of a slot's number holds of every slot. -/
theorem chk1_of (v : BitVec 32) (h : v.toNat < 24832) : k0_chk1 v :=
  ⟨⟨v.toNat, word16 v h⟩, fun a => (congrFun (off3_eq v h) a).symm ▸ rows_fit _ h a⟩
theorem chk2_of (v : BitVec 32) (h : v.toNat < 24832) : k0_chk2 v :=
  ⟨⟨v.toNat, word16 v h⟩, fun a => (congrFun (off6_eq v h) a).symm ▸ rows_fit _ h a⟩
theorem chk3_of (v : BitVec 32) (h : v.toNat < 24832) : k0_chk3 v :=
  ⟨⟨v.toNat, word16 v h⟩, fun a => (congrFun (off9_eq v h) a).symm ▸ rows_fit _ h a⟩
theorem chk4_of (v : BitVec 32) (h : v.toNat < 24832) : k0_chk4 v :=
  ⟨⟨v.toNat, word16 v h⟩, fun a => (congrFun (off12_eq v h) a).symm ▸ rows_fit _ h a⟩

end Cert.Proof.Comb
-- ==== Proof.CombCopies.lean ====
/- The combine kernel's copies: what both gathers share. -/
module

public import proofs.«01_k».proof.Proof.CombWords
public import proofs.«01_k».proof.Proof.Gen.Kernel18Ideal.Launch
public import proofs.«01_k».proof.Proof.Gen.Kernel18Ideal.Skeleton
public import Idealize.ShloMosaic.Lib.Pipeline.FrameBody
public import Idealize.ShloMosaic.Lib.Batch
public import Idealize.ShloMosaic.Lib.Pointwise
public import Idealize.ShloMosaic.Lib.Tactic

@[expose] public section

noncomputable section

namespace Cert.Proof.Comb

open Cert.Kernel18Ideal Cert.Kernel18Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's algebra: the pipeline's beside the counters of the copies. -/
local notation "𝕄" => MT nD τ sig Unit (Elt F) ℕ (Pipeline.UD sig nD τ) ℕ

abbrev yM : Memref sig .tc .hbm S397312x128 .f32 := Memref.whole main_arg6

/-- The 16 rows of a gather's buffer that hold its row `r`. -/
def blk (r : ℕ) : Finset S4096x128.Idx := Finset.univ.filter fun y => (y 0).val / 16 = r

/-- The rows of a gather's buffer from its row `j` on. -/
def slabFrom (j : ℕ) : Finset S4096x128.Idx := Finset.univ.filter fun y => j ≤ (y 0).val / 16

/-- The 16 rows of the experts' outputs that hold slot `v`. -/
def slotRows (v : ℕ) : Finset S397312x128.Idx := Finset.univ.filter fun y => (y 0).val / 16 = v

/-- Entry `n` of a slot table, as a number. -/
def slot (pos : S8320.Idx → BitVec 32) (n : ℕ) : ℕ := (pos (ix1 ⟨n % 8320, Nat.mod_lt _ (by omega)⟩)).toNat

/-- What a gather's buffer holds once block `t` has landed in it: row `16 r + c` is row `c` of the slot the table names at `256 t + r`. -/
def landed (pos : S8320.Idx → BitVec 32) (Y : S397312x128.Idx → Elt F .f32) (t : ℕ) : S4096x128.Idx → Elt F .f32 :=
  fun y => Y (ix2 ⟨(16 * slot pos (256 * t + (y 0).val / 16) + (y 0).val % 16) % 397312, Nat.mod_lt _ (by omega)⟩ (y 1))

/-- Column group `g` of block `t`'s gathered rows: row `r` is the slot the table names at `256 t + r`. -/
def gath (pos : S8320.Idx → BitVec 32) (Y : S397312x128.Idx → Elt F .f32) (t g : ℕ) : S256x128.Idx → Elt F .f32 :=
  fun x => Y (ix2 ⟨(16 * slot pos (256 * t + (x 0).val) + g) % 397312, Nat.mod_lt _ (by omega)⟩ (x 1))

/-- A landed buffer at a row of a column group. -/
theorem landed_at (pos : S8320.Idx → BitVec 32) (Y : S397312x128.Idx → Elt F .f32) (t g : ℕ) (hg : g < 16) (y : S4096x128.Idx) (x : S256x128.Idx)
    (h0 : (y 0).val = g + 16 * (x 0).val) (h1 : (y 1).val = (x 1).val) : landed pos Y t y = gath pos Y t g x := by
  unfold landed gath
  have e : (y 0).val / 16 = (x 0).val := by omega
  have e' : (y 0).val % 16 = g := by omega
  refine congrArg Y (congrArg₂ ix2 (Fin.ext ?_) (Fin.ext h1))
  show (16 * slot pos (256 * t + (y 0).val / 16) + (y 0).val % 16) % 397312 = (16 * slot pos (256 * t + (x 0).val) + g) % 397312
  rw [e, e']

theorem slabFrom_step (j : ℕ) (hj : j < 256) : slabFrom j = blk j ∪ slabFrom (j + 1) := by
  ext y; simp only [slabFrom, blk, Finset.mem_filter, Finset.mem_univ, true_and, Finset.mem_union]; omega

theorem slab_disj (j : ℕ) : Disjoint (blk j) (slabFrom (j + 1)) := by
  rw [Finset.disjoint_left]; intro y
  simp only [slabFrom, blk, Finset.mem_filter, Finset.mem_univ, true_and]; omega

theorem slab_univ : slabFrom 0 = Finset.univ := by
  ext y; simp [slabFrom]

/-- A gather's buffer is its 256 rows. -/
theorem blk_union : (Finset.univ.biUnion fun r : Fin 256 => blk r.val) = Finset.univ := by
  ext y
  have hy : (y 0).val < 4096 := (y 0).isLt
  simp only [Finset.mem_biUnion, Finset.mem_univ, _root_.true_and, blk, Finset.mem_filter, iff_true]
  exact ⟨⟨(y 0).val / 16, by omega⟩, rfl⟩

theorem src_set (v : ℕ) (h : ∀ a, (![16 * v, 0] : Fin 2 → ℕ) a + S16x128.size a ≤ S397312x128.size a) :
    (yM.slice (Rect.unit (s := S397312x128) ![16 * v, 0] S16x128.size h) (fun _ => rfl)).view.set = slotRows v := by
  refine (View.set_slice_whole main_arg6 (Rect.unit (s := S397312x128) ![16 * v, 0] S16x128.size h)).trans ?_
  ext y
  rw [Rect.mem_set_unit]
  simp only [slotRows, Finset.mem_filter, Finset.mem_univ, true_and]
  have h1 : (y 1).val < 128 := (y 1).isLt
  constructor
  · intro ha
    have a' : 16 * v ≤ (y 0).val := (ha 0).1
    have b' : (y 0).val < 16 * v + 16 := (ha 0).2
    omega
  · intro e a
    match a with
    | ⟨0, _⟩ => exact ⟨show 16 * v ≤ (y 0).val by omega, show (y 0).val < 16 * v + 16 by omega⟩
    | ⟨1, _⟩ => exact ⟨Nat.zero_le _, show (y 1).val < 0 + 128 by omega⟩

/-- The share of the experts' outputs that copy `n` reads under. -/
def tk (n : ℕ) : PosShare TreeShare := Transfers.shareTokN fullShare n

/-- The copies started up to and with the `j`-th. -/
theorem issued_step (D : Fin 256 → sProp 𝕄) (j : ℕ) (hj : j < 256) :
    bigSep (Transfers.issued (j + 1)) D = iprop(D ⟨j, hj⟩ ∗ bigSep (Transfers.issued j) D) := by
  rw [Transfers.issued_succ hj, bigSep_insert (Transfers.not_mem_issued hj)]; rfl

omit [FloatOps F] in
theorem grid_lt (i : grid0.Coords) : (i 0).val < 32 := (i 0).isLt

/-! ## Memrefs held at their contents -/

/-- A load from a memref held at `V` reads `V` at the rectangle's places. -/
theorem load_held (c : Dev nD) {α : Type} {Q : α → sProp 𝕄} {sh : Shape} {e : EltTy} {m : Memref sig .tc .vmem sh e} {r : LoadRect sh} {hl : m.view.LoadsAt r}
    {k : (r.shape.Idx → Elt F e) → Prog (TpuEff nD τ sig (Elt F) Λ₀ .tc) α} {q : PosShare TreeShare} {V : sh.Idx → Elt F e} :
    owns (c : Thread nD τ) m q V
      ⊢ iprop((owns (c : Thread nD τ) m q V -∗
          wp frame (wpE (defs₀ (F := F)) Variants.none (c : Thread nD τ) none) Set.univ (k fun x => V (r.idx x)) Q)
        -∗ wp frame (wpE (defs₀ (F := F)) Variants.none (c : Thread nD τ) none) Set.univ (.op (.load m r hl) k) Q) := by
  unfold owns
  iintro ⟨%f, %hf, H⟩ Hk
  iapply (wp_load Variants.none (c : Thread nD τ) none Set.univ (m := m) (r := r) (S := m.view.set) (q := q) (f := f)
    (View.setOn_subset_set _ _)) $$ H
  iintro H
  rw [show (m.view.readAt (Elt F) r f) = fun x => V (r.idx x) from by subst hf; rfl]
  iapply Hk
  iexists f
  isplitr; · ipureintro; exact hf
  iexact H

/-- A store through a rectangle of a memref held at `V` leaves it at `V'`: the payload on the rectangle, `V` off it. -/
theorem store_held (c : Dev nD) {α : Type} {Q : α → sProp 𝕄} {sh : Shape} {e : EltTy} {m : Memref sig .tc .vmem sh e} {r : Rect sh} {w : r.shape.Idx → Elt F e}
    {hx : (m.access r).Stores Finset.univ} {hm : (Finset.univ : Finset r.shape.Idx) = Finset.univ ∨ ∀ a, r.stride a = 1}
    {k : PUnit → Prog (TpuEff nD τ sig (Elt F) Λ₀ .tc) α} {V V' : sh.Idx → Elt F e}
    (h1 : ∀ x, V' (r.emb x) = w x) (h2 : ∀ y, y ∉ r.set → V' y = V y) :
    owns (c : Thread nD τ) m fullShare V
      ⊢ iprop((owns (c : Thread nD τ) m fullShare V' -∗
          wp frame (wpE (defs₀ (F := F)) Variants.none (c : Thread nD τ) none) Set.univ (k ⟨⟩) Q)
        -∗ wp frame (wpE (defs₀ (F := F)) Variants.none (c : Thread nD τ) none) Set.univ (.op (.store m r w Finset.univ hx hm) k) Q) := by
  unfold owns
  iintro ⟨%f, %hf, H⟩ Hk
  iapply (wp_store Variants.none (c : Thread nD τ) none Set.univ (m := m) (r := r) (w := w) (Mk := Finset.univ) (S := m.view.set) (f := f)
    (by
      intro y hy
      obtain ⟨x, -, rfl⟩ := Finset.mem_map.mp hy
      exact View.emb_mem_set m.view (r.emb x))) $$ H
  iintro H
  iapply Hk
  iexists _
  isplitr
  · ipureintro
    funext y
    by_cases hy : y ∈ r.set
    · obtain ⟨x, rfl⟩ := r.toLoadRect.exists_idx_of_mem hy
      refine Eq.trans ?_ (h1 x).symm
      exact congrFun (View.read_write_univ (v := m.access r) (Val := Elt F) f w) x
    · rw [h2 y hy, ← hf, View.read_apply, View.read_apply]
      congr 1
      refine View.write_of_not_mem _ _ _ fun hmem => hy ?_
      obtain ⟨x, -, hxy⟩ := Finset.mem_map.mp hmem
      have : r.emb x = y := m.view.emb.injective hxy
      rw [← this]; exact r.toLoadRect.idx_mem x
  · iexact H

/-- A load of the whole. -/
theorem load_all (c : Dev nD) {α : Type} {Q : α → sProp 𝕄} {sh : Shape} {e : EltTy} {m : Memref sig .tc .vmem sh e} {off : Fin sh.rank → ℕ} (ho : ∀ a, off a = 0)
    {inb : ∀ a, off a + sh.size a ≤ sh.size a} {hl : m.view.LoadsAt (Rect.unit (s := sh) off sh.size inb).toLoadRect}
    {k : (sh.Idx → Elt F e) → Prog (TpuEff nD τ sig (Elt F) Λ₀ .tc) α} {q : PosShare TreeShare} {V : sh.Idx → Elt F e} :
    owns (c : Thread nD τ) m q V
      ⊢ iprop((owns (c : Thread nD τ) m q V -∗
          wp frame (wpE (defs₀ (F := F)) Variants.none (c : Thread nD τ) none) Set.univ (k V) Q)
        -∗ wp frame (wpE (defs₀ (F := F)) Variants.none (c : Thread nD τ) none) Set.univ
          (.op (.load m (Rect.unit (s := sh) off sh.size inb).toLoadRect hl) k) Q) := by
  have e : (fun x : sh.Idx => V ((Rect.unit (s := sh) off sh.size inb).toLoadRect.idx x)) = V :=
    funext fun x => congrArg V (funext fun a => Fin.ext (by
      show off a + 1 * (x a).val = (x a).val
      rw [ho a]; omega))
  have h := load_held (c := c) (Q := Q) (m := m) (r := (Rect.unit (s := sh) off sh.size inb).toLoadRect) (hl := hl) (k := k) (q := q) (V := V)
  refine h.trans (wand_mono_left (wand_mono_right (Entails.of_eq ?_)))
  exact congrArg (fun z => wp frame (wpE (defs₀ (F := F)) Variants.none (c : Thread nD τ) none) Set.univ (k z) Q) e.symm

/-- A store over the whole. -/
theorem store_all (c : Dev nD) {α : Type} {Q : α → sProp 𝕄} {sh : Shape} {e : EltTy} {m : Memref sig .tc .vmem sh e} {off : Fin sh.rank → ℕ} (ho : ∀ a, off a = 0)
    {inb : ∀ a, off a + sh.size a ≤ sh.size a} {w : sh.Idx → Elt F e}
    {hx : (m.access (Rect.unit (s := sh) off sh.size inb)).Stores Finset.univ}
    {hm : (Finset.univ : Finset (Rect.unit (s := sh) off sh.size inb).shape.Idx) = Finset.univ ∨ ∀ a, (Rect.unit (s := sh) off sh.size inb).stride a = 1}
    {k : PUnit → Prog (TpuEff nD τ sig (Elt F) Λ₀ .tc) α} {V : sh.Idx → Elt F e} :
    owns (c : Thread nD τ) m fullShare V
      ⊢ iprop((owns (c : Thread nD τ) m fullShare w -∗
          wp frame (wpE (defs₀ (F := F)) Variants.none (c : Thread nD τ) none) Set.univ (k ⟨⟩) Q)
        -∗ wp frame (wpE (defs₀ (F := F)) Variants.none (c : Thread nD τ) none) Set.univ
          (.op (.store m (Rect.unit (s := sh) off sh.size inb) w Finset.univ hx hm) k) Q) := by
  have e (x : sh.Idx) : (Rect.unit (s := sh) off sh.size inb).emb x = x :=
    funext fun a => Fin.ext (by
      show off a + 1 * (x a).val = (x a).val
      rw [ho a]; omega)
  refine store_held c (fun x => congrArg w (e x)) (fun y hy => absurd ?_ hy)
  have := (Rect.unit (s := sh) off sh.size inb).toLoadRect.idx_mem y
  rwa [show (Rect.unit (s := sh) off sh.size inb).toLoadRect.idx y = y from e y] at this

end Cert.Proof.Comb
end
-- ==== Proof.CombFst.lean ====
/- The first gather of the combine kernel: 256 row copies into its buffer, all on one semaphore, drained together. -/
module

public import proofs.«01_k».proof.Proof.CombCopies

@[expose] public section

noncomputable section

namespace Cert.Proof.Comb.Fst

open Cert.Kernel18Ideal Cert.Kernel18Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's algebra: the pipeline's beside the counters of the copies. -/
local notation "𝕄" => MT nD τ sig Unit (Elt F) ℕ (Pipeline.UD sig nD τ) ℕ

abbrev bM : Memref sig .tc .vmem S4096x128 .f32 := Memref.whole cc0_scratch0
abbrev iM : Memref sig .tc .smem S8320 .i32 := Memref.whole main_arg0

theorem dst_set (j : ℕ) (h : ∀ a, (![16 * j, 0] : Fin 2 → ℕ) a + S16x128.size a ≤ S4096x128.size a) :
    (bM.slice (Rect.unit (s := S4096x128) ![16 * j, 0] S16x128.size h) (fun _ => rfl)).view.set = blk j := by
  refine (View.set_slice_whole cc0_scratch0 (Rect.unit (s := S4096x128) ![16 * j, 0] S16x128.size h)).trans ?_
  ext y
  rw [Rect.mem_set_unit]
  simp only [blk, Finset.mem_filter, Finset.mem_univ, true_and]
  have h1 : (y 1).val < 128 := (y 1).isLt
  constructor
  · intro ha
    have a' : 16 * j ≤ (y 0).val := (ha 0).1
    have b' : (y 0).val < 16 * j + 16 := (ha 0).2
    omega
  · intro e a
    match a with
    | ⟨0, _⟩ => exact ⟨show 16 * j ≤ (y 0).val by omega, show (y 0).val < 16 * j + 16 by omega⟩
    | ⟨1, _⟩ => exact ⟨Nat.zero_le _, show (y 1).val < 0 + 128 by omega⟩

/-- What one row copy leaves on its 16 rows of the buffer is the slot's rows. -/
theorem land_apply (pos : S8320.Idx → BitVec 32) (Y : S397312x128.Idx → Elt F .f32) (t j : ℕ) (hj : j < 256)
    (hv : slot pos (256 * t + j) < 24832)
    (h : ∀ a, (![16 * j, 0] : Fin 2 → ℕ) a + S16x128.size a ≤ S4096x128.size a)
    (h' : ∀ a, (![16 * slot pos (256 * t + j), 0] : Fin 2 → ℕ) a + S16x128.size a ≤ S397312x128.size a)
    (f : S4096x128.Idx → Elt F .f32) (y : S4096x128.Idx) (hy : y ∈ blk j) :
    (bM.slice (Rect.unit (s := S4096x128) ![16 * j, 0] S16x128.size h) (fun _ => rfl)).view.write (Elt F) f
      ((yM.slice (Rect.unit (s := S397312x128) ![16 * slot pos (256 * t + j), 0] S16x128.size h') (fun _ => rfl)).view.read (Elt F) Y)
      Finset.univ y = landed pos Y t y := by
  have e : (y 0).val / 16 = j := by simpa [blk] using hy
  have hy1 : (y 1).val < 128 := (y 1).isLt
  have hy0 : (y 0).val < 4096 := (y 0).isLt
  obtain ⟨x, hx⟩ : ∃ x : S16x128.Idx, (bM.slice (Rect.unit (s := S4096x128) ![16 * j, 0] S16x128.size h) (fun _ => rfl)).view.emb x = y := by
    refine ⟨ix2 ⟨(y 0).val % 16, by omega⟩ (y 1), ?_⟩
    funext a; apply Fin.ext; fin_cases a
    · show 16 * j + 1 * ((y 0).val % 16) = (y 0).val; omega
    · show 0 + 1 * (y 1).val = (y 1).val; omega
  rw [← hx, View.write_emb_of_mem _ _ (Finset.mem_univ _)]
  have e0 : 16 * j + 1 * (x 0).val = (y 0).val := by rw [← hx]; rfl
  have e1 : 0 + 1 * (x 1).val = (y 1).val := by rw [← hx]; rfl
  have hx0 : (x 0).val < 16 := (x 0).isLt
  show Y _ = Y _
  rw [hx]
  congr 1
  funext a; apply Fin.ext; fin_cases a
  · show 16 * slot pos (256 * t + j) + 1 * (x 0).val = (16 * slot pos (256 * t + (y 0).val / 16) + (y 0).val % 16) % 397312
    rw [e, Nat.mod_eq_of_lt (by omega)]; omega
  · exact e1

/-- The gather's semaphore. -/
def cell : DmaSem sig := 8

theorem cell_eq (h : ∀ a, (![0] : Fin 1 → ℕ) a + S1.size a ≤ S2.size a) (hs : S1.Squeezes S_) :
    ((cc0_scratch2.slice (Rect.unit (s := S2) ![0] S1.size h)).squeeze S_ hs).sem = cell := by
  decide +kernel +revert

/-- The units one row copy credits. -/
def unit16 : ℕ := (cc0_scratch0 : Ref sig .tc).dmaCredit S16x128 .f32

theorem unit16_pos : 0 < unit16 := by decide

variable (c : Dev nD) (pos : S8320.Idx → BitVec 32) (Y : S397312x128.Idx → Elt F .f32)

/-- What copy `r` of block `t` hands back: the slot's rows landed, and the rows it read. -/
def deliv (t : ℕ) (r : Fin 256) : sProp 𝕄 :=
  iprop((((c : Thread nD τ).loc cc0_scratch0) ↦[blk r.val]{fullShare} landed pos Y t)
    ∗ (((c : Thread nD τ).loc main_arg6) ↦[slotRows (slot pos (256 * t + r.val))]{tk (256 * 0 + r.val)} Y))

instance deliv_storable (t : ℕ) (r : Fin 256) : Storable (upEmb : UEmb _ 𝕄) (deliv c pos Y t r) := by
  unfold deliv; infer_instance

/-- The rows copy `r` of block `t` does not read, kept while it flies. -/
def kept (t : ℕ) (r : Fin 256) : sProp 𝕄 :=
  iprop(((c : Thread nD τ).loc main_arg6) ↦[Finset.univ \ slotRows (slot pos (256 * t + r.val))]{tk (256 * 0 + r.val)} Y)

/-- The share copy `r` will read under. -/
def share (r : Fin 256) : sProp 𝕄 := iprop(((c : Thread nD τ).loc main_arg6) ↦{tk (256 * 0 + r.val)} Y)

/-- Block `t`'s copies: `j` of 256 started, `u` units waited for. -/
def batch (t j u : ℕ) : sProp 𝕄 :=
  Transfers.Batch (countersEmb (U := Pipeline.UD sig nD τ)) (c : Thread nD τ) (.dma cell) () unit16 (deliv c pos Y t) j u

/-- Starting one copy: its slot's share and 16 rows of the buffer go into the batch. -/
theorem issue (t j : ℕ) (hj : j < 256) (hv : slot pos (256 * t + j) < 24832)
    {od : Fin 2 → ℕ} {os : Fin 2 → ℕ} (hod : od = ![16 * j, 0]) (hos : os = ![16 * slot pos (256 * t + j), 0])
    {hd : ∀ a, od a + S16x128.size a ≤ S4096x128.size a} {hs : ∀ a, os a + S16x128.size a ≤ S397312x128.size a}
    {sm : DmaSem sig} (hsm : sm = cell)
    {w1 : (yM.slice (Rect.unit (s := S397312x128) os S16x128.size hs) (fun _ => rfl)).view.WordExact}
    {w2 : (bM.slice (Rect.unit (s := S4096x128) od S16x128.size hd) (fun _ => rfl)).view.WordExact}
    {w3 : DmaTarget.Typed (nD := nD) (τ := τ) (p := .tc) .hbm (.dma sm) (.here (bM.slice (Rect.unit (s := S4096x128) od S16x128.size hd) (fun _ => rfl)))}
    {α : Type} {k : PUnit → Prog (TpuEff nD τ sig (Elt F) Λ₀ .tc) α} {Q : α → sProp 𝕄} (f : S4096x128.Idx → Elt F .f32) :
    iprop(batch c pos Y t j 0 ∗ share c Y ⟨j, hj⟩ ∗ (((c : Thread nD τ).loc cc0_scratch0) ↦[slabFrom j]{fullShare} f))
      ⊢ iprop((iprop(batch c pos Y t (j + 1) 0 ∗ kept c pos Y t ⟨j, hj⟩
            ∗ (((c : Thread nD τ).loc cc0_scratch0) ↦[slabFrom (j + 1)]{fullShare} f))
          -∗ wp frame (wpE (defs₀ (F := F)) Variants.none (c : Thread nD τ) none) Set.univ (k ⟨⟩) Q)
        -∗ wp frame (wpE (defs₀ (F := F)) Variants.none (c : Thread nD τ) none) Set.univ
          (.op (.enqueueDma (yM.slice (Rect.unit (s := S397312x128) os S16x128.size hs) (fun _ => rfl))
            (.here (bM.slice (Rect.unit (s := S4096x128) od S16x128.size hd) (fun _ => rfl))) (.dma sm) w1 w2 w3) k) Q) := by
  subst hod hos hsm
  unfold batch
  iintro ⟨HB, Hs, Hf⟩ Hk
  ihave Hs' := (show share c Y ⟨j, hj⟩ ⊢ iprop(
      (((c : Thread nD τ).loc main_arg6) ↦[slotRows (slot pos (256 * t + j))]{tk (256 * 0 + j)} Y) ∗ kept c pos Y t ⟨j, hj⟩) from by
    unfold share kept
    exact (pointsTo_split_subset (Finset.subset_univ _)).1) $$ Hs
  icases Hs' with ⟨Hs, Hkeep⟩
  ihave Hf' := (show (((c : Thread nD τ).loc cc0_scratch0) ↦[slabFrom j]{fullShare} f : sProp 𝕄) ⊢ iprop(
      (((c : Thread nD τ).loc cc0_scratch0) ↦[blk j]{fullShare} f) ∗ ((c : Thread nD τ).loc cc0_scratch0) ↦[slabFrom (j + 1)]{fullShare} f) from by
    rw [slabFrom_step j hj]; exact (pointsTo_union (slab_disj j)).1) $$ Hf
  icases Hf' with ⟨Hb, Hf⟩
  iapply (Transfers.wp_dmaBatch (countersEmb (U := Pipeline.UD sig nD τ)) Variants.none (c : Thread nD τ) none
    (src := yM.slice (Rect.unit (s := S397312x128) ![16 * slot pos (256 * t + j), 0] S16x128.size hs) (fun _ => rfl))
    (dst := bM.slice (Rect.unit (s := S4096x128) ![16 * j, 0] S16x128.size hd) (fun _ => rfl))
    (via := .same) (sm := .dma cell) (q := tk (256 * 0 + j)) (fs := Y) (fd := f) (D := deliv c pos Y t) (Sd := blk j)
    (u := 0) () unit16 rfl (dst_set j hd).le hj (Nat.zero_le _) ?_) $$ [HB Hs Hb]
  · unfold deliv
    rw [src_set]
    refine sep_mono_left (Entails.of_eq (pointsTo_congr fun y hy => ?_))
    exact land_apply pos Y t j hj hv hd hs f y hy
  · isplitl [Hs]; · rw [src_set]; iexact Hs
    isplitl [Hb]; · iexact Hb
    iexact HB
  iintro HB
  iapply Hk
  isplitl [HB]; · iexact HB
  isplitl [Hkeep]; · iexact Hkeep
  iexact Hf

/-- A word of the slot table, read at its place. -/
theorem word_at {o : Fin 1 → ℕ} (n : ℕ) (ho : o = ![n]) (hn : n < 8320)
    (h : ∀ a, o a + S1.size a ≤ S8320.size a) (x : (Rect.unit (s := S8320) o S1.size h).shape.Idx) :
    (iM.access (Rect.unit (s := S8320) o S1.size h)).read (Elt F) pos x = pos (ix1 ⟨n, hn⟩) := by
  subst ho
  refine congrArg pos ?_
  have hx : (x 0).val < 1 := (x 0).isLt
  funext a; apply Fin.ext; fin_cases a
  show n + 1 * (x 0).val = n
  omega

/-- The gather at rest: its semaphore at zero, its buffer held at anything, its 256 shares of the experts' outputs. -/
def Idle : sProp 𝕄 :=
  iprop(semVal ((c : Thread nD τ), .dma cell) 0
    ∗ (∃ f : S4096x128.Idx → Elt F .f32, ((c : Thread nD τ).loc cc0_scratch0) ↦{fullShare} f)
    ∗ bigSep Finset.univ (share c Y))

/-- The slot table's half share. -/
def table : sProp 𝕄 := iprop(((c : Thread nD τ).loc main_arg0) ↦{fullShare.right} pos)

/-- Reading a word of the slot table. -/
theorem wp_word {o : Fin 1 → ℕ} (n : ℕ) (ho : o = ![n]) (hn : n < 8320) {h : ∀ a, o a + S1.size a ≤ S8320.size a}
    {hw : (iM.access (Rect.unit (s := S8320) o S1.size h)).Loads} {x : (Rect.unit (s := S8320) o S1.size h).shape.Idx}
    {α : Type} {k : Elt F .i32 → Prog (TpuEff nD τ sig (Elt F) Λ₀ .tc) α} {Q : α → sProp 𝕄} :
    table (F := F) c pos
      ⊢ iprop((table (F := F) c pos -∗ wp frame (wpE (defs₀ (F := F)) Variants.none (c : Thread nD τ) none) Set.univ (k (pos (ix1 ⟨n, hn⟩))) Q)
        -∗ wp frame (wpE (defs₀ (F := F)) Variants.none (c : Thread nD τ) none) Set.univ
          (smemLoadElt iM (Rect.unit (s := S8320) o S1.size h) hw x k) Q) := by
  unfold table
  iintro Ht Hk
  iapply (wp_smemLoadElt Variants.none (c : Thread nD τ) none Set.univ (m := iM) (r := Rect.unit (s := S8320) o S1.size h)
    (x := x) (S := Finset.univ) (q := fullShare.right) (f := pos) (Finset.subset_univ _)) $$ Ht
  iintro Ht
  rw [← word_at (F := F) pos n ho hn h x]
  iapply Hk
  iexact Ht

/-- While `j` of a block's copies have been started. -/
def starting (t j : ℕ) : sProp 𝕄 :=
  iprop(batch c pos Y t j 0 ∗ bigSep (Transfers.pending j) (share c Y) ∗ bigSep (Transfers.issued j) (kept c pos Y t)
    ∗ (∃ f : S4096x128.Idx → Elt F .f32, ((c : Thread nD τ).loc cc0_scratch0) ↦[slabFrom j]{fullShare} f)
    ∗ table (F := F) c pos)

/-- While `k` of a block's copies have been waited for. -/
def draining (t k : ℕ) : sProp 𝕄 :=
  iprop(batch c pos Y t 256 (k * unit16) ∗ bigSep Finset.univ (kept c pos Y t) ∗ table (F := F) c pos)

/-- The gather at rest, about to start a block's copies. -/
theorem starting_zero (t : ℕ) :
    iprop(Idle c Y ∗ table (F := F) c pos) ⊢ (|={Set.univ}=> starting c pos Y t 0 : sProp 𝕄) := by
  unfold Idle starting batch
  rw [slab_univ]
  iintro ⟨⟨Hc, ⟨%f, Hf⟩, Hs⟩, Ht⟩
  imod (Transfers.batch_alloc' (Lvl := ℕ) (countersEmb (U := Pipeline.UD sig nD τ)) (c : Thread nD τ) () unit16
    (deliv c pos Y t) (sm := .dma cell) (E := Set.univ)) $$ Hc with HB
  imodintro
  isplitl [HB]; · iexact HB
  isplitl [Hs]; · rw [← Transfers.bigSep_pending_zero]; iexact Hs
  isplitr; · rw [Transfers.issued_zero, bigSep_empty]; iempintro
  isplitl [Hf]; · iexists f; iexact Hf
  iexact Ht

/-- All 256 copies started, none waited for. -/
theorem starting_done (t : ℕ) : starting c pos Y t 256 ⊢ (draining c pos Y t 0 : sProp 𝕄) := by
  unfold draining starting
  rw [Nat.zero_mul]
  iintro ⟨HB, -, Hk, -, Ht⟩
  isplitl [HB]; · iexact HB
  isplitl [Hk]; · rw [Transfers.issued_all rfl]; iexact Hk
  iexact Ht

/-- One copy started: the bookkeeping goes one further. -/
theorem start_one (t j : ℕ) (hj : j < 256) (hv : slot pos (256 * t + j) < 24832)
    {od : Fin 2 → ℕ} {os : Fin 2 → ℕ} (hod : od = ![16 * j, 0]) (hos : os = ![16 * slot pos (256 * t + j), 0])
    {hd : ∀ a, od a + S16x128.size a ≤ S4096x128.size a} {hs : ∀ a, os a + S16x128.size a ≤ S397312x128.size a}
    {sm : DmaSem sig} (hsm : sm = cell)
    {w1 : (yM.slice (Rect.unit (s := S397312x128) os S16x128.size hs) (fun _ => rfl)).view.WordExact}
    {w2 : (bM.slice (Rect.unit (s := S4096x128) od S16x128.size hd) (fun _ => rfl)).view.WordExact}
    {w3 : DmaTarget.Typed (nD := nD) (τ := τ) (p := .tc) .hbm (.dma sm) (.here (bM.slice (Rect.unit (s := S4096x128) od S16x128.size hd) (fun _ => rfl)))}
    {α : Type} {k : PUnit → Prog (TpuEff nD τ sig (Elt F) Λ₀ .tc) α} {Q : α → sProp 𝕄} :
    starting c pos Y t j
      ⊢ iprop((starting c pos Y t (j + 1)
          -∗ wp frame (wpE (defs₀ (F := F)) Variants.none (c : Thread nD τ) none) Set.univ (k ⟨⟩) Q)
        -∗ wp frame (wpE (defs₀ (F := F)) Variants.none (c : Thread nD τ) none) Set.univ
          (.op (.enqueueDma (yM.slice (Rect.unit (s := S397312x128) os S16x128.size hs) (fun _ => rfl))
            (.here (bM.slice (Rect.unit (s := S4096x128) od S16x128.size hd) (fun _ => rfl))) (.dma sm) w1 w2 w3) k) Q) := by
  unfold starting
  rw [Transfers.bigSep_pending_step _ j hj, issued_step _ j hj]
  iintro ⟨HB, ⟨Hs, Hp⟩, Hk, ⟨%f, Hf⟩, Ht⟩ HK
  iapply (issue c pos Y t j hj hv hod hos hsm (w1 := w1) (w2 := w2) (w3 := w3) f) $$ [HB Hs Hf]
  · isplitl [HB]; · iexact HB
    isplitl [Hs]; · iexact Hs
    iexact Hf
  iintro ⟨HB, Hkeep, Hf⟩
  iapply HK
  isplitl [HB]; · iexact HB
  isplitl [Hp]; · iexact Hp
  isplitl [Hkeep Hk]
  · isplitl [Hkeep]; · iexact Hkeep
    iexact Hk
  isplitl [Hf]; · iexists f; iexact Hf
  iexact Ht

/-- One copy waited for. -/
theorem wait_one (t k : ℕ) (hk : k < 256) {od : Fin 2 → ℕ} {os : Fin 2 → ℕ}
    {hd : ∀ a, od a + S16x128.size a ≤ S4096x128.size a} {hs : ∀ a, os a + S16x128.size a ≤ S397312x128.size a}
    {sm : DmaSem sig} (hsm : sm = cell)
    {w1 : (yM.slice (Rect.unit (s := S397312x128) os S16x128.size hs) (fun _ => rfl)).view.WordExact}
    {w2 : (bM.slice (Rect.unit (s := S4096x128) od S16x128.size hd) (fun _ => rfl)).view.WordExact}
    {α : Type} {K : PUnit → Prog (TpuEff nD τ sig (Elt F) Λ₀ .tc) α} {Q : α → sProp 𝕄} :
    iprop(draining c pos Y t k ∗ ∃ W, owes (c : Thread nD τ) 0 W)
      ⊢ iprop((iprop(draining c pos Y t (k + 1) ∗ ∃ W, owes (c : Thread nD τ) 0 W)
          -∗ wp frame (wpE (defs₀ (F := F)) Variants.none (c : Thread nD τ) none) Set.univ (K ⟨⟩) Q)
        -∗ wp frame (wpE (defs₀ (F := F)) Variants.none (c : Thread nD τ) none) Set.univ
          (.op (.waitDma2 sm (yM.slice (Rect.unit (s := S397312x128) os S16x128.size hs) (fun _ => rfl))
            (bM.slice (Rect.unit (s := S4096x128) od S16x128.size hd) (fun _ => rfl)) w1 w2) K) Q) := by
  subst hsm
  unfold draining batch
  iintro ⟨⟨HB, Hk, Ht⟩, ⟨%W, HO⟩⟩ HK
  iapply (Transfers.wp_waitBatchMul (countersEmb (U := Pipeline.UD sig nD τ)) Variants.none (c : Thread nD τ) none () (N := unit16) 1
    (show _ = 1 * unit16 by rw [Nat.one_mul]; rfl) (D := deliv c pos Y t) (j := 256) (u := k * unit16)
    (by rw [← Nat.add_mul, Nat.mul_comm]; exact Nat.mul_le_mul_left _ (by omega))) $$ [HB HO]
  · isplitl [HB]; · iexact HB
    iexact HO
  iintro ⟨HB, HO⟩
  iapply HK
  isplitr [HO]
  · isplitl [HB]; · rw [Nat.add_mul]; iexact HB
    isplitl [Hk]; · iexact Hk
    iexact Ht
  iexists _; iexact HO

/-- The buffer landed. -/
def Landed (t : ℕ) : sProp 𝕄 := iprop(((c : Thread nD τ).loc cc0_scratch0) ↦{fullShare} landed pos Y t)

/-- A strided load from the landed buffer reads a column group of the block. -/
theorem load_group {α : Type} {Q : α → sProp 𝕄} (t g : ℕ) (hg : g < 16)
    {inb : ∀ a, S256x128.size a = 0 ∨ (![g, 0] : Fin 2 → ℕ) a + (![16, 1] : Fin 2 → ℕ) a * (S256x128.size a - 1) < S4096x128.size a}
    {hl : bM.view.LoadsAt (⟨![g, 0], S256x128.size, ![16, 1], inb⟩ : LoadRect S4096x128)}
    {k : (S256x128.Idx → Elt F .f32) → Prog (TpuEff nD τ sig (Elt F) Λ₀ .tc) α} :
    Landed c pos Y t
      ⊢ iprop((Landed c pos Y t -∗
          wp frame (wpE (defs₀ (F := F)) Variants.none (c : Thread nD τ) none) Set.univ (k (gath pos Y t g)) Q)
        -∗ wp frame (wpE (defs₀ (F := F)) Variants.none (c : Thread nD τ) none) Set.univ
          (.op (.load bM (⟨![g, 0], S256x128.size, ![16, 1], inb⟩ : LoadRect S4096x128) hl) k) Q) := by
  unfold Landed
  iintro H Hk
  iapply (wp_load Variants.none (c : Thread nD τ) none Set.univ (m := bM)
    (r := (⟨![g, 0], S256x128.size, ![16, 1], inb⟩ : LoadRect S4096x128)) (S := Finset.univ) (q := fullShare) (f := landed pos Y t)
    (Finset.subset_univ _)) $$ H
  iintro H
  rw [show (bM.view.readAt (Elt F) (⟨![g, 0], S256x128.size, ![16, 1], inb⟩ : LoadRect S4096x128) (landed pos Y t)) = gath pos Y t g from
    funext fun x => landed_at pos Y t g hg ((⟨![g, 0], S256x128.size, ![16, 1], inb⟩ : LoadRect S4096x128).idx x) x rfl
      (by show 0 + 1 * (x 1).val = (x 1).val; omega)]
  iapply Hk
  iexact H

/-- All of a block's copies waited for: the buffer has landed, the semaphore is at zero again and the shares are whole. -/
theorem drained (t : ℕ) :
    draining c pos Y t 256
      ⊢ (|={Set.univ}=> iprop(semVal ((c : Thread nD τ), .dma cell) 0 ∗ Landed c pos Y t ∗ bigSep Finset.univ (share c Y)
          ∗ table (F := F) c pos) : sProp 𝕄) := by
  unfold draining batch
  rw [Nat.mul_comm]
  iintro ⟨HB, Hk, Ht⟩
  imod (Transfers.batch_collect' (countersEmb (U := Pipeline.UD sig nD τ)) (c : Thread nD τ) (sm := .dma cell) (ι := ()) unit16_pos
    (D := deliv c pos Y t)) $$ HB with ⟨HD, Hs⟩
  imodintro
  isplitl [Hs]; · iexact Hs
  ihave HD' := (show bigSep Finset.univ (deliv c pos Y t) ⊢ iprop(Landed c pos Y t
      ∗ bigSep Finset.univ fun r : Fin 256 => (((c : Thread nD τ).loc main_arg6) ↦[slotRows (slot pos (256 * t + r.val))]{tk (256 * 0 + r.val)} Y : sProp 𝕄)) from by
    unfold deliv
    rw [bigSep_sep']
    refine sep_mono_left (Entails.of_eq ?_)
    rw [← pointsTo_biUnion]
    · unfold Landed
      rw [blk_union]
    · intro r _ r' _ hne
      rw [Finset.disjoint_left]; intro y
      simp only [blk, Finset.mem_filter, Finset.mem_univ, _root_.true_and]
      intro h1 h2; exact hne (Fin.ext (by omega))) $$ HD
  icases HD' with ⟨HL, HT⟩
  isplitl [HL]; · iexact HL
  isplitl [HT Hk]
  · ihave H := (show iprop((bigSep Finset.univ fun r : Fin 256 => (((c : Thread nD τ).loc main_arg6) ↦[slotRows (slot pos (256 * t + r.val))]{tk (256 * 0 + r.val)} Y : sProp 𝕄))
        ∗ bigSep Finset.univ (kept c pos Y t)) ⊢ bigSep Finset.univ (share c Y) from by
      rw [← bigSep_sep']
      refine bigSep_mono fun r _ => ?_
      unfold kept share
      exact (pointsTo_split_subset (Finset.subset_univ _)).2) $$ [HT Hk]
    · isplitl [HT]; · iexact HT
      iexact Hk
    iexact H
  iexact Ht

/-- The landed buffer put back at rest. -/
theorem rest (t : ℕ) :
    iprop(semVal ((c : Thread nD τ), .dma cell) 0 ∗ Landed c pos Y t ∗ bigSep Finset.univ (share c Y)) ⊢ (Idle c Y : sProp 𝕄) := by
  unfold Idle Landed
  iintro ⟨Hc, HL, Hs⟩
  isplitl [Hc]; · iexact Hc
  isplitl [HL]; · iexists _; iexact HL
  iexact Hs

/-- A word the loops read names the slot of its row. -/
theorem word_slot (n : ℕ) (hn : n < 8320) : (pos (ix1 ⟨n, hn⟩)).toNat = slot pos n := by
  unfold slot; congr 3; exact Fin.ext (Nat.mod_eq_of_lt hn).symm

end Cert.Proof.Comb.Fst
end
-- ==== Proof.CombSnd.lean ====
/- The second gather of the combine kernel: 256 row copies into its buffer, all on one semaphore, drained together. -/
module

public import proofs.«01_k».proof.Proof.CombCopies

@[expose] public section

noncomputable section

namespace Cert.Proof.Comb.Snd

open Cert.Kernel18Ideal Cert.Kernel18Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's algebra: the pipeline's beside the counters of the copies. -/
local notation "𝕄" => MT nD τ sig Unit (Elt F) ℕ (Pipeline.UD sig nD τ) ℕ

abbrev bM : Memref sig .tc .vmem S4096x128 .f32 := Memref.whole cc0_scratch1
abbrev iM : Memref sig .tc .smem S8320 .i32 := Memref.whole main_arg1

theorem dst_set (j : ℕ) (h : ∀ a, (![16 * j, 0] : Fin 2 → ℕ) a + S16x128.size a ≤ S4096x128.size a) :
    (bM.slice (Rect.unit (s := S4096x128) ![16 * j, 0] S16x128.size h) (fun _ => rfl)).view.set = blk j := by
  refine (View.set_slice_whole cc0_scratch1 (Rect.unit (s := S4096x128) ![16 * j, 0] S16x128.size h)).trans ?_
  ext y
  rw [Rect.mem_set_unit]
  simp only [blk, Finset.mem_filter, Finset.mem_univ, true_and]
  have h1 : (y 1).val < 128 := (y 1).isLt
  constructor
  · intro ha
    have a' : 16 * j ≤ (y 0).val := (ha 0).1
    have b' : (y 0).val < 16 * j + 16 := (ha 0).2
    omega
  · intro e a
    match a with
    | ⟨0, _⟩ => exact ⟨show 16 * j ≤ (y 0).val by omega, show (y 0).val < 16 * j + 16 by omega⟩
    | ⟨1, _⟩ => exact ⟨Nat.zero_le _, show (y 1).val < 0 + 128 by omega⟩

/-- What one row copy leaves on its 16 rows of the buffer is the slot's rows. -/
theorem land_apply (pos : S8320.Idx → BitVec 32) (Y : S397312x128.Idx → Elt F .f32) (t j : ℕ) (hj : j < 256)
    (hv : slot pos (256 * t + j) < 24832)
    (h : ∀ a, (![16 * j, 0] : Fin 2 → ℕ) a + S16x128.size a ≤ S4096x128.size a)
    (h' : ∀ a, (![16 * slot pos (256 * t + j), 0] : Fin 2 → ℕ) a + S16x128.size a ≤ S397312x128.size a)
    (f : S4096x128.Idx → Elt F .f32) (y : S4096x128.Idx) (hy : y ∈ blk j) :
    (bM.slice (Rect.unit (s := S4096x128) ![16 * j, 0] S16x128.size h) (fun _ => rfl)).view.write (Elt F) f
      ((yM.slice (Rect.unit (s := S397312x128) ![16 * slot pos (256 * t + j), 0] S16x128.size h') (fun _ => rfl)).view.read (Elt F) Y)
      Finset.univ y = landed pos Y t y := by
  have e : (y 0).val / 16 = j := by simpa [blk] using hy
  have hy1 : (y 1).val < 128 := (y 1).isLt
  have hy0 : (y 0).val < 4096 := (y 0).isLt
  obtain ⟨x, hx⟩ : ∃ x : S16x128.Idx, (bM.slice (Rect.unit (s := S4096x128) ![16 * j, 0] S16x128.size h) (fun _ => rfl)).view.emb x = y := by
    refine ⟨ix2 ⟨(y 0).val % 16, by omega⟩ (y 1), ?_⟩
    funext a; apply Fin.ext; fin_cases a
    · show 16 * j + 1 * ((y 0).val % 16) = (y 0).val; omega
    · show 0 + 1 * (y 1).val = (y 1).val; omega
  rw [← hx, View.write_emb_of_mem _ _ (Finset.mem_univ _)]
  have e0 : 16 * j + 1 * (x 0).val = (y 0).val := by rw [← hx]; rfl
  have e1 : 0 + 1 * (x 1).val = (y 1).val := by rw [← hx]; rfl
  have hx0 : (x 0).val < 16 := (x 0).isLt
  show Y _ = Y _
  rw [hx]
  congr 1
  funext a; apply Fin.ext; fin_cases a
  · show 16 * slot pos (256 * t + j) + 1 * (x 0).val = (16 * slot pos (256 * t + (y 0).val / 16) + (y 0).val % 16) % 397312
    rw [e, Nat.mod_eq_of_lt (by omega)]; omega
  · exact e1

/-- The gather's semaphore. -/
def cell : DmaSem sig := 9

theorem cell_eq (h : ∀ a, (![1] : Fin 1 → ℕ) a + S1.size a ≤ S2.size a) (hs : S1.Squeezes S_) :
    ((cc0_scratch2.slice (Rect.unit (s := S2) ![1] S1.size h)).squeeze S_ hs).sem = cell := by
  decide +kernel +revert

/-- The units one row copy credits. -/
def unit16 : ℕ := (cc0_scratch1 : Ref sig .tc).dmaCredit S16x128 .f32

theorem unit16_pos : 0 < unit16 := by decide

variable (c : Dev nD) (pos : S8320.Idx → BitVec 32) (Y : S397312x128.Idx → Elt F .f32)

/-- What copy `r` of block `t` hands back: the slot's rows landed, and the rows it read. -/
def deliv (t : ℕ) (r : Fin 256) : sProp 𝕄 :=
  iprop((((c : Thread nD τ).loc cc0_scratch1) ↦[blk r.val]{fullShare} landed pos Y t)
    ∗ (((c : Thread nD τ).loc main_arg6) ↦[slotRows (slot pos (256 * t + r.val))]{tk (256 * 1 + r.val)} Y))

instance deliv_storable (t : ℕ) (r : Fin 256) : Storable (upEmb : UEmb _ 𝕄) (deliv c pos Y t r) := by
  unfold deliv; infer_instance

/-- The rows copy `r` of block `t` does not read, kept while it flies. -/
def kept (t : ℕ) (r : Fin 256) : sProp 𝕄 :=
  iprop(((c : Thread nD τ).loc main_arg6) ↦[Finset.univ \ slotRows (slot pos (256 * t + r.val))]{tk (256 * 1 + r.val)} Y)

/-- The share copy `r` will read under. -/
def share (r : Fin 256) : sProp 𝕄 := iprop(((c : Thread nD τ).loc main_arg6) ↦{tk (256 * 1 + r.val)} Y)

/-- Block `t`'s copies: `j` of 256 started, `u` units waited for. -/
def batch (t j u : ℕ) : sProp 𝕄 :=
  Transfers.Batch (countersEmb (U := Pipeline.UD sig nD τ)) (c : Thread nD τ) (.dma cell) () unit16 (deliv c pos Y t) j u

/-- Starting one copy: its slot's share and 16 rows of the buffer go into the batch. -/
theorem issue (t j : ℕ) (hj : j < 256) (hv : slot pos (256 * t + j) < 24832)
    {od : Fin 2 → ℕ} {os : Fin 2 → ℕ} (hod : od = ![16 * j, 0]) (hos : os = ![16 * slot pos (256 * t + j), 0])
    {hd : ∀ a, od a + S16x128.size a ≤ S4096x128.size a} {hs : ∀ a, os a + S16x128.size a ≤ S397312x128.size a}
    {sm : DmaSem sig} (hsm : sm = cell)
    {w1 : (yM.slice (Rect.unit (s := S397312x128) os S16x128.size hs) (fun _ => rfl)).view.WordExact}
    {w2 : (bM.slice (Rect.unit (s := S4096x128) od S16x128.size hd) (fun _ => rfl)).view.WordExact}
    {w3 : DmaTarget.Typed (nD := nD) (τ := τ) (p := .tc) .hbm (.dma sm) (.here (bM.slice (Rect.unit (s := S4096x128) od S16x128.size hd) (fun _ => rfl)))}
    {α : Type} {k : PUnit → Prog (TpuEff nD τ sig (Elt F) Λ₀ .tc) α} {Q : α → sProp 𝕄} (f : S4096x128.Idx → Elt F .f32) :
    iprop(batch c pos Y t j 0 ∗ share c Y ⟨j, hj⟩ ∗ (((c : Thread nD τ).loc cc0_scratch1) ↦[slabFrom j]{fullShare} f))
      ⊢ iprop((iprop(batch c pos Y t (j + 1) 0 ∗ kept c pos Y t ⟨j, hj⟩
            ∗ (((c : Thread nD τ).loc cc0_scratch1) ↦[slabFrom (j + 1)]{fullShare} f))
          -∗ wp frame (wpE (defs₀ (F := F)) Variants.none (c : Thread nD τ) none) Set.univ (k ⟨⟩) Q)
        -∗ wp frame (wpE (defs₀ (F := F)) Variants.none (c : Thread nD τ) none) Set.univ
          (.op (.enqueueDma (yM.slice (Rect.unit (s := S397312x128) os S16x128.size hs) (fun _ => rfl))
            (.here (bM.slice (Rect.unit (s := S4096x128) od S16x128.size hd) (fun _ => rfl))) (.dma sm) w1 w2 w3) k) Q) := by
  subst hod hos hsm
  unfold batch
  iintro ⟨HB, Hs, Hf⟩ Hk
  ihave Hs' := (show share c Y ⟨j, hj⟩ ⊢ iprop(
      (((c : Thread nD τ).loc main_arg6) ↦[slotRows (slot pos (256 * t + j))]{tk (256 * 1 + j)} Y) ∗ kept c pos Y t ⟨j, hj⟩) from by
    unfold share kept
    exact (pointsTo_split_subset (Finset.subset_univ _)).1) $$ Hs
  icases Hs' with ⟨Hs, Hkeep⟩
  ihave Hf' := (show (((c : Thread nD τ).loc cc0_scratch1) ↦[slabFrom j]{fullShare} f : sProp 𝕄) ⊢ iprop(
      (((c : Thread nD τ).loc cc0_scratch1) ↦[blk j]{fullShare} f) ∗ ((c : Thread nD τ).loc cc0_scratch1) ↦[slabFrom (j + 1)]{fullShare} f) from by
    rw [slabFrom_step j hj]; exact (pointsTo_union (slab_disj j)).1) $$ Hf
  icases Hf' with ⟨Hb, Hf⟩
  iapply (Transfers.wp_dmaBatch (countersEmb (U := Pipeline.UD sig nD τ)) Variants.none (c : Thread nD τ) none
    (src := yM.slice (Rect.unit (s := S397312x128) ![16 * slot pos (256 * t + j), 0] S16x128.size hs) (fun _ => rfl))
    (dst := bM.slice (Rect.unit (s := S4096x128) ![16 * j, 0] S16x128.size hd) (fun _ => rfl))
    (via := .same) (sm := .dma cell) (q := tk (256 * 1 + j)) (fs := Y) (fd := f) (D := deliv c pos Y t) (Sd := blk j)
    (u := 0) () unit16 rfl (dst_set j hd).le hj (Nat.zero_le _) ?_) $$ [HB Hs Hb]
  · unfold deliv
    rw [src_set]
    refine sep_mono_left (Entails.of_eq (pointsTo_congr fun y hy => ?_))
    exact land_apply pos Y t j hj hv hd hs f y hy
  · isplitl [Hs]; · rw [src_set]; iexact Hs
    isplitl [Hb]; · iexact Hb
    iexact HB
  iintro HB
  iapply Hk
  isplitl [HB]; · iexact HB
  isplitl [Hkeep]; · iexact Hkeep
  iexact Hf

/-- A word of the slot table, read at its place. -/
theorem word_at {o : Fin 1 → ℕ} (n : ℕ) (ho : o = ![n]) (hn : n < 8320)
    (h : ∀ a, o a + S1.size a ≤ S8320.size a) (x : (Rect.unit (s := S8320) o S1.size h).shape.Idx) :
    (iM.access (Rect.unit (s := S8320) o S1.size h)).read (Elt F) pos x = pos (ix1 ⟨n, hn⟩) := by
  subst ho
  refine congrArg pos ?_
  have hx : (x 0).val < 1 := (x 0).isLt
  funext a; apply Fin.ext; fin_cases a
  show n + 1 * (x 0).val = n
  omega

/-- The gather at rest: its semaphore at zero, its buffer held at anything, its 256 shares of the experts' outputs. -/
def Idle : sProp 𝕄 :=
  iprop(semVal ((c : Thread nD τ), .dma cell) 0
    ∗ (∃ f : S4096x128.Idx → Elt F .f32, ((c : Thread nD τ).loc cc0_scratch1) ↦{fullShare} f)
    ∗ bigSep Finset.univ (share c Y))

/-- The slot table's half share. -/
def table : sProp 𝕄 := iprop(((c : Thread nD τ).loc main_arg1) ↦{fullShare.right} pos)

/-- Reading a word of the slot table. -/
theorem wp_word {o : Fin 1 → ℕ} (n : ℕ) (ho : o = ![n]) (hn : n < 8320) {h : ∀ a, o a + S1.size a ≤ S8320.size a}
    {hw : (iM.access (Rect.unit (s := S8320) o S1.size h)).Loads} {x : (Rect.unit (s := S8320) o S1.size h).shape.Idx}
    {α : Type} {k : Elt F .i32 → Prog (TpuEff nD τ sig (Elt F) Λ₀ .tc) α} {Q : α → sProp 𝕄} :
    table (F := F) c pos
      ⊢ iprop((table (F := F) c pos -∗ wp frame (wpE (defs₀ (F := F)) Variants.none (c : Thread nD τ) none) Set.univ (k (pos (ix1 ⟨n, hn⟩))) Q)
        -∗ wp frame (wpE (defs₀ (F := F)) Variants.none (c : Thread nD τ) none) Set.univ
          (smemLoadElt iM (Rect.unit (s := S8320) o S1.size h) hw x k) Q) := by
  unfold table
  iintro Ht Hk
  iapply (wp_smemLoadElt Variants.none (c : Thread nD τ) none Set.univ (m := iM) (r := Rect.unit (s := S8320) o S1.size h)
    (x := x) (S := Finset.univ) (q := fullShare.right) (f := pos) (Finset.subset_univ _)) $$ Ht
  iintro Ht
  rw [← word_at (F := F) pos n ho hn h x]
  iapply Hk
  iexact Ht

/-- While `j` of a block's copies have been started. -/
def starting (t j : ℕ) : sProp 𝕄 :=
  iprop(batch c pos Y t j 0 ∗ bigSep (Transfers.pending j) (share c Y) ∗ bigSep (Transfers.issued j) (kept c pos Y t)
    ∗ (∃ f : S4096x128.Idx → Elt F .f32, ((c : Thread nD τ).loc cc0_scratch1) ↦[slabFrom j]{fullShare} f)
    ∗ table (F := F) c pos)

/-- While `k` of a block's copies have been waited for. -/
def draining (t k : ℕ) : sProp 𝕄 :=
  iprop(batch c pos Y t 256 (k * unit16) ∗ bigSep Finset.univ (kept c pos Y t) ∗ table (F := F) c pos)

/-- The gather at rest, about to start a block's copies. -/
theorem starting_zero (t : ℕ) :
    iprop(Idle c Y ∗ table (F := F) c pos) ⊢ (|={Set.univ}=> starting c pos Y t 0 : sProp 𝕄) := by
  unfold Idle starting batch
  rw [slab_univ]
  iintro ⟨⟨Hc, ⟨%f, Hf⟩, Hs⟩, Ht⟩
  imod (Transfers.batch_alloc' (Lvl := ℕ) (countersEmb (U := Pipeline.UD sig nD τ)) (c : Thread nD τ) () unit16
    (deliv c pos Y t) (sm := .dma cell) (E := Set.univ)) $$ Hc with HB
  imodintro
  isplitl [HB]; · iexact HB
  isplitl [Hs]; · rw [← Transfers.bigSep_pending_zero]; iexact Hs
  isplitr; · rw [Transfers.issued_zero, bigSep_empty]; iempintro
  isplitl [Hf]; · iexists f; iexact Hf
  iexact Ht

/-- All 256 copies started, none waited for. -/
theorem starting_done (t : ℕ) : starting c pos Y t 256 ⊢ (draining c pos Y t 0 : sProp 𝕄) := by
  unfold draining starting
  rw [Nat.zero_mul]
  iintro ⟨HB, -, Hk, -, Ht⟩
  isplitl [HB]; · iexact HB
  isplitl [Hk]; · rw [Transfers.issued_all rfl]; iexact Hk
  iexact Ht

/-- One copy started: the bookkeeping goes one further. -/
theorem start_one (t j : ℕ) (hj : j < 256) (hv : slot pos (256 * t + j) < 24832)
    {od : Fin 2 → ℕ} {os : Fin 2 → ℕ} (hod : od = ![16 * j, 0]) (hos : os = ![16 * slot pos (256 * t + j), 0])
    {hd : ∀ a, od a + S16x128.size a ≤ S4096x128.size a} {hs : ∀ a, os a + S16x128.size a ≤ S397312x128.size a}
    {sm : DmaSem sig} (hsm : sm = cell)
    {w1 : (yM.slice (Rect.unit (s := S397312x128) os S16x128.size hs) (fun _ => rfl)).view.WordExact}
    {w2 : (bM.slice (Rect.unit (s := S4096x128) od S16x128.size hd) (fun _ => rfl)).view.WordExact}
    {w3 : DmaTarget.Typed (nD := nD) (τ := τ) (p := .tc) .hbm (.dma sm) (.here (bM.slice (Rect.unit (s := S4096x128) od S16x128.size hd) (fun _ => rfl)))}
    {α : Type} {k : PUnit → Prog (TpuEff nD τ sig (Elt F) Λ₀ .tc) α} {Q : α → sProp 𝕄} :
    starting c pos Y t j
      ⊢ iprop((starting c pos Y t (j + 1)
          -∗ wp frame (wpE (defs₀ (F := F)) Variants.none (c : Thread nD τ) none) Set.univ (k ⟨⟩) Q)
        -∗ wp frame (wpE (defs₀ (F := F)) Variants.none (c : Thread nD τ) none) Set.univ
          (.op (.enqueueDma (yM.slice (Rect.unit (s := S397312x128) os S16x128.size hs) (fun _ => rfl))
            (.here (bM.slice (Rect.unit (s := S4096x128) od S16x128.size hd) (fun _ => rfl))) (.dma sm) w1 w2 w3) k) Q) := by
  unfold starting
  rw [Transfers.bigSep_pending_step _ j hj, issued_step _ j hj]
  iintro ⟨HB, ⟨Hs, Hp⟩, Hk, ⟨%f, Hf⟩, Ht⟩ HK
  iapply (issue c pos Y t j hj hv hod hos hsm (w1 := w1) (w2 := w2) (w3 := w3) f) $$ [HB Hs Hf]
  · isplitl [HB]; · iexact HB
    isplitl [Hs]; · iexact Hs
    iexact Hf
  iintro ⟨HB, Hkeep, Hf⟩
  iapply HK
  isplitl [HB]; · iexact HB
  isplitl [Hp]; · iexact Hp
  isplitl [Hkeep Hk]
  · isplitl [Hkeep]; · iexact Hkeep
    iexact Hk
  isplitl [Hf]; · iexists f; iexact Hf
  iexact Ht

/-- One copy waited for. -/
theorem wait_one (t k : ℕ) (hk : k < 256) {od : Fin 2 → ℕ} {os : Fin 2 → ℕ}
    {hd : ∀ a, od a + S16x128.size a ≤ S4096x128.size a} {hs : ∀ a, os a + S16x128.size a ≤ S397312x128.size a}
    {sm : DmaSem sig} (hsm : sm = cell)
    {w1 : (yM.slice (Rect.unit (s := S397312x128) os S16x128.size hs) (fun _ => rfl)).view.WordExact}
    {w2 : (bM.slice (Rect.unit (s := S4096x128) od S16x128.size hd) (fun _ => rfl)).view.WordExact}
    {α : Type} {K : PUnit → Prog (TpuEff nD τ sig (Elt F) Λ₀ .tc) α} {Q : α → sProp 𝕄} :
    iprop(draining c pos Y t k ∗ ∃ W, owes (c : Thread nD τ) 0 W)
      ⊢ iprop((iprop(draining c pos Y t (k + 1) ∗ ∃ W, owes (c : Thread nD τ) 0 W)
          -∗ wp frame (wpE (defs₀ (F := F)) Variants.none (c : Thread nD τ) none) Set.univ (K ⟨⟩) Q)
        -∗ wp frame (wpE (defs₀ (F := F)) Variants.none (c : Thread nD τ) none) Set.univ
          (.op (.waitDma2 sm (yM.slice (Rect.unit (s := S397312x128) os S16x128.size hs) (fun _ => rfl))
            (bM.slice (Rect.unit (s := S4096x128) od S16x128.size hd) (fun _ => rfl)) w1 w2) K) Q) := by
  subst hsm
  unfold draining batch
  iintro ⟨⟨HB, Hk, Ht⟩, ⟨%W, HO⟩⟩ HK
  iapply (Transfers.wp_waitBatchMul (countersEmb (U := Pipeline.UD sig nD τ)) Variants.none (c : Thread nD τ) none () (N := unit16) 1
    (show _ = 1 * unit16 by rw [Nat.one_mul]; rfl) (D := deliv c pos Y t) (j := 256) (u := k * unit16)
    (by rw [← Nat.add_mul, Nat.mul_comm]; exact Nat.mul_le_mul_left _ (by omega))) $$ [HB HO]
  · isplitl [HB]; · iexact HB
    iexact HO
  iintro ⟨HB, HO⟩
  iapply HK
  isplitr [HO]
  · isplitl [HB]; · rw [Nat.add_mul]; iexact HB
    isplitl [Hk]; · iexact Hk
    iexact Ht
  iexists _; iexact HO

/-- The buffer landed. -/
def Landed (t : ℕ) : sProp 𝕄 := iprop(((c : Thread nD τ).loc cc0_scratch1) ↦{fullShare} landed pos Y t)

/-- A strided load from the landed buffer reads a column group of the block. -/
theorem load_group {α : Type} {Q : α → sProp 𝕄} (t g : ℕ) (hg : g < 16)
    {inb : ∀ a, S256x128.size a = 0 ∨ (![g, 0] : Fin 2 → ℕ) a + (![16, 1] : Fin 2 → ℕ) a * (S256x128.size a - 1) < S4096x128.size a}
    {hl : bM.view.LoadsAt (⟨![g, 0], S256x128.size, ![16, 1], inb⟩ : LoadRect S4096x128)}
    {k : (S256x128.Idx → Elt F .f32) → Prog (TpuEff nD τ sig (Elt F) Λ₀ .tc) α} :
    Landed c pos Y t
      ⊢ iprop((Landed c pos Y t -∗
          wp frame (wpE (defs₀ (F := F)) Variants.none (c : Thread nD τ) none) Set.univ (k (gath pos Y t g)) Q)
        -∗ wp frame (wpE (defs₀ (F := F)) Variants.none (c : Thread nD τ) none) Set.univ
          (.op (.load bM (⟨![g, 0], S256x128.size, ![16, 1], inb⟩ : LoadRect S4096x128) hl) k) Q) := by
  unfold Landed
  iintro H Hk
  iapply (wp_load Variants.none (c : Thread nD τ) none Set.univ (m := bM)
    (r := (⟨![g, 0], S256x128.size, ![16, 1], inb⟩ : LoadRect S4096x128)) (S := Finset.univ) (q := fullShare) (f := landed pos Y t)
    (Finset.subset_univ _)) $$ H
  iintro H
  rw [show (bM.view.readAt (Elt F) (⟨![g, 0], S256x128.size, ![16, 1], inb⟩ : LoadRect S4096x128) (landed pos Y t)) = gath pos Y t g from
    funext fun x => landed_at pos Y t g hg ((⟨![g, 0], S256x128.size, ![16, 1], inb⟩ : LoadRect S4096x128).idx x) x rfl
      (by show 0 + 1 * (x 1).val = (x 1).val; omega)]
  iapply Hk
  iexact H

/-- All of a block's copies waited for: the buffer has landed, the semaphore is at zero again and the shares are whole. -/
theorem drained (t : ℕ) :
    draining c pos Y t 256
      ⊢ (|={Set.univ}=> iprop(semVal ((c : Thread nD τ), .dma cell) 0 ∗ Landed c pos Y t ∗ bigSep Finset.univ (share c Y)
          ∗ table (F := F) c pos) : sProp 𝕄) := by
  unfold draining batch
  rw [Nat.mul_comm]
  iintro ⟨HB, Hk, Ht⟩
  imod (Transfers.batch_collect' (countersEmb (U := Pipeline.UD sig nD τ)) (c : Thread nD τ) (sm := .dma cell) (ι := ()) unit16_pos
    (D := deliv c pos Y t)) $$ HB with ⟨HD, Hs⟩
  imodintro
  isplitl [Hs]; · iexact Hs
  ihave HD' := (show bigSep Finset.univ (deliv c pos Y t) ⊢ iprop(Landed c pos Y t
      ∗ bigSep Finset.univ fun r : Fin 256 => (((c : Thread nD τ).loc main_arg6) ↦[slotRows (slot pos (256 * t + r.val))]{tk (256 * 1 + r.val)} Y : sProp 𝕄)) from by
    unfold deliv
    rw [bigSep_sep']
    refine sep_mono_left (Entails.of_eq ?_)
    rw [← pointsTo_biUnion]
    · unfold Landed
      rw [blk_union]
    · intro r _ r' _ hne
      rw [Finset.disjoint_left]; intro y
      simp only [blk, Finset.mem_filter, Finset.mem_univ, _root_.true_and]
      intro h1 h2; exact hne (Fin.ext (by omega))) $$ HD
  icases HD' with ⟨HL, HT⟩
  isplitl [HL]; · iexact HL
  isplitl [HT Hk]
  · ihave H := (show iprop((bigSep Finset.univ fun r : Fin 256 => (((c : Thread nD τ).loc main_arg6) ↦[slotRows (slot pos (256 * t + r.val))]{tk (256 * 1 + r.val)} Y : sProp 𝕄))
        ∗ bigSep Finset.univ (kept c pos Y t)) ⊢ bigSep Finset.univ (share c Y) from by
      rw [← bigSep_sep']
      refine bigSep_mono fun r _ => ?_
      unfold kept share
      exact (pointsTo_split_subset (Finset.subset_univ _)).2) $$ [HT Hk]
    · isplitl [HT]; · iexact HT
      iexact Hk
    iexact H
  iexact Ht

/-- The landed buffer put back at rest. -/
theorem rest (t : ℕ) :
    iprop(semVal ((c : Thread nD τ), .dma cell) 0 ∗ Landed c pos Y t ∗ bigSep Finset.univ (share c Y)) ⊢ (Idle c Y : sProp 𝕄) := by
  unfold Idle Landed
  iintro ⟨Hc, HL, Hs⟩
  isplitl [Hc]; · iexact Hc
  isplitl [HL]; · iexists _; iexact HL
  iexact Hs

/-- A word the loops read names the slot of its row. -/
theorem word_slot (n : ℕ) (hn : n < 8320) : (pos (ix1 ⟨n, hn⟩)).toNat = slot pos n := by
  unfold slot; congr 3; exact Fin.ext (Nat.mod_eq_of_lt hn).symm

end Cert.Proof.Comb.Snd
end
-- ==== Proof.CombBody.lean ====
/- One block of the combine kernel: both gathers started and drained, the rows read column group by column group, and the block stored. -/
module

public import proofs.«01_k».proof.Proof.CombFst
public import proofs.«01_k».proof.Proof.CombSnd

@[expose] public section

noncomputable section

namespace Cert.Proof.Comb

open Cert.Kernel18Ideal Cert.Kernel18Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's algebra: the pipeline's beside the counters of the copies. -/
local notation "𝕄" => MT nD τ sig Unit (Elt F) ℕ (Pipeline.UD sig nD τ) ℕ

variable (c : Dev nD) (p1 p2 : S8320.Idx → BitVec 32) (Y : S397312x128.Idx → Elt F .f32)

/-- Column group `g` of a block of the token-major residual stream: row `r` of it is row `16 r + g` of the block. -/
def cols (B : S4096x128.Idx → Elt F .f32) (g : ℕ) : S256x128.Idx → Elt F .f32 :=
  fun x => B (ix2 ⟨(16 * (x 0).val + g) % 4096, Nat.mod_lt _ (by omega)⟩ (x 1))

/-- Column `k` of a block of the routing's rows. -/
def wcol (R : S256x128.Idx → Elt F .f32) (k : Fin 128) : S256x1.Idx → Elt F .f32 := fun x => R (ix2 (x 0) k)

omit [FloatOps F] in
/-- A program that returns and then goes on is what it goes on to. -/
theorem ret_then {E : Type → Type*} {α β : Type} (a : α) (k : α → Prog E β) : (Prog.ret a).bind k = k a := rfl

/-- A strided load from a block reads a column group. -/
theorem load_cols {α : Type} {Q : α → sProp 𝕄} (g : ℕ) (hg : g < 16) {m : Memref sig .tc .vmem S4096x128 .f32} {q : PosShare TreeShare}
    {B : S4096x128.Idx → Elt F .f32}
    {inb : ∀ a, S256x128.size a = 0 ∨ (![g, 0] : Fin 2 → ℕ) a + (![16, 1] : Fin 2 → ℕ) a * (S256x128.size a - 1) < S4096x128.size a}
    {hl : m.view.LoadsAt (⟨![g, 0], S256x128.size, ![16, 1], inb⟩ : LoadRect S4096x128)}
    {k : (S256x128.Idx → Elt F .f32) → Prog (TpuEff nD τ sig (Elt F) Λ₀ .tc) α} :
    owns (c : Thread nD τ) m q B
      ⊢ iprop((owns (c : Thread nD τ) m q B -∗ wp frame (wpE (defs₀ (F := F)) Variants.none (c : Thread nD τ) none) Set.univ (k (cols B g)) Q)
        -∗ wp frame (wpE (defs₀ (F := F)) Variants.none (c : Thread nD τ) none) Set.univ (.op (.load m (⟨![g, 0], S256x128.size, ![16, 1], inb⟩ : LoadRect S4096x128) hl) k) Q) := by
  have e : (fun x : S256x128.Idx => B ((⟨![g, 0], S256x128.size, ![16, 1], inb⟩ : LoadRect S4096x128).idx x)) = cols B g :=
    funext fun x => congrArg B (funext fun a => Fin.ext (by
      have hx : (x 0).val < 256 := (x 0).isLt
      fin_cases a
      · show g + 16 * (x 0).val = (16 * (x 0).val + g) % 4096; omega
      · show 0 + 1 * (x 1).val = (x 1).val; omega))
  rw [← e]
  exact load_held (F := F) c (m := m) (r := ⟨![g, 0], S256x128.size, ![16, 1], inb⟩) (hl := hl) (k := k) (q := q) (V := B)

/-- A load of one column of the routing's block. -/
theorem load_wcol {α : Type} {Q : α → sProp 𝕄} (n : Fin 128) {m : Memref sig .tc .vmem S256x128 .f32} {q : PosShare TreeShare}
    {R : S256x128.Idx → Elt F .f32} {o : Fin 2 → ℕ} (ho : o = ![0, n.val])
    {inb : ∀ a, o a + S256x1.size a ≤ S256x128.size a}
    {hl : m.view.LoadsAt (Rect.unit (s := S256x128) o S256x1.size inb).toLoadRect}
    {k : (S256x1.Idx → Elt F .f32) → Prog (TpuEff nD τ sig (Elt F) Λ₀ .tc) α} :
    owns (c : Thread nD τ) m q R
      ⊢ iprop((owns (c : Thread nD τ) m q R -∗ wp frame (wpE (defs₀ (F := F)) Variants.none (c : Thread nD τ) none) Set.univ (k (wcol R n)) Q)
        -∗ wp frame (wpE (defs₀ (F := F)) Variants.none (c : Thread nD τ) none) Set.univ (.op (.load m (Rect.unit (s := S256x128) o S256x1.size inb).toLoadRect hl) k) Q) := by
  subst ho
  have e : (fun x : S256x1.Idx => R ((Rect.unit (s := S256x128) ![0, n.val] S256x1.size inb).toLoadRect.idx x)) = wcol R n :=
    funext fun x => congrArg R (funext fun a => Fin.ext (by
      have hx : (x 1).val < 1 := (x 1).isLt
      fin_cases a
      · show 0 + 1 * (x 0).val = (x 0).val; omega
      · show n.val + 1 * (x 1).val = n.val; omega))
  rw [← e]
  exact load_held (F := F) c (m := m) (r := (Rect.unit (s := S256x128) ![0, n.val] S256x1.size inb).toLoadRect) (hl := hl) (k := k) (q := q) (V := R)

/-- The block of the residual stream, row by row. -/
def stream (B : S4096x128.Idx → Elt F .f32) : S256x2048.Idx → Elt F .f32 :=
  concatenate S256x2048 1 [⟨S256x128, cols B 0⟩, ⟨S256x128, cols B 1⟩, ⟨S256x128, cols B 2⟩, ⟨S256x128, cols B 3⟩, ⟨S256x128, cols B 4⟩, ⟨S256x128, cols B 5⟩, ⟨S256x128, cols B 6⟩, ⟨S256x128, cols B 7⟩, ⟨S256x128, cols B 8⟩, ⟨S256x128, cols B 9⟩, ⟨S256x128, cols B 10⟩, ⟨S256x128, cols B 11⟩, ⟨S256x128, cols B 12⟩, ⟨S256x128, cols B 13⟩, ⟨S256x128, cols B 14⟩, ⟨S256x128, cols B 15⟩] concatenates_S256x128_S256x128_S256x128_S256x128_S256x128_S256x128_S256x128_S256x128_S256x128_S256x128_S256x128_S256x128_S256x128_S256x128_S256x128_S256x128_S256x2048_d1

/-- The first experts' outputs of block `t`, weighted. -/
def first (t : ℕ) (R : S256x128.Idx → Elt F .f32) : S256x2048.Idx → Elt F .f32 :=
  k0_pay2 (wcol R 2) (gath p1 Y t 0) (gath p1 Y t 1) (gath p1 Y t 2) (gath p1 Y t 3) (gath p1 Y t 4) (gath p1 Y t 5) (gath p1 Y t 6) (gath p1 Y t 7) (gath p1 Y t 8) (gath p1 Y t 9) (gath p1 Y t 10) (gath p1 Y t 11) (gath p1 Y t 12) (gath p1 Y t 13) (gath p1 Y t 14) (gath p1 Y t 15)

/-- What the layer norm of block `t` reads. -/
def summed (t : ℕ) (B : S4096x128.Idx → Elt F .f32) (R : S256x128.Idx → Elt F .f32) : S256x2048.Idx → Elt F .f32 :=
  k0_pay3 (wcol R 3) (first p1 Y t R) (gath p2 Y t 0) (gath p2 Y t 1) (gath p2 Y t 2) (gath p2 Y t 3) (gath p2 Y t 4) (gath p2 Y t 5) (gath p2 Y t 6) (gath p2 Y t 7) (gath p2 Y t 8) (gath p2 Y t 9) (gath p2 Y t 10) (gath p2 Y t 11) (gath p2 Y t 12) (gath p2 Y t 13) (gath p2 Y t 14) (gath p2 Y t 15) (stream B)

/-- What block `t`'s step leaves in the result's block. -/
def stepOut (t : ℕ) (B : S4096x128.Idx → Elt F .f32) (R : S256x128.Idx → Elt F .f32) (g b : S1x2048.Idx → Elt F .f32) : S256x2048.Idx → Elt F .f32 :=
  k0_pay1 (summed p1 p2 Y t B R) g b

variable (hp1 : ∀ n, slot p1 n < 24832) (hp2 : ∀ n, slot p2 n < 24832)

variable (i : grid0.Coords) (h1 : Fst.iM.IsWhole) (h2 : Snd.iM.IsWhole)
    (a3 : Memref sig .tc .vmem S4096x128 .f32) (h3 : a3.IsWhole)
    (a4 : Memref sig .tc .vmem S256x128 .f32) (h4 : a4.IsWhole)
    (a5 : Memref sig .tc .vmem S1x2048 .f32) (h5 : a5.IsWhole)
    (a6 : Memref sig .tc .vmem S1x2048 .f32) (h6 : a6.IsWhole) (h7 : yM.IsWhole)
    (a8 : Memref sig .tc .vmem S256x2048 .f32) (h8 : a8.IsWhole)
    (h9 : Fst.bM.IsWhole) (h10 : Snd.bM.IsWhole)

section Loops
include hp1 hp2

set_option maxHeartbeats 1000000 in
/-- A trip of the loop that starts a block's copies. -/
theorem trip1 (k : Fin k0_t1_loop.trips) (u : Unit) :
    iprop(Fst.starting c p1 Y (i 0).val k.val ∗ Snd.starting c p2 Y (i 0).val k.val)
      ⊢ wp frame (wpE (defs₀ (F := F)) Variants.none (c : Thread nD τ) none) Set.univ (k0_t1_body i Fst.iM h1 Snd.iM h2 a3 h3 a4 h4 a5 h5 a6 h6 yM h7 a8 h8 Fst.bM h9 Snd.bM h10 cc0_scratch2 k u)
          (fun _ => iprop(Fst.starting c p1 Y (i 0).val (k.val + 1) ∗ Snd.starting c p2 Y (i 0).val (k.val + 1))) := by
  have hk : k.val < 256 := lt_of_lt_of_eq k.isLt trips1
  have hi := grid_lt i
  unfold k0_t1_body
  simp only [smemLoad, smemLoadElt_bind]
  iintro ⟨H1, H2⟩
  unfold Fst.starting
  icases H1 with ⟨HB, Hp, Hk, Hf, Ht⟩
  iapply (Fst.wp_word c p1 (256 * (i 0).val + k.val) (k0_off1_eq i k) (by omega)) $$ Ht
  iintro Ht
  obtain ⟨w0, hw0⟩ : ∃ w, w = p1 (ix1 ⟨256 * (i 0).val + k.val, by omega⟩) := ⟨_, rfl⟩
  rw [← hw0]
  have hwt0 : w0.toNat = slot p1 (256 * (i 0).val + k.val) := by rw [hw0, Fst.word_slot]
  have hlt0 : w0.toNat < 24832 := by rw [hwt0]; exact hp1 _
  iapply (wp_assume Variants.none (c : Thread nD τ) none Set.univ (chk1_of w0 hlt0))
  iapply (Fst.start_one c p1 Y (i 0).val k.val hk (hwt0 ▸ hlt0) (k0_off2_eq k) (by rw [off3_eq w0 hlt0, hwt0])
    (Fst.cell_eq _ _)) $$ [HB Hp Hk Hf Ht]
  · unfold Fst.starting
    isplitl [HB]; · iexact HB
    isplitl [Hp]; · iexact Hp
    isplitl [Hk]; · iexact Hk
    isplitl [Hf]; · iexact Hf
    iexact Ht
  iintro H1
  simp only [ret_then]
  unfold Snd.starting
  icases H2 with ⟨HB, Hp, Hk, Hf, Ht⟩
  iapply (Snd.wp_word c p2 (256 * (i 0).val + k.val) (k0_off4_eq i k) (by omega)) $$ Ht
  iintro Ht
  obtain ⟨w1, hw1⟩ : ∃ w, w = p2 (ix1 ⟨256 * (i 0).val + k.val, by omega⟩) := ⟨_, rfl⟩
  rw [← hw1]
  have hwt1 : w1.toNat = slot p2 (256 * (i 0).val + k.val) := by rw [hw1, Snd.word_slot]
  have hlt1 : w1.toNat < 24832 := by rw [hwt1]; exact hp2 _
  iapply (wp_assume Variants.none (c : Thread nD τ) none Set.univ (chk2_of w1 hlt1))
  iapply (Snd.start_one c p2 Y (i 0).val k.val hk (hwt1 ▸ hlt1) (k0_off5_eq k) (by rw [off6_eq w1 hlt1, hwt1])
    (Snd.cell_eq _ _)) $$ [HB Hp Hk Hf Ht]
  · unfold Snd.starting
    isplitl [HB]; · iexact HB
    isplitl [Hp]; · iexact Hp
    isplitl [Hk]; · iexact Hk
    isplitl [Hf]; · iexact Hf
    iexact Ht
  iintro H2
  iapply (Entails.of_eq (wp_pure frame (wpE (defs₀ (F := F)) Variants.none (c : Thread nD τ) none) Set.univ _ _).symm)
  imodintro
  unfold Fst.starting Snd.starting
  isplitl [H1]; · iexact H1
  iexact H2

set_option maxHeartbeats 1000000 in
/-- A trip of the loop that waits for a block's copies. -/
theorem trip2 (k : Fin k0_t2_loop.trips) (u : Unit) :
    iprop(Fst.draining c p1 Y (i 0).val k.val ∗ Snd.draining c p2 Y (i 0).val k.val ∗ ∃ W, owes (c : Thread nD τ) 0 W)
      ⊢ wp frame (wpE (defs₀ (F := F)) Variants.none (c : Thread nD τ) none) Set.univ (k0_t2_body i Fst.iM h1 Snd.iM h2 a3 h3 a4 h4 a5 h5 a6 h6 yM h7 a8 h8 Fst.bM h9 Snd.bM h10 cc0_scratch2 k u)
          (fun _ => iprop(Fst.draining c p1 Y (i 0).val (k.val + 1) ∗ Snd.draining c p2 Y (i 0).val (k.val + 1) ∗ ∃ W, owes (c : Thread nD τ) 0 W)) := by
  have hk : k.val < 256 := lt_of_lt_of_eq k.isLt trips2
  have hi := grid_lt i
  unfold k0_t2_body
  simp only [smemLoad, smemLoadElt_bind]
  iintro ⟨H1, H2, HO⟩
  unfold Fst.draining
  icases H1 with ⟨HB, Hk, Ht⟩
  iapply (Fst.wp_word c p1 (256 * (i 0).val + k.val) (k0_off7_eq i k) (by omega)) $$ Ht
  iintro Ht
  obtain ⟨w0, hw0⟩ : ∃ w, w = p1 (ix1 ⟨256 * (i 0).val + k.val, by omega⟩) := ⟨_, rfl⟩
  rw [← hw0]
  have hwt0 : w0.toNat = slot p1 (256 * (i 0).val + k.val) := by rw [hw0, Fst.word_slot]
  have hlt0 : w0.toNat < 24832 := by rw [hwt0]; exact hp1 _
  iapply (wp_assume Variants.none (c : Thread nD τ) none Set.univ (chk3_of w0 hlt0))
  iapply (Fst.wait_one c p1 Y (i 0).val k.val hk (Fst.cell_eq _ _)) $$ [HB Hk Ht HO]
  · unfold Fst.draining
    isplitr [HO]
    · isplitl [HB]; · iexact HB
      isplitl [Hk]; · iexact Hk
      iexact Ht
    iexact HO
  iintro ⟨H1, HO⟩
  simp only [ret_then]
  unfold Snd.draining
  icases H2 with ⟨HB, Hk, Ht⟩
  iapply (Snd.wp_word c p2 (256 * (i 0).val + k.val) (k0_off10_eq i k) (by omega)) $$ Ht
  iintro Ht
  obtain ⟨w1, hw1⟩ : ∃ w, w = p2 (ix1 ⟨256 * (i 0).val + k.val, by omega⟩) := ⟨_, rfl⟩
  rw [← hw1]
  have hwt1 : w1.toNat = slot p2 (256 * (i 0).val + k.val) := by rw [hw1, Snd.word_slot]
  have hlt1 : w1.toNat < 24832 := by rw [hwt1]; exact hp2 _
  iapply (wp_assume Variants.none (c : Thread nD τ) none Set.univ (chk4_of w1 hlt1))
  iapply (Snd.wait_one c p2 Y (i 0).val k.val hk (Snd.cell_eq _ _)) $$ [HB Hk Ht HO]
  · unfold Snd.draining
    isplitr [HO]
    · isplitl [HB]; · iexact HB
      isplitl [Hk]; · iexact Hk
      iexact Ht
    iexact HO
  iintro ⟨H2, HO⟩
  iapply (Entails.of_eq (wp_pure frame (wpE (defs₀ (F := F)) Variants.none (c : Thread nD τ) none) Set.univ _ _).symm)
  imodintro
  unfold Fst.draining Snd.draining
  isplitl [H1]; · iexact H1
  isplitl [H2]; · iexact H2
  iexact HO

/-- Both gathers run, and the first twelve column groups of the first read. -/
theorem part1 (B : S4096x128.Idx → Elt F .f32) (R : S256x128.Idx → Elt F .f32) {Q : _ → sProp 𝕄} :
    iprop(Fst.Idle c Y ∗ Fst.table (F := F) c p1 ∗ Snd.Idle c Y ∗ Snd.table (F := F) c p2 ∗ owns (c : Thread nD τ) a4 fullShare R ∗ ∃ W, owes (c : Thread nD τ) 0 W)
      ⊢ iprop(((semVal ((c : Thread nD τ), .dma Fst.cell) 0 ∗ Fst.Landed c p1 Y (i 0).val ∗ bigSep Finset.univ (Fst.share c Y) ∗ Fst.table (F := F) c p1
            ∗ semVal ((c : Thread nD τ), .dma Snd.cell) 0 ∗ Snd.Landed c p2 Y (i 0).val ∗ bigSep Finset.univ (Snd.share c Y) ∗ Snd.table (F := F) c p2
            ∗ owns (c : Thread nD τ) a4 fullShare R ∗ ∃ W, owes (c : Thread nD τ) 0 W)
          -∗ Q ⟨wcol R 2, wcol R 3, gath p1 Y (i 0).val 0, gath p1 Y (i 0).val 1, gath p1 Y (i 0).val 2, gath p1 Y (i 0).val 3, gath p1 Y (i 0).val 4, gath p1 Y (i 0).val 5, gath p1 Y (i 0).val 6, gath p1 Y (i 0).val 7, gath p1 Y (i 0).val 8, gath p1 Y (i 0).val 9, gath p1 Y (i 0).val 10, gath p1 Y (i 0).val 11⟩)
        -∗ wp frame (wpE (defs₀ (F := F)) Variants.none (c : Thread nD τ) none) Set.univ (k0_part1 i Fst.iM h1 Snd.iM h2 a3 h3 a4 h4 a5 h5 a6 h6 yM h7 a8 h8 Fst.bM h9 Snd.bM h10 cc0_scratch2) Q) := by
  simp only [k0_part1_eq_skeleton]
  unfold k0_part1_skel
  iintro ⟨HI1, Ht1, HI2, Ht2, H4, HO⟩ HQ
  imod (Fst.starting_zero c p1 Y (i 0).val) $$ [HI1 Ht1] with H1
  · isplitl [HI1]; · iexact HI1
    iexact Ht1
  imod (Snd.starting_zero c p2 Y (i 0).val) $$ [HI2 Ht2] with H2
  · isplitl [HI2]; · iexact HI2
    iexact Ht2
  iapply (Scf.wp_for_bind frame (wpE (defs₀ (F := F)) Variants.none (c : Thread nD τ) none) Set.univ _ _ _ _ _ _
    (fun k _ => iprop(Fst.starting c p1 Y (i 0).val k ∗ Snd.starting c p2 Y (i 0).val k))
    (fun k u => trip1 c p1 p2 Y hp1 hp2 i h1 h2 a3 h3 a4 h4 a5 h5 a6 h6 h7 a8 h8 h9 h10 k u)) $$ [H1 H2]
  · isplitl [H1]; · iexact H1
    iexact H2
  iintro %u ⟨H1, H2⟩
  rw [show Scf.trips k0_t1_loop.lb k0_t1_loop.ub k0_t1_loop.st = 256 from trips1]
  ihave H1 := (Fst.starting_done c p1 Y (i 0).val) $$ H1
  ihave H2 := (Snd.starting_done c p2 Y (i 0).val) $$ H2
  iapply (Scf.wp_for_bind frame (wpE (defs₀ (F := F)) Variants.none (c : Thread nD τ) none) Set.univ _ _ _ _ _ _
    (fun k _ => iprop(Fst.draining c p1 Y (i 0).val k ∗ Snd.draining c p2 Y (i 0).val k ∗ ∃ W, owes (c : Thread nD τ) 0 W))
    (fun k u => trip2 c p1 p2 Y hp1 hp2 i h1 h2 a3 h3 a4 h4 a5 h5 a6 h6 h7 a8 h8 h9 h10 k u)) $$ [H1 H2 HO]
  · isplitl [H1]; · iexact H1
    isplitl [H2]; · iexact H2
    iexact HO
  iintro %u' ⟨H1, H2, HO⟩
  rw [show Scf.trips k0_t2_loop.lb k0_t2_loop.ub k0_t2_loop.st = 256 from trips2]
  imod (Fst.drained c p1 Y (i 0).val) $$ H1 with ⟨Hs1, HL1, Hsh1, Ht1⟩
  imod (Snd.drained c p2 Y (i 0).val) $$ H2 with ⟨Hs2, HL2, Hsh2, Ht2⟩
  iapply (load_wcol c 2 rfl) $$ H4
  iintro H4
  iapply (load_wcol c 3 rfl) $$ H4
  iintro H4
  iapply (Fst.load_group c p1 Y (i 0).val 0 (by omega)) $$ HL1
  iintro HL1
  iapply (Fst.load_group c p1 Y (i 0).val 1 (by omega)) $$ HL1
  iintro HL1
  iapply (Fst.load_group c p1 Y (i 0).val 2 (by omega)) $$ HL1
  iintro HL1
  iapply (Fst.load_group c p1 Y (i 0).val 3 (by omega)) $$ HL1
  iintro HL1
  iapply (Fst.load_group c p1 Y (i 0).val 4 (by omega)) $$ HL1
  iintro HL1
  iapply (Fst.load_group c p1 Y (i 0).val 5 (by omega)) $$ HL1
  iintro HL1
  iapply (Fst.load_group c p1 Y (i 0).val 6 (by omega)) $$ HL1
  iintro HL1
  iapply (Fst.load_group c p1 Y (i 0).val 7 (by omega)) $$ HL1
  iintro HL1
  iapply (Fst.load_group c p1 Y (i 0).val 8 (by omega)) $$ HL1
  iintro HL1
  iapply (Fst.load_group c p1 Y (i 0).val 9 (by omega)) $$ HL1
  iintro HL1
  iapply (Fst.load_group c p1 Y (i 0).val 10 (by omega)) $$ HL1
  iintro HL1
  iapply (Fst.load_group c p1 Y (i 0).val 11 (by omega)) $$ HL1
  iintro HL1
  iapply (Entails.of_eq (wp_pure frame (wpE (defs₀ (F := F)) Variants.none (c : Thread nD τ) none) Set.univ _ _).symm)
  imodintro
  iapply HQ
  isplitl [Hs1]; · iexact Hs1
  isplitl [HL1]; · iexact HL1
  isplitl [Hsh1]; · iexact Hsh1
  isplitl [Ht1]; · iexact Ht1
  isplitl [Hs2]; · iexact Hs2
  isplitl [HL2]; · iexact HL2
  isplitl [Hsh2]; · iexact Hsh2
  isplitl [Ht2]; · iexact Ht2
  isplitl [H4]; · iexact H4
  iexact HO

end Loops

/-- The first gather's last four column groups read, and the second's first fifteen. -/
theorem part2 (R : S256x128.Idx → Elt F .f32) {Q : _ → sProp 𝕄} :
    iprop(Fst.Landed c p1 Y (i 0).val ∗ Snd.Landed c p2 Y (i 0).val)
      ⊢ iprop(((Fst.Landed c p1 Y (i 0).val ∗ Snd.Landed c p2 Y (i 0).val)
          -∗ Q ⟨first p1 Y (i 0).val R, gath p2 Y (i 0).val 0, gath p2 Y (i 0).val 1, gath p2 Y (i 0).val 2, gath p2 Y (i 0).val 3, gath p2 Y (i 0).val 4, gath p2 Y (i 0).val 5, gath p2 Y (i 0).val 6, gath p2 Y (i 0).val 7, gath p2 Y (i 0).val 8, gath p2 Y (i 0).val 9, gath p2 Y (i 0).val 10, gath p2 Y (i 0).val 11, gath p2 Y (i 0).val 12, gath p2 Y (i 0).val 13, gath p2 Y (i 0).val 14⟩)
        -∗ wp frame (wpE (defs₀ (F := F)) Variants.none (c : Thread nD τ) none) Set.univ (k0_part2 i Fst.iM h1 Snd.iM h2 a3 h3 a4 h4 a5 h5 a6 h6 yM h7 a8 h8 Fst.bM h9 Snd.bM h10 cc0_scratch2 (wcol R 2) (gath p1 Y (i 0).val 0) (gath p1 Y (i 0).val 1) (gath p1 Y (i 0).val 2) (gath p1 Y (i 0).val 3) (gath p1 Y (i 0).val 4) (gath p1 Y (i 0).val 5) (gath p1 Y (i 0).val 6) (gath p1 Y (i 0).val 7) (gath p1 Y (i 0).val 8) (gath p1 Y (i 0).val 9) (gath p1 Y (i 0).val 10) (gath p1 Y (i 0).val 11)) Q) := by
  simp only [k0_part2_eq_skeleton]
  unfold k0_part2_skel first
  iintro ⟨HL1, HL2⟩ HQ
  iapply (Fst.load_group c p1 Y (i 0).val 12 (by omega)) $$ HL1
  iintro HL1
  iapply (Fst.load_group c p1 Y (i 0).val 13 (by omega)) $$ HL1
  iintro HL1
  iapply (Fst.load_group c p1 Y (i 0).val 14 (by omega)) $$ HL1
  iintro HL1
  iapply (Fst.load_group c p1 Y (i 0).val 15 (by omega)) $$ HL1
  iintro HL1
  iapply (Snd.load_group c p2 Y (i 0).val 0 (by omega)) $$ HL2
  iintro HL2
  iapply (Snd.load_group c p2 Y (i 0).val 1 (by omega)) $$ HL2
  iintro HL2
  iapply (Snd.load_group c p2 Y (i 0).val 2 (by omega)) $$ HL2
  iintro HL2
  iapply (Snd.load_group c p2 Y (i 0).val 3 (by omega)) $$ HL2
  iintro HL2
  iapply (Snd.load_group c p2 Y (i 0).val 4 (by omega)) $$ HL2
  iintro HL2
  iapply (Snd.load_group c p2 Y (i 0).val 5 (by omega)) $$ HL2
  iintro HL2
  iapply (Snd.load_group c p2 Y (i 0).val 6 (by omega)) $$ HL2
  iintro HL2
  iapply (Snd.load_group c p2 Y (i 0).val 7 (by omega)) $$ HL2
  iintro HL2
  iapply (Snd.load_group c p2 Y (i 0).val 8 (by omega)) $$ HL2
  iintro HL2
  iapply (Snd.load_group c p2 Y (i 0).val 9 (by omega)) $$ HL2
  iintro HL2
  iapply (Snd.load_group c p2 Y (i 0).val 10 (by omega)) $$ HL2
  iintro HL2
  iapply (Snd.load_group c p2 Y (i 0).val 11 (by omega)) $$ HL2
  iintro HL2
  iapply (Snd.load_group c p2 Y (i 0).val 12 (by omega)) $$ HL2
  iintro HL2
  iapply (Snd.load_group c p2 Y (i 0).val 13 (by omega)) $$ HL2
  iintro HL2
  iapply (Snd.load_group c p2 Y (i 0).val 14 (by omega)) $$ HL2
  iintro HL2
  iapply (Entails.of_eq (wp_pure frame (wpE (defs₀ (F := F)) Variants.none (c : Thread nD τ) none) Set.univ _ _).symm)
  imodintro
  iapply HQ
  isplitl [HL1]; · iexact HL1
  iexact HL2

/-- The second gather's last column group and the residual stream's block read. -/
theorem part3 (B : S4096x128.Idx → Elt F .f32) (R : S256x128.Idx → Elt F .f32) {Q : _ → sProp 𝕄} :
    iprop(Snd.Landed c p2 Y (i 0).val ∗ owns (c : Thread nD τ) a3 fullShare B)
      ⊢ iprop(((Snd.Landed c p2 Y (i 0).val ∗ owns (c : Thread nD τ) a3 fullShare B)
          -∗ Q (summed p1 p2 Y (i 0).val B R))
        -∗ wp frame (wpE (defs₀ (F := F)) Variants.none (c : Thread nD τ) none) Set.univ (k0_part3 i Fst.iM h1 Snd.iM h2 a3 h3 a4 h4 a5 h5 a6 h6 yM h7 a8 h8 Fst.bM h9 Snd.bM h10 cc0_scratch2 (wcol R 3) (first p1 Y (i 0).val R) (gath p2 Y (i 0).val 0) (gath p2 Y (i 0).val 1) (gath p2 Y (i 0).val 2) (gath p2 Y (i 0).val 3) (gath p2 Y (i 0).val 4) (gath p2 Y (i 0).val 5) (gath p2 Y (i 0).val 6) (gath p2 Y (i 0).val 7) (gath p2 Y (i 0).val 8) (gath p2 Y (i 0).val 9) (gath p2 Y (i 0).val 10) (gath p2 Y (i 0).val 11) (gath p2 Y (i 0).val 12) (gath p2 Y (i 0).val 13) (gath p2 Y (i 0).val 14)) Q) := by
  simp only [k0_part3_eq_skeleton]
  unfold k0_part3_skel summed stream
  iintro ⟨HL2, H3⟩ HQ
  iapply (Snd.load_group c p2 Y (i 0).val 15 (by omega)) $$ HL2
  iintro HL2
  iapply (load_cols c 0 (by omega)) $$ H3
  iintro H3
  iapply (load_cols c 1 (by omega)) $$ H3
  iintro H3
  iapply (load_cols c 2 (by omega)) $$ H3
  iintro H3
  iapply (load_cols c 3 (by omega)) $$ H3
  iintro H3
  iapply (load_cols c 4 (by omega)) $$ H3
  iintro H3
  iapply (load_cols c 5 (by omega)) $$ H3
  iintro H3
  iapply (load_cols c 6 (by omega)) $$ H3
  iintro H3
  iapply (load_cols c 7 (by omega)) $$ H3
  iintro H3
  iapply (load_cols c 8 (by omega)) $$ H3
  iintro H3
  iapply (load_cols c 9 (by omega)) $$ H3
  iintro H3
  iapply (load_cols c 10 (by omega)) $$ H3
  iintro H3
  iapply (load_cols c 11 (by omega)) $$ H3
  iintro H3
  iapply (load_cols c 12 (by omega)) $$ H3
  iintro H3
  iapply (load_cols c 13 (by omega)) $$ H3
  iintro H3
  iapply (load_cols c 14 (by omega)) $$ H3
  iintro H3
  iapply (load_cols c 15 (by omega)) $$ H3
  iintro H3
  iapply (Entails.of_eq (wp_pure frame (wpE (defs₀ (F := F)) Variants.none (c : Thread nD τ) none) Set.univ _ _).symm)
  imodintro
  iapply HQ
  isplitl [HL2]; · iexact HL2
  iexact H3

/-- A grid step: both gathers return to rest and the result's block becomes the step's. -/
theorem step_spec (hp1 : ∀ n, slot p1 n < 24832) (hp2 : ∀ n, slot p2 n < 24832) (B : S4096x128.Idx → Elt F .f32) (R : S256x128.Idx → Elt F .f32)
    (g b : S1x2048.Idx → Elt F .f32) (d : S256x2048.Idx → Elt F .f32) {Q : PUnit → sProp 𝕄} :
    iprop(Fst.Idle c Y ∗ Fst.table (F := F) c p1 ∗ Snd.Idle c Y ∗ Snd.table (F := F) c p2
        ∗ owns (c : Thread nD τ) a3 fullShare B ∗ owns (c : Thread nD τ) a4 fullShare R ∗ owns (c : Thread nD τ) a5 fullShare g
        ∗ owns (c : Thread nD τ) a6 fullShare b ∗ owns (c : Thread nD τ) a8 fullShare d ∗ ∃ W, owes (c : Thread nD τ) 0 W)
      ⊢ iprop(((Fst.Idle c Y ∗ Fst.table (F := F) c p1 ∗ Snd.Idle c Y ∗ Snd.table (F := F) c p2
        ∗ owns (c : Thread nD τ) a3 fullShare B ∗ owns (c : Thread nD τ) a4 fullShare R ∗ owns (c : Thread nD τ) a5 fullShare g
        ∗ owns (c : Thread nD τ) a6 fullShare b ∗ owns (c : Thread nD τ) a8 fullShare (stepOut p1 p2 Y (i 0).val B R g b) ∗ ∃ W, owes (c : Thread nD τ) 0 W)
          -∗ Q ⟨⟩)
        -∗ wp frame (wpE (defs₀ (F := F)) Variants.none (c : Thread nD τ) none) Set.univ (cc0_combine_ln (F := F) i Fst.iM h1 Snd.iM h2 a3 h3 a4 h4 a5 h5 a6 h6 yM h7 a8 h8 Fst.bM h9 Snd.bM h10 cc0_scratch2) Q) := by
  simp only [cc0_combine_ln_eq_skeleton]
  unfold cc0_combine_ln_skel
  iintro ⟨HI1, Ht1, HI2, Ht2, H3, H4, H5, H6, H8, HO⟩ HQ
  rw [wp_bind]
  iapply (part1 c p1 p2 Y hp1 hp2 i h1 h2 a3 h3 a4 h4 a5 h5 a6 h6 h7 a8 h8 h9 h10 B R) $$ [HI1 Ht1 HI2 Ht2 H4 HO]
  · isplitl [HI1]; · iexact HI1
    isplitl [Ht1]; · iexact Ht1
    isplitl [HI2]; · iexact HI2
    isplitl [Ht2]; · iexact Ht2
    isplitl [H4]; · iexact H4
    iexact HO
  iintro ⟨Hs1, HL1, Hsh1, Ht1, Hs2, HL2, Hsh2, Ht2, H4, HO⟩
  rw [wp_bind]
  iapply (part2 c p1 p2 Y i h1 h2 a3 h3 a4 h4 a5 h5 a6 h6 h7 a8 h8 h9 h10 R) $$ [HL1 HL2]
  · isplitl [HL1]; · iexact HL1
    iexact HL2
  iintro ⟨HL1, HL2⟩
  rw [wp_bind]
  iapply (part3 c p1 p2 Y i h1 h2 a3 h3 a4 h4 a5 h5 a6 h6 h7 a8 h8 h9 h10 B R) $$ [HL2 H3]
  · isplitl [HL2]; · iexact HL2
    iexact H3
  iintro ⟨HL2, H3⟩
  iapply (load_all c (fun a => by fin_cases a <;> rfl)) $$ H5
  iintro H5
  iapply (load_all c (fun a => by fin_cases a <;> rfl)) $$ H6
  iintro H6
  iapply (load_all c (fun a => by fin_cases a <;> rfl)) $$ H8
  iintro H8
  iapply (store_all c (fun a => by fin_cases a <;> rfl)) $$ H8
  iintro H8
  iapply (Entails.of_eq (wp_pure frame (wpE (defs₀ (F := F)) Variants.none (c : Thread nD τ) none) Set.univ _ _).symm)
  imodintro
  iapply HQ
  isplitl [Hs1 HL1 Hsh1]
  · iapply (Fst.rest c p1 Y (i 0).val)
    isplitl [Hs1]; · iexact Hs1
    isplitl [HL1]; · iexact HL1
    iexact Hsh1
  isplitl [Ht1]; · iexact Ht1
  isplitl [Hs2 HL2 Hsh2]
  · iapply (Snd.rest c p2 Y (i 0).val)
    isplitl [Hs2]; · iexact Hs2
    isplitl [HL2]; · iexact HL2
    iexact Hsh2
  isplitl [Ht2]; · iexact Ht2
  isplitl [H3]; · iexact H3
  isplitl [H4]; · iexact H4
  isplitl [H5]; · iexact H5
  isplitl [H6]; · iexact H6
  isplitl [H8]; · iexact H8
  iexact HO

end Cert.Proof.Comb
end
-- ==== Proof.CombConfig.lean ====
/- The combine kernel as a pipeline: what the precondition says of its two slot tables, its windows' blocks, and the experts' array split among the copies. -/
module

public import proofs.«01_k».proof.Defs
public import proofs.«01_k».proof.Proof.CombBody
public import proofs.«01_k».proof.Proof.MoeTables
public import proofs.«01_k».proof.Proof.MoeShares
public import proofs.«01_k».proof.Proof.Gen.Pre_slots
public import proofs.«01_k».proof.Proof.Gen.Kernel18Ideal.Launch
public import Idealize.ShloMosaic.Lib.Pipeline.ClipFacts
public import Idealize.ShloMosaic.Lib.Pipeline.FrameBody

@[expose] public section

noncomputable section

namespace Cert.Proof.Comb

open Cert.Kernel18Ideal Cert.Kernel18Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's algebra: the pipeline's beside the counters of the copies. -/
local notation "𝕄" => MT nD τ sig Unit (Elt F) ℕ (Pipeline.UD sig nD τ) ℕ

open Idealize.ShloMosaic.Pipeline (Dat Cfg Window)

/-! ## The precondition -/

instance : Subsingleton Cert.Pre_slots.S_.Idx := ⟨fun a b => funext fun x => x.elim0⟩

omit [FloatOps F] in
/-- The printed predicate is 1 only where both tables name slots. -/
theorem slots_of_fn {G : FTy → Type} [FloatOps G] (p1 p2 : S8320.Idx → BitVec 32) (x2 x3 x4 x5 x6)
    (h : Cert.Pre_slots.fn (F := G) p1 p2 x2 x3 x4 x5 x6 = fun _ => 1#1) : (∀ n, (p1 n).toNat < 24832) ∧ ∀ n, (p2 n).toNat < 24832 := by
  have h := congrFun h (fun x => x.elim0)
  unfold Cert.Pre_slots.fn at h
  obtain ⟨h1, h2⟩ := IntOp.andi_eq_one.1 h
  refine ⟨fun n => ?_, fun n => ?_⟩
  · obtain ⟨a, b⟩ := IntOp.andi_eq_one.1 (Host.reduce_andi_all _ _ _ _ _ h1 n)
    exact Cert.Proof.Moe.toNat_lt_of_signed (by norm_num) a b
  · obtain ⟨a, b⟩ := IntOp.andi_eq_one.1 (Host.reduce_andi_all _ _ _ _ _ h2 n)
    exact Cert.Proof.Moe.toNat_lt_of_signed (by norm_num) a b

/-! ## The arguments -/

variable (m : (ℓ : Loc nD τ sig) → Buf (Elt F) ℓ)

/-- Device `c`'s buffers as the call finds them. -/
abbrev V (c : Dev nD) (b : Ref sig .tc) : Buf (Elt F) ((c : Thread nD τ).loc b) := m ((c : Thread nD τ).loc b)

/-- Each token's first slot, -/
def p1Of (c : Dev nD) : S8320.Idx → BitVec 32 := V m c main_arg0
/-- and its second; -/
def p2Of (c : Dev nD) : S8320.Idx → BitVec 32 := V m c main_arg1
/-- the experts' outputs, slot-major. -/
def yOf (c : Dev nD) : S397312x128.Idx → Elt F .f32 := V m c main_arg6

/-- The tables name slots. -/
def Ok : Prop := ∀ c, (∀ n, (p1Of m c n).toNat < 24832) ∧ ∀ n, (p2Of m c n).toNat < 24832

/-- The tables' contents. -/
def pf : pre0.Contents (Elt F) := fun k => V m 0 (pre0.ref k)

omit [FloatOps F] in
theorem dev_zero (c : Dev nD) : c = 0 := by
  apply Fin.ext
  have := c.isLt
  show c.val = 0
  have h : nD = 1 := rfl
  omega

/-- The tables, admissible. -/
def adm : (p : Fin 1) → (pcfgs (F := F) p).Adm := fun _ => ⟨pf m, trivial⟩

/-- The pipeline at the tables. -/
abbrev cfgm : Pipeline.Cfg sig Λ₀ := cfg0 (adm m 0)

omit [FloatOps F] in
theorem coords_val : ∀ t : Fin grid0.N, (grid0.coords t 0).val = t.val := by decide +kernel

/-! ## The windows' blocks -/

omit [FloatOps F] in
theorem t0_eq : ∀ i : grid0.Coords, cc0_transform_0 i = ![(i 0).val, 0] := by decide +kernel
omit [FloatOps F] in
theorem t1_eq : ∀ i : grid0.Coords, cc0_transform_1 i = ![(i 0).val, 0] := by decide +kernel
omit [FloatOps F] in
theorem t2_eq : ∀ i : grid0.Coords, cc0_transform_2 i = ![0, 0] := by decide +kernel
omit [FloatOps F] in
theorem t3_eq : ∀ i : grid0.Coords, cc0_transform_3 i = ![0, 0] := by decide +kernel
omit [FloatOps F] in
theorem t5_eq : ∀ i : grid0.Coords, cc0_transform_5 i = ![(i 0).val, 0] := by decide +kernel

/-- Block `t` of the token-major residual stream. -/
def xblk (A : S133120x128.Idx → Elt F .f32) (t : ℕ) : S4096x128.Idx → Elt F .f32 :=
  fun y => A (ix2 ⟨(4096 * t + (y 0).val) % 133120, Nat.mod_lt _ (by omega)⟩ (y 1))

/-- Block `t` of the routing's rows. -/
def rblk (A : S8192x128.Idx → Elt F .f32) (t : ℕ) : S256x128.Idx → Elt F .f32 :=
  fun y => A (ix2 ⟨(256 * t + (y 0).val) % 8192, Nat.mod_lt _ (by omega)⟩ (y 1))

/-- No block of the residual stream overhangs it. -/
theorem clip_none (t : Fin (cfgm m).N) (a : Fin 2) : ((cfgm m).win 0).clip (grid0.coords t) a = none := by
  have e := t0_eq (grid0.coords t)
  rw [coords_val] at e
  have ht : t.val < 32 := lt_of_lt_of_eq t.isLt N_0
  refine Pipeline.Clip.of_eq_none ?_
  rw [e]
  match a with
  | ⟨0, _⟩ => show (t.val + 1) * 4096 ≤ 133120; omega
  | ⟨1, _⟩ => show (0 + 1) * 128 ≤ 128; omega

theorem read1 (t : Fin grid0.N) (A : S8192x128.Idx → Elt F .f32) :
    (((cfgm m).win 1).blk t).view.read (Elt F) A = rblk A t.val := by
  refine funext fun (y : S256x128.Idx) => ?_
  refine congrArg A ?_
  have e := t1_eq (grid0.coords t)
  rw [coords_val] at e
  have ht : t.val < 32 := lt_of_lt_of_eq t.isLt N_0
  have hy : (y 0).val < 256 := (y 0).isLt
  funext a; apply Fin.ext
  fin_cases a
  · show cc0_transform_1 (grid0.coords t) 0 * 256 + 1 * (y 0).val = (256 * t.val + (y 0).val) % 8192
    rw [e]
    show t.val * 256 + 1 * (y 0).val = (256 * t.val + (y 0).val) % 8192
    omega
  · show cc0_transform_1 (grid0.coords t) 1 * 128 + 1 * (y 1).val = (y 1).val
    rw [e]
    show 0 * 128 + 1 * (y 1).val = (y 1).val
    omega

theorem read2 (t : Fin grid0.N) (A : S1x2048.Idx → Elt F .f32) :
    (((cfgm m).win 2).blk t).view.read (Elt F) A = A := by
  refine funext fun (y : S1x2048.Idx) => ?_
  refine congrArg A ?_
  have e := t2_eq (grid0.coords t)
  funext a; apply Fin.ext
  fin_cases a
  · show cc0_transform_2 (grid0.coords t) 0 * 1 + 1 * (y 0).val = (y 0).val
    rw [e]
    show 0 * 1 + 1 * (y 0).val = (y 0).val
    omega
  · show cc0_transform_2 (grid0.coords t) 1 * 2048 + 1 * (y 1).val = (y 1).val
    rw [e]
    show 0 * 2048 + 1 * (y 1).val = (y 1).val
    omega

theorem read3 (t : Fin grid0.N) (A : S1x2048.Idx → Elt F .f32) :
    (((cfgm m).win 3).blk t).view.read (Elt F) A = A := by
  refine funext fun (y : S1x2048.Idx) => ?_
  refine congrArg A ?_
  have e := t3_eq (grid0.coords t)
  funext a; apply Fin.ext
  fin_cases a
  · show cc0_transform_3 (grid0.coords t) 0 * 1 + 1 * (y 0).val = (y 0).val
    rw [e]
    show 0 * 1 + 1 * (y 0).val = (y 0).val
    omega
  · show cc0_transform_3 (grid0.coords t) 1 * 2048 + 1 * (y 1).val = (y 1).val
    rw [e]
    show 0 * 2048 + 1 * (y 1).val = (y 1).val
    omega

/-- A fetch of the residual stream's block `t` fills the buffer with it. -/
theorem fill0 (t : Fin grid0.N) (A : S133120x128.Idx → Elt F .f32) (d : S4096x128.Idx → Elt F .f32) :
    ((cfgm m).win 0).fill (grid0.coords t) d ((((cfgm m).win 0).blk t).view.read (Elt F) A) = xblk A t.val := by
  refine funext fun (y : S4096x128.Idx) => ?_
  have hm : ((cfgm m).win 0).moved (grid0.coords t) y = true :=
    (((cfgm m).win 0).moved_iff _ y).mpr fun a => by
      have := (y a).isLt; unfold Window.xsize; rw [clip_none m t a]; exact this
  refine (dif_pos hm).trans ?_
  refine congrArg A ?_
  have e := t0_eq (grid0.coords t)
  rw [coords_val] at e
  have ht : t.val < 32 := lt_of_lt_of_eq t.isLt N_0
  have hy : (y 0).val < 4096 := (y 0).isLt
  funext a; apply Fin.ext
  fin_cases a
  · show cc0_transform_0 (grid0.coords t) 0 * 4096 + 1 * (y 0).val = (4096 * t.val + (y 0).val) % 133120
    rw [e]
    show t.val * 4096 + 1 * (y 0).val = (4096 * t.val + (y 0).val) % 133120
    omega
  · show cc0_transform_0 (grid0.coords t) 1 * 128 + 1 * (y 1).val = (y 1).val
    rw [e]
    show 0 * 128 + 1 * (y 1).val = (y 1).val
    omega

/-! ## The experts' array's shares -/

variable (c : Dev nD) (Y : S397312x128.Idx → Elt F .f32)

/-- The experts' array's share that no copy reads under. -/
def spare : sProp 𝕄 := iprop(((c : Thread nD τ).loc main_arg6) ↦{Transfers.shareDrop fullShare 512} Y)

/-- The array whole is the spare share and one share for every copy of either gather. -/
theorem shares_eq : (((c : Thread nD τ).loc main_arg6) ↦{fullShare} Y : sProp 𝕄)
    ⊣⊢ iprop(spare c Y ∗ bigSep Finset.univ (Fst.share c Y) ∗ bigSep Finset.univ (Snd.share c Y)) := by
  have e : (bigSep (Finset.range 512) (fun i => (((c : Thread nD τ).loc main_arg6) ↦{Transfers.shareTokN fullShare i} Y : sProp 𝕄)))
      = iprop(bigSep Finset.univ (Fst.share c Y) ∗ bigSep Finset.univ (Snd.share c Y)) := by
    rw [Cert.Proof.Moe.range_halves, BI.bigSep_union Cert.Proof.Moe.halves_disj, bigSep_map, bigSep_map]
    rfl
  have h := Transfers.pointsTo_toks_range (Ix := Unit) (Val := Elt F) (Name := ℕ) (U := Pipeline.UD sig nD τ) (Lvl := ℕ)
    (ℓ := (c : Thread nD τ).loc main_arg6) (S := Finset.univ) (f := Y) fullShare 512
  rw [e] at h
  exact h

/-- The two gather buffers, the experts' array and the two cells, whole, are the two gathers at rest and the spare share. -/
theorem rest_split (f g : S4096x128.Idx → Elt F .f32) :
    iprop((((c : Thread nD τ).loc cc0_scratch0) ↦{fullShare} f) ∗ (((c : Thread nD τ).loc cc0_scratch1) ↦{fullShare} g)
        ∗ (((c : Thread nD τ).loc main_arg6) ↦{fullShare} Y)
        ∗ semVal ((c : Thread nD τ), SemLoc.dma 8) 0 ∗ semVal ((c : Thread nD τ), SemLoc.dma 9) 0)
      ⊢ (iprop(Fst.Idle c Y ∗ Snd.Idle c Y ∗ spare c Y) : sProp 𝕄) := by
  iintro ⟨Hf, Hg, HX, H0, H1⟩
  ihave HX := (shares_eq c Y).1 $$ HX
  icases HX with ⟨HS, HX0, HX1⟩
  unfold Fst.Idle Snd.Idle
  isplitl [H0 Hf HX0]
  · isplitl [H0]; · iexact H0
    isplitl [Hf]; · iexists f; iexact Hf
    iexact HX0
  isplitl [H1 Hg HX1]
  · isplitl [H1]; · iexact H1
    isplitl [Hg]; · iexists g; iexact Hg
    iexact HX1
  iexact HS

/-- And back. -/
theorem rest_join :
    iprop(Fst.Idle c Y ∗ Snd.Idle c Y ∗ spare c Y)
      ⊢ (iprop((∃ f : S4096x128.Idx → Elt F .f32, ((c : Thread nD τ).loc cc0_scratch0) ↦{fullShare} f)
        ∗ (∃ f : S4096x128.Idx → Elt F .f32, ((c : Thread nD τ).loc cc0_scratch1) ↦{fullShare} f)
        ∗ (((c : Thread nD τ).loc main_arg6) ↦{fullShare} Y)
        ∗ semVal ((c : Thread nD τ), SemLoc.dma 8) 0 ∗ semVal ((c : Thread nD τ), SemLoc.dma 9) 0) : sProp 𝕄) := by
  unfold Fst.Idle Snd.Idle
  iintro ⟨⟨H0, Hf, HX0⟩, ⟨H1, Hg, HX1⟩, HS⟩
  isplitl [Hf]; · iexact Hf
  isplitl [Hg]; · iexact Hg
  isplitl [HS HX0 HX1]
  · iapply (shares_eq c Y).2
    isplitl [HS]; · iexact HS
    isplitl [HX0]; · iexact HX0
    iexact HX1
  isplitl [H0]; · iexact H0
  iexact H1

end Cert.Proof.Comb
end
-- ==== Proof.CombFrame.lean ====
/- The combine kernel's run: the pipeline's invariant, its grid step, and the run of the whole call. -/
module

public import proofs.«01_k».proof.Proof.CombConfig

@[expose] public section

noncomputable section

namespace Cert.Proof.Comb

open Cert.Kernel18Ideal Cert.Kernel18Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's algebra: the pipeline's beside the counters of the copies. -/
local notation "𝕄" => MT nD τ sig Unit (Elt F) ℕ (Pipeline.UD sig nD τ) ℕ

open Idealize.ShloMosaic.Pipeline (Dat Cfg Window BodyObligation cellOf)

variable (m : (ℓ : Loc nD τ sig) → Buf (Elt F) ℓ) (ρ : Dev nD → PrngReg)

/-! ## The invariant -/

/-- Block `t` of the result. -/
def outOf (c : Dev nD) (t : ℕ) : S256x2048.Idx → Elt F .f32 :=
  stepOut (p1Of m c) (p2Of m c) (yOf m c) t (xblk (V m c main_arg2) t) (rblk (V m c main_arg3) t) (V m c main_arg4) (V m c main_arg5)

/-- The two tables' half shares. -/
def tabs (c : Dev nD) : sProp 𝕄 := iprop(Fst.table (F := F) c (p1Of m c) ∗ Snd.table (F := F) c (p2Of m c))

/-- The invariant between blocks: both gathers at rest. -/
def PhiS (c : Dev nD) : sProp 𝕄 :=
  iprop(Fst.Idle c (yOf m c) ∗ Snd.Idle c (yOf m c) ∗ spare c (yOf m c) ∗ tabs m c ∗ ∃ r, prngReg c r)

/-! ## A grid step -/

section Step

variable (c : Dev nD) (hT : (∀ n, (p1Of m c n).toNat < 24832) ∧ ∀ n, (p2Of m c n).toNat < 24832) (i : grid0.Coords)
variable (h1 : Fst.iM.IsWhole) (h2 : Snd.iM.IsWhole)
    (a3 : Memref sig .tc .vmem S4096x128 .f32) (h3 : a3.IsWhole)
    (a4 : Memref sig .tc .vmem S256x128 .f32) (h4 : a4.IsWhole)
    (a5 : Memref sig .tc .vmem S1x2048 .f32) (h5 : a5.IsWhole)
    (a6 : Memref sig .tc .vmem S1x2048 .f32) (h6 : a6.IsWhole) (h7 : yM.IsWhole)
    (a8 : Memref sig .tc .vmem S256x2048 .f32) (h8 : a8.IsWhole)
    (h9 : Fst.bM.IsWhole) (h10 : Snd.bM.IsWhole)

include hT in
/-- A grid step from the invariant to itself: the blocks read stay, the result's block becomes the step's. -/
theorem step_inv (d : S256x2048.Idx → Elt F .f32) :
    iprop(PhiS m c ∗ (∃ W, owes (c : Thread nD τ) 0 W)
        ∗ owns (c : Thread nD τ) a3 fullShare (xblk (V m c main_arg2) (i 0).val)
        ∗ owns (c : Thread nD τ) a4 fullShare (rblk (V m c main_arg3) (i 0).val)
        ∗ owns (c : Thread nD τ) a5 fullShare (V m c main_arg4 : S1x2048.Idx → Elt F .f32)
        ∗ owns (c : Thread nD τ) a6 fullShare (V m c main_arg5 : S1x2048.Idx → Elt F .f32)
        ∗ owns (c : Thread nD τ) a8 fullShare d)
      ⊢ wp frame (wpE (defs₀ (F := F)) Variants.none (c : Thread nD τ) none) Set.univ
          (cc0_combine_ln (F := F) i Fst.iM h1 Snd.iM h2 a3 h3 a4 h4 a5 h5 a6 h6 yM h7 a8 h8 Fst.bM h9 Snd.bM h10 cc0_scratch2)
          (fun _ => iprop(PhiS m c ∗ (∃ W, owes (c : Thread nD τ) 0 W)
        ∗ owns (c : Thread nD τ) a3 fullShare (xblk (V m c main_arg2) (i 0).val)
        ∗ owns (c : Thread nD τ) a4 fullShare (rblk (V m c main_arg3) (i 0).val)
        ∗ owns (c : Thread nD τ) a5 fullShare (V m c main_arg4 : S1x2048.Idx → Elt F .f32)
        ∗ owns (c : Thread nD τ) a6 fullShare (V m c main_arg5 : S1x2048.Idx → Elt F .f32)
        ∗ owns (c : Thread nD τ) a8 fullShare (outOf m c (i 0).val))) := by
  unfold PhiS tabs
  iintro ⟨⟨HI1, HI2, Hs, ⟨Ht1, Ht2⟩, Hr⟩, HO, H3, H4, H5, H6, H8⟩
  iapply (step_spec c (p1Of m c) (p2Of m c) (yOf m c) i h1 h2 a3 h3 a4 h4 a5 h5 a6 h6 h7 a8 h8 h9 h10
    (fun n => hT.1 _) (fun n => hT.2 _) _ _ _ _ d) $$ [HI1 Ht1 HI2 Ht2 H3 H4 H5 H6 H8 HO]
  · isplitl [HI1]; · iexact HI1
    isplitl [Ht1]; · iexact Ht1
    isplitl [HI2]; · iexact HI2
    isplitl [Ht2]; · iexact Ht2
    isplitl [H3]; · iexact H3
    isplitl [H4]; · iexact H4
    isplitl [H5]; · iexact H5
    isplitl [H6]; · iexact H6
    isplitl [H8]; · iexact H8
    iexact HO
  iintro ⟨HI1, Ht1, HI2, Ht2, H3, H4, H5, H6, H8, HO⟩
  isplitl [HI1 HI2 Hs Ht1 Ht2 Hr]
  · isplitl [HI1]; · iexact HI1
    isplitl [HI2]; · iexact HI2
    isplitl [Hs]; · iexact Hs
    isplitr [Hr]
    · isplitl [Ht1]; · iexact Ht1
      iexact Ht2
    iexact Hr
  isplitl [HO]; · iexact HO
  isplitl [H3]; · iexact H3
  isplitl [H4]; · iexact H4
  isplitl [H5]; · iexact H5
  isplitl [H6]; · iexact H6
  iexact H8

end Step

/-! ## The proof data -/

/-- The pipeline's proof data on device `c`: the arrays as the call finds them, each block read left in place, the result's
    block the step's. -/
def dats (_ : Fin 1) (c : Dev nD) : Dat τ (Elt F) Unit ℕ (Pipeline.UD sig nD τ) ℕ (cfgm m) c where
  A w := V m c (Pipeline.arrRef spec0 w)
  after w t := match w with
    | ⟨0, _⟩ => xblk (V m c main_arg2) t.val
    | ⟨1, _⟩ => rblk (V m c main_arg3) t.val
    | ⟨2, _⟩ => V m c main_arg4
    | ⟨3, _⟩ => V m c main_arg5
    | ⟨4, _⟩ => outOf m c t.val
  Φ _ := PhiS m c
  q _ := fullShare
  owed _ := 0

theorem A_eq (c : Dev nD) (w : Fin (cfgm m).W) : (dats m 0 c).A w = V m c (Pipeline.arrRef spec0 w) := by dsimp only [dats]
theorem after_0 (c : Dev nD) (t : Fin (cfgm m).N) : (dats m 0 c).after 0 t = xblk (V m c main_arg2) t.val := rfl
theorem after_1 (c : Dev nD) (t : Fin (cfgm m).N) : (dats m 0 c).after 1 t = rblk (V m c main_arg3) t.val := rfl
theorem after_2 (c : Dev nD) (t : Fin (cfgm m).N) : (dats m 0 c).after 2 t = V m c main_arg4 := rfl
theorem after_3 (c : Dev nD) (t : Fin (cfgm m).N) : (dats m 0 c).after 3 t = V m c main_arg5 := rfl
theorem after_4 (c : Dev nD) (t : Fin (cfgm m).N) : (dats m 0 c).after 4 t = outOf m c t.val := rfl

/-- A fetch of the residual stream's block. -/
theorem fetched_0 (c : Dev nD) (t : Fin (cfgm m).N) (d) : (dats m 0 c).fetched 0 t d = xblk (V m c main_arg2) t.val :=
  fill0 m t (V m c main_arg2) d
theorem blockOf_1 (c : Dev nD) (t : Fin (cfgm m).N) : (dats m 0 c).blockOf 1 t = rblk (V m c main_arg3) t.val := read1 m t (V m c main_arg3)
theorem blockOf_2 (c : Dev nD) (t : Fin (cfgm m).N) : (dats m 0 c).blockOf 2 t = V m c main_arg4 := read2 m t (V m c main_arg4)
theorem blockOf_3 (c : Dev nD) (t : Fin (cfgm m).N) : (dats m 0 c).blockOf 3 t = V m c main_arg5 := read3 m t (V m c main_arg5)

theorem before_0 (c : Dev nD) (t : Fin (cfgm m).N) (d) : (dats m 0 c).before 0 t d = xblk (V m c main_arg2) t.val :=
  ((dats m 0 c).before_in_eq_fetched 0 rfl (fun _ => rfl)
    (fun t t' _ => funext fun a => (clip_none m t a).trans (clip_none m t' a).symm)
    (fun t => (congrArg _ (fetched_0 m c t d).symm).trans ((dats m 0 c).cut_fetched 0 t d)) t d).trans (fetched_0 m c t d)
theorem before_1 (c : Dev nD) (t : Fin (cfgm m).N) (d) : (dats m 0 c).before 1 t d = rblk (V m c main_arg3) t.val :=
  ((dats m 0 c).before_in_eq_fetched 1 rfl (fun _ => rfl) (fun _ _ _ => rfl) (fun t => (blockOf_1 m c t).symm) t d).trans (blockOf_1 m c t)
theorem before_2 (c : Dev nD) (t : Fin (cfgm m).N) (d) : (dats m 0 c).before 2 t d = V m c main_arg4 :=
  ((dats m 0 c).before_in_eq_fetched 2 rfl (fun _ => rfl) (fun _ _ _ => rfl) (fun t => (blockOf_2 m c t).symm) t d).trans (blockOf_2 m c t)
theorem before_3 (c : Dev nD) (t : Fin (cfgm m).N) (d) : (dats m 0 c).before 3 t d = V m c main_arg5 :=
  ((dats m 0 c).before_in_eq_fetched 3 rfl (fun _ => rfl) (fun _ _ _ => rfl) (fun t => (blockOf_3 m c t).symm) t d).trans (blockOf_3 m c t)

/-! ## The body obligation -/

/-- The body at point `t`. -/
abbrev bodyAt (t : Fin (cfgm m).N) : Prog (TpuEff nD τ sig (Elt F) Λ₀ .tc) PUnit :=
  cc0_combine_ln (F := F) (grid0.coords t) Fst.iM (Memref.isWhole_whole _) Snd.iM (Memref.isWhole_whole _)
    (spec0_0.stage ((cfgm m).slots t 0)) (hstage0_0 (((cfgm m).slots t 0).cast nbuf0_0))
    (spec0_1.stage ((cfgm m).slots t 1)) (hstage0_1 (((cfgm m).slots t 1).cast nbuf0_1))
    (spec0_2.stage ((cfgm m).slots t 2)) (hstage0_2 (((cfgm m).slots t 2).cast nbuf0_2))
    (spec0_3.stage ((cfgm m).slots t 3)) (hstage0_3 (((cfgm m).slots t 3).cast nbuf0_3))
    yM (Memref.isWhole_whole _)
    (spec0_4.stage ((cfgm m).slots t 4)) (hstage0_4 (((cfgm m).slots t 4).cast nbuf0_4))
    Fst.bM (Memref.isWhole_whole _) Snd.bM (Memref.isWhole_whole _) cc0_scratch2

theorem defs₀_row (t : Fin (cfgm m).N) :
    defs₀ (F := F) .tc (cfgm m).body ((cfgm m).bodyArgs t ((cfgm m).slots t)) = bodyAt m t := by
  unfold defs₀; rw [Defs.onTc_tc]

def bodyPre (c : Dev nD) (t : Fin (cfgm m).N) : sProp 𝕄 :=
  iprop((dats m 0 c).Φ t.castSucc ∗ (dats m 0 c).owesAt () t.castSucc
    ∗ (∃ d, owns (c : Thread nD τ) (spec0_0.stage ((cfgm m).slots t 0)) fullShare ((dats m 0 c).before 0 t d))
    ∗ (∃ d, owns (c : Thread nD τ) (spec0_1.stage ((cfgm m).slots t 1)) fullShare ((dats m 0 c).before 1 t d))
    ∗ (∃ d, owns (c : Thread nD τ) (spec0_2.stage ((cfgm m).slots t 2)) fullShare ((dats m 0 c).before 2 t d))
    ∗ (∃ d, owns (c : Thread nD τ) (spec0_3.stage ((cfgm m).slots t 3)) fullShare ((dats m 0 c).before 3 t d))
    ∗ (∃ d, owns (c : Thread nD τ) (spec0_4.stage ((cfgm m).slots t 4)) fullShare ((dats m 0 c).before 4 t d)))
def bodyPost (c : Dev nD) (t : Fin (cfgm m).N) : sProp 𝕄 :=
  iprop((dats m 0 c).Φ t.succ ∗ (dats m 0 c).owesAt () t.succ
    ∗ owns (c : Thread nD τ) (spec0_0.stage ((cfgm m).slots t 0)) fullShare ((dats m 0 c).after 0 t)
    ∗ owns (c : Thread nD τ) (spec0_1.stage ((cfgm m).slots t 1)) fullShare ((dats m 0 c).after 1 t)
    ∗ owns (c : Thread nD τ) (spec0_2.stage ((cfgm m).slots t 2)) fullShare ((dats m 0 c).after 2 t)
    ∗ owns (c : Thread nD τ) (spec0_3.stage ((cfgm m).slots t 3)) fullShare ((dats m 0 c).after 3 t)
    ∗ owns (c : Thread nD τ) (spec0_4.stage ((cfgm m).slots t 4)) fullShare ((dats m 0 c).after 4 t))

variable (hT : Ok m)

include hT in
theorem sound_body (c : Dev nD) (t : Fin (cfgm m).N) :
    bodyPre m c t ⊢ wp frame (wpE (defs₀ (F := F)) Variants.none c none) Set.univ (bodyAt m t) (fun _ => bodyPost m c t) := by
  unfold bodyPre bodyPost
  rw [after_0, after_1, after_2, after_3, after_4]
  rw [show (dats m 0 c).Φ t.castSucc = PhiS m c from rfl, show (dats m 0 c).Φ t.succ = PhiS m c from rfl]
  unfold Dat.owesAt Pipeline.owesWithin
  rw [show (dats m 0 c).owed t.castSucc = 0 from rfl, show (dats m 0 c).owed t.succ = 0 from rfl]
  iintro ⟨HΦ, ⟨%W, -, HW⟩, ⟨%d0, H0⟩, ⟨%d1, H1⟩, ⟨%d2, H2⟩, ⟨%d3, H3⟩, ⟨%d4, H4⟩⟩
  rw [before_0, before_1, before_2, before_3]
  have hs := step_inv m c (hT c) (grid0.coords t) (Memref.isWhole_whole _) (Memref.isWhole_whole _)
    (spec0_0.stage ((cfgm m).slots t 0)) (hstage0_0 (((cfgm m).slots t 0).cast nbuf0_0))
    (spec0_1.stage ((cfgm m).slots t 1)) (hstage0_1 (((cfgm m).slots t 1).cast nbuf0_1))
    (spec0_2.stage ((cfgm m).slots t 2)) (hstage0_2 (((cfgm m).slots t 2).cast nbuf0_2))
    (spec0_3.stage ((cfgm m).slots t 3)) (hstage0_3 (((cfgm m).slots t 3).cast nbuf0_3))
    (Memref.isWhole_whole _)
    (spec0_4.stage ((cfgm m).slots t 4)) (hstage0_4 (((cfgm m).slots t 4).cast nbuf0_4))
    (Memref.isWhole_whole _) (Memref.isWhole_whole _) ((dats m 0 c).before 4 t d4)
  rw [coords_val] at hs
  iapply wp_mono _ _ _ ?_
  swap
  · iapply hs
    isplitl [HΦ]; · iexact HΦ
    isplitl [HW]; · iexists W; iexact HW
    isplitl [H0]; · iexact H0
    isplitl [H1]; · iexact H1
    isplitl [H2]; · iexact H2
    isplitl [H3]; · iexact H3
    iexact H4
  intro _
  iintro ⟨HΦ, ⟨%W', HW'⟩, H0, H1, H2, H3, H4⟩
  isplitl [HΦ]; · iexact HΦ
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  iexact H4

include hT in
theorem body_obligation (c : Dev nD) : BodyObligation (dats m 0 c) (defs₀ (F := F)) Variants.none () Set.univ := fun t => by
  rw [bigSep_W0, bigSep_W0, defs₀_row]
  exact triple_restated (sound_body m hT c t) rfl .rfl fun _ => .rfl

/-! ## The run -/

/-- The two gathers' copy semaphores. -/
abbrev osem0 : Fin 2 → SemLoc sig := fun j => (![SemLoc.dma 8, SemLoc.dma 9] : Fin 2 → SemLoc sig) j
omit [FloatOps F] in
theorem ownSemFacts0 : Pipeline.OwnSemFacts spec0 osem0 := by decide
/-- The one array the body's copies read. -/
def H0 : Finset (Ref sig .tc) := {main_arg6}
omit [FloatOps F] in
theorem H0_sub : H0 ⊆ Pipeline.restRefsP sig pre0 spec0 := by decide

theorem ownSems_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 8) 0 ∗ semVal ((c : Thread nD τ), SemLoc.dma 9) 0) := by
  rw [Pipeline.ownSems0_eq_of_list c osem0 [0, 1] (by decide) (by decide)]; rfl

theorem read_eq (c : Dev nD) :
    (bigSep H0 (fun b => ((c : Thread nD τ).loc b) ↦{fullShare} V m c b) : sProp 𝕄)
      = iprop(((c : Thread nD τ).loc main_arg6) ↦{fullShare} yOf m c) := by
  rw [BI.bigSep_eq_bigSepL_of_eq [main_arg6] (by decide) (by decide)]; rfl

/-- The invariant's tables are the launch's. -/
theorem tabs_eq (c : Dev nD) : (Pipeline.ΦT pre0 (pf m) c : sProp 𝕄) = tabs m c := by
  obtain rfl := dev_zero c
  unfold Pipeline.ΦT Pipeline.prefHeld
  exact bigSep_univ_eq_bigSepL [(0 : Fin 2), (1 : Fin 2)] (by decide) (by decide) _

theorem hin (c : Dev nD) : iprop(Pipeline.ΦD osem0 spec0 H0 (V m) c ∗ Pipeline.ΦT pre0 (pf m) c) ⊢ (PhiS m c : sProp 𝕄) := by
  rw [tabs_eq, Pipeline.ΦD_eq, scopedRest0_eq, ownSems_eq, read_eq]
  unfold PhiS
  iintro ⟨⟨⟨⟨%f0, S0⟩, ⟨%f1, S1⟩⟩, Hr, ⟨Q0, Q1⟩, HX⟩, HT⟩
  ihave HS := (rest_split c (yOf m c) f0 f1) $$ [S0 S1 HX Q0 Q1]
  · isplitl [S0]; · iexact S0
    isplitl [S1]; · iexact S1
    isplitl [HX]; · iexact HX
    isplitl [Q0]; · iexact Q0
    iexact Q1
  icases HS with ⟨I0, I1, Hs⟩
  isplitl [I0]; · iexact I0
  isplitl [I1]; · iexact I1
  isplitl [Hs]; · iexact Hs
  isplitl [HT]; · iexact HT
  iexact Hr

theorem hout (c : Dev nD) : (PhiS m c : sProp 𝕄) ⊢ Pipeline.ΦD osem0 spec0 H0 (V m) c := by
  rw [Pipeline.ΦD_eq, scopedRest0_eq, ownSems_eq, read_eq]
  unfold PhiS
  iintro ⟨I0, I1, Hs, -, Hr⟩
  ihave HS := (rest_join c (yOf m c)) $$ [I0 I1 Hs]
  · isplitl [I0]; · iexact I0
    isplitl [I1]; · iexact I1
    iexact Hs
  icases HS with ⟨S0, S1, HX, Q0, Q1⟩
  isplitl [S0 S1]
  · isplitl [S0]; · iexact S0
    iexact S1
  isplitl [Hr]; · iexact Hr
  isplitl [Q0 Q1]
  · isplitl [Q0]; · iexact Q0
    iexact Q1
  iexact HX

theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_region pcfgs 0 defs₀ 𝒱₀ m main fun c => (main_chain c).trans rfl

omit [FloatOps F] in
theorem tables_held (c : Dev nD) (k : Fin pre0.K) : V m c (pre0.ref k) = pf m k := by
  obtain rfl := dev_zero c
  rfl

set_option backward.isDefEq.respectTransparency.types false in
include hT in
/-- The whole call's run: every window's array is what the proof data say, all else is unchanged, and no semaphore is held. -/
theorem run_main : θ_run defs (onTc (τ := τ) (main (F := F))) (s₀ m ρ)
    (fun r => Pipeline.FramePost (Pipeline.pin (pcfgs (F := F)) (adm m)) (dats m) 0 (V m) r ∧ r.2.sem = fun _ => 0) :=
  Pipeline.θ_run_frameP_dma (Q' := _) pcfgs (adm m) (dats m) (0 : Fin 1) launch0 osem0 defs₀ Variants.none ownSemFacts0 H0 H0_sub m ρ main
    (hbody := fun c => (body_obligation m hT c).loose) (hshare := fun c => (dats m 0 c).share_full fun _ => rfl)
    (howed := fun _ _ => rfl) (V := V m) (hmain := hmain m Variants.none) (hA := A_eq m)
    (hpf := fun c k => tables_held m c k) (hin := fun c => hin m c) (hout := fun c => hout m c)

theorem unstaged (b : Ref sig .tc) (h : b ∈ Pipeline.restRefs sig spec0) : b ∈ Pipeline.restRefs sig (Pipeline.pin (pcfgs (F := F)) (adm m) 0).spec := h

include hT in
/-- The call's frame, with its result: the arguments are as before, no semaphore is held, and the result is what the proof data say. -/
theorem run_result : θ_run defs (onTc (τ := τ) (main (F := F))) ⟨m, fun _ => 0, ρ⟩ (fun r => (∀ c : Dev nD,
      r.2.mem ((c.tc : Thread nD τ).loc main_v0) = (dats m 0 c).arrAt 4 (cfgm m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(h.1 c).1 4,
      (h.1 c).2 main_arg0 (unstaged m main_arg0 (by decide)),
      (h.1 c).2 main_arg1 (unstaged m main_arg1 (by decide)),
      ((h.1 c).1 0).trans ((dats m 0 c).arrAt_in 0 rfl _),
      ((h.1 c).1 1).trans ((dats m 0 c).arrAt_in 1 rfl _),
      ((h.1 c).1 2).trans ((dats m 0 c).arrAt_in 2 rfl _),
      ((h.1 c).1 3).trans ((dats m 0 c).arrAt_in 3 rfl _),
      (h.1 c).2 main_arg6 (unstaged m main_arg6 (by decide))⟩, h.2⟩) (run_main m ρ hT)

end Cert.Proof.Comb
end
-- ==== Proof.CombBits.lean ====
/- The combination's program at the bit instance is its program at the ideal instance's text, read over the bits: one run serves both frames. -/
module
public import proofs.«01_k».proof.Defs
public import proofs.«01_k».proof.Proof.CombFrame
public import proofs.«01_k».proof.Proof.Gen.Kernel18
@[expose] public section
noncomputable section
namespace Cert.Proof.Comb
open Idealize.ShloMosaic Idealize.ShloMosaic.TcCoe Idealize.SL.Sem

/-- The programs agree part by part: the copies and the first weighted rows, -/
theorem same_part1 : @Cert.Kernel18.k0_part1 Bits _ = @Cert.Kernel18Ideal.k0_part1 Bits _ := rfl
/-- the second expert's rows, -/
theorem same_part2 : @Cert.Kernel18.k0_part2 Bits _ _ = @Cert.Kernel18Ideal.k0_part2 Bits _ _ := rfl
/-- the sum with the residual stream, -/
theorem same_part3 : @Cert.Kernel18.k0_part3 Bits _ _ = @Cert.Kernel18Ideal.k0_part3 Bits _ _ := rfl
/-- the whole body, -/
theorem same_body : @Cert.Kernel18.cc0_combine_ln Bits _ _ = @Cert.Kernel18Ideal.cc0_combine_ln Bits _ _ := by
  unfold Cert.Kernel18.cc0_combine_ln Cert.Kernel18Ideal.cc0_combine_ln
  rw [same_part1, same_part2, same_part3]
  rfl
/-- the host program, -/
theorem same_main : @Cert.Kernel18.main Bits _ _ = @Cert.Kernel18Ideal.main Bits _ _ := rfl
/-- the body table, -/
theorem same_table : @Cert.Kernel18.defs₀ Bits _ _ = @Cert.Kernel18Ideal.defs₀ Bits _ _ := by
  unfold Cert.Kernel18.defs₀ Cert.Kernel18Ideal.defs₀
  rw [same_body]
  refine congrArg Defs.onTc (funext fun x => funext fun y => ?_)
  match x, y with
  | ⟨0, _⟩, (t, s) => rfl
  | ⟨n + 1, h⟩, _ => exact absurd h (Nat.not_lt.2 (Nat.le_add_left _ _))
/-- and the whole table with the pipeline. -/
theorem same_defs : @Cert.Kernel18.defs Bits _ _ = @Cert.Kernel18Ideal.defs Bits _ _ := by
  unfold Cert.Kernel18.defs Cert.Kernel18Ideal.defs
  rw [same_table]
  rfl
/-- The two runs are one. -/
theorem same_run (m : (ℓ : Loc Cert.Kernel18.nD Cert.Kernel18.τ Cert.Kernel18.sig) → Buf (Elt Bits) ℓ) (g : Dev Cert.Kernel18.nD → PrngReg) :
    θ_run (Cert.Kernel18.defs (F := Bits)) (onTc (τ := Cert.Kernel18.τ) (Cert.Kernel18.main (F := Bits))) ⟨m, fun _ => 0, g⟩
      = θ_run (Cert.Kernel18Ideal.defs (F := Bits)) (onTc (τ := Cert.Kernel18.τ) (Cert.Kernel18Ideal.main (F := Bits))) ⟨m, fun _ => 0, g⟩ := by
  rw [same_defs, same_main]
  rfl
end Cert.Proof.Comb
end
-- ==== Proof.CombMath.lean ====
/-
  The mathematics of the combination: a token's residual row and the outputs of its two experts, mixed with the routing's weights, then normalised.
-/
module

public import proofs.«01_k».proof.Defs
public import Idealize.ShloMosaic.Lib.Pointwise

@[expose] public section

noncomputable section

namespace Cert.Proof.Comb

open Cert.Kernel18Ideal
open Idealize.ShloMosaic

/-- Column `d` of token `v` of the residual stream, laid out sixteen rows of 128 a token. -/
def token (X : S133120x128.Idx → EReal) (v : ℕ) (d : Fin 2048) : EReal :=
  X (ix2 ⟨(16 * v + d.val / 128) % 133120, Nat.mod_lt _ (by omega)⟩ ⟨d.val % 128, Nat.mod_lt _ (by omega)⟩)

/-- Column `d` of slot `s` of the experts' outputs, laid out the same way. -/
def expert (Y : S397312x128.Idx → EReal) (s : ℕ) (d : Fin 2048) : EReal :=
  Y (ix2 ⟨(16 * s + d.val / 128) % 397312, Nat.mod_lt _ (by omega)⟩ ⟨d.val % 128, Nat.mod_lt _ (by omega)⟩)

/-- The scaled residual plus the two weighted outputs. -/
def blend (w₁ w₂ x y₁ y₂ : EReal) : EReal := Ideal.ofBits .f32 0x3F9837F0#32 * x + (w₁ * y₁ + w₂ * y₂)

/-- The mean of a row. -/
def mean (z : Fin 2048 → EReal) : EReal := Ideal.div (∑ k, z k) (Ideal.ofBits .f32 0x45000000#32)

/-- The row's layer norm with gains `g` and offsets `b`. -/
def norm (z g b : Fin 2048 → EReal) (o : Fin 2048) : EReal :=
  (z o - mean z) * Ideal.rsqrt (mean (fun k => (z k - mean z) * (z k - mean z)) + Ideal.ofBits .f32 0x3727C5AC#32) * g o + b o

/-- Entry `(n, o)` of the result: token `n`'s blend with the slots the two tables name, normalised. -/
def combined (p₁ p₂ : S8320.Idx → BitVec 32) (X : S133120x128.Idx → EReal) (R : S8192x128.Idx → EReal) (g b : S1x2048.Idx → EReal)
    (Y : S397312x128.Idx → EReal) (n : Fin 8192) (o : Fin 2048) : EReal :=
  norm (fun d => blend (R (ix2 n 2)) (R (ix2 n 3)) (token X n.val d) (expert Y (p₁ (ix1 ⟨n.val, by omega⟩)).toNat d) (expert Y (p₂ (ix1 ⟨n.val, by omega⟩)).toNat d))
    (fun d => g (ix2 0 d)) (fun d => b (ix2 0 d)) o

end Cert.Proof.Comb

end
-- ==== Proof.CombValue.lean ====
/-
  What the combine kernel computes, read index by index: a block's sixteen groups of rows side by side are its tokens' rows, their blend
  is normalised row by row, and the blocks make up the result.
-/
module

public import proofs.«01_k».proof.Defs
public import proofs.«01_k».proof.Proof.CombFrame
public import proofs.«01_k».proof.Proof.CombMath
public import Idealize.ShloMosaic.Lib.Pipeline.Value
public import Idealize.ShloMosaic.Lib.Pointwise

@[expose] public section

set_option maxRecDepth 16384

noncomputable section

namespace Cert.Proof.Comb

open Cert.Kernel18Ideal Cert.Kernel18Ideal.Gen
open Idealize.ShloMosaic Idealize.ShloMosaic.TcCoe

/-- Sixteen groups of 128 columns side by side. -/
def side (P : Fin 16 → FVec Ideal S256x128 .f32) : FVec Ideal S256x2048 .f32 :=
  concatenate S256x2048 1 [⟨S256x128, P 0⟩, ⟨S256x128, P 1⟩, ⟨S256x128, P 2⟩, ⟨S256x128, P 3⟩, ⟨S256x128, P 4⟩, ⟨S256x128, P 5⟩, ⟨S256x128, P 6⟩, ⟨S256x128, P 7⟩, ⟨S256x128, P 8⟩, ⟨S256x128, P 9⟩, ⟨S256x128, P 10⟩, ⟨S256x128, P 11⟩, ⟨S256x128, P 12⟩, ⟨S256x128, P 13⟩, ⟨S256x128, P 14⟩, ⟨S256x128, P 15⟩] concatenates_S256x128_S256x128_S256x128_S256x128_S256x128_S256x128_S256x128_S256x128_S256x128_S256x128_S256x128_S256x128_S256x128_S256x128_S256x128_S256x128_S256x2048_d1

theorem side_apply (P : Fin 16 → FVec Ideal S256x128 .f32) (r : Fin 256) (d : Fin 2048) :
    side P (ix2 r d) = P ⟨d.val / 128, by omega⟩ (ix2 r ⟨d.val % 128, Nat.mod_lt _ (by omega)⟩) :=
  concatenate_ofFn_apply (1 : Fin S256x2048.rank) P concatenates_S256x128_S256x128_S256x128_S256x128_S256x128_S256x128_S256x128_S256x128_S256x128_S256x128_S256x128_S256x128_S256x128_S256x128_S256x128_S256x128_S256x2048_d1 rfl 128 rfl (ix2 r d)
    ⟨d.val / 128, by omega⟩ rfl (ix2 r ⟨d.val % 128, Nat.mod_lt _ (by omega)⟩) rfl fun b hb => by
      match b with
      | ⟨0, _⟩ => rfl
      | ⟨1, _⟩ => exact absurd rfl hb

/-- A weight's column times the rows. -/
def weigh (w : FVec Ideal S256x1 .f32) (A : FVec Ideal S256x2048 .f32) : FVec Ideal S256x2048 .f32 :=
  mulf (broadcastTo S256x2048 w broadcasts_S256x1_S256x2048) A

theorem weigh_apply (w A) (r : Fin 256) (d : Fin 2048) : weigh w A (ix2 r d) = w (ix2 r 0) * A (ix2 r d) := by
  pointwise [weigh]

/-- The scaled residual plus the two weighted rows. -/
def total (X A B : FVec Ideal S256x2048 .f32) : FVec Ideal S256x2048 .f32 :=
  addf (mulf (broadcast S256x2048 (Scalar.ofBits .f32 0x3F9837F0#32)) X) (addf A B)

theorem total_apply (X A B) (r : Fin 256) (d : Fin 2048) :
    total X A B (ix2 r d) = Ideal.ofBits .f32 0x3F9837F0#32 * X (ix2 r d) + (A (ix2 r d) + B (ix2 r d)) := by
  pointwise [total]

theorem pay2_eq (w : FVec Ideal S256x1 .f32) (P : Fin 16 → FVec Ideal S256x128 .f32) :
    k0_pay2 w (P 0) (P 1) (P 2) (P 3) (P 4) (P 5) (P 6) (P 7) (P 8) (P 9) (P 10) (P 11) (P 12) (P 13) (P 14) (P 15) = weigh w (side P) := rfl

theorem pay3_eq (w : FVec Ideal S256x1 .f32) (A : FVec Ideal S256x2048 .f32) (P : Fin 16 → FVec Ideal S256x128 .f32) (X : FVec Ideal S256x2048 .f32) :
    k0_pay3 w A (P 0) (P 1) (P 2) (P 3) (P 4) (P 5) (P 6) (P 7) (P 8) (P 9) (P 10) (P 11) (P 12) (P 13) (P 14) (P 15) X = total X A (weigh w (side P)) := rfl

/-- The last payload is the layer norm of each row. -/
theorem pay1_apply (Z : FVec Ideal S256x2048 .f32) (g b : FVec Ideal S1x2048 .f32) (r : Fin 256) (o : Fin 2048) :
    k0_pay1 Z g b (ix2 r o) = norm (fun d => Z (ix2 r d)) (fun d => g (ix2 0 d)) (fun d => b (ix2 0 d)) o := by
  unfold norm mean
  pointwise [k0_pay1]

variable (p₁ p₂ : S8320.Idx → BitVec 32) (Y : S397312x128.Idx → EReal)

/-- Row `r` of block `t`'s gather is the row of the slot its token's entry names. -/
theorem gather_side (p : S8320.Idx → BitVec 32) (t : ℕ) (r : Fin 256) (d : Fin 2048) :
    side (fun g => (gath (F := Ideal) p Y t g.val : FVec Ideal S256x128 .f32)) (ix2 r d) = expert Y (slot p (256 * t + r.val)) d := by
  rw [side_apply]
  rfl

/-- The residual's rows of a block. -/
theorem stream_apply (X : S133120x128.Idx → EReal) (t : ℕ) (r : Fin 256) (d : Fin 2048) :
    stream (F := Ideal) (xblk (F := Ideal) X t) (ix2 r d) = token X (256 * t + r.val) d := by
  have h : stream (F := Ideal) (xblk (F := Ideal) X t) = side fun g => (cols (F := Ideal) (xblk (F := Ideal) X t) g.val : FVec Ideal S256x128 .f32) := rfl
  rw [h, side_apply]
  show X (ix2 ⟨(4096 * t + (16 * r.val + d.val / 128) % 4096) % 133120, _⟩ ⟨d.val % 128, _⟩) = X (ix2 ⟨(16 * (256 * t + r.val) + d.val / 128) % 133120, _⟩ ⟨d.val % 128, _⟩)
  exact congrArg (fun q : Fin 133120 => X (ix2 q ⟨d.val % 128, Nat.mod_lt _ (by omega)⟩)) (Fin.ext (by dsimp only; omega))

/-- The blend of a block's row. -/
theorem summed_apply (X : S133120x128.Idx → EReal) (R : S256x128.Idx → EReal) (t : ℕ) (r : Fin 256) (d : Fin 2048) :
    summed (F := Ideal) p₁ p₂ Y t (xblk (F := Ideal) X t) R (ix2 r d)
      = blend (R (ix2 r 2)) (R (ix2 r 3)) (token X (256 * t + r.val) d) (expert Y (slot p₁ (256 * t + r.val)) d) (expert Y (slot p₂ (256 * t + r.val)) d) := by
  have h : summed (F := Ideal) p₁ p₂ Y t (xblk (F := Ideal) X t) R
      = total (stream (F := Ideal) (xblk (F := Ideal) X t)) (weigh (wcol (F := Ideal) R 2) (side fun g => (gath (F := Ideal) p₁ Y t g.val : FVec Ideal S256x128 .f32)))
        (weigh (wcol (F := Ideal) R 3) (side fun g => (gath (F := Ideal) p₂ Y t g.val : FVec Ideal S256x128 .f32))) := rfl
  rw [h, total_apply, weigh_apply, weigh_apply, gather_side, gather_side, stream_apply]
  rfl

variable (m : (ℓ : Loc nD τ sig) → Buf (Elt Ideal) ℓ)

/-- The result of the whole call. -/
def result (c : Dev nD) : S8192x2048.Idx → EReal := fun y =>
  combined (p1Of m c) (p2Of m c) (V m c main_arg2) (V m c main_arg3) (V m c main_arg4) (V m c main_arg5) (yOf m c) (y 0) (y 1)

/-- Block `t` is rows `256 t …` of the result. -/
theorem outOf_apply (c : Dev nD) (t : ℕ) (ht : t < 32) (r : Fin 256) (o : Fin 2048) :
    outOf (F := Ideal) m c t (ix2 r o) = result m c (ix2 ⟨256 * t + r.val, by omega⟩ o) := by
  unfold outOf stepOut
  rw [pay1_apply]
  show _ = combined (p1Of m c) (p2Of m c) (V m c main_arg2) (V m c main_arg3) (V m c main_arg4) (V m c main_arg5) (yOf m c) ⟨256 * t + r.val, by omega⟩ o
  unfold combined
  have hs : ∀ p : S8320.Idx → BitVec 32, slot p (256 * t + r.val) = (p (ix1 ⟨256 * t + r.val, by omega⟩)).toNat := fun p =>
    congrArg (fun q : Fin 8320 => (p (ix1 q)).toNat) (Fin.ext (Nat.mod_eq_of_lt (by omega)))
  have hR : ∀ (A : S8192x128.Idx → EReal) (k : Fin 128), rblk (F := Ideal) A t (ix2 r k) = A (ix2 ⟨256 * t + r.val, by omega⟩ k) := fun A k =>
    congrArg (fun q : Fin 8192 => A (ix2 q k)) (Fin.ext (Nat.mod_eq_of_lt (show 256 * t + r.val < 8192 by omega)))
  congr 1
  funext d
  rw [summed_apply, hs, hs, hR, hR]

theorem flush4 : ∀ t : Fin (cfgm m).N, ((cfgm m).win 4).flush t = true :=
  (fun t => (Pipeline.Window.flush_reads ((cfgm m).win 4) rfl (0 : Fin grid0.rank) (by decide : 1 < grid0.bound 0) (by decide : grid0.fixedAfter reads0_4 0 = true) (Pipeline.Window.sep_of_coord cc0_transform_5 0 0 (fun _ => rfl) (by decide)) (P := 1) (m := 0) (by decide : grid0.stride 0 = 1) rfl t).mpr (Nat.mod_one _) : ∀ t : Fin grid0.N, ((cfgm m).win 4).flush t = true)

theorem emb4 (t : Fin (cfgm m).N) (p : Fin 256) (j : Fin 2048) :
    (((cfgm m).win 4).blk t).view.emb (ix2 p j) = (ix2 ⟨256 * t.val + p.val, by have : t.val < 32 := lt_of_lt_of_eq t.isLt N_0; omega⟩ j : S8192x2048.Idx) := by
  have e := t5_eq (grid0.coords t)
  rw [coords_val] at e
  funext a; apply Fin.ext
  match a with
  | ⟨0, _⟩ => show cc0_transform_5 (grid0.coords t) 0 * 256 + 1 * p.val = 256 * t.val + p.val; rw [e]; show t.val * 256 + 1 * p.val = _; omega
  | ⟨1, _⟩ => show cc0_transform_5 (grid0.coords t) 1 * 2048 + 1 * j.val = j.val; rw [e]; show 0 * 2048 + 1 * j.val = _; omega

theorem flushed4_eq (c : Dev nD) (t : Fin (cfgm m).N) (hf : ((cfgm m).win 4).flush t = true) :
    (dats m 0 c).flushed 4 t = (((cfgm m).win 4).blk t).view.read (Elt Ideal) (result m c) := by
  refine funext fun (y : S256x2048.Idx) => ?_
  obtain ⟨p, j, rfl⟩ : ∃ (p : Fin 256) (j : Fin 2048), y = ix2 p j := ⟨y 0, y 1, eq_ix2 y⟩
  show outOf m c t.val (ix2 p j) = result m c ((((cfgm m).win 4).blk t).view.emb (ix2 p j))
  rw [emb4, outOf_apply m c t.val (lt_of_lt_of_eq t.isLt N_0)]

/-- The result buffer at the end. -/
theorem result_eq (c : Dev nD) : (dats m 0 c).arrAt 4 (cfgm m).N = result m c :=
  (dats m 0 c).arrAt_eq_of_cover 4 (result m c) (flushed4_eq m c) fun (i : S8192x2048.Idx) => by
    have h0 : (i 0).val < 8192 := (i 0).isLt
    let t : Fin (cfgm m).N := ⟨(i 0).val / 256, lt_of_lt_of_eq (show _ < 32 by omega) N_0.symm⟩
    refine ⟨t, flush4 m t, ?_⟩
    have e : i = (((cfgm m).win 4).blk t).view.emb (ix2 ⟨(i 0).val % 256, Nat.mod_lt _ (by omega)⟩ (i 1)) := by
      refine Eq.trans ?_ (emb4 m t ⟨(i 0).val % 256, Nat.mod_lt _ (by omega)⟩ (i 1)).symm
      refine (eq_ix2 i).trans ?_
      congr 1
      exact Fin.ext (Nat.div_add_mod _ _).symm
    rw [e]
    exact View.emb_mem_set _ _

end Cert.Proof.Comb

end
-- ==== Proof.CombRef.lean ====
/-
  What the combination's reference computes, read index by index: the slots' rows gathered, blended with the residual row and normalised.
-/
module

public import proofs.«01_k».proof.Defs
public import proofs.«01_k».proof.Proof.CombMath
public import proofs.«01_k».proof.Proof.MoeRef
public import proofs.«01_k».proof.Proof.Gen.Reference18Ideal
public import Idealize.ShloMosaic.Lib.Pointwise

@[expose] public section

set_option maxRecDepth 16384

noncomputable section

namespace Cert.Proof.Comb

open Cert.Reference18Ideal Cert.Reference18Ideal.Gen
open Idealize.ShloMosaic

/-- The rows gathered: at token `n`, the row its start index names. -/
theorem gather_apply (x : FVec Ideal S24832x2048 .f32) (idx : IVec S8192x1 32) (n : Fin 8192) (o : Fin 2048) (h0 : (idx (ix2 n 0)).toNat < 24832) :
    Host.gather gather_S24832x2048_S8192x1_S8192x2048_1_0_n_n_0_1_12048 x idx (ix2 n o) = x (ix2 ⟨(idx (ix2 n 0)).toNat, h0⟩ o) := by
  have key : ∀ w : BitVec 32, w.toNat < 24832 → min w.toInt.toNat (24832 - 1) = w.toNat := by
    intro w h
    have : w.toInt = (w.toNat : ℤ) := by rw [BitVec.toInt_eq_toNat_cond]; split <;> omega
    rw [this]; omega
  unfold Host.gather
  refine congrArg x (funext fun a => Fin.ext ?_)
  show GatherDims.start gather_S24832x2048_S8192x1_S8192x2048_1_0_n_n_0_1_12048 (ix2 n o) idx a + GatherDims.batchCoord gather_S24832x2048_S8192x1_S8192x2048_1_0_n_n_0_1_12048 (ix2 n o) a + GatherDims.offCoord gather_S24832x2048_S8192x1_S8192x2048_1_0_n_n_0_1_12048 (ix2 n o) a = _
  rw [GatherDims.batchCoord_eq_zero gather_S24832x2048_S8192x1_S8192x2048_1_0_n_n_0_1_12048 _ a List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (by decide))]
    unfold GatherDims.start
    rw [dif_pos (by decide)]
    refine Eq.trans ?_ (key (idx (ix2 n 0)) h0)
    have e : GatherDims.siIdx gather_S24832x2048_S8192x1_S8192x2048_1_0_n_n_0_1_12048 (ix2 n o) ⟨0, by decide⟩ = ix2 n 0 := by
      funext b; match b with
      | ⟨0, _⟩ => rfl
      | ⟨1, _⟩ => rfl
    exact congrArg (fun q => min (idx q).toInt.toNat (24832 - 1)) e
  · unfold GatherDims.start
    rw [dif_neg (by decide)]
    unfold GatherDims.offCoord
    rw [dif_pos (by decide)]
    simp only [Nat.zero_add]
    rfl

/-- A table's entries for the prompt as start indices, negative numbers read from the end. -/
def refSlot (p : IVec S8320 32) : IVec S8192x1 32 :=
  broadcastInDim S8192x1 ![0] bcast_S8192_S8192x1_0 (select (cmpi .slt (extractStridedSlice S8192 ![0] p slices_S8320_S8192_0) (broadcastInDim S8192 ![] bcast_S_S8192 (constantI S_ 32 0#32)))
    (addi (extractStridedSlice S8192 ![0] p slices_S8320_S8192_0) (broadcastInDim S8192 ![] bcast_S_S8192 (constantI S_ 32 24832#32))) (extractStridedSlice S8192 ![0] p slices_S8320_S8192_0))

theorem refSlot_apply (p : IVec S8320 32) (n : Fin 8192) (h : (p (ix1 ⟨n.val, by omega⟩)).toNat < 24832) : refSlot p (ix2 n 0) = p (ix1 ⟨n.val, by omega⟩) := by
  have e : refSlot p (ix2 n 0) = Scalar.select (IntOp.cmpi CmpIPredicate.slt (p (ix1 ⟨n.val, by omega⟩)) 0#32) (IntOp.addi (p (ix1 ⟨n.val, by omega⟩)) 24832#32) (p (ix1 ⟨n.val, by omega⟩)) := by
    pointwise [refSlot]
  rw [e]
  exact Moe.unwrapped _ _ (by omega)

/-- A table's rows of the experts' outputs. -/
def refRows (Y : FVec Ideal S397312x128 .f32) (p : IVec S8320 32) : FVec Ideal S8192x2048 .f32 :=
  Host.gather gather_S24832x2048_S8192x1_S8192x2048_1_0_n_n_0_1_12048 (shapeCast S24832x2048 Y shapeCasts_S397312x128_S24832x2048) (refSlot p)

theorem refRows_apply (Y p) (hp : ∀ n, (p n).toNat < 24832) (n : Fin 8192) (d : Fin 2048) :
    refRows Y p (ix2 n d) = expert Y (p (ix1 ⟨n.val, by omega⟩)).toNat d := by
  have e := refSlot_apply p n (hp _)
  unfold refRows
  rw [gather_apply _ _ _ _ (by rw [e]; exact hp _)]
  have hs : ∀ s : Fin 24832, shapeCast S24832x2048 Y shapeCasts_S397312x128_S24832x2048 (ix2 s d) = expert Y s.val d := by
    intro s
    unfold expert
    pointwise
    congr 2
    apply Fin.ext
    show s.val * 16 + d.val / 128 = (16 * s.val + d.val / 128) % 397312
    omega
  rw [hs]
  exact congrArg (fun w : BitVec 32 => expert Y w.toNat d) e

/-- The blend: the scaled residual plus the weighted rows. -/
def refBlend (X : FVec Ideal S133120x128 .f32) (R : FVec Ideal S8192x128 .f32) (A B : FVec Ideal S8192x2048 .f32) : FVec Ideal S8192x2048 .f32 :=
  addf (mulf (broadcastInDim S8192x2048 ![] bcast_S_S8192x2048 (constant S_ .f32 0x3F9837F0#32)) (extractStridedSlice S8192x2048 ![0, 0] (shapeCast S8320x2048 X shapeCasts_S133120x128_S8320x2048) slices_S8320x2048_S8192x2048_0_0))
    (addf (mulf (broadcastInDim S8192x2048 ![0, 1] bcast_S8192x1_S8192x2048_0_1 (extractStridedSlice S8192x1 ![0, 2] R slices_S8192x128_S8192x1_0_2)) A)
      (mulf (broadcastInDim S8192x2048 ![0, 1] bcast_S8192x1_S8192x2048_0_1 (extractStridedSlice S8192x1 ![0, 3] R slices_S8192x128_S8192x1_0_3)) B))

theorem refBlend_apply (X R A B) (n : Fin 8192) (d : Fin 2048) :
    refBlend X R A B (ix2 n d) = blend (R (ix2 n 2)) (R (ix2 n 3)) (token X n.val d) (A (ix2 n d)) (B (ix2 n d)) := by
  unfold blend token
  pointwise [refBlend]
  congr 4
  apply Fin.ext
  show n.val * 16 + d.val / 128 = (16 * n.val + d.val / 128) % 133120
  omega

/-- The rows' means. -/
def refMean (Z : FVec Ideal S8192x2048 .f32) : FVec Ideal S8192x1 .f32 :=
  Host.divf (broadcastInDim S8192x1 ![0] bcast_S8192_S8192x1_0 (Host.reduceAdd Z (constant S_ .f32 0x00000000#32) reducesTo_S8192x2048_S8192_d1 h_S_))
    (broadcastInDim S8192x1 ![] bcast_S_S8192x1 (constant S_ .f32 0x45000000#32))

theorem refMean_apply (Z) (n : Fin 8192) : refMean Z (ix2 n 0) = mean fun d => Z (ix2 n d) := by
  unfold mean
  pointwise [refMean]

/-- The rows less a column. -/
def refLess (Z : FVec Ideal S8192x2048 .f32) (M : FVec Ideal S8192x1 .f32) : FVec Ideal S8192x2048 .f32 :=
  subf Z (broadcastInDim S8192x2048 ![0, 1] bcast_S8192x1_S8192x2048_0_1 M)

theorem refLess_apply (Z M) (n : Fin 8192) (d : Fin 2048) : refLess Z M (ix2 n d) = Z (ix2 n d) - M (ix2 n 0) := by
  pointwise [refLess]

/-- The layer norm from the rows, their means and their variances. -/
def refScale (Z : FVec Ideal S8192x2048 .f32) (M S : FVec Ideal S8192x1 .f32) (g b : FVec Ideal S1x2048 .f32) : FVec Ideal S8192x2048 .f32 :=
  addf (mulf (mulf (refLess Z M) (broadcastInDim S8192x2048 ![0, 1] bcast_S8192x1_S8192x2048_0_1 (Host.rsqrt (addf S (broadcastInDim S8192x1 ![] bcast_S_S8192x1 (constant S_ .f32 0x3727C5AC#32))))))
      (broadcastInDim S8192x2048 ![0, 1] bcast_S1x2048_S8192x2048_0_1 (broadcastInDim S1x2048 ![1] bcast_S2048_S1x2048_1 (shapeCast S2048 g shapeCasts_S1x2048_S2048))))
    (broadcastInDim S8192x2048 ![0, 1] bcast_S1x2048_S8192x2048_0_1 (broadcastInDim S1x2048 ![1] bcast_S2048_S1x2048_1 (shapeCast S2048 b shapeCasts_S1x2048_S2048)))

theorem refScale_apply (Z M S g b) (n : Fin 8192) (o : Fin 2048) :
    refScale Z M S g b (ix2 n o) = (Z (ix2 n o) - M (ix2 n 0)) * Ideal.rsqrt (S (ix2 n 0) + Ideal.ofBits .f32 0x3727C5AC#32) * g (ix2 0 o) + b (ix2 0 o) := by
  pointwise [refScale, refLess]

/-- The layer norm of every row. -/
def refNorm (Z : FVec Ideal S8192x2048 .f32) (g b : FVec Ideal S1x2048 .f32) : FVec Ideal S8192x2048 .f32 :=
  refScale Z (refMean Z) (refMean (mulf (refLess Z (refMean Z)) (refLess Z (refMean Z)))) g b

theorem refNorm_apply (Z g b) (n : Fin 8192) (o : Fin 2048) :
    refNorm Z g b (ix2 n o) = norm (fun d => Z (ix2 n d)) (fun d => g (ix2 0 d)) (fun d => b (ix2 0 d)) o := by
  unfold refNorm norm
  have hs : ∀ A : FVec Ideal S8192x2048 .f32, ∀ d, mulf A A (ix2 n d) = A (ix2 n d) * A (ix2 n d) := fun A d => by pointwise
  rw [refScale_apply, refMean_apply, refMean_apply]
  simp only [hs, refLess_apply, refMean_apply]

/-- The reference's result. -/
def refOutput (p₁ p₂ : IVec S8320 32) (X : FVec Ideal S133120x128 .f32) (R : FVec Ideal S8192x128 .f32) (g b : FVec Ideal S1x2048 .f32) (Y : FVec Ideal S397312x128 .f32) :
    FVec Ideal S8192x2048 .f32 :=
  refNorm (refBlend X R (refRows Y p₁) (refRows Y p₂)) g b

theorem refOutput_apply (p₁ p₂ X R g b Y) (h₁ : ∀ n, (p₁ n).toNat < 24832) (h₂ : ∀ n, (p₂ n).toNat < 24832) (n : Fin 8192) (o : Fin 2048) :
    refOutput p₁ p₂ X R g b Y (ix2 n o) = combined p₁ p₂ X R g b Y n o := by
  unfold refOutput combined
  rw [refNorm_apply]
  simp only [refBlend_apply, refRows_apply _ _ h₁, refRows_apply _ _ h₂]

end Cert.Proof.Comb

end
-- ==== Proof.Combine.lean ====
/-
  The combination's claims: the weighted outputs of a token's two experts added to its scaled residual row, then normalised.
-/
module

public import proofs.«01_k».proof.Defs
public import proofs.«01_k».proof.Proof.CombBits
public import proofs.«01_k».proof.Proof.CombValue
public import proofs.«01_k».proof.Proof.CombRef
public import proofs.«01_k».proof.Proof.Gen.Reference18Ideal.Run
public import Idealize.ShloMosaic.Lib.Quiescent

@[expose] public section

noncomputable section

namespace Cert.Proof.Comb

open Idealize.ShloMosaic Idealize.ShloMosaic.TcCoe Idealize.SL.Sem

/-- The precondition's slots at the ideal instance. -/
theorem slots_ideal (m) (h : Cert.Pre_Kernel18Ideal (hPre_slots := Cert.Pre_slots.Gen.facts) m) : Ok (F := Ideal) m :=
  fun c => slots_of_fn _ _ _ _ _ _ _ (h c)

/-- The precondition's slots at the bit instance. -/
theorem slots_bits (m) (h : Cert.Pre_Kernel18 (hPre_slots := Cert.Pre_slots.Gen.facts) m) : Ok (F := Bits) m :=
  fun c => slots_of_fn _ _ _ _ _ _ _ (h c)

end Cert.Proof.Comb

namespace Cert.Proof

open Idealize.ShloMosaic Idealize.ShloMosaic.TcCoe Idealize.SL.Sem

/-- The combination's frame over the extended reals. -/
theorem frame_ideal18 : Cert.quiescent_Kernel18Ideal (hKernel18Ideal := Cert.Kernel18Ideal.Gen.facts) (hPre_slots := Cert.Pre_slots.Gen.facts) :=
  fun m ρ hp => (θ_run Cert.Kernel18Ideal.defs _ _).mono (fun _ h => ⟨fun c => (h.1 c).2, h.2⟩) (Comb.run_result (F := Ideal) m ρ (Comb.slots_ideal m hp))

/-- The combination's frame over the bits: the same run, at the other instance. -/
theorem frame_kernel18 : Cert.quiescent_Kernel18 (hKernel18 := Cert.Kernel18.Gen.facts) (hPre_slots := Cert.Pre_slots.Gen.facts) := by
  intro m ρ hp
  rw [Comb.same_run]
  exact (θ_run Cert.Kernel18Ideal.defs _ _).mono (fun _ h => ⟨fun c => (h.1 c).2, h.2⟩) (Comb.run_result (F := Bits) m ρ (Comb.slots_bits m hp))

/-- The combination's reference runs and leaves its arguments. -/
theorem frame_reference18 : Cert.quiescent_Reference18Ideal (hReference18Ideal := Cert.Reference18Ideal.Gen.facts) (hPre_slots := Cert.Pre_slots.Gen.facts) :=
  fun m ρ _ => (θ_run _ _ _).mono (fun r h => ⟨fun c => (h c).2, sem_eq_zero_of_no_sems rfl r.2⟩) (Cert.Reference18Ideal.Value.run m ρ)

/-- The combination: the kernel and the reference end with the same array. -/
theorem algebraic18 : Cert.algebraic_Kernel18Ideal_Reference18Ideal (hKernel18Ideal := Cert.Kernel18Ideal.Gen.facts) (hReference18Ideal := Cert.Reference18Ideal.Gen.facts) (hPre_slots := Cert.Pre_slots.Gen.facts) := by
  intro m g m' g' hp hargs
  have ok := Comb.slots_ideal m hp
  refine ⟨Comb.result m, ?_, ?_⟩
  · exact (θ_run Cert.Kernel18Ideal.defs _ _).mono (fun r h c => ⟨(h.1 c).1.trans (Comb.result_eq m c), (h.1 c).2⟩) (Comb.run_result (F := Ideal) m g ok)
  · refine (θ_run Cert.Reference18Ideal.defs _ _).mono (fun r h c => ⟨(h c).1.trans ?_, (h c).2⟩) (Cert.Reference18Ideal.Value.run m' g')
    obtain ⟨a0, a1, a2, a3, a4, a5, a6⟩ := hargs c
    unfold Cert.Reference18Ideal.Value.res_main_v54
    rw [a0, a1, a2, a3, a4, a5, a6]
    refine funext fun (y : Cert.Kernel18Ideal.S8192x2048.Idx) => ?_
    obtain ⟨n, o, rfl⟩ : ∃ (n : Fin 8192) (o : Fin 2048), y = ix2 n o := ⟨y 0, y 1, eq_ix2 y⟩
    exact Comb.refOutput_apply _ _ _ _ _ _ _ (ok c).1 (ok c).2 n o

end Cert.Proof

end
-- ==== Proof.lean ====
/- The certificate: the claims of Defs.lean, assembled. -/
module

public import proofs.«01_k».proof.Defs
public import proofs.«01_k».proof.Proof.MoeFrame
public import proofs.«01_k».proof.Proof.MoeBits
public import proofs.«01_k».proof.Proof.MoeValue
public import proofs.«01_k».proof.Proof.MoeRef
public import proofs.«01_k».proof.Proof.Gen.Kernel
public import proofs.«01_k».proof.Proof.Gen.Pre_tables
public import proofs.«01_k».proof.Proof.Gen.Kernel2.Frame
public import proofs.«01_k».proof.Proof.Gen.Kernel2Ideal.Frame
public import proofs.«01_k».proof.Proof.Gen.ReferenceIdeal.Run
public import proofs.«01_k».proof.Proof.Keys
public import proofs.«01_k».proof.Proof.Proj3
public import proofs.«01_k».proof.Proof.Proj4
public import proofs.«01_k».proof.Proof.Proj5
public import proofs.«01_k».proof.Proof.Proj6
public import proofs.«01_k».proof.Proof.Proj7
public import proofs.«01_k».proof.Proof.Proj8
public import proofs.«01_k».proof.Proof.Proj9
public import proofs.«01_k».proof.Proof.Proj10
public import proofs.«01_k».proof.Proof.Proj11
public import proofs.«01_k».proof.Proof.Proj12
public import proofs.«01_k».proof.Proof.Proj13
public import proofs.«01_k».proof.Proof.Proj14
public import proofs.«01_k».proof.Proof.Proj15
public import proofs.«01_k».proof.Proof.Proj16
public import proofs.«01_k».proof.Proof.Merge
public import proofs.«01_k».proof.Proof.Combine
public import Idealize.ShloMosaic.Lib.Quiescent

@[expose] public section

noncomputable section

namespace Cert.Proof

open Idealize.ShloMosaic Idealize.ShloMosaic.TcCoe Idealize.SL.Sem

/-- The precondition's tables at the ideal instance. -/
theorem ok_ideal (m) (h : Cert.Pre_KernelIdeal (hPre_tables := Cert.Pre_tables.Gen.facts) m) : Moe.Ok (F := Ideal) m :=
  fun c => Moe.tables_of_fn _ _ _ _ _ _ _ _ (h c)

/-- The precondition's tables at the bit instance. -/
theorem ok_bits (m) (h : Cert.Pre_Kernel (hPre_tables := Cert.Pre_tables.Gen.facts) m) : Moe.Ok (F := Bits) m :=
  fun c => Moe.tables_of_fn _ _ _ _ _ _ _ _ (h c)

/-- The kernel's frame over the extended reals. -/
theorem frame_ideal : Cert.quiescent_KernelIdeal (hKernelIdeal := Cert.KernelIdeal.Gen.facts) (hPre_tables := Cert.Pre_tables.Gen.facts) :=
  fun m ρ hp => (θ_run Cert.KernelIdeal.defs _ _).mono (fun _ h => ⟨fun c => (h.1 c).2, h.2⟩) (Moe.run_result (F := Ideal) m ρ (ok_ideal m hp))

/-- The kernel's frame over the bits: the same run, at the other instance. -/
theorem frame_kernel : Cert.quiescent_Kernel (hKernel := Cert.Kernel.Gen.facts) (hPre_tables := Cert.Pre_tables.Gen.facts) := by
  intro m ρ hp
  rw [bits_run]
  exact (θ_run Cert.KernelIdeal.defs _ _).mono (fun _ h => ⟨fun c => (h.1 c).2, h.2⟩) (Moe.run_result (F := Bits) m ρ (ok_bits m hp))

/-- The reference changes none of its arguments. -/
theorem frame_reference : Cert.quiescent_ReferenceIdeal (hReferenceIdeal := Cert.ReferenceIdeal.Gen.facts) (hPre_tables := Cert.Pre_tables.Gen.facts) :=
  fun m ρ _ => (θ_run _ _ _).mono (fun r h => ⟨fun c => (h c).2, sem_eq_zero_of_no_sems rfl r.2⟩) (Cert.ReferenceIdeal.Value.run m ρ)

/-- The experts: the kernel and the reference end with the same array. -/
theorem algebraic_moe : Cert.algebraic_KernelIdeal_ReferenceIdeal (hKernelIdeal := Cert.KernelIdeal.Gen.facts) (hReferenceIdeal := Cert.ReferenceIdeal.Gen.facts) (hPre_tables := Cert.Pre_tables.Gen.facts) := by
  intro m g m' g' hp hargs
  have ok := ok_ideal m hp
  refine ⟨Moe.result m, ?_, ?_⟩
  · exact (θ_run Cert.KernelIdeal.defs _ _).mono (fun r h c => ⟨(h.1 c).1.trans (Moe.result_eq m ok c), (h.1 c).2⟩) (Moe.run_result (F := Ideal) m g ok)
  · refine (θ_run Cert.ReferenceIdeal.defs _ _).mono (fun r h c => ⟨(h c).1.trans ?_, (h c).2⟩) (Cert.ReferenceIdeal.Value.run m' g')
    obtain ⟨a0, a1, a2, a3, a4, a5, a6, a7⟩ := hargs c
    rw [a0, a1, a3, a4, a5, a6, a7]
    refine funext fun (y : Cert.KernelIdeal.S397312x128.Idx) => ?_
    obtain ⟨p, j, rfl⟩ : ∃ (p : Fin 397312) (j : Fin 128), y = ix2 p j := ⟨y 0, y 1, eq_ix2 y⟩
    exact Moe.reference_apply _ _ _ _ _ _ _ (ok c).expert (ok c).slot p j

/-- The reference of the keys runs and leaves its arguments. -/
theorem frame_reference2 : Cert.quiescent_Reference2Ideal (hReference2Ideal := Cert.Reference2Ideal.Gen.facts) :=
  fun m ρ _ => (θ_run _ _ _).mono (fun r h => ⟨fun c => (h c).2.2, sem_eq_zero_of_no_sems rfl r.2⟩) (Cert.Reference2Ideal.Value.run m ρ)

/-- All the claims. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Pre_tables.Gen.facts, Cert.Pre_slots.Gen.facts,
    frame_kernel, frame_ideal, frame_reference, fun m ρ _ => Cert.Kernel2.Gen.frame m ρ, fun m ρ _ => Cert.Kernel2Ideal.Gen.frame m ρ,
    frame_reference2, fun m ρ _ => Cert.Kernel3.Gen.frame m ρ, fun m ρ _ => Cert.Kernel3Ideal.Gen.frame m ρ, frame_reference3, fun m ρ _ => Cert.Kernel4.Gen.frame m ρ,
    fun m ρ _ => Cert.Kernel4Ideal.Gen.frame m ρ, frame_reference4, fun m ρ _ => Cert.Kernel5.Gen.frame m ρ, fun m ρ _ => Cert.Kernel5Ideal.Gen.frame m ρ, frame_reference5,
    fun m ρ _ => Cert.Kernel6.Gen.frame m ρ, fun m ρ _ => Cert.Kernel6Ideal.Gen.frame m ρ, frame_reference6, fun m ρ _ => Cert.Kernel7.Gen.frame m ρ, fun m ρ _ => Cert.Kernel7Ideal.Gen.frame m ρ,
    frame_reference7, fun m ρ _ => Cert.Kernel8.Gen.frame m ρ, fun m ρ _ => Cert.Kernel8Ideal.Gen.frame m ρ, frame_reference8, fun m ρ _ => Cert.Kernel9.Gen.frame m ρ,
    fun m ρ _ => Cert.Kernel9Ideal.Gen.frame m ρ, frame_reference9, fun m ρ _ => Cert.Kernel10.Gen.frame m ρ, fun m ρ _ => Cert.Kernel10Ideal.Gen.frame m ρ, frame_reference10,
    fun m ρ _ => Cert.Kernel11.Gen.frame m ρ, fun m ρ _ => Cert.Kernel11Ideal.Gen.frame m ρ, frame_reference11, fun m ρ _ => Cert.Kernel12.Gen.frame m ρ, fun m ρ _ => Cert.Kernel12Ideal.Gen.frame m ρ,
    frame_reference12, fun m ρ _ => Cert.Kernel13.Gen.frame m ρ, fun m ρ _ => Cert.Kernel13Ideal.Gen.frame m ρ, frame_reference13, fun m ρ _ => Cert.Kernel14.Gen.frame m ρ,
    fun m ρ _ => Cert.Kernel14Ideal.Gen.frame m ρ, frame_reference14, fun m ρ _ => Cert.Kernel15.Gen.frame m ρ, fun m ρ _ => Cert.Kernel15Ideal.Gen.frame m ρ, frame_reference15,
    fun m ρ _ => Cert.Kernel16.Gen.frame m ρ, fun m ρ _ => Cert.Kernel16Ideal.Gen.frame m ρ, frame_reference16,
    fun m ρ _ => Cert.Kernel17.Gen.frame m ρ, fun m ρ _ => Cert.Kernel17Ideal.Gen.frame m ρ, frame_reference17,
    frame_kernel18, frame_ideal18, frame_reference18,
    trivial, algebraic_moe, trivial, algebraic_keys, trivial,
    algebraic3, trivial, algebraic4, trivial, algebraic5,
    trivial, algebraic6, trivial, algebraic7, trivial,
    algebraic8, trivial, algebraic9, trivial, algebraic10,
    trivial, algebraic11, trivial, algebraic12, trivial,
    algebraic13, trivial, algebraic14, trivial, algebraic15, trivial, algebraic16, trivial, algebraic17, trivial, algebraic18⟩

end Cert.Proof

end
